-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29)
      ∧ r.2.mem ((c.tc : Thread Cert.Kernel7.nD Cert.Kernel7.τ).loc Cert.Kernel7.main_arg30) = m ((c.tc : Thread Cert.Kernel7.nD Cert.Kernel7.τ).loc Cert.Kernel7.main_arg30)
      ∧ r.2.mem ((c.tc : Thread Cert.Kernel7.nD Cert.Kernel7.τ).loc Cert.Kernel7.main_arg31) = m ((c.tc : Thread Cert.Kernel7.nD Cert.Kernel7.τ).loc Cert.Kernel7.main_arg31)
      ∧ r.2.mem ((c.tc : Thread Cert.Kernel7.nD Cert.Kernel7.τ).loc Cert.Kernel7.main_arg32) = m ((c.tc : Thread Cert.Kernel7.nD Cert.Kernel7.τ).loc Cert.Kernel7.main_arg32)
      ∧ r.2.mem ((c.tc : Thread Cert.Kernel7.nD Cert.Kernel7.τ).loc Cert.Kernel7.main_arg33) = m ((c.tc : Thread Cert.Kernel7.nD Cert.Kernel7.τ).loc Cert.Kernel7.main_arg33)
      ∧ r.2.mem ((c.tc : Thread Cert.Kernel7.nD Cert.Kernel7.τ).loc Cert.Kernel7.main_arg34) = m ((c.tc : Thread Cert.Kernel7.nD Cert.Kernel7.τ).loc Cert.Kernel7.main_arg34)
      ∧ r.2.mem ((c.tc : Thread Cert.Kernel7.nD Cert.Kernel7.τ).loc Cert.Kernel7.main_arg35) = m ((c.tc : Thread Cert.Kernel7.nD Cert.Kernel7.τ).loc Cert.Kernel7.main_arg35))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
      ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
      ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
      ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
      ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
      ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
      ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29)
      ∧ r.2.mem ((c.tc : Thread Cert.Reference7Ideal.nD Cert.Reference7Ideal.τ).loc Cert.Reference7Ideal.main_arg30) = m ((c.tc : Thread Cert.Reference7Ideal.nD Cert.Reference7Ideal.τ).loc Cert.Reference7Ideal.main_arg30)
      ∧ r.2.mem ((c.tc : Thread Cert.Reference7Ideal.nD Cert.Reference7Ideal.τ).loc Cert.Reference7Ideal.main_arg31) = m ((c.tc : Thread Cert.Reference7Ideal.nD Cert.Reference7Ideal.τ).loc Cert.Reference7Ideal.main_arg31)
      ∧ r.2.mem ((c.tc : Thread Cert.Reference7Ideal.nD Cert.Reference7Ideal.τ).loc Cert.Reference7Ideal.main_arg32) = m ((c.tc : Thread Cert.Reference7Ideal.nD Cert.Reference7Ideal.τ).loc Cert.Reference7Ideal.main_arg32)
      ∧ r.2.mem ((c.tc : Thread Cert.Reference7Ideal.nD Cert.Reference7Ideal.τ).loc Cert.Reference7Ideal.main_arg33) = m ((c.tc : Thread Cert.Reference7Ideal.nD Cert.Reference7Ideal.τ).loc Cert.Reference7Ideal.main_arg33)
      ∧ r.2.mem ((c.tc : Thread Cert.Reference7Ideal.nD Cert.Reference7Ideal.τ).loc Cert.Reference7Ideal.main_arg34) = m ((c.tc : Thread Cert.Reference7Ideal.nD Cert.Reference7Ideal.τ).loc Cert.Reference7Ideal.main_arg34)
      ∧ r.2.mem ((c.tc : Thread Cert.Reference7Ideal.nD Cert.Reference7Ideal.τ).loc Cert.Reference7Ideal.main_arg35) = m ((c.tc : Thread Cert.Reference7Ideal.nD Cert.Reference7Ideal.τ).loc Cert.Reference7Ideal.main_arg35))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  IdealRules.named_const.Statement Cert.KernelIdeal.κ "c01" .f32 0x3D122279#32 ((80338380498831 / 2251799813685248 : ℝ) : EReal)
  ∧ IdealRules.named_const.Statement Cert.KernelIdeal.κ "c013" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)) (v5 : (c : Dev Cert.KernelIdeal.nD) → Buf (Elt Ideal) ((c.tc : Thread Cert.KernelIdeal.nD Cert.KernelIdeal.τ).loc Cert.KernelIdeal.main_v35_5)) (v6 : (c : Dev Cert.KernelIdeal.nD) → Buf (Elt Ideal) ((c.tc : Thread Cert.KernelIdeal.nD Cert.KernelIdeal.τ).loc Cert.KernelIdeal.main_v35_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_v35_5) = v5 c
          ∧ r.2.mem ((c.tc : Thread Cert.KernelIdeal.nD Cert.KernelIdeal.τ).loc Cert.KernelIdeal.main_v35_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_v266) = v2 c
          ∧ r.2.mem ((c.tc : Thread Cert.ReferenceIdeal.nD Cert.ReferenceIdeal.τ).loc Cert.ReferenceIdeal.main_v267) = v3 c
          ∧ r.2.mem ((c.tc : Thread Cert.ReferenceIdeal.nD Cert.ReferenceIdeal.τ).loc Cert.ReferenceIdeal.main_v268) = v4 c
          ∧ r.2.mem ((c.tc : Thread Cert.ReferenceIdeal.nD Cert.ReferenceIdeal.τ).loc Cert.ReferenceIdeal.main_v180) = v5 c
          ∧ r.2.mem ((c.tc : Thread Cert.ReferenceIdeal.nD Cert.ReferenceIdeal.τ).loc Cert.ReferenceIdeal.main_v269) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_v49) = v3 c
          ∧ r.2.mem ((c.tc : Thread Cert.Reference5Ideal.nD Cert.Reference5Ideal.τ).loc Cert.Reference5Ideal.main_v51) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)) (v3 : (c : Dev Cert.Kernel6Ideal.nD) → Buf (Elt Ideal) ((c.tc : Thread Cert.Kernel6Ideal.nD Cert.Kernel6Ideal.τ).loc Cert.Kernel6Ideal.main_v31_3)) (v4 : (c : Dev Cert.Kernel6Ideal.nD) → Buf (Elt Ideal) ((c.tc : Thread Cert.Kernel6Ideal.nD Cert.Kernel6Ideal.τ).loc Cert.Kernel6Ideal.main_v31_4)) (v5 : (c : Dev Cert.Kernel6Ideal.nD) → Buf (Elt Ideal) ((c.tc : Thread Cert.Kernel6Ideal.nD Cert.Kernel6Ideal.τ).loc Cert.Kernel6Ideal.main_v31_5)) (v6 : (c : Dev Cert.Kernel6Ideal.nD) → Buf (Elt Ideal) ((c.tc : Thread Cert.Kernel6Ideal.nD Cert.Kernel6Ideal.τ).loc Cert.Kernel6Ideal.main_v31_6)) (v7 : (c : Dev Cert.Kernel6Ideal.nD) → Buf (Elt Ideal) ((c.tc : Thread Cert.Kernel6Ideal.nD Cert.Kernel6Ideal.τ).loc Cert.Kernel6Ideal.main_v31_7)) (v8 : (c : Dev Cert.Kernel6Ideal.nD) → Buf (Elt Ideal) ((c.tc : Thread Cert.Kernel6Ideal.nD Cert.Kernel6Ideal.τ).loc Cert.Kernel6Ideal.main_v31_8)) (v9 : (c : Dev Cert.Kernel6Ideal.nD) → Buf (Elt Ideal) ((c.tc : Thread Cert.Kernel6Ideal.nD Cert.Kernel6Ideal.τ).loc Cert.Kernel6Ideal.main_v31_9)) (v10 : (c : Dev Cert.Kernel6Ideal.nD) → Buf (Elt Ideal) ((c.tc : Thread Cert.Kernel6Ideal.nD Cert.Kernel6Ideal.τ).loc Cert.Kernel6Ideal.main_v31_10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_v31_3) = v3 c
          ∧ r.2.mem ((c.tc : Thread Cert.Kernel6Ideal.nD Cert.Kernel6Ideal.τ).loc Cert.Kernel6Ideal.main_v31_4) = v4 c
          ∧ r.2.mem ((c.tc : Thread Cert.Kernel6Ideal.nD Cert.Kernel6Ideal.τ).loc Cert.Kernel6Ideal.main_v31_5) = v5 c
          ∧ r.2.mem ((c.tc : Thread Cert.Kernel6Ideal.nD Cert.Kernel6Ideal.τ).loc Cert.Kernel6Ideal.main_v31_6) = v6 c
          ∧ r.2.mem ((c.tc : Thread Cert.Kernel6Ideal.nD Cert.Kernel6Ideal.τ).loc Cert.Kernel6Ideal.main_v31_7) = v7 c
          ∧ r.2.mem ((c.tc : Thread Cert.Kernel6Ideal.nD Cert.Kernel6Ideal.τ).loc Cert.Kernel6Ideal.main_v31_8) = v8 c
          ∧ r.2.mem ((c.tc : Thread Cert.Kernel6Ideal.nD Cert.Kernel6Ideal.τ).loc Cert.Kernel6Ideal.main_v31_9) = v9 c
          ∧ r.2.mem ((c.tc : Thread Cert.Kernel6Ideal.nD Cert.Kernel6Ideal.τ).loc Cert.Kernel6Ideal.main_v31_10) = v10 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v145) = v0 c
          ∧ r.2.mem ((c.tc : Thread Cert.Reference6Ideal.nD Cert.Reference6Ideal.τ).loc Cert.Reference6Ideal.main_v146) = v1 c
          ∧ r.2.mem ((c.tc : Thread Cert.Reference6Ideal.nD Cert.Reference6Ideal.τ).loc Cert.Reference6Ideal.main_v147) = v2 c
          ∧ r.2.mem ((c.tc : Thread Cert.Reference6Ideal.nD Cert.Reference6Ideal.τ).loc Cert.Reference6Ideal.main_v149) = v3 c
          ∧ r.2.mem ((c.tc : Thread Cert.Reference6Ideal.nD Cert.Reference6Ideal.τ).loc Cert.Reference6Ideal.main_v151) = v4 c
          ∧ r.2.mem ((c.tc : Thread Cert.Reference6Ideal.nD Cert.Reference6Ideal.τ).loc Cert.Reference6Ideal.main_v143) = v5 c
          ∧ r.2.mem ((c.tc : Thread Cert.Reference6Ideal.nD Cert.Reference6Ideal.τ).loc Cert.Reference6Ideal.main_v152) = v6 c
          ∧ r.2.mem ((c.tc : Thread Cert.Reference6Ideal.nD Cert.Reference6Ideal.τ).loc Cert.Reference6Ideal.main_v153) = v7 c
          ∧ r.2.mem ((c.tc : Thread Cert.Reference6Ideal.nD Cert.Reference6Ideal.τ).loc Cert.Reference6Ideal.main_v154) = v8 c
          ∧ r.2.mem ((c.tc : Thread Cert.Reference6Ideal.nD Cert.Reference6Ideal.τ).loc Cert.Reference6Ideal.main_v156) = v9 c
          ∧ r.2.mem ((c.tc : Thread Cert.Reference6Ideal.nD Cert.Reference6Ideal.τ).loc Cert.Reference6Ideal.main_v158) = v10 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)
      ∧ m' ((c.tc : Thread Cert.Reference7Ideal.nD Cert.Reference7Ideal.τ).loc Cert.Reference7Ideal.main_arg30) = m ((c.tc : Thread Cert.Kernel7Ideal.nD Cert.Kernel7Ideal.τ).loc Cert.Kernel7Ideal.main_arg30)
      ∧ m' ((c.tc : Thread Cert.Reference7Ideal.nD Cert.Reference7Ideal.τ).loc Cert.Reference7Ideal.main_arg31) = m ((c.tc : Thread Cert.Kernel7Ideal.nD Cert.Kernel7Ideal.τ).loc Cert.Kernel7Ideal.main_arg31)
      ∧ m' ((c.tc : Thread Cert.Reference7Ideal.nD Cert.Reference7Ideal.τ).loc Cert.Reference7Ideal.main_arg32) = m ((c.tc : Thread Cert.Kernel7Ideal.nD Cert.Kernel7Ideal.τ).loc Cert.Kernel7Ideal.main_arg32)
      ∧ m' ((c.tc : Thread Cert.Reference7Ideal.nD Cert.Reference7Ideal.τ).loc Cert.Reference7Ideal.main_arg33) = m ((c.tc : Thread Cert.Kernel7Ideal.nD Cert.Kernel7Ideal.τ).loc Cert.Kernel7Ideal.main_arg33)
      ∧ m' ((c.tc : Thread Cert.Reference7Ideal.nD Cert.Reference7Ideal.τ).loc Cert.Reference7Ideal.main_arg34) = m ((c.tc : Thread Cert.Kernel7Ideal.nD Cert.Kernel7Ideal.τ).loc Cert.Kernel7Ideal.main_arg34)
      ∧ m' ((c.tc : Thread Cert.Reference7Ideal.nD Cert.Reference7Ideal.τ).loc Cert.Reference7Ideal.main_arg35) = m ((c.tc : Thread Cert.Kernel7Ideal.nD Cert.Kernel7Ideal.τ).loc Cert.Kernel7Ideal.main_arg35)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)) (v2 : (c : Dev Cert.Kernel7Ideal.nD) → Buf (Elt Ideal) ((c.tc : Thread Cert.Kernel7Ideal.nD Cert.Kernel7Ideal.τ).loc Cert.Kernel7Ideal.main_v12_2)) (v3 : (c : Dev Cert.Kernel7Ideal.nD) → Buf (Elt Ideal) ((c.tc : Thread Cert.Kernel7Ideal.nD Cert.Kernel7Ideal.τ).loc Cert.Kernel7Ideal.main_v12_3)) (v4 : (c : Dev Cert.Kernel7Ideal.nD) → Buf (Elt Ideal) ((c.tc : Thread Cert.Kernel7Ideal.nD Cert.Kernel7Ideal.τ).loc Cert.Kernel7Ideal.main_v12_4)) (v5 : (c : Dev Cert.Kernel7Ideal.nD) → Buf (Elt Ideal) ((c.tc : Thread Cert.Kernel7Ideal.nD Cert.Kernel7Ideal.τ).loc Cert.Kernel7Ideal.main_v12_5)) (v6 : (c : Dev Cert.Kernel7Ideal.nD) → Buf (Elt Ideal) ((c.tc : Thread Cert.Kernel7Ideal.nD Cert.Kernel7Ideal.τ).loc Cert.Kernel7Ideal.main_v12_6)) (v7 : (c : Dev Cert.Kernel7Ideal.nD) → Buf (Elt Ideal) ((c.tc : Thread Cert.Kernel7Ideal.nD Cert.Kernel7Ideal.τ).loc Cert.Kernel7Ideal.main_v12_7)) (v8 : (c : Dev Cert.Kernel7Ideal.nD) → Buf (Elt Ideal) ((c.tc : Thread Cert.Kernel7Ideal.nD Cert.Kernel7Ideal.τ).loc Cert.Kernel7Ideal.main_v12_8)) (v9 : (c : Dev Cert.Kernel7Ideal.nD) → Buf (Elt Ideal) ((c.tc : Thread Cert.Kernel7Ideal.nD Cert.Kernel7Ideal.τ).loc Cert.Kernel7Ideal.main_v12_9)) (v10 : (c : Dev Cert.Kernel7Ideal.nD) → Buf (Elt Ideal) ((c.tc : Thread Cert.Kernel7Ideal.nD Cert.Kernel7Ideal.τ).loc Cert.Kernel7Ideal.main_v12_10)) (v11 : (c : Dev Cert.Kernel7Ideal.nD) → Buf (Elt Ideal) ((c.tc : Thread Cert.Kernel7Ideal.nD Cert.Kernel7Ideal.τ).loc Cert.Kernel7Ideal.main_v12_11)) (v12 : (c : Dev Cert.Kernel7Ideal.nD) → Buf (Elt Ideal) ((c.tc : Thread Cert.Kernel7Ideal.nD Cert.Kernel7Ideal.τ).loc Cert.Kernel7Ideal.main_v12_12)) (v13 : (c : Dev Cert.Kernel7Ideal.nD) → Buf (Elt Ideal) ((c.tc : Thread Cert.Kernel7Ideal.nD Cert.Kernel7Ideal.τ).loc Cert.Kernel7Ideal.main_v12_13)) (v14 : (c : Dev Cert.Kernel7Ideal.nD) → Buf (Elt Ideal) ((c.tc : Thread Cert.Kernel7Ideal.nD Cert.Kernel7Ideal.τ).loc Cert.Kernel7Ideal.main_v12_14)) (v15 : (c : Dev Cert.Kernel7Ideal.nD) → Buf (Elt Ideal) ((c.tc : Thread Cert.Kernel7Ideal.nD Cert.Kernel7Ideal.τ).loc Cert.Kernel7Ideal.main_v12_15)) (v16 : (c : Dev Cert.Kernel7Ideal.nD) → Buf (Elt Ideal) ((c.tc : Thread Cert.Kernel7Ideal.nD Cert.Kernel7Ideal.τ).loc Cert.Kernel7Ideal.main_v12_16)) (v17 : (c : Dev Cert.Kernel7Ideal.nD) → Buf (Elt Ideal) ((c.tc : Thread Cert.Kernel7Ideal.nD Cert.Kernel7Ideal.τ).loc Cert.Kernel7Ideal.main_v12_17)) (v18 : (c : Dev Cert.Kernel7Ideal.nD) → Buf (Elt Ideal) ((c.tc : Thread Cert.Kernel7Ideal.nD Cert.Kernel7Ideal.τ).loc Cert.Kernel7Ideal.main_v12_18)) (v19 : (c : Dev Cert.Kernel7Ideal.nD) → Buf (Elt Ideal) ((c.tc : Thread Cert.Kernel7Ideal.nD Cert.Kernel7Ideal.τ).loc Cert.Kernel7Ideal.main_v12_19)) (v20 : (c : Dev Cert.Kernel7Ideal.nD) → Buf (Elt Ideal) ((c.tc : Thread Cert.Kernel7Ideal.nD Cert.Kernel7Ideal.τ).loc Cert.Kernel7Ideal.main_v12_20)) (v21 : (c : Dev Cert.Kernel7Ideal.nD) → Buf (Elt Ideal) ((c.tc : Thread Cert.Kernel7Ideal.nD Cert.Kernel7Ideal.τ).loc Cert.Kernel7Ideal.main_v12_21)) (v22 : (c : Dev Cert.Kernel7Ideal.nD) → Buf (Elt Ideal) ((c.tc : Thread Cert.Kernel7Ideal.nD Cert.Kernel7Ideal.τ).loc Cert.Kernel7Ideal.main_v12_22)) (v23 : (c : Dev Cert.Kernel7Ideal.nD) → Buf (Elt Ideal) ((c.tc : Thread Cert.Kernel7Ideal.nD Cert.Kernel7Ideal.τ).loc Cert.Kernel7Ideal.main_v12_23)) (v24 : (c : Dev Cert.Kernel7Ideal.nD) → Buf (Elt Ideal) ((c.tc : Thread Cert.Kernel7Ideal.nD Cert.Kernel7Ideal.τ).loc Cert.Kernel7Ideal.main_v12_24)) (v25 : (c : Dev Cert.Kernel7Ideal.nD) → Buf (Elt Ideal) ((c.tc : Thread Cert.Kernel7Ideal.nD Cert.Kernel7Ideal.τ).loc Cert.Kernel7Ideal.main_v12_25)) (v26 : (c : Dev Cert.Kernel7Ideal.nD) → Buf (Elt Ideal) ((c.tc : Thread Cert.Kernel7Ideal.nD Cert.Kernel7Ideal.τ).loc Cert.Kernel7Ideal.main_v12_26)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_v12_2) = v2 c
          ∧ r.2.mem ((c.tc : Thread Cert.Kernel7Ideal.nD Cert.Kernel7Ideal.τ).loc Cert.Kernel7Ideal.main_v12_3) = v3 c
          ∧ r.2.mem ((c.tc : Thread Cert.Kernel7Ideal.nD Cert.Kernel7Ideal.τ).loc Cert.Kernel7Ideal.main_v12_4) = v4 c
          ∧ r.2.mem ((c.tc : Thread Cert.Kernel7Ideal.nD Cert.Kernel7Ideal.τ).loc Cert.Kernel7Ideal.main_v12_5) = v5 c
          ∧ r.2.mem ((c.tc : Thread Cert.Kernel7Ideal.nD Cert.Kernel7Ideal.τ).loc Cert.Kernel7Ideal.main_v12_6) = v6 c
          ∧ r.2.mem ((c.tc : Thread Cert.Kernel7Ideal.nD Cert.Kernel7Ideal.τ).loc Cert.Kernel7Ideal.main_v12_7) = v7 c
          ∧ r.2.mem ((c.tc : Thread Cert.Kernel7Ideal.nD Cert.Kernel7Ideal.τ).loc Cert.Kernel7Ideal.main_v12_8) = v8 c
          ∧ r.2.mem ((c.tc : Thread Cert.Kernel7Ideal.nD Cert.Kernel7Ideal.τ).loc Cert.Kernel7Ideal.main_v12_9) = v9 c
          ∧ r.2.mem ((c.tc : Thread Cert.Kernel7Ideal.nD Cert.Kernel7Ideal.τ).loc Cert.Kernel7Ideal.main_v12_10) = v10 c
          ∧ r.2.mem ((c.tc : Thread Cert.Kernel7Ideal.nD Cert.Kernel7Ideal.τ).loc Cert.Kernel7Ideal.main_v12_11) = v11 c
          ∧ r.2.mem ((c.tc : Thread Cert.Kernel7Ideal.nD Cert.Kernel7Ideal.τ).loc Cert.Kernel7Ideal.main_v12_12) = v12 c
          ∧ r.2.mem ((c.tc : Thread Cert.Kernel7Ideal.nD Cert.Kernel7Ideal.τ).loc Cert.Kernel7Ideal.main_v12_13) = v13 c
          ∧ r.2.mem ((c.tc : Thread Cert.Kernel7Ideal.nD Cert.Kernel7Ideal.τ).loc Cert.Kernel7Ideal.main_v12_14) = v14 c
          ∧ r.2.mem ((c.tc : Thread Cert.Kernel7Ideal.nD Cert.Kernel7Ideal.τ).loc Cert.Kernel7Ideal.main_v12_15) = v15 c
          ∧ r.2.mem ((c.tc : Thread Cert.Kernel7Ideal.nD Cert.Kernel7Ideal.τ).loc Cert.Kernel7Ideal.main_v12_16) = v16 c
          ∧ r.2.mem ((c.tc : Thread Cert.Kernel7Ideal.nD Cert.Kernel7Ideal.τ).loc Cert.Kernel7Ideal.main_v12_17) = v17 c
          ∧ r.2.mem ((c.tc : Thread Cert.Kernel7Ideal.nD Cert.Kernel7Ideal.τ).loc Cert.Kernel7Ideal.main_v12_18) = v18 c
          ∧ r.2.mem ((c.tc : Thread Cert.Kernel7Ideal.nD Cert.Kernel7Ideal.τ).loc Cert.Kernel7Ideal.main_v12_19) = v19 c
          ∧ r.2.mem ((c.tc : Thread Cert.Kernel7Ideal.nD Cert.Kernel7Ideal.τ).loc Cert.Kernel7Ideal.main_v12_20) = v20 c
          ∧ r.2.mem ((c.tc : Thread Cert.Kernel7Ideal.nD Cert.Kernel7Ideal.τ).loc Cert.Kernel7Ideal.main_v12_21) = v21 c
          ∧ r.2.mem ((c.tc : Thread Cert.Kernel7Ideal.nD Cert.Kernel7Ideal.τ).loc Cert.Kernel7Ideal.main_v12_22) = v22 c
          ∧ r.2.mem ((c.tc : Thread Cert.Kernel7Ideal.nD Cert.Kernel7Ideal.τ).loc Cert.Kernel7Ideal.main_v12_23) = v23 c
          ∧ r.2.mem ((c.tc : Thread Cert.Kernel7Ideal.nD Cert.Kernel7Ideal.τ).loc Cert.Kernel7Ideal.main_v12_24) = v24 c
          ∧ r.2.mem ((c.tc : Thread Cert.Kernel7Ideal.nD Cert.Kernel7Ideal.τ).loc Cert.Kernel7Ideal.main_v12_25) = v25 c
          ∧ r.2.mem ((c.tc : Thread Cert.Kernel7Ideal.nD Cert.Kernel7Ideal.τ).loc Cert.Kernel7Ideal.main_v12_26) = v26 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
          ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
          ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
          ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
          ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
          ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
          ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v216) = v3 c
          ∧ r.2.mem ((c.tc : Thread Cert.Reference7Ideal.nD Cert.Reference7Ideal.τ).loc Cert.Reference7Ideal.main_v217) = v4 c
          ∧ r.2.mem ((c.tc : Thread Cert.Reference7Ideal.nD Cert.Reference7Ideal.τ).loc Cert.Reference7Ideal.main_v218) = v5 c
          ∧ r.2.mem ((c.tc : Thread Cert.Reference7Ideal.nD Cert.Reference7Ideal.τ).loc Cert.Reference7Ideal.main_v167) = v6 c
          ∧ r.2.mem ((c.tc : Thread Cert.Reference7Ideal.nD Cert.Reference7Ideal.τ).loc Cert.Reference7Ideal.main_v191) = v7 c
          ∧ r.2.mem ((c.tc : Thread Cert.Reference7Ideal.nD Cert.Reference7Ideal.τ).loc Cert.Reference7Ideal.main_v215) = v8 c
          ∧ r.2.mem ((c.tc : Thread Cert.Reference7Ideal.nD Cert.Reference7Ideal.τ).loc Cert.Reference7Ideal.main_v4) = v9 c
          ∧ r.2.mem ((c.tc : Thread Cert.Reference7Ideal.nD Cert.Reference7Ideal.τ).loc Cert.Reference7Ideal.main_v28) = v10 c
          ∧ r.2.mem ((c.tc : Thread Cert.Reference7Ideal.nD Cert.Reference7Ideal.τ).loc Cert.Reference7Ideal.main_v52) = v11 c
          ∧ r.2.mem ((c.tc : Thread Cert.Reference7Ideal.nD Cert.Reference7Ideal.τ).loc Cert.Reference7Ideal.main_v219) = v12 c
          ∧ r.2.mem ((c.tc : Thread Cert.Reference7Ideal.nD Cert.Reference7Ideal.τ).loc Cert.Reference7Ideal.main_v220) = v13 c
          ∧ r.2.mem ((c.tc : Thread Cert.Reference7Ideal.nD Cert.Reference7Ideal.τ).loc Cert.Reference7Ideal.main_v221) = v14 c
          ∧ r.2.mem ((c.tc : Thread Cert.Reference7Ideal.nD Cert.Reference7Ideal.τ).loc Cert.Reference7Ideal.main_v148) = v15 c
          ∧ r.2.mem ((c.tc : Thread Cert.Reference7Ideal.nD Cert.Reference7Ideal.τ).loc Cert.Reference7Ideal.main_v172) = v16 c
          ∧ r.2.mem ((c.tc : Thread Cert.Reference7Ideal.nD Cert.Reference7Ideal.τ).loc Cert.Reference7Ideal.main_v196) = v17 c
          ∧ r.2.mem ((c.tc : Thread Cert.Reference7Ideal.nD Cert.Reference7Ideal.τ).loc Cert.Reference7Ideal.main_v10) = v18 c
          ∧ r.2.mem ((c.tc : Thread Cert.Reference7Ideal.nD Cert.Reference7Ideal.τ).loc Cert.Reference7Ideal.main_v34) = v19 c
          ∧ r.2.mem ((c.tc : Thread Cert.Reference7Ideal.nD Cert.Reference7Ideal.τ).loc Cert.Reference7Ideal.main_v58) = v20 c
          ∧ r.2.mem ((c.tc : Thread Cert.Reference7Ideal.nD Cert.Reference7Ideal.τ).loc Cert.Reference7Ideal.main_v222) = v21 c
          ∧ r.2.mem ((c.tc : Thread Cert.Reference7Ideal.nD Cert.Reference7Ideal.τ).loc Cert.Reference7Ideal.main_v223) = v22 c
          ∧ r.2.mem ((c.tc : Thread Cert.Reference7Ideal.nD Cert.Reference7Ideal.τ).loc Cert.Reference7Ideal.main_v224) = v23 c
          ∧ r.2.mem ((c.tc : Thread Cert.Reference7Ideal.nD Cert.Reference7Ideal.τ).loc Cert.Reference7Ideal.main_v154) = v24 c
          ∧ r.2.mem ((c.tc : Thread Cert.Reference7Ideal.nD Cert.Reference7Ideal.τ).loc Cert.Reference7Ideal.main_v178) = v25 c
          ∧ r.2.mem ((c.tc : Thread Cert.Reference7Ideal.nD Cert.Reference7Ideal.τ).loc Cert.Reference7Ideal.main_v202) = v26 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29)
          ∧ r.2.mem ((c.tc : Thread Cert.Reference7Ideal.nD Cert.Reference7Ideal.τ).loc Cert.Reference7Ideal.main_arg30) = m' ((c.tc : Thread Cert.Reference7Ideal.nD Cert.Reference7Ideal.τ).loc Cert.Reference7Ideal.main_arg30)
          ∧ r.2.mem ((c.tc : Thread Cert.Reference7Ideal.nD Cert.Reference7Ideal.τ).loc Cert.Reference7Ideal.main_arg31) = m' ((c.tc : Thread Cert.Reference7Ideal.nD Cert.Reference7Ideal.τ).loc Cert.Reference7Ideal.main_arg31)
          ∧ r.2.mem ((c.tc : Thread Cert.Reference7Ideal.nD Cert.Reference7Ideal.τ).loc Cert.Reference7Ideal.main_arg32) = m' ((c.tc : Thread Cert.Reference7Ideal.nD Cert.Reference7Ideal.τ).loc Cert.Reference7Ideal.main_arg32)
          ∧ r.2.mem ((c.tc : Thread Cert.Reference7Ideal.nD Cert.Reference7Ideal.τ).loc Cert.Reference7Ideal.main_arg33) = m' ((c.tc : Thread Cert.Reference7Ideal.nD Cert.Reference7Ideal.τ).loc Cert.Reference7Ideal.main_arg33)
          ∧ r.2.mem ((c.tc : Thread Cert.Reference7Ideal.nD Cert.Reference7Ideal.τ).loc Cert.Reference7Ideal.main_arg34) = m' ((c.tc : Thread Cert.Reference7Ideal.nD Cert.Reference7Ideal.τ).loc Cert.Reference7Ideal.main_arg34)
          ∧ r.2.mem ((c.tc : Thread Cert.Reference7Ideal.nD Cert.Reference7Ideal.τ).loc Cert.Reference7Ideal.main_arg35) = m' ((c.tc : Thread Cert.Reference7Ideal.nD Cert.Reference7Ideal.τ).loc Cert.Reference7Ideal.main_arg35))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x2048 : Shape := ⟨2, ![8192, 2048]⟩
abbrev S2048x2048 : Shape := ⟨2, ![2048, 2048]⟩
abbrev S7x8192x2048 : Shape := ⟨3, ![7, 8192, 2048]⟩
abbrev S2x8192x2048 : Shape := ⟨3, ![2, 8192, 2048]⟩
abbrev S1x2048 : Shape := ⟨2, ![1, 2048]⟩
abbrev S8x128x128 : Shape := ⟨3, ![8, 128, 128]⟩
abbrev S8x128 : Shape := ⟨2, ![8, 128]⟩
abbrev S3x2048 : Shape := ⟨2, ![3, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x2048 : S_.BroadcastsInDim S2048x2048 (![] : Fin 0 → Fin S2048x2048.rank)
  bcast_S_S7x8192x2048 : S_.BroadcastsInDim S7x8192x2048 (![] : Fin 0 → Fin S7x8192x2048.rank)
  bcast_S_S1x2048 : S_.BroadcastsInDim S1x2048 (![] : Fin 0 → Fin S1x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S3x2048 : S_.BroadcastsInDim S3x2048 (![] : Fin 0 → Fin S3x2048.rank)

variable [Facts]

def fn_part2 {F : FTy → Type} [FloatOps F] (main_v3 : IVec S8192x2048 1) (main_v7 : IVec S8192x2048 1) (main_v11 : IVec S2048x2048 1) (main_v15 : IVec S2048x2048 1) (main_v19 : IVec S7x8192x2048 1) (main_v22 : IVec S1x2048 1) (main_v25 : IVec S1x2048 1) (main_v28 : IVec S8x128x128 1) (main_v31 : IVec S8x128 1) (main_v34 : IVec S3x2048 1) (main_v35 : FVec F S1x2048 .f32) (main_v36 : FVec F S1x2048 .f32) : IVec S8192x2048 1 × IVec S8192x2048 1 × IVec S2048x2048 1 × IVec S2048x2048 1 × IVec S7x8192x2048 1 × IVec S1x2048 1 × IVec S1x2048 1 × IVec S8x128x128 1 × IVec S8x128 1 × IVec S3x2048 1 × IVec S1x2048 1 :=
  let main_v37 : IVec S1x2048 1 := cmpf .olt main_v35 main_v36
  (main_v3, main_v7, main_v11, main_v15, main_v19, main_v22, main_v25, main_v28, main_v31, main_v34, main_v37)

def fn_part1 {F : FTy → Type} [FloatOps F] (main_arg6 : FVec F S1x2048 .f32) (main_arg7 : FVec F S1x2048 .f32) (main_arg8 : FVec F S8x128x128 .f32) (main_arg9 : FVec F S8x128 .f32) (main_arg10 : FVec F S3x2048 .f32) (main_arg11 : FVec F S1x2048 .f32) (main_v3 : IVec S8192x2048 1) (main_v7 : IVec S8192x2048 1) (main_v11 : IVec S2048x2048 1) (main_v15 : IVec S2048x2048 1) (main_v17 : FVec F S7x8192x2048 .f32) (main_v18 : FVec F S7x8192x2048 .f32) : IVec S8192x2048 1 × IVec S8192x2048 1 × IVec S2048x2048 1 × IVec S2048x2048 1 × IVec S7x8192x2048 1 × IVec S1x2048 1 × IVec S1x2048 1 × IVec S8x128x128 1 × IVec S8x128 1 × IVec S3x2048 1 × IVec S1x2048 1 :=
  let main_v19 : IVec S7x8192x2048 1 := cmpf .olt main_v17 main_v18
  let main_v20 : FVec F S1x2048 .f32 := Host.absf main_arg6
  let main_cst_4 : FVec F S_ .f32 := constant S_ .f32 0x7F800000#32
  let main_v21 : FVec F S1x2048 .f32 := broadcastInDim S1x2048 ![] bcast_S_S1x2048 main_cst_4
  let main_v22 : IVec S1x2048 1 := cmpf .olt main_v20 main_v21
  let main_v23 : FVec F S1x2048 .f32 := Host.absf main_arg7
  let main_cst_5 : FVec F S_ .f32 := constant S_ .f32 0x7F800000#32
  let main_v24 : FVec F S1x2048 .f32 := broadcastInDim S1x2048 ![] bcast_S_S1x2048 main_cst_5
  let main_v25 : IVec S1x2048 1 := cmpf .olt main_v23 main_v24
  let main_v26 : FVec F S8x128x128 .f32 := Host.absf main_arg8
  let main_cst_6 : FVec F S_ .f32 := constant S_ .f32 0x7F800000#32
  let main_v27 : FVec F S8x128x128 .f32 := broadcastInDim S8x128x128 ![] bcast_S_S8x128x128 main_cst_6
  let main_v28 : IVec S8x128x128 1 := cmpf .olt main_v26 main_v27
  let main_v29 : FVec F S8x128 .f32 := Host.absf main_arg9
  let main_cst_7 : FVec F S_ .f32 := constant S_ .f32 0x7F800000#32
  let main_v30 : FVec F S8x128 .f32 := broadcastInDim S8x128 ![] bcast_S_S8x128 main_cst_7
  let main_v31 : IVec S8x128 1 := cmpf .olt main_v29 main_v30
  let main_v32 : FVec F S3x2048 .f32 := Host.absf main_arg10
  let main_cst_8 : FVec F S_ .f32 := constant S_ .f32 0x7F800000#32
  let main_v33 : FVec F S3x2048 .f32 := broadcastInDim S3x2048 ![] bcast_S_S3x2048 main_cst_8
  let main_v34 : IVec S3x2048 1 := cmpf .olt main_v32 main_v33
  let main_v35 : FVec F S1x2048 .f32 := Host.absf main_arg11
  let main_cst_9 : FVec F S_ .f32 := constant S_ .f32 0x7F800000#32
  let main_v36 : FVec F S1x2048 .f32 := broadcastInDim S1x2048 ![] bcast_S_S1x2048 main_cst_9
  fn_part2 (F := F) main_v3 main_v7 main_v11 main_v15 main_v19 main_v22 main_v25 main_v28 main_v31 main_v34 main_v35 main_v36

def fn {F : FTy → Type} [FloatOps F] (main_arg0 : FVec F S8192x2048 .bf16) (main_arg1 : FVec F S8192x2048 .bf16) (main_arg2 : FVec F S2048x2048 .bf16) (main_arg3 : FVec F S2048x2048 .bf16) (main_arg4 : FVec F S7x8192x2048 .bf16) (main_arg5 : FVec F S2x8192x2048 .bf16) (main_arg6 : FVec F S1x2048 .f32) (main_arg7 : FVec F S1x2048 .f32) (main_arg8 : FVec F S8x128x128 .f32) (main_arg9 : FVec F S8x128 .f32) (main_arg10 : FVec F S3x2048 .f32) (main_arg11 : FVec F S1x2048 .f32) : IVec S8192x2048 1 × IVec S8192x2048 1 × IVec S2048x2048 1 × IVec S2048x2048 1 × IVec S7x8192x2048 1 × IVec S1x2048 1 × IVec S1x2048 1 × IVec S8x128x128 1 × IVec S8x128 1 × IVec S3x2048 1 × IVec S1x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S2048x2048 .f32 := (extf .f32 · bitsLt_bf16_f32) main_arg2
  let main_v9 : FVec F S2048x2048 .f32 := Host.absf main_v8
  let main_cst_1 : FVec F S_ .f32 := constant S_ .f32 0x7F800000#32
  let main_v10 : FVec F S2048x2048 .f32 := broadcastInDim S2048x2048 ![] bcast_S_S2048x2048 main_cst_1
  let main_v11 : IVec S2048x2048 1 := cmpf .olt main_v9 main_v10
  let main_v12 : FVec F S2048x2048 .f32 := (extf .f32 · bitsLt_bf16_f32) main_arg3
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_v16 : FVec F S7x8192x2048 .f32 := (extf .f32 · bitsLt_bf16_f32) main_arg4
  let main_v17 : FVec F S7x8192x2048 .f32 := Host.absf main_v16
  let main_cst_3 : FVec F S_ .f32 := constant S_ .f32 0x7F800000#32
  let main_v18 : FVec F S7x8192x2048 .f32 := broadcastInDim S7x8192x2048 ![] bcast_S_S7x8192x2048 main_cst_3
  fn_part1 (F := F) main_arg6 main_arg7 main_arg8 main_arg9 main_arg10 main_arg11 main_v3 main_v7 main_v11 main_v15 main_v17 main_v18
-- ==== Pre_finite6.lean ====
abbrev S8192x2048 : Shape := ⟨2, ![8192, 2048]⟩
abbrev S1x4096 : Shape := ⟨2, ![1, 4096]⟩
abbrev S2048x2048 : Shape := ⟨2, ![2048, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x4096 : S_.BroadcastsInDim S1x4096 (![] : Fin 0 → Fin S1x4096.rank)
  bitsLt_bf16_f32 : FTy.bits .bf16 < FTy.bits .f32
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn_part1 {F : FTy → Type} [FloatOps F] (main_arg6 : FVec F S8192x2048 .f32) (main_arg7 : FVec F S8192x2048 .f32) (main_arg8 : FVec F S1x2048 .f32) (main_arg9 : FVec F S1x2048 .f32) (main_v2 : IVec S8192x2048 1) (main_v5 : IVec S8192x2048 1) (main_v8 : IVec S1x4096 1) (main_v12 : IVec S8192x2048 1) (main_v16 : IVec S8192x2048 1) (main_v17 : FVec F S2048x2048 .f32) (main_cst_4 : FVec F S_ .f32) : IVec S8192x2048 1 × IVec S8192x2048 1 × IVec S1x4096 1 × IVec S8192x2048 1 × IVec S8192x2048 1 × IVec S2048x2048 1 × IVec S8192x2048 1 × IVec S8192x2048 1 × IVec S1x2048 1 × IVec S1x2048 1 :=
  let main_v18 : FVec F S2048x2048 .f32 := broadcastInDim S2048x2048 ![] bcast_S_S2048x2048 main_cst_4
  let main_v19 : IVec S2048x2048 1 := cmpf .olt main_v17 main_v18
  let main_v20 : FVec F S8192x2048 .f32 := Host.absf main_arg6
  let main_cst_5 : FVec F S_ .f32 := constant S_ .f32 0x7F800000#32
  let main_v21 : FVec F S8192x2048 .f32 := broadcastInDim S8192x2048 ![] bcast_S_S8192x2048 main_cst_5
  let main_v22 : IVec S8192x2048 1 := cmpf .olt main_v20 main_v21
  let main_v23 : FVec F S8192x2048 .f32 := Host.absf main_arg7
  let main_cst_6 : FVec F S_ .f32 := constant S_ .f32 0x7F800000#32
  let main_v24 : FVec F S8192x2048 .f32 := broadcastInDim S8192x2048 ![] bcast_S_S8192x2048 main_cst_6
  let main_v25 : IVec S8192x2048 1 := cmpf .olt main_v23 main_v24
  let main_v26 : FVec F S1x2048 .f32 := Host.absf main_arg8
  let main_cst_7 : FVec F S_ .f32 := constant S_ .f32 0x7F800000#32
  let main_v27 : FVec F S1x2048 .f32 := broadcastInDim S1x2048 ![] bcast_S_S1x2048 main_cst_7
  let main_v28 : IVec S1x2048 1 := cmpf .olt main_v26 main_v27
  let main_v29 : FVec F S1x2048 .f32 := Host.absf main_arg9
  let main_cst_8 : FVec F S_ .f32 := constant S_ .f32 0x7F800000#32
  let main_v30 : FVec F S1x2048 .f32 := broadcastInDim S1x2048 ![] bcast_S_S1x2048 main_cst_8
  let main_v31 : IVec S1x2048 1 := cmpf .olt main_v29 main_v30
  (main_v2, main_v5, main_v8, main_v12, main_v16, main_v19, main_v22, main_v25, main_v28, main_v31)

def fn {F : FTy → Type} [FloatOps F] (main_arg0 : FVec F S8192x2048 .f32) (main_arg1 : FVec F S8192x2048 .f32) (main_arg2 : FVec F S1x4096 .f32) (main_arg3 : FVec F S8192x2048 .bf16) (main_arg4 : FVec F S8192x2048 .bf16) (main_arg5 : FVec F S2048x2048 .f32) (main_arg6 : FVec F S8192x2048 .f32) (main_arg7 : FVec F S8192x2048 .f32) (main_arg8 : FVec F S1x2048 .f32) (main_arg9 : FVec F S1x2048 .f32) : IVec S8192x2048 1 × IVec S8192x2048 1 × IVec S1x4096 1 × IVec S8192x2048 1 × IVec S8192x2048 1 × IVec S2048x2048 1 × IVec S8192x2048 1 × IVec S8192x2048 1 × IVec S1x2048 1 × IVec S1x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  let main_v9 : FVec F S8192x2048 .f32 := (extf .f32 · bitsLt_bf16_f32) main_arg3
  let main_v10 : FVec F S8192x2048 .f32 := Host.absf main_v9
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  let main_v13 : FVec F S8192x2048 .f32 := (extf .f32 · bitsLt_bf16_f32) main_arg4
  let main_v14 : FVec F S8192x2048 .f32 := Host.absf main_v13
  let main_cst_3 : FVec F S_ .f32 := constant S_ .f32 0x7F800000#32
  let main_v15 : FVec F S8192x2048 .f32 := broadcastInDim S8192x2048 ![] bcast_S_S8192x2048 main_cst_3
  let main_v16 : IVec S8192x2048 1 := cmpf .olt main_v14 main_v15
  let main_v17 : FVec F S2048x2048 .f32 := Host.absf main_arg5
  let main_cst_4 : FVec F S_ .f32 := constant S_ .f32 0x7F800000#32
  fn_part1 (F := F) main_arg6 main_arg7 main_arg8 main_arg9 main_v2 main_v5 main_v8 main_v12 main_v16 main_v17 main_cst_4
-- ==== Kernel.lean ====
abbrev S8192x2048 : Shape := ⟨2, ![8192, 2048]⟩
abbrev S2048x2048 : Shape := ⟨2, ![2048, 2048]⟩
abbrev S7x8192x2048 : Shape := ⟨3, ![7, 8192, 2048]⟩
abbrev S2x8192x2048 : Shape := ⟨3, ![2, 8192, 2048]⟩
abbrev S1x2048 : Shape := ⟨2, ![1, 2048]⟩
abbrev S8x128x128 : Shape := ⟨3, ![8, 128, 128]⟩
abbrev S8x128 : Shape := ⟨2, ![8, 128]⟩
abbrev S3x2048 : Shape := ⟨2, ![3, 2048]⟩
abbrev S1x8192x2048 : Shape := ⟨3, ![1, 8192, 2048]⟩
abbrev S2048 : Shape := ⟨1, ![2048]⟩
abbrev S1x2x2048 : Shape := ⟨3, ![1, 2, 2048]⟩
abbrev S_ : Shape := ⟨0, ![]⟩
abbrev S1x8194x2048 : Shape := ⟨3, ![1, 8194, 2048]⟩
abbrev S1x1x2048 : Shape := ⟨3, ![1, 1, 2048]⟩
abbrev S8x8192x2048 : Shape := ⟨3, ![8, 8192, 2048]⟩
abbrev S8x128x1 : Shape := ⟨3, ![8, 128, 1]⟩
abbrev S9x8192x2048 : Shape := ⟨3, ![9, 8192, 2048]⟩
abbrev S1024x2048 : Shape := ⟨2, ![1024, 2048]⟩
abbrev S256x2048 : Shape := ⟨2, ![256, 2048]⟩
abbrev S8x1024x256 : Shape := ⟨3, ![8, 1024, 256]⟩
abbrev S2x1024x256 : Shape := ⟨3, ![2, 1024, 256]⟩
abbrev S1x256 : Shape := ⟨2, ![1, 256]⟩
abbrev S1x128x128 : Shape := ⟨3, ![1, 128, 128]⟩
abbrev S1x128x1 : Shape := ⟨3, ![1, 128, 1]⟩
abbrev S3x256 : Shape := ⟨2, ![3, 256]⟩
abbrev S9x1024x256 : Shape := ⟨3, ![9, 1024, 256]⟩
abbrev S1032x256 : Shape := ⟨2, ![1032, 256]⟩
abbrev S8x256 : Shape := ⟨2, ![8, 256]⟩
abbrev S128x128 : Shape := ⟨2, ![128, 128]⟩
abbrev S128x256 : Shape := ⟨2, ![128, 256]⟩
abbrev S1024x256 : Shape := ⟨2, ![1024, 256]⟩
abbrev S128x1 : Shape := ⟨2, ![128, 1]⟩
abbrev S1x128x256 : Shape := ⟨3, ![1, 128, 256]⟩
abbrev S128 : Shape := ⟨1, ![128]⟩
abbrev S16x8x256 : Shape := ⟨3, ![16, 8, 256]⟩
abbrev S256 : Shape := ⟨1, ![256]⟩

abbrev nBuf : Space → Nat
  | .hbm => 55
  | .vmem => 46
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S2048x2048, .bf16⟩
  | .hbm, ⟨4, _⟩ => ⟨S7x8192x2048, .bf16⟩
  | .hbm, ⟨5, _⟩ => ⟨S2x8192x2048, .bf16⟩
  | .hbm, ⟨6, _⟩ => ⟨S1x2048, .f32⟩
  | .hbm, ⟨7, _⟩ => ⟨S1x2048, .f32⟩
  | .hbm, ⟨8, _⟩ => ⟨S8x128x128, .f32⟩
  | .hbm, ⟨9, _⟩ => ⟨S8x128, .f32⟩
  | .hbm, ⟨10, _⟩ => ⟨S3x2048, .f32⟩
  | .hbm, ⟨11, _⟩ => ⟨S1x2048, .f32⟩
  | .hbm, ⟨12, _⟩ => ⟨S1x8192x2048, .bf16⟩
  | .hbm, ⟨13, _⟩ => ⟨S1x8192x2048, .f32⟩
  | .hbm, ⟨14, _⟩ => ⟨S1x8192x2048, .bf16⟩
  | .hbm, ⟨15, _⟩ => ⟨S1x8192x2048, .f32⟩
  | .hbm, ⟨16, _⟩ => ⟨S2048, .f32⟩
  | .hbm, ⟨17, _⟩ => ⟨S1x8192x2048, .f32⟩
  | .hbm, ⟨18, _⟩ => ⟨S1x2x2048, .f32⟩
  | .hbm, ⟨19, _⟩ => ⟨S_, .f32⟩
  | .hbm, ⟨20, _⟩ => ⟨S1x2x2048, .f32⟩
  | .hbm, ⟨21, _⟩ => ⟨S1x8194x2048, .f32⟩
  | .hbm, ⟨22, _⟩ => ⟨S1x2048, .f32⟩
  | .hbm, ⟨23, _⟩ => ⟨S2048, .f32⟩
  | .hbm, ⟨24, _⟩ => ⟨S1x8192x2048, .f32⟩
  | .hbm, ⟨25, _⟩ => ⟨S1x1x2048, .f32⟩
  | .hbm, ⟨26, _⟩ => ⟨S1x8192x2048, .f32⟩
  | .hbm, ⟨27, _⟩ => ⟨S1x8192x2048, .f32⟩
  | .hbm, ⟨28, _⟩ => ⟨S1x1x2048, .f32⟩
  | .hbm, ⟨29, _⟩ => ⟨S1x8192x2048, .f32⟩
  | .hbm, ⟨30, _⟩ => ⟨S1x8192x2048, .f32⟩
  | .hbm, ⟨31, _⟩ => ⟨S1x2048, .f32⟩
  | .hbm, ⟨32, _⟩ => ⟨S2048, .f32⟩
  | .hbm, ⟨33, _⟩ => ⟨S1x8192x2048, .f32⟩
  | .hbm, ⟨34, _⟩ => ⟨S1x1x2048, .f32⟩
  | .hbm, ⟨35, _⟩ => ⟨S1x8192x2048, .f32⟩
  | .hbm, ⟨36, _⟩ => ⟨S1x8192x2048, .f32⟩
  | .hbm, ⟨37, _⟩ => ⟨S1x8192x2048, .f32⟩
  | .hbm, ⟨38, _⟩ => ⟨S1x2048, .f32⟩
  | .hbm, ⟨39, _⟩ => ⟨S2048, .f32⟩
  | .hbm, ⟨40, _⟩ => ⟨S1x8192x2048, .f32⟩
  | .hbm, ⟨41, _⟩ => ⟨S1x1x2048, .f32⟩
  | .hbm, ⟨42, _⟩ => ⟨S1x8192x2048, .f32⟩
  | .hbm, ⟨43, _⟩ => ⟨S1x8192x2048, .f32⟩
  | .hbm, ⟨44, _⟩ => ⟨S1x8192x2048, .f32⟩
  | .hbm, ⟨45, _⟩ => ⟨S1x8192x2048, .bf16⟩
  | .hbm, ⟨46, _⟩ => ⟨S8x8192x2048, .bf16⟩
  | .hbm, ⟨47, _⟩ => ⟨S8x128x1, .f32⟩
  | .hbm, ⟨48, _⟩ => ⟨S9x8192x2048, .bf16⟩
  | .hbm, ⟨49, _⟩ => ⟨S8x128x128, .f32⟩
  | .hbm, ⟨50, _⟩ => ⟨S8x128x1, .f32⟩
  | .hbm, ⟨51, _⟩ => ⟨S1x2048, .f32⟩
  | .hbm, ⟨52, _⟩ => ⟨S1x2048, .f32⟩
  | .hbm, ⟨53, _⟩ => ⟨S3x2048, .f32⟩
  | .hbm, ⟨54, _⟩ => ⟨S1x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S8x1024x256, .bf16⟩
  | .local _ .vmem, ⟨9, _⟩ => ⟨S8x1024x256, .bf16⟩
  | .local _ .vmem, ⟨10, _⟩ => ⟨S2x1024x256, .bf16⟩
  | .local _ .vmem, ⟨11, _⟩ => ⟨S2x1024x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x128x128, .f32⟩
  | .local _ .vmem, ⟨17, _⟩ => ⟨S1x128x128, .f32⟩
  | .local _ .vmem, ⟨18, _⟩ => ⟨S1x128x1, .f32⟩
  | .local _ .vmem, ⟨19, _⟩ => ⟨S1x128x1, .f32⟩
  | .local _ .vmem, ⟨20, _⟩ => ⟨S3x256, .f32⟩
  | .local _ .vmem, ⟨21, _⟩ => ⟨S3x256, .f32⟩
  | .local _ .vmem, ⟨22, _⟩ => ⟨S9x1024x256, .bf16⟩
  | .local _ .vmem, ⟨23, _⟩ => ⟨S9x1024x256, .bf16⟩
  | .local _ .vmem, ⟨24, _⟩ => ⟨S1x128x128, .f32⟩
  | .local _ .vmem, ⟨25, _⟩ => ⟨S1x128x128, .f32⟩
  | .local _ .vmem, ⟨26, _⟩ => ⟨S1x128x1, .f32⟩
  | .local _ .vmem, ⟨27, _⟩ => ⟨S1x128x1, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S3x256, .f32⟩
  | .local _ .vmem, ⟨33, _⟩ => ⟨S3x256, .f32⟩
  | .local _ .vmem, ⟨34, _⟩ => ⟨S1x256, .f32⟩
  | .local _ .vmem, ⟨35, _⟩ => ⟨S1x256, .f32⟩
  | .local _ .vmem, ⟨36, _⟩ => ⟨S1032x256, .f32⟩
  | .local _ .vmem, ⟨37, _⟩ => ⟨S8x256, .f32⟩
  | .local _ .vmem, ⟨38, _⟩ => ⟨S128x128, .f32⟩
  | .local _ .vmem, ⟨39, _⟩ => ⟨S128x256, .f32⟩
  | .local _ .vmem, ⟨40, _⟩ => ⟨S8x256, .f32⟩
  | .local _ .vmem, ⟨41, _⟩ => ⟨S8x256, .f32⟩
  | .local _ .vmem, ⟨42, _⟩ => ⟨S8x256, .f32⟩
  | .local _ .vmem, ⟨43, _⟩ => ⟨S8x256, .f32⟩
  | .local _ .vmem, ⟨44, _⟩ => ⟨S8x256, .f32⟩
  | .local _ .vmem, ⟨45, _⟩ => ⟨S8x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev main_v35_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_scratch9 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v1856 : BitVec 1 := Scalar.cmpi .eq arg1 c7_i32
  let v1857 : BitVec 32 := Scalar.extui v1856
  let c0_i32_826 : BitVec 32 := 0#32
  let v1858 : BitVec 1 := Scalar.cmpi .ne v1857 c0_i32_826
  v1858

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S9x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S3x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== KernelIdeal.lean ====
variable {F : FTy → Type} [FloatOps F] [Named F]
def κ : String → Option EReal := fun
  | "c01" => some ((80338380498831 / 2251799813685248 : ℝ) : EReal)
  | "c013" => some ((241015141496493 / 2251799813685248 : ℝ) : EReal)
  | _ => none
-- ==== ReferenceIdeal.lean ====
abbrev S8192x2048 : Shape := ⟨2, ![8192, 2048]⟩
abbrev S2048x2048 : Shape := ⟨2, ![2048, 2048]⟩
abbrev S7x8192x2048 : Shape := ⟨3, ![7, 8192, 2048]⟩
abbrev S2x8192x2048 : Shape := ⟨3, ![2, 8192, 2048]⟩
abbrev S1x2048 : Shape := ⟨2, ![1, 2048]⟩
abbrev S8x128x128 : Shape := ⟨3, ![8, 128, 128]⟩
abbrev S8x128 : Shape := ⟨2, ![8, 128]⟩
abbrev S3x2048 : Shape := ⟨2, ![3, 2048]⟩
abbrev S1x8192x2048 : Shape := ⟨3, ![1, 8192, 2048]⟩
abbrev S2048 : Shape := ⟨1, ![2048]⟩
abbrev S_ : Shape := ⟨0, ![]⟩
abbrev S1x64x128x8x256 : Shape := ⟨5, ![1, 64, 128, 8, 256]⟩
abbrev S8x256 : Shape := ⟨2, ![8, 256]⟩
abbrev S1x64x128x8 : Shape := ⟨4, ![1, 64, 128, 8]⟩
abbrev S1x64x128x8x1 : Shape := ⟨5, ![1, 64, 128, 8, 1]⟩
abbrev S1x1x1x8x256 : Shape := ⟨5, ![1, 1, 1, 8, 256]⟩
abbrev S128x128 : Shape := ⟨2, ![128, 128]⟩
abbrev S1x128x128 : Shape := ⟨3, ![1, 128, 128]⟩
abbrev S8x1x64x256x128 : Shape := ⟨5, ![8, 1, 64, 256, 128]⟩
abbrev S128x8 : Shape := ⟨2, ![128, 8]⟩
abbrev S1x1x128x8x1 : Shape := ⟨5, ![1, 1, 128, 8, 1]⟩
abbrev S1x2x2048 : Shape := ⟨3, ![1, 2, 2048]⟩
abbrev S1x8194x2048 : Shape := ⟨3, ![1, 8194, 2048]⟩
abbrev S1x1x2048 : Shape := ⟨3, ![1, 1, 2048]⟩
abbrev S1x128x8 : Shape := ⟨3, ![1, 128, 8]⟩
abbrev S1x8x256 : Shape := ⟨3, ![1, 8, 256]⟩
abbrev S64x128x8 : Shape := ⟨3, ![64, 128, 8]⟩
abbrev S9x8192x2048 : Shape := ⟨3, ![9, 8192, 2048]⟩
abbrev S8x128x1 : Shape := ⟨3, ![8, 128, 1]⟩

abbrev nBuf : Space → Nat
  | .hbm => 383
  | .vmem => 0
  | .smem => 0
  | _ => 0

abbrev hbmTy0_0 (i : Nat) : BufTy := match i % 128 with
  | 0 => ⟨S8192x2048, .bf16⟩
  | 1 => ⟨S8192x2048, .bf16⟩
  | 2 => ⟨S2048x2048, .bf16⟩
  | 3 => ⟨S2048x2048, .bf16⟩
  | 4 => ⟨S7x8192x2048, .bf16⟩
  | 5 => ⟨S2x8192x2048, .bf16⟩
  | 6 => ⟨S1x2048, .f32⟩
  | 7 => ⟨S1x2048, .f32⟩
  | 8 => ⟨S8x128x128, .f32⟩
  | 9 => ⟨S8x128, .f32⟩
  | 10 => ⟨S3x2048, .f32⟩
  | 11 => ⟨S1x2048, .f32⟩
  | 12 => ⟨S7x8192x2048, .f32⟩
  | 13 => ⟨S1x8192x2048, .f32⟩
  | 14 => ⟨S1x8192x2048, .f32⟩
  | 15 => ⟨S1x8192x2048, .f32⟩
  | 16 => ⟨S1x8192x2048, .f32⟩
  | 17 => ⟨S1x8192x2048, .f32⟩
  | 18 => ⟨S1x8192x2048, .f32⟩
  | 19 => ⟨S1x8192x2048, .f32⟩
  | 20 => ⟨S2048, .f32⟩
  | 21 => ⟨S2048, .f32⟩
  | 22 => ⟨S2048, .f32⟩
  | 23 => ⟨S2048x2048, .f32⟩
  | 24 => ⟨S2048x2048, .f32⟩
  | 25 => ⟨S1x8192x2048, .f32⟩
  | 26 => ⟨S1x8192x2048, .f32⟩
  | 27 => ⟨S1x8192x2048, .f32⟩
  | 28 => ⟨S_, .f32⟩
  | 29 => ⟨S1x8192x2048, .f32⟩
  | 30 => ⟨S1x8192x2048, .f32⟩
  | 31 => ⟨S_, .f32⟩
  | 32 => ⟨S1x8192x2048, .f32⟩
  | 33 => ⟨S1x8192x2048, .f32⟩
  | 34 => ⟨S1x8192x2048, .f32⟩
  | 35 => ⟨S_, .f32⟩
  | 36 => ⟨S1x8192x2048, .f32⟩
  | 37 => ⟨S1x8192x2048, .f32⟩
  | 38 => ⟨S1x8192x2048, .f32⟩
  | 39 => ⟨S_, .f32⟩
  | 40 => ⟨S1x8192x2048, .f32⟩
  | 41 => ⟨S1x8192x2048, .f32⟩
  | 42 => ⟨S_, .f32⟩
  | 43 => ⟨S1x8192x2048, .f32⟩
  | 44 => ⟨S1x8192x2048, .f32⟩
  | 45 => ⟨S1x8192x2048, .f32⟩
  | 46 => ⟨S_, .f32⟩
  | 47 => ⟨S1x8192x2048, .f32⟩
  | 48 => ⟨S1x8192x2048, .f32⟩
  | 49 => ⟨S_, .f32⟩
  | 50 => ⟨S1x8192x2048, .f32⟩
  | 51 => ⟨S1x8192x2048, .f32⟩
  | 52 => ⟨S1x8192x2048, .f32⟩
  | 53 => ⟨S1x64x128x8x256, .f32⟩
  | 54 => ⟨S1x8192x2048, .f32⟩
  | 55 => ⟨S1x8192x2048, .f32⟩
  | 56 => ⟨S1x8192x2048, .f32⟩
  | 57 => ⟨S_, .f32⟩
  | 58 => ⟨S1x8192x2048, .f32⟩
  | 59 => ⟨S1x8192x2048, .f32⟩
  | 60 => ⟨S_, .f32⟩
  | 61 => ⟨S1x8192x2048, .f32⟩
  | 62 => ⟨S1x8192x2048, .f32⟩
  | 63 => ⟨S1x8192x2048, .f32⟩
  | 64 => ⟨S_, .f32⟩
  | 65 => ⟨S1x8192x2048, .f32⟩
  | 66 => ⟨S1x8192x2048, .f32⟩
  | 67 => ⟨S1x8192x2048, .f32⟩
  | 68 => ⟨S_, .f32⟩
  | 69 => ⟨S1x8192x2048, .f32⟩
  | 70 => ⟨S1x8192x2048, .f32⟩
  | 71 => ⟨S_, .f32⟩
  | 72 => ⟨S1x8192x2048, .f32⟩
  | 73 => ⟨S1x8192x2048, .f32⟩
  | 74 => ⟨S1x8192x2048, .f32⟩
  | 75 => ⟨S_, .f32⟩
  | 76 => ⟨S1x8192x2048, .f32⟩
  | 77 => ⟨S1x8192x2048, .f32⟩
  | 78 => ⟨S_, .f32⟩
  | 79 => ⟨S1x8192x2048, .f32⟩
  | 80 => ⟨S1x8192x2048, .f32⟩
  | 81 => ⟨S1x8192x2048, .f32⟩
  | 82 => ⟨S1x64x128x8x256, .f32⟩
  | 83 => ⟨S8x256, .f32⟩
  | 84 => ⟨S8x256, .f32⟩
  | 85 => ⟨S_, .f32⟩
  | 86 => ⟨S1x64x128x8, .f32⟩
  | 87 => ⟨S1x64x128x8x1, .f32⟩
  | 88 => ⟨S_, .f32⟩
  | 89 => ⟨S1x64x128x8x1, .f32⟩
  | 90 => ⟨S1x64x128x8x1, .f32⟩
  | 91 => ⟨S1x64x128x8x256, .f32⟩
  | 92 => ⟨S1x64x128x8x256, .f32⟩
  | 93 => ⟨S1x64x128x8x256, .f32⟩
  | 94 => ⟨S_, .f32⟩
  | 95 => ⟨S1x64x128x8x256, .f32⟩
  | 96 => ⟨S1x64x128x8x256, .f32⟩
  | 97 => ⟨S_, .f32⟩
  | 98 => ⟨S1x64x128x8, .f32⟩
  | 99 => ⟨S1x64x128x8x1, .f32⟩
  | 100 => ⟨S_, .f32⟩
  | 101 => ⟨S1x64x128x8x1, .f32⟩
  | 102 => ⟨S1x64x128x8x1, .f32⟩
  | 103 => ⟨S1x64x128x8x256, .f32⟩
  | 104 => ⟨S1x64x128x8x256, .f32⟩
  | 105 => ⟨S_, .f32⟩
  | 106 => ⟨S1x64x128x8x1, .f32⟩
  | 107 => ⟨S1x64x128x8x1, .f32⟩
  | 108 => ⟨S1x64x128x8x1, .f32⟩
  | 109 => ⟨S1x64x128x8x1, .f32⟩
  | 110 => ⟨S_, .f32⟩
  | 111 => ⟨S1x64x128x8x1, .f32⟩
  | 112 => ⟨S1x64x128x8x1, .f32⟩
  | 113 => ⟨S1x64x128x8x256, .f32⟩
  | 114 => ⟨S1x64x128x8x256, .f32⟩
  | 115 => ⟨S1x1x1x8x256, .f32⟩
  | 116 => ⟨S1x64x128x8x256, .f32⟩
  | 117 => ⟨S1x64x128x8x256, .f32⟩
  | 118 => ⟨S1x1x1x8x256, .f32⟩
  | 119 => ⟨S1x64x128x8x256, .f32⟩
  | 120 => ⟨S1x64x128x8x256, .f32⟩
  | 121 => ⟨S_, .i1⟩
  | 122 => ⟨S128x128, .i1⟩
  | 123 => ⟨S128x128, .i32⟩
  | 124 => ⟨S_, .i32⟩
  | 125 => ⟨S128x128, .i32⟩
  | 126 => ⟨S128x128, .i32⟩
  | 127 => ⟨S128x128, .i32⟩
  | _ => ⟨S8192x2048, .bf16⟩

abbrev hbmTy0_1 (i : Nat) : BufTy := match i % 128 with
  | 0 => ⟨S128x128, .i1⟩
  | 1 => ⟨S_, .i1⟩
  | 2 => ⟨S128x128, .i1⟩
  | 3 => ⟨S128x128, .i1⟩
  | 4 => ⟨S1x128x128, .i1⟩
  | 5 => ⟨S_, .f32⟩
  | 6 => ⟨S8x128x128, .f32⟩
  | 7 => ⟨S8x128x128, .i1⟩
  | 8 => ⟨S8x128x128, .f32⟩
  | 9 => ⟨S_, .f32⟩
  | 10 => ⟨S8x128x128, .f32⟩
  | 11 => ⟨S8x1x64x256x128, .f32⟩
  | 12 => ⟨S1x64x128x8x256, .f32⟩
  | 13 => ⟨S128x8, .f32⟩
  | 14 => ⟨S1x1x128x8x1, .f32⟩
  | 15 => ⟨S1x64x128x8x256, .f32⟩
  | 16 => ⟨S1x64x128x8x256, .f32⟩
  | 17 => ⟨S1x64x128x8x256, .f32⟩
  | 18 => ⟨S1x8192x2048, .f32⟩
  | 19 => ⟨S1x8192x2048, .f32⟩
  | 20 => ⟨S1x8192x2048, .f32⟩
  | 21 => ⟨S_, .f32⟩
  | 22 => ⟨S1x8192x2048, .f32⟩
  | 23 => ⟨S1x8192x2048, .f32⟩
  | 24 => ⟨S_, .f32⟩
  | 25 => ⟨S1x8192x2048, .f32⟩
  | 26 => ⟨S1x8192x2048, .f32⟩
  | 27 => ⟨S_, .f32⟩
  | 28 => ⟨S1x8192x2048, .f32⟩
  | 29 => ⟨S1x8192x2048, .f32⟩
  | 30 => ⟨S1x8192x2048, .f32⟩
  | 31 => ⟨S1x8192x2048, .f32⟩
  | 32 => ⟨S1x8192x2048, .f32⟩
  | 33 => ⟨S1x8192x2048, .f32⟩
  | 34 => ⟨S1x2x2048, .f32⟩
  | 35 => ⟨S_, .f32⟩
  | 36 => ⟨S1x2x2048, .f32⟩
  | 37 => ⟨S1x8194x2048, .f32⟩
  | 38 => ⟨S_, .f32⟩
  | 39 => ⟨S1x2x2048, .f32⟩
  | 40 => ⟨S1x2048, .f32⟩
  | 41 => ⟨S2048, .f32⟩
  | 42 => ⟨S1x8192x2048, .f32⟩
  | 43 => ⟨S1x1x2048, .f32⟩
  | 44 => ⟨S1x8192x2048, .f32⟩
  | 45 => ⟨S1x8192x2048, .f32⟩
  | 46 => ⟨S1x1x2048, .f32⟩
  | 47 => ⟨S1x8192x2048, .f32⟩
  | 48 => ⟨S1x8192x2048, .f32⟩
  | 49 => ⟨S1x2048, .f32⟩
  | 50 => ⟨S2048, .f32⟩
  | 51 => ⟨S1x8192x2048, .f32⟩
  | 52 => ⟨S1x1x2048, .f32⟩
  | 53 => ⟨S1x8192x2048, .f32⟩
  | 54 => ⟨S1x8192x2048, .f32⟩
  | 55 => ⟨S1x8192x2048, .f32⟩
  | 56 => ⟨S1x2048, .f32⟩
  | 57 => ⟨S2048, .f32⟩
  | 58 => ⟨S1x8192x2048, .f32⟩
  | 59 => ⟨S1x1x2048, .f32⟩
  | 60 => ⟨S1x8192x2048, .f32⟩
  | 61 => ⟨S1x8192x2048, .f32⟩
  | 62 => ⟨S1x8192x2048, .f32⟩
  | 63 => ⟨S1x8192x2048, .f32⟩
  | 64 => ⟨S1x8192x2048, .f32⟩
  | 65 => ⟨S1x8192x2048, .f32⟩
  | 66 => ⟨S_, .f32⟩
  | 67 => ⟨S1x8192x2048, .f32⟩
  | 68 => ⟨S1x8192x2048, .f32⟩
  | 69 => ⟨S_, .f32⟩
  | 70 => ⟨S1x8192x2048, .f32⟩
  | 71 => ⟨S1x8192x2048, .f32⟩
  | 72 => ⟨S_, .f32⟩
  | 73 => ⟨S1x8192x2048, .f32⟩
  | 74 => ⟨S1x8192x2048, .f32⟩
  | 75 => ⟨S1x8192x2048, .f32⟩
  | 76 => ⟨S1x8192x2048, .f32⟩
  | 77 => ⟨S1x8192x2048, .f32⟩
  | 78 => ⟨S1x8192x2048, .f32⟩
  | 79 => ⟨S1x8192x2048, .f32⟩
  | 80 => ⟨S8192x2048, .f32⟩
  | 81 => ⟨S1x8192x2048, .f32⟩
  | 82 => ⟨S8192x2048, .f32⟩
  | 83 => ⟨S1x8192x2048, .f32⟩
  | 84 => ⟨S1x8192x2048, .f32⟩
  | 85 => ⟨S1x8192x2048, .f32⟩
  | 86 => ⟨S1x8192x2048, .f32⟩
  | 87 => ⟨S1x8192x2048, .f32⟩
  | 88 => ⟨S1x8192x2048, .f32⟩
  | 89 => ⟨S1x8192x2048, .f32⟩
  | 90 => ⟨S1x8192x2048, .f32⟩
  | 91 => ⟨S1x8192x2048, .f32⟩
  | 92 => ⟨S1x8192x2048, .f32⟩
  | 93 => ⟨S1x8192x2048, .f32⟩
  | 94 => ⟨S1x8192x2048, .f32⟩
  | 95 => ⟨S1x8192x2048, .f32⟩
  | 96 => ⟨S1x8192x2048, .f32⟩
  | 97 => ⟨S_, .f32⟩
  | 98 => ⟨S1x2048, .f32⟩
  | 99 => ⟨S1x1x2048, .f32⟩
  | 100 => ⟨S_, .f32⟩
  | 101 => ⟨S2048, .f32⟩
  | 102 => ⟨S_, .f32⟩
  | 103 => ⟨S1x8194x2048, .f32⟩
  | 104 => ⟨S1x2048, .f32⟩
  | 105 => ⟨S_, .f32⟩
  | 106 => ⟨S3x2048, .f32⟩
  | 107 => ⟨S1x8192x2048, .f32⟩
  | 108 => ⟨S1x8192x2048, .f32⟩
  | 109 => ⟨S1x8192x2048, .f32⟩
  | 110 => ⟨S_, .f32⟩
  | 111 => ⟨S1x2048, .f32⟩
  | 112 => ⟨S1x1x2048, .f32⟩
  | 113 => ⟨S_, .f32⟩
  | 114 => ⟨S2048, .f32⟩
  | 115 => ⟨S_, .f32⟩
  | 116 => ⟨S1x8194x2048, .f32⟩
  | 117 => ⟨S1x8194x2048, .f32⟩
  | 118 => ⟨S1x2048, .f32⟩
  | 119 => ⟨S_, .f32⟩
  | 120 => ⟨S3x2048, .f32⟩
  | 121 => ⟨S3x2048, .f32⟩
  | 122 => ⟨S_, .f32⟩
  | 123 => ⟨S1x2048, .f32⟩
  | 124 => ⟨S1x1x2048, .f32⟩
  | 125 => ⟨S_, .f32⟩
  | 126 => ⟨S2048, .f32⟩
  | 127 => ⟨S1x8192x2048, .f32⟩
  | _ => ⟨S8192x2048, .bf16⟩

abbrev hbmTy0_2 (i : Nat) : BufTy := match i % 128 with
  | 0 => ⟨S1x8192x2048, .f32⟩
  | 1 => ⟨S1x8192x2048, .f32⟩
  | 2 => ⟨S_, .f32⟩
  | 3 => ⟨S1x2048, .f32⟩
  | 4 => ⟨S1x1x2048, .f32⟩
  | 5 => ⟨S_, .f32⟩
  | 6 => ⟨S2048, .f32⟩
  | 7 => ⟨S_, .f32⟩
  | 8 => ⟨S1x8194x2048, .f32⟩
  | 9 => ⟨S1x8194x2048, .f32⟩
  | 10 => ⟨S1x2048, .f32⟩
  | 11 => ⟨S_, .f32⟩
  | 12 => ⟨S3x2048, .f32⟩
  | 13 => ⟨S3x2048, .f32⟩
  | 14 => ⟨S1x2x2048, .f32⟩
  | 15 => ⟨S1x8192x2048, .f32⟩
  | 16 => ⟨S1x8192x2048, .f32⟩
  | 17 => ⟨S1x8192x2048, .f32⟩
  | 18 => ⟨S1x8192x2048, .f32⟩
  | 19 => ⟨S1x8192x2048, .f32⟩
  | 20 => ⟨S1x8192x2048, .f32⟩
  | 21 => ⟨S1x8192x2048, .f32⟩
  | 22 => ⟨S1x8192x2048, .f32⟩
  | 23 => ⟨S1x8192x2048, .f32⟩
  | 24 => ⟨S1x64x128x8x256, .f32⟩
  | 25 => ⟨S1x64x128x8x256, .f32⟩
  | 26 => ⟨S1x64x128x8x256, .f32⟩
  | 27 => ⟨S_, .f32⟩
  | 28 => ⟨S1x128x8, .f32⟩
  | 29 => ⟨S1x1x128x8x1, .f32⟩
  | 30 => ⟨S_, .f32⟩
  | 31 => ⟨S128x8, .f32⟩
  | 32 => ⟨S8x128, .f32⟩
  | 33 => ⟨S8x1x64x256x128, .f32⟩
  | 34 => ⟨S8x128x128, .f32⟩
  | 35 => ⟨S8x1x64x256x128, .f32⟩
  | 36 => ⟨S1x64x128x8x256, .f32⟩
  | 37 => ⟨S_, .f32⟩
  | 38 => ⟨S8x128x128, .f32⟩
  | 39 => ⟨S8x128x128, .f32⟩
  | 40 => ⟨S_, .f32⟩
  | 41 => ⟨S1x8x256, .f32⟩
  | 42 => ⟨S1x1x1x8x256, .f32⟩
  | 43 => ⟨S_, .f32⟩
  | 44 => ⟨S8x256, .f32⟩
  | 45 => ⟨S1x64x128x8x256, .f32⟩
  | 46 => ⟨S_, .f32⟩
  | 47 => ⟨S1x8x256, .f32⟩
  | 48 => ⟨S1x1x1x8x256, .f32⟩
  | 49 => ⟨S1x64x128x8x256, .f32⟩
  | 50 => ⟨S1x64x128x8x256, .f32⟩
  | 51 => ⟨S_, .f32⟩
  | 52 => ⟨S8x256, .f32⟩
  | 53 => ⟨S1x64x128x8x256, .f32⟩
  | 54 => ⟨S_, .f32⟩
  | 55 => ⟨S1x64x128x8, .f32⟩
  | 56 => ⟨S1x64x128x8x1, .f32⟩
  | 57 => ⟨S1x64x128x8x256, .f32⟩
  | 58 => ⟨S1x64x128x8x256, .f32⟩
  | 59 => ⟨S1x64x128x8x1, .f32⟩
  | 60 => ⟨S1x64x128x8x256, .f32⟩
  | 61 => ⟨S_, .f32⟩
  | 62 => ⟨S1x64x128x8, .f32⟩
  | 63 => ⟨S1x64x128x8x1, .f32⟩
  | 64 => ⟨S_, .f32⟩
  | 65 => ⟨S1x64x128x8x1, .f32⟩
  | 66 => ⟨S1x64x128x8x1, .f32⟩
  | 67 => ⟨S_, .f32⟩
  | 68 => ⟨S64x128x8, .f32⟩
  | 69 => ⟨S1x64x128x8, .f32⟩
  | 70 => ⟨S1x64x128x8x256, .f32⟩
  | 71 => ⟨S1x64x128x8x256, .f32⟩
  | 72 => ⟨S1x64x128x8x256, .f32⟩
  | 73 => ⟨S_, .f32⟩
  | 74 => ⟨S1x64x128x8, .f32⟩
  | 75 => ⟨S1x64x128x8x1, .f32⟩
  | 76 => ⟨S1x64x128x8x256, .f32⟩
  | 77 => ⟨S1x64x128x8x1, .f32⟩
  | 78 => ⟨S_, .f32⟩
  | 79 => ⟨S1x64x128x8x1, .f32⟩
  | 80 => ⟨S1x64x128x8x1, .f32⟩
  | 81 => ⟨S_, .f32⟩
  | 82 => ⟨S64x128x8, .f32⟩
  | 83 => ⟨S1x64x128x8, .f32⟩
  | 84 => ⟨S1x64x128x8x256, .f32⟩
  | 85 => ⟨S1x64x128x8x256, .f32⟩
  | 86 => ⟨S2048, .f32⟩
  | 87 => ⟨S2048, .f32⟩
  | 88 => ⟨S1x8192x2048, .f32⟩
  | 89 => ⟨S1x8192x2048, .f32⟩
  | 90 => ⟨S1x8192x2048, .f32⟩
  | 91 => ⟨S_, .f32⟩
  | 92 => ⟨S1x8192x2048, .f32⟩
  | 93 => ⟨S1x8192x2048, .f32⟩
  | 94 => ⟨S1x8192x2048, .f32⟩
  | 95 => ⟨S_, .f32⟩
  | 96 => ⟨S1x8192x2048, .f32⟩
  | 97 => ⟨S1x8192x2048, .f32⟩
  | 98 => ⟨S1x8192x2048, .f32⟩
  | 99 => ⟨S_, .f32⟩
  | 100 => ⟨S1x8192x2048, .f32⟩
  | 101 => ⟨S1x8192x2048, .f32⟩
  | 102 => ⟨S1x8192x2048, .f32⟩
  | 103 => ⟨S1x8192x2048, .f32⟩
  | 104 => ⟨S1x8192x2048, .f32⟩
  | 105 => ⟨S1x8192x2048, .f32⟩
  | 106 => ⟨S1x8192x2048, .f32⟩
  | 107 => ⟨S_, .f32⟩
  | 108 => ⟨S1x8192x2048, .f32⟩
  | 109 => ⟨S1x8192x2048, .f32⟩
  | 110 => ⟨S1x8192x2048, .f32⟩
  | 111 => ⟨S_, .f32⟩
  | 112 => ⟨S1x8192x2048, .f32⟩
  | 113 => ⟨S1x8192x2048, .f32⟩
  | 114 => ⟨S1x8192x2048, .f32⟩
  | 115 => ⟨S_, .f32⟩
  | 116 => ⟨S1x8192x2048, .f32⟩
  | 117 => ⟨S1x8192x2048, .f32⟩
  | 118 => ⟨S1x8192x2048, .f32⟩
  | 119 => ⟨S1x8192x2048, .f32⟩
  | 120 => ⟨S2x8192x2048, .f32⟩
  | 121 => ⟨S9x8192x2048, .f32⟩
  | 122 => ⟨S9x8192x2048, .bf16⟩
  | 123 => ⟨S8x128x1, .f32⟩
  | 124 => ⟨S1x2048, .f32⟩
  | 125 => ⟨S1x2048, .f32⟩
  | 126 => ⟨S1x2048, .f32⟩
  | _ => ⟨S8192x2048, .bf16⟩

abbrev hbmTy (i : Nat) : BufTy := match i / 128 with
  | 0 => hbmTy0_0 i
  | 1 => hbmTy0_1 i
  | 2 => hbmTy0_2 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_18 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_19 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c : Ref sig .tc := ⟨.hbm, 121, rfl⟩
abbrev main_v88 : Ref sig .tc := ⟨.hbm, 122, rfl⟩
abbrev main_call0_v0 : Ref sig .tc := ⟨.hbm, 123, rfl⟩
abbrev main_call0_c : Ref sig .tc := ⟨.hbm, 124, rfl⟩
abbrev main_call0_v1 : Ref sig .tc := ⟨.hbm, 125, rfl⟩
abbrev main_call0_v2 : Ref sig .tc := ⟨.hbm, 126, rfl⟩
abbrev main_call0_v3 : Ref sig .tc := ⟨.hbm, 127, rfl⟩
abbrev main_call0_v4 : Ref sig .tc := ⟨.hbm, 128, rfl⟩
abbrev main_call0_c_0 : Ref sig .tc := ⟨.hbm, 129, rfl⟩
abbrev main_call0_v5 : Ref sig .tc := ⟨.hbm, 130, rfl⟩
abbrev main_v89 : Ref sig .tc := ⟨.hbm, 131, rfl⟩
abbrev main_v90 : Ref sig .tc := ⟨.hbm, 132, rfl⟩
abbrev main_cst_20 : Ref sig .tc := ⟨.hbm, 133, rfl⟩
abbrev main_v91 : Ref sig .tc := ⟨.hbm, 134, rfl⟩
abbrev main_v92_1 : Ref sig .tc := ⟨.hbm, 135, rfl⟩
abbrev main_v92_0 : Ref sig .tc := ⟨.hbm, 136, rfl⟩
abbrev main_call1_cst : Ref sig .tc := ⟨.hbm, 137, rfl⟩
abbrev main_v92_2 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call2_v0 : Ref sig .tc := ⟨.hbm, 147, rfl⟩
abbrev main_call2_v1 : Ref sig .tc := ⟨.hbm, 148, rfl⟩
abbrev main_call2_cst : Ref sig .tc := ⟨.hbm, 149, rfl⟩
abbrev main_call2_v2 : Ref sig .tc := ⟨.hbm, 150, rfl⟩
abbrev main_call2_v3 : Ref sig .tc := ⟨.hbm, 151, rfl⟩
abbrev main_call2_cst_0 : Ref sig .tc := ⟨.hbm, 152, rfl⟩
abbrev main_call2_v4 : Ref sig .tc := ⟨.hbm, 153, rfl⟩
abbrev main_v101_2 : Ref sig .tc := ⟨.hbm, 154, rfl⟩
abbrev main_call2_cst_1 : Ref sig .tc := ⟨.hbm, 155, rfl⟩
abbrev main_call2_v6 : Ref sig .tc := ⟨.hbm, 156, rfl⟩
abbrev main_call2_v7 : Ref sig .tc := ⟨.hbm, 157, rfl⟩
abbrev main_v101_1 : Ref sig .tc := ⟨.hbm, 158, rfl⟩
abbrev main_v101_0 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_21 : Ref sig .tc := ⟨.hbm, 163, rfl⟩
abbrev main_v105 : Ref sig .tc := ⟨.hbm, 164, rfl⟩
abbrev main_v106 : Ref sig .tc := ⟨.hbm, 165, rfl⟩
abbrev main_cst_22 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_call3_v0 : Ref sig .tc := ⟨.hbm, 192, rfl⟩
abbrev main_call3_v1 : Ref sig .tc := ⟨.hbm, 193, rfl⟩
abbrev main_call3_cst : Ref sig .tc := ⟨.hbm, 194, rfl⟩
abbrev main_call3_v2 : Ref sig .tc := ⟨.hbm, 195, rfl⟩
abbrev main_call3_v3 : Ref sig .tc := ⟨.hbm, 196, rfl⟩
abbrev main_call3_cst_0 : Ref sig .tc := ⟨.hbm, 197, rfl⟩
abbrev main_call3_v4 : Ref sig .tc := ⟨.hbm, 198, rfl⟩
abbrev main_v132_2 : Ref sig .tc := ⟨.hbm, 199, rfl⟩
abbrev main_call3_cst_1 : Ref sig .tc := ⟨.hbm, 200, rfl⟩
abbrev main_call3_v6 : Ref sig .tc := ⟨.hbm, 201, rfl⟩
abbrev main_call3_v7 : Ref sig .tc := ⟨.hbm, 202, rfl⟩
abbrev main_v132_1 : Ref sig .tc := ⟨.hbm, 203, rfl⟩
abbrev main_v132_0 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_call4_v0 : Ref sig .tc := ⟨.hbm, 216, rfl⟩
abbrev main_call4_v1 : Ref sig .tc := ⟨.hbm, 217, rfl⟩
abbrev main_call4_v2 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_cst_23 : Ref sig .tc := ⟨.hbm, 225, rfl⟩
abbrev main_v150 : Ref sig .tc := ⟨.hbm, 226, rfl⟩
abbrev main_v151 : Ref sig .tc := ⟨.hbm, 227, rfl⟩
abbrev main_cst_24 : Ref sig .tc := ⟨.hbm, 228, rfl⟩
abbrev main_v152 : Ref sig .tc := ⟨.hbm, 229, rfl⟩
abbrev main_cst_25 : Ref sig .tc := ⟨.hbm, 230, rfl⟩
abbrev main_v153 : Ref sig .tc := ⟨.hbm, 231, rfl⟩
abbrev main_v154 : Ref sig .tc := ⟨.hbm, 232, rfl⟩
abbrev main_cst_26 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_27 : Ref sig .tc := ⟨.hbm, 238, rfl⟩
abbrev main_v159 : Ref sig .tc := ⟨.hbm, 239, rfl⟩
abbrev main_v160 : Ref sig .tc := ⟨.hbm, 240, rfl⟩
abbrev main_cst_28 : Ref sig .tc := ⟨.hbm, 241, rfl⟩
abbrev main_v161 : Ref sig .tc := ⟨.hbm, 242, rfl⟩
abbrev main_cst_29 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_cst_30 : Ref sig .tc := ⟨.hbm, 247, rfl⟩
abbrev main_v165 : Ref sig .tc := ⟨.hbm, 248, rfl⟩
abbrev main_v166 : Ref sig .tc := ⟨.hbm, 249, rfl⟩
abbrev main_cst_31 : Ref sig .tc := ⟨.hbm, 250, rfl⟩
abbrev main_v167 : Ref sig .tc := ⟨.hbm, 251, rfl⟩
abbrev main_v168 : Ref sig .tc := ⟨.hbm, 252, rfl⟩
abbrev main_cst_32 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_cst_33 : Ref sig .tc := ⟨.hbm, 258, rfl⟩
abbrev main_v173 : Ref sig .tc := ⟨.hbm, 259, rfl⟩
abbrev main_v174 : Ref sig .tc := ⟨.hbm, 260, rfl⟩
abbrev main_cst_34 : Ref sig .tc := ⟨.hbm, 261, rfl⟩
abbrev main_v175 : Ref sig .tc := ⟨.hbm, 262, rfl⟩
abbrev main_cst_35 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_cst_36 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_call5_v0 : Ref sig .tc := ⟨.hbm, 276, rfl⟩
abbrev main_call5_v1 : Ref sig .tc := ⟨.hbm, 277, rfl⟩
abbrev main_call5_v2 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_cst_37 : Ref sig .tc := ⟨.hbm, 283, rfl⟩
abbrev main_v191 : Ref sig .tc := ⟨.hbm, 284, rfl⟩
abbrev main_v192 : Ref sig .tc := ⟨.hbm, 285, rfl⟩
abbrev main_cst_38 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_call6_cst : Ref sig .tc := ⟨.hbm, 293, rfl⟩
abbrev main_call6_v0 : Ref sig .tc := ⟨.hbm, 294, rfl⟩
abbrev main_v199 : Ref sig .tc := ⟨.hbm, 295, rfl⟩
abbrev main_cst_39 : Ref sig .tc := ⟨.hbm, 296, rfl⟩
abbrev main_v200 : Ref sig .tc := ⟨.hbm, 297, rfl⟩
abbrev main_v201 : Ref sig .tc := ⟨.hbm, 298, rfl⟩
abbrev main_cst_40 : Ref sig .tc := ⟨.hbm, 299, rfl⟩
abbrev main_v202 : Ref sig .tc := ⟨.hbm, 300, rfl⟩
abbrev main_v203 : Ref sig .tc := ⟨.hbm, 301, rfl⟩
abbrev main_cst_41 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_cst_42 : Ref sig .tc := ⟨.hbm, 307, rfl⟩
abbrev main_v208 : Ref sig .tc := ⟨.hbm, 308, rfl⟩
abbrev main_v209 : Ref sig .tc := ⟨.hbm, 309, rfl⟩
abbrev main_cst_43 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_cst_44 : Ref sig .tc := ⟨.hbm, 317, rfl⟩
abbrev main_v216 : Ref sig .tc := ⟨.hbm, 318, rfl⟩
abbrev main_v217 : Ref sig .tc := ⟨.hbm, 319, rfl⟩
abbrev main_cst_45 : Ref sig .tc := ⟨.hbm, 320, rfl⟩
abbrev main_v218 : Ref sig .tc := ⟨.hbm, 321, rfl⟩
abbrev main_v219 : Ref sig .tc := ⟨.hbm, 322, rfl⟩
abbrev main_cst_46 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_cst_47 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_cst_48 : Ref sig .tc := ⟨.hbm, 334, rfl⟩
abbrev main_v229 : Ref sig .tc := ⟨.hbm, 335, rfl⟩
abbrev main_v230 : Ref sig .tc := ⟨.hbm, 336, rfl⟩
abbrev main_cst_49 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_v239 : Ref sig .tc := ⟨.hbm, 346, rfl⟩
abbrev main_cst_50 : Ref sig .tc := ⟨.hbm, 347, rfl⟩
abbrev main_v240 : Ref sig .tc := ⟨.hbm, 348, rfl⟩
abbrev main_v241 : Ref sig .tc := ⟨.hbm, 349, rfl⟩
abbrev main_v242 : Ref sig .tc := ⟨.hbm, 350, rfl⟩
abbrev main_cst_51 : Ref sig .tc := ⟨.hbm, 351, rfl⟩
abbrev main_v243 : Ref sig .tc := ⟨.hbm, 352, rfl⟩
abbrev main_v244 : Ref sig .tc := ⟨.hbm, 353, rfl⟩
abbrev main_v245 : Ref sig .tc := ⟨.hbm, 354, rfl⟩
abbrev main_cst_52 : Ref sig .tc := ⟨.hbm, 355, rfl⟩
abbrev main_v246 : Ref sig .tc := ⟨.hbm, 356, rfl⟩
abbrev main_v247 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_v251 : Ref sig .tc := ⟨.hbm, 361, rfl⟩
abbrev main_v252 : Ref sig .tc := ⟨.hbm, 362, rfl⟩
abbrev main_cst_53 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_cst_54 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_cst_55 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_v266 : Ref sig .tc := ⟨.hbm, 379, rfl⟩
abbrev main_v267 : Ref sig .tc := ⟨.hbm, 380, rfl⟩
abbrev main_v268 : Ref sig .tc := ⟨.hbm, 381, rfl⟩
abbrev main_v269 : Ref sig .tc := ⟨.hbm, 382, rfl⟩

abbrev nD : Nat := 1
abbrev τ : Topo := Topo.v7x

variable {F : FTy → Type} [FloatOps F]
-- ==== Kernel2.lean ====
abbrev S8192x2048 : Shape := ⟨2, ![8192, 2048]⟩
abbrev S9x8192x2048 : Shape := ⟨3, ![9, 8192, 2048]⟩
abbrev S2048x18432 : Shape := ⟨2, ![2048, 18432]⟩
abbrev S4096x1024 : Shape := ⟨2, ![4096, 1024]⟩
abbrev S1x4096x1024 : Shape := ⟨3, ![1, 4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S9x8192x2048, .bf16⟩
  | .hbm, ⟨2, _⟩ => ⟨S2048x18432, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 18, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S9x8192x2048 : Shape := ⟨3, ![9, 8192, 2048]⟩
abbrev S_ : Shape := ⟨0, ![]⟩
abbrev S2048x18432 : Shape := ⟨2, ![2048, 18432]⟩
abbrev S1x8192x2048 : Shape := ⟨3, ![1, 8192, 2048]⟩
abbrev S1x8192x18432 : Shape := ⟨3, ![1, 8192, 18432]⟩
abbrev S18432x2048 : Shape := ⟨2, ![18432, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S9x8192x2048, .bf16⟩
  | .hbm, ⟨2, _⟩ => ⟨S_, .f32⟩
  | .hbm, ⟨3, _⟩ => ⟨S2048x18432, .f32⟩
  | .hbm, ⟨4, _⟩ => ⟨S8192x2048, .f32⟩
  | .hbm, ⟨5, _⟩ => ⟨S1x8192x2048, .f32⟩
  | .hbm, ⟨6, _⟩ => ⟨S1x8192x18432, .f32⟩
  | .hbm, ⟨7, _⟩ => ⟨S1x8192x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S1x8192x2048, .f32⟩
  | .hbm, ⟨15, _⟩ => ⟨S1x8192x2048, .f32⟩
  | .hbm, ⟨16, _⟩ => ⟨S1x8192x2048, .bf16⟩
  | .hbm, ⟨17, _⟩ => ⟨S1x8192x2048, .f32⟩
  | .hbm, ⟨18, _⟩ => ⟨S1x8192x2048, .bf16⟩
  | .hbm, ⟨19, _⟩ => ⟨S1x8192x2048, .f32⟩
  | .hbm, ⟨20, _⟩ => ⟨S1x8192x2048, .bf16⟩
  | .hbm, ⟨21, _⟩ => ⟨S1x8192x2048, .f32⟩
  | .hbm, ⟨22, _⟩ => ⟨S1x8192x2048, .bf16⟩
  | .hbm, ⟨23, _⟩ => ⟨S1x8192x2048, .f32⟩
  | .hbm, ⟨24, _⟩ => ⟨S1x8192x2048, .bf16⟩
  | .hbm, ⟨25, _⟩ => ⟨S1x8192x2048, .f32⟩
  | .hbm, ⟨26, _⟩ => ⟨S1x8192x2048, .bf16⟩
  | .hbm, ⟨27, _⟩ => ⟨S1x8192x2048, .f32⟩
  | .hbm, ⟨28, _⟩ => ⟨S1x8192x2048, .bf16⟩
  | .hbm, ⟨29, _⟩ => ⟨S1x8192x2048, .f32⟩
  | .hbm, ⟨30, _⟩ => ⟨S1x8192x2048, .bf16⟩
  | .hbm, ⟨31, _⟩ => ⟨S1x8192x2048, .f32⟩
  | .hbm, ⟨32, _⟩ => ⟨S1x8192x2048, .bf16⟩
  | .hbm, ⟨33, _⟩ => ⟨S1x8192x2048, .f32⟩
  | .hbm, ⟨34, _⟩ => ⟨S1x8192x18432, .f32⟩
  | .hbm, ⟨35, _⟩ => ⟨S18432x2048, .f32⟩
  | .hbm, ⟨36, _⟩ => ⟨S2048x18432, .f32⟩
  | .hbm, ⟨37, _⟩ => ⟨S2048x18432, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S_ : Shape := ⟨0, ![]⟩
abbrev S2048x2048 : Shape := ⟨2, ![2048, 2048]⟩
abbrev S1x8192x2048 : Shape := ⟨3, ![1, 8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S1x8192x2048, .f32⟩
  | .hbm, ⟨6, _⟩ => ⟨S1x8192x2048, .f32⟩
  | .hbm, ⟨7, _⟩ => ⟨S8192x2048, .f32⟩
  | .hbm, ⟨8, _⟩ => ⟨S1x8192x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S9x8192x2048 : Shape := ⟨3, ![9, 8192, 2048]⟩
abbrev S2048x18432 : Shape := ⟨2, ![2048, 18432]⟩
abbrev S8192x2048 : Shape := ⟨2, ![8192, 2048]⟩
abbrev S18432x2048 : Shape := ⟨2, ![18432, 2048]⟩
abbrev S1x1024x2048 : Shape := ⟨3, ![1, 1024, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S9x8192x2048, .bf16⟩
  | .hbm, ⟨1, _⟩ => ⟨S2048x18432, .f32⟩
  | .hbm, ⟨2, _⟩ => ⟨S8192x2048, .f32⟩
  | .hbm, ⟨3, _⟩ => ⟨S2048x18432, .bf16⟩
  | .hbm, ⟨4, _⟩ => ⟨S18432x2048, .bf16⟩
  | .hbm, ⟨5, _⟩ => ⟨S8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S9x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.addi c8_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S9x8192x2048 : Shape := ⟨3, ![9, 8192, 2048]⟩
abbrev S2048x18432 : Shape := ⟨2, ![2048, 18432]⟩
abbrev S8192x2048 : Shape := ⟨2, ![8192, 2048]⟩
abbrev S_ : Shape := ⟨0, ![]⟩
abbrev S1x8192x2048 : Shape := ⟨3, ![1, 8192, 2048]⟩
abbrev S1x8192x18432 : Shape := ⟨3, ![1, 8192, 18432]⟩

abbrev nBuf : Space → Nat
  | .hbm => 37
  | .vmem => 0
  | .smem => 0
  | _ => 0

abbrev bufTy : (tb : Table) → Fin (tcTables nBuf tb) → BufTy
  | .hbm, ⟨0, _⟩ => ⟨S9x8192x2048, .bf16⟩
  | .hbm, ⟨1, _⟩ => ⟨S2048x18432, .f32⟩
  | .hbm, ⟨2, _⟩ => ⟨S8192x2048, .f32⟩
  | .hbm, ⟨3, _⟩ => ⟨S_, .f32⟩
  | .hbm, ⟨4, _⟩ => ⟨S1x8192x2048, .f32⟩
  | .hbm, ⟨5, _⟩ => ⟨S1x8192x18432, .f32⟩
  | .hbm, ⟨6, _⟩ => ⟨S1x8192x2048, .f32⟩
  | .hbm, ⟨7, _⟩ => ⟨S1x8192x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S1x8192x2048, .f32⟩
  | .hbm, ⟨15, _⟩ => ⟨S1x8192x2048, .bf16⟩
  | .hbm, ⟨16, _⟩ => ⟨S1x8192x2048, .f32⟩
  | .hbm, ⟨17, _⟩ => ⟨S_, .f32⟩
  | .hbm, ⟨18, _⟩ => ⟨S1x8192x2048, .f32⟩
  | .hbm, ⟨19, _⟩ => ⟨S_, .f32⟩
  | .hbm, ⟨20, _⟩ => ⟨S1x8192x2048, .f32⟩
  | .hbm, ⟨21, _⟩ => ⟨S_, .f32⟩
  | .hbm, ⟨22, _⟩ => ⟨S1x8192x2048, .f32⟩
  | .hbm, ⟨23, _⟩ => ⟨S_, .f32⟩
  | .hbm, ⟨24, _⟩ => ⟨S1x8192x2048, .f32⟩
  | .hbm, ⟨25, _⟩ => ⟨S_, .f32⟩
  | .hbm, ⟨26, _⟩ => ⟨S1x8192x2048, .f32⟩
  | .hbm, ⟨27, _⟩ => ⟨S_, .f32⟩
  | .hbm, ⟨28, _⟩ => ⟨S1x8192x2048, .f32⟩
  | .hbm, ⟨29, _⟩ => ⟨S_, .f32⟩
  | .hbm, ⟨30, _⟩ => ⟨S1x8192x2048, .f32⟩
  | .hbm, ⟨31, _⟩ => ⟨S_, .f32⟩
  | .hbm, ⟨32, _⟩ => ⟨S1x8192x2048, .f32⟩
  | .hbm, ⟨33, _⟩ => ⟨S1x8192x18432, .f32⟩
  | .hbm, ⟨34, _⟩ => ⟨S1x8192x2048, .f32⟩
  | .hbm, ⟨35, _⟩ => ⟨S8192x2048, .f32⟩
  | .hbm, ⟨36, _⟩ => ⟨S8192x2048, .f32⟩
  | _, _ => ⟨S9x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel5.lean ====
abbrev S8192x2048 : Shape := ⟨2, ![8192, 2048]⟩
abbrev S2048x18432 : Shape := ⟨2, ![2048, 18432]⟩
abbrev S2048x2048 : Shape := ⟨2, ![2048, 2048]⟩
abbrev S1x4096 : Shape := ⟨2, ![1, 4096]⟩
abbrev S18432x2048 : Shape := ⟨2, ![18432, 2048]⟩
abbrev S256x2048 : Shape := ⟨2, ![256, 2048]⟩
abbrev S1024x2048 : Shape := ⟨2, ![1024, 2048]⟩
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 16
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S2048x18432, .f32⟩
  | .hbm, ⟨4, _⟩ => ⟨S2048x2048, .f32⟩
  | .hbm, ⟨5, _⟩ => ⟨S2048x2048, .f32⟩
  | .hbm, ⟨6, _⟩ => ⟨S1x4096, .f32⟩
  | .hbm, ⟨7, _⟩ => ⟨S2048x18432, .bf16⟩
  | .hbm, ⟨8, _⟩ => ⟨S18432x2048, .bf16⟩
  | .hbm, ⟨9, _⟩ => ⟨S2048x2048, .bf16⟩
  | .hbm, ⟨10, _⟩ => ⟨S2048x2048, .bf16⟩
  | .hbm, ⟨11, _⟩ => ⟨S8192x2048, .bf16⟩
  | .hbm, ⟨12, _⟩ => ⟨S8192x2048, .bf16⟩
  | .hbm, ⟨13, _⟩ => ⟨S8192x2048, .bf16⟩
  | .hbm, ⟨14, _⟩ => ⟨S8192x2048, .bf16⟩
  | .hbm, ⟨15, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8192x2048 : Shape := ⟨2, ![8192, 2048]⟩
abbrev S2048x18432 : Shape := ⟨2, ![2048, 18432]⟩
abbrev S2048x2048 : Shape := ⟨2, ![2048, 2048]⟩
abbrev S1x4096 : Shape := ⟨2, ![1, 4096]⟩
abbrev S1x8192x2048 : Shape := ⟨3, ![1, 8192, 2048]⟩
abbrev S1x8192x18432 : Shape := ⟨3, ![1, 8192, 18432]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S2048x18432, .f32⟩
  | .hbm, ⟨4, _⟩ => ⟨S2048x2048, .f32⟩
  | .hbm, ⟨5, _⟩ => ⟨S2048x2048, .f32⟩
  | .hbm, ⟨6, _⟩ => ⟨S1x4096, .f32⟩
  | .hbm, ⟨7, _⟩ => ⟨S1x8192x2048, .f32⟩
  | .hbm, ⟨8, _⟩ => ⟨S1x8192x18432, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S1x8192x2048, .f32⟩
  | .hbm, ⟨15, _⟩ => ⟨S1x8192x2048, .f32⟩
  | .hbm, ⟨16, _⟩ => ⟨S1x8192x2048, .f32⟩
  | .hbm, ⟨17, _⟩ => ⟨S1x8192x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S1x8192x2048, .f32⟩
  | .hbm, ⟨22, _⟩ => ⟨S1x8192x2048, .f32⟩
  | .hbm, ⟨23, _⟩ => ⟨S1x8192x2048, .f32⟩
  | .hbm, ⟨24, _⟩ => ⟨S1x8192x2048, .f32⟩
  | .hbm, ⟨25, _⟩ => ⟨S_, .f32⟩
  | .hbm, ⟨26, _⟩ => ⟨S1x8192x2048, .f32⟩
  | .hbm, ⟨27, _⟩ => ⟨S1x8192x2048, .f32⟩
  | .hbm, ⟨28, _⟩ => ⟨S_, .f32⟩
  | .hbm, ⟨29, _⟩ => ⟨S1x8192x2048, .f32⟩
  | .hbm, ⟨30, _⟩ => ⟨S1x8192x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S1x8192x2048, .f32⟩
  | .hbm, ⟨35, _⟩ => ⟨S1x8192x2048, .f32⟩
  | .hbm, ⟨36, _⟩ => ⟨S1x8192x2048, .f32⟩
  | .hbm, ⟨37, _⟩ => ⟨S1x8192x2048, .f32⟩
  | .hbm, ⟨38, _⟩ => ⟨S_, .f32⟩
  | .hbm, ⟨39, _⟩ => ⟨S1x8192x2048, .f32⟩
  | .hbm, ⟨40, _⟩ => ⟨S1x8192x2048, .f32⟩
  | .hbm, ⟨41, _⟩ => ⟨S_, .f32⟩
  | .hbm, ⟨42, _⟩ => ⟨S1x8192x2048, .f32⟩
  | .hbm, ⟨43, _⟩ => ⟨S1x8192x2048, .f32⟩
  | .hbm, ⟨44, _⟩ => ⟨S8192x2048, .f32⟩
  | .hbm, ⟨45, _⟩ => ⟨S1x8192x2048, .f32⟩
  | .hbm, ⟨46, _⟩ => ⟨S1x8192x2048, .f32⟩
  | .hbm, ⟨47, _⟩ => ⟨S8192x2048, .f32⟩
  | .hbm, ⟨48, _⟩ => ⟨S1x8192x2048, .f32⟩
  | .hbm, ⟨49, _⟩ => ⟨S1x8192x2048, .f32⟩
  | .hbm, ⟨50, _⟩ => ⟨S1x8192x2048, .f32⟩
  | .hbm, ⟨51, _⟩ => ⟨S1x8192x2048, .f32⟩
  | .hbm, ⟨52, _⟩ => ⟨S1x8192x2048, .f32⟩
  | .hbm, ⟨53, _⟩ => ⟨S8192x2048, .f32⟩
  | .hbm, ⟨54, _⟩ => ⟨S8192x2048, .bf16⟩
  | .hbm, ⟨55, _⟩ => ⟨S8192x2048, .f32⟩
  | .hbm, ⟨56, _⟩ => ⟨S8192x2048, .bf16⟩
  | .hbm, ⟨57, _⟩ => ⟨S8192x2048, .f32⟩
  | .hbm, ⟨58, _⟩ => ⟨S8192x2048, .bf16⟩
  | .hbm, ⟨59, _⟩ => ⟨S8192x2048, .f32⟩
  | .hbm, ⟨60, _⟩ => ⟨S8192x2048, .bf16⟩
  | .hbm, ⟨61, _⟩ => ⟨S8192x2048, .f32⟩
  | .hbm, ⟨62, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel6.lean ====
abbrev S8192x2048 : Shape := ⟨2, ![8192, 2048]⟩
abbrev S1x4096 : Shape := ⟨2, ![1, 4096]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2x8192x2048 : Shape := ⟨3, ![2, 8192, 2048]⟩
abbrev S256x2048 : Shape := ⟨2, ![256, 2048]⟩
abbrev S2x256x2048 : Shape := ⟨3, ![2, 256, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S1x256x2048 : Shape := ⟨3, ![1, 256, 2048]⟩

abbrev nBuf : Space → Nat
  | .hbm => 56
  | .vmem => 39
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4096, .f32⟩
  | .hbm, ⟨3, _⟩ => ⟨S8192x2048, .bf16⟩
  | .hbm, ⟨4, _⟩ => ⟨S8192x2048, .bf16⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | .hbm, ⟨42, _⟩ => ⟨S2048x2048, .bf16⟩
  | .hbm, ⟨43, _⟩ => ⟨S8192x2048, .bf16⟩
  | .hbm, ⟨44, _⟩ => ⟨S8192x2048, .bf16⟩
  | .hbm, ⟨45, _⟩ => ⟨S8192x2048, .bf16⟩
  | .hbm, ⟨46, _⟩ => ⟨S8192x2048, .f32⟩
  | .hbm, ⟨47, _⟩ => ⟨S8192x2048, .bf16⟩
  | .hbm, ⟨48, _⟩ => ⟨S8192x2048, .bf16⟩
  | .hbm, ⟨49, _⟩ => ⟨S8192x2048, .bf16⟩
  | .hbm, ⟨50, _⟩ => ⟨S2x8192x2048, .bf16⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S2x256x2048, .bf16⟩
  | .local _ .vmem, ⟨28, _⟩ => ⟨S2x256x2048, .bf16⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S8x2048, .f32⟩
  | .local _ .vmem, ⟨35, _⟩ => ⟨S8x2048, .f32⟩
  | .local _ .vmem, ⟨36, _⟩ => ⟨S8x2048, .f32⟩
  | .local _ .vmem, ⟨37, _⟩ => ⟨S8x2048, .f32⟩
  | .local _ .vmem, ⟨38, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v31_4 : Ref sig .tc := ⟨.hbm, 49, rfl⟩
abbrev main_v31_5 : Ref sig .tc := ⟨.hbm, 50, rfl⟩
abbrev main_v31_6 : Ref sig .tc := ⟨.hbm, 51, rfl⟩
abbrev main_v31_7 : Ref sig .tc := ⟨.hbm, 52, rfl⟩
abbrev main_v31_8 : Ref sig .tc := ⟨.hbm, 53, rfl⟩
abbrev main_v31_9 : Ref sig .tc := ⟨.hbm, 54, rfl⟩
abbrev main_v31_10 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v136 : BitVec 1 := Scalar.cmpi .eq arg0 c31_i32
  let v137 : BitVec 32 := Scalar.extui v136
  let c0_i32_79 : BitVec 32 := 0#32
  let v138 : BitVec 1 := Scalar.cmpi .ne v137 c0_i32_79
  v138

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference6Ideal.lean ====
abbrev S8192x2048 : Shape := ⟨2, ![8192, 2048]⟩
abbrev S1x4096 : Shape := ⟨2, ![1, 4096]⟩
abbrev S2048x2048 : Shape := ⟨2, ![2048, 2048]⟩
abbrev S1x2048 : Shape := ⟨2, ![1, 2048]⟩
abbrev S1x8192x2048 : Shape := ⟨3, ![1, 8192, 2048]⟩
abbrev S4096 : Shape := ⟨1, ![4096]⟩
abbrev S2048 : Shape := ⟨1, ![2048]⟩
abbrev S1x1x2048 : Shape := ⟨3, ![1, 1, 2048]⟩
abbrev S_ : Shape := ⟨0, ![]⟩
abbrev S1x8192 : Shape := ⟨2, ![1, 8192]⟩
abbrev S1x8192x1 : Shape := ⟨3, ![1, 8192, 1]⟩
abbrev S8192 : Shape := ⟨1, ![8192]⟩
abbrev S2x8192x2048 : Shape := ⟨3, ![2, 8192, 2048]⟩

abbrev nBuf : Space → Nat
  | .hbm => 210
  | .vmem => 0
  | .smem => 0
  | _ => 0

abbrev hbmTy0_0 (i : Nat) : BufTy := match i % 128 with
  | 0 => ⟨S8192x2048, .f32⟩
  | 1 => ⟨S8192x2048, .f32⟩
  | 2 => ⟨S1x4096, .f32⟩
  | 3 => ⟨S8192x2048, .bf16⟩
  | 4 => ⟨S8192x2048, .bf16⟩
  | 5 => ⟨S2048x2048, .f32⟩
  | 6 => ⟨S8192x2048, .f32⟩
  | 7 => ⟨S8192x2048, .f32⟩
  | 8 => ⟨S1x2048, .f32⟩
  | 9 => ⟨S1x2048, .f32⟩
  | 10 => ⟨S1x8192x2048, .f32⟩
  | 11 => ⟨S1x8192x2048, .f32⟩
  | 12 => ⟨S4096, .f32⟩
  | 13 => ⟨S8192x2048, .f32⟩
  | 14 => ⟨S1x8192x2048, .f32⟩
  | 15 => ⟨S8192x2048, .f32⟩
  | 16 => ⟨S1x8192x2048, .f32⟩
  | 17 => ⟨S2048, .f32⟩
  | 18 => ⟨S1x1x2048, .f32⟩
  | 19 => ⟨S1x8192x2048, .f32⟩
  | 20 => ⟨S1x8192x2048, .f32⟩
  | 21 => ⟨S1x8192x2048, .f32⟩
  | 22 => ⟨S1x8192x2048, .f32⟩
  | 23 => ⟨S_, .f32⟩
  | 24 => ⟨S1x8192x2048, .f32⟩
  | 25 => ⟨S1x8192x2048, .f32⟩
  | 26 => ⟨S_, .f32⟩
  | 27 => ⟨S1x8192x2048, .f32⟩
  | 28 => ⟨S1x8192x2048, .f32⟩
  | 29 => ⟨S_, .f32⟩
  | 30 => ⟨S1x8192x2048, .f32⟩
  | 31 => ⟨S1x8192x2048, .f32⟩
  | 32 => ⟨S1x8192x2048, .f32⟩
  | 33 => ⟨S2048, .f32⟩
  | 34 => ⟨S1x1x2048, .f32⟩
  | 35 => ⟨S1x8192x2048, .f32⟩
  | 36 => ⟨S1x8192x2048, .f32⟩
  | 37 => ⟨S1x8192x2048, .f32⟩
  | 38 => ⟨S1x8192x2048, .f32⟩
  | 39 => ⟨S_, .f32⟩
  | 40 => ⟨S1x8192x2048, .f32⟩
  | 41 => ⟨S1x8192x2048, .f32⟩
  | 42 => ⟨S_, .f32⟩
  | 43 => ⟨S1x8192x2048, .f32⟩
  | 44 => ⟨S1x8192x2048, .f32⟩
  | 45 => ⟨S_, .f32⟩
  | 46 => ⟨S1x8192x2048, .f32⟩
  | 47 => ⟨S1x8192x2048, .f32⟩
  | 48 => ⟨S1x8192x2048, .f32⟩
  | 49 => ⟨S1x8192x2048, .f32⟩
  | 50 => ⟨S1x8192x2048, .f32⟩
  | 51 => ⟨S1x8192x2048, .f32⟩
  | 52 => ⟨S1x8192x2048, .f32⟩
  | 53 => ⟨S1x8192x2048, .f32⟩
  | 54 => ⟨S2048, .f32⟩
  | 55 => ⟨S2048, .f32⟩
  | 56 => ⟨S_, .f32⟩
  | 57 => ⟨S1x8192x2048, .f32⟩
  | 58 => ⟨S1x8192x2048, .f32⟩
  | 59 => ⟨S1x8192x2048, .f32⟩
  | 60 => ⟨S_, .f32⟩
  | 61 => ⟨S1x8192, .f32⟩
  | 62 => ⟨S1x8192x1, .f32⟩
  | 63 => ⟨S_, .f32⟩
  | 64 => ⟨S1x8192x1, .f32⟩
  | 65 => ⟨S1x8192x1, .f32⟩
  | 66 => ⟨S1x8192x2048, .f32⟩
  | 67 => ⟨S1x8192x2048, .f32⟩
  | 68 => ⟨S1x8192x2048, .f32⟩
  | 69 => ⟨S_, .f32⟩
  | 70 => ⟨S1x8192x2048, .f32⟩
  | 71 => ⟨S1x8192x2048, .f32⟩
  | 72 => ⟨S_, .f32⟩
  | 73 => ⟨S1x8192, .f32⟩
  | 74 => ⟨S1x8192x1, .f32⟩
  | 75 => ⟨S_, .f32⟩
  | 76 => ⟨S1x8192x1, .f32⟩
  | 77 => ⟨S1x8192x1, .f32⟩
  | 78 => ⟨S1x8192x2048, .f32⟩
  | 79 => ⟨S1x8192x2048, .f32⟩
  | 80 => ⟨S_, .f32⟩
  | 81 => ⟨S1x8192x1, .f32⟩
  | 82 => ⟨S1x8192x1, .f32⟩
  | 83 => ⟨S1x8192x1, .f32⟩
  | 84 => ⟨S1x8192x1, .f32⟩
  | 85 => ⟨S_, .f32⟩
  | 86 => ⟨S1x8192x1, .f32⟩
  | 87 => ⟨S1x8192x1, .f32⟩
  | 88 => ⟨S1x8192x2048, .f32⟩
  | 89 => ⟨S1x8192x2048, .f32⟩
  | 90 => ⟨S1x1x2048, .f32⟩
  | 91 => ⟨S1x8192x2048, .f32⟩
  | 92 => ⟨S1x8192x2048, .f32⟩
  | 93 => ⟨S1x1x2048, .f32⟩
  | 94 => ⟨S1x8192x2048, .f32⟩
  | 95 => ⟨S1x8192x2048, .f32⟩
  | 96 => ⟨S1x8192x2048, .f32⟩
  | 97 => ⟨S1x8192x2048, .f32⟩
  | 98 => ⟨S1x8192x2048, .f32⟩
  | 99 => ⟨S_, .f32⟩
  | 100 => ⟨S1x8192x2048, .f32⟩
  | 101 => ⟨S1x8192x2048, .f32⟩
  | 102 => ⟨S_, .f32⟩
  | 103 => ⟨S1x8192, .f32⟩
  | 104 => ⟨S_, .f32⟩
  | 105 => ⟨S1x8192, .f32⟩
  | 106 => ⟨S1x8192, .f32⟩
  | 107 => ⟨S_, .f32⟩
  | 108 => ⟨S_, .f32⟩
  | 109 => ⟨S_, .f32⟩
  | 110 => ⟨S_, .f32⟩
  | 111 => ⟨S_, .f32⟩
  | 112 => ⟨S2048, .f32⟩
  | 113 => ⟨S_, .f32⟩
  | 114 => ⟨S_, .f32⟩
  | 115 => ⟨S_, .f32⟩
  | 116 => ⟨S1x8192, .f32⟩
  | 117 => ⟨S_, .f32⟩
  | 118 => ⟨S1x8192, .f32⟩
  | 119 => ⟨S1x8192, .f32⟩
  | 120 => ⟨S1x8192x2048, .f32⟩
  | 121 => ⟨S1x8192x2048, .f32⟩
  | 122 => ⟨S_, .f32⟩
  | 123 => ⟨S1x2048, .f32⟩
  | 124 => ⟨S1x1x2048, .f32⟩
  | 125 => ⟨S_, .f32⟩
  | 126 => ⟨S2048, .f32⟩
  | 127 => ⟨S1x8192x2048, .f32⟩
  | _ => ⟨S8192x2048, .f32⟩

abbrev hbmTy0_1 (i : Nat) : BufTy := match i % 128 with
  | 0 => ⟨S_, .f32⟩
  | 1 => ⟨S1x2048, .f32⟩
  | 2 => ⟨S1x1x2048, .f32⟩
  | 3 => ⟨S1x8192x2048, .f32⟩
  | 4 => ⟨S1x8192x2048, .f32⟩
  | 5 => ⟨S_, .f32⟩
  | 6 => ⟨S2048, .f32⟩
  | 7 => ⟨S1x8192x2048, .f32⟩
  | 8 => ⟨S_, .f32⟩
  | 9 => ⟨S1x8192, .f32⟩
  | 10 => ⟨S1x8192x1, .f32⟩
  | 11 => ⟨S1x8192x2048, .f32⟩
  | 12 => ⟨S1x8192x2048, .f32⟩
  | 13 => ⟨S1x8192x1, .f32⟩
  | 14 => ⟨S1x8192x2048, .f32⟩
  | 15 => ⟨S_, .f32⟩
  | 16 => ⟨S1x8192, .f32⟩
  | 17 => ⟨S1x8192x1, .f32⟩
  | 18 => ⟨S_, .f32⟩
  | 19 => ⟨S1x8192x1, .f32⟩
  | 20 => ⟨S1x8192x1, .f32⟩
  | 21 => ⟨S_, .f32⟩
  | 22 => ⟨S8192, .f32⟩
  | 23 => ⟨S1x8192, .f32⟩
  | 24 => ⟨S1x8192x2048, .f32⟩
  | 25 => ⟨S1x8192x2048, .f32⟩
  | 26 => ⟨S1x8192x2048, .f32⟩
  | 27 => ⟨S_, .f32⟩
  | 28 => ⟨S1x8192, .f32⟩
  | 29 => ⟨S1x8192x1, .f32⟩
  | 30 => ⟨S1x8192x2048, .f32⟩
  | 31 => ⟨S1x8192x1, .f32⟩
  | 32 => ⟨S_, .f32⟩
  | 33 => ⟨S1x8192x1, .f32⟩
  | 34 => ⟨S1x8192x1, .f32⟩
  | 35 => ⟨S_, .f32⟩
  | 36 => ⟨S8192, .f32⟩
  | 37 => ⟨S1x8192, .f32⟩
  | 38 => ⟨S1x8192x2048, .f32⟩
  | 39 => ⟨S1x8192x2048, .f32⟩
  | 40 => ⟨S_, .f32⟩
  | 41 => ⟨S1x8192x2048, .f32⟩
  | 42 => ⟨S1x8192x2048, .f32⟩
  | 43 => ⟨S1x8192x2048, .f32⟩
  | 44 => ⟨S1x8192x2048, .f32⟩
  | 45 => ⟨S1x8192x2048, .f32⟩
  | 46 => ⟨S1x8192x2048, .f32⟩
  | 47 => ⟨S1x8192x2048, .f32⟩
  | 48 => ⟨S1x8192x2048, .f32⟩
  | 49 => ⟨S_, .f32⟩
  | 50 => ⟨S1x2048, .f32⟩
  | 51 => ⟨S1x1x2048, .f32⟩
  | 52 => ⟨S_, .f32⟩
  | 53 => ⟨S2048, .f32⟩
  | 54 => ⟨S_, .f32⟩
  | 55 => ⟨S4096, .f32⟩
  | 56 => ⟨S1x8192x2048, .f32⟩
  | 57 => ⟨S_, .f32⟩
  | 58 => ⟨S1x2048, .f32⟩
  | 59 => ⟨S1x1x2048, .f32⟩
  | 60 => ⟨S_, .f32⟩
  | 61 => ⟨S2048, .f32⟩
  | 62 => ⟨S_, .f32⟩
  | 63 => ⟨S4096, .f32⟩
  | 64 => ⟨S4096, .f32⟩
  | 65 => ⟨S2x8192x2048, .f32⟩
  | 66 => ⟨S2x8192x2048, .bf16⟩
  | 67 => ⟨S8192x2048, .f32⟩
  | 68 => ⟨S8192x2048, .bf16⟩
  | 69 => ⟨S8192x2048, .f32⟩
  | 70 => ⟨S8192x2048, .bf16⟩
  | 71 => ⟨S8192x2048, .f32⟩
  | 72 => ⟨S8192x2048, .bf16⟩
  | 73 => ⟨S8192x2048, .f32⟩
  | 74 => ⟨S8192x2048, .bf16⟩
  | 75 => ⟨S1x2048, .f32⟩
  | 76 => ⟨S1x2048, .f32⟩
  | 77 => ⟨S1x2048, .f32⟩
  | 78 => ⟨S2048, .f32⟩
  | 79 => ⟨S1x2048, .f32⟩
  | 80 => ⟨S2048, .f32⟩
  | 81 => ⟨S1x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_cst_19 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_22 : Ref sig .tc := ⟨.hbm, 122, rfl⟩
abbrev main_v89 : Ref sig .tc := ⟨.hbm, 123, rfl⟩
abbrev main_v90 : Ref sig .tc := ⟨.hbm, 124, rfl⟩
abbrev main_cst_23 : Ref sig .tc := ⟨.hbm, 125, rfl⟩
abbrev main_v91 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_cst_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_27 : Ref sig .tc := ⟨.hbm, 143, rfl⟩
abbrev main_v105 : Ref sig .tc := ⟨.hbm, 144, rfl⟩
abbrev main_v106 : Ref sig .tc := ⟨.hbm, 145, rfl⟩
abbrev main_cst_28 : Ref sig .tc := ⟨.hbm, 146, rfl⟩
abbrev main_v107 : Ref sig .tc := ⟨.hbm, 147, rfl⟩
abbrev main_v108 : Ref sig .tc := ⟨.hbm, 148, rfl⟩
abbrev main_cst_29 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_30 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_31 : Ref sig .tc := ⟨.hbm, 160, rfl⟩
abbrev main_v118 : Ref sig .tc := ⟨.hbm, 161, rfl⟩
abbrev main_v119 : Ref sig .tc := ⟨.hbm, 162, rfl⟩
abbrev main_cst_32 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_33 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_34 : Ref sig .tc := ⟨.hbm, 177, rfl⟩
abbrev main_v132 : Ref sig .tc := ⟨.hbm, 178, rfl⟩
abbrev main_v133 : Ref sig .tc := ⟨.hbm, 179, rfl⟩
abbrev main_cst_35 : Ref sig .tc := ⟨.hbm, 180, rfl⟩
abbrev main_v134 : Ref sig .tc := ⟨.hbm, 181, rfl⟩
abbrev main_cst_36 : Ref sig .tc := ⟨.hbm, 182, rfl⟩
abbrev main_v135 : Ref sig .tc := ⟨.hbm, 183, rfl⟩
abbrev main_v136 : Ref sig .tc := ⟨.hbm, 184, rfl⟩
abbrev main_cst_37 : Ref sig .tc := ⟨.hbm, 185, rfl⟩
abbrev main_v137 : Ref sig .tc := ⟨.hbm, 186, rfl⟩
abbrev main_v138 : Ref sig .tc := ⟨.hbm, 187, rfl⟩
abbrev main_cst_38 : Ref sig .tc := ⟨.hbm, 188, rfl⟩
abbrev main_v139 : Ref sig .tc := ⟨.hbm, 189, rfl⟩
abbrev main_cst_39 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩

abbrev nD : Nat := 1
abbrev τ : Topo := Topo.v7x

variable {F : FTy → Type} [FloatOps F]
-- ==== Kernel7.lean ====
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x3x256 : Shape := ⟨3, ![1, 3, 256]⟩
abbrev S1024x128 : Shape := ⟨2, ![1024, 128]⟩
abbrev S8x128 : Shape := ⟨2, ![8, 128]⟩
abbrev S3x256 : Shape := ⟨2, ![3, 256]⟩

abbrev nBuf : Space → Nat
  | .hbm => 75
  | .vmem => 63
  | .smem => 0
  | _ => 0

abbrev bufTy : (tb : Table) → Fin (tcTables nBuf tb) → BufTy
  | .hbm, ⟨0, _⟩ => ⟨S1x4096, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S1x3x256, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x4096, .f32⟩
  | .hbm, ⟨10, _⟩ => ⟨S1x2048, .f32⟩
  | .hbm, ⟨11, _⟩ => ⟨S1x2048, .f32⟩
  | .hbm, ⟨12, _⟩ => ⟨S1x8x128x128, .f32⟩
  | .hbm, ⟨13, _⟩ => ⟨S1x8x128, .f32⟩
  | .hbm, ⟨14, _⟩ => ⟨S1x3x256, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x4096, .f32⟩
  | .hbm, ⟨19, _⟩ => ⟨S1x2048, .f32⟩
  | .hbm, ⟨20, _⟩ => ⟨S1x2048, .f32⟩
  | .hbm, ⟨21, _⟩ => ⟨S1x8x128x128, .f32⟩
  | .hbm, ⟨22, _⟩ => ⟨S1x8x128, .f32⟩
  | .hbm, ⟨23, _⟩ => ⟨S1x3x256, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x4096, .f32⟩
  | .hbm, ⟨28, _⟩ => ⟨S1x2048, .f32⟩
  | .hbm, ⟨29, _⟩ => ⟨S1x2048, .f32⟩
  | .hbm, ⟨30, _⟩ => ⟨S1x8x128x128, .f32⟩
  | .hbm, ⟨31, _⟩ => ⟨S1x8x128, .f32⟩
  | .hbm, ⟨32, _⟩ => ⟨S1x3x256, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1024x128, .f32⟩
  | .hbm, ⟨37, _⟩ => ⟨S8x128, .f32⟩
  | .hbm, ⟨38, _⟩ => ⟨S3x256, .f32⟩
  | .hbm, ⟨39, _⟩ => ⟨S1024x128, .f32⟩
  | .hbm, ⟨40, _⟩ => ⟨S8x128, .f32⟩
  | .hbm, ⟨41, _⟩ => ⟨S3x256, .f32⟩
  | .hbm, ⟨42, _⟩ => ⟨S1024x128, .f32⟩
  | .hbm, ⟨43, _⟩ => ⟨S8x128, .f32⟩
  | .hbm, ⟨44, _⟩ => ⟨S3x256, .f32⟩
  | .hbm, ⟨45, _⟩ => ⟨S1024x128, .f32⟩
  | .hbm, ⟨46, _⟩ => ⟨S8x128, .f32⟩
  | .hbm, ⟨47, _⟩ => ⟨S3x256, .f32⟩
  | .hbm, ⟨48, _⟩ => ⟨S1x4096, .f32⟩
  | .hbm, ⟨49, _⟩ => ⟨S1x2048, .f32⟩
  | .hbm, ⟨50, _⟩ => ⟨S1x2048, .f32⟩
  | .hbm, ⟨51, _⟩ => ⟨S1024x128, .f32⟩
  | .hbm, ⟨52, _⟩ => ⟨S8x128, .f32⟩
  | .hbm, ⟨53, _⟩ => ⟨S3x256, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x4096, .f32⟩
  | .hbm, ⟨58, _⟩ => ⟨S1x2048, .f32⟩
  | .hbm, ⟨59, _⟩ => ⟨S1x2048, .f32⟩
  | .hbm, ⟨60, _⟩ => ⟨S1024x128, .f32⟩
  | .hbm, ⟨61, _⟩ => ⟨S8x128, .f32⟩
  | .hbm, ⟨62, _⟩ => ⟨S3x256, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x4096, .f32⟩
  | .hbm, ⟨67, _⟩ => ⟨S1x2048, .f32⟩
  | .hbm, ⟨68, _⟩ => ⟨S1x2048, .f32⟩
  | .hbm, ⟨69, _⟩ => ⟨S1024x128, .f32⟩
  | .hbm, ⟨70, _⟩ => ⟨S8x128, .f32⟩
  | .hbm, ⟨71, _⟩ => ⟨S3x256, .f32⟩
  | .hbm, ⟨72, _⟩ => ⟨S1x2048, .f32⟩
  | .hbm, ⟨73, _⟩ => ⟨S1x2048, .f32⟩
  | .hbm, ⟨74, _⟩ => ⟨S1x2048, .f32⟩
  | .local _ .vmem, ⟨0, _⟩ => ⟨S1x4096, .f32⟩
  | .local _ .vmem, ⟨1, _⟩ => ⟨S1x2048, .f32⟩
  | .local _ .vmem, ⟨2, _⟩ => ⟨S1x2048, .f32⟩
  | .local _ .vmem, ⟨3, _⟩ => ⟨S1024x128, .f32⟩
  | .local _ .vmem, ⟨4, _⟩ => ⟨S8x128, .f32⟩
  | .local _ .vmem, ⟨5, _⟩ => ⟨S3x256, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x4096, .f32⟩
  | .local _ .vmem, ⟨10, _⟩ => ⟨S1x2048, .f32⟩
  | .local _ .vmem, ⟨11, _⟩ => ⟨S1x2048, .f32⟩
  | .local _ .vmem, ⟨12, _⟩ => ⟨S1024x128, .f32⟩
  | .local _ .vmem, ⟨13, _⟩ => ⟨S8x128, .f32⟩
  | .local _ .vmem, ⟨14, _⟩ => ⟨S3x256, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x4096, .f32⟩
  | .local _ .vmem, ⟨19, _⟩ => ⟨S1x2048, .f32⟩
  | .local _ .vmem, ⟨20, _⟩ => ⟨S1x2048, .f32⟩
  | .local _ .vmem, ⟨21, _⟩ => ⟨S1024x128, .f32⟩
  | .local _ .vmem, ⟨22, _⟩ => ⟨S8x128, .f32⟩
  | .local _ .vmem, ⟨23, _⟩ => ⟨S3x256, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x4096, .f32⟩
  | .local _ .vmem, ⟨28, _⟩ => ⟨S1x2048, .f32⟩
  | .local _ .vmem, ⟨29, _⟩ => ⟨S1x2048, .f32⟩
  | .local _ .vmem, ⟨30, _⟩ => ⟨S1024x128, .f32⟩
  | .local _ .vmem, ⟨31, _⟩ => ⟨S8x128, .f32⟩
  | .local _ .vmem, ⟨32, _⟩ => ⟨S3x256, .f32⟩
  | .local _ .vmem, ⟨33, _⟩ => ⟨S1x2048, .f32⟩
  | .local _ .vmem, ⟨34, _⟩ => ⟨S1x2048, .f32⟩
  | .local _ .vmem, ⟨35, _⟩ => ⟨S1x2048, .f32⟩
  | .local _ .vmem, ⟨36, _⟩ => ⟨S1x4096, .f32⟩
  | .local _ .vmem, ⟨37, _⟩ => ⟨S1x2048, .f32⟩
  | .local _ .vmem, ⟨38, _⟩ => ⟨S1x2048, .f32⟩
  | .local _ .vmem, ⟨39, _⟩ => ⟨S1024x128, .f32⟩
  | .local _ .vmem, ⟨40, _⟩ => ⟨S8x128, .f32⟩
  | .local _ .vmem, ⟨41, _⟩ => ⟨S3x256, .f32⟩
  | .local _ .vmem, ⟨42, _⟩ => ⟨S1x2048, .f32⟩
  | .local _ .vmem, ⟨43, _⟩ => ⟨S1x2048, .f32⟩
  | .local _ .vmem, ⟨44, _⟩ => ⟨S1x2048, .f32⟩
  | .local _ .vmem, ⟨45, _⟩ => ⟨S1x4096, .f32⟩
  | .local _ .vmem, ⟨46, _⟩ => ⟨S1x2048, .f32⟩
  | .local _ .vmem, ⟨47, _⟩ => ⟨S1x2048, .f32⟩
  | .local _ .vmem, ⟨48, _⟩ => ⟨S1024x128, .f32⟩
  | .local _ .vmem, ⟨49, _⟩ => ⟨S8x128, .f32⟩
  | .local _ .vmem, ⟨50, _⟩ => ⟨S3x256, .f32⟩
  | .local _ .vmem, ⟨51, _⟩ => ⟨S1x2048, .f32⟩
  | .local _ .vmem, ⟨52, _⟩ => ⟨S1x2048, .f32⟩
  | .local _ .vmem, ⟨53, _⟩ => ⟨S1x2048, .f32⟩
  | .local _ .vmem, ⟨54, _⟩ => ⟨S1x4096, .f32⟩
  | .local _ .vmem, ⟨55, _⟩ => ⟨S1x2048, .f32⟩
  | .local _ .vmem, ⟨56, _⟩ => ⟨S1x2048, .f32⟩
  | .local _ .vmem, ⟨57, _⟩ => ⟨S1024x128, .f32⟩
  | .local _ .vmem, ⟨58, _⟩ => ⟨S8x128, .f32⟩
  | .local _ .vmem, ⟨59, _⟩ => ⟨S3x256, .f32⟩
  | .local _ .vmem, ⟨60, _⟩ => ⟨S1x2048, .f32⟩
  | .local _ .vmem, ⟨61, _⟩ => ⟨S1x2048, .f32⟩
  | .local _ .vmem, ⟨62, _⟩ => ⟨S1x2048, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12_0 : Ref sig .tc := ⟨.hbm, 48, rfl⟩
abbrev main_v12_1 : Ref sig .tc := ⟨.hbm, 49, rfl⟩
abbrev main_v12_2 : Ref sig .tc := ⟨.hbm, 50, rfl⟩
abbrev main_v12_3 : Ref sig .tc := ⟨.hbm, 51, rfl⟩
abbrev main_v12_4 : Ref sig .tc := ⟨.hbm, 52, rfl⟩
abbrev main_v12_5 : Ref sig .tc := ⟨.hbm, 53, rfl⟩
abbrev main_v12_6 : Ref sig .tc := ⟨.hbm, 54, rfl⟩
abbrev main_v12_7 : Ref sig .tc := ⟨.hbm, 55, rfl⟩
abbrev main_v12_8 : Ref sig .tc := ⟨.hbm, 56, rfl⟩
abbrev main_v12_9 : Ref sig .tc := ⟨.hbm, 57, rfl⟩
abbrev main_v12_10 : Ref sig .tc := ⟨.hbm, 58, rfl⟩
abbrev main_v12_11 : Ref sig .tc := ⟨.hbm, 59, rfl⟩
abbrev main_v12_12 : Ref sig .tc := ⟨.hbm, 60, rfl⟩
abbrev main_v12_13 : Ref sig .tc := ⟨.hbm, 61, rfl⟩
abbrev main_v12_14 : Ref sig .tc := ⟨.hbm, 62, rfl⟩
abbrev main_v12_15 : Ref sig .tc := ⟨.hbm, 63, rfl⟩
abbrev main_v12_16 : Ref sig .tc := ⟨.hbm, 64, rfl⟩
abbrev main_v12_17 : Ref sig .tc := ⟨.hbm, 65, rfl⟩
abbrev main_v12_18 : Ref sig .tc := ⟨.hbm, 66, rfl⟩
abbrev main_v12_19 : Ref sig .tc := ⟨.hbm, 67, rfl⟩
abbrev main_v12_20 : Ref sig .tc := ⟨.hbm, 68, rfl⟩
abbrev main_v12_21 : Ref sig .tc := ⟨.hbm, 69, rfl⟩
abbrev main_v12_22 : Ref sig .tc := ⟨.hbm, 70, rfl⟩
abbrev main_v12_23 : Ref sig .tc := ⟨.hbm, 71, rfl⟩
abbrev main_v12_24 : Ref sig .tc := ⟨.hbm, 72, rfl⟩
abbrev main_v12_25 : Ref sig .tc := ⟨.hbm, 73, rfl⟩
abbrev main_v12_26 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x4096 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1024x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x4096 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x2048 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1024x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S8x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S3x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x2048 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x2048 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x4096 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x2048 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x2048 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1024x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S8x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S3x256 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x2048 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x2048 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x2048 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x4096 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x2048 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x2048 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1024x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S8x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S3x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x2048 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x2048 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x2048 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x4096 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x2048 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x2048 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1024x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S8x128 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S3x256 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x2048 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x2048 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x2048 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
-- ==== Reference7Ideal.lean ====
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x3x256 : Shape := ⟨3, ![1, 3, 256]⟩
abbrev S_ : Shape := ⟨0, ![]⟩
abbrev S1024x128 : Shape := ⟨2, ![1024, 128]⟩
abbrev S8x128 : Shape := ⟨2, ![8, 128]⟩
abbrev S3x256 : Shape := ⟨2, ![3, 256]⟩

abbrev nBuf : Space → Nat
  | .hbm => 342
  | .vmem => 0
  | .smem => 0
  | _ => 0

abbrev hbmTy0_0 (i : Nat) : BufTy := match i % 128 with
  | 0 => ⟨S1x4096, .f32⟩
  | 1 => ⟨S1x2048, .f32⟩
  | 2 => ⟨S1x2048, .f32⟩
  | 3 => ⟨S1x8x128x128, .f32⟩
  | 4 => ⟨S1x8x128, .f32⟩
  | 5 => ⟨S1x3x256, .f32⟩
  | 6 => ⟨S1x2048, .f32⟩
  | 7 => ⟨S1x2048, .f32⟩
  | 8 => ⟨S1x2048, .f32⟩
  | 9 => ⟨S1x4096, .f32⟩
  | 10 => ⟨S1x2048, .f32⟩
  | 11 => ⟨S1x2048, .f32⟩
  | 12 => ⟨S1x8x128x128, .f32⟩
  | 13 => ⟨S1x8x128, .f32⟩
  | 14 => ⟨S1x3x256, .f32⟩
  | 15 => ⟨S1x2048, .f32⟩
  | 16 => ⟨S1x2048, .f32⟩
  | 17 => ⟨S1x2048, .f32⟩
  | 18 => ⟨S1x4096, .f32⟩
  | 19 => ⟨S1x2048, .f32⟩
  | 20 => ⟨S1x2048, .f32⟩
  | 21 => ⟨S1x8x128x128, .f32⟩
  | 22 => ⟨S1x8x128, .f32⟩
  | 23 => ⟨S1x3x256, .f32⟩
  | 24 => ⟨S1x2048, .f32⟩
  | 25 => ⟨S1x2048, .f32⟩
  | 26 => ⟨S1x2048, .f32⟩
  | 27 => ⟨S1x4096, .f32⟩
  | 28 => ⟨S1x2048, .f32⟩
  | 29 => ⟨S1x2048, .f32⟩
  | 30 => ⟨S1x8x128x128, .f32⟩
  | 31 => ⟨S1x8x128, .f32⟩
  | 32 => ⟨S1x3x256, .f32⟩
  | 33 => ⟨S1x2048, .f32⟩
  | 34 => ⟨S1x2048, .f32⟩
  | 35 => ⟨S1x2048, .f32⟩
  | 36 => ⟨S_, .f32⟩
  | 37 => ⟨S1x4096, .f32⟩
  | 38 => ⟨S1x4096, .f32⟩
  | 39 => ⟨S_, .f32⟩
  | 40 => ⟨S1x4096, .f32⟩
  | 41 => ⟨S1x4096, .f32⟩
  | 42 => ⟨S1x4096, .f32⟩
  | 43 => ⟨S_, .f32⟩
  | 44 => ⟨S1x4096, .f32⟩
  | 45 => ⟨S1x4096, .f32⟩
  | 46 => ⟨S1x4096, .f32⟩
  | 47 => ⟨S_, .f32⟩
  | 48 => ⟨S1x4096, .f32⟩
  | 49 => ⟨S1x4096, .f32⟩
  | 50 => ⟨S1x4096, .f32⟩
  | 51 => ⟨S_, .f32⟩
  | 52 => ⟨S1x4096, .f32⟩
  | 53 => ⟨S1x4096, .f32⟩
  | 54 => ⟨S_, .f32⟩
  | 55 => ⟨S1x4096, .f32⟩
  | 56 => ⟨S1x4096, .f32⟩
  | 57 => ⟨S1x4096, .f32⟩
  | 58 => ⟨S_, .f32⟩
  | 59 => ⟨S1x4096, .f32⟩
  | 60 => ⟨S1x4096, .f32⟩
  | 61 => ⟨S1x4096, .f32⟩
  | 62 => ⟨S_, .f32⟩
  | 63 => ⟨S1x4096, .f32⟩
  | 64 => ⟨S1x4096, .f32⟩
  | 65 => ⟨S1x4096, .f32⟩
  | 66 => ⟨S_, .f32⟩
  | 67 => ⟨S1x4096, .f32⟩
  | 68 => ⟨S1x4096, .f32⟩
  | 69 => ⟨S_, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S1x4096, .f32⟩

abbrev hbmTy0_1 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S_, .f32⟩
  | 8 => ⟨S1x8x128x128, .f32⟩
  | 9 => ⟨S1x8x128x128, .f32⟩
  | 10 => ⟨S_, .f32⟩
  | 11 => ⟨S1x8x128x128, .f32⟩
  | 12 => ⟨S1x8x128x128, .f32⟩
  | 13 => ⟨S1x8x128x128, .f32⟩
  | 14 => ⟨S_, .f32⟩
  | 15 => ⟨S1x8x128x128, .f32⟩
  | 16 => ⟨S1x8x128x128, .f32⟩
  | 17 => ⟨S1x8x128x128, .f32⟩
  | 18 => ⟨S_, .f32⟩
  | 19 => ⟨S1x8x128x128, .f32⟩
  | 20 => ⟨S1x8x128x128, .f32⟩
  | 21 => ⟨S1x8x128x128, .f32⟩
  | 22 => ⟨S_, .f32⟩
  | 23 => ⟨S1x8x128x128, .f32⟩
  | 24 => ⟨S1x8x128x128, .f32⟩
  | 25 => ⟨S_, .f32⟩
  | 26 => ⟨S1x8x128x128, .f32⟩
  | 27 => ⟨S1x8x128x128, .f32⟩
  | 28 => ⟨S1x8x128x128, .f32⟩
  | 29 => ⟨S_, .f32⟩
  | 30 => ⟨S1x8x128x128, .f32⟩
  | 31 => ⟨S1x8x128x128, .f32⟩
  | 32 => ⟨S1x8x128x128, .f32⟩
  | 33 => ⟨S_, .f32⟩
  | 34 => ⟨S1x8x128x128, .f32⟩
  | 35 => ⟨S1x8x128x128, .f32⟩
  | 36 => ⟨S1x8x128x128, .f32⟩
  | 37 => ⟨S_, .f32⟩
  | 38 => ⟨S1x8x128x128, .f32⟩
  | 39 => ⟨S1x8x128x128, .f32⟩
  | 40 => ⟨S_, .f32⟩
  | 41 => ⟨S1x8x128, .f32⟩
  | 42 => ⟨S1x8x128, .f32⟩
  | 43 => ⟨S_, .f32⟩
  | 44 => ⟨S1x8x128, .f32⟩
  | 45 => ⟨S1x8x128, .f32⟩
  | 46 => ⟨S1x8x128, .f32⟩
  | 47 => ⟨S_, .f32⟩
  | 48 => ⟨S1x8x128, .f32⟩
  | 49 => ⟨S1x8x128, .f32⟩
  | 50 => ⟨S1x8x128, .f32⟩
  | 51 => ⟨S_, .f32⟩
  | 52 => ⟨S1x8x128, .f32⟩
  | 53 => ⟨S1x8x128, .f32⟩
  | 54 => ⟨S1x8x128, .f32⟩
  | 55 => ⟨S_, .f32⟩
  | 56 => ⟨S1x8x128, .f32⟩
  | 57 => ⟨S1x8x128, .f32⟩
  | 58 => ⟨S_, .f32⟩
  | 59 => ⟨S1x8x128, .f32⟩
  | 60 => ⟨S1x8x128, .f32⟩
  | 61 => ⟨S1x8x128, .f32⟩
  | 62 => ⟨S_, .f32⟩
  | 63 => ⟨S1x8x128, .f32⟩
  | 64 => ⟨S1x8x128, .f32⟩
  | 65 => ⟨S1x8x128, .f32⟩
  | 66 => ⟨S_, .f32⟩
  | 67 => ⟨S1x8x128, .f32⟩
  | 68 => ⟨S1x8x128, .f32⟩
  | 69 => ⟨S1x8x128, .f32⟩
  | 70 => ⟨S_, .f32⟩
  | 71 => ⟨S1x8x128, .f32⟩
  | 72 => ⟨S1x8x128, .f32⟩
  | 73 => ⟨S_, .f32⟩
  | 74 => ⟨S1x3x256, .f32⟩
  | 75 => ⟨S1x3x256, .f32⟩
  | 76 => ⟨S_, .f32⟩
  | 77 => ⟨S1x3x256, .f32⟩
  | 78 => ⟨S1x3x256, .f32⟩
  | 79 => ⟨S1x3x256, .f32⟩
  | 80 => ⟨S_, .f32⟩
  | 81 => ⟨S1x3x256, .f32⟩
  | 82 => ⟨S1x3x256, .f32⟩
  | 83 => ⟨S1x3x256, .f32⟩
  | 84 => ⟨S_, .f32⟩
  | 85 => ⟨S1x3x256, .f32⟩
  | 86 => ⟨S1x3x256, .f32⟩
  | 87 => ⟨S1x3x256, .f32⟩
  | 88 => ⟨S_, .f32⟩
  | 89 => ⟨S1x3x256, .f32⟩
  | 90 => ⟨S1x3x256, .f32⟩
  | 91 => ⟨S_, .f32⟩
  | 92 => ⟨S1x3x256, .f32⟩
  | 93 => ⟨S1x3x256, .f32⟩
  | 94 => ⟨S1x3x256, .f32⟩
  | 95 => ⟨S_, .f32⟩
  | 96 => ⟨S1x3x256, .f32⟩
  | 97 => ⟨S1x3x256, .f32⟩
  | 98 => ⟨S1x3x256, .f32⟩
  | 99 => ⟨S_, .f32⟩
  | 100 => ⟨S1x3x256, .f32⟩
  | 101 => ⟨S1x3x256, .f32⟩
  | 102 => ⟨S1x3x256, .f32⟩
  | 103 => ⟨S_, .f32⟩
  | 104 => ⟨S1x3x256, .f32⟩
  | 105 => ⟨S1x3x256, .f32⟩
  | 106 => ⟨S_, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S1x4096, .f32⟩

abbrev hbmTy0_2 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S_, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S1024x128, .f32⟩
  | 78 => ⟨S8x128, .f32⟩
  | 79 => ⟨S3x256, .f32⟩
  | 80 => ⟨S1024x128, .f32⟩
  | 81 => ⟨S8x128, .f32⟩
  | 82 => ⟨S3x256, .f32⟩
  | 83 => ⟨S1024x128, .f32⟩
  | 84 => ⟨S8x128, .f32⟩
  | 85 => ⟨S3x256, .f32⟩
  | _ => ⟨S1x4096, .f32⟩

abbrev hbmTy (i : Nat) : BufTy := match i / 128 with
  | 0 => hbmTy0_0 i
  | 1 => hbmTy0_1 i
  | 2 => hbmTy0_2 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩

abbrev nD : Nat := 1
abbrev τ : Topo := Topo.v7x

variable {F : FTy → Type} [FloatOps F]
-- ==== Kernel8.lean ====
abbrev S8x1192x128 : Shape := ⟨3, ![8, 1192, 128]⟩
abbrev S1192x128 : Shape := ⟨2, ![1192, 128]⟩
abbrev S1x1192x128 : Shape := ⟨3, ![1, 1192, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1192x128, .f32⟩
  | .hbm, ⟨1, _⟩ => ⟨S1192x128, .f32⟩
  | .local _ .vmem, ⟨0, _⟩ => ⟨S8x1192x128, .f32⟩
  | .local _ .vmem, ⟨1, _⟩ => ⟨S1192x128, .f32⟩
  | _, _ => ⟨S8x1192x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference8Ideal.lean ====
abbrev S8x1192x128 : Shape := ⟨3, ![8, 1192, 128]⟩
abbrev S_ : Shape := ⟨0, ![]⟩
abbrev S1192x128 : Shape := ⟨2, ![1192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1192x128, .f32⟩
  | .hbm, ⟨1, _⟩ => ⟨S_, .f32⟩
  | .hbm, ⟨2, _⟩ => ⟨S1192x128, .f32⟩
  | _, _ => ⟨S8x1192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Lift.lean ====
/- Arrays of real numbers among the arrays of extended reals: `ar co f` holds the real `f (co y)` at the index `y`, where
   `co` reads an index's coordinates as natural numbers. Each array operation of the two programs, applied to such arrays,
   gives such an array again; one lemma per operation says which. -/
module

public import Idealize.ShloMosaic.Lib.Pipeline.Value
public import Idealize.ShloMosaic.PureOps.Ideal.Laws
public import Idealize.ShloMosaic.Lib.IdealHost
public import Idealize.ShloMosaic.Lib.KernelVsHost
public import Idealize.ShloMosaic.Lib.ValueIdx

@[expose] public section

set_option maxRecDepth 16384

noncomputable section

namespace Mixer

open Idealize.ShloMosaic Idealize.SL.Sem

abbrev Sh1 (a : ℕ) : Shape := ⟨1, ![a]⟩
abbrev Sh2 (a b : ℕ) : Shape := ⟨2, ![a, b]⟩
abbrev Sh3 (a b c : ℕ) : Shape := ⟨3, ![a, b, c]⟩
abbrev Sh4 (a b c d : ℕ) : Shape := ⟨4, ![a, b, c, d]⟩
abbrev Sh5 (a b c d e : ℕ) : Shape := ⟨5, ![a, b, c, d, e]⟩

/-- The coordinates of an index of rank 1 to 5, as natural numbers. -/
def i1 {a : ℕ} (y : (Sh1 a).Idx) : ℕ := (y 0).val
def i2 {a b : ℕ} (y : (Sh2 a b).Idx) : ℕ × ℕ := ((y 0).val, (y 1).val)
def i3 {a b c : ℕ} (y : (Sh3 a b c).Idx) : ℕ × ℕ × ℕ := ((y 0).val, (y 1).val, (y 2).val)
def i4 {a b c d : ℕ} (y : (Sh4 a b c d).Idx) : ℕ × ℕ × ℕ × ℕ := ((y 0).val, (y 1).val, (y 2).val, (y 3).val)
def i5 {a b c d e : ℕ} (y : (Sh5 a b c d e).Idx) : ℕ × ℕ × ℕ × ℕ × ℕ :=
  ((y 0).val, (y 1).val, (y 2).val, (y 3).val, (y 4).val)

/-- A real number as an idealized float. -/
def re {φ : FTy} (r : ℝ) : Ideal φ := ((r : ℝ) : EReal)

/-- The array that holds `f` of the index's coordinates. -/
def ar {s : Shape} {φ : FTy} {κ : Type} (co : s.Idx → κ) (f : κ → ℝ) : FVec Ideal s φ := fun y => re (f (co y))

/-- The array operands that are constant. -/
def cst {s : Shape} {φ : FTy} (r : ℝ) : FVec Ideal s φ := fun _ => re r

section pointwise
variable {s : Shape} {φ : FTy} {κ : Type} (co : s.Idx → κ) (f g : κ → ℝ) (r : ℝ)

theorem mulf_ar : mulf (ar (φ := φ) co f) (ar co g) = ar co fun k => f k * g k :=
  funext fun _ => (EReal.coe_mul _ _).symm
theorem addf_ar : addf (ar (φ := φ) co f) (ar co g) = ar co fun k => f k + g k :=
  funext fun _ => (EReal.coe_add _ _).symm
theorem subf_ar : subf (ar (φ := φ) co f) (ar co g) = ar co fun k => f k - g k :=
  funext fun _ => (EReal.coe_sub _ _).symm
theorem mulf_cst_ar : mulf (cst (φ := φ) r) (ar co f) = ar co fun k => r * f k :=
  funext fun _ => (EReal.coe_mul _ _).symm
theorem mulf_ar_cst : mulf (ar (φ := φ) co f) (cst r) = ar co fun k => f k * r :=
  funext fun _ => (EReal.coe_mul _ _).symm
theorem addf_cst_ar : addf (cst (φ := φ) r) (ar co f) = ar co fun k => r + f k :=
  funext fun _ => (EReal.coe_add _ _).symm
theorem addf_ar_cst : addf (ar (φ := φ) co f) (cst r) = ar co fun k => f k + r :=
  funext fun _ => (EReal.coe_add _ _).symm
theorem subf_cst_ar : subf (cst (φ := φ) r) (ar co f) = ar co fun k => r - f k :=
  funext fun _ => (EReal.coe_sub _ _).symm
theorem subf_ar_cst : subf (ar (φ := φ) co f) (cst r) = ar co fun k => f k - r :=
  funext fun _ => (EReal.coe_sub _ _).symm
theorem divf_ar_cst (hr : r ≠ 0) : divf (ar (φ := φ) co f) (cst r) = ar co fun k => f k / r := by
  funext y
  show Ideal.div ((f (co y) : ℝ) : EReal) ((r : ℝ) : EReal) = ((f (co y) / r : ℝ) : EReal)
  rw [Ideal.div_coe hr, ← EReal.coe_mul, mul_one_div]
theorem hostDivf_ar_cst (hr : r ≠ 0) : Host.divf (ar (φ := φ) co f) (cst r) = ar co fun k => f k / r := by
  funext y
  show Ideal.div ((f (co y) : ℝ) : EReal) ((r : ℝ) : EReal) = ((f (co y) / r : ℝ) : EReal)
  rw [Ideal.div_coe hr, ← EReal.coe_mul, mul_one_div]
theorem hostDivf_ar (hg : ∀ k, g k ≠ 0) : Host.divf (ar (φ := φ) co f) (ar co g) = ar co fun k => f k / g k := by
  funext y
  show Ideal.div ((f (co y) : ℝ) : EReal) ((g (co y) : ℝ) : EReal) = ((f (co y) / g (co y) : ℝ) : EReal)
  rw [Ideal.div_coe (hg _), ← EReal.coe_mul, mul_one_div]
theorem hostDivf_cst_ar (hg : ∀ k, g k ≠ 0) : Host.divf (cst (φ := φ) r) (ar co g) = ar co fun k => r / g k := by
  funext y
  show Ideal.div ((r : ℝ) : EReal) ((g (co y) : ℝ) : EReal) = ((r / g (co y) : ℝ) : EReal)
  rw [Ideal.div_coe (hg _), ← EReal.coe_mul, mul_one_div]
theorem tanh_ar : tanh (ar (φ := φ) co f) = ar co fun k => Real.tanh (f k) := rfl
theorem hostTanh_ar : Host.tanh (ar (φ := φ) co f) = ar co fun k => Real.tanh (f k) := rfl
theorem hostExp_ar : Host.exp (ar (φ := φ) co f) = ar co fun k => Real.exp (f k) := rfl
theorem hostNegf_ar : Host.negf (ar (φ := φ) co f) = ar co fun k => -f k := rfl
theorem truncf_ar {ψ : FTy} (h : ψ.bits < φ.bits) : truncf ψ (ar (φ := φ) co f) h = ar co f := rfl
theorem extf_ar {ψ : FTy} (h : φ.bits < ψ.bits) : extf ψ (ar (φ := φ) co f) h = ar co f := rfl

theorem rsqrt_aux {x : ℝ} (hx : 0 < x) : Ideal.rsqrt ((x : ℝ) : EReal) = (((Real.sqrt x)⁻¹ : ℝ) : EReal) := by
  show (if x < 0 then (⊥ : EReal) else if x = 0 then ⊤ else ((Real.sqrt x)⁻¹ : ℝ)) = _
  rw [if_neg (not_lt.2 hx.le), if_neg hx.ne']
theorem rsqrt_ar (hf : ∀ k, 0 < f k) : rsqrt (ar (φ := φ) co f) = ar co fun k => (Real.sqrt (f k))⁻¹ :=
  funext fun y => rsqrt_aux (hf (co y))
theorem hostRsqrt_ar (hf : ∀ k, 0 < f k) : Host.rsqrt (ar (φ := φ) co f) = ar co fun k => (Real.sqrt (f k))⁻¹ :=
  funext fun y => rsqrt_aux (hf (co y))

/-- The logistic function. -/
def sig (x : ℝ) : ℝ := 1 / (1 + Real.exp (-x))

theorem logistic_ar : logistic (ar (φ := φ) co f) = ar co fun k => sig (f k) := by
  funext y
  show Ideal.div 1 (1 + ((Real.exp (-f (co y)) : ℝ) : EReal)) = ((sig (f (co y)) : ℝ) : EReal)
  have h : (1 : ℝ) + Real.exp (-f (co y)) ≠ 0 := (by positivity : (0 : ℝ) < 1 + Real.exp (-f (co y))).ne'
  rw [show (1 : EReal) = ((1 : ℝ) : EReal) from rfl, ← EReal.coe_add, Ideal.div_coe h, ← EReal.coe_mul, sig, one_mul]
end pointwise

theorem broadcast_re {s : Shape} {φ : FTy} (r : ℝ) : broadcast s (re (φ := φ) r) = cst r := rfl

/-! Literals. -/
theorem lit_zero : (Scalar.ofBits .f32 0x00000000#32 : Ideal .f32) = re 0 := by
  show Ideal.ofBits .f32 _ = ((0 : ℝ) : EReal); simp [Ideal.ofBits, Ideal.ieee]
theorem lit_half : (Scalar.ofBits .f32 0x3F000000#32 : Ideal .f32) = re (1 / 2) := by
  show Ideal.ofBits .f32 _ = ((1 / 2 : ℝ) : EReal); simp [Ideal.ofBits, Ideal.ieee, -EReal.coe_mul]; norm_num
theorem lit_one : (Scalar.ofBits .f32 0x3F800000#32 : Ideal .f32) = re 1 := by
  show Ideal.ofBits .f32 _ = ((1 : ℝ) : EReal); simp [Ideal.ofBits, Ideal.ieee, -EReal.coe_mul]; norm_num
theorem lit_256 : (Scalar.ofBits .f32 0x43800000#32 : Ideal .f32) = re 256 := by
  show Ideal.ofBits .f32 _ = ((256 : ℝ) : EReal); simp [Ideal.ofBits, Ideal.ieee, -EReal.coe_mul]; norm_num
/-- The layer norm's epsilon, as the two programs hold it. -/
def eps : ℝ := 10995116 / 1099511627776
theorem eps_pos : 0 < eps := by norm_num [eps]
theorem lit_eps : (Scalar.ofBits .f32 0x3727C5AC#32 : Ideal .f32) = re eps := by
  show Ideal.ofBits .f32 _ = ((eps : ℝ) : EReal); simp [Ideal.ofBits, Ideal.ieee, -EReal.coe_mul, eps]; norm_num

/-! Operations that move elements. -/
section layout
variable {φ : FTy}

theorem shapeCast_col {n : ℕ} (f : ℕ → ℝ) (h : (Sh1 n).ShapeCasts (Sh2 n 1)) :
    shapeCast (Sh2 n 1) (ar (φ := φ) i1 f) h = ar i2 fun k => f k.1 := by
  funext y
  exact shapeCast_apply _ h y (fun a => match a with | ⟨0, _⟩ => y 0) (by
    rw [Shape.rowMajor_val_one, Shape.rowMajor_val_two]
    have h1 : (y 1).val < 1 := (y 1).isLt
    show (y 0).val = (y 0).val * 1 + (y 1).val
    omega)
theorem shapeCast_row {n : ℕ} (f : ℕ → ℝ) (h : (Sh1 n).ShapeCasts (Sh2 1 n)) :
    shapeCast (Sh2 1 n) (ar (φ := φ) i1 f) h = ar i2 fun k => f k.2 := by
  funext y
  exact shapeCast_apply _ h y (fun a => match a with | ⟨0, _⟩ => y 1) (by
    rw [Shape.rowMajor_val_one, Shape.rowMajor_val_two]
    have h1 : (y 0).val < 1 := (y 0).isLt
    show (y 1).val = (y 0).val * n + (y 1).val
    rw [show (y 0).val = 0 by omega]; omega)
theorem shapeCast_drop {m n : ℕ} (f : ℕ × ℕ × ℕ → ℝ) (h : (Sh3 1 m n).ShapeCasts (Sh2 m n)) :
    shapeCast (Sh2 m n) (ar (φ := φ) i3 f) h = ar i2 fun k => f (0, k.1, k.2) := by
  funext y
  exact shapeCast_apply _ h y (fun a => match a with | ⟨0, _⟩ => ⟨0, Nat.one_pos⟩ | ⟨1, _⟩ => y 0 | ⟨2, _⟩ => y 1) (by
    rw [Shape.rowMajor_val_two, Shape.rowMajor_val_three]
    show (0 * m + (y 0).val) * n + (y 1).val = (y 0).val * n + (y 1).val
    rw [zero_mul, zero_add])
theorem shapeCast_lead {m n : ℕ} (f : ℕ × ℕ → ℝ) (h : (Sh2 m n).ShapeCasts (Sh3 1 m n)) :
    shapeCast (Sh3 1 m n) (ar (φ := φ) i2 f) h = ar i3 fun k => f (k.2.1, k.2.2) := by
  funext y
  exact shapeCast_apply _ h y (fun a => match a with | ⟨0, _⟩ => y 1 | ⟨1, _⟩ => y 2) (by
    rw [Shape.rowMajor_val_two, Shape.rowMajor_val_three]
    have h1 : (y 0).val < 1 := (y 0).isLt
    show (y 1).val * n + (y 2).val = ((y 0).val * m + (y 1).val) * n + (y 2).val
    rw [show (y 0).val = 0 by omega, zero_mul, zero_add])
theorem shapeCast_fold {m a b n : ℕ} (f : ℕ × ℕ → ℝ) (h : (Sh2 m n).ShapeCasts (Sh3 a b n)) (hm : m = a * b) :
    shapeCast (Sh3 a b n) (ar (φ := φ) i2 f) h = ar i3 fun k => f (k.1 * b + k.2.1, k.2.2) := by
  funext y
  subst hm
  have h0 : (y 0).val < a := (y 0).isLt
  have h1 : (y 1).val < b := (y 1).isLt
  have hlt : (y 0).val * b + (y 1).val < a * b := by
    calc (y 0).val * b + (y 1).val < (y 0).val * b + b := by omega
      _ = ((y 0).val + 1) * b := by ring
      _ ≤ a * b := Nat.mul_le_mul_right b h0
  exact shapeCast_apply _ h y (fun c => match c with | ⟨0, _⟩ => ⟨(y 0).val * b + (y 1).val, hlt⟩ | ⟨1, _⟩ => y 2) (by
    rw [Shape.rowMajor_val_two, Shape.rowMajor_val_three]
    show ((y 0).val * b + (y 1).val) * n + (y 2).val = ((y 0).val * b + (y 1).val) * n + (y 2).val
    rfl)
theorem shapeCast_same {s : Shape} {α : Type} (x : s.Idx → α) (h : s.ShapeCasts s) : shapeCast s x h = x := by
  funext y
  exact shapeCast_apply _ h y y rfl

theorem broadcastTo_col {n m : ℕ} (f : ℕ × ℕ → ℝ) (h : (Sh2 n 1).Broadcasts (Sh2 n m)) :
    broadcastTo (Sh2 n m) (ar (φ := φ) i2 f) h = ar i2 fun k => f (k.1, 0) := by
  funext y
  refine (broadcastTo_apply _ h y (fun a => match a with | ⟨0, _⟩ => y 0 | ⟨1, _⟩ => ⟨0, Nat.one_pos⟩) ?_).trans rfl
  intro a
  match a with
  | ⟨0, _⟩ =>
    have h0 : (y 0).val < n := (y 0).isLt
    show (y 0).val = if n = 1 then 0 else (y 0).val
    split <;> omega
  | ⟨1, _⟩ => rfl
theorem broadcastTo_row {n m : ℕ} (f : ℕ × ℕ → ℝ) (h : (Sh2 1 m).Broadcasts (Sh2 n m)) :
    broadcastTo (Sh2 n m) (ar (φ := φ) i2 f) h = ar i2 fun k => f (0, k.2) := by
  funext y
  refine (broadcastTo_apply _ h y (fun a => match a with | ⟨0, _⟩ => ⟨0, Nat.one_pos⟩ | ⟨1, _⟩ => y 1) ?_).trans rfl
  intro a
  match a with
  | ⟨0, _⟩ => rfl
  | ⟨1, _⟩ =>
    have h0 : (y 1).val < m := (y 1).isLt
    show (y 1).val = if m = 1 then 0 else (y 1).val
    split <;> omega
theorem extractStridedSlice_ar {m n m' n' : ℕ} (o p : ℕ) (f : ℕ × ℕ → ℝ) (h : (Sh2 m n).Slices ![o, p] (Sh2 m' n')) :
    extractStridedSlice (Sh2 m' n') ![o, p] (ar (φ := φ) i2 f) h = ar i2 fun k => f (o + k.1, p + k.2) := rfl

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem multiReduction_last {n m : ℕ} (f : ℕ × ℕ → ℝ) (acc : BitVec φ.bits) (h : (Sh2 n m).Reduces [1] (Sh1 n))
    (hφ : FKind.Formats φ) (hacc : acc = FKind.add.neutral φ hφ) :
    multiReduction .add [1] (Sh1 n) (ar (φ := φ) i2 f) acc h hφ hacc = ar i1 fun r => ∑ e : Fin m, f (r, e.val) := by
  funext y
  rw [Ideal.multiReduction_add_single]
  exact coe_sum (Finset.univ : Finset (Fin m)) fun e => f ((y 0).val, e.val)
theorem multiReduction_first {n m : ℕ} (f : ℕ × ℕ → ℝ) (acc : BitVec φ.bits) (h : (Sh2 n m).Reduces [0] (Sh1 m))
    (hφ : FKind.Formats φ) (hacc : acc = FKind.add.neutral φ hφ) :
    multiReduction .add [0] (Sh1 m) (ar (φ := φ) i2 f) acc h hφ hacc = ar i1 fun e => ∑ r : Fin n, f (r.val, e) := by
  funext y
  rw [Ideal.multiReduction_add_single]
  exact coe_sum (Finset.univ : Finset (Fin n)) fun r => f (r.val, (y 0).val)
theorem multiReduction_fold {a b n : ℕ} (f : ℕ × ℕ × ℕ → ℝ) (acc : BitVec φ.bits) (h : (Sh3 a b n).Reduces [0] (Sh2 b n))
    (hφ : FKind.Formats φ) (hacc : acc = FKind.add.neutral φ hφ) :
    multiReduction .add [0] (Sh2 b n) (ar (φ := φ) i3 f) acc h hφ hacc
      = ar i2 fun k => ∑ q : Fin a, f (q.val, k.1, k.2) := by
  funext y
  rw [Ideal.multiReduction_add_single]
  exact coe_sum (Finset.univ : Finset (Fin a)) fun q => f (q.val, (y 0).val, (y 1).val)
end layout

end Mixer

end
-- ==== Proof.Spec.lean ====
/- The mathematics of the two mixers' backward pass, on real numbers: what every element of every result is, written in
   the coordinates head `h`, chunk `n`, row `r` of the chunk and column `e` of the head, or in the flat time `t` and
   column `c`. -/
module

public import proofs.«01_k».proof.Proof.Lift

@[expose] public section

noncomputable section

namespace Mixer

/-- The arguments as real arrays. -/
structure Data where
  da : ℕ → ℕ → ℝ
  db : ℕ → ℕ → ℝ
  woa : ℕ → ℕ → ℝ
  wob : ℕ → ℕ → ℝ
  p : ℕ → ℕ → ℕ → ℝ
  lg : ℕ → ℝ
  lb : ℕ → ℝ
  ws : ℕ → ℕ → ℕ → ℝ
  bs : ℕ → ℕ → ℝ
  cw : ℕ → ℕ → ℝ
  cb : ℕ → ℝ

/-- The constants of jax's gelu: `√(2/π)` and `0.044715` to float32. -/
def c0 : ℝ := 6693141 / 8388608
def c1 : ℝ := 12003091 / 268435456

/-- `tanh (c0 (u + c1 u³))`, as the kernel groups it. -/
def geluT (u : ℝ) : ℝ := Real.tanh (u * (c0 + c0 * c1 * (u * u)))
/-- gelu, and its derivative. -/
def gelu (u : ℝ) : ℝ := u * (1 / 2 * geluT u + 1 / 2)
def geluD (u : ℝ) : ℝ :=
  1 / 2 * geluT u + 1 / 2 + 1 / 2 * u * (1 - geluT u * geluT u) * (c0 + 3 * c0 * c1 * (u * u))
/-- silu, and its derivative. -/
def silu (z : ℝ) : ℝ := z * sig z
def siluD (z : ℝ) : ℝ := sig z + z * sig z * (1 - sig z)
/-- The mean over a head's 256 columns. -/
def mean (f : ℕ → ℝ) : ℝ := (∑ e : Fin 256, f e.val) / 256

namespace Data
variable (D : Data)

/-- The gradients of the two mixers' outputs. -/
def dya (t c : ℕ) : ℝ := ∑ k : Fin 2048, D.da t k.val * D.woa c k.val
def dyb (t c : ℕ) : ℝ := ∑ k : Fin 2048, D.db t k.val * D.wob c k.val

/-! The gated mixer, per head and chunk. -/
def Y (h n r e : ℕ) : ℝ := D.dya (128 * n + r) (256 * h + e)
def U (h n r e : ℕ) : ℝ := D.p 0 (128 * n + r) (256 * h + e)
def V (h n r e : ℕ) : ℝ := D.p 1 (128 * n + r) (256 * h + e)
def Z (h n r e : ℕ) : ℝ := D.p 2 (128 * n + r) (256 * h + e)
def G (h e : ℕ) : ℝ := D.lg (256 * h + e)
def Bt (h e : ℕ) : ℝ := D.lb (256 * h + e)
def gv (h n r e : ℕ) : ℝ := gelu (D.V h n r e)
def cen (h n r e : ℕ) : ℝ := D.gv h n r e - mean (D.gv h n r)
def rstd (h n r : ℕ) : ℝ := (Real.sqrt (mean (fun e => D.cen h n r e * D.cen h n r e) + eps))⁻¹
def vhat (h n r e : ℕ) : ℝ := D.cen h n r e * D.rstd h n r
def vn (h n r e : ℕ) : ℝ := D.vhat h n r e * D.G h e + D.Bt h e
/-- The causal mixing weights. -/
def wm (h r s : ℕ) : ℝ := if s ≤ r then D.ws h r s else 0
def mixed (h n r e : ℕ) : ℝ := (∑ s : Fin 128, D.wm h r s.val * D.vn h n s.val e) + D.bs h r
def t1 (h n r e : ℕ) : ℝ := D.Y h n r e * silu (D.Z h n r e)
def dmix (h n r e : ℕ) : ℝ := D.t1 h n r e * gelu (D.U h n r e)
def dvn (h n r e : ℕ) : ℝ := ∑ s : Fin 128, D.wm h s.val r * D.dmix h n s.val e
def dvh (h n r e : ℕ) : ℝ := D.dvn h n r e * D.G h e
/-- The gradients of the three pre-activations of the gated mixer. -/
def slot0 (h n r e : ℕ) : ℝ := D.t1 h n r e * D.mixed h n r e * geluD (D.U h n r e)
def slot1 (h n r e : ℕ) : ℝ :=
  D.rstd h n r * (D.dvh h n r e - mean (D.dvh h n r) - D.vhat h n r e * mean (fun e => D.dvh h n r e * D.vhat h n r e))
    * geluD (D.V h n r e)
def slot2 (h n r e : ℕ) : ℝ := D.Y h n r e * gelu (D.U h n r e) * D.mixed h n r e * siluD (D.Z h n r e)

/-! The convolution mixer, per time and column. -/
/-- The convolution's input, at time `t - 2`: zero before the start. -/
def hp (t c : ℕ) : ℝ := if 2 ≤ t then D.p 4 (t - 2) c * D.p 3 (t - 2) c else 0
def hh (t c : ℕ) : ℝ := D.p 4 t c * D.p 3 t c
def conv (t c : ℕ) : ℝ := D.cb c + D.cw 0 c * D.hp t c + D.cw 1 c * D.hp (t + 1) c + D.cw 2 c * D.hp (t + 2) c
/-- The gradient of the convolution's output: zero past the end. -/
def dcv (t c : ℕ) : ℝ := if t < 8192 then D.dyb t c * D.p 5 t c * silu (D.p 6 t c) else 0
def dh (t c : ℕ) : ℝ := D.cw 2 c * D.dcv t c + D.cw 1 c * D.dcv (t + 1) c + D.cw 0 c * D.dcv (t + 2) c
def slot3 (t c : ℕ) : ℝ := D.dh t c * D.p 4 t c
def slot4 (t c : ℕ) : ℝ := D.dh t c * D.p 3 t c
def slot5 (t c : ℕ) : ℝ := D.dyb t c * D.conv t c * silu (D.p 6 t c)
def slot6 (t c : ℕ) : ℝ := D.dyb t c * D.p 5 t c * D.conv t c * siluD (D.p 6 t c)

/-- The gradient of pre-activation `k`, `k < 7`, at time `t` and column `c`. -/
def dp (k t c : ℕ) : ℝ :=
  match k with
  | 0 => D.slot0 (c / 256) (t / 128) (t % 128) (c % 256)
  | 1 => D.slot1 (c / 256) (t / 128) (t % 128) (c % 256)
  | 2 => D.slot2 (c / 256) (t / 128) (t % 128) (c % 256)
  | 3 => D.slot3 t c
  | 4 => D.slot4 t c
  | 5 => D.slot5 t c
  | _ => D.slot6 t c

/-! The gradients of the parameters. -/
def gws (h r s : ℕ) : ℝ :=
  if s ≤ r then ∑ n : Fin 64, ∑ e : Fin 256, D.dmix h n.val r e.val * D.vn h n.val s e.val else 0
def gbs (h r : ℕ) : ℝ := ∑ n : Fin 64, ∑ e : Fin 256, D.dmix h n.val r e.val
def glg (c : ℕ) : ℝ :=
  ∑ n : Fin 64, ∑ r : Fin 128, D.dvn (c / 256) n.val r.val (c % 256) * D.vhat (c / 256) n.val r.val (c % 256)
def glb (c : ℕ) : ℝ := ∑ n : Fin 64, ∑ r : Fin 128, D.dvn (c / 256) n.val r.val (c % 256)
def gcw (j c : ℕ) : ℝ := ∑ t : Fin 8192, D.dcv (t.val + (2 - j)) c * D.hh t.val c
def gcb (c : ℕ) : ℝ := ∑ t : Fin 8192, D.dcv t.val c

end Data
end Mixer

end
-- ==== Proof.RefLift.lean ====
/- The reference's array operations on arrays of reals, at the shapes it uses: flat arrays in time and column, arrays split
   into chunk, row, head and column of the head, and the sums and products over them. -/
module

public import proofs.«01_k».proof.Proof.Gen.ReferenceIdeal
public import proofs.«01_k».proof.Proof.Spec

@[expose] public section

set_option maxRecDepth 16384

noncomputable section

namespace Mixer.Ref

open Idealize.ShloMosaic Idealize.SL.Sem Cert.ReferenceIdeal Cert.ReferenceIdeal.Gen

/-! The kinds of arrays. `f` takes a time and a column, `F` a head, a chunk, a row of the chunk and a column of the head. -/
def a3 (f : ℕ → ℕ → ℝ) : FVec Ideal S1x8192x2048 .f32 := ar i3 fun k => f k.2.1 k.2.2
def a5 (F : ℕ → ℕ → ℕ → ℕ → ℝ) : FVec Ideal S1x64x128x8x256 .f32 := ar i5 fun k => F k.2.2.2.1 k.2.1 k.2.2.1 k.2.2.2.2
def aT (F : ℕ → ℕ → ℕ → ℕ → ℝ) : FVec Ideal S8x1x64x256x128 .f32 := ar i5 fun k => F k.1 k.2.2.1 k.2.2.2.2 k.2.2.2.1
/-- Without the head's columns, and with that axis of size one. -/
def a4 (F : ℕ → ℕ → ℕ → ℝ) : FVec Ideal S1x64x128x8 .f32 := ar i4 fun k => F k.2.2.2 k.2.1 k.2.2.1
def a51 (F : ℕ → ℕ → ℕ → ℝ) : FVec Ideal S1x64x128x8x1 .f32 := ar i5 fun k => F k.2.2.2.1 k.2.1 k.2.2.1
def a3h (F : ℕ → ℕ → ℕ → ℝ) : FVec Ideal S64x128x8 .f32 := ar i3 fun k => F k.2.2 k.1 k.2.1
/-- Per head and column of the head. -/
def he2 (F : ℕ → ℕ → ℝ) : FVec Ideal S8x256 .f32 := ar i2 fun k => F k.1 k.2
def he3 (F : ℕ → ℕ → ℝ) : FVec Ideal S1x8x256 .f32 := ar i3 fun k => F k.2.1 k.2.2
def he5 (F : ℕ → ℕ → ℝ) : FVec Ideal S1x1x1x8x256 .f32 := ar i5 fun k => F k.2.2.2.1 k.2.2.2.2
/-- Per head and row. -/
def rh2 (F : ℕ → ℕ → ℝ) : FVec Ideal S128x8 .f32 := ar i2 fun k => F k.2 k.1
def rh3 (F : ℕ → ℕ → ℝ) : FVec Ideal S1x128x8 .f32 := ar i3 fun k => F k.2.2 k.2.1
def rh5 (F : ℕ → ℕ → ℝ) : FVec Ideal S1x1x128x8x1 .f32 := ar i5 fun k => F k.2.2.2.1 k.2.2.1
/-- Per column. -/
def c1d (f : ℕ → ℝ) : FVec Ideal S2048 .f32 := ar i1 f
def c2d (f : ℕ → ℝ) : FVec Ideal S1x2048 .f32 := ar i2 fun k => f k.2
def c3d (f : ℕ → ℝ) : FVec Ideal S1x1x2048 .f32 := ar i3 fun k => f k.2.2
/-- In time and column, with two rows more. -/
def aP (f : ℕ → ℕ → ℝ) : FVec Ideal S1x8194x2048 .f32 := ar i3 fun k => f k.2.1 k.2.2
/-- Per head, row and column of the mixing weights. -/
def w3 (F : ℕ → ℕ → ℕ → ℝ) : FVec Ideal S8x128x128 .f32 := ar i3 fun k => F k.1 k.2.1 k.2.2
/-- Per tap and column. -/
def t2 (F : ℕ → ℕ → ℝ) : FVec Ideal S3x2048 .f32 := ar i2 fun k => F k.1 k.2

section casts
variable (f : ℕ → ℕ → ℝ) (F : ℕ → ℕ → ℕ → ℕ → ℝ) (H : ℕ → ℕ → ℕ → ℝ) (E : ℕ → ℕ → ℝ) (c : ℕ → ℝ)

theorem split_a3 : shapeCast S1x64x128x8x256 (a3 f) shapeCasts_S1x8192x2048_S1x64x128x8x256
    = a5 fun h n r e => f (128 * n + r) (256 * h + e) := by
  funext y
  have h0 : (y 0).val < 1 := (y 0).isLt
  have h1 : (y 1).val < 64 := (y 1).isLt
  have h2 : (y 2).val < 128 := (y 2).isLt
  have h3 : (y 3).val < 8 := (y 3).isLt
  have h4 : (y 4).val < 256 := (y 4).isLt
  exact shapeCast_apply _ shapeCasts_S1x8192x2048_S1x64x128x8x256 y (fun a => match a with
    | ⟨0, _⟩ => ⟨0, Nat.one_pos⟩
    | ⟨1, _⟩ => ⟨128 * (y 1).val + (y 2).val, by show _ < 8192; omega⟩
    | ⟨2, _⟩ => ⟨256 * (y 3).val + (y 4).val, by show _ < 2048; omega⟩) (by
      rw [Shape.rowMajor_val_three, Shape.rowMajor_val_five]
      show (0 * 8192 + (128 * (y 1).val + (y 2).val)) * 2048 + (256 * (y 3).val + (y 4).val)
        = ((((y 0).val * 64 + (y 1).val) * 128 + (y 2).val) * 8 + (y 3).val) * 256 + (y 4).val
      omega)
theorem join_a5 : shapeCast S1x8192x2048 (a5 F) shapeCasts_S1x64x128x8x256_S1x8192x2048
    = a3 fun t c => F (c / 256) (t / 128) (t % 128) (c % 256) := by
  funext y
  have h0 : (y 0).val < 1 := (y 0).isLt
  have h1 : (y 1).val < 8192 := (y 1).isLt
  have h2 : (y 2).val < 2048 := (y 2).isLt
  exact shapeCast_apply _ shapeCasts_S1x64x128x8x256_S1x8192x2048 y (fun a => match a with
    | ⟨0, _⟩ => ⟨0, Nat.one_pos⟩
    | ⟨1, _⟩ => ⟨(y 1).val / 128, by show _ < 64; omega⟩
    | ⟨2, _⟩ => ⟨(y 1).val % 128, by show _ < 128; omega⟩
    | ⟨3, _⟩ => ⟨(y 2).val / 256, by show _ < 8; omega⟩
    | ⟨4, _⟩ => ⟨(y 2).val % 256, by show _ < 256; omega⟩) (by
      rw [Shape.rowMajor_val_three, Shape.rowMajor_val_five]
      show (((0 * 64 + (y 1).val / 128) * 128 + (y 1).val % 128) * 8 + (y 2).val / 256) * 256 + (y 2).val % 256
        = ((y 0).val * 8192 + (y 1).val) * 2048 + (y 2).val
      omega)
theorem cast_a4 : shapeCast S1x64x128x8x1 (a4 H) shapeCasts_S1x64x128x8_S1x64x128x8x1 = a51 H := by
  funext y
  have h4 : (y 4).val < 1 := (y 4).isLt
  exact shapeCast_apply _ shapeCasts_S1x64x128x8_S1x64x128x8x1 y (fun a => match a with
    | ⟨0, _⟩ => y 0 | ⟨1, _⟩ => y 1 | ⟨2, _⟩ => y 2 | ⟨3, _⟩ => y 3) (by
      rw [Shape.rowMajor_val_four, Shape.rowMajor_val_five]
      show (((y 0).val * 64 + (y 1).val) * 128 + (y 2).val) * 8 + (y 3).val
        = ((((y 0).val * 64 + (y 1).val) * 128 + (y 2).val) * 8 + (y 3).val) * 1 + (y 4).val
      omega)
theorem cast_he3 : shapeCast S1x1x1x8x256 (he3 E) shapeCasts_S1x8x256_S1x1x1x8x256 = he5 E := by
  funext y
  have h0 : (y 0).val < 1 := (y 0).isLt
  have h1 : (y 1).val < 1 := (y 1).isLt
  have h2 : (y 2).val < 1 := (y 2).isLt
  exact shapeCast_apply _ shapeCasts_S1x8x256_S1x1x1x8x256 y (fun a => match a with
    | ⟨0, _⟩ => y 0 | ⟨1, _⟩ => y 3 | ⟨2, _⟩ => y 4) (by
      rw [Shape.rowMajor_val_three, Shape.rowMajor_val_five]
      show ((y 0).val * 8 + (y 3).val) * 256 + (y 4).val
        = ((((y 0).val * 1 + (y 1).val) * 1 + (y 2).val) * 8 + (y 3).val) * 256 + (y 4).val
      omega)
theorem cast_rh3 : shapeCast S1x1x128x8x1 (rh3 E) shapeCasts_S1x128x8_S1x1x128x8x1 = rh5 E := by
  funext y
  have h0 : (y 0).val < 1 := (y 0).isLt
  have h1 : (y 1).val < 1 := (y 1).isLt
  have h2 : (y 4).val < 1 := (y 4).isLt
  exact shapeCast_apply _ shapeCasts_S1x128x8_S1x1x128x8x1 y (fun a => match a with
    | ⟨0, _⟩ => y 0 | ⟨1, _⟩ => y 2 | ⟨2, _⟩ => y 3) (by
      rw [Shape.rowMajor_val_three, Shape.rowMajor_val_five]
      show ((y 0).val * 128 + (y 2).val) * 8 + (y 3).val
        = ((((y 0).val * 1 + (y 1).val) * 128 + (y 2).val) * 8 + (y 3).val) * 1 + (y 4).val
      omega)
theorem split_c1d : shapeCast S8x256 (c1d c) shapeCasts_S2048_S8x256 = he2 fun h e => c (256 * h + e) := by
  funext y
  have h0 : (y 0).val < 8 := (y 0).isLt
  have h1 : (y 1).val < 256 := (y 1).isLt
  exact shapeCast_apply _ shapeCasts_S2048_S8x256 y (fun a => match a with
    | ⟨0, _⟩ => ⟨256 * (y 0).val + (y 1).val, by show _ < 2048; omega⟩) (by
      rw [Shape.rowMajor_val_one, Shape.rowMajor_val_two]
      show 256 * (y 0).val + (y 1).val = (y 0).val * 256 + (y 1).val
      omega)
theorem join_he2 : shapeCast S2048 (he2 E) shapeCasts_S8x256_S2048 = c1d fun k => E (k / 256) (k % 256) := by
  funext y
  have h0 : (y 0).val < 2048 := (y 0).isLt
  exact shapeCast_apply _ shapeCasts_S8x256_S2048 y (fun a => match a with
    | ⟨0, _⟩ => ⟨(y 0).val / 256, by show _ < 8; omega⟩
    | ⟨1, _⟩ => ⟨(y 0).val % 256, by show _ < 256; omega⟩) (by
      rw [Shape.rowMajor_val_one, Shape.rowMajor_val_two]
      show (y 0).val / 256 * 256 + (y 0).val % 256 = (y 0).val
      omega)
theorem cast_c2d : shapeCast S2048 (c2d c) shapeCasts_S1x2048_S2048 = c1d c := by
  funext y
  exact shapeCast_apply _ shapeCasts_S1x2048_S2048 y (fun a => match a with
    | ⟨0, _⟩ => ⟨0, Nat.one_pos⟩ | ⟨1, _⟩ => y 0) (by
      rw [Shape.rowMajor_val_one, Shape.rowMajor_val_two]
      show 0 * 2048 + (y 0).val = (y 0).val
      omega)
theorem cast_c2d_c3d : shapeCast S1x1x2048 (c2d c) shapeCasts_S1x2048_S1x1x2048 = c3d c := by
  funext y
  have h0 : (y 0).val < 1 := (y 0).isLt
  have h1 : (y 1).val < 1 := (y 1).isLt
  exact shapeCast_apply _ shapeCasts_S1x2048_S1x1x2048 y (fun a => match a with
    | ⟨0, _⟩ => y 0 | ⟨1, _⟩ => y 2) (by
      rw [Shape.rowMajor_val_two, Shape.rowMajor_val_three]
      show (y 0).val * 2048 + (y 2).val = ((y 0).val * 1 + (y 1).val) * 2048 + (y 2).val
      omega)

/-! Broadcasts. -/
theorem bc_re {t : Shape} {φ : FTy} (r : ℝ) (dims : Fin S_.rank → Fin t.rank) (h : S_.BroadcastsInDim t dims) :
    broadcastInDim t dims h (cst (φ := φ) r) = cst r := rfl
theorem bc_a4 (dims : Fin S1x64x128x8.rank → Fin S1x64x128x8x1.rank)
    (h : S1x64x128x8.BroadcastsInDim S1x64x128x8x1 dims) (hd : dims = ![0, 1, 2, 3]) :
    broadcastInDim S1x64x128x8x1 dims h (a4 H) = a51 H := by
  subst hd
  funext y
  have h0 : (y 0).val < 1 := (y 0).isLt
  exact broadcastInDim_apply _ bcast_S1x64x128x8_S1x64x128x8x1_0_1_2_3 _ y (fun a => match a with
    | ⟨0, _⟩ => y 0 | ⟨1, _⟩ => y 1 | ⟨2, _⟩ => y 2 | ⟨3, _⟩ => y 3) (by
      intro a
      match a with
      | ⟨0, _⟩ => show (y 0).val = 0; omega
      | ⟨1, _⟩ => rfl
      | ⟨2, _⟩ => rfl
      | ⟨3, _⟩ => rfl)
theorem bc_a51 (dims : Fin S1x64x128x8x1.rank → Fin S1x64x128x8x256.rank)
    (h : S1x64x128x8x1.BroadcastsInDim S1x64x128x8x256 dims) (hd : dims = ![0, 1, 2, 3, 4]) :
    broadcastInDim S1x64x128x8x256 dims h (a51 H)
    = a5 fun h n r _ => H h n r := by
  subst hd
  funext y
  have h0 : (y 0).val < 1 := (y 0).isLt
  exact broadcastInDim_apply _ bcast_S1x64x128x8x1_S1x64x128x8x256_0_1_2_3_4 _ y (fun a => match a with
    | ⟨0, _⟩ => y 0 | ⟨1, _⟩ => y 1 | ⟨2, _⟩ => y 2 | ⟨3, _⟩ => y 3 | ⟨4, _⟩ => ⟨0, Nat.one_pos⟩) (by
      intro a
      match a with
      | ⟨0, _⟩ => show (y 0).val = 0; omega
      | ⟨1, _⟩ => rfl
      | ⟨2, _⟩ => rfl
      | ⟨3, _⟩ => rfl
      | ⟨4, _⟩ => rfl)
theorem bc_a4_a5 (dims : Fin S1x64x128x8.rank → Fin S1x64x128x8x256.rank)
    (h : S1x64x128x8.BroadcastsInDim S1x64x128x8x256 dims) (hd : dims = ![0, 1, 2, 3]) :
    broadcastInDim S1x64x128x8x256 dims h (a4 H)
    = a5 fun h n r _ => H h n r := by
  subst hd
  funext y
  have h0 : (y 0).val < 1 := (y 0).isLt
  exact broadcastInDim_apply _ bcast_S1x64x128x8_S1x64x128x8x256_0_1_2_3 _ y (fun a => match a with
    | ⟨0, _⟩ => y 0 | ⟨1, _⟩ => y 1 | ⟨2, _⟩ => y 2 | ⟨3, _⟩ => y 3) (by
      intro a
      match a with
      | ⟨0, _⟩ => show (y 0).val = 0; omega
      | ⟨1, _⟩ => rfl
      | ⟨2, _⟩ => rfl
      | ⟨3, _⟩ => rfl)
theorem bc_a3h (dims : Fin S64x128x8.rank → Fin S1x64x128x8.rank)
    (h : S64x128x8.BroadcastsInDim S1x64x128x8 dims) (hd : dims = ![1, 2, 3]) :
    broadcastInDim S1x64x128x8 dims h (a3h H) = a4 H := by
  subst hd
  funext y
  exact broadcastInDim_apply _ bcast_S64x128x8_S1x64x128x8_1_2_3 _ y (fun a => match a with
    | ⟨0, _⟩ => y 1 | ⟨1, _⟩ => y 2 | ⟨2, _⟩ => y 3) (by
      intro a
      match a with
      | ⟨0, _⟩ => rfl
      | ⟨1, _⟩ => rfl
      | ⟨2, _⟩ => rfl)
theorem bc_he2 (dims : Fin S8x256.rank → Fin S1x1x1x8x256.rank)
    (h : S8x256.BroadcastsInDim S1x1x1x8x256 dims) (hd : dims = ![3, 4]) :
    broadcastInDim S1x1x1x8x256 dims h (he2 E) = he5 E := by
  subst hd
  funext y
  exact broadcastInDim_apply _ bcast_S8x256_S1x1x1x8x256_3_4 _ y (fun a => match a with
    | ⟨0, _⟩ => y 3 | ⟨1, _⟩ => y 4) (by
      intro a
      match a with
      | ⟨0, _⟩ => rfl
      | ⟨1, _⟩ => rfl)
theorem bc_he5 (dims : Fin S1x1x1x8x256.rank → Fin S1x64x128x8x256.rank)
    (h : S1x1x1x8x256.BroadcastsInDim S1x64x128x8x256 dims) (hd : dims = ![0, 1, 2, 3, 4]) :
    broadcastInDim S1x64x128x8x256 dims h (he5 E)
    = a5 fun h _ _ e => E h e := by
  subst hd
  funext y
  exact broadcastInDim_apply _ bcast_S1x1x1x8x256_S1x64x128x8x256_0_1_2_3_4 _ y (fun a => match a with
    | ⟨0, _⟩ => ⟨0, Nat.one_pos⟩ | ⟨1, _⟩ => ⟨0, Nat.one_pos⟩ | ⟨2, _⟩ => ⟨0, Nat.one_pos⟩ | ⟨3, _⟩ => y 3 | ⟨4, _⟩ => y 4) (by
      intro a
      match a with
      | ⟨0, _⟩ => rfl
      | ⟨1, _⟩ => rfl
      | ⟨2, _⟩ => rfl
      | ⟨3, _⟩ => rfl
      | ⟨4, _⟩ => rfl)
theorem bc_rh2 (dims : Fin S128x8.rank → Fin S1x1x128x8x1.rank)
    (h : S128x8.BroadcastsInDim S1x1x128x8x1 dims) (hd : dims = ![2, 3]) :
    broadcastInDim S1x1x128x8x1 dims h (rh2 E) = rh5 E := by
  subst hd
  funext y
  exact broadcastInDim_apply _ bcast_S128x8_S1x1x128x8x1_2_3 _ y (fun a => match a with
    | ⟨0, _⟩ => y 2 | ⟨1, _⟩ => y 3) (by
      intro a
      match a with
      | ⟨0, _⟩ => rfl
      | ⟨1, _⟩ => rfl)
theorem bc_rh5 (dims : Fin S1x1x128x8x1.rank → Fin S1x64x128x8x256.rank)
    (h : S1x1x128x8x1.BroadcastsInDim S1x64x128x8x256 dims) (hd : dims = ![0, 1, 2, 3, 4]) :
    broadcastInDim S1x64x128x8x256 dims h (rh5 E)
    = a5 fun h _ r _ => E h r := by
  subst hd
  funext y
  exact broadcastInDim_apply _ bcast_S1x1x128x8x1_S1x64x128x8x256_0_1_2_3_4 _ y (fun a => match a with
    | ⟨0, _⟩ => ⟨0, Nat.one_pos⟩ | ⟨1, _⟩ => ⟨0, Nat.one_pos⟩ | ⟨2, _⟩ => y 2 | ⟨3, _⟩ => y 3 | ⟨4, _⟩ => ⟨0, Nat.one_pos⟩) (by
      intro a
      match a with
      | ⟨0, _⟩ => rfl
      | ⟨1, _⟩ => rfl
      | ⟨2, _⟩ => rfl
      | ⟨3, _⟩ => rfl
      | ⟨4, _⟩ => rfl)
theorem bc_c1d (dims : Fin S2048.rank → Fin S1x2048.rank)
    (h : S2048.BroadcastsInDim S1x2048 dims) (hd : dims = ![1]) :
    broadcastInDim S1x2048 dims h (c1d c) = c2d c := by
  subst hd
  funext y
  exact broadcastInDim_apply _ bcast_S2048_S1x2048_1 _ y (fun a => match a with | ⟨0, _⟩ => y 1) (by
      intro a
      match a with
      | ⟨0, _⟩ => rfl)
theorem bc_c1d_c3d (dims : Fin S2048.rank → Fin S1x1x2048.rank)
    (h : S2048.BroadcastsInDim S1x1x2048 dims) (hd : dims = ![2]) :
    broadcastInDim S1x1x2048 dims h (c1d c) = c3d c := by
  subst hd
  funext y
  exact broadcastInDim_apply _ bcast_S2048_S1x1x2048_2 _ y (fun a => match a with | ⟨0, _⟩ => y 2) (by
      intro a
      match a with
      | ⟨0, _⟩ => rfl)
theorem bc_c3d (dims : Fin S1x1x2048.rank → Fin S1x8192x2048.rank)
    (h : S1x1x2048.BroadcastsInDim S1x8192x2048 dims) (hd : dims = ![0, 1, 2]) :
    broadcastInDim S1x8192x2048 dims h (c3d c) = a3 fun _ k => c k := by
  subst hd
  funext y
  exact broadcastInDim_apply _ bcast_S1x1x2048_S1x8192x2048_0_1_2 _ y (fun a => match a with
    | ⟨0, _⟩ => ⟨0, Nat.one_pos⟩ | ⟨1, _⟩ => ⟨0, Nat.one_pos⟩ | ⟨2, _⟩ => y 2) (by
      intro a
      match a with
      | ⟨0, _⟩ => rfl
      | ⟨1, _⟩ => rfl
      | ⟨2, _⟩ => rfl)
theorem bc_flat (dims : Fin S8192x2048.rank → Fin S1x8192x2048.rank)
    (h : S8192x2048.BroadcastsInDim S1x8192x2048 dims) (hd : dims = ![1, 2]) :
    broadcastInDim S1x8192x2048 dims h (ar (φ := .f32) i2 fun k => f k.1 k.2 : FVec Ideal S8192x2048 .f32) = a3 f := by
  subst hd
  funext y
  exact broadcastInDim_apply _ bcast_S8192x2048_S1x8192x2048_1_2 _ y (fun a => match a with
    | ⟨0, _⟩ => y 1 | ⟨1, _⟩ => y 2) (by
      intro a
      match a with
      | ⟨0, _⟩ => rfl
      | ⟨1, _⟩ => rfl)

/-! Transposes. -/
theorem tr_aT (perm : List (Fin S8x1x64x256x128.rank)) (h : S8x1x64x256x128.Transposes perm S1x64x128x8x256) (hd : perm = [1, 2, 4, 0, 3]) :
    transpose S1x64x128x8x256 perm (aT F) h = a5 F := by
  subst hd
  funext y
  exact transpose_apply _ _ transposes_S8x1x64x256x128_S1x64x128x8x256_1_2_4_0_3 y (fun a => match a with
    | ⟨0, _⟩ => y 3 | ⟨1, _⟩ => y 0 | ⟨2, _⟩ => y 1 | ⟨3, _⟩ => y 4 | ⟨4, _⟩ => y 2) (by
      intro b
      match b with
      | ⟨0, _⟩ => rfl
      | ⟨1, _⟩ => rfl
      | ⟨2, _⟩ => rfl
      | ⟨3, _⟩ => rfl
      | ⟨4, _⟩ => rfl)
theorem tr_a5 (perm : List (Fin S1x64x128x8x256.rank)) (h : S1x64x128x8x256.Transposes perm S8x1x64x256x128) (hd : perm = [3, 0, 1, 4, 2]) :
    transpose S8x1x64x256x128 perm (a5 F) h = aT F := by
  subst hd
  funext y
  exact transpose_apply _ _ transposes_S1x64x128x8x256_S8x1x64x256x128_3_0_1_4_2 y (fun a => match a with
    | ⟨0, _⟩ => y 1 | ⟨1, _⟩ => y 2 | ⟨2, _⟩ => y 4 | ⟨3, _⟩ => y 0 | ⟨4, _⟩ => y 3) (by
      intro b
      match b with
      | ⟨0, _⟩ => rfl
      | ⟨1, _⟩ => rfl
      | ⟨2, _⟩ => rfl
      | ⟨3, _⟩ => rfl
      | ⟨4, _⟩ => rfl)
theorem tr_bias (perm : List (Fin S8x128.rank)) (h : S8x128.Transposes perm S128x8) (hd : perm = [1, 0]) :
    transpose S128x8 perm (ar (φ := .f32) i2 fun k => E k.1 k.2 : FVec Ideal S8x128 .f32) h = rh2 E := by
  subst hd
  funext y
  exact transpose_apply _ _ transposes_S8x128_S128x8_1_0 y (fun a => match a with
    | ⟨0, _⟩ => y 1 | ⟨1, _⟩ => y 0) (by
      intro b
      match b with
      | ⟨0, _⟩ => rfl
      | ⟨1, _⟩ => rfl)
theorem tr_rh2 (perm : List (Fin S128x8.rank)) (h : S128x8.Transposes perm S8x128) (hd : perm = [1, 0]) :
    transpose S8x128 perm (rh2 E) h
    = (ar (φ := .f32) i2 fun k => E k.1 k.2 : FVec Ideal S8x128 .f32) := by
  subst hd
  funext y
  exact transpose_apply _ _ transposes_S128x8_S8x128_1_0 y (fun a => match a with
    | ⟨0, _⟩ => y 1 | ⟨1, _⟩ => y 0) (by
      intro b
      match b with
      | ⟨0, _⟩ => rfl
      | ⟨1, _⟩ => rfl)
theorem bc_bias (dims : Fin S8x128.rank → Fin S8x128x1.rank)
    (h : S8x128.BroadcastsInDim S8x128x1 dims) (hd : dims = ![0, 1]) :
    broadcastInDim S8x128x1 dims h (ar (φ := .f32) i2 fun k => E k.1 k.2 : FVec Ideal S8x128 .f32) = ar i3 fun k => E k.1 k.2.1 := by
  subst hd
  funext y
  exact broadcastInDim_apply _ bcast_S8x128_S8x128x1_0_1 _ y (fun a => match a with
    | ⟨0, _⟩ => y 0 | ⟨1, _⟩ => y 1) (by
      intro a
      match a with
      | ⟨0, _⟩ => rfl
      | ⟨1, _⟩ => rfl)
end casts

/-! Sums. -/

/-- The host's sum from zero over some axes: the sum over the indices `e j q` that agree with the result's index `j` on
    the axes kept, `q` running over the axes summed. -/
theorem hostReduce_bij {s t : Shape} {φ : FTy} {axes : List (Fin s.rank)} {κ κ' ι : Type} [Fintype ι]
    (h : s.ReducesTo axes t) (hu : 0 < S_.numel) (co : s.Idx → κ) (co' : t.Idx → κ') (f : κ → ℝ) (L : κ' → ι → κ)
    (e : t.Idx → ι → s.Idx) (he : ∀ j q, h.drop (e j q) = j) (inj : ∀ j, Function.Injective (e j))
    (surj : ∀ i, ∃ q, e (h.drop i) q = i) (hL : ∀ j q, co (e j q) = L (co' j) q) :
    Host.reduceAdd (ar (φ := φ) co f) (cst 0 : FVec Ideal S_ φ) h hu = ar co' fun k => ∑ q : ι, f (L k q) := by
  classical
  funext j
  show Ideal.hostReduceAdd h (ar (φ := φ) co f) (re (φ := φ) 0) j = re (∑ q : ι, f (L (co' j) q))
  unfold Ideal.hostReduceAdd
  have h0 : (re (φ := φ) 0 : EReal) = 0 := rfl
  rw [h0, zero_add]
  refine Eq.trans ?_ (coe_sum Finset.univ fun q : ι => f (L (co' j) q))
  refine (Finset.sum_bij (fun q _ => e j q) (fun q _ => ?_) (fun a _ b _ hab => inj j hab) (fun i hi => ?_) (fun q _ => ?_)).symm
  · rw [Finset.mem_filter]; exact ⟨Finset.mem_univ _, he j q⟩
  · rw [Finset.mem_filter] at hi
    obtain ⟨q, hq⟩ := surj i
    exact ⟨q, Finset.mem_univ _, by rw [← hi.2]; exact hq⟩
  · show ((f (L (co' j) q) : ℝ) : EReal) = ((f (co (e j q)) : ℝ) : EReal)
    rw [hL]

/-- The contents of an f32 zero. -/
theorem const_zero {s : Shape} : (constant s .f32 0x00000000#32 : FVec Ideal s .f32) = cst 0 := funext fun _ => lit_zero

section sums
variable (f : ℕ → ℕ → ℝ) (F : ℕ → ℕ → ℕ → ℕ → ℝ) (H : ℕ → ℕ → ℕ → ℝ) (E : ℕ → ℕ → ℝ) (c : ℕ → ℝ)

theorem sum_lanes : Host.reduceAdd (a5 F) (cst 0) reducesTo_S1x64x128x8x256_S1x64x128x8_d4 h_S_
    = a4 fun h n r => ∑ e : Fin 256, F h n r e.val :=
  hostReduce_bij (ι := Fin 256) _ h_S_ i5 i4 _ (fun k q => (k.1, k.2.1, k.2.2.1, k.2.2.2, q.val))
    (fun j q => fun a => match a with | ⟨0, _⟩ => j 0 | ⟨1, _⟩ => j 1 | ⟨2, _⟩ => j 2 | ⟨3, _⟩ => j 3 | ⟨4, _⟩ => q)
    (fun j q => funext fun b => match b with | ⟨0, _⟩ => rfl | ⟨1, _⟩ => rfl | ⟨2, _⟩ => rfl | ⟨3, _⟩ => rfl)
    (fun j a b hab => (congrFun hab (4 : Fin 5) : a = b))
    (fun i => ⟨i 4, funext fun a => match a with
      | ⟨0, _⟩ => rfl | ⟨1, _⟩ => rfl | ⟨2, _⟩ => rfl | ⟨3, _⟩ => rfl | ⟨4, _⟩ => rfl⟩)
    (fun _ _ => rfl)
theorem sum_cols : Host.reduceAdd (a5 F) (cst 0) reducesTo_S1x64x128x8x256_S1x128x8_d1_4 h_S_
    = rh3 fun h r => ∑ q : Fin 64 × Fin 256, F h q.1.val r q.2.val :=
  hostReduce_bij (ι := Fin 64 × Fin 256) _ h_S_ i5 i3 _ (fun k q => (k.1, q.1.val, k.2.1, k.2.2, q.2.val))
    (fun j q => fun a => match a with | ⟨0, _⟩ => j 0 | ⟨1, _⟩ => q.1 | ⟨2, _⟩ => j 1 | ⟨3, _⟩ => j 2 | ⟨4, _⟩ => q.2)
    (fun j q => funext fun b => match b with | ⟨0, _⟩ => rfl | ⟨1, _⟩ => rfl | ⟨2, _⟩ => rfl)
    (fun j a b hab => Prod.ext (congrFun hab (1 : Fin 5) : a.1 = b.1) (congrFun hab (4 : Fin 5) : a.2 = b.2))
    (fun i => ⟨(i 1, i 4), funext fun a => match a with
      | ⟨0, _⟩ => rfl | ⟨1, _⟩ => rfl | ⟨2, _⟩ => rfl | ⟨3, _⟩ => rfl | ⟨4, _⟩ => rfl⟩)
    (fun _ _ => rfl)
theorem sum_rows : Host.reduceAdd (a5 F) (cst 0) reducesTo_S1x64x128x8x256_S1x8x256_d1_2 h_S_
    = he3 fun h e => ∑ q : Fin 64 × Fin 128, F h q.1.val q.2.val e :=
  hostReduce_bij (ι := Fin 64 × Fin 128) _ h_S_ i5 i3 _ (fun k q => (k.1, q.1.val, q.2.val, k.2.1, k.2.2))
    (fun j q => fun a => match a with | ⟨0, _⟩ => j 0 | ⟨1, _⟩ => q.1 | ⟨2, _⟩ => q.2 | ⟨3, _⟩ => j 1 | ⟨4, _⟩ => j 2)
    (fun j q => funext fun b => match b with | ⟨0, _⟩ => rfl | ⟨1, _⟩ => rfl | ⟨2, _⟩ => rfl)
    (fun j a b hab => Prod.ext (congrFun hab (1 : Fin 5) : a.1 = b.1) (congrFun hab (2 : Fin 5) : a.2 = b.2))
    (fun i => ⟨(i 1, i 2), funext fun a => match a with
      | ⟨0, _⟩ => rfl | ⟨1, _⟩ => rfl | ⟨2, _⟩ => rfl | ⟨3, _⟩ => rfl | ⟨4, _⟩ => rfl⟩)
    (fun _ _ => rfl)
theorem sum_time : Host.reduceAdd (a3 f) (cst 0) reducesTo_S1x8192x2048_S1x2048_d1 h_S_
    = c2d fun k => ∑ t : Fin 8192, f t.val k :=
  hostReduce_bij (ι := Fin 8192) _ h_S_ i3 i2 _ (fun k q => (k.1, q.val, k.2))
    (fun j q => fun a => match a with | ⟨0, _⟩ => j 0 | ⟨1, _⟩ => q | ⟨2, _⟩ => j 1)
    (fun j q => funext fun b => match b with | ⟨0, _⟩ => rfl | ⟨1, _⟩ => rfl)
    (fun j a b hab => (congrFun hab (1 : Fin 3) : a = b))
    (fun i => ⟨i 1, funext fun a => match a with | ⟨0, _⟩ => rfl | ⟨1, _⟩ => rfl | ⟨2, _⟩ => rfl⟩)
    (fun _ _ => rfl)

/-- Two indices along an axis of size one. -/
theorem one_eq {n : ℕ} (hn : n = 1) (a b : Fin n) : a = b := Fin.ext (by have := a.isLt; have := b.isLt; omega)

theorem sum_c3d : Host.reduceAdd (c3d c) (cst 0) reducesTo_S1x1x2048_S2048_d0_1 h_S_ = c1d c := by
  refine (hostReduce_bij (ι := Unit) _ h_S_ i3 i1 _ (fun k _ => (0, 0, k))
    (fun j _ => fun a => match a with | ⟨0, _⟩ => ⟨0, Nat.one_pos⟩ | ⟨1, _⟩ => ⟨0, Nat.one_pos⟩ | ⟨2, _⟩ => j 0)
    (fun j q => funext fun b => match b with | ⟨0, _⟩ => rfl) (fun j a b _ => rfl)
    (fun i => ⟨(), funext fun a => match a with
      | ⟨0, _⟩ => one_eq rfl _ _ | ⟨1, _⟩ => one_eq rfl _ _ | ⟨2, _⟩ => rfl⟩) (fun _ _ => rfl)).trans ?_
  simp only [Finset.univ_unique, Finset.sum_singleton]; rfl
theorem sum_he5 : Host.reduceAdd (he5 E) (cst 0) reducesTo_S1x1x1x8x256_S8x256_d0_1_2 h_S_ = he2 E := by
  refine (hostReduce_bij (ι := Unit) _ h_S_ i5 i2 _ (fun k _ => (0, 0, 0, k))
    (fun j _ => fun a => match a with
      | ⟨0, _⟩ => ⟨0, Nat.one_pos⟩ | ⟨1, _⟩ => ⟨0, Nat.one_pos⟩ | ⟨2, _⟩ => ⟨0, Nat.one_pos⟩ | ⟨3, _⟩ => j 0 | ⟨4, _⟩ => j 1)
    (fun j q => funext fun b => match b with | ⟨0, _⟩ => rfl | ⟨1, _⟩ => rfl) (fun j a b _ => rfl)
    (fun i => ⟨(), funext fun a => match a with
      | ⟨0, _⟩ => one_eq rfl _ _ | ⟨1, _⟩ => one_eq rfl _ _ | ⟨2, _⟩ => one_eq rfl _ _ | ⟨3, _⟩ => rfl | ⟨4, _⟩ => rfl⟩)
    (fun _ _ => rfl)).trans ?_
  simp only [Finset.univ_unique, Finset.sum_singleton]; rfl
theorem sum_rh5 : Host.reduceAdd (rh5 E) (cst 0) reducesTo_S1x1x128x8x1_S128x8_d0_1_4 h_S_ = rh2 E := by
  refine (hostReduce_bij (ι := Unit) _ h_S_ i5 i2 _ (fun k _ => (0, 0, k.1, k.2, 0))
    (fun j _ => fun a => match a with
      | ⟨0, _⟩ => ⟨0, Nat.one_pos⟩ | ⟨1, _⟩ => ⟨0, Nat.one_pos⟩ | ⟨2, _⟩ => j 0 | ⟨3, _⟩ => j 1 | ⟨4, _⟩ => ⟨0, Nat.one_pos⟩)
    (fun j q => funext fun b => match b with | ⟨0, _⟩ => rfl | ⟨1, _⟩ => rfl) (fun j a b _ => rfl)
    (fun i => ⟨(), funext fun a => match a with
      | ⟨0, _⟩ => one_eq rfl _ _ | ⟨1, _⟩ => one_eq rfl _ _ | ⟨2, _⟩ => rfl | ⟨3, _⟩ => rfl | ⟨4, _⟩ => one_eq rfl _ _⟩)
    (fun _ _ => rfl)).trans ?_
  simp only [Finset.univ_unique, Finset.sum_singleton]; rfl
theorem sum_a51 : Host.reduceAdd (a51 H) (cst 0) reducesTo_S1x64x128x8x1_S64x128x8_d0_4 h_S_ = a3h H := by
  refine (hostReduce_bij (ι := Unit) _ h_S_ i5 i3 _ (fun k _ => (0, k.1, k.2.1, k.2.2, 0))
    (fun j _ => fun a => match a with
      | ⟨0, _⟩ => ⟨0, Nat.one_pos⟩ | ⟨1, _⟩ => j 0 | ⟨2, _⟩ => j 1 | ⟨3, _⟩ => j 2 | ⟨4, _⟩ => ⟨0, Nat.one_pos⟩)
    (fun j q => funext fun b => match b with | ⟨0, _⟩ => rfl | ⟨1, _⟩ => rfl | ⟨2, _⟩ => rfl) (fun j a b _ => rfl)
    (fun i => ⟨(), funext fun a => match a with
      | ⟨0, _⟩ => one_eq rfl _ _ | ⟨1, _⟩ => rfl | ⟨2, _⟩ => rfl | ⟨3, _⟩ => rfl | ⟨4, _⟩ => one_eq rfl _ _⟩)
    (fun _ _ => rfl)).trans ?_
  simp only [Finset.univ_unique, Finset.sum_singleton]; rfl
end sums

/-! Products. -/

/-- The host's product contracted over one axis of size `K`. -/
theorem hostDot_ar {sl sr so : Shape} {κl κr κo : Type} {φ₁ φ₂ : FTy} (d : DotDims sl sr so)
    (hr : d.contr.rank = 1) {K : ℕ} (hs : d.contr.size ⟨0, by rw [hr]; exact Nat.one_pos⟩ = K)
    (cl : sl.Idx → κl) (cr : sr.Idx → κr) (co : so.Idx → κo) (L : κo → ℕ → κl) (R : κo → ℕ → κr)
    (hl : ∀ y q, cl (d.lhsIdx y q) = L (co y) (q ⟨0, by rw [hr]; exact Nat.one_pos⟩).val)
    (hR : ∀ y q, cr (d.rhsIdx y q) = R (co y) (q ⟨0, by rw [hr]; exact Nat.one_pos⟩).val)
    (prec : Option ContractPrecision) (f : κl → ℝ) (g : κr → ℝ) :
    Host.dotGeneral d prec (ar (φ := φ₁) cl f) (ar (φ := φ₂) cr g) = ar co fun k => ∑ q : Fin K, f (L k q.val) * g (R k q.val) := by
  funext y
  show FloatOps.dotGeneral d prec _ _ _ y = _
  rw [Ideal.dotGeneral_apply, ← Equiv.sum_comp (ValueIdx.contrEquiv1 d K hr hs).symm]
  refine Eq.trans (Finset.sum_congr rfl fun q _ => ?_) (coe_sum Finset.univ fun q : Fin K => f (L (co y) q.val) * g (R (co y) q.val))
  have hk := ValueIdx.contrEquiv1_symm_val d K hr hs q
  show ((f (cl _) : ℝ) : EReal) * ((g (cr _) : ℝ) : EReal) = _
  rw [hl, hR, hk, EReal.coe_mul]

/-- The host's product contracted over several axes, whose indices `e` lists. -/
theorem hostDot_bij {sl sr so : Shape} {κl κr κo ι : Type} [Fintype ι] {φ₁ φ₂ : FTy} (d : DotDims sl sr so)
    (e : ι ≃ d.contr.Idx) (cl : sl.Idx → κl) (cr : sr.Idx → κr) (co : so.Idx → κo) (L : κo → ι → κl) (R : κo → ι → κr)
    (hl : ∀ y q, cl (d.lhsIdx y (e q)) = L (co y) q) (hR : ∀ y q, cr (d.rhsIdx y (e q)) = R (co y) q)
    (prec : Option ContractPrecision) (f : κl → ℝ) (g : κr → ℝ) :
    Host.dotGeneral d prec (ar (φ := φ₁) cl f) (ar (φ := φ₂) cr g) = ar co fun k => ∑ q : ι, f (L k q) * g (R k q) := by
  funext y
  show FloatOps.dotGeneral d prec _ _ _ y = _
  rw [Ideal.dotGeneral_apply, ← Equiv.sum_comp e]
  refine Eq.trans (Finset.sum_congr rfl fun q _ => ?_) (coe_sum Finset.univ fun q : ι => f (L (co y) q) * g (R (co y) q))
  show ((f (cl _) : ℝ) : EReal) * ((g (cr _) : ℝ) : EReal) = _
  rw [hl, hR, EReal.coe_mul]

section dots
variable (f : ℕ → ℕ → ℝ) (g : ℕ → ℕ → ℝ) (F F' : ℕ → ℕ → ℕ → ℕ → ℝ) (W : ℕ → ℕ → ℕ → ℝ)

theorem dot_proj : Host.dotGeneral dot_S1x8192x2048_S2048x2048_S1x8192x2048_2_1_01_0_n_n none (a3 f)
    (ar (φ := .f32) i2 fun k => g k.1 k.2 : FVec Ideal S2048x2048 .f32) = a3 fun t c => ∑ k : Fin 2048, f t k.val * g c k.val :=
  hostDot_ar _ rfl rfl i3 i2 i3 (fun k q => (k.1, k.2.1, q)) (fun k q => (k.2.2, q)) (fun _ _ => rfl) (fun _ _ => rfl) none _ _
theorem dot_mix : Host.dotGeneral dot_S1x64x128x8x256_S8x128x128_S8x1x64x256x128_2_2_014_1_3_0 none (a5 F) (w3 W)
    = aT fun h n r e => ∑ s : Fin 128, F h n s.val e * W h r s.val :=
  hostDot_ar _ rfl rfl i5 i3 i5 (fun k q => (k.2.1, k.2.2.1, q, k.1, k.2.2.2.1)) (fun k q => (k.1, k.2.2.2.2, q))
    (fun _ _ => rfl) (fun _ _ => rfl) none _ _
theorem dot_mixT : Host.dotGeneral dot_S8x1x64x256x128_S8x128x128_S8x1x64x256x128_4_1_123_2_0_0 none (aT F) (w3 W)
    = aT fun h n r e => ∑ s : Fin 128, F h n s.val e * W h s.val r :=
  hostDot_ar _ rfl rfl i5 i3 i5 (fun k q => (k.1, k.2.1, k.2.2.1, k.2.2.2.1, q)) (fun k q => (k.1, q, k.2.2.2.2))
    (fun _ _ => rfl) (fun _ _ => rfl) none _ _
/-- The three contracted axes: one of size one, the chunks and the head's columns. -/
def contr3 : Fin 64 × Fin 256 ≃ dot_S8x1x64x256x128_S1x64x128x8x256_S8x128x128_123_014_4_2_0_3.contr.Idx where
  toFun p := (fun a : Fin 3 => match a with
    | ⟨0, _⟩ => (⟨0, Nat.one_pos⟩ : Fin 1) | ⟨1, _⟩ => (p.1 : Fin 64) | ⟨2, _⟩ => (p.2 : Fin 256))
  invFun q := ((q (1 : Fin 3) : Fin 64), (q (2 : Fin 3) : Fin 256))
  left_inv _ := rfl
  right_inv q := funext fun a : Fin 3 => match a with
    | ⟨0, _⟩ => one_eq (n := 1) rfl _ _ | ⟨1, _⟩ => rfl | ⟨2, _⟩ => rfl
theorem dot_ws : Host.dotGeneral dot_S8x1x64x256x128_S1x64x128x8x256_S8x128x128_123_014_4_2_0_3 none (aT F) (a5 F')
    = w3 fun h r s => ∑ q : Fin 64 × Fin 256, F h q.1.val r q.2.val * F' h q.1.val s q.2.val :=
  hostDot_bij _ contr3 i5 i5 i3 (fun k q => (k.1, 0, q.1.val, q.2.val, k.2.1)) (fun k q => (0, q.1.val, k.2.2, k.1, q.2.val))
    (fun _ _ => rfl) (fun _ _ => rfl) none _ _
end dots

/-! The convolution's shifted rows. -/
section conv
variable (f g : ℕ → ℕ → ℝ) (c : ℕ → ℝ)

theorem slice_aP (o : ℕ) (h : S1x8194x2048.Slices ![0, o, 0] S1x8192x2048) :
    extractStridedSlice S1x8192x2048 ![0, o, 0] (aP f) h = a3 fun t k => f (o + t) k := by
  funext y
  show re (f (o + (y 1).val) (0 + (y 2).val)) = re (f (o + (y 1).val) (y 2).val)
  rw [zero_add]
theorem concat_aP : concatenate S1x8194x2048 1 [⟨S1x2x2048, (cst 0 : FVec Ideal S1x2x2048 .f32)⟩, ⟨S1x8192x2048, a3 f⟩]
    concatenates_S1x2x2048_S1x8192x2048_S1x8194x2048_d1 = aP fun t k => if 2 ≤ t then f (t - 2) k else 0 := by
  funext y
  have h1 : (y 1).val < 8194 := (y 1).isLt
  by_cases h : 2 ≤ (y 1).val
  · rw [concatenate_apply_piece (t := S1x8194x2048) 1 [⟨S1x2x2048, (cst 0 : FVec Ideal S1x2x2048 .f32)⟩, ⟨S1x8192x2048, a3 f⟩]
      concatenates_S1x2x2048_S1x8192x2048_S1x8194x2048_d1 y 1 (by decide : 1 < 2) S1x8192x2048 (a3 f) rfl
      rfl 2 rfl (fun a => match a with | ⟨0, _⟩ => y 0 | ⟨1, _⟩ => ⟨(y 1).val - 2, by show _ < 8192; omega⟩ | ⟨2, _⟩ => y 2)
      (fun b hb => match b, hb with | ⟨0, _⟩, _ => rfl | ⟨1, _⟩, hb => absurd rfl hb | ⟨2, _⟩, _ => rfl)
      (by show 2 + ((y 1).val - 2) = (y 1).val; omega)]
    show re (f ((y 1).val - 2) (y 2).val) = re (if 2 ≤ (y 1).val then f ((y 1).val - 2) (y 2).val else 0)
    rw [if_pos h]
  · rw [concatenate_apply_piece (t := S1x8194x2048) 1 [⟨S1x2x2048, (cst 0 : FVec Ideal S1x2x2048 .f32)⟩, ⟨S1x8192x2048, a3 f⟩]
      concatenates_S1x2x2048_S1x8192x2048_S1x8194x2048_d1 y 0 (by decide : 0 < 2) S1x2x2048 (cst 0) rfl
      rfl 0 rfl (fun a => match a with | ⟨0, _⟩ => y 0 | ⟨1, _⟩ => ⟨(y 1).val, by show _ < 2; omega⟩ | ⟨2, _⟩ => y 2)
      (fun b hb => match b, hb with | ⟨0, _⟩, _ => rfl | ⟨1, _⟩, hb => absurd rfl hb | ⟨2, _⟩, _ => rfl)
      (by show 0 + (y 1).val = (y 1).val; omega)]
    show re 0 = re (if 2 ≤ (y 1).val then f ((y 1).val - 2) (y 2).val else 0)
    rw [if_neg h]
/-- Rows of zeros before and after: the row `t` of the result is the row `t - lo`, zero outside. -/
theorem pad_aP (lo hi : ℕ) (hp : S1x8192x2048.Pads ![0, lo, 0] ![0, hi, 0] ![0, 0, 0] S1x8194x2048) :
    pad S1x8194x2048 ![0, lo, 0] ![0, hi, 0] ![0, 0, 0] (a3 f) (cst 0 : FVec Ideal S_ .f32) hp h_S_
      = aP fun t k => if lo ≤ t ∧ t - lo < 8192 then f (t - lo) k else 0 := by
  funext y
  have h1 : (y 1).val < 8194 := (y 1).isLt
  by_cases h : lo ≤ (y 1).val ∧ (y 1).val - lo < 8192
  · rw [pad_apply_of_inside _ _ _ _ _ hp h_S_ y
      (fun a => match a with | ⟨0, _⟩ => y 0 | ⟨1, _⟩ => ⟨(y 1).val - lo, h.2⟩ | ⟨2, _⟩ => y 2)
      (fun a => match a with
        | ⟨0, _⟩ => by show (y 0).val = 0 + (y 0).val * (0 + 1); omega
        | ⟨1, _⟩ => by show (y 1).val = lo + ((y 1).val - lo) * (0 + 1); omega
        | ⟨2, _⟩ => by show (y 2).val = 0 + (y 2).val * (0 + 1); omega)]
    show re (f ((y 1).val - lo) (y 2).val) = re (if lo ≤ (y 1).val ∧ (y 1).val - lo < 8192 then f ((y 1).val - lo) (y 2).val else 0)
    rw [if_pos h]
  · rw [pad_apply_of_not_inside _ _ _ _ _ hp h_S_ y (1 : Fin 3) (fun hh => h ⟨hh.1, by
      have := hh.2.2
      have h3 : ((y 1).val - lo) / (0 + 1) < 8192 := this
      omega⟩)]
    show re 0 = re (if lo ≤ (y 1).val ∧ (y 1).val - lo < 8192 then f ((y 1).val - lo) (y 2).val else 0)
    rw [if_neg h]
/-- One tap's row among zeros. -/
theorem pad_t2 (lo hi : ℕ) (hp : S1x2048.Pads ![lo, 0] ![hi, 0] ![0, 0] S3x2048) :
    pad S3x2048 ![lo, 0] ![hi, 0] ![0, 0] (c2d c) (cst 0 : FVec Ideal S_ .f32) hp h_S_
      = t2 fun j k => if j = lo then c k else 0 := by
  funext y
  by_cases h : (y 0).val = lo
  · rw [pad_apply_of_inside _ _ _ _ _ hp h_S_ y
      (fun a => match a with | ⟨0, _⟩ => ⟨0, Nat.one_pos⟩ | ⟨1, _⟩ => y 1)
      (fun a => match a with
        | ⟨0, _⟩ => by show (y 0).val = lo + 0 * (0 + 1); omega
        | ⟨1, _⟩ => by show (y 1).val = 0 + (y 1).val * (0 + 1); omega)]
    show re (c (y 1).val) = re (if (y 0).val = lo then c (y 1).val else 0)
    rw [if_pos h]
  · rw [pad_apply_of_not_inside _ _ _ _ _ hp h_S_ y (0 : Fin 2) (fun hh => h (by
      have h2 : lo ≤ (y 0).val := hh.1
      have h3 : ((y 0).val - lo) / (0 + 1) < 1 := hh.2.2
      omega))]
    show re 0 = re (if (y 0).val = lo then c (y 1).val else 0)
    rw [if_neg h]
end conv

end Mixer.Ref

end
-- ==== Proof.Ref.lean ====
/- What the reference computes on real arguments: the mathematics of `Spec`, one stage of its program after another. -/
module

public import proofs.«01_k».proof.Proof.RefLift
public import proofs.«01_k».proof.Proof.Gen.ReferenceIdeal.Read

@[expose] public section

set_option maxRecDepth 16384

noncomputable section

namespace Mixer.Ref

open Idealize.ShloMosaic Idealize.SL.Sem Cert.ReferenceIdeal Cert.ReferenceIdeal.Gen Cert.ReferenceIdeal.Read

variable (D : Data)

/-! The arguments. -/
def X0 : FVec Ideal S8192x2048 .bf16 := ar i2 fun k => D.da k.1 k.2
def X1 : FVec Ideal S8192x2048 .bf16 := ar i2 fun k => D.db k.1 k.2
def X2 : FVec Ideal S2048x2048 .bf16 := ar i2 fun k => D.woa k.1 k.2
def X3 : FVec Ideal S2048x2048 .bf16 := ar i2 fun k => D.wob k.1 k.2
def X4 : FVec Ideal S7x8192x2048 .bf16 := ar i3 fun k => D.p k.1 k.2.1 k.2.2
def X6 : FVec Ideal S1x2048 .f32 := c2d D.lg
def X7 : FVec Ideal S1x2048 .f32 := c2d D.lb
def X8 : FVec Ideal S8x128x128 .f32 := w3 D.ws
def X9 : FVec Ideal S8x128 .f32 := ar i2 fun k => D.bs k.1 k.2
def X10 : FVec Ideal S3x2048 .f32 := t2 D.cw
def X11 : FVec Ideal S1x2048 .f32 := c2d D.cb

/-! Constants. -/
theorem const_half {s : Shape} : (constant s .f32 0x3F000000#32 : FVec Ideal s .f32) = cst (1 / 2) := funext fun _ => lit_half
theorem const_one {s : Shape} : (constant s .f32 0x3F800000#32 : FVec Ideal s .f32) = cst 1 := funext fun _ => lit_one
theorem const_256 {s : Shape} : (constant s .f32 0x43800000#32 : FVec Ideal s .f32) = cst 256 := funext fun _ => lit_256
theorem const_eps {s : Shape} : (constant s .f32 0x3727C5AC#32 : FVec Ideal s .f32) = cst eps := funext fun _ => lit_eps
theorem lit_two : (Scalar.ofBits .f32 0x40000000#32 : Ideal .f32) = re 2 := by
  show Ideal.ofBits .f32 _ = ((2 : ℝ) : EReal); simp [Ideal.ofBits, Ideal.ieee, -EReal.coe_mul]; norm_num
theorem lit_three : (Scalar.ofBits .f32 0x40400000#32 : Ideal .f32) = re 3 := by
  show Ideal.ofBits .f32 _ = ((3 : ℝ) : EReal); simp [Ideal.ofBits, Ideal.ieee, -EReal.coe_mul]; norm_num
theorem lit_neghalf : (Scalar.ofBits .f32 0xBF000000#32 : Ideal .f32) = re (-(1 / 2)) := by
  show Ideal.ofBits .f32 _ = ((-(1 / 2) : ℝ) : EReal)
  simp [Ideal.ofBits, Ideal.ieee, -EReal.coe_mul, -EReal.coe_neg]; norm_num
theorem lit_c0 : (Scalar.ofBits .f32 0x3F4C422A#32 : Ideal .f32) = re c0 := by
  show Ideal.ofBits .f32 _ = ((c0 : ℝ) : EReal); simp [Ideal.ofBits, Ideal.ieee, -EReal.coe_mul, c0]; norm_num
theorem lit_c1 : (Scalar.ofBits .f32 0x3D372713#32 : Ideal .f32) = re c1 := by
  show Ideal.ofBits .f32 _ = ((c1 : ℝ) : EReal); simp [Ideal.ofBits, Ideal.ieee, -EReal.coe_mul, c1]; norm_num
theorem const_two {s : Shape} : (constant s .f32 0x40000000#32 : FVec Ideal s .f32) = cst 2 := funext fun _ => lit_two
theorem const_three {s : Shape} : (constant s .f32 0x40400000#32 : FVec Ideal s .f32) = cst 3 := funext fun _ => lit_three
theorem const_neghalf {s : Shape} : (constant s .f32 0xBF000000#32 : FVec Ideal s .f32) = cst (-(1 / 2)) :=
  funext fun _ => lit_neghalf
theorem const_c0 {s : Shape} : (constant s .f32 0x3F4C422A#32 : FVec Ideal s .f32) = cst c0 := funext fun _ => lit_c0
theorem const_c1 {s : Shape} : (constant s .f32 0x3D372713#32 : FVec Ideal s .f32) = cst c1 := funext fun _ => lit_c1

theorem a3_congr {f g : ℕ → ℕ → ℝ} (h : ∀ t c, t < 8192 → f t c = g t c) : a3 f = a3 g :=
  funext fun y => congrArg re (h (y 1).val (y 2).val (y 1).isLt)
theorem a5_congr {F G : ℕ → ℕ → ℕ → ℕ → ℝ} (h : ∀ q n r e, F q n r e = G q n r e) : a5 F = a5 G :=
  congrArg a5 (funext fun q => funext fun n => funext fun r => funext fun e => h q n r e)

section pw
variable (f g : ℕ → ℕ → ℝ) (F G : ℕ → ℕ → ℕ → ℕ → ℝ) (H K : ℕ → ℕ → ℕ → ℝ) (r : ℝ)
theorem mul3 : mulf (a3 f) (a3 g) = a3 fun t c => f t c * g t c := mulf_ar _ _ _
theorem add3 : addf (a3 f) (a3 g) = a3 fun t c => f t c + g t c := addf_ar _ _ _
theorem mulc3 : mulf (cst r) (a3 f) = a3 fun t c => r * f t c := mulf_cst_ar _ _ _
theorem addc3 : addf (cst r) (a3 f) = a3 fun t c => r + f t c := addf_cst_ar _ _ _
theorem subc3 : subf (cst r) (a3 f) = a3 fun t c => r - f t c := subf_cst_ar _ _ _
theorem tanh3 : Host.tanh (a3 f) = a3 fun t c => Real.tanh (f t c) := rfl
theorem exp3 : Host.exp (a3 f) = a3 fun t c => Real.exp (f t c) := rfl
theorem neg3 : Host.negf (a3 f) = a3 fun t c => -f t c := rfl
theorem mul5 : mulf (a5 F) (a5 G) = a5 fun h n r e => F h n r e * G h n r e := mulf_ar _ _ _
theorem add5 : addf (a5 F) (a5 G) = a5 fun h n r e => F h n r e + G h n r e := addf_ar _ _ _
theorem sub5 : subf (a5 F) (a5 G) = a5 fun h n r e => F h n r e - G h n r e := subf_ar _ _ _
theorem mulc5 : mulf (cst r) (a5 F) = a5 fun h n q e => r * F h n q e := mulf_cst_ar _ _ _
theorem neg5 : Host.negf (a5 F) = a5 fun h n r e => -F h n r e := rfl
theorem mul51 : mulf (a51 H) (a51 K) = a51 fun h n r => H h n r * K h n r := mulf_ar _ _ _
theorem add51 : addf (a51 H) (a51 K) = a51 fun h n r => H h n r + K h n r := addf_ar _ _ _
theorem mulc51 : mulf (cst r) (a51 H) = a51 fun h n q => r * H h n q := mulf_cst_ar _ _ _
theorem addcr51 : addf (a51 H) (cst r) = a51 fun h n q => H h n q + r := addf_ar_cst _ _ _
theorem div256 : Host.divf (a51 H) (cst 256) = a51 fun h n q => H h n q / 256 := hostDivf_ar_cst _ _ _ (by norm_num)
end pw

/-! The pre-activations. -/
theorem slice_p (o : ℕ) (h : S7x8192x2048.Slices ![o, 0, 0] S1x8192x2048) :
    extractStridedSlice S1x8192x2048 ![o, 0, 0] (extf .f32 (X4 D) bitsLt_bf16_f32) h = a3 (D.p o) := by
  funext y
  have h0 : (y 0).val < 1 := (y 0).isLt
  show re (D.p (o + (y 0).val) (0 + (y 1).val) (0 + (y 2).val)) = re (D.p o (y 1).val (y 2).val)
  rw [zero_add, zero_add, show o + (y 0).val = o by omega]
theorem e1 : val_main_v1 (F := Ideal) (X4 D) = a3 (D.p 0) := slice_p D 0 _
theorem e2 : val_main_v2 (F := Ideal) (X4 D) = a3 (D.p 1) := slice_p D 1 _
theorem e3 : val_main_v3 (F := Ideal) (X4 D) = a3 (D.p 2) := slice_p D 2 _
theorem e4 : val_main_v4 (F := Ideal) (X4 D) = a3 (D.p 3) := slice_p D 3 _
theorem e5 : val_main_v5 (F := Ideal) (X4 D) = a3 (D.p 4) := slice_p D 4 _
theorem e6 : val_main_v6 (F := Ideal) (X4 D) = a3 (D.p 5) := slice_p D 5 _
theorem e7 : val_main_v7 (F := Ideal) (X4 D) = a3 (D.p 6) := slice_p D 6 _

/-- The hyperbolic tangent as the reference groups its argument. -/
theorem geluT_eq (u : ℝ) : Real.tanh (c0 * (u + c1 * (u * u * u))) = geluT u := congrArg Real.tanh (by ring)
theorem gelu_eq (u : ℝ) : u * (1 / 2 * (1 + geluT u)) = gelu u := by rw [gelu]; ring
/-- The two summands of gelu's derivative, times the incoming gradient `d`, as the reference groups them. -/
theorem geluD_eq (u d : ℝ) :
    d * (1 / 2 * (1 + geluT u)) + c0 * (1 / 2 * (u * d) * ((1 + geluT u) * (1 - geluT u)))
      + c1 * (c0 * (1 / 2 * (u * d) * ((1 + geluT u) * (1 - geluT u)))) * (3 * (u * u)) = d * geluD u := by
  rw [geluD]; ring

theorem e23 : val_main_v23 (F := Ideal) (X4 D) = a3 fun t c => geluT (D.p 0 t c) := by
  simp (disch := rfl) only [val_main_v13, val_main_v14, val_main_v18, val_main_v19, val_main_v20, val_main_v21, val_main_v22,
    val_main_v23, val_main_cst_0, val_main_cst_1, e1, const_c0, const_c1, bc_re, mul3, add3, mulc3, tanh3, geluT_eq]
theorem e28 : val_main_v28 (F := Ideal) (X4 D) = a3 fun t c => (1 + geluT (D.p 0 t c)) * (1 - geluT (D.p 0 t c)) := by
  simp (disch := rfl) only [val_main_v24, val_main_v25, val_main_v26, val_main_v27, val_main_v28, val_main_cst_2,
    val_main_cst_3, e23, const_one, bc_re, mul3, addc3, subc3]
theorem e32 : val_main_v32 (F := Ideal) (X4 D) = a3 fun t c => 1 / 2 * (1 + geluT (D.p 0 t c)) := by
  simp (disch := rfl) only [val_main_v29, val_main_v30, val_main_v31, val_main_v32, val_main_cst_4, val_main_cst_5, e23,
    const_one, const_half, bc_re, mulc3, addc3]
theorem e34 : val_main_v34 (F := Ideal) (X4 D) = a5 fun h n r e => gelu (D.U h n r e) := by
  simp (disch := rfl) only [val_main_v33, val_main_v34, e1, e32, mul3, gelu_eq, split_a3]; rfl
theorem e17 : val_main_v17 (F := Ideal) (X4 D) = a3 fun t c => 3 * (D.p 0 t c * D.p 0 t c) := by
  simp (disch := rfl) only [val_main_v15, val_main_v16, val_main_v17, val_main_cst, e1, const_three, bc_re, mul3, mulc3]
theorem e45 : val_main_v45 (F := Ideal) (X4 D) = a3 fun t c => geluT (D.p 1 t c) := by
  simp (disch := rfl) only [val_main_v35, val_main_v36, val_main_v40, val_main_v41, val_main_v42, val_main_v43, val_main_v44,
    val_main_v45, val_main_cst_7, val_main_cst_8, e2, const_c0, const_c1, bc_re, mul3, add3, mulc3, tanh3, geluT_eq]
theorem e50 : val_main_v50 (F := Ideal) (X4 D) = a3 fun t c => (1 + geluT (D.p 1 t c)) * (1 - geluT (D.p 1 t c)) := by
  simp (disch := rfl) only [val_main_v46, val_main_v47, val_main_v48, val_main_v49, val_main_v50, val_main_cst_9,
    val_main_cst_10, e45, const_one, bc_re, mul3, addc3, subc3]
theorem e54 : val_main_v54 (F := Ideal) (X4 D) = a3 fun t c => 1 / 2 * (1 + geluT (D.p 1 t c)) := by
  simp (disch := rfl) only [val_main_v51, val_main_v52, val_main_v53, val_main_v54, val_main_cst_11, val_main_cst_12, e45,
    const_one, const_half, bc_re, mulc3, addc3]
theorem e56 : val_main_v56 (F := Ideal) (X4 D) = a5 D.gv := by
  simp (disch := rfl) only [val_main_v55, val_main_v56, e2, e54, mul3, gelu_eq, split_a3]; rfl
theorem e39 : val_main_v39 (F := Ideal) (X4 D) = a3 fun t c => 3 * (D.p 1 t c * D.p 1 t c) := by
  simp (disch := rfl) only [val_main_v37, val_main_v38, val_main_v39, val_main_cst_6, e2, const_three, bc_re, mul3, mulc3]

/-! The layer norm. -/
theorem e57 : val_main_v57 (F := Ideal) (X6 D) = he2 D.G := by
  simp (disch := rfl) only [val_main_v8, val_main_v57, X6, cast_c2d, split_c1d]; rfl
theorem e58 : val_main_v58 (F := Ideal) (X7 D) = he2 D.Bt := by
  simp (disch := rfl) only [val_main_v9, val_main_v58, X7, cast_c2d, split_c1d]; rfl
theorem e62 : val_main_v62 (F := Ideal) (X4 D) = a51 fun h n r => mean (D.gv h n r) := by
  simp (disch := rfl) only [val_main_v59, val_main_v60, val_main_v61, val_main_v62, val_main_cst_13, val_main_cst_14, e56,
    const_zero, const_256, bc_re, sum_lanes, bc_a4, div256]; rfl
theorem e64 : val_main_v64 (F := Ideal) (X4 D) = a5 D.cen := by
  simp (disch := rfl) only [val_main_v63, val_main_v64, e56, e62, bc_a51, sub5]; rfl
theorem e73 : val_main_v73 (F := Ideal) (X4 D) = a5 D.cen := by
  simp (disch := rfl) only [val_main_v72, val_main_v73, e56, e62, bc_a51, sub5]; rfl
theorem e67 : val_main_v67 (F := Ideal) (X4 D) = a5 fun h n r e => 2 * D.cen h n r e := by
  simp (disch := rfl) only [val_main_v66, val_main_v67, val_main_cst_15, e64, const_two, bc_re, mulc5]
/-- The variance of a row, plus epsilon. -/
def var (h n r : ℕ) : ℝ := mean (fun e => D.cen h n r e * D.cen h n r e) + eps
theorem var_pos (h n r : ℕ) : 0 < var D h n r :=
  add_pos_of_nonneg_of_pos (div_nonneg (Finset.sum_nonneg fun _ _ => mul_self_nonneg _) (by norm_num)) eps_pos
theorem e75 : val_main_v75 (F := Ideal) (X4 D) = a51 (var D) := by
  simp (disch := rfl) only [val_main_v65, val_main_v68, val_main_v69, val_main_v70, val_main_v71, val_main_v74, val_main_v75,
    val_main_cst_16, val_main_cst_17, val_main_cst_18, e64, const_zero, const_256, const_eps, bc_re, mul5, sum_lanes, bc_a4,
    div256, addcr51]; rfl
theorem e76 : val_main_v76 (F := Ideal) (X4 D) = a51 D.rstd := by
  simp (disch := rfl) only [val_main_v76, e75]
  exact hostRsqrt_ar _ _ fun _ => var_pos _ _ _ _
theorem e77 : val_main_v77 (F := Ideal) (X4 D) = a51 fun h n r => D.rstd h n r / var D h n r := by
  simp (disch := rfl) only [val_main_v77, e75, e76]
  exact hostDivf_ar _ _ _ fun _ => (var_pos _ _ _ _).ne'
theorem e79 : val_main_v79 (F := Ideal) (X4 D) = a51 fun h n r => -(1 / 2) * (D.rstd h n r / var D h n r) := by
  simp (disch := rfl) only [val_main_v78, val_main_v79, val_main_cst_19, e77, const_neghalf, bc_re, mulc51]
theorem e81 : val_main_v81 (F := Ideal) (X4 D) = a5 D.vhat := by
  simp (disch := rfl) only [val_main_v80, val_main_v81, e73, e76, bc_a51, mul5]; rfl
theorem e87 : val_main_v87 (F := Ideal) (X4 D) (X6 D) (X7 D) = a5 D.vn := by
  simp (disch := rfl) only [val_main_v82, val_main_v83, val_main_v84, val_main_v85, val_main_v86, val_main_v87, e57, e58,
    e81, bc_he2, bc_he5, mul5, add5]; rfl

/-! The causal mask. -/
/-- One where column `s` is at most row `r`. -/
def mask : S8x128x128.Idx → BitVec 1 := fun y => if (y 2).val ≤ (y 1).val then 1#1 else 0#1
theorem mask_sge : ∀ r s : Fin 128,
    Scalar.select (IntOp.cmpi .sge (IntOp.addi (BitVec.ofNat 32 r.val) 0#32) (BitVec.ofNat 32 s.val)) (1#1 : BitVec 1) 0#1
      = if s.val ≤ r.val then 1#1 else 0#1 := by
  decide +kernel
theorem e92m : val_main_v92_1 (F := Ideal) = mask := by
  funext y
  rw [val_main_v92_1_apply, val_main_v90_apply, val_main_v89_apply]
  exact mask_sge ⟨(y 1).val, (y 1).isLt⟩ ⟨(y 2).val, (y 2).isLt⟩
theorem select_mask (F : ℕ → ℕ → ℕ → ℝ) :
    select mask (w3 F) (cst 0) = w3 fun h r s => if s ≤ r then F h r s else 0 := by
  funext y
  show Scalar.select (if (y 2).val ≤ (y 1).val then 1#1 else 0#1) (re (F (y 0).val (y 1).val (y 2).val)) (re 0)
    = re (if (y 2).val ≤ (y 1).val then F (y 0).val (y 1).val (y 2).val else 0)
  by_cases hc : (y 2).val ≤ (y 1).val
  · rw [if_pos hc, if_pos hc]; rfl
  · rw [if_neg hc, if_neg hc]; rfl
theorem e92 : val_main_v92_0 (F := Ideal) (X8 D) = w3 D.wm := by
  simp (disch := rfl) only [val_main_v92_0, val_main_v91, val_main_cst_20, e92m, X8, const_zero, bc_re, select_mask]; rfl

/-! The mixing. -/
theorem e98 : val_main_v98 (F := Ideal) (X4 D) (X6 D) (X7 D) (X8 D) (X9 D) = a5 D.mixed := by
  simp (disch := rfl) only [val_main_v93, val_main_v94, val_main_v95, val_main_v96, val_main_v97, val_main_v98, e87, e92, X9,
    dot_mix, tr_aT, tr_bias, bc_rh2, bc_rh5, add5]
  exact a5_congr fun h n r e => congrArg (· + D.bs h r) (Finset.sum_congr rfl fun s _ => mul_comm _ _)
theorem e101s : val_main_v101_2 (F := Ideal) (X4 D) = a3 fun t c => sig (D.p 2 t c) := by
  simp (disch := rfl) only [val_main_call2_v0, val_main_call2_v1, val_main_call2_cst, val_main_call2_v2, val_main_call2_v3,
    val_main_call2_cst_0, val_main_call2_v4, val_main_v101_2, e3, neg3, exp3, const_one, bc_re, addc3]
  exact hostDivf_cst_ar _ _ _ fun _ => (by positivity : (0 : ℝ) < _).ne'
theorem e101d : val_main_v101_1 (F := Ideal) (X4 D) = a3 fun t c => sig (D.p 2 t c) * (1 - sig (D.p 2 t c)) := by
  simp (disch := rfl) only [val_main_call2_cst_1, val_main_call2_v6, val_main_call2_v7, val_main_v101_1, e101s, const_one,
    bc_re, subc3, mul3]
theorem e101 : val_main_v101_0 (F := Ideal) (X4 D) = a3 fun t c => silu (D.p 2 t c) := by
  simp (disch := rfl) only [val_main_v101_0, e3, e101s, mul3]; rfl
theorem e132s : val_main_v132_2 (F := Ideal) (X4 D) = a3 fun t c => sig (D.p 6 t c) := by
  simp (disch := rfl) only [val_main_call3_v0, val_main_call3_v1, val_main_call3_cst, val_main_call3_v2, val_main_call3_v3,
    val_main_call3_cst_0, val_main_call3_v4, val_main_v132_2, e7, neg3, exp3, const_one, bc_re, addc3]
  exact hostDivf_cst_ar _ _ _ fun _ => (by positivity : (0 : ℝ) < _).ne'
theorem e132d : val_main_v132_1 (F := Ideal) (X4 D) = a3 fun t c => sig (D.p 6 t c) * (1 - sig (D.p 6 t c)) := by
  simp (disch := rfl) only [val_main_call3_cst_1, val_main_call3_v6, val_main_call3_v7, val_main_v132_1, e132s, const_one,
    bc_re, subc3, mul3]
theorem e132 : val_main_v132_0 (F := Ideal) (X4 D) = a3 fun t c => silu (D.p 6 t c) := by
  simp (disch := rfl) only [val_main_v132_0, e7, e132s, mul3]; rfl

/-! The gradients of the two mixers' outputs. -/
theorem e140 : val_main_v140 (F := Ideal) (X1 D) (X3 D) = a3 D.dyb := by
  have h : val_main_v139 (F := Ideal) (X1 D) = a3 D.db := by
    rw [val_main_v139]; exact bc_flat D.db _ _ rfl
  have hw : val_main_v12 (F := Ideal) (X3 D) = ar (φ := .f32) i2 fun k => D.wob k.1 k.2 := rfl
  rw [val_main_v140, h, hw]
  exact dot_proj _ _
theorem e141 : val_main_v141 (F := Ideal) (X0 D) (X2 D) = a3 D.dya := by
  have h : val_main_v137 (F := Ideal) (X0 D) = a3 D.da := by
    rw [val_main_v137]; exact bc_flat D.da _ _ rfl
  have hw : val_main_v11 (F := Ideal) (X2 D) = ar (φ := .f32) i2 fun k => D.woa k.1 k.2 := rfl
  rw [val_main_v141, h, hw]
  exact dot_proj _ _

/-- Derivative of silu as the reference groups it. -/
theorem siluD_eq (z d : ℝ) : d * sig z + z * d * (sig z * (1 - sig z)) = d * siluD z := by rw [siluD]; ring

/-! Flat coordinates against split ones. -/
theorem flat_t (t : ℕ) : 128 * (t / 128) + t % 128 = t := Nat.div_add_mod t 128
theorem flat_c (c : ℕ) : 256 * (c / 256) + c % 256 = c := Nat.div_add_mod c 256

theorem e187 : val_main_v187 (F := Ideal) (X0 D) (X2 D) (X4 D) (X6 D) (X7 D) (X8 D) (X9 D) = a3 (D.dp 2) := by
  simp (disch := rfl) only [val_main_v99, val_main_v100, val_main_v185, val_main_call5_v0, val_main_call5_v1,
    val_main_call5_v2, val_main_v187, e3, e34, e98, e101s, e101d, e141, mul5, join_a5, mul3, add3, siluD_eq]
  refine a3_congr fun t c _ => ?_
  show _ = D.slot2 _ _ _ _
  simp only [Data.slot2, Data.Y, Data.U, Data.Z, flat_t, flat_c]
  ring
theorem e188 : val_main_v188 (F := Ideal) (X0 D) (X2 D) (X4 D) = a5 D.t1 := by
  simp (disch := rfl) only [val_main_v186, val_main_v188, e101, e141, mul3, split_a3]; rfl
theorem e189 : val_main_v189 (F := Ideal) (X0 D) (X2 D) (X4 D) = a5 D.dmix := by
  simp (disch := rfl) only [val_main_v189, e34, e188, mul5]
  exact a5_congr fun h n r e => mul_comm _ _
theorem e195 : val_main_v195 (F := Ideal) (X0 D) (X2 D) (X4 D) = aT D.dmix := by
  simp (disch := rfl) only [val_main_v195, e189, tr_a5]
theorem e198 : val_main_v198 (F := Ideal) (X0 D) (X2 D) (X4 D) (X8 D) = a5 D.dvn := by
  simp (disch := rfl) only [val_main_v197, val_main_v198, e195, e92, dot_mixT, tr_aT]
  exact a5_congr fun h n r e => Finset.sum_congr rfl fun s _ => mul_comm _ _
theorem e262 : val_main_v262 (F := Ideal) (X0 D) (X2 D) (X4 D) (X6 D) (X7 D) (X8 D) (X9 D) = a3 (D.dp 0) := by
  simp (disch := rfl) only [val_main_v190, val_main_v250, val_main_v251, val_main_v252, val_main_v253, val_main_v254,
    val_main_v255, val_main_v256, val_main_v257, val_main_v258, val_main_v259, val_main_v260, val_main_v261, val_main_v262,
    val_main_cst_53, val_main_cst_54, val_main_cst_55, e188, e98, e1, e32, e28, e17, const_half, const_c0, const_c1, bc_re,
    mul5, join_a5, mul3, mulc3, add3, geluD_eq]
  refine a3_congr fun t c _ => ?_
  show _ = D.slot0 _ _ _ _
  simp only [Data.slot0, Data.U, flat_t, flat_c]

/-! The mixing weights and biases. -/
theorem e199 : val_main_v199 (F := Ideal) (X0 D) (X2 D) (X4 D) (X6 D) (X7 D) = w3 D.gws := by
  simp (disch := rfl) only [val_main_v196, val_main_v199, val_main_call6_cst, val_main_call6_v0, e92m, e195, e87, const_zero,
    bc_re, dot_ws, select_mask]
  refine congrArg w3 (funext fun h => funext fun r => funext fun s => ?_)
  simp only [Data.gws, Fintype.sum_prod_type]
theorem e266 : val_main_v266 (F := Ideal) (X0 D) (X2 D) (X4 D) = ar (φ := .f32) i3 fun k => D.gbs k.1 k.2.1 := by
  simp (disch := rfl) only [val_main_v191, val_main_v192, val_main_v193, val_main_v194, val_main_v266, val_main_cst_37,
    val_main_cst_38, e189, const_zero, sum_cols, cast_rh3, sum_rh5, tr_rh2, bc_bias]
  refine (bc_bias (fun h r => ∑ q : Fin 64 × Fin 256, D.dmix h q.1.val r q.2.val) _ _ rfl).trans ?_
  refine congrArg (ar i3) (funext fun k => ?_)
  simp only [Data.gbs, Fintype.sum_prod_type]
theorem e268 : val_main_v268 (F := Ideal) (X0 D) (X2 D) (X4 D) (X8 D) = c2d D.glb := by
  simp (disch := rfl) only [val_main_v200, val_main_v201, val_main_v202, val_main_v235, val_main_v268, val_main_cst_39,
    val_main_cst_40, e198, const_zero, sum_rows, cast_he3, sum_he5, join_he2, bc_c1d]
  refine congrArg c2d (funext fun k => ?_)
  simp only [Data.glb, Fintype.sum_prod_type]
theorem e267 : val_main_v267 (F := Ideal) (X0 D) (X2 D) (X4 D) (X8 D) = c2d D.glg := by
  simp (disch := rfl) only [val_main_v203, val_main_v204, val_main_v205, val_main_v208, val_main_v236, val_main_v267,
    val_main_cst_41, val_main_cst_42, e81, e198, const_zero, mul5, sum_rows, cast_he3, sum_he5, join_he2, bc_c1d]
  refine congrArg c2d (funext fun k => ?_)
  simp only [Data.glg, Fintype.sum_prod_type, mul_comm]

/-! The layer norm's gradient. -/
theorem e207 : val_main_v207 (F := Ideal) (X0 D) (X2 D) (X4 D) (X6 D) (X8 D) = a5 D.dvh := by
  simp (disch := rfl) only [val_main_v82, val_main_v206, val_main_v207, e57, e198, bc_he2, bc_he5, mul5]; rfl
theorem e213 : val_main_v213 (F := Ideal) (X0 D) (X2 D) (X4 D) (X6 D) (X8 D) = a5 fun h n r e => D.dvh h n r e * D.rstd h n r := by
  simp (disch := rfl) only [val_main_v212, val_main_v213, e207, e76, bc_a51, mul5]
/-- What the variance's gradient adds to each element, per element of `2 (x - mean)`. -/
def gvar (h n r : ℕ) : ℝ :=
  (∑ e : Fin 256, D.cen h n r e.val * D.dvh h n r e.val) * (-(1 / 2) * (D.rstd h n r / var D h n r)) / 256
theorem e223 : val_main_v223 (F := Ideal) (X0 D) (X2 D) (X4 D) (X6 D) (X8 D) = a5 fun h n r e => gvar D h n r * (2 * D.cen h n r e) := by
  simp (disch := rfl) only [val_main_v209, val_main_v210, val_main_v211, val_main_v214, val_main_v218, val_main_v219,
    val_main_v220, val_main_v221, val_main_v222, val_main_v223, val_main_cst_43, val_main_cst_45, val_main_cst_46, e73, e207,
    e79, e67, const_zero, const_256, bc_re, mul5, sum_lanes, cast_a4, mul51, div256, sum_a51, bc_a3h, bc_a4_a5]; rfl
theorem e234 : val_main_v234 (F := Ideal) (X0 D) (X2 D) (X4 D) (X6 D) (X8 D) = a5 fun h n r e => D.dvh h n r e * D.rstd h n r + gvar D h n r * (2 * D.cen h n r e)
    + ((∑ e : Fin 256, -(D.dvh h n r e.val * D.rstd h n r)) + ∑ e : Fin 256, -(gvar D h n r * (2 * D.cen h n r e.val))) / 256 := by
  simp (disch := rfl) only [val_main_v215, val_main_v216, val_main_v217, val_main_v224, val_main_v225, val_main_v226,
    val_main_v227, val_main_v228, val_main_v229, val_main_v230, val_main_v231, val_main_v232, val_main_v233, val_main_v234,
    val_main_cst_44, val_main_cst_47, val_main_cst_48, val_main_cst_49, e213, e223, const_zero, const_256, bc_re, neg5,
    sum_lanes, cast_a4, add51, div256, sum_a51, bc_a3h, bc_a4_a5, add5]
theorem cen_sum (h n r : ℕ) : ∑ e : Fin 256, D.cen h n r e.val = 0 := by
  simp only [Data.cen, Finset.sum_sub_distrib, Finset.sum_const, Finset.card_univ, Fintype.card_fin, mean, nsmul_eq_mul]
  push_cast
  ring
theorem rstd_sq (h n r : ℕ) : D.rstd h n r * D.rstd h n r = 1 / var D h n r := by
  have hv := var_pos D h n r
  show (Real.sqrt (var D h n r))⁻¹ * (Real.sqrt (var D h n r))⁻¹ = _
  rw [← mul_inv, Real.mul_self_sqrt hv.le, one_div]
/-- The gradient of the layer norm's input: the kernel's form. -/
theorem ln_grad (h n r e : ℕ) : D.dvh h n r e * D.rstd h n r + gvar D h n r * (2 * D.cen h n r e)
    + ((∑ e : Fin 256, -(D.dvh h n r e.val * D.rstd h n r)) + ∑ e : Fin 256, -(gvar D h n r * (2 * D.cen h n r e.val))) / 256
    = D.rstd h n r * (D.dvh h n r e - mean (D.dvh h n r) - D.vhat h n r e * mean (fun e => D.dvh h n r e * D.vhat h n r e)) := by
  have h1 : ∑ e : Fin 256, -(gvar D h n r * (2 * D.cen h n r e.val)) = 0 := by
    rw [Finset.sum_neg_distrib, ← Finset.mul_sum, ← Finset.mul_sum, cen_sum]; ring
  have h2 : ∑ e : Fin 256, -(D.dvh h n r e.val * D.rstd h n r) = -((∑ e : Fin 256, D.dvh h n r e.val) * D.rstd h n r) := by
    rw [Finset.sum_neg_distrib, Finset.sum_mul]
  have h3 : (fun e => D.dvh h n r e * D.vhat h n r e) = fun e => D.rstd h n r * (D.cen h n r e * D.dvh h n r e) :=
    funext fun e => by rw [Data.vhat]; ring
  rw [h1, h2, h3]
  simp only [mean, ← Finset.mul_sum]
  have h4 : gvar D h n r = -(1 / 2) * D.rstd h n r * (D.rstd h n r * D.rstd h n r)
      * (∑ e : Fin 256, D.cen h n r e.val * D.dvh h n r e.val) / 256 := by
    rw [rstd_sq, gvar]; ring
  rw [h4, Data.vhat]
  ring
theorem e249 : val_main_v249 (F := Ideal) (X0 D) (X2 D) (X4 D) (X6 D) (X8 D) = a3 (D.dp 1) := by
  simp (disch := rfl) only [val_main_v237, val_main_v238, val_main_v239, val_main_v240, val_main_v241, val_main_v242,
    val_main_v243, val_main_v244, val_main_v245, val_main_v246, val_main_v247, val_main_v248, val_main_v249, val_main_cst_50,
    val_main_cst_51, val_main_cst_52, e234, ln_grad, e2, e54, e50, e39, const_half, const_c0, const_c1, bc_re, join_a5, mul3,
    mulc3, add3, geluD_eq]
  refine a3_congr fun t c _ => ?_
  show _ = D.slot1 _ _ _ _
  simp only [Data.slot1, Data.V, flat_t, flat_c]

/-! The convolution mixer. -/
theorem slice_t2 (E : ℕ → ℕ → ℝ) (o : ℕ) (h : S3x2048.Slices ![o, 0] S1x2048) :
    extractStridedSlice S1x2048 ![o, 0] (t2 E) h = c2d (E o) := by
  funext y
  have h0 : (y 0).val < 1 := (y 0).isLt
  show re (E (o + (y 0).val) (0 + (y 1).val)) = re (E o (y 1).val)
  rw [zero_add, show o + (y 0).val = o by omega]
theorem e106 : val_main_v106 (F := Ideal) (X4 D) = aP D.hp := by
  have h : val_main_v103 (F := Ideal) (X4 D) = a3 D.hh := by
    simp only [val_main_v103, e4, e5, mul3]; rfl
  have h0 : val_main_v105 (F := Ideal) = (cst 0 : FVec Ideal S1x2x2048 .f32) := by simp only [val_main_v105, val_main_cst_21,
    const_zero, bc_re]
  rw [val_main_v106, h, h0, concat_aP]; rfl
theorem e110 : val_main_v110 (F := Ideal) (X4 D) = a3 D.hp := by
  simp (disch := rfl) only [val_main_v110, e106, slice_aP, zero_add]
theorem e119 : val_main_v119 (F := Ideal) (X4 D) = a3 fun t c => D.hp (t + 1) c := by
  simp (disch := rfl) only [val_main_v119, e106, slice_aP, Nat.add_comm 1]
theorem e126 : val_main_v126 (F := Ideal) (X4 D) = a3 fun t c => D.hp (t + 2) c := by
  simp (disch := rfl) only [val_main_v126, e106, slice_aP, Nat.add_comm 2]
theorem e111 : val_main_v111 (F := Ideal) (X10 D) = c3d (D.cw 0) := by
  simp (disch := rfl) only [val_main_v108, val_main_v109, val_main_v111, X10, slice_t2, cast_c2d, bc_c1d_c3d]
theorem e120 : val_main_v120 (F := Ideal) (X10 D) = c3d (D.cw 1) := by
  simp (disch := rfl) only [val_main_v117, val_main_v118, val_main_v120, X10, slice_t2, cast_c2d, bc_c1d_c3d]
theorem e127 : val_main_v127 (F := Ideal) (X10 D) = c3d (D.cw 2) := by
  simp (disch := rfl) only [val_main_v124, val_main_v125, val_main_v127, X10, slice_t2, cast_c2d, bc_c1d_c3d]
theorem e130 : val_main_v130 (F := Ideal) (X4 D) (X10 D) (X11 D) = a3 D.conv := by
  simp (disch := rfl) only [val_main_v10, val_main_v112, val_main_v113, val_main_v114, val_main_v115, val_main_v116,
    val_main_v121, val_main_v122, val_main_v123, val_main_v128, val_main_v129, val_main_v130, X11, e110, e119, e126, e111,
    e120, e127, cast_c2d, bc_c1d_c3d, bc_c3d, mul3, add3]; rfl
theorem e143 : val_main_v143 (F := Ideal) (X1 D) (X3 D) (X4 D) = a3 fun t c => D.dyb t c * silu (D.p 6 t c) := by
  simp (disch := rfl) only [val_main_v143, e140, e132, mul3]
theorem e144 : val_main_v144 (F := Ideal) (X1 D) (X3 D) (X4 D) (X10 D) (X11 D) = a3 (D.dp 6) := by
  simp (disch := rfl) only [val_main_v131, val_main_v142, val_main_call4_v0, val_main_call4_v1, val_main_call4_v2,
    val_main_v144, e6, e7, e130, e140, e132s, e132d, mul3, add3, siluD_eq]
  refine a3_congr fun t c _ => ?_
  show _ = D.slot6 _ _
  rw [Data.slot6]; ring
theorem e146 : val_main_v146 (F := Ideal) (X1 D) (X3 D) (X4 D) (X10 D) (X11 D) = a3 (D.dp 5) := by
  simp (disch := rfl) only [val_main_v146, e143, e130, mul3]
  refine a3_congr fun t c _ => ?_
  show _ = D.slot5 _ _
  rw [Data.slot5]; ring
theorem e145 : val_main_v145 (F := Ideal) (X1 D) (X3 D) (X4 D) = a3 D.dcv := by
  simp (disch := rfl) only [val_main_v145, e6, e143, mul3]
  refine a3_congr fun t c ht => ?_
  rw [Data.dcv, if_pos ht]; ring
theorem dcv_zero (t c : ℕ) (h : ¬t < 8192) : D.dcv t c = 0 := if_neg h
theorem addP (f g : ℕ → ℕ → ℝ) : addf (aP f) (aP g) = aP fun t c => f t c + g t c := addf_ar _ _ _
theorem e182 : val_main_v182 (F := Ideal) (X1 D) (X3 D) (X4 D) (X10 D) = a3 D.dh := by
  simp (disch := rfl) only [val_main_v147, val_main_v148, val_main_v153, val_main_v156, val_main_v157, val_main_v162,
    val_main_v163, val_main_v170, val_main_v171, val_main_v176, val_main_v177, val_main_v182, val_main_cst_25,
    val_main_cst_29, val_main_cst_35, e145, e111, e120, e127, const_zero, bc_c3d, mul3, pad_aP, addP, slice_aP]
  refine a3_congr fun t c ht => ?_
  rw [Data.dh, if_pos ⟨by omega, by omega⟩, show 2 + t - 2 = t by omega, show 2 + t - 1 = t + 1 by omega,
    show 2 + t - 0 = t + 2 by omega]
  refine congrArg₂ (· + ·) (congrArg (D.cw 2 c * D.dcv t c + ·) ?_) ?_
  · split_ifs with h
    · rfl
    · rw [dcv_zero D (t + 1) c (by omega), mul_zero]
  · split_ifs with h
    · rfl
    · rw [dcv_zero D (t + 2) c (by omega), mul_zero]
theorem e183 : val_main_v183 (F := Ideal) (X1 D) (X3 D) (X4 D) (X10 D) = a3 (D.dp 3) := by
  simp (disch := rfl) only [val_main_v183, e5, e182, mul3]
  exact a3_congr fun t c _ => mul_comm _ _
theorem e184 : val_main_v184 (F := Ideal) (X1 D) (X3 D) (X4 D) (X10 D) = a3 (D.dp 4) := by
  simp (disch := rfl) only [val_main_v184, e4, e182, mul3]; rfl

/-! The convolution's weights and bias. -/
theorem e269 : val_main_v269 (F := Ideal) (X1 D) (X3 D) (X4 D) = c2d D.gcb := by
  simp (disch := rfl) only [val_main_v167, val_main_v168, val_main_v169, val_main_v269, val_main_cst_31, val_main_cst_32,
    e145, const_zero, sum_time, cast_c2d_c3d, sum_c3d, bc_c1d]; rfl
/-- A sum over time against the input one step later, from the input at each time. -/
theorem shift1 (f g : ℕ → ℝ) (hf : ∀ t, ¬t < 8192 → f t = 0) (hg : g 0 = 0) :
    ∑ t : Fin 8192, f t.val * g t.val = ∑ t : Fin 8192, f (t.val + 1) * g (t.val + 1) := by
  rw [Fin.sum_univ_eq_sum_range (fun t => f t * g t) 8192, Fin.sum_univ_eq_sum_range (fun t => f (t + 1) * g (t + 1)) 8192]
  have h1 := Finset.sum_range_succ (fun t => f t * g t) 8192
  have h2 := Finset.sum_range_succ' (fun t => f t * g t) 8192
  rw [hf 8192 (by omega), zero_mul, add_zero] at h1
  rw [hg, mul_zero, add_zero] at h2
  rw [← h1, h2]
theorem hp_two (t c : ℕ) : D.hp (t + 2) c = D.hh t c := by
  rw [Data.hp, if_pos (by omega), show t + 2 - 2 = t by omega, Data.hh]
theorem hp_early (t c : ℕ) (h : t < 2) : D.hp t c = 0 := if_neg (by omega)
theorem gcw2 (c : ℕ) : ∑ t : Fin 8192, D.dcv t.val c * D.hp (t.val + 2) c = D.gcw 2 c := by
  simp only [Data.gcw, hp_two]; rfl
theorem gcw1 (c : ℕ) : ∑ t : Fin 8192, D.dcv t.val c * D.hp (t.val + 1) c = D.gcw 1 c := by
  rw [shift1 (fun t => D.dcv t c) (fun t => D.hp (t + 1) c) (fun t h => dcv_zero D t c h) (hp_early D _ c (by omega))]
  simp only [Data.gcw, ← hp_two]
theorem gcw0 (c : ℕ) : ∑ t : Fin 8192, D.dcv t.val c * D.hp t.val c = D.gcw 0 c := by
  rw [shift1 (fun t => D.dcv t c) (fun t => D.hp t c) (fun t h => dcv_zero D t c h) (hp_early D _ c (by omega)),
    shift1 (fun t => D.dcv (t + 1) c) (fun t => D.hp (t + 1) c) (fun t h => dcv_zero D (t + 1) c (by omega)) (hp_early D _ c (by omega))]
  simp only [Data.gcw, ← hp_two]
theorem addT (f g : ℕ → ℕ → ℝ) : addf (t2 f) (t2 g) = t2 fun t c => f t c + g t c := addf_ar _ _ _
theorem e180 : val_main_v180 (F := Ideal) (X1 D) (X3 D) (X4 D) = t2 D.gcw := by
  simp (disch := rfl) only [val_main_v149, val_main_v150, val_main_v151, val_main_v152, val_main_v154, val_main_v155,
    val_main_v158, val_main_v159, val_main_v160, val_main_v161, val_main_v164, val_main_v165, val_main_v166, val_main_v172,
    val_main_v173, val_main_v174, val_main_v175, val_main_v178, val_main_v179, val_main_v180, val_main_cst_23,
    val_main_cst_24, val_main_cst_26, val_main_cst_27, val_main_cst_28, val_main_cst_30, val_main_cst_33, val_main_cst_34,
    val_main_cst_36, e145, e110, e119, e126, const_zero, mul3, sum_time, cast_c2d_c3d, sum_c3d, bc_c1d, pad_t2, addT, gcw0,
    gcw1, gcw2]
  funext y
  have h0 : (y 0).val < 3 := (y 0).isLt
  refine congrArg re ?_
  show ((if (y 0).val = 2 then D.gcw 2 (y 1).val else 0) + (if (y 0).val = 1 then D.gcw 1 (y 1).val else 0))
    + (if (y 0).val = 0 then D.gcw 0 (y 1).val else 0) = D.gcw (y 0).val (y 1).val
  have h : (y 0).val = 0 ∨ (y 0).val = 1 ∨ (y 0).val = 2 := by omega
  rcases h with h | h | h <;> rw [h] <;> simp

/-! The gradients of the pre-activations, in one array. -/
/-- The gradient of pre-activation `k` for `k < 7`; then the two arrays handed through. -/
def dpOut (x5 : FVec Ideal S2x8192x2048 .bf16) : FVec Ideal S9x8192x2048 .bf16 := fun y =>
  if h : 7 ≤ (y 0).val then x5 (fun a => match a with
    | ⟨0, _⟩ => ⟨(y 0).val - 7, by have h0 : (y 0).val < 9 := (y 0).isLt; show _ < 2; omega⟩ | ⟨1, _⟩ => y 1 | ⟨2, _⟩ => y 2)
  else re (D.dp (y 0).val (y 1).val (y 2).val)
theorem e265 (x5 : FVec Ideal S2x8192x2048 .bf16) :
    val_main_v265 (F := Ideal) (X0 D) (X1 D) (X2 D) (X3 D) (X4 D) x5 (X6 D) (X7 D) (X8 D) (X9 D) (X10 D) (X11 D) = dpOut D x5 := by
  rw [val_main_v265, val_main_v264, e262, e249, e187, e183, e184, e146, e144]
  funext y
  have h0 : (y 0).val < 9 := (y 0).isLt
  have one : ∀ (k : ℕ) (hk : k < 7) (hy : (y 0).val = k), dpOut D x5 y = a3 (D.dp k) (fun a => match a with
      | ⟨0, _⟩ => ⟨0, Nat.one_pos⟩ | ⟨1, _⟩ => y 1 | ⟨2, _⟩ => y 2) := by
    intro k hk hy
    show (if h : 7 ≤ (y 0).val then _ else re (D.dp (y 0).val (y 1).val (y 2).val)) = re (D.dp k (y 1).val (y 2).val)
    rw [dif_neg (by omega), hy]
  show concatenate (α := Ideal .f32) S9x8192x2048 0 [⟨S1x8192x2048, a3 (D.dp 0)⟩, ⟨S1x8192x2048, a3 (D.dp 1)⟩, ⟨S1x8192x2048, a3 (D.dp 2)⟩,
    ⟨S1x8192x2048, a3 (D.dp 3)⟩, ⟨S1x8192x2048, a3 (D.dp 4)⟩, ⟨S1x8192x2048, a3 (D.dp 5)⟩, ⟨S1x8192x2048, a3 (D.dp 6)⟩,
    ⟨S2x8192x2048, val_main_v263 (F := Ideal) x5⟩]
    concatenates_S1x8192x2048_S1x8192x2048_S1x8192x2048_S1x8192x2048_S1x8192x2048_S1x8192x2048_S1x8192x2048_S2x8192x2048_S9x8192x2048_d0 y = _
  have go : ∀ (k : ℕ) (hk : k < 7) (hy : (y 0).val = k), concatenate (α := Ideal .f32) S9x8192x2048 0
      [⟨S1x8192x2048, a3 (D.dp 0)⟩, ⟨S1x8192x2048, a3 (D.dp 1)⟩, ⟨S1x8192x2048, a3 (D.dp 2)⟩,
        ⟨S1x8192x2048, a3 (D.dp 3)⟩, ⟨S1x8192x2048, a3 (D.dp 4)⟩, ⟨S1x8192x2048, a3 (D.dp 5)⟩, ⟨S1x8192x2048, a3 (D.dp 6)⟩,
        ⟨S2x8192x2048, val_main_v263 (F := Ideal) x5⟩]
      concatenates_S1x8192x2048_S1x8192x2048_S1x8192x2048_S1x8192x2048_S1x8192x2048_S1x8192x2048_S1x8192x2048_S2x8192x2048_S9x8192x2048_d0 y
      = a3 (D.dp k) (fun a => match a with | ⟨0, _⟩ => ⟨0, Nat.one_pos⟩ | ⟨1, _⟩ => y 1 | ⟨2, _⟩ => y 2) := by
    intro k hk hy
    refine concatenate_apply_piece (t := S9x8192x2048) 0 _ _ y k (by show k < 8; omega) S1x8192x2048 (a3 (D.dp k)) ?_ rfl k ?_ _
      (fun b hb => match b, hb with | ⟨0, _⟩, hb => absurd rfl hb | ⟨1, _⟩, _ => rfl | ⟨2, _⟩, _ => rfl)
      (by show k + 0 = (y 0).val; omega)
    · interval_cases k <;> rfl
    · interval_cases k <;> rfl
  by_cases h7 : (y 0).val < 7
  · rw [one _ h7 rfl]; exact go _ h7 rfl
  · refine (concatenate_apply_piece (t := S9x8192x2048) 0
      [⟨S1x8192x2048, a3 (D.dp 0)⟩, ⟨S1x8192x2048, a3 (D.dp 1)⟩, ⟨S1x8192x2048, a3 (D.dp 2)⟩,
        ⟨S1x8192x2048, a3 (D.dp 3)⟩, ⟨S1x8192x2048, a3 (D.dp 4)⟩, ⟨S1x8192x2048, a3 (D.dp 5)⟩, ⟨S1x8192x2048, a3 (D.dp 6)⟩,
        ⟨S2x8192x2048, val_main_v263 (F := Ideal) x5⟩]
      concatenates_S1x8192x2048_S1x8192x2048_S1x8192x2048_S1x8192x2048_S1x8192x2048_S1x8192x2048_S1x8192x2048_S2x8192x2048_S9x8192x2048_d0
      y 7 (by decide : 7 < 8) S2x8192x2048 (val_main_v263 (F := Ideal) x5) rfl rfl 7 rfl
      (fun a => match a with | ⟨0, _⟩ => ⟨(y 0).val - 7, by show _ < 2; omega⟩ | ⟨1, _⟩ => y 1 | ⟨2, _⟩ => y 2)
      (fun b hb => match b, hb with | ⟨0, _⟩, hb => absurd rfl hb | ⟨1, _⟩, _ => rfl | ⟨2, _⟩, _ => rfl)
      (by show 7 + ((y 0).val - 7) = (y 0).val; omega)).trans ?_
    unfold dpOut
    rw [dif_pos (by omega)]
    rfl

end Mixer.Ref

end
-- ==== Proof.Chunk.lean ====
/- One chunk of the kernel's body — 128 rows of one head — as functions of arrays, in the kernel's own operations: the
   values each store writes and each running sum adds. -/
module

public import proofs.«01_k».proof.Proof.Gen.KernelIdeal
public import proofs.«01_k».proof.Proof.Spec
public import Idealize.ShloMosaic.Lib.MatmulPlain
public import Idealize.ShloMosaic.PureOps.IdealRules

@[expose] public section

set_option maxRecDepth 16384

noncomputable section

namespace Mixer

open Idealize.ShloMosaic Idealize.SL.Sem Cert.KernelIdeal Cert.KernelIdeal.Gen

abbrev V2 := FVec Ideal S128x256 .f32
abbrev B2 := FVec Ideal S128x256 .bf16
abbrev V3 := FVec Ideal S1x128x256 .bf16

theorem lit_c0 : (Scalar.ofBits .f32 0x3F4C422A#32 : Ideal .f32) = re c0 := by
  show Ideal.ofBits .f32 _ = ((c0 : ℝ) : EReal); simp [Ideal.ofBits, Ideal.ieee, -EReal.coe_mul, c0]; norm_num
theorem named_c01 : (Named.named κ "c01" 0x3D122279#32 : Ideal .f32) = re (c0 * c1) := by
  refine (IdealRules.named_const.ideal_named_scalar _ _ _ _ rfl).trans ?_
  show ((80338380498831 / 2251799813685248 : ℝ) : EReal) = ((c0 * c1 : ℝ) : EReal)
  norm_num [c0, c1]
theorem named_c013 : (Named.named κ "c013" 0x3DDB33B6#32 : Ideal .f32) = re (3 * c0 * c1) := by
  refine (IdealRules.named_const.ideal_named_scalar _ _ _ _ rfl).trans ?_
  show ((241015141496493 / 2251799813685248 : ℝ) : EReal) = ((3 * c0 * c1 : ℝ) : EReal)
  norm_num [c0, c1]

/-- A row block of the saved array. -/
def cIn (x : V3) : V2 := extf .f32 (shapeCast S128x256 x shapeCasts_S1x128x256_S128x256) bitsLt_bf16_f32
/-- What a store of a row block writes. -/
def cOut (x : V2) : V3 := shapeCast S1x128x256 (truncf .bf16 x bitsLt_bf16_f32) shapeCasts_S128x256_S1x128x256
def cC (b : BitVec 32) : V2 := broadcast S128x256 (Scalar.ofBits .f32 b)
def cT (u : V2) : V2 :=
  tanh (mulf u (addf (broadcast S128x256 (Scalar.ofBits .f32 0x3F4C422A#32))
    (mulf (broadcast S128x256 (Named.named κ "c01" 0x3D122279#32)) (mulf u u))))
def cHp (u : V2) : V2 := addf (mulf (cC 0x3F000000#32) (cT u)) (cC 0x3F000000#32)
def cGelu (u : V2) : V2 := mulf u (cHp u)
def cGeluD (u : V2) : V2 :=
  addf (cHp u) (mulf (mulf (mulf (cC 0x3F000000#32) u) (subf (cC 0x3F800000#32) (mulf (cT u) (cT u))))
    (addf (broadcast S128x256 (Scalar.ofBits .f32 0x3F4C422A#32))
      (mulf (broadcast S128x256 (Named.named κ "c013" 0x3DDB33B6#32)) (mulf u u))))
def cSilu (z : V2) : V2 := mulf z (logistic z)
def cSiluD (z : V2) : V2 := addf (logistic z) (mulf (cSilu z) (subf (cC 0x3F800000#32) (logistic z)))
/-- The sum of each row. -/
def cRowSum (x : V2) : FVec Ideal S128 .f32 :=
  multiReduction .add [1] S128 x 0x00000000#32 reduces_S128x256_S128 (.inl rfl) rfl
/-- The mean of each row. -/
def cMean (x : V2) : FVec Ideal S128x1 .f32 :=
  divf (shapeCast S128x1 (cRowSum x) shapeCasts_S128_S128x1)
    (broadcast S128x1 (Scalar.ofBits .f32 0x43800000#32))
def cCen (v : V2) : V2 := subf (cGelu v) (broadcastTo S128x256 (cMean (cGelu v)) broadcasts_S128x1_S128x256)
def cRstd (v : V2) : FVec Ideal S128x1 .f32 :=
  rsqrt (addf (cMean (mulf (cCen v) (cCen v))) (broadcast S128x1 (Scalar.ofBits .f32 0x3727C5AC#32)))
def cVhat (v : V2) : V2 := mulf (cCen v) (broadcastTo S128x256 (cRstd v) broadcasts_S128x1_S128x256)
def cRow (g : FVec Ideal S1x256 .f32) : V2 := broadcastTo S128x256 g broadcasts_S1x256_S128x256
def cVn (v : V2) (g b : FVec Ideal S1x256 .f32) : B2 :=
  truncf .bf16 (addf (mulf (cVhat v) (cRow g)) (cRow b)) bitsLt_bf16_f32
def cMixed (v : V2) (g b : FVec Ideal S1x256 .f32) (wm : FVec Ideal S128x128 .bf16) (bs : FVec Ideal S128x1 .f32) : V2 :=
  addf (matmul dot_S128x128_S128x256_S128x256_1_0_0_1_n_n none wm (cVn v g b) (constant S128x256 .f32 0x00000000#32))
    (broadcastTo S128x256 bs broadcasts_S128x1_S128x256)
def cT1 (y z : V2) : V2 := mulf y (cSilu z)
def cDmix (y u z : V2) : V2 := mulf (cT1 y z) (cGelu u)
def cDvn (y u z : V2) (wm : FVec Ideal S128x128 .bf16) : V2 :=
  matmul dot_S128x128_S128x256_S128x256_0_0_1_1_n_n none wm (truncf .bf16 (cDmix y u z) bitsLt_bf16_f32)
    (constant S128x256 .f32 0x00000000#32)
def cSlot0 (y u v z : V2) (g b : FVec Ideal S1x256 .f32) (wm : FVec Ideal S128x128 .bf16) (bs : FVec Ideal S128x1 .f32) : V3 :=
  cOut (mulf (mulf (cT1 y z) (cMixed v g b wm bs)) (cGeluD u))
def cSlot2 (y u v z : V2) (g b : FVec Ideal S1x256 .f32) (wm : FVec Ideal S128x128 .bf16) (bs : FVec Ideal S128x1 .f32) : V3 :=
  cOut (mulf (mulf (mulf y (cGelu u)) (cMixed v g b wm bs)) (cSiluD z))
def cDvh (y u z : V2) (g : FVec Ideal S1x256 .f32) (wm : FVec Ideal S128x128 .bf16) : V2 := mulf (cDvn y u z wm) (cRow g)
def cSlot1 (y u v z : V2) (g : FVec Ideal S1x256 .f32) (wm : FVec Ideal S128x128 .bf16) : V3 :=
  cOut (mulf (mulf (broadcastTo S128x256 (cRstd v) broadcasts_S128x1_S128x256)
    (subf (subf (cDvh y u z g wm) (broadcastTo S128x256 (cMean (cDvh y u z g wm)) broadcasts_S128x1_S128x256))
      (mulf (cVhat v) (broadcastTo S128x256 (cMean (mulf (cDvh y u z g wm) (cVhat v))) broadcasts_S128x1_S128x256))))
    (cGeluD v))
/-- The sum of the 16 groups of 8 rows. -/
def cFold3 (x : FVec Ideal S16x8x256 .f32) : FVec Ideal S8x256 .f32 :=
  multiReduction .add [0] S8x256 x 0x00000000#32 reduces_S16x8x256_S8x256 (.inl rfl) rfl
def cFold (x : V2) : FVec Ideal S8x256 .f32 := cFold3 (shapeCast S16x8x256 x shapeCasts_S128x256_S16x8x256)
/-- What a chunk adds to the sum for the mixing weights. -/
def cGws (y u v z : V2) (g b : FVec Ideal S1x256 .f32) : FVec Ideal S128x128 .f32 :=
  matmul dot_S128x256_S128x256_S128x128_1_1_0_0_n_n none (truncf .bf16 (cDmix y u z) bitsLt_bf16_f32) (cVn v g b)
    (constant S128x128 .f32 0x00000000#32)
def cGlg (y u v z : V2) (wm : FVec Ideal S128x128 .bf16) : FVec Ideal S8x256 .f32 :=
  cFold (mulf (cDvn y u z wm) (cVhat v))
def cGlb (y u z : V2) (wm : FVec Ideal S128x128 .bf16) : FVec Ideal S8x256 .f32 := cFold (cDvn y u z wm)

/-! The convolution mixer. -/
def cDconv (y bb zb : V2) : V2 := mulf (mulf y bb) (cSilu zb)
def cSlot5 (y zb cv : V2) : V3 := cOut (mulf (mulf y cv) (cSilu zb))
def cSlot6 (y bb zb cv : V2) : V3 := cOut (mulf (mulf (mulf y bb) cv) (cSiluD zb))
def cDh (w0 w1 w2 : FVec Ideal S1x256 .f32) (d0 d1 d2 : V2) : V2 :=
  addf (addf (mulf (cRow w2) d0) (mulf (cRow w1) d1)) (mulf (cRow w0) d2)
def cSlot34 (w0 w1 w2 : FVec Ideal S1x256 .f32) (d0 d1 d2 x : V2) : V3 := cOut (mulf (cDh w0 w1 w2 d0 d1 d2) x)
def cGcw (d xb cb : V2) : FVec Ideal S8x256 .f32 := cFold (mulf d (mulf cb xb))

/-- The masked weights. -/
def cWm (w : FVec Ideal S1x128x128 .f32) : FVec Ideal S128x128 .bf16 :=
  truncf .bf16 (select (cmpi .sle (iota .tc S128x128 32 [1] iota_S128x128_d1_w32) (iota .tc S128x128 32 [0] iota_S128x128_d0_w32))
    (shapeCast S128x128 w shapeCasts_S1x128x128_S128x128) (broadcast S128x128 (Scalar.ofBits .f32 0x00000000#32))) bitsLt_bf16_f32

end Mixer

end
-- ==== Proof.ChunkVal.lean ====
/- What the functions of `Chunk` give on real arrays: the mathematics of `Spec`. -/
module

public import proofs.«01_k».proof.Proof.Chunk

@[expose] public section

set_option maxRecDepth 16384

noncomputable section

namespace Mixer

open Idealize.ShloMosaic Idealize.SL.Sem Cert.KernelIdeal Cert.KernelIdeal.Gen

/-- A product of two matrices of reals contracted over one axis of size `K`: a matrix of sums. `L` and `R` say which
    element of each operand the term `q` of the sum at `k` takes. -/
theorem matmul_ar {a b c e M N K : ℕ} {φ₁ φ₂ : FTy} (d : DotDims (Sh2 a b) (Sh2 c e) (Sh2 M N)) (hr : d.contr.rank = 1)
    (hs : d.contr.size ⟨0, by rw [hr]; exact Nat.one_pos⟩ = K) (L R : ℕ × ℕ → ℕ → ℕ × ℕ)
    (hl : ∀ y q, i2 (d.lhsIdx y q) = L (i2 y) (q ⟨0, by rw [hr]; exact Nat.one_pos⟩).val)
    (hR : ∀ y q, i2 (d.rhsIdx y q) = R (i2 y) (q ⟨0, by rw [hr]; exact Nat.one_pos⟩).val)
    (prec : Option ContractPrecision) (f g : ℕ × ℕ → ℝ) :
    FloatOps.matmul d prec (ar (φ := φ₁) i2 f) (ar (φ := φ₂) i2 g) (constant (Sh2 M N) .f32 0x00000000#32)
      = ar i2 fun k => ∑ q : Fin K, f (L k q.val) * g (R k q.val) := by
  funext y
  rw [Ideal.matmul_constant_zero_apply, ← Equiv.sum_comp (ValueIdx.contrEquiv1 d K hr hs).symm]
  refine Eq.trans (Finset.sum_congr rfl fun q _ => ?_) (coe_sum Finset.univ fun q : Fin K => f (L (i2 y) q.val) * g (R (i2 y) q.val))
  have hk := ValueIdx.contrEquiv1_symm_val d K hr hs q
  show ((f (i2 _) : ℝ) : EReal) * ((g (i2 _) : ℝ) : EReal) = _
  rw [hl, hR, hk, EReal.coe_mul]

theorem matmul_mix {φ₁ φ₂ : FTy} (f g : ℕ × ℕ → ℝ) :
    matmul dot_S128x128_S128x256_S128x256_1_0_0_1_n_n none (ar (φ := φ₁) i2 f) (ar (φ := φ₂) i2 g) (constant S128x256 .f32 0x00000000#32)
      = ar i2 fun k => ∑ q : Fin 128, f (k.1, q.val) * g (q.val, k.2) :=
  matmul_ar _ rfl rfl (fun k q => (k.1, q)) (fun k q => (q, k.2)) (fun _ _ => rfl) (fun _ _ => rfl) none f g
theorem matmul_mixT {φ₁ φ₂ : FTy} (f g : ℕ × ℕ → ℝ) :
    matmul dot_S128x128_S128x256_S128x256_0_0_1_1_n_n none (ar (φ := φ₁) i2 f) (ar (φ := φ₂) i2 g) (constant S128x256 .f32 0x00000000#32)
      = ar i2 fun k => ∑ q : Fin 128, f (q.val, k.1) * g (q.val, k.2) :=
  matmul_ar _ rfl rfl (fun k q => (q, k.1)) (fun k q => (q, k.2)) (fun _ _ => rfl) (fun _ _ => rfl) none f g
theorem matmul_ws {φ₁ φ₂ : FTy} (f g : ℕ × ℕ → ℝ) :
    matmul dot_S128x256_S128x256_S128x128_1_1_0_0_n_n none (ar (φ := φ₁) i2 f) (ar (φ := φ₂) i2 g) (constant S128x128 .f32 0x00000000#32)
      = ar i2 fun k => ∑ q : Fin 256, f (k.1, q.val) * g (k.2, q.val) :=
  matmul_ar _ rfl rfl (fun k q => (k.1, q)) (fun k q => (k.2, q)) (fun _ _ => rfl) (fun _ _ => rfl) none f g
theorem matmul_proj {φ₁ φ₂ : FTy} (f g : ℕ × ℕ → ℝ) :
    matmul dot_S1024x2048_S256x2048_S1024x256_1_1_0_0_n_n none (ar (φ := φ₁) i2 f) (ar (φ := φ₂) i2 g)
        (constant S1024x256 .f32 0x00000000#32)
      = ar i2 fun k => ∑ q : Fin 2048, f (k.1, q.val) * g (k.2, q.val) :=
  matmul_ar _ rfl rfl (fun k q => (k.1, q)) (fun k q => (k.2, q)) (fun _ _ => rfl) (fun _ _ => rfl) none f g

/-! The chunk's functions on real arrays, `m f` the array of the real matrix `f`. -/

/-- The array of a real matrix. -/
def m {a b : ℕ} {φ : FTy} (f : ℕ → ℕ → ℝ) : FVec Ideal (Sh2 a b) φ := ar i2 fun k => f k.1 k.2

section
variable (u v z y : ℕ → ℕ → ℝ)

theorem cT_m : cT (m u) = m fun r e => geluT (u r e) := by
  simp only [cT, m, lit_c0, named_c01, broadcast_re, mulf_ar, mulf_cst_ar, addf_cst_ar, tanh_ar, geluT]
theorem cHp_m : cHp (m u) = m fun r e => 1 / 2 * geluT (u r e) + 1 / 2 := by
  simp only [cHp, cT_m, cC, lit_half, broadcast_re]; simp only [m, mulf_cst_ar, addf_ar_cst]
theorem cGelu_m : cGelu (m u) = m fun r e => gelu (u r e) := by
  simp only [cGelu, cHp_m]; simp only [m, mulf_ar, gelu]
theorem cGeluD_m : cGeluD (m u) = m fun r e => geluD (u r e) := by
  simp only [cGeluD, cHp_m, cT_m, cC, lit_half, lit_one, lit_c0, named_c013, broadcast_re]
  simp only [m, mulf_ar, mulf_cst_ar, addf_cst_ar, subf_cst_ar, addf_ar, geluD]
theorem cSilu_m : cSilu (m z) = m fun r e => silu (z r e) := by
  simp only [cSilu, m, logistic_ar, mulf_ar, silu]
theorem cSiluD_m : cSiluD (m z) = m fun r e => siluD (z r e) := by
  simp only [cSiluD, cSilu_m, cC, lit_one, broadcast_re]
  simp only [m, logistic_ar, mulf_ar, subf_cst_ar, addf_ar, siluD, silu]
theorem cRowSum_m : cRowSum (m u) = ar i1 fun r => ∑ e : Fin 256, u r e.val := multiReduction_last _ _ _ _ _
theorem cMean_m : cMean (m u) = m fun r _ => mean (u r) := by
  simp only [cMean, cRowSum_m, lit_256, broadcast_re]
  simp only [m, shapeCast_col]
  rw [divf_ar_cst _ _ _ (by norm_num)]
  rfl
theorem bcol_m (f : ℕ → ℕ → ℝ) :
    broadcastTo S128x256 (m (φ := .f32) f : FVec Ideal S128x1 .f32) broadcasts_S128x1_S128x256 = m fun r _ => f r 0 := by
  simp only [m, broadcastTo_col]
theorem cRow_m (f : ℕ → ℕ → ℝ) : cRow (m f) = m fun _ e => f 0 e := by
  simp only [cRow, m, broadcastTo_row]
theorem mulf_m (f g : ℕ → ℕ → ℝ) {a b : ℕ} {φ : FTy} :
    mulf (m (a := a) (b := b) (φ := φ) f) (m g) = m fun r e => f r e * g r e := by simp only [m, mulf_ar]
theorem addf_m (f g : ℕ → ℕ → ℝ) {a b : ℕ} {φ : FTy} :
    addf (m (a := a) (b := b) (φ := φ) f) (m g) = m fun r e => f r e + g r e := by simp only [m, addf_ar]
theorem subf_m (f g : ℕ → ℕ → ℝ) {a b : ℕ} {φ : FTy} :
    subf (m (a := a) (b := b) (φ := φ) f) (m g) = m fun r e => f r e - g r e := by simp only [m, subf_ar]
theorem truncf_m (f : ℕ → ℕ → ℝ) {a b : ℕ} {φ ψ : FTy} (h : ψ.bits < φ.bits) :
    truncf ψ (m (a := a) (b := b) (φ := φ) f) h = m f := rfl
theorem cOut_m (f : ℕ → ℕ → ℝ) : cOut (m f) = ar i3 fun k => f k.2.1 k.2.2 := by
  simp only [cOut, truncf_m]; simp only [m, shapeCast_lead]
theorem cFold3_ar (f : ℕ × ℕ × ℕ → ℝ) : cFold3 (ar i3 f) = ar i2 fun k => ∑ q : Fin 16, f (q.val, k.1, k.2) :=
  multiReduction_fold _ _ _ _ _
theorem cFold_m (f : ℕ → ℕ → ℝ) : cFold (m f) = m fun r e => ∑ q : Fin 16, f (q.val * 8 + r) e := by
  simp only [cFold, m]
  rw [shapeCast_fold _ _ (by norm_num : 128 = 16 * 8), cFold3_ar]
theorem cIn_ar (f : ℕ × ℕ × ℕ → ℝ) : cIn (ar i3 f) = m fun r e => f (0, r, e) := by
  simp only [cIn, shapeCast_drop, extf_ar, m]
end

section
variable (D : Data) (h n : ℕ)

/-- The head's inputs of a chunk, as arrays. -/
def aG : FVec Ideal S1x256 .f32 := m fun _ e => D.G h e
def aB : FVec Ideal S1x256 .f32 := m fun _ e => D.Bt h e
def aW : FVec Ideal S128x128 .bf16 := m (D.wm h)
def aS : FVec Ideal S128x1 .f32 := m fun r _ => D.bs h r

theorem mean_sq_nonneg (f : ℕ → ℝ) : 0 ≤ mean fun e => f e * f e :=
  div_nonneg (Finset.sum_nonneg fun _ _ => mul_self_nonneg _) (by norm_num)

theorem cCen_m : cCen (m (D.V h n)) = m (D.cen h n) := by
  simp only [cCen, cGelu_m, cMean_m, bcol_m, subf_m]; rfl
theorem cRstd_m : cRstd (m (D.V h n)) = m fun r _ => D.rstd h n r := by
  simp only [cRstd, cCen_m, mulf_m, cMean_m, lit_eps, broadcast_re]
  simp only [m, addf_ar_cst]
  rw [rsqrt_ar _ _ fun k => add_pos_of_nonneg_of_pos (mean_sq_nonneg _) eps_pos]
  rfl
theorem cVhat_m : cVhat (m (D.V h n)) = m (D.vhat h n) := by
  simp only [cVhat, cCen_m, cRstd_m, bcol_m, mulf_m]; rfl
theorem cVn_m : cVn (m (D.V h n)) (aG D h) (aB D h) = m (D.vn h n) := by
  simp only [cVn, aG, aB, cVhat_m, cRow_m, mulf_m, addf_m, truncf_m]; rfl
theorem cMixed_m : cMixed (m (D.V h n)) (aG D h) (aB D h) (aW D h) (aS D h) = m (D.mixed h n) := by
  simp only [cMixed, cVn_m, aS, bcol_m]
  simp only [aW, m, matmul_mix, addf_ar]; rfl
theorem cT1_m : cT1 (m (D.Y h n)) (m (D.Z h n)) = m (D.t1 h n) := by
  simp only [cT1, cSilu_m, mulf_m]; rfl
theorem cDmix_m : cDmix (m (D.Y h n)) (m (D.U h n)) (m (D.Z h n)) = m (D.dmix h n) := by
  simp only [cDmix, cT1_m, cGelu_m, mulf_m]; rfl
theorem cDvn_m : cDvn (m (D.Y h n)) (m (D.U h n)) (m (D.Z h n)) (aW D h) = m (D.dvn h n) := by
  simp only [cDvn, cDmix_m, truncf_m]
  simp only [aW, m, matmul_mixT]; rfl
theorem cDvh_m : cDvh (m (D.Y h n)) (m (D.U h n)) (m (D.Z h n)) (aG D h) (aW D h) = m (D.dvh h n) := by
  simp only [cDvh, cDvn_m, aG, cRow_m, mulf_m]; rfl
theorem cSlot0_m : cSlot0 (m (D.Y h n)) (m (D.U h n)) (m (D.V h n)) (m (D.Z h n)) (aG D h) (aB D h) (aW D h) (aS D h)
    = ar i3 fun k => D.slot0 h n k.2.1 k.2.2 := by
  simp only [cSlot0, cT1_m, cMixed_m, cGeluD_m, mulf_m, cOut_m]; rfl
theorem cSlot2_m : cSlot2 (m (D.Y h n)) (m (D.U h n)) (m (D.V h n)) (m (D.Z h n)) (aG D h) (aB D h) (aW D h) (aS D h)
    = ar i3 fun k => D.slot2 h n k.2.1 k.2.2 := by
  simp only [cSlot2, cGelu_m, cMixed_m, cSiluD_m, mulf_m, cOut_m]; rfl
theorem cSlot1_m : cSlot1 (m (D.Y h n)) (m (D.U h n)) (m (D.V h n)) (m (D.Z h n)) (aG D h) (aW D h)
    = ar i3 fun k => D.slot1 h n k.2.1 k.2.2 := by
  simp only [cSlot1, cRstd_m, cDvh_m, cVhat_m, cGeluD_m, cMean_m, mulf_m, subf_m, bcol_m, cOut_m]; rfl
theorem cGws_m : cGws (m (D.Y h n)) (m (D.U h n)) (m (D.V h n)) (m (D.Z h n)) (aG D h) (aB D h)
    = m fun r s => ∑ e : Fin 256, D.dmix h n r e.val * D.vn h n s e.val := by
  simp only [cGws, cDmix_m, cVn_m, truncf_m]
  simp only [m, matmul_ws]
theorem cGlg_m : cGlg (m (D.Y h n)) (m (D.U h n)) (m (D.V h n)) (m (D.Z h n)) (aW D h)
    = m fun r e => ∑ q : Fin 16, D.dvn h n (q.val * 8 + r) e * D.vhat h n (q.val * 8 + r) e := by
  simp only [cGlg, cDvn_m, cVhat_m, mulf_m, cFold_m]
theorem cGlb_m : cGlb (m (D.Y h n)) (m (D.U h n)) (m (D.Z h n)) (aW D h)
    = m fun r e => ∑ q : Fin 16, D.dvn h n (q.val * 8 + r) e := by
  simp only [cGlb, cDvn_m, cFold_m]

/-- The causal mask's comparison. -/
theorem mask_sle : ∀ r s : Fin 128,
    IntOp.cmpi .sle (BitVec.ofNat 32 s.val) (BitVec.ofNat 32 r.val) = if s.val ≤ r.val then 1#1 else 0#1 := by
  decide +kernel
theorem mask_select (f : ℕ → ℕ → ℝ) :
    select (cmpi .sle (iota .tc S128x128 32 [1] iota_S128x128_d1_w32) (iota .tc S128x128 32 [0] iota_S128x128_d0_w32))
      (m (φ := .f32) f : FVec Ideal S128x128 .f32) (cst 0) = m fun r s => if s ≤ r then f r s else 0 := by
  funext y
  show Scalar.select (IntOp.cmpi .sle (iota .tc S128x128 32 [1] iota_S128x128_d1_w32 y) (iota .tc S128x128 32 [0] iota_S128x128_d0_w32 y))
    (re (f (y 0).val (y 1).val)) (re 0) = re (if (y 1).val ≤ (y 0).val then f (y 0).val (y 1).val else 0)
  rw [iota_single_apply, iota_single_apply, mask_sle ⟨(y 0).val, (y 0).isLt⟩ ⟨(y 1).val, (y 1).isLt⟩]
  show Scalar.select (if (y 1).val ≤ (y 0).val then 1#1 else 0#1) _ _ = _
  by_cases hc : (y 1).val ≤ (y 0).val
  · rw [if_pos hc, if_pos hc]; rfl
  · rw [if_neg hc, if_neg hc]; rfl

theorem cWm_ar : cWm (ar i3 fun k => D.ws h k.2.1 k.2.2) = aW D h := by
  simp only [cWm, shapeCast_drop, lit_zero, broadcast_re]
  exact congrArg (fun x => truncf .bf16 x bitsLt_bf16_f32) (mask_select (D.ws h))
end

/-! The convolution mixer. -/
section
variable (y bb zb cv x d0 d1 d2 w0 w1 w2 cb : ℕ → ℕ → ℝ)

theorem cDconv_m : cDconv (m y) (m bb) (m zb) = m fun r e => y r e * bb r e * silu (zb r e) := by
  simp only [cDconv, cSilu_m, mulf_m]
theorem cSlot5_m : cSlot5 (m y) (m zb) (m cv) = ar i3 fun k => y k.2.1 k.2.2 * cv k.2.1 k.2.2 * silu (zb k.2.1 k.2.2) := by
  simp only [cSlot5, cSilu_m, mulf_m, cOut_m]
theorem cSlot6_m : cSlot6 (m y) (m bb) (m zb) (m cv)
    = ar i3 fun k => y k.2.1 k.2.2 * bb k.2.1 k.2.2 * cv k.2.1 k.2.2 * siluD (zb k.2.1 k.2.2) := by
  simp only [cSlot6, cSiluD_m, mulf_m, cOut_m]
theorem cDh_m : cDh (m w0) (m w1) (m w2) (m d0) (m d1) (m d2)
    = m fun r e => w2 0 e * d0 r e + w1 0 e * d1 r e + w0 0 e * d2 r e := by
  simp only [cDh, cRow_m, mulf_m, addf_m]
theorem cSlot34_m : cSlot34 (m w0) (m w1) (m w2) (m d0) (m d1) (m d2) (m x)
    = ar i3 fun k => (w2 0 k.2.2 * d0 k.2.1 k.2.2 + w1 0 k.2.2 * d1 k.2.1 k.2.2 + w0 0 k.2.2 * d2 k.2.1 k.2.2) * x k.2.1 k.2.2 := by
  simp only [cSlot34, cDh_m, mulf_m, cOut_m]
theorem cGcw_m : cGcw (m d0) (m x) (m cb) = m fun r e => ∑ q : Fin 16, d0 (q.val * 8 + r) e * (cb (q.val * 8 + r) e * x (q.val * 8 + r) e) := by
  simp only [cGcw, mulf_m, cFold_m]
end

end Mixer

end
-- ==== Proof.Point.lean ====
/- One step of the kernel's grid: a tile of 1024 rows of one head, in eight chunks of 128 rows. What its stores write and
   its running sums add, as functions of the arrays the step loads, and their values when those arrays are real. -/
module

public import proofs.«01_k».proof.Proof.ChunkVal
public import Idealize.ShloMosaic.Lib.Pipeline.ValueKit

@[expose] public section

set_option maxRecDepth 16384

noncomputable section

namespace Mixer

open Idealize.ShloMosaic Idealize.SL.Sem Cert.KernelIdeal Cert.KernelIdeal.Gen

/-! Parts of an array. -/

theorem ld_ar3 {a b c a' b' c' : ℕ} (f : ℕ × ℕ × ℕ → ℝ) (o₀ o₁ o₂ : ℕ) (inb : ∀ k, (![o₀, o₁, o₂] : Fin 3 → ℕ) k + (Sh3 a' b' c').size k ≤ (Sh3 a b c).size k) :
    View.ld (Val := Elt Ideal) (S := Sh3 a b c) (e' := .bf16) (ar (φ := .bf16) i3 f) (Rect.unit ![o₀, o₁, o₂] (Sh3 a' b' c').size inb)
      = (ar (φ := .bf16) i3 fun k => f (o₀ + k.1, o₁ + k.2.1, o₂ + k.2.2) : FVec Ideal (Sh3 a' b' c') .bf16) := by
  funext y
  show (re (φ := .bf16) (f _)) = re (f _)
  simp only [i3, Rect.idx_unit_val]
  rfl
theorem ld_m {a b a' b' : ℕ} (f : ℕ → ℕ → ℝ) (o₀ o₁ : ℕ) (inb : ∀ k, (![o₀, o₁] : Fin 2 → ℕ) k + (Sh2 a' b').size k ≤ (Sh2 a b).size k) :
    View.ld (Val := Elt Ideal) (S := Sh2 a b) (e' := .f32) (m (φ := .f32) f) (Rect.unit ![o₀, o₁] (Sh2 a' b').size inb)
      = (m (φ := .f32) fun r e => f (o₀ + r) (o₁ + e) : FVec Ideal (Sh2 a' b') .f32) := by
  funext y
  show (re (φ := .f32) (f _ _)) = re (f _ _)
  simp only [i2, Rect.idx_unit_val]
  rfl
theorem slice_m {a b a' b' : ℕ} (f : ℕ → ℕ → ℝ) (o₀ : ℕ) (h : (Sh2 a b).Slices ![o₀, 0] (Sh2 a' b')) :
    extractStridedSlice (Sh2 a' b') ![o₀, 0] (m (φ := .f32) f : FVec Ideal (Sh2 a b) .f32) h
      = m fun r e => f (o₀ + r) e := by
  obtain ⟨_, hs⟩ := h
  have h0 : o₀ + a' ≤ a := hs 0
  have h1 : 0 + b' ≤ b := hs 1
  funext y
  have hy0 : (y 0).val < a' := (y 0).isLt
  have hy1 : (y 1).val < b' := (y 1).isLt
  exact extractStridedSlice_apply (s := Sh2 a b) (t := Sh2 a' b') _ _ _ y
    (fun k => match k with | ⟨0, _⟩ => ⟨o₀ + (y 0).val, by show _ < a; omega⟩ | ⟨1, _⟩ => ⟨(y 1).val, by show _ < b; omega⟩)
    (fun k => match k with | ⟨0, _⟩ => rfl | ⟨1, _⟩ => (Nat.zero_add _).symm)

/-! The step's chunks, as functions of the arrays it loads. -/

theorem sliceOK (q : ℕ) (hq : q < 8) : S1024x256.Slices ![128 * q, 0] S128x256 :=
  ⟨rfl, fun a => match a with
    | ⟨0, _⟩ => by show 128 * q + 128 ≤ 1024; omega
    | ⟨1, _⟩ => by show 0 + 256 ≤ 256; omega⟩
theorem inbP (k q : ℕ) (hk : k < 8) (hq : q < 8) (a : Fin 3) : (![k, 128 * q, 0] : Fin 3 → ℕ) a + S1x128x256.size a ≤ S8x1024x256.size a :=
  match a with
  | ⟨0, _⟩ => by show k + 1 ≤ 8; omega
  | ⟨1, _⟩ => by show 128 * q + 128 ≤ 1024; omega
  | ⟨2, _⟩ => by show 0 + 256 ≤ 256; omega
theorem inbW (j : ℕ) (hj : j < 3) (a : Fin 2) : (![j, 0] : Fin 2 → ℕ) a + S1x256.size a ≤ S3x256.size a :=
  match a with
  | ⟨0, _⟩ => by show j + 1 ≤ 3; omega
  | ⟨1, _⟩ => by show 0 + 256 ≤ 256; omega
theorem inbD (o n : ℕ) (h : o + n ≤ 1032) (a : Fin 2) : (![o, 0] : Fin 2 → ℕ) a + (Sh2 n 256).size a ≤ S1032x256.size a :=
  match a with
  | ⟨0, _⟩ => by show o + n ≤ 1032; omega
  | ⟨1, _⟩ => by show 0 + 256 ≤ 256; omega
theorem inbG (k q : ℕ) (hk : k < 2) (hq : q < 8) (a : Fin 3) : (![k, 128 * q, 0] : Fin 3 → ℕ) a + S1x128x256.size a ≤ S2x1024x256.size a :=
  match a with
  | ⟨0, _⟩ => by show k + 1 ≤ 2; omega
  | ⟨1, _⟩ => by show 128 * q + 128 ≤ 1024; omega
  | ⟨2, _⟩ => by show 0 + 256 ≤ 256; omega

section
variable (x0 x1 : FVec Ideal S1024x2048 .bf16) (x2 x3 : FVec Ideal S256x2048 .bf16) (x4 : FVec Ideal S8x1024x256 .bf16)
  (x5 : FVec Ideal S2x1024x256 .bf16) (x6 x7 : FVec Ideal S1x256 .f32) (x8 : FVec Ideal S1x128x128 .f32)
  (x9 : FVec Ideal S1x128x1 .f32) (x10 : FVec Ideal S3x256 .f32) (xs : FVec Ideal S8x256 .f32)

/-- Rows of a projection. -/
def pY (q : ℕ) (hq : q < 8) : V2 :=
  extractStridedSlice S128x256 ![128 * q, 0]
    (matmul dot_S1024x2048_S256x2048_S1024x256_1_1_0_0_n_n none x0 x2 (constant S1024x256 .f32 0x00000000#32)) (sliceOK q hq)
/-- Rows of a saved pre-activation. -/
def pL (k q : ℕ) (hk : k < 8) (hq : q < 8) : V2 :=
  cIn (View.ld (Val := Elt Ideal) (S := S8x1024x256) (e' := .bf16) x4 (Rect.unit ![k, 128 * q, 0] S1x128x256.size (inbP k q hk hq)))
def pW (j : ℕ) (hj : j < 3) : FVec Ideal S1x256 .f32 :=
  View.ld (Val := Elt Ideal) (S := S3x256) (e' := .f32) x10 (Rect.unit ![j, 0] S1x256.size (inbW j hj))
def pS : FVec Ideal S128x1 .f32 := shapeCast S128x1 x9 shapeCasts_S1x128x1_S128x1
/-- A tap of the convolution's gradient that is passed through. -/
def pG (k q : ℕ) (hk : k < 2) (hq : q < 8) : V3 :=
  shapeCast S1x128x256 (shapeCast S128x256
    (View.ld (Val := Elt Ideal) (S := S2x1024x256) (e' := .bf16) x5 (Rect.unit ![k, 128 * q, 0] S1x128x256.size (inbG k q hk hq)))
    shapeCasts_S1x128x256_S128x256) shapeCasts_S128x256_S1x128x256

def pDconv (q : ℕ) (hq : q < 8) : V2 := cDconv (pY x1 x3 q hq) (pL x4 5 q (by decide) hq) (pL x4 6 q (by decide) hq)

/-- The stores into the buffer of the convolution's gradient before chunk `7 - k`, the last first. -/
def pBuf : (k : ℕ) → (hk : k ≤ 8) → List (View.Piece (Elt Ideal) S1032x256 .f32)
  | 0, _ => [⟨Rect.unit (s := S1032x256) ![1024, 0] S8x256.size (inbD 1024 8 (by decide)), shapeCast S8x256 xs shapeCasts_S8x256_S8x256⟩]
  | k + 1, hk => ⟨Rect.unit (s := S1032x256) ![128 * (7 - k), 0] S128x256.size (inbD (128 * (7 - k)) 128 (by omega)),
      shapeCast S128x256 (pDconv x1 x3 x4 (7 - k) (by omega)) shapeCasts_S128x256_S128x256⟩ :: pBuf k (by omega)

variable (q : ℕ) (hq : q < 8)
def pSlot0 : V3 := cSlot0 (pY x0 x2 q hq) (pL x4 0 q (by decide) hq) (pL x4 1 q (by decide) hq) (pL x4 2 q (by decide) hq) x6 x7 (cWm x8) (pS x9)
def pSlot2 : V3 := cSlot2 (pY x0 x2 q hq) (pL x4 0 q (by decide) hq) (pL x4 1 q (by decide) hq) (pL x4 2 q (by decide) hq) x6 x7 (cWm x8) (pS x9)
def pSlot1 : V3 := cSlot1 (pY x0 x2 q hq) (pL x4 0 q (by decide) hq) (pL x4 1 q (by decide) hq) (pL x4 2 q (by decide) hq) x6 (cWm x8)
def pGws : FVec Ideal S128x128 .f32 := cGws (pY x0 x2 q hq) (pL x4 0 q (by decide) hq) (pL x4 1 q (by decide) hq) (pL x4 2 q (by decide) hq) x6 x7
def pGbs : V2 := cDmix (pY x0 x2 q hq) (pL x4 0 q (by decide) hq) (pL x4 2 q (by decide) hq)
def pGlg : FVec Ideal S8x256 .f32 := cGlg (pY x0 x2 q hq) (pL x4 0 q (by decide) hq) (pL x4 1 q (by decide) hq) (pL x4 2 q (by decide) hq) (cWm x8)
def pGlb : FVec Ideal S8x256 .f32 := cGlb (pY x0 x2 q hq) (pL x4 0 q (by decide) hq) (pL x4 2 q (by decide) hq) (cWm x8)
def pSlot5 : V3 := cSlot5 (pY x1 x3 q hq) (pL x4 6 q (by decide) hq) (pL x4 7 q (by decide) hq)
def pSlot6 : V3 := cSlot6 (pY x1 x3 q hq) (pL x4 5 q (by decide) hq) (pL x4 6 q (by decide) hq) (pL x4 7 q (by decide) hq)
def pGcb : FVec Ideal S8x256 .f32 := cFold (pDconv x1 x3 x4 q hq)

/-- The rows of the buffer `j` below the chunk's. -/
def pTap (v : View Cert.KernelIdeal.sig .tc .vmem S1032x256 .f32) (j : ℕ) (hj : j < 3) : V2 :=
  v.readCov (pBuf x1 x3 x4 xs (8 - q) (by omega)) (Rect.unit (s := S1032x256) ![128 * q + j, 0] S128x256.size (inbD (128 * q + j) 128 (by omega))).toLoadRect
variable (v : View Cert.KernelIdeal.sig .tc .vmem S1032x256 .f32)
def pSlot34 (k : ℕ) (hk : k < 8) : V3 :=
  cSlot34 (pW x10 0 (by decide)) (pW x10 1 (by decide)) (pW x10 2 (by decide)) (pDconv x1 x3 x4 q hq)
    (pTap x1 x3 x4 xs q hq v 1 (by decide)) (pTap x1 x3 x4 xs q hq v 2 (by decide)) (pL x4 k q hk hq)
def pGcw (d : V2) : FVec Ideal S8x256 .f32 := cGcw d (pL x4 3 q (by decide) hq) (pL x4 4 q (by decide) hq)
end

/-- A running sum over the step's chunks, from the last to the first. -/
def chain {S : Shape} (x : FVec Ideal S .f32) (f : (q : ℕ) → q < 8 → FVec Ideal S .f32) : FVec Ideal S .f32 :=
  addf (addf (addf (addf (addf (addf (addf (addf x (f 7 (by decide))) (f 6 (by decide))) (f 5 (by decide))) (f 4 (by decide)))
    (f 3 (by decide))) (f 2 (by decide))) (f 1 (by decide))) (f 0 (by decide))
theorem chain_m {a b : ℕ} (X : ℕ → ℕ → ℝ) (f : (q : ℕ) → q < 8 → FVec Ideal (Sh2 a b) .f32) (F : ℕ → ℕ → ℕ → ℝ)
    (hf : ∀ q hq, f q hq = m (F q)) : chain (m X) f = m fun r e => X r e + ∑ q : Fin 8, F q.val r e := by
  simp only [chain, hf, addf_m]
  refine congrArg m (funext fun r => funext fun e => ?_)
  rw [Fin.sum_univ_eight]
  show X r e + F 7 r e + F 6 r e + F 5 r e + F 4 r e + F 3 r e + F 2 r e + F 1 r e + F 0 r e = _
  simp only [Fin.val_zero, Fin.val_one, Fin.val_two, show (3 : Fin 8).val = 3 from rfl, show (4 : Fin 8).val = 4 from rfl,
    show (5 : Fin 8).val = 5 from rfl, show (6 : Fin 8).val = 6 from rfl, show (7 : Fin 8).val = 7 from rfl]
  ring

/-- What the running sums and the carried rows are reset to. -/
def cZero {S : Shape} (h : S.ShapeCasts S) : FVec Ideal S .f32 := shapeCast S (broadcast S (Scalar.ofBits .f32 0x00000000#32)) h
theorem cZero_m {a b : ℕ} (h : (Sh2 a b).ShapeCasts (Sh2 a b)) : cZero h = m fun _ _ => 0 := by
  rw [cZero, shapeCast_self, lit_zero]; rfl

/-! The values. -/

/-- The saved pre-activations and the convolution. -/
def Data.sv (D : Data) (k t c : ℕ) : ℝ := if k < 7 then D.p k t c else D.conv t c

/-- The arrays a step loads are those of tile `ρ` and head `h` of the real data. -/
structure Tile (D : Data) (h ρ : ℕ) (x0 x1 : FVec Ideal S1024x2048 .bf16) (x2 x3 : FVec Ideal S256x2048 .bf16)
    (x4 : FVec Ideal S8x1024x256 .bf16) (x6 x7 : FVec Ideal S1x256 .f32) (x8 : FVec Ideal S1x128x128 .f32)
    (x9 : FVec Ideal S1x128x1 .f32) (x10 : FVec Ideal S3x256 .f32) : Prop where
  hρ : ρ < 8
  e0 : x0 = m fun r k => D.da (1024 * ρ + r) k
  e1 : x1 = m fun r k => D.db (1024 * ρ + r) k
  e2 : x2 = m fun e k => D.woa (256 * h + e) k
  e3 : x3 = m fun e k => D.wob (256 * h + e) k
  e4 : x4 = ar i3 fun k => D.sv k.1 (1024 * ρ + k.2.1) (256 * h + k.2.2)
  e6 : x6 = aG D h
  e7 : x7 = aB D h
  e8 : x8 = ar i3 fun k => D.ws h k.2.1 k.2.2
  e9 : x9 = ar i3 fun k => D.bs h k.2.1
  e10 : x10 = m fun j e => D.cw j (256 * h + e)

section
variable {D : Data} {h ρ : ℕ} {x0 x1 : FVec Ideal S1024x2048 .bf16} {x2 x3 : FVec Ideal S256x2048 .bf16}
  {x4 : FVec Ideal S8x1024x256 .bf16} {x6 x7 : FVec Ideal S1x256 .f32} {x8 : FVec Ideal S1x128x128 .f32}
  {x9 : FVec Ideal S1x128x1 .f32} {x10 : FVec Ideal S3x256 .f32} (H : Tile D h ρ x0 x1 x2 x3 x4 x6 x7 x8 x9 x10)
  (q : ℕ) (hq : q < 8)
include H

omit H in
theorem row_eq (r : ℕ) : 1024 * ρ + (128 * q + r) = 128 * (8 * ρ + q) + r := by omega

theorem pY_m : pY x0 x2 q hq = m (D.Y h (8 * ρ + q)) := by
  rw [pY, H.e0, H.e2, m, m, matmul_proj]
  refine (slice_m (fun r e => ∑ k : Fin 2048, D.da (1024 * ρ + r) k.val * D.woa (256 * h + e) k.val) _ _).trans ?_
  simp only [row_eq]; rfl
theorem pYb_m : pY x1 x3 q hq = m fun r e => D.dyb (1024 * ρ + 128 * q + r) (256 * h + e) := by
  rw [pY, H.e1, H.e3, m, m, matmul_proj]
  refine (slice_m (fun r e => ∑ k : Fin 2048, D.db (1024 * ρ + r) k.val * D.wob (256 * h + e) k.val) _ _).trans ?_
  simp only [← Nat.add_assoc]; rfl
theorem pL_m (k : ℕ) (hk : k < 8) : pL x4 k q hk hq = m fun r e => D.sv k (1024 * ρ + 128 * q + r) (256 * h + e) := by
  rw [pL, H.e4]
  refine (congrArg cIn (ld_ar3 _ _ _ _ _)).trans ((cIn_ar _).trans ?_)
  simp only [Nat.add_zero, Nat.zero_add, ← Nat.add_assoc]
theorem pLU : pL x4 0 q (by decide) hq = m (D.U h (8 * ρ + q)) := by
  rw [pL_m H]; simp only [Nat.add_assoc, row_eq]; rfl
theorem pLV : pL x4 1 q (by decide) hq = m (D.V h (8 * ρ + q)) := by
  rw [pL_m H]; simp only [Nat.add_assoc, row_eq]; rfl
theorem pLZ : pL x4 2 q (by decide) hq = m (D.Z h (8 * ρ + q)) := by
  rw [pL_m H]; simp only [Nat.add_assoc, row_eq]; rfl
theorem pW_m (j : ℕ) (hj : j < 3) : pW x10 j hj = m fun _ e => D.cw j (256 * h + e) := by
  rw [pW, H.e10]
  refine (ld_m _ _ _ _).trans ?_
  funext y
  have h0 : (y 0).val < 1 := (y 0).isLt
  show re (D.cw (j + (y 0).val) (256 * h + (0 + (y 1).val))) = re (D.cw j (256 * h + (y 1).val))
  rw [Nat.zero_add, show j + (y 0).val = j by omega]
theorem pS_m : pS x9 = aS D h := by
  rw [pS, H.e9]; exact shapeCast_drop _ _
theorem wm_m : cWm x8 = aW D h := by rw [H.e8]; exact cWm_ar D h

theorem pSlot0_m : pSlot0 x0 x2 x4 x6 x7 x8 x9 q hq = ar i3 fun k => D.slot0 h (8 * ρ + q) k.2.1 k.2.2 := by
  rw [pSlot0, pY_m H, pLU H, pLV H, pLZ H, wm_m H, pS_m H, H.e6, H.e7, cSlot0_m]
theorem pSlot2_m : pSlot2 x0 x2 x4 x6 x7 x8 x9 q hq = ar i3 fun k => D.slot2 h (8 * ρ + q) k.2.1 k.2.2 := by
  rw [pSlot2, pY_m H, pLU H, pLV H, pLZ H, wm_m H, pS_m H, H.e6, H.e7, cSlot2_m]
theorem pSlot1_m : pSlot1 x0 x2 x4 x6 x8 q hq = ar i3 fun k => D.slot1 h (8 * ρ + q) k.2.1 k.2.2 := by
  rw [pSlot1, pY_m H, pLU H, pLV H, pLZ H, wm_m H, H.e6, cSlot1_m]
theorem pGws_m : pGws x0 x2 x4 x6 x7 q hq = m fun r s => ∑ e : Fin 256, D.dmix h (8 * ρ + q) r e.val * D.vn h (8 * ρ + q) s e.val := by
  rw [pGws, pY_m H, pLU H, pLV H, pLZ H, H.e6, H.e7, cGws_m]
theorem pGbs_m : pGbs x0 x2 x4 q hq = m (D.dmix h (8 * ρ + q)) := by
  rw [pGbs, pY_m H, pLU H, pLZ H, cDmix_m]
theorem pGlg_m : pGlg x0 x2 x4 x8 q hq
    = m fun r e => ∑ k : Fin 16, D.dvn h (8 * ρ + q) (k.val * 8 + r) e * D.vhat h (8 * ρ + q) (k.val * 8 + r) e := by
  rw [pGlg, pY_m H, pLU H, pLV H, pLZ H, wm_m H, cGlg_m]
theorem pGlb_m : pGlb x0 x2 x4 x8 q hq = m fun r e => ∑ k : Fin 16, D.dvn h (8 * ρ + q) (k.val * 8 + r) e := by
  rw [pGlb, pY_m H, pLU H, pLZ H, wm_m H, cGlb_m]

omit H in
/-- Rows whose values are named by the row of the whole array agree when they agree below 128. -/
theorem m_congr {a b : ℕ} {φ : FTy} {f g : ℕ → ℕ → ℝ} (hfg : ∀ r e, r < a → e < b → f r e = g r e) :
    (m f : FVec Ideal (Sh2 a b) φ) = m g := by
  funext y
  exact congrArg re (hfg _ _ (y 0).isLt (y 1).isLt)

theorem pDconv_m : pDconv x1 x3 x4 q hq = m fun r e => D.dcv (1024 * ρ + 128 * q + r) (256 * h + e) := by
  rw [pDconv, pYb_m H, pL_m H, pL_m H, cDconv_m]
  have := H.hρ
  exact m_congr fun r e hr _ => by rw [Data.dcv, if_pos (by omega)]; rfl
theorem pSlot5_m : pSlot5 x1 x3 x4 q hq = ar i3 fun k => D.slot5 (1024 * ρ + 128 * q + k.2.1) (256 * h + k.2.2) := by
  rw [pSlot5, pYb_m H, pL_m H, pL_m H, cSlot5_m]; rfl
theorem pSlot6_m : pSlot6 x1 x3 x4 q hq = ar i3 fun k => D.slot6 (1024 * ρ + 128 * q + k.2.1) (256 * h + k.2.2) := by
  rw [pSlot6, pYb_m H, pL_m H, pL_m H, pL_m H, cSlot6_m]; rfl
theorem pGcb_m : pGcb x1 x3 x4 q hq = m fun r e => ∑ k : Fin 16, D.dcv (1024 * ρ + 128 * q + (k.val * 8 + r)) (256 * h + e) := by
  rw [pGcb, pDconv_m H, cFold_m]

omit H in
/-- The buffer's contents, by row. -/
def bufVal (D : Data) (h ρ : ℕ) : S1032x256.Idx → Elt Ideal .f32 := fun y => re (φ := .f32) (D.dcv (1024 * ρ + (y 0).val) (256 * h + (y 1).val))

theorem pBuf_vals (xs : FVec Ideal S8x256 .f32) (hxs : xs = m fun r e => D.dcv (1024 * (ρ + 1) + r) (256 * h + e)) :
    ∀ (k : ℕ) (hk : k ≤ 8), ∀ p ∈ pBuf x1 x3 x4 xs k hk, ∀ x : p.1.shape.Idx, p.2 x = bufVal D h ρ (p.1.emb x)
  | 0, _, p, hp, x => by
    obtain rfl := List.mem_singleton.mp hp
    show shapeCast S8x256 xs _ x = _
    rw [shapeCast_self, hxs]
    show (re (φ := .f32) (D.dcv (1024 * (ρ + 1) + (x 0).val) (256 * h + (x 1).val)) : Ideal .f32) = re (D.dcv (1024 * ρ + (1024 + 1 * (x 0).val)) (256 * h + (0 + 1 * (x 1).val)))
    congr 2 <;> omega
  | k + 1, hk, p, hp, x => by
    rcases List.mem_cons.mp hp with rfl | hp
    · show shapeCast S128x256 (pDconv x1 x3 x4 (7 - k) _) _ x = _
      rw [shapeCast_self, pDconv_m H]
      show (re (φ := .f32) (D.dcv (1024 * ρ + 128 * (7 - k) + (x 0).val) (256 * h + (x 1).val)) : Ideal .f32)
        = re (D.dcv (1024 * ρ + (128 * (7 - k) + 1 * (x 0).val)) (256 * h + (0 + 1 * (x 1).val)))
      congr 2 <;> omega
    · exact pBuf_vals xs hxs k (by omega) p hp x
omit H in
theorem pBuf_cover (xs : FVec Ideal S8x256 .f32) (y : S1032x256.Idx) :
    ∀ (k : ℕ) (hk : k ≤ 8), 128 * (8 - k) ≤ (y 0).val → ∃ p ∈ pBuf x1 x3 x4 xs k hk, y ∈ p.1.set
  | 0, _, hy => ⟨_, List.mem_singleton.mpr rfl, (Rect.mem_set_unit (inb := inbD 1024 8 (by decide))).mpr fun a => match a with
      | ⟨0, _⟩ => ⟨hy, (y 0).isLt⟩
      | ⟨1, _⟩ => ⟨Nat.zero_le _, by show (y 1).val < 0 + 256; have : (y 1).val < 256 := (y 1).isLt; omega⟩⟩
  | k + 1, hk, hy => by
    by_cases hlt : (y 0).val < 128 * (8 - k)
    · refine ⟨_, List.mem_cons_self, (Rect.mem_set_unit (inb := inbD (128 * (7 - k)) 128 (by omega))).mpr fun a => match a with
        | ⟨0, _⟩ => ⟨by show 128 * (7 - k) ≤ (y 0).val; omega, by show (y 0).val < 128 * (7 - k) + 128; omega⟩
        | ⟨1, _⟩ => ⟨Nat.zero_le _, by show (y 1).val < 0 + 256; have : (y 1).val < 256 := (y 1).isLt; omega⟩⟩
    · obtain ⟨p, hp, h'⟩ := pBuf_cover xs y k (by omega) (by omega)
      exact ⟨p, List.mem_cons_of_mem _ hp, h'⟩

theorem pTap_m (xs : FVec Ideal S8x256 .f32) (hxs : xs = m fun r e => D.dcv (1024 * (ρ + 1) + r) (256 * h + e))
    (v : View Cert.KernelIdeal.sig .tc .vmem S1032x256 .f32) (j : ℕ) (hj : j < 3) :
    pTap x1 x3 x4 xs q hq v j hj = m fun r e => D.dcv (1024 * ρ + 128 * q + r + j) (256 * h + e) := by
  rw [pTap, View.readCov_eq_canon']
  funext y
  refine (View.canon_apply_of_pieces (bufVal D h ρ) _ (pBuf_vals H xs hxs _ _) _ (pBuf_cover xs _ _ _ ?_)).trans ?_
  · show 128 * (8 - (8 - q)) ≤ 128 * q + j + 1 * (y 0).val
    omega
  · show (re (φ := .f32) (D.dcv (1024 * ρ + (128 * q + j + 1 * (y 0).val)) (256 * h + (0 + 1 * (y 1).val))) : Ideal .f32)
      = re (D.dcv (1024 * ρ + 128 * q + (y 0).val + j) (256 * h + (y 1).val))
    congr 2 <;> omega

theorem pSlot34_m (xs : FVec Ideal S8x256 .f32) (hxs : xs = m fun r e => D.dcv (1024 * (ρ + 1) + r) (256 * h + e))
    (v : View Cert.KernelIdeal.sig .tc .vmem S1032x256 .f32) (k : ℕ) (hk : k < 8) :
    pSlot34 x1 x3 x4 x10 xs q hq v k hk
      = ar i3 fun i => D.dh (1024 * ρ + 128 * q + i.2.1) (256 * h + i.2.2) * D.sv k (1024 * ρ + 128 * q + i.2.1) (256 * h + i.2.2) := by
  rw [pSlot34, pW_m H, pW_m H, pW_m H, pDconv_m H, pTap_m H _ _ _ hxs, pTap_m H _ _ _ hxs, pL_m H, cSlot34_m]; rfl
theorem pGcw_m (d : V2) (j : ℕ) (hd : d = m fun r e => D.dcv (1024 * ρ + 128 * q + r + j) (256 * h + e)) :
    pGcw x4 q hq d = m fun r e => ∑ k : Fin 16, D.dcv (1024 * ρ + 128 * q + (k.val * 8 + r) + j) (256 * h + e)
      * D.hh (1024 * ρ + 128 * q + (k.val * 8 + r)) (256 * h + e) := by
  rw [pGcw, hd, pL_m H, pL_m H, cGcw_m]; rfl
end

end Mixer

end
-- ==== Proof.Host.lean ====
/- The arrays that the kernel reads, as the host prepares them: the convolution's outputs appended to the pre-activations,
   and the biases as columns. -/
module

public import proofs.«01_k».proof.Proof.Ref
public import proofs.«01_k».proof.Proof.Point
public import proofs.«01_k».proof.Proof.Gen.KernelIdeal.Frame

@[expose] public section

set_option maxRecDepth 16384

noncomputable section

namespace Mixer.Ref

section
open Idealize.ShloMosaic Idealize.SL.Sem Cert.ReferenceIdeal Cert.ReferenceIdeal.Gen

/-- A plane of the pre-activations. -/
def hPlane (x4 : FVec Ideal S7x8192x2048 .bf16) (o : ℕ) (h : S7x8192x2048.Slices ![o, 0, 0] S1x8192x2048) : FVec Ideal S1x8192x2048 .f32 :=
  extf .f32 (extractStridedSlice S1x8192x2048 ![o, 0, 0] x4 h) bitsLt_bf16_f32
/-- The convolution's input, two rows of zeros before it. -/
def hPadded (x4 : FVec Ideal S7x8192x2048 .bf16) : FVec Ideal S1x8194x2048 .f32 :=
  concatenate S1x8194x2048 1 [⟨S1x2x2048, broadcastInDim S1x2x2048 ![] bcast_S_S1x2x2048 (constant S_ .f32 0x00000000#32 : FVec Ideal S_ .f32)⟩,
    ⟨S1x8192x2048, mulf (hPlane x4 4 slices_S7x8192x2048_S1x8192x2048_4_0_0) (hPlane x4 3 slices_S7x8192x2048_S1x8192x2048_3_0_0)⟩]
    concatenates_S1x2x2048_S1x8192x2048_S1x8194x2048_d1
/-- A row over all times. -/
def hRow (x : FVec Ideal S1x2048 .f32) : FVec Ideal S1x8192x2048 .f32 :=
  broadcastInDim S1x8192x2048 ![0, 1, 2] bcast_S1x1x2048_S1x8192x2048_0_1_2
    (broadcastInDim S1x1x2048 ![2] bcast_S2048_S1x1x2048_2 (shapeCast S2048 x shapeCasts_S1x2048_S2048))
/-- One tap of the convolution. -/
def hTap (x4 : FVec Ideal S7x8192x2048 .bf16) (x10 : FVec Ideal S3x2048 .f32) (j : ℕ) (h : S3x2048.Slices ![j, 0] S1x2048)
    (h' : S1x8194x2048.Slices ![0, j, 0] S1x8192x2048) : FVec Ideal S1x8192x2048 .f32 :=
  mulf (hRow (extractStridedSlice S1x2048 ![j, 0] x10 h)) (extractStridedSlice S1x8192x2048 ![0, j, 0] (hPadded x4) h')
/-- The convolution. -/
def hConv (x4 : FVec Ideal S7x8192x2048 .bf16) (x10 : FVec Ideal S3x2048 .f32) (x11 : FVec Ideal S1x2048 .f32) : FVec Ideal S1x8192x2048 .f32 :=
  addf (addf (addf (hRow x11) (hTap x4 x10 0 slices_S3x2048_S1x2048_0_0 slices_S1x8194x2048_S1x8192x2048_0_0_0))
    (hTap x4 x10 1 slices_S3x2048_S1x2048_1_0 slices_S1x8194x2048_S1x8192x2048_0_1_0))
    (hTap x4 x10 2 slices_S3x2048_S1x2048_2_0 slices_S1x8194x2048_S1x8192x2048_0_2_0)

variable (D : Data)
theorem hPlane_eq (o : ℕ) (h : S7x8192x2048.Slices ![o, 0, 0] S1x8192x2048) : hPlane (X4 D) o h = a3 (D.p o) := slice_p D o h
theorem hPadded_eq : hPadded (X4 D) = aP D.hp := by
  have h : mulf (a3 (D.p 4)) (a3 (D.p 3)) = a3 D.hh := mul3 _ _
  rw [hPadded, hPlane_eq, hPlane_eq, h, const_zero, bc_re, concat_aP]; rfl
theorem hRow_eq (f : ℕ → ℝ) : hRow (c2d f) = a3 fun _ c => f c := by
  simp (disch := rfl) only [hRow, cast_c2d, bc_c1d_c3d, bc_c3d]
theorem hTap_eq (j : ℕ) (h : S3x2048.Slices ![j, 0] S1x2048) (h' : S1x8194x2048.Slices ![0, j, 0] S1x8192x2048) :
    hTap (X4 D) (X10 D) j h h' = a3 fun t c => D.cw j c * D.hp (t + j) c := by
  rw [hTap, hPadded_eq, X10, slice_t2, hRow_eq, slice_aP, mul3]
  simp only [Nat.add_comm j]
theorem hConv_eq : hConv (X4 D) (X10 D) (X11 D) = a3 D.conv := by
  rw [hConv, hTap_eq, hTap_eq, hTap_eq, X11, hRow_eq, add3, add3, add3]; rfl
end

end Mixer.Ref

namespace Mixer

open Idealize.ShloMosaic Idealize.ShloMosaic.TcCoe Idealize.SL.Sem Cert.KernelIdeal Cert.KernelIdeal.Gen

variable (mem : (ℓ : Loc nD τ Cert.KernelIdeal.sig) → Buf (Elt Ideal) ℓ) (c : Dev nD)

set_option maxHeartbeats 2000000 in
/-- The saved arrays: the seven pre-activations, then the convolution's output. -/
theorem V_saved : V mem c main_v33 = concatenate S8x8192x2048 0 [⟨S7x8192x2048, mem ((c : Thread nD τ).loc main_arg4)⟩,
    ⟨S1x8192x2048, truncf .bf16 (Ref.hConv (mem ((c : Thread nD τ).loc main_arg4)) (mem ((c : Thread nD τ).loc main_arg10)) (mem ((c : Thread nD τ).loc main_arg11)))
      bitsLt_bf16_f32⟩] concatenates_S7x8192x2048_S1x8192x2048_S8x8192x2048_d0 := by
  unfold_abbrev_sides
  after_results
  rfl
set_option maxHeartbeats 2000000 in
/-- The biases, as columns. -/
theorem V_bias : V mem c main_v34 = shapeCast S8x128x1 (mem ((c : Thread nD τ).loc main_arg9)) shapeCasts_S8x128_S8x128x1 := by
  unfold_abbrev_sides
  after_results
  rfl

end Mixer

end
-- ==== Proof.Tile.lean ====
/- The tile of the gradients of the pre-activations that a step writes: the values of its 72 stores, and the array they
   leave. -/
module

public import proofs.«01_k».proof.Proof.Point
public import proofs.«01_k».proof.Proof.Gen.KernelIdeal.Frame

@[expose] public section

set_option maxRecDepth 16384

noncomputable section

namespace Mixer

open Idealize.ShloMosaic Idealize.SL.Sem Cert.KernelIdeal Cert.KernelIdeal.Gen

theorem inbO (k q : ℕ) (hk : k < 9) (hq : q < 8) (a : Fin 3) : (![k, 128 * q, 0] : Fin 3 → ℕ) a + S1x128x256.size a ≤ S9x1024x256.size a :=
  match a with
  | ⟨0, _⟩ => by show k + 1 ≤ 9; omega
  | ⟨1, _⟩ => by show 128 * q + 128 ≤ 1024; omega
  | ⟨2, _⟩ => by show 0 + 256 ≤ 256; omega

/-- A store of a row block, as a piece of the tile. -/
def rowBlock (k q : ℕ) (hk : k < 9) (hq : q < 8) (w : V3) : View.Piece (Elt Ideal) S9x1024x256 .bf16 :=
  ⟨Rect.unit (s := S9x1024x256) ![k, 128 * q, 0] S1x128x256.size (inbO k q hk hq), w⟩

/-- The tile: the seven gradients, then the two arrays that are passed through. -/
def tileVal (D : Data) (h ρ : ℕ) (x5 : FVec Ideal S2x1024x256 .bf16) : S9x1024x256.Idx → Elt Ideal .bf16 := fun y =>
  if hk : 7 ≤ (y 0).val then
    x5 fun a => match a with
      | ⟨0, _⟩ => ⟨(y 0).val - 7, by show _ < 2; have : (y 0).val < 9 := (y 0).isLt; omega⟩
      | ⟨1, _⟩ => y 1
      | ⟨2, _⟩ => y 2
  else re (φ := .bf16) (D.dp (y 0).val (1024 * ρ + (y 1).val) (256 * h + (y 2).val))

theorem tileVal_grad (D : Data) (h ρ : ℕ) (x5 : FVec Ideal S2x1024x256 .bf16) (y : S9x1024x256.Idx) (k r e : ℕ) (hk : k < 7)
    (h0 : (y 0).val = k) (h1 : (y 1).val = r) (h2 : (y 2).val = e) :
    tileVal D h ρ x5 y = re (φ := .bf16) (D.dp k (1024 * ρ + r) (256 * h + e)) := by
  subst h0 h1 h2
  exact dif_neg (by omega)
theorem tileVal_through (D : Data) (h ρ : ℕ) (x5 : FVec Ideal S2x1024x256 .bf16) (y : S9x1024x256.Idx) (z : S2x1024x256.Idx)
    (h0 : (y 0).val = 7 + (z 0).val) (h1 : (y 1).val = (z 1).val) (h2 : (y 2).val = (z 2).val) :
    tileVal D h ρ x5 y = x5 z :=
  (dif_pos (show 7 ≤ (y 0).val by omega)).trans (congrArg x5 (funext fun a => match a with
    | ⟨0, _⟩ => Fin.ext (show (y 0).val - 7 = (z 0).val by omega)
    | ⟨1, _⟩ => Fin.ext h1
    | ⟨2, _⟩ => Fin.ext h2))

/-- A piece of the tile holds the tile's values. -/
def Holds (D : Data) (h ρ : ℕ) (x5 : FVec Ideal S2x1024x256 .bf16) (p : View.Piece (Elt Ideal) S9x1024x256 .bf16) : Prop :=
  ∀ x : p.1.shape.Idx, p.2 x = tileVal D h ρ x5 (p.1.emb x)

section
variable {D : Data} {h ρ : ℕ} {x0 x1 : FVec Ideal S1024x2048 .bf16} {x2 x3 : FVec Ideal S256x2048 .bf16}
  {x4 : FVec Ideal S8x1024x256 .bf16} {x5 : FVec Ideal S2x1024x256 .bf16} {x6 x7 : FVec Ideal S1x256 .f32}
  {x8 : FVec Ideal S1x128x128 .f32} {x9 : FVec Ideal S1x128x1 .f32} {x10 : FVec Ideal S3x256 .f32}

/-- A row block whose values are the gradient's, by row and column, is one of the tile's pieces. -/
theorem holds_of (k q : ℕ) (hk : k < 7) (hq : q < 8) (w : V3) (f : ℕ × ℕ × ℕ → ℝ) (hw : w = ar i3 f)
    (hf : ∀ r e, r < 128 → e < 256 → f (0, r, e) = D.dp k (1024 * ρ + (128 * q + r)) (256 * h + e)) :
    Holds D h ρ x5 (rowBlock k q (by omega) hq w) := by
  intro x
  have h0 : (x 0).val < 1 := (x 0).isLt
  have h1 : (x 1).val < 128 := (x 1).isLt
  have h2 : (x 2).val < 256 := (x 2).isLt
  have hz : (x 0).val = 0 := by omega
  refine Eq.trans ?_ (tileVal_grad D h ρ x5 _ k (128 * q + (x 1).val) (x 2).val hk (show k + 1 * (x 0).val = k by omega)
    (show 128 * q + 1 * (x 1).val = _ by omega) (show 0 + 1 * (x 2).val = _ by omega)).symm
  rw [← hf _ _ h1 h2]
  show w x = _
  rw [hw]
  show re (φ := .bf16) (f ((x 0).val, (x 1).val, (x 2).val)) = _
  rw [hz]
theorem holds_through (k q : ℕ) (hk : k < 2) (hq : q < 8) : Holds D h ρ x5 (rowBlock (7 + k) q (by omega) hq (pG x5 k q hk hq)) := by
  intro x
  refine Eq.trans ?_ (tileVal_through D h ρ x5 _
    ((Rect.unit (s := S2x1024x256) ![k, 128 * q, 0] S1x128x256.size (inbG k q hk hq)).idx x)
    (show 7 + k + 1 * (x 0).val = 7 + (k + 1 * (x 0).val) by omega) rfl rfl).symm
  show pG x5 k q hk hq x = _
  rw [pG, shapeCast_shapeCast]

variable (H : Tile D h ρ x0 x1 x2 x3 x4 x6 x7 x8 x9 x10) (q : ℕ) (hq : q < 8)
include H

omit H in
theorem dp_gate (r e : ℕ) (hr : r < 128) (he : e < 256) :
    (256 * h + e) / 256 = h ∧ (256 * h + e) % 256 = e ∧ (1024 * ρ + (128 * q + r)) / 128 = 8 * ρ + q
      ∧ (1024 * ρ + (128 * q + r)) % 128 = r := by omega

/-- The nine stores of a chunk. -/
theorem holds_chunk (xs : FVec Ideal S8x256 .f32) (hxs : xs = m fun r e => D.dcv (1024 * (ρ + 1) + r) (256 * h + e))
    (v : View Cert.KernelIdeal.sig .tc .vmem S1032x256 .f32) (L : List (View.Piece (Elt Ideal) S9x1024x256 .bf16))
    (hL : ∀ p ∈ L, Holds D h ρ x5 p) :
    ∀ p ∈ rowBlock 8 q (by decide) hq (pG x5 1 q (by decide) hq) :: rowBlock 7 q (by decide) hq (pG x5 0 q (by decide) hq)
      :: rowBlock 4 q (by decide) hq (pSlot34 x1 x3 x4 x10 xs q hq v 3 (by decide))
      :: rowBlock 3 q (by decide) hq (pSlot34 x1 x3 x4 x10 xs q hq v 4 (by decide))
      :: rowBlock 6 q (by decide) hq (pSlot6 x1 x3 x4 q hq) :: rowBlock 5 q (by decide) hq (pSlot5 x1 x3 x4 q hq)
      :: rowBlock 1 q (by decide) hq (pSlot1 x0 x2 x4 x6 x8 q hq)
      :: rowBlock 2 q (by decide) hq (pSlot2 x0 x2 x4 x6 x7 x8 x9 q hq)
      :: rowBlock 0 q (by decide) hq (pSlot0 x0 x2 x4 x6 x7 x8 x9 q hq) :: L, Holds D h ρ x5 p := by
  refine List.forall_mem_cons.mpr ⟨holds_through 1 q (by decide) hq, List.forall_mem_cons.mpr ⟨holds_through 0 q (by decide) hq,
    List.forall_mem_cons.mpr ⟨holds_of 4 q (by decide) hq _ _ (pSlot34_m H q hq xs hxs v 3 (by decide)) ?_,
    List.forall_mem_cons.mpr ⟨holds_of 3 q (by decide) hq _ _ (pSlot34_m H q hq xs hxs v 4 (by decide)) ?_,
    List.forall_mem_cons.mpr ⟨holds_of 6 q (by decide) hq _ _ (pSlot6_m H q hq) ?_,
    List.forall_mem_cons.mpr ⟨holds_of 5 q (by decide) hq _ _ (pSlot5_m H q hq) ?_,
    List.forall_mem_cons.mpr ⟨holds_of 1 q (by decide) hq _ _ (pSlot1_m H q hq) ?_,
    List.forall_mem_cons.mpr ⟨holds_of 2 q (by decide) hq _ _ (pSlot2_m H q hq) ?_,
    List.forall_mem_cons.mpr ⟨holds_of 0 q (by decide) hq _ _ (pSlot0_m H q hq) ?_, hL⟩⟩⟩⟩⟩⟩⟩⟩⟩
  all_goals
    intro r e hr he
    obtain ⟨h1, h2, h3, h4⟩ := dp_gate (h := h) (ρ := ρ) q r e hr he
    simp only [Data.dp, h1, h2, h3, h4, Nat.add_assoc]
    try rfl
end

end Mixer

end
-- ==== Proof.TileCases.lean ====
/- The tile that each kind of step leaves: the first of a head, one in the middle, the last. -/
module

public import proofs.«01_k».proof.Proof.Tile

@[expose] public section

set_option maxRecDepth 16384

noncomputable section

namespace Mixer

open Idealize.ShloMosaic Idealize.SL.Sem Cert.KernelIdeal Cert.KernelIdeal.Gen

section
variable {D : Data} {h ρ : ℕ} (c : Dev nD) (i : grid0.Coords)
  (arg2 : Memref Cert.KernelIdeal.sig .tc .vmem S1024x2048 .bf16) (harg2 : arg2.IsWhole) (arg3 : Memref Cert.KernelIdeal.sig .tc .vmem S1024x2048 .bf16) (harg3 : arg3.IsWhole) (arg4 : Memref Cert.KernelIdeal.sig .tc .vmem S256x2048 .bf16) (harg4 : arg4.IsWhole)
  (arg5 : Memref Cert.KernelIdeal.sig .tc .vmem S256x2048 .bf16) (harg5 : arg5.IsWhole) (arg6 : Memref Cert.KernelIdeal.sig .tc .vmem S8x1024x256 .bf16) (harg6 : arg6.IsWhole) (arg7 : Memref Cert.KernelIdeal.sig .tc .vmem S2x1024x256 .bf16) (harg7 : arg7.IsWhole)
  (arg8 : Memref Cert.KernelIdeal.sig .tc .vmem S1x256 .f32) (harg8 : arg8.IsWhole) (arg9 : Memref Cert.KernelIdeal.sig .tc .vmem S1x256 .f32) (harg9 : arg9.IsWhole) (arg10 : Memref Cert.KernelIdeal.sig .tc .vmem S1x128x128 .f32) (harg10 : arg10.IsWhole)
  (arg11 : Memref Cert.KernelIdeal.sig .tc .vmem S1x128x1 .f32) (harg11 : arg11.IsWhole) (arg12 : Memref Cert.KernelIdeal.sig .tc .vmem S3x256 .f32) (harg12 : arg12.IsWhole) (arg13 : Memref Cert.KernelIdeal.sig .tc .vmem S9x1024x256 .bf16) (harg13 : arg13.IsWhole)
  (arg14 : Memref Cert.KernelIdeal.sig .tc .vmem S1x128x128 .f32) (harg14 : arg14.IsWhole) (arg15 : Memref Cert.KernelIdeal.sig .tc .vmem S1x128x1 .f32) (harg15 : arg15.IsWhole) (arg16 : Memref Cert.KernelIdeal.sig .tc .vmem S1x256 .f32) (harg16 : arg16.IsWhole)
  (arg17 : Memref Cert.KernelIdeal.sig .tc .vmem S1x256 .f32) (harg17 : arg17.IsWhole) (arg18 : Memref Cert.KernelIdeal.sig .tc .vmem S3x256 .f32) (harg18 : arg18.IsWhole) (arg19 : Memref Cert.KernelIdeal.sig .tc .vmem S1x256 .f32) (harg19 : arg19.IsWhole)
  (arg20 : Memref Cert.KernelIdeal.sig .tc .vmem S1032x256 .f32) (harg20 : arg20.IsWhole) (arg21 : Memref Cert.KernelIdeal.sig .tc .vmem S8x256 .f32) (harg21 : arg21.IsWhole) (arg22 : Memref Cert.KernelIdeal.sig .tc .vmem S128x128 .f32) (harg22 : arg22.IsWhole)
  (arg23 : Memref Cert.KernelIdeal.sig .tc .vmem S128x256 .f32) (harg23 : arg23.IsWhole) (arg24 : Memref Cert.KernelIdeal.sig .tc .vmem S8x256 .f32) (harg24 : arg24.IsWhole) (arg25 : Memref Cert.KernelIdeal.sig .tc .vmem S8x256 .f32) (harg25 : arg25.IsWhole)
  (arg26 : Memref Cert.KernelIdeal.sig .tc .vmem S8x256 .f32) (harg26 : arg26.IsWhole) (arg27 : Memref Cert.KernelIdeal.sig .tc .vmem S8x256 .f32) (harg27 : arg27.IsWhole) (arg28 : Memref Cert.KernelIdeal.sig .tc .vmem S8x256 .f32) (harg28 : arg28.IsWhole)
  (arg29 : Memref Cert.KernelIdeal.sig .tc .vmem S8x256 .f32) (harg29 : arg29.IsWhole)
  (x0 x1 : FVec Ideal S1024x2048 .bf16) (x2 x3 : FVec Ideal S256x2048 .bf16) (x4 : FVec Ideal S8x1024x256 .bf16)
  (x5 : FVec Ideal S2x1024x256 .bf16) (x6 x7 : FVec Ideal S1x256 .f32) (x8 : FVec Ideal S1x128x128 .f32)
  (x9 : FVec Ideal S1x128x1 .f32) (x10 : FVec Ideal S3x256 .f32)
  (xs1 : FVec Ideal S8x256 .f32) (xs2 : FVec Ideal S128x128 .f32) (xs3 : FVec Ideal S128x256 .f32)
  (xs4 xs5 xs6 xs7 xs8 xs9 : FVec Ideal S8x256 .f32)
  (H : Tile D h ρ x0 x1 x2 x3 x4 x6 x7 x8 x9 x10)
include H

set_option maxHeartbeats 2000000 in
/-- The first step of a head leaves the tile; nothing is carried in, the gradient past the end being zero. -/
theorem tile_A (hc0 : cond0_0 i) (hc1 : ¬cond0_1 i)
    (hxs : ∀ r e, D.dcv (1024 * (ρ + 1) + r) (256 * h + e) = 0) (y : S9x1024x256.Idx) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 y = tileVal D h ρ x5 y := by
  have hxs' : (cZero shapeCasts_S8x256_S8x256) = m fun r e => D.dcv (1024 * (ρ + 1) + r) (256 * h + e) := ((cZero_m _).trans (by simp only [hxs]))
  rw [out0_A_11, View.read_writes_junk_eq_canon]
  refine View.canon_apply_of_pieces _ _ ?_ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 y)
  change ∀ p ∈ _, Holds D h ρ x5 p
  frame_out
  exact holds_chunk H 0 (by decide) (cZero shapeCasts_S8x256_S8x256) hxs' arg20.view _ (holds_chunk H 1 (by decide) (cZero shapeCasts_S8x256_S8x256) hxs' arg20.view _ (holds_chunk H 2 (by decide) (cZero shapeCasts_S8x256_S8x256) hxs' arg20.view _ (holds_chunk H 3 (by decide) (cZero shapeCasts_S8x256_S8x256) hxs' arg20.view _ (holds_chunk H 4 (by decide) (cZero shapeCasts_S8x256_S8x256) hxs' arg20.view _ (holds_chunk H 5 (by decide) (cZero shapeCasts_S8x256_S8x256) hxs' arg20.view _ (holds_chunk H 6 (by decide) (cZero shapeCasts_S8x256_S8x256) hxs' arg20.view _ (holds_chunk H 7 (by decide) (cZero shapeCasts_S8x256_S8x256) hxs' arg20.view _ (fun _ hp => absurd hp List.not_mem_nil))))))))

set_option maxHeartbeats 2000000 in
/-- A step in the middle leaves the tile, given the eight rows carried in. -/
theorem tile_B (hc0 : ¬cond0_0 i) (hc1 : ¬cond0_1 i)
    (hxs : xs1 = m fun r e => D.dcv (1024 * (ρ + 1) + r) (256 * h + e)) (y : S9x1024x256.Idx) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 y = tileVal D h ρ x5 y := by
  have hxs' : xs1 = m fun r e => D.dcv (1024 * (ρ + 1) + r) (256 * h + e) := hxs
  rw [out0_B_11, View.read_writes_junk_eq_canon]
  refine View.canon_apply_of_pieces _ _ ?_ _ (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 y)
  change ∀ p ∈ _, Holds D h ρ x5 p
  frame_out
  exact holds_chunk H 0 (by decide) xs1 hxs' arg20.view _ (holds_chunk H 1 (by decide) xs1 hxs' arg20.view _ (holds_chunk H 2 (by decide) xs1 hxs' arg20.view _ (holds_chunk H 3 (by decide) xs1 hxs' arg20.view _ (holds_chunk H 4 (by decide) xs1 hxs' arg20.view _ (holds_chunk H 5 (by decide) xs1 hxs' arg20.view _ (holds_chunk H 6 (by decide) xs1 hxs' arg20.view _ (holds_chunk H 7 (by decide) xs1 hxs' arg20.view _ (fun _ hp => absurd hp List.not_mem_nil))))))))

set_option maxHeartbeats 2000000 in
/-- The last step of a head leaves the tile, given the eight rows carried in. -/
theorem tile_C (hc0 : ¬cond0_0 i) (hc1 : cond0_1 i)
    (hxs : xs1 = m fun r e => D.dcv (1024 * (ρ + 1) + r) (256 * h + e)) (y : S9x1024x256.Idx) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 y = tileVal D h ρ x5 y := by
  have hxs' : xs1 = m fun r e => D.dcv (1024 * (ρ + 1) + r) (256 * h + e) := hxs
  rw [out0_C_11, View.read_writes_junk_eq_canon]
  refine View.canon_apply_of_pieces _ _ ?_ _ (cover0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 y)
  change ∀ p ∈ _, Holds D h ρ x5 p
  frame_out
  exact holds_chunk H 0 (by decide) xs1 hxs' arg20.view _ (holds_chunk H 1 (by decide) xs1 hxs' arg20.view _ (holds_chunk H 2 (by decide) xs1 hxs' arg20.view _ (holds_chunk H 3 (by decide) xs1 hxs' arg20.view _ (holds_chunk H 4 (by decide) xs1 hxs' arg20.view _ (holds_chunk H 5 (by decide) xs1 hxs' arg20.view _ (holds_chunk H 6 (by decide) xs1 hxs' arg20.view _ (holds_chunk H 7 (by decide) xs1 hxs' arg20.view _ (fun _ hp => absurd hp List.not_mem_nil))))))))

end

end Mixer

end
-- ==== Proof.Sums.lean ====
/- The running sums that a step carries to the next: what each kind of step adds to them, and the sums of a head. -/
module

public import proofs.«01_k».proof.Proof.Point
public import proofs.«01_k».proof.Proof.Gen.KernelIdeal.Frame

@[expose] public section

set_option maxRecDepth 16384

noncomputable section

namespace Mixer

open Idealize.ShloMosaic Idealize.SL.Sem Cert.KernelIdeal Cert.KernelIdeal.Gen

/-- The sum over the chunks from `8 ρ` on, the last being 63. -/
def from8 (ρ : ℕ) (F : ℕ → ℝ) : ℝ := ∑ n ∈ Finset.Ico (8 * ρ) 64, F n
theorem from8_end (F : ℕ → ℝ) : from8 8 F = 0 := Finset.sum_eq_zero fun _ hn => absurd (Finset.mem_Ico.mp hn) (by omega)
theorem from8_step {ρ : ℕ} (hρ : ρ < 8) (F : ℕ → ℝ) : from8 (ρ + 1) F + ∑ q : Fin 8, F (8 * ρ + q.val) = from8 ρ F := by
  rw [from8, from8, ← Finset.sum_Ico_consecutive F (show 8 * ρ ≤ 8 * (ρ + 1) by omega) (by omega), add_comm]
  congr 1
  rw [Finset.sum_Ico_eq_sum_range, show 8 * (ρ + 1) - 8 * ρ = 8 by omega, ← Fin.sum_univ_eq_sum_range (fun q => F (8 * ρ + q)) 8]

/-- What the carried arrays hold after the tiles from `ρ` on: the convolution's gradient at the tile's first eight rows, and
    the sums over the chunks so far. -/
structure Carry (D : Data) (h ρ : ℕ) (s1 : FVec Ideal S8x256 .f32) (s2 : FVec Ideal S128x128 .f32) (s3 : FVec Ideal S128x256 .f32)
    (s4 s5 s6 s7 s8 s9 : FVec Ideal S8x256 .f32) : Prop where
  c1 : s1 = m fun r e => D.dcv (1024 * ρ + r) (256 * h + e)
  c2 : s2 = m fun r s => from8 ρ fun n => ∑ e : Fin 256, D.dmix h n r e.val * D.vn h n s e.val
  c3 : s3 = m fun r e => from8 ρ fun n => D.dmix h n r e
  c4 : s4 = m fun r e => from8 ρ fun n => ∑ k : Fin 16, D.dvn h n (k.val * 8 + r) e * D.vhat h n (k.val * 8 + r) e
  c5 : s5 = m fun r e => from8 ρ fun n => ∑ k : Fin 16, D.dvn h n (k.val * 8 + r) e
  c6 : s6 = m fun r e => from8 ρ fun n => ∑ k : Fin 16, D.dcv (128 * n + (k.val * 8 + r) + 2) (256 * h + e) * D.hh (128 * n + (k.val * 8 + r)) (256 * h + e)
  c7 : s7 = m fun r e => from8 ρ fun n => ∑ k : Fin 16, D.dcv (128 * n + (k.val * 8 + r) + 1) (256 * h + e) * D.hh (128 * n + (k.val * 8 + r)) (256 * h + e)
  c8 : s8 = m fun r e => from8 ρ fun n => ∑ k : Fin 16, D.dcv (128 * n + (k.val * 8 + r) + 0) (256 * h + e) * D.hh (128 * n + (k.val * 8 + r)) (256 * h + e)
  c9 : s9 = m fun r e => from8 ρ fun n => ∑ k : Fin 16, D.dcv (128 * n + (k.val * 8 + r)) (256 * h + e)

/-- The eight rows a step hands on. -/
def pFirst (x1 : FVec Ideal S1024x2048 .bf16) (x3 : FVec Ideal S256x2048 .bf16) (x4 : FVec Ideal S8x1024x256 .bf16) : FVec Ideal S8x256 .f32 :=
  extractStridedSlice S8x256 ![0, 0] (pDconv x1 x3 x4 0 (by decide)) slices_S128x256_o0_0_S8x256

section
variable {D : Data} {h ρ : ℕ} (c : Dev nD) (i : grid0.Coords)
  (arg2 : Memref Cert.KernelIdeal.sig .tc .vmem S1024x2048 .bf16) (harg2 : arg2.IsWhole) (arg3 : Memref Cert.KernelIdeal.sig .tc .vmem S1024x2048 .bf16) (harg3 : arg3.IsWhole) (arg4 : Memref Cert.KernelIdeal.sig .tc .vmem S256x2048 .bf16) (harg4 : arg4.IsWhole)
  (arg5 : Memref Cert.KernelIdeal.sig .tc .vmem S256x2048 .bf16) (harg5 : arg5.IsWhole) (arg6 : Memref Cert.KernelIdeal.sig .tc .vmem S8x1024x256 .bf16) (harg6 : arg6.IsWhole) (arg7 : Memref Cert.KernelIdeal.sig .tc .vmem S2x1024x256 .bf16) (harg7 : arg7.IsWhole)
  (arg8 : Memref Cert.KernelIdeal.sig .tc .vmem S1x256 .f32) (harg8 : arg8.IsWhole) (arg9 : Memref Cert.KernelIdeal.sig .tc .vmem S1x256 .f32) (harg9 : arg9.IsWhole) (arg10 : Memref Cert.KernelIdeal.sig .tc .vmem S1x128x128 .f32) (harg10 : arg10.IsWhole)
  (arg11 : Memref Cert.KernelIdeal.sig .tc .vmem S1x128x1 .f32) (harg11 : arg11.IsWhole) (arg12 : Memref Cert.KernelIdeal.sig .tc .vmem S3x256 .f32) (harg12 : arg12.IsWhole) (arg13 : Memref Cert.KernelIdeal.sig .tc .vmem S9x1024x256 .bf16) (harg13 : arg13.IsWhole)
  (arg14 : Memref Cert.KernelIdeal.sig .tc .vmem S1x128x128 .f32) (harg14 : arg14.IsWhole) (arg15 : Memref Cert.KernelIdeal.sig .tc .vmem S1x128x1 .f32) (harg15 : arg15.IsWhole) (arg16 : Memref Cert.KernelIdeal.sig .tc .vmem S1x256 .f32) (harg16 : arg16.IsWhole)
  (arg17 : Memref Cert.KernelIdeal.sig .tc .vmem S1x256 .f32) (harg17 : arg17.IsWhole) (arg18 : Memref Cert.KernelIdeal.sig .tc .vmem S3x256 .f32) (harg18 : arg18.IsWhole) (arg19 : Memref Cert.KernelIdeal.sig .tc .vmem S1x256 .f32) (harg19 : arg19.IsWhole)
  (arg20 : Memref Cert.KernelIdeal.sig .tc .vmem S1032x256 .f32) (harg20 : arg20.IsWhole) (arg21 : Memref Cert.KernelIdeal.sig .tc .vmem S8x256 .f32) (harg21 : arg21.IsWhole) (arg22 : Memref Cert.KernelIdeal.sig .tc .vmem S128x128 .f32) (harg22 : arg22.IsWhole)
  (arg23 : Memref Cert.KernelIdeal.sig .tc .vmem S128x256 .f32) (harg23 : arg23.IsWhole) (arg24 : Memref Cert.KernelIdeal.sig .tc .vmem S8x256 .f32) (harg24 : arg24.IsWhole) (arg25 : Memref Cert.KernelIdeal.sig .tc .vmem S8x256 .f32) (harg25 : arg25.IsWhole)
  (arg26 : Memref Cert.KernelIdeal.sig .tc .vmem S8x256 .f32) (harg26 : arg26.IsWhole) (arg27 : Memref Cert.KernelIdeal.sig .tc .vmem S8x256 .f32) (harg27 : arg27.IsWhole) (arg28 : Memref Cert.KernelIdeal.sig .tc .vmem S8x256 .f32) (harg28 : arg28.IsWhole)
  (arg29 : Memref Cert.KernelIdeal.sig .tc .vmem S8x256 .f32) (harg29 : arg29.IsWhole)
  (x0 x1 : FVec Ideal S1024x2048 .bf16) (x2 x3 : FVec Ideal S256x2048 .bf16) (x4 : FVec Ideal S8x1024x256 .bf16)
  (x5 : FVec Ideal S2x1024x256 .bf16) (x6 x7 : FVec Ideal S1x256 .f32) (x8 : FVec Ideal S1x128x128 .f32)
  (x9 : FVec Ideal S1x128x1 .f32) (x10 : FVec Ideal S3x256 .f32)
  (xs1 : FVec Ideal S8x256 .f32) (xs2 : FVec Ideal S128x128 .f32) (xs3 : FVec Ideal S128x256 .f32)
  (xs4 xs5 xs6 xs7 xs8 xs9 : FVec Ideal S8x256 .f32)

set_option maxHeartbeats 2000000 in
/-- What the first step of a head carries on. -/
theorem sums_A (hc0 : cond0_0 i) (hc1 : ¬cond0_1 i) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = pFirst x1 x3 x4 ∧
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = chain (cZero shapeCasts_S128x128_S128x128) (pGws x0 x2 x4 x6 x7) ∧
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = chain (cZero shapeCasts_S128x256_S128x256) (pGbs x0 x2 x4) ∧
    sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = chain (cZero shapeCasts_S8x256_S8x256) (pGlg x0 x2 x4 x8) ∧
    sout0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = chain (cZero shapeCasts_S8x256_S8x256) (pGlb x0 x2 x4 x8) ∧
    sout0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = chain (cZero shapeCasts_S8x256_S8x256) (fun q hq => pGcw x4 q hq (pTap x1 x3 x4 (cZero shapeCasts_S8x256_S8x256) q hq arg20.view 2 (by decide))) ∧
    sout0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = chain (cZero shapeCasts_S8x256_S8x256) (fun q hq => pGcw x4 q hq (pTap x1 x3 x4 (cZero shapeCasts_S8x256_S8x256) q hq arg20.view 1 (by decide))) ∧
    sout0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = chain (cZero shapeCasts_S8x256_S8x256) (fun q hq => pGcw x4 q hq (pDconv x1 x3 x4 q hq)) ∧
    sout0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 = chain (cZero shapeCasts_S8x256_S8x256) (pGcb x1 x3 x4) := by
  refine ⟨?_, ?_, ?_, ?_, ?_, ?_, ?_, ?_, ?_⟩
  all_goals frame_out; exact shapeCast_self _ _

set_option maxHeartbeats 2000000 in
/-- What a step in the middle carries on. -/
theorem sums_B (hc0 : ¬cond0_0 i) (hc1 : ¬cond0_1 i) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = pFirst x1 x3 x4 ∧
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs2 (pGws x0 x2 x4 x6 x7) ∧
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs3 (pGbs x0 x2 x4) ∧
    sout0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs4 (pGlg x0 x2 x4 x8) ∧
    sout0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs5 (pGlb x0 x2 x4 x8) ∧
    sout0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs6 (fun q hq => pGcw x4 q hq (pTap x1 x3 x4 xs1 q hq arg20.view 2 (by decide))) ∧
    sout0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs7 (fun q hq => pGcw x4 q hq (pTap x1 x3 x4 xs1 q hq arg20.view 1 (by decide))) ∧
    sout0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs8 (fun q hq => pGcw x4 q hq (pDconv x1 x3 x4 q hq)) ∧
    sout0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs9 (pGcb x1 x3 x4) := by
  refine ⟨?_, ?_, ?_, ?_, ?_, ?_, ?_, ?_, ?_⟩
  all_goals frame_out; exact shapeCast_self _ _

set_option maxHeartbeats 2000000 in
/-- What the last step of a head leaves in the carried arrays. -/
theorem sums_C (hc0 : ¬cond0_0 i) (hc1 : cond0_1 i) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = pFirst x1 x3 x4 ∧
    sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs2 (pGws x0 x2 x4 x6 x7) ∧
    sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs3 (pGbs x0 x2 x4) ∧
    sout0_C_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs4 (pGlg x0 x2 x4 x8) ∧
    sout0_C_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs5 (pGlb x0 x2 x4 x8) ∧
    sout0_C_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs6 (fun q hq => pGcw x4 q hq (pTap x1 x3 x4 xs1 q hq arg20.view 2 (by decide))) ∧
    sout0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs7 (fun q hq => pGcw x4 q hq (pTap x1 x3 x4 xs1 q hq arg20.view 1 (by decide))) ∧
    sout0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs8 (fun q hq => pGcw x4 q hq (pDconv x1 x3 x4 q hq)) ∧
    sout0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = chain xs9 (pGcb x1 x3 x4) := by
  refine ⟨?_, ?_, ?_, ?_, ?_, ?_, ?_, ?_, ?_⟩
  all_goals frame_out; exact shapeCast_self _ _

end

section
variable {D : Data} {h ρ : ℕ}
  {x0 x1 : FVec Ideal S1024x2048 .bf16} {x2 x3 : FVec Ideal S256x2048 .bf16} {x4 : FVec Ideal S8x1024x256 .bf16}
  {x5 : FVec Ideal S2x1024x256 .bf16} {x6 x7 : FVec Ideal S1x256 .f32} {x8 : FVec Ideal S1x128x128 .f32}
  {x9 : FVec Ideal S1x128x1 .f32} {x10 : FVec Ideal S3x256 .f32}
  {xs1 : FVec Ideal S8x256 .f32} {xs2 : FVec Ideal S128x128 .f32} {xs3 : FVec Ideal S128x256 .f32}
  {xs4 xs5 xs6 xs7 xs8 xs9 : FVec Ideal S8x256 .f32}
  (H : Tile D h ρ x0 x1 x2 x3 x4 x6 x7 x8 x9 x10)
include H

/-- A step's sums from those of the tiles after it. -/
theorem carry_step (v : View Cert.KernelIdeal.sig .tc .vmem S1032x256 .f32) (hc : Carry D h (ρ + 1) xs1 xs2 xs3 xs4 xs5 xs6 xs7 xs8 xs9) :
    Carry D h ρ (pFirst x1 x3 x4)
      (chain xs2 (pGws x0 x2 x4 x6 x7)) (chain xs3 (pGbs x0 x2 x4)) (chain xs4 (pGlg x0 x2 x4 x8)) (chain xs5 (pGlb x0 x2 x4 x8))
      (chain xs6 (fun q hq => pGcw x4 q hq (pTap x1 x3 x4 xs1 q hq v 2 (by decide))))
      (chain xs7 (fun q hq => pGcw x4 q hq (pTap x1 x3 x4 xs1 q hq v 1 (by decide))))
      (chain xs8 (fun q hq => pGcw x4 q hq (pDconv x1 x3 x4 q hq))) (chain xs9 (pGcb x1 x3 x4)) := by
  have hrow : ∀ q r, 1024 * ρ + 128 * q + r = 128 * (8 * ρ + q) + r := fun q r => by omega
  constructor
  · rw [pFirst, pDconv_m H]
    refine (slice_m _ 0 _).trans ?_
    simp only [Nat.mul_zero, Nat.add_zero, Nat.zero_add]
  · rw [hc.c2]; refine (chain_m _ _ _ (pGws_m H)).trans ?_; simp only [from8_step H.hρ (fun n => ∑ e : Fin 256, D.dmix h n _ e.val * D.vn h n _ e.val)]
  · rw [hc.c3]; refine (chain_m _ _ _ (pGbs_m H)).trans ?_; simp only [from8_step H.hρ (fun n => D.dmix h n _ _)]
  · rw [hc.c4]; refine (chain_m _ _ _ (pGlg_m H)).trans ?_
    simp only [from8_step H.hρ (fun n => ∑ k : Fin 16, D.dvn h n (k.val * 8 + _) _ * D.vhat h n (k.val * 8 + _) _)]
  · rw [hc.c5]; refine (chain_m _ _ _ (pGlb_m H)).trans ?_
    simp only [from8_step H.hρ (fun n => ∑ k : Fin 16, D.dvn h n (k.val * 8 + _) _)]
  · rw [hc.c6]; refine (chain_m _ _ _ fun q hq => pGcw_m H q hq _ 2 (pTap_m H q hq xs1 hc.c1 v 2 (by decide))).trans ?_
    simp only [hrow, from8_step H.hρ (fun n => ∑ k : Fin 16, D.dcv (128 * n + (k.val * 8 + _) + 2) _ * D.hh (128 * n + (k.val * 8 + _)) _)]
  · rw [hc.c7]; refine (chain_m _ _ _ fun q hq => pGcw_m H q hq _ 1 (pTap_m H q hq xs1 hc.c1 v 1 (by decide))).trans ?_
    simp only [hrow, from8_step H.hρ (fun n => ∑ k : Fin 16, D.dcv (128 * n + (k.val * 8 + _) + 1) _ * D.hh (128 * n + (k.val * 8 + _)) _)]
  · rw [hc.c8]; refine (chain_m _ _ _ fun q hq => pGcw_m H q hq _ 0 (pDconv_m H q hq)).trans ?_
    simp only [hrow, from8_step H.hρ (fun n => ∑ k : Fin 16, D.dcv (128 * n + (k.val * 8 + _) + 0) _ * D.hh (128 * n + (k.val * 8 + _)) _)]
  · rw [hc.c9]; refine (chain_m _ _ _ (pGcb_m H)).trans ?_
    simp only [hrow, from8_step H.hρ (fun n => ∑ k : Fin 16, D.dcv (128 * n + (k.val * 8 + _)) _)]
omit H in
/-- Before the last tile everything carried is zero. -/
theorem carry_zero : Carry D h 8 (cZero shapeCasts_S8x256_S8x256) (cZero shapeCasts_S128x128_S128x128) (cZero shapeCasts_S128x256_S128x256)
    (cZero shapeCasts_S8x256_S8x256) (cZero shapeCasts_S8x256_S8x256) (cZero shapeCasts_S8x256_S8x256)
    (cZero shapeCasts_S8x256_S8x256) (cZero shapeCasts_S8x256_S8x256) (cZero shapeCasts_S8x256_S8x256) := by
  refine ⟨(cZero_m _).trans (congrArg m (funext fun r => funext fun e => ?_)), ?_, ?_, ?_, ?_, ?_, ?_, ?_, ?_⟩
  · rw [Data.dcv, if_neg (by omega)]
  all_goals refine (cZero_m _).trans ?_; simp only [from8_end]
end

end Mixer

end
-- ==== Proof.Last.lean ====
/- The last step of a head: the gradients of the parameters that it writes out, from the sums carried so far. -/
module

public import proofs.«01_k».proof.Proof.Sums

@[expose] public section

set_option maxRecDepth 16384

noncomputable section

namespace Mixer

open Idealize.ShloMosaic Idealize.SL.Sem Cert.KernelIdeal Cert.KernelIdeal.Gen

/-- Three rows, each the sum of eight. -/
def pRows (a b d : FVec Ideal S8x256 .f32) : FVec Ideal S3x256 .f32 :=
  View.canon (Val := Elt Ideal) (e := .f32) [⟨Rect.unit (s := S3x256) ![2, 0] ![1, 256] inb_S3x256_S1x256_2_0, (k0_pay20 d : FVec Ideal S1x256 .f32)⟩,
    ⟨Rect.unit (s := S3x256) ![1, 0] ![1, 256] inb_S3x256_S1x256_1_0, (k0_pay20 b : FVec Ideal S1x256 .f32)⟩,
    ⟨Rect.unit (s := S3x256) ![0, 0] ![1, 256] inb_S3x256_S1x256_0_0, (k0_pay20 a : FVec Ideal S1x256 .f32)⟩]
theorem pRows_congr {a b d a' b' d' : FVec Ideal S8x256 .f32} (ha : a = a') (hb : b = b') (hd : d = d') : pRows a b d = pRows a' b' d' := by
  rw [ha, hb, hd]

/-! The values. -/
theorem pay18_m (f : ℕ → ℕ → ℝ) :
    k0_pay18 (F := Ideal) (m (φ := .f32) f) = ar i3 fun k => if k.2.2 ≤ k.2.1 then f k.2.1 k.2.2 else 0 := by
  refine Eq.trans (b := shapeCast S1x128x128 (m (φ := .f32) fun r s => if s ≤ r then f r s else 0) shapeCasts_S128x128_S1x128x128) ?_ (shapeCast_lead _ _)
  refine congrArg (fun v => shapeCast S1x128x128 v shapeCasts_S128x128_S1x128x128) (Eq.trans ?_ (mask_select f))
  rw [← broadcast_re, ← lit_zero]
theorem pay19_m (f : ℕ → ℕ → ℝ) : k0_pay19 (F := Ideal) (m (φ := .f32) f) = ar i3 fun k => ∑ e : Fin 256, f k.2.1 e.val :=
  (congrArg (fun v => shapeCast S1x128x1 (shapeCast S128x1 v shapeCasts_S128_S128x1) shapeCasts_S128x1_S1x128x1)
    (multiReduction_last (φ := .f32) (fun k => f k.1 k.2) _ _ _ _)).trans (by rw [shapeCast_col, shapeCast_lead])
theorem pay20_m (f : ℕ → ℕ → ℝ) : k0_pay20 (F := Ideal) (m (φ := .f32) f) = m (φ := .f32) fun _ e => ∑ r : Fin 8, f r.val e :=
  (congrArg (fun v => shapeCast S1x256 v shapeCasts_S256_S1x256)
    (multiReduction_first (φ := .f32) (fun k => f k.1 k.2) _ _ _ _)).trans (by rw [shapeCast_row]; rfl)
theorem pRows_m (a b d : ℕ → ℕ → ℝ) :
    pRows (m a) (m b) (m d) = m fun j e => ∑ r : Fin 8, (if j = 0 then a r.val e else if j = 1 then b r.val e else d r.val e) := by
  funext y
  have h0 : (y 0).val < 3 := (y 0).isLt
  have hrow : ∀ (j : ℕ) (g : ℕ → ℕ → ℝ) (x : S1x256.Idx) (hj : ∀ a, (![j, 0] : Fin 2 → ℕ) a + ![1, 256] a ≤ S3x256.size a),
      (∀ r e, (if j = 0 then a r e else if j = 1 then b r e else d r e) = g r e) →
      k0_pay20 (F := Ideal) (m (φ := .f32) g) x = (m (φ := .f32) fun j e => ∑ r : Fin 8, (if j = 0 then a r.val e else if j = 1 then b r.val e else d r.val e) : FVec Ideal S3x256 .f32)
        ((Rect.unit (s := S3x256) ![j, 0] ![1, 256] hj).emb x) := by
    intro j g x hj hg
    have hx : (x 0).val < 1 := (x 0).isLt
    have e0 : j + 1 * (x 0).val = j := by omega
    have e1 : 0 + 1 * (x 1).val = (x 1).val := by omega
    rw [pay20_m]
    show re (∑ r : Fin 8, g r.val (x 1).val) = re (∑ r : Fin 8, (if j + 1 * (x 0).val = 0 then a r.val (0 + 1 * (x 1).val) else if j + 1 * (x 0).val = 1 then b r.val (0 + 1 * (x 1).val) else d r.val (0 + 1 * (x 1).val)))
    rw [e0, e1]
    simp only [hg]
  refine View.canon_apply_of_pieces _ _ ?_ y ?_
  · intro p hp
    simp only [List.mem_cons, List.not_mem_nil, or_false] at hp
    rcases hp with rfl | rfl | rfl
    · exact fun x => hrow 2 d x inb_S3x256_S1x256_2_0 fun r e => by simp
    · exact fun x => hrow 1 b x inb_S3x256_S1x256_1_0 fun r e => by simp
    · exact fun x => hrow 0 a x inb_S3x256_S1x256_0_0 fun r e => by simp
  · have h1 : (y 1).val < 256 := (y 1).isLt
    have hin : ∀ (j : ℕ) (hj : ∀ a, (![j, 0] : Fin 2 → ℕ) a + ![1, 256] a ≤ S3x256.size a), (y 0).val = j →
        y ∈ (Rect.unit (s := S3x256) ![j, 0] ![1, 256] hj).set := fun j hj e =>
      (Rect.mem_set_unit (inb := hj)).mpr fun a => match a with
        | ⟨0, _⟩ => ⟨show j ≤ (y 0).val by omega, show (y 0).val < j + 1 by omega⟩
        | ⟨1, _⟩ => ⟨Nat.zero_le _, show (y 1).val < 0 + 256 by omega⟩
    rcases (by omega : (y 0).val = 2 ∨ (y 0).val = 1 ∨ (y 0).val = 0) with e | e | e
    · exact ⟨_, List.mem_cons_self, hin 2 inb_S3x256_S1x256_2_0 e⟩
    · exact ⟨_, List.mem_cons_of_mem _ List.mem_cons_self, hin 1 inb_S3x256_S1x256_1_0 e⟩
    · exact ⟨_, List.mem_cons_of_mem _ (List.mem_cons_of_mem _ List.mem_cons_self), hin 0 inb_S3x256_S1x256_0_0 e⟩

section
variable {D : Data} {h ρ : ℕ} (c : Dev nD) (i : grid0.Coords)
  (arg2 : Memref Cert.KernelIdeal.sig .tc .vmem S1024x2048 .bf16) (harg2 : arg2.IsWhole) (arg3 : Memref Cert.KernelIdeal.sig .tc .vmem S1024x2048 .bf16) (harg3 : arg3.IsWhole) (arg4 : Memref Cert.KernelIdeal.sig .tc .vmem S256x2048 .bf16) (harg4 : arg4.IsWhole)
  (arg5 : Memref Cert.KernelIdeal.sig .tc .vmem S256x2048 .bf16) (harg5 : arg5.IsWhole) (arg6 : Memref Cert.KernelIdeal.sig .tc .vmem S8x1024x256 .bf16) (harg6 : arg6.IsWhole) (arg7 : Memref Cert.KernelIdeal.sig .tc .vmem S2x1024x256 .bf16) (harg7 : arg7.IsWhole)
  (arg8 : Memref Cert.KernelIdeal.sig .tc .vmem S1x256 .f32) (harg8 : arg8.IsWhole) (arg9 : Memref Cert.KernelIdeal.sig .tc .vmem S1x256 .f32) (harg9 : arg9.IsWhole) (arg10 : Memref Cert.KernelIdeal.sig .tc .vmem S1x128x128 .f32) (harg10 : arg10.IsWhole)
  (arg11 : Memref Cert.KernelIdeal.sig .tc .vmem S1x128x1 .f32) (harg11 : arg11.IsWhole) (arg12 : Memref Cert.KernelIdeal.sig .tc .vmem S3x256 .f32) (harg12 : arg12.IsWhole) (arg13 : Memref Cert.KernelIdeal.sig .tc .vmem S9x1024x256 .bf16) (harg13 : arg13.IsWhole)
  (arg14 : Memref Cert.KernelIdeal.sig .tc .vmem S1x128x128 .f32) (harg14 : arg14.IsWhole) (arg15 : Memref Cert.KernelIdeal.sig .tc .vmem S1x128x1 .f32) (harg15 : arg15.IsWhole) (arg16 : Memref Cert.KernelIdeal.sig .tc .vmem S1x256 .f32) (harg16 : arg16.IsWhole)
  (arg17 : Memref Cert.KernelIdeal.sig .tc .vmem S1x256 .f32) (harg17 : arg17.IsWhole) (arg18 : Memref Cert.KernelIdeal.sig .tc .vmem S3x256 .f32) (harg18 : arg18.IsWhole) (arg19 : Memref Cert.KernelIdeal.sig .tc .vmem S1x256 .f32) (harg19 : arg19.IsWhole)
  (arg20 : Memref Cert.KernelIdeal.sig .tc .vmem S1032x256 .f32) (harg20 : arg20.IsWhole) (arg21 : Memref Cert.KernelIdeal.sig .tc .vmem S8x256 .f32) (harg21 : arg21.IsWhole) (arg22 : Memref Cert.KernelIdeal.sig .tc .vmem S128x128 .f32) (harg22 : arg22.IsWhole)
  (arg23 : Memref Cert.KernelIdeal.sig .tc .vmem S128x256 .f32) (harg23 : arg23.IsWhole) (arg24 : Memref Cert.KernelIdeal.sig .tc .vmem S8x256 .f32) (harg24 : arg24.IsWhole) (arg25 : Memref Cert.KernelIdeal.sig .tc .vmem S8x256 .f32) (harg25 : arg25.IsWhole)
  (arg26 : Memref Cert.KernelIdeal.sig .tc .vmem S8x256 .f32) (harg26 : arg26.IsWhole) (arg27 : Memref Cert.KernelIdeal.sig .tc .vmem S8x256 .f32) (harg27 : arg27.IsWhole) (arg28 : Memref Cert.KernelIdeal.sig .tc .vmem S8x256 .f32) (harg28 : arg28.IsWhole)
  (arg29 : Memref Cert.KernelIdeal.sig .tc .vmem S8x256 .f32) (harg29 : arg29.IsWhole)
  (x0 x1 : FVec Ideal S1024x2048 .bf16) (x2 x3 : FVec Ideal S256x2048 .bf16) (x4 : FVec Ideal S8x1024x256 .bf16)
  (x5 : FVec Ideal S2x1024x256 .bf16) (x6 x7 : FVec Ideal S1x256 .f32) (x8 : FVec Ideal S1x128x128 .f32)
  (x9 : FVec Ideal S1x128x1 .f32) (x10 : FVec Ideal S3x256 .f32)
  (xs1 : FVec Ideal S8x256 .f32) (xs2 : FVec Ideal S128x128 .f32) (xs3 : FVec Ideal S128x256 .f32)
  (xs4 xs5 xs6 xs7 xs8 xs9 : FVec Ideal S8x256 .f32)

set_option maxHeartbeats 2000000 in
/-- What the last step of a head writes, from the sums that it leaves. -/
theorem lasts_C (hc0 : ¬cond0_0 i) (hc1 : cond0_1 i) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = k0_pay18 (F := Ideal) (chain xs2 (pGws x0 x2 x4 x6 x7)) ∧
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = k0_pay19 (F := Ideal) (chain xs3 (pGbs x0 x2 x4)) ∧
    out0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = k0_pay20 (F := Ideal) (chain xs4 (pGlg x0 x2 x4 x8)) ∧
    out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = k0_pay20 (F := Ideal) (chain xs5 (pGlb x0 x2 x4 x8)) ∧
    out0_C_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = pRows (chain xs6 (fun q hq => pGcw x4 q hq (pTap x1 x3 x4 xs1 q hq arg20.view 2 (by decide))))
        (chain xs7 (fun q hq => pGcw x4 q hq (pTap x1 x3 x4 xs1 q hq arg20.view 1 (by decide))))
        (chain xs8 (fun q hq => pGcw x4 q hq (pDconv x1 x3 x4 q hq))) ∧
    out0_C_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 xs1 xs2 xs3 xs4 xs5 xs6 xs7 xs8 xs9 = k0_pay20 (F := Ideal) (chain xs9 (pGcb x1 x3 x4)) := by
  refine ⟨?_, ?_, ?_, ?_, ?_, ?_⟩
  · frame_out; exact congrArg (k0_pay18 (F := Ideal)) (shapeCast_self _ _)
  · frame_out; exact congrArg (k0_pay19 (F := Ideal)) (shapeCast_self _ _)
  · frame_out; exact congrArg (k0_pay20 (F := Ideal)) (shapeCast_self _ _)
  · frame_out; exact congrArg (k0_pay20 (F := Ideal)) (shapeCast_self _ _)
  · frame_out; exact pRows_congr (shapeCast_self _ _) (shapeCast_self _ _) (shapeCast_self _ _)
  · frame_out; exact congrArg (k0_pay20 (F := Ideal)) (shapeCast_self _ _)

end
end Mixer

end
-- ==== Proof.Head.lean ====
/- The steps of a head, one after the other: what each leaves, given that its input blocks hold the real arrays, and what the
   last writes out. -/
module

public import proofs.«01_k».proof.Proof.TileCases
public import proofs.«01_k».proof.Proof.Last

@[expose] public section

set_option maxRecDepth 16384

noncomputable section

namespace Mixer

open Idealize.ShloMosaic.Pipeline (Dat)
open Idealize.ShloMosaic Idealize.SL.Sem Cert.KernelIdeal Cert.KernelIdeal.Gen

section
variable (f : ℕ → ℝ)
theorem from8_all : from8 0 f = ∑ n : Fin 64, f n.val := by
  rw [from8, Nat.mul_zero, ← Finset.range_eq_Ico, Finset.sum_range]
theorem sum_split (a b n : ℕ) (hn : a * b = n) : ∑ k : Fin a, ∑ r : Fin b, f (b * k.val + r.val) = ∑ t : Fin n, f t.val := by
  subst hn
  rw [← Fintype.sum_prod_type' (f := fun (k : Fin a) (r : Fin b) => f (b * k.val + r.val)), ← finProdFinEquiv.sum_comp]
  exact Finset.sum_congr rfl fun x _ => congrArg f (Nat.add_comm _ _)
theorem sum_fold (g : ℕ → ℕ → ℝ) :
    ∑ r : Fin 8, from8 0 (fun n => ∑ k : Fin 16, g n (k.val * 8 + r.val)) = ∑ n : Fin 64, ∑ t : Fin 128, g n.val t.val := by
  simp only [from8_all]
  rw [Finset.sum_comm]
  refine Finset.sum_congr rfl fun n _ => ?_
  rw [Finset.sum_comm, ← sum_split (g n.val) 16 8 128 rfl]
  simp only [Nat.mul_comm]
end

section
variable (mem : (ℓ : Loc nD τ Cert.KernelIdeal.sig) → Buf (Elt Ideal) ℓ) (c : Dev nD) (D : Data)

/-- The input blocks of every step hold the real arrays: step `t` is of head `t / 8` and of tile `7 - t % 8`. -/
def Blocks : Prop := ∀ t : Fin cfg0.N, Tile D (t.val / 8) (7 - t.val % 8) (iblk mem c 0 t) (iblk mem c 1 t) (iblk mem c 2 t) (iblk mem c 3 t)
  (iblk mem c 4 t) (iblk mem c 6 t) (iblk mem c 7 t) (iblk mem c 8 t) (iblk mem c 9 t) (iblk mem c 10 t)

/-- What the carried arrays hold after step `n`, as the sums of head `h` from tile `ρ` on. -/
def CarryOf (h ρ n : ℕ) (hn : n < cfg0.N) : Prop :=
  Carry D h ρ
    (outsAt0 mem c n hn).2.2.2.2.2.2.2.1
    (outsAt0 mem c n hn).2.2.2.2.2.2.2.2.1
    (outsAt0 mem c n hn).2.2.2.2.2.2.2.2.2.1
    (outsAt0 mem c n hn).2.2.2.2.2.2.2.2.2.2.1
    (outsAt0 mem c n hn).2.2.2.2.2.2.2.2.2.2.2.1
    (outsAt0 mem c n hn).2.2.2.2.2.2.2.2.2.2.2.2.1
    (outsAt0 mem c n hn).2.2.2.2.2.2.2.2.2.2.2.2.2.1
    (outsAt0 mem c n hn).2.2.2.2.2.2.2.2.2.2.2.2.2.2.1
    (outsAt0 mem c n hn).2.2.2.2.2.2.2.2.2.2.2.2.2.2.2
/-- After step `t`: its head's sums, from its tile on. -/
def CarryAt (t : Fin cfg0.N) : Prop := CarryOf mem c D (t.val / 8) (7 - t.val % 8) t.val t.isLt

variable {mem c D}
variable (HB : Blocks mem c D)
include HB

set_option maxHeartbeats 2000000 in
/-- The first step of a head. -/
theorem carry_A (t : Fin cfg0.N) (h0 : t.val % 8 = 0) (h1 : ¬t.val % 8 = 7) : CarryAt mem c D t := by
  obtain ⟨e1, e2, e3, e4, e5, e6, e7, e8, e9⟩ := sums_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk mem c 0 t) (iblk mem c 1 t) (iblk mem c 2 t) (iblk mem c 3 t) (iblk mem c 4 t) (iblk mem c 5 t) (iblk mem c 6 t) (iblk mem c 7 t) (iblk mem c 8 t) (iblk mem c 9 t) (iblk mem c 10 t) ((hcond0_0 t).mpr h0) (fun h => h1 ((hcond0_1 t).mp h))
  rw [CarryAt, CarryOf, outsAt0_A mem c t h0 h1]
  dsimp only
  rw [e1, e2, e3, e4, e5, e6, e7, e8, e9]
  exact carry_step (HB t) _ (by rw [h0]; exact carry_zero)
set_option maxHeartbeats 2000000 in
/-- A step in the middle. -/
theorem carry_B (t : Fin cfg0.N) (h0 : ¬t.val % 8 = 0) (h1 : ¬t.val % 8 = 7)
    (hc : CarryOf mem c D (t.val / 8) (7 - t.val % 8 + 1) (t.val - 1) (Nat.lt_of_le_of_lt (Nat.sub_le _ _) t.isLt)) : CarryAt mem c D t := by
  obtain ⟨e1, e2, e3, e4, e5, e6, e7, e8, e9⟩ := sums_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk mem c 0 t) (iblk mem c 1 t) (iblk mem c 2 t) (iblk mem c 3 t) (iblk mem c 4 t) (iblk mem c 5 t) (iblk mem c 6 t) (iblk mem c 7 t) (iblk mem c 8 t) (iblk mem c 9 t) (iblk mem c 10 t) (outsAt0 mem c (t.val - 1) (Nat.lt_of_le_of_lt (Nat.sub_le _ _) t.isLt)).2.2.2.2.2.2.2.1 (outsAt0 mem c (t.val - 1) (Nat.lt_of_le_of_lt (Nat.sub_le _ _) t.isLt)).2.2.2.2.2.2.2.2.1 (outsAt0 mem c (t.val - 1) (Nat.lt_of_le_of_lt (Nat.sub_le _ _) t.isLt)).2.2.2.2.2.2.2.2.2.1 (outsAt0 mem c (t.val - 1) (Nat.lt_of_le_of_lt (Nat.sub_le _ _) t.isLt)).2.2.2.2.2.2.2.2.2.2.1 (outsAt0 mem c (t.val - 1) (Nat.lt_of_le_of_lt (Nat.sub_le _ _) t.isLt)).2.2.2.2.2.2.2.2.2.2.2.1 (outsAt0 mem c (t.val - 1) (Nat.lt_of_le_of_lt (Nat.sub_le _ _) t.isLt)).2.2.2.2.2.2.2.2.2.2.2.2.1 (outsAt0 mem c (t.val - 1) (Nat.lt_of_le_of_lt (Nat.sub_le _ _) t.isLt)).2.2.2.2.2.2.2.2.2.2.2.2.2.1 (outsAt0 mem c (t.val - 1) (Nat.lt_of_le_of_lt (Nat.sub_le _ _) t.isLt)).2.2.2.2.2.2.2.2.2.2.2.2.2.2.1 (outsAt0 mem c (t.val - 1) (Nat.lt_of_le_of_lt (Nat.sub_le _ _) t.isLt)).2.2.2.2.2.2.2.2.2.2.2.2.2.2.2 (fun h => h0 ((hcond0_0 t).mp h)) (fun h => h1 ((hcond0_1 t).mp h))
  rw [CarryAt, CarryOf, outsAt0_B mem c t h0 h1]
  dsimp only
  rw [e1, e2, e3, e4, e5, e6, e7, e8, e9]
  exact carry_step (HB t) _ hc
set_option maxHeartbeats 2000000 in
/-- The last step of a head. -/
theorem carry_C (t : Fin cfg0.N) (h0 : ¬t.val % 8 = 0) (h1 : t.val % 8 = 7)
    (hc : CarryOf mem c D (t.val / 8) (7 - t.val % 8 + 1) (t.val - 1) (Nat.lt_of_le_of_lt (Nat.sub_le _ _) t.isLt)) : CarryAt mem c D t := by
  obtain ⟨e1, e2, e3, e4, e5, e6, e7, e8, e9⟩ := sums_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk mem c 0 t) (iblk mem c 1 t) (iblk mem c 2 t) (iblk mem c 3 t) (iblk mem c 4 t) (iblk mem c 5 t) (iblk mem c 6 t) (iblk mem c 7 t) (iblk mem c 8 t) (iblk mem c 9 t) (iblk mem c 10 t) (outsAt0 mem c (t.val - 1) (Nat.lt_of_le_of_lt (Nat.sub_le _ _) t.isLt)).2.2.2.2.2.2.2.1 (outsAt0 mem c (t.val - 1) (Nat.lt_of_le_of_lt (Nat.sub_le _ _) t.isLt)).2.2.2.2.2.2.2.2.1 (outsAt0 mem c (t.val - 1) (Nat.lt_of_le_of_lt (Nat.sub_le _ _) t.isLt)).2.2.2.2.2.2.2.2.2.1 (outsAt0 mem c (t.val - 1) (Nat.lt_of_le_of_lt (Nat.sub_le _ _) t.isLt)).2.2.2.2.2.2.2.2.2.2.1 (outsAt0 mem c (t.val - 1) (Nat.lt_of_le_of_lt (Nat.sub_le _ _) t.isLt)).2.2.2.2.2.2.2.2.2.2.2.1 (outsAt0 mem c (t.val - 1) (Nat.lt_of_le_of_lt (Nat.sub_le _ _) t.isLt)).2.2.2.2.2.2.2.2.2.2.2.2.1 (outsAt0 mem c (t.val - 1) (Nat.lt_of_le_of_lt (Nat.sub_le _ _) t.isLt)).2.2.2.2.2.2.2.2.2.2.2.2.2.1 (outsAt0 mem c (t.val - 1) (Nat.lt_of_le_of_lt (Nat.sub_le _ _) t.isLt)).2.2.2.2.2.2.2.2.2.2.2.2.2.2.1 (outsAt0 mem c (t.val - 1) (Nat.lt_of_le_of_lt (Nat.sub_le _ _) t.isLt)).2.2.2.2.2.2.2.2.2.2.2.2.2.2.2 (fun h => h0 ((hcond0_0 t).mp h)) ((hcond0_1 t).mpr h1)
  rw [CarryAt, CarryOf, outsAt0_C mem c t h0 h1]
  dsimp only
  rw [e1, e2, e3, e4, e5, e6, e7, e8, e9]
  exact carry_step (HB t) _ hc

/-- After each step the carried arrays hold the sums over the tiles so far. -/
theorem carry_at (n : ℕ) : ∀ hn : n < cfg0.N, CarryAt mem c D ⟨n, hn⟩ := by
  induction n using Nat.strong_induction_on with
  | _ n ih =>
    intro hn
    by_cases h0 : n % 8 = 0
    · exact carry_A HB ⟨n, hn⟩ h0 (show ¬n % 8 = 7 by omega)
    · have hp := ih (n - 1) (by omega) (by omega)
      have e1 : (n - 1) / 8 = n / 8 := by omega
      have e2 : 7 - (n - 1) % 8 = 7 - n % 8 + 1 := by omega
      replace hp : CarryOf mem c D ((n - 1) / 8) (7 - (n - 1) % 8) (n - 1) (by omega) := hp
      rw [e1, e2] at hp
      by_cases h1 : n % 8 = 7
      · exact carry_C HB ⟨n, hn⟩ h0 h1 hp
      · exact carry_B HB ⟨n, hn⟩ h0 h1 hp
/-- What a step that is not a head's first finds in the carried arrays. -/
theorem carry_before (t : Fin cfg0.N) (h0 : ¬t.val % 8 = 0) :
    CarryOf mem c D (t.val / 8) (7 - t.val % 8 + 1) (t.val - 1) (Nat.lt_of_le_of_lt (Nat.sub_le _ _) t.isLt) := by
  have hp := carry_at HB (t.val - 1) (Nat.lt_of_le_of_lt (Nat.sub_le _ _) t.isLt)
  have e1 : (t.val - 1) / 8 = t.val / 8 := by omega
  have e2 : 7 - (t.val - 1) % 8 = 7 - t.val % 8 + 1 := by omega
  replace hp : CarryOf mem c D ((t.val - 1) / 8) (7 - (t.val - 1) % 8) (t.val - 1) (Nat.lt_of_le_of_lt (Nat.sub_le _ _) t.isLt) := hp
  rw [e1, e2] at hp
  exact hp

set_option maxHeartbeats 2000000 in
/-- Each step leaves its tile. -/
theorem tile_at (t : Fin cfg0.N) (y : S9x1024x256.Idx) :
    (outsAt0 mem c t.val t.isLt).1 y = tileVal D (t.val / 8) (7 - t.val % 8) (iblk mem c 5 t) y := by
  by_cases h0 : t.val % 8 = 0
  · have h1 : ¬t.val % 8 = 7 := by omega
    rw [outsAt0_A mem c t h0 h1]
    exact tile_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk mem c 0 t) (iblk mem c 1 t) (iblk mem c 2 t) (iblk mem c 3 t) (iblk mem c 4 t) (iblk mem c 5 t) (iblk mem c 6 t) (iblk mem c 7 t) (iblk mem c 8 t) (iblk mem c 9 t) (iblk mem c 10 t) (HB t) ((hcond0_0 t).mpr h0) (fun h => h1 ((hcond0_1 t).mp h)) (fun r e => by rw [h0, Data.dcv, if_neg (by omega)]) y
  · by_cases h1 : t.val % 8 = 7
    · rw [outsAt0_C mem c t h0 h1]
      exact tile_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk mem c 0 t) (iblk mem c 1 t) (iblk mem c 2 t) (iblk mem c 3 t) (iblk mem c 4 t) (iblk mem c 5 t) (iblk mem c 6 t) (iblk mem c 7 t) (iblk mem c 8 t) (iblk mem c 9 t) (iblk mem c 10 t) (outsAt0 mem c (t.val - 1) (Nat.lt_of_le_of_lt (Nat.sub_le _ _) t.isLt)).2.2.2.2.2.2.2.1 (outsAt0 mem c (t.val - 1) (Nat.lt_of_le_of_lt (Nat.sub_le _ _) t.isLt)).2.2.2.2.2.2.2.2.1 (outsAt0 mem c (t.val - 1) (Nat.lt_of_le_of_lt (Nat.sub_le _ _) t.isLt)).2.2.2.2.2.2.2.2.2.1 (outsAt0 mem c (t.val - 1) (Nat.lt_of_le_of_lt (Nat.sub_le _ _) t.isLt)).2.2.2.2.2.2.2.2.2.2.1 (outsAt0 mem c (t.val - 1) (Nat.lt_of_le_of_lt (Nat.sub_le _ _) t.isLt)).2.2.2.2.2.2.2.2.2.2.2.1 (outsAt0 mem c (t.val - 1) (Nat.lt_of_le_of_lt (Nat.sub_le _ _) t.isLt)).2.2.2.2.2.2.2.2.2.2.2.2.1 (outsAt0 mem c (t.val - 1) (Nat.lt_of_le_of_lt (Nat.sub_le _ _) t.isLt)).2.2.2.2.2.2.2.2.2.2.2.2.2.1 (outsAt0 mem c (t.val - 1) (Nat.lt_of_le_of_lt (Nat.sub_le _ _) t.isLt)).2.2.2.2.2.2.2.2.2.2.2.2.2.2.1 (outsAt0 mem c (t.val - 1) (Nat.lt_of_le_of_lt (Nat.sub_le _ _) t.isLt)).2.2.2.2.2.2.2.2.2.2.2.2.2.2.2 (HB t) (fun h => h0 ((hcond0_0 t).mp h)) ((hcond0_1 t).mpr h1) (carry_before HB t h0).c1 y
    · rw [outsAt0_B mem c t h0 h1]
      exact tile_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk mem c 0 t) (iblk mem c 1 t) (iblk mem c 2 t) (iblk mem c 3 t) (iblk mem c 4 t) (iblk mem c 5 t) (iblk mem c 6 t) (iblk mem c 7 t) (iblk mem c 8 t) (iblk mem c 9 t) (iblk mem c 10 t) (outsAt0 mem c (t.val - 1) (Nat.lt_of_le_of_lt (Nat.sub_le _ _) t.isLt)).2.2.2.2.2.2.2.1 (outsAt0 mem c (t.val - 1) (Nat.lt_of_le_of_lt (Nat.sub_le _ _) t.isLt)).2.2.2.2.2.2.2.2.1 (outsAt0 mem c (t.val - 1) (Nat.lt_of_le_of_lt (Nat.sub_le _ _) t.isLt)).2.2.2.2.2.2.2.2.2.1 (outsAt0 mem c (t.val - 1) (Nat.lt_of_le_of_lt (Nat.sub_le _ _) t.isLt)).2.2.2.2.2.2.2.2.2.2.1 (outsAt0 mem c (t.val - 1) (Nat.lt_of_le_of_lt (Nat.sub_le _ _) t.isLt)).2.2.2.2.2.2.2.2.2.2.2.1 (outsAt0 mem c (t.val - 1) (Nat.lt_of_le_of_lt (Nat.sub_le _ _) t.isLt)).2.2.2.2.2.2.2.2.2.2.2.2.1 (outsAt0 mem c (t.val - 1) (Nat.lt_of_le_of_lt (Nat.sub_le _ _) t.isLt)).2.2.2.2.2.2.2.2.2.2.2.2.2.1 (outsAt0 mem c (t.val - 1) (Nat.lt_of_le_of_lt (Nat.sub_le _ _) t.isLt)).2.2.2.2.2.2.2.2.2.2.2.2.2.2.1 (outsAt0 mem c (t.val - 1) (Nat.lt_of_le_of_lt (Nat.sub_le _ _) t.isLt)).2.2.2.2.2.2.2.2.2.2.2.2.2.2.2 (HB t) (fun h => h0 ((hcond0_0 t).mp h)) (fun h => h1 ((hcond0_1 t).mp h)) (carry_before HB t h0).c1 y

end

end Mixer

end
-- ==== Proof.Blocks.lean ====
/- The blocks of the arguments that a step reads, from the arrays of real data. -/
module

public import proofs.«01_k».proof.Proof.Host
public import proofs.«01_k».proof.Proof.Head
public import Idealize.ShloMosaic.Lib.Pipeline.ValueKit.Point

@[expose] public section

set_option maxRecDepth 16384

noncomputable section

namespace Mixer

open Idealize.ShloMosaic Idealize.ShloMosaic.TcCoe Idealize.SL.Sem Cert.KernelIdeal Cert.KernelIdeal.Gen

variable (mem : (ℓ : Loc nD τ Cert.KernelIdeal.sig) → Buf (Elt Ideal) ℓ) (c : Dev nD) (D : Data)

/-- The arguments, but for the two arrays that are passed through, hold the real data. -/
structure Args : Prop where
  a0 : mem ((c : Thread nD τ).loc main_arg0) = Ref.X0 D
  a1 : mem ((c : Thread nD τ).loc main_arg1) = Ref.X1 D
  a2 : mem ((c : Thread nD τ).loc main_arg2) = Ref.X2 D
  a3 : mem ((c : Thread nD τ).loc main_arg3) = Ref.X3 D
  a4 : mem ((c : Thread nD τ).loc main_arg4) = Ref.X4 D
  a6 : mem ((c : Thread nD τ).loc main_arg6) = Ref.X6 D
  a7 : mem ((c : Thread nD τ).loc main_arg7) = Ref.X7 D
  a8 : mem ((c : Thread nD τ).loc main_arg8) = Ref.X8 D
  a9 : mem ((c : Thread nD τ).loc main_arg9) = Ref.X9 D
  a10 : mem ((c : Thread nD τ).loc main_arg10) = Ref.X10 D
  a11 : mem ((c : Thread nD τ).loc main_arg11) = Ref.X11 D

variable {mem c D}

/-! The block index of each window. -/
theorem ix0 : ∀ t : Fin cfg0.N, win0_0.index t = ![7 - t.val % 8, 0] := (by decide +kernel : ∀ t : Fin grid0.N, _)
theorem ix1 : ∀ t : Fin cfg0.N, win0_1.index t = ![7 - t.val % 8, 0] := (by decide +kernel : ∀ t : Fin grid0.N, _)
theorem ix2 : ∀ t : Fin cfg0.N, win0_2.index t = ![t.val / 8, 0] := (by decide +kernel : ∀ t : Fin grid0.N, _)
theorem ix3 : ∀ t : Fin cfg0.N, win0_3.index t = ![t.val / 8, 0] := (by decide +kernel : ∀ t : Fin grid0.N, _)
theorem ix4 : ∀ t : Fin cfg0.N, win0_4.index t = ![0, 7 - t.val % 8, t.val / 8] := (by decide +kernel : ∀ t : Fin grid0.N, _)
theorem ix5 : ∀ t : Fin cfg0.N, win0_5.index t = ![0, 7 - t.val % 8, t.val / 8] := (by decide +kernel : ∀ t : Fin grid0.N, _)
theorem ix6 : ∀ t : Fin cfg0.N, win0_6.index t = ![0, t.val / 8] := (by decide +kernel : ∀ t : Fin grid0.N, _)
theorem ix7 : ∀ t : Fin cfg0.N, win0_7.index t = ![0, t.val / 8] := (by decide +kernel : ∀ t : Fin grid0.N, _)
theorem ix8 : ∀ t : Fin cfg0.N, win0_8.index t = ![t.val / 8, 0, 0] := (by decide +kernel : ∀ t : Fin grid0.N, _)
theorem ix9 : ∀ t : Fin cfg0.N, win0_9.index t = ![t.val / 8, 0, 0] := (by decide +kernel : ∀ t : Fin grid0.N, _)
theorem ix10 : ∀ t : Fin cfg0.N, win0_10.index t = ![0, t.val / 8] := (by decide +kernel : ∀ t : Fin grid0.N, _)
theorem ix11 : ∀ t : Fin cfg0.N, win0_11.index t = ![0, 7 - t.val % 8, t.val / 8] := (by decide +kernel : ∀ t : Fin grid0.N, _)
theorem ix12 : ∀ t : Fin cfg0.N, win0_12.index t = ![t.val / 8, 0, 0] := (by decide +kernel : ∀ t : Fin grid0.N, _)
theorem ix13 : ∀ t : Fin cfg0.N, win0_13.index t = ![t.val / 8, 0, 0] := (by decide +kernel : ∀ t : Fin grid0.N, _)
theorem ix14 : ∀ t : Fin cfg0.N, win0_14.index t = ![0, t.val / 8] := (by decide +kernel : ∀ t : Fin grid0.N, _)
theorem ix15 : ∀ t : Fin cfg0.N, win0_15.index t = ![0, t.val / 8] := (by decide +kernel : ∀ t : Fin grid0.N, _)
theorem ix16 : ∀ t : Fin cfg0.N, win0_16.index t = ![0, t.val / 8] := (by decide +kernel : ∀ t : Fin grid0.N, _)
theorem ix17 : ∀ t : Fin cfg0.N, win0_17.index t = ![0, t.val / 8] := (by decide +kernel : ∀ t : Fin grid0.N, _)

section
variable (A : Args mem c D)
include A

/-- The saved arrays hold the seven pre-activations and the convolution. -/
theorem saved_eq : V mem c main_v33 = ar (φ := .bf16) i3 fun k => D.sv k.1 k.2.1 k.2.2 := by
  rw [V_saved, A.a4, A.a10, A.a11, Ref.hConv_eq]
  funext y
  have h0 : (y 0).val < 8 := (y 0).isLt
  by_cases h : (y 0).val < 7
  · refine (concatenate_apply_piece (t := S8x8192x2048) 0
      [⟨S7x8192x2048, Ref.X4 D⟩, ⟨S1x8192x2048, truncf .bf16 (Ref.a3 D.conv) bitsLt_bf16_f32⟩] concatenates_S7x8192x2048_S1x8192x2048_S8x8192x2048_d0 y 0 Nat.two_pos S7x8192x2048 (Ref.X4 D) rfl rfl 0 rfl
      (fun a => match a with | ⟨0, _⟩ => ⟨(y 0).val, h⟩ | ⟨1, _⟩ => y 1 | ⟨2, _⟩ => y 2)
      (fun b hb => match b, hb with | ⟨0, _⟩, hb => absurd rfl hb | ⟨1, _⟩, _ => rfl | ⟨2, _⟩, _ => rfl)
      (by show 0 + (y 0).val = (y 0).val; omega)).trans ?_
    show re (φ := .bf16) (D.p (y 0).val (y 1).val (y 2).val) = re (D.sv (y 0).val (y 1).val (y 2).val)
    rw [Data.sv, if_pos h]
  · refine (concatenate_apply_piece (t := S8x8192x2048) 0
      [⟨S7x8192x2048, Ref.X4 D⟩, ⟨S1x8192x2048, truncf .bf16 (Ref.a3 D.conv) bitsLt_bf16_f32⟩] concatenates_S7x8192x2048_S1x8192x2048_S8x8192x2048_d0 y 1 Nat.one_lt_two S1x8192x2048
      (truncf .bf16 (Ref.a3 D.conv) bitsLt_bf16_f32) rfl rfl 7 rfl
      (fun a => match a with | ⟨0, _⟩ => ⟨0, Nat.one_pos⟩ | ⟨1, _⟩ => y 1 | ⟨2, _⟩ => y 2)
      (fun b hb => match b, hb with | ⟨0, _⟩, hb => absurd rfl hb | ⟨1, _⟩, _ => rfl | ⟨2, _⟩, _ => rfl)
      (by show 7 + 0 = (y 0).val; omega)).trans ?_
    show re (φ := .bf16) (D.conv (y 1).val (y 2).val) = re (D.sv (y 0).val (y 1).val (y 2).val)
    rw [Data.sv, if_neg h]
/-- The biases as columns. -/
theorem bias_eq : V mem c main_v34 = ar (φ := .f32) i3 fun k => D.bs k.1 k.2.1 := by
  rw [V_bias, A.a9]
  funext y
  exact shapeCast_apply _ shapeCasts_S8x128_S8x128x1 y (fun a => match a with | ⟨0, _⟩ => y 0 | ⟨1, _⟩ => y 1) (by
    rw [Shape.rowMajor_val_two, Shape.rowMajor_val_three]
    have h2 : (y 2).val < 1 := (y 2).isLt
    show (y 0).val * 128 + (y 1).val = ((y 0).val * 128 + (y 1).val) * 1 + (y 2).val
    omega)

/-! What a step reads of each array. -/
theorem blk0 (t : Fin cfg0.N) : iblk mem c 0 t = (m fun r k => D.da (1024 * (7 - t.val % 8) + r) k : FVec Ideal S1024x2048 .bf16) := by
  funext y
  show V mem c main_arg0 ((win0_0.blk t).view.emb y) = _
  rw [V_main_arg0, A.a0]
  show re (φ := .bf16) (D.da ((win0_0.blk t).view.emb y 0).val ((win0_0.blk t).view.emb y 1).val) = re (D.da (1024 * (7 - t.val % 8) + (y 0).val) (y 1).val)
  blk_simp [ix0]
  rw [Nat.mul_comm 1024]
theorem blk1 (t : Fin cfg0.N) : iblk mem c 1 t = (m fun r k => D.db (1024 * (7 - t.val % 8) + r) k : FVec Ideal S1024x2048 .bf16) := by
  funext y
  show V mem c main_arg1 ((win0_1.blk t).view.emb y) = _
  rw [V_main_arg1, A.a1]
  show re (φ := .bf16) (D.db ((win0_1.blk t).view.emb y 0).val ((win0_1.blk t).view.emb y 1).val) = re (D.db (1024 * (7 - t.val % 8) + (y 0).val) (y 1).val)
  blk_simp [ix1]
  rw [Nat.mul_comm 1024]
theorem blk2 (t : Fin cfg0.N) : iblk mem c 2 t = (m fun e k => D.woa (256 * (t.val / 8) + e) k : FVec Ideal S256x2048 .bf16) := by
  funext y
  show V mem c main_arg2 ((win0_2.blk t).view.emb y) = _
  rw [V_main_arg2, A.a2]
  show re (φ := .bf16) (D.woa ((win0_2.blk t).view.emb y 0).val ((win0_2.blk t).view.emb y 1).val) = re (D.woa (256 * (t.val / 8) + (y 0).val) (y 1).val)
  blk_simp [ix2]
  rw [Nat.mul_comm 256]
theorem blk3 (t : Fin cfg0.N) : iblk mem c 3 t = (m fun e k => D.wob (256 * (t.val / 8) + e) k : FVec Ideal S256x2048 .bf16) := by
  funext y
  show V mem c main_arg3 ((win0_3.blk t).view.emb y) = _
  rw [V_main_arg3, A.a3]
  show re (φ := .bf16) (D.wob ((win0_3.blk t).view.emb y 0).val ((win0_3.blk t).view.emb y 1).val) = re (D.wob (256 * (t.val / 8) + (y 0).val) (y 1).val)
  blk_simp [ix3]
  rw [Nat.mul_comm 256]
theorem blk6 (t : Fin cfg0.N) : iblk mem c 6 t = (m fun _ e => D.lg (256 * (t.val / 8) + e) : FVec Ideal S1x256 .f32) := by
  funext y
  show V mem c main_arg6 ((win0_6.blk t).view.emb y) = _
  rw [V_main_arg6, A.a6]
  show re (φ := .f32) (D.lg ((win0_6.blk t).view.emb y 1).val) = re (D.lg (256 * (t.val / 8) + (y 1).val))
  blk_simp [ix6]
  rw [Nat.mul_comm 256]
theorem blk7 (t : Fin cfg0.N) : iblk mem c 7 t = (m fun _ e => D.lb (256 * (t.val / 8) + e) : FVec Ideal S1x256 .f32) := by
  funext y
  show V mem c main_arg7 ((win0_7.blk t).view.emb y) = _
  rw [V_main_arg7, A.a7]
  show re (φ := .f32) (D.lb ((win0_7.blk t).view.emb y 1).val) = re (D.lb (256 * (t.val / 8) + (y 1).val))
  blk_simp [ix7]
  rw [Nat.mul_comm 256]
theorem blk10 (t : Fin cfg0.N) : iblk mem c 10 t = (m fun j e => D.cw j (256 * (t.val / 8) + e) : FVec Ideal S3x256 .f32) := by
  funext y
  show V mem c main_arg10 ((win0_10.blk t).view.emb y) = _
  rw [V_main_arg10, A.a10]
  show re (φ := .f32) (D.cw ((win0_10.blk t).view.emb y 0).val ((win0_10.blk t).view.emb y 1).val) = re (D.cw (y 0).val (256 * (t.val / 8) + (y 1).val))
  blk_simp [ix10]
  rw [Nat.mul_comm 256]
theorem blk4 (t : Fin cfg0.N) : iblk mem c 4 t = (ar i3 fun k => D.sv k.1 (1024 * (7 - t.val % 8) + k.2.1) (256 * (t.val / 8) + k.2.2) : FVec Ideal S8x1024x256 .bf16) := by
  funext y
  show V mem c main_v33 ((win0_4.blk t).view.emb y) = _
  rw [saved_eq A]
  show re (φ := .bf16) (D.sv ((win0_4.blk t).view.emb y 0).val ((win0_4.blk t).view.emb y 1).val ((win0_4.blk t).view.emb y 2).val) = re (D.sv (y 0).val (1024 * (7 - t.val % 8) + (y 1).val) (256 * (t.val / 8) + (y 2).val))
  blk_simp [ix4]
  rw [Nat.mul_comm 1024, Nat.mul_comm 256]
theorem blk8 (t : Fin cfg0.N) : iblk mem c 8 t = (ar i3 fun k => D.ws (t.val / 8) k.2.1 k.2.2 : FVec Ideal S1x128x128 .f32) := by
  funext y
  show V mem c main_arg8 ((win0_8.blk t).view.emb y) = _
  rw [V_main_arg8, A.a8]
  show re (φ := .f32) (D.ws ((win0_8.blk t).view.emb y 0).val ((win0_8.blk t).view.emb y 1).val ((win0_8.blk t).view.emb y 2).val) = re (D.ws (t.val / 8) (y 1).val (y 2).val)
  blk_simp [ix8]
theorem blk9 (t : Fin cfg0.N) : iblk mem c 9 t = (ar i3 fun k => D.bs (t.val / 8) k.2.1 : FVec Ideal S1x128x1 .f32) := by
  funext y
  show V mem c main_v34 ((win0_9.blk t).view.emb y) = _
  rw [bias_eq A]
  show re (φ := .f32) (D.bs ((win0_9.blk t).view.emb y 0).val ((win0_9.blk t).view.emb y 1).val) = re (D.bs (t.val / 8) (y 1).val)
  blk_simp [ix9]

/-- Each step reads its tile and its head. -/
theorem blocks_of : Blocks mem c D := fun t => {
  hρ := by omega
  e0 := blk0 A t
  e1 := blk1 A t
  e2 := blk2 A t
  e3 := blk3 A t
  e4 := blk4 A t
  e6 := blk6 A t
  e7 := blk7 A t
  e8 := blk8 A t
  e9 := blk9 A t
  e10 := blk10 A t
}
end

end Mixer

end
-- ==== Proof.Ends.lean ====
/- What the last step of a head writes out: the gradients of the head's parameters. -/
module

public import proofs.«01_k».proof.Proof.Head

@[expose] public section

set_option maxRecDepth 16384

noncomputable section

namespace Mixer

open Idealize.ShloMosaic Idealize.SL.Sem Cert.KernelIdeal Cert.KernelIdeal.Gen

/-! The sums of a head, in the reference's order. -/
section
variable (D : Data) (h : ℕ)
theorem end_gws : k0_pay18 (F := Ideal) (m (φ := .f32) fun r s => from8 0 fun n => ∑ e : Fin 256, D.dmix h n r e.val * D.vn h n s e.val)
    = ar (φ := .f32) i3 fun k => D.gws h k.2.1 k.2.2 :=
  (pay18_m _).trans (congrArg (ar i3) (funext fun k => by simp only [Data.gws, from8_all]))
theorem end_gbs : k0_pay19 (F := Ideal) (m (φ := .f32) fun r e => from8 0 fun n => D.dmix h n r e)
    = ar (φ := .f32) i3 fun k => D.gbs h k.2.1 :=
  (pay19_m _).trans (congrArg (ar i3) (funext fun k => by simp only [Data.gbs, from8_all]; exact Finset.sum_comm))
theorem end_glg : k0_pay20 (F := Ideal) (m (φ := .f32) fun r e => from8 0 fun n =>
      ∑ k : Fin 16, D.dvn h n (k.val * 8 + r) e * D.vhat h n (k.val * 8 + r) e)
    = m (φ := .f32) fun _ e => D.glg (256 * h + e) :=
  (pay20_m _).trans (m_congr fun r e _ he => by
    rw [Data.glg, show (256 * h + e) / 256 = h by omega, show (256 * h + e) % 256 = e by omega]
    exact sum_fold fun n r => D.dvn h n r e * D.vhat h n r e)
theorem end_glb : k0_pay20 (F := Ideal) (m (φ := .f32) fun r e => from8 0 fun n => ∑ k : Fin 16, D.dvn h n (k.val * 8 + r) e)
    = m (φ := .f32) fun _ e => D.glb (256 * h + e) :=
  (pay20_m _).trans (m_congr fun r e _ he => by
    rw [Data.glb, show (256 * h + e) / 256 = h by omega, show (256 * h + e) % 256 = e by omega]
    exact sum_fold fun n r => D.dvn h n r e)
theorem sum_time (g : ℕ → ℝ) :
    ∑ r : Fin 8, from8 0 (fun n => ∑ k : Fin 16, g (128 * n + (k.val * 8 + r.val))) = ∑ t : Fin 8192, g t.val :=
  (sum_fold fun n r => g (128 * n + r)).trans (sum_split g 64 128 8192 rfl)
theorem end_gcw : pRows
      (m (φ := .f32) fun r e => from8 0 fun n => ∑ k : Fin 16, D.dcv (128 * n + (k.val * 8 + r) + 2) (256 * h + e) * D.hh (128 * n + (k.val * 8 + r)) (256 * h + e))
      (m (φ := .f32) fun r e => from8 0 fun n => ∑ k : Fin 16, D.dcv (128 * n + (k.val * 8 + r) + 1) (256 * h + e) * D.hh (128 * n + (k.val * 8 + r)) (256 * h + e))
      (m (φ := .f32) fun r e => from8 0 fun n => ∑ k : Fin 16, D.dcv (128 * n + (k.val * 8 + r) + 0) (256 * h + e) * D.hh (128 * n + (k.val * 8 + r)) (256 * h + e))
    = m (φ := .f32) fun j e => D.gcw j (256 * h + e) :=
  (pRows_m _ _ _).trans (m_congr fun j e hj _ => by
    have hs : ∀ d, ∑ r : Fin 8, from8 0 (fun n => ∑ k : Fin 16, D.dcv (128 * n + (k.val * 8 + r.val) + d) (256 * h + e) * D.hh (128 * n + (k.val * 8 + r.val)) (256 * h + e))
        = ∑ t : Fin 8192, D.dcv (t.val + d) (256 * h + e) * D.hh t.val (256 * h + e) :=
      fun d => sum_time fun t => D.dcv (t + d) (256 * h + e) * D.hh t (256 * h + e)
    rcases (by omega : j = 0 ∨ j = 1 ∨ j = 2) with rfl | rfl | rfl
    · simpa only [if_pos, Data.gcw] using hs 2
    · simpa only [if_pos, one_ne_zero, if_false, Data.gcw] using hs 1
    · simpa only [show ¬(2 : ℕ) = 0 by omega, show ¬(2 : ℕ) = 1 by omega, if_false, Data.gcw] using hs 0)
theorem end_gcb : k0_pay20 (F := Ideal) (m (φ := .f32) fun r e => from8 0 fun n => ∑ k : Fin 16, D.dcv (128 * n + (k.val * 8 + r)) (256 * h + e))
    = m (φ := .f32) fun _ e => D.gcb (256 * h + e) :=
  (pay20_m _).trans (m_congr fun r e _ _ => sum_time fun t => D.dcv t (256 * h + e))
end

section
variable {mem : (ℓ : Loc nD τ Cert.KernelIdeal.sig) → Buf (Elt Ideal) ℓ} {c : Dev nD} {D : Data}
variable (HB : Blocks mem c D)
include HB

set_option maxHeartbeats 2000000 in
/-- What the last step of a head writes out: the gradients of the head's parameters. -/
theorem last_at (t : Fin cfg0.N) (h1 : t.val % 8 = 7) :
    (outsAt0 mem c t.val t.isLt).2.1 = ar (φ := .f32) i3 (fun k => D.gws (t.val / 8) k.2.1 k.2.2) ∧
    (outsAt0 mem c t.val t.isLt).2.2.1 = ar (φ := .f32) i3 (fun k => D.gbs (t.val / 8) k.2.1) ∧
    (outsAt0 mem c t.val t.isLt).2.2.2.1 = m (φ := .f32) (fun _ e => D.glg (256 * (t.val / 8) + e)) ∧
    (outsAt0 mem c t.val t.isLt).2.2.2.2.1 = m (φ := .f32) (fun _ e => D.glb (256 * (t.val / 8) + e)) ∧
    (outsAt0 mem c t.val t.isLt).2.2.2.2.2.1 = m (φ := .f32) (fun j e => D.gcw j (256 * (t.val / 8) + e)) ∧
    (outsAt0 mem c t.val t.isLt).2.2.2.2.2.2.1 = m (φ := .f32) (fun _ e => D.gcb (256 * (t.val / 8) + e)) := by
  have h0 : ¬t.val % 8 = 0 := by omega
  obtain ⟨e2, e3, e4, e5, e6, e9⟩ := lasts_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk mem c 0 t) (iblk mem c 1 t) (iblk mem c 2 t) (iblk mem c 3 t) (iblk mem c 4 t) (iblk mem c 5 t) (iblk mem c 6 t) (iblk mem c 7 t) (iblk mem c 8 t) (iblk mem c 9 t) (iblk mem c 10 t) (outsAt0 mem c (t.val - 1) (Nat.lt_of_le_of_lt (Nat.sub_le _ _) t.isLt)).2.2.2.2.2.2.2.1 (outsAt0 mem c (t.val - 1) (Nat.lt_of_le_of_lt (Nat.sub_le _ _) t.isLt)).2.2.2.2.2.2.2.2.1 (outsAt0 mem c (t.val - 1) (Nat.lt_of_le_of_lt (Nat.sub_le _ _) t.isLt)).2.2.2.2.2.2.2.2.2.1 (outsAt0 mem c (t.val - 1) (Nat.lt_of_le_of_lt (Nat.sub_le _ _) t.isLt)).2.2.2.2.2.2.2.2.2.2.1 (outsAt0 mem c (t.val - 1) (Nat.lt_of_le_of_lt (Nat.sub_le _ _) t.isLt)).2.2.2.2.2.2.2.2.2.2.2.1 (outsAt0 mem c (t.val - 1) (Nat.lt_of_le_of_lt (Nat.sub_le _ _) t.isLt)).2.2.2.2.2.2.2.2.2.2.2.2.1 (outsAt0 mem c (t.val - 1) (Nat.lt_of_le_of_lt (Nat.sub_le _ _) t.isLt)).2.2.2.2.2.2.2.2.2.2.2.2.2.1 (outsAt0 mem c (t.val - 1) (Nat.lt_of_le_of_lt (Nat.sub_le _ _) t.isLt)).2.2.2.2.2.2.2.2.2.2.2.2.2.2.1 (outsAt0 mem c (t.val - 1) (Nat.lt_of_le_of_lt (Nat.sub_le _ _) t.isLt)).2.2.2.2.2.2.2.2.2.2.2.2.2.2.2 (fun h => h0 ((hcond0_0 t).mp h)) ((hcond0_1 t).mpr h1)
  have hc := carry_step (HB t) scM0_0.view (carry_before HB t h0)
  rw [outsAt0_C mem c t h0 h1]
  dsimp only
  rw [e2, e3, e4, e5, e6, e9, hc.c2, hc.c3, hc.c4, hc.c5, hc.c6, hc.c7, hc.c8, hc.c9,
    show 7 - t.val % 8 = 0 by omega]
  exact ⟨end_gws .., end_gbs .., end_glg .., end_glb .., end_gcw .., end_gcb ..⟩

end

end Mixer

end
-- ==== Proof.Arrays.lean ====
/- The arrays that the kernel leaves. -/
module

public import proofs.«01_k».proof.Proof.Blocks
public import proofs.«01_k».proof.Proof.Ends
public import proofs.«01_k».proof.Proof.Gen.KernelIdeal.Value

@[expose] public section

set_option maxRecDepth 16384

noncomputable section

namespace Mixer

open Idealize.ShloMosaic Idealize.ShloMosaic.TcCoe Idealize.SL.Sem Cert.KernelIdeal Cert.KernelIdeal.Gen

variable {mem : (ℓ : Loc nD τ Cert.KernelIdeal.sig) → Buf (Elt Ideal) ℓ} {c : Dev nD} {D : Data}
variable (A : Args mem c D)

theorem dpOut_grad (x5 : FVec Ideal S2x8192x2048 .bf16) (y : S9x8192x2048.Idx) (k r e : ℕ) (hk : k < 7)
    (h0 : (y 0).val = k) (h1 : (y 1).val = r) (h2 : (y 2).val = e) : Ref.dpOut D x5 y = re (φ := .bf16) (D.dp k r e) := by
  subst h0 h1 h2
  exact dif_neg (by omega)
theorem dpOut_through (x5 : FVec Ideal S2x8192x2048 .bf16) (y : S9x8192x2048.Idx) (z : S2x8192x2048.Idx)
    (h0 : (y 0).val = 7 + (z 0).val) (h1 : (y 1).val = (z 1).val) (h2 : (y 2).val = (z 2).val) : Ref.dpOut D x5 y = x5 z :=
  (dif_pos (show 7 ≤ (y 0).val by omega)).trans (congrArg x5 (funext fun a => match a with
    | ⟨0, _⟩ => Fin.ext (show (y 0).val - 7 = (z 0).val by omega)
    | ⟨1, _⟩ => Fin.ext h1
    | ⟨2, _⟩ => Fin.ext h2))

include A

/-! The results of the parameters' gradients are written back at the last step of each head. -/
omit A in
theorem flush12 : ∀ t : Fin cfg0.N, (cfg0.win 12).flush t = true → t.val % 8 = 7 :=
  (by decide +kernel : ∀ t : Fin grid0.N, win0_12.flush t = true → t.val % 8 = 7)
theorem arr12 : (dats mem 0 c).arrAt 12 cfg0.N = ar (φ := .f32) i3 fun k => D.gws k.1 k.2.1 k.2.2 := by
  refine (dats mem 0 c).arrAt_eq_of_covers 12 _ (by decide +kernel) fun t hf y => ?_
  have e := (last_at (blocks_of A) t (flush12 t hf)).1
  blk_simp
  rw [after0_12]
  refine (congrFun e y).trans ?_
  show re (φ := .f32) (D.gws (t.val / 8) (y 1).val (y 2).val) = re (D.gws ((win0_12.blk t).view.emb y 0).val ((win0_12.blk t).view.emb y 1).val ((win0_12.blk t).view.emb y 2).val)
  blk_simp [ix12]
omit A in
theorem flush13 : ∀ t : Fin cfg0.N, (cfg0.win 13).flush t = true → t.val % 8 = 7 :=
  (by decide +kernel : ∀ t : Fin grid0.N, win0_13.flush t = true → t.val % 8 = 7)
theorem arr13 : (dats mem 0 c).arrAt 13 cfg0.N = ar (φ := .f32) i3 fun k => D.gbs k.1 k.2.1 := by
  refine (dats mem 0 c).arrAt_eq_of_covers 13 _ (by decide +kernel) fun t hf y => ?_
  have e := (last_at (blocks_of A) t (flush13 t hf)).2.1
  blk_simp
  rw [after0_13]
  refine (congrFun e y).trans ?_
  show re (φ := .f32) (D.gbs (t.val / 8) (y 1).val) = re (D.gbs ((win0_13.blk t).view.emb y 0).val ((win0_13.blk t).view.emb y 1).val)
  blk_simp [ix13]
omit A in
theorem flush14 : ∀ t : Fin cfg0.N, (cfg0.win 14).flush t = true → t.val % 8 = 7 :=
  (by decide +kernel : ∀ t : Fin grid0.N, win0_14.flush t = true → t.val % 8 = 7)
theorem arr14 : (dats mem 0 c).arrAt 14 cfg0.N = Ref.c2d D.glg := by
  refine (dats mem 0 c).arrAt_eq_of_covers 14 _ (by decide +kernel) fun t hf y => ?_
  have e := (last_at (blocks_of A) t (flush14 t hf)).2.2.1
  blk_simp
  rw [after0_14]
  refine (congrFun e y).trans ?_
  show re (φ := .f32) (D.glg (256 * (t.val / 8) + (y 1).val)) = re (D.glg ((win0_14.blk t).view.emb y 1).val)
  blk_simp [ix14]
  rw [Nat.mul_comm 256]
omit A in
theorem flush15 : ∀ t : Fin cfg0.N, (cfg0.win 15).flush t = true → t.val % 8 = 7 :=
  (by decide +kernel : ∀ t : Fin grid0.N, win0_15.flush t = true → t.val % 8 = 7)
theorem arr15 : (dats mem 0 c).arrAt 15 cfg0.N = Ref.c2d D.glb := by
  refine (dats mem 0 c).arrAt_eq_of_covers 15 _ (by decide +kernel) fun t hf y => ?_
  have e := (last_at (blocks_of A) t (flush15 t hf)).2.2.2.1
  blk_simp
  rw [after0_15]
  refine (congrFun e y).trans ?_
  show re (φ := .f32) (D.glb (256 * (t.val / 8) + (y 1).val)) = re (D.glb ((win0_15.blk t).view.emb y 1).val)
  blk_simp [ix15]
  rw [Nat.mul_comm 256]
omit A in
theorem flush16 : ∀ t : Fin cfg0.N, (cfg0.win 16).flush t = true → t.val % 8 = 7 :=
  (by decide +kernel : ∀ t : Fin grid0.N, win0_16.flush t = true → t.val % 8 = 7)
theorem arr16 : (dats mem 0 c).arrAt 16 cfg0.N = Ref.t2 D.gcw := by
  refine (dats mem 0 c).arrAt_eq_of_covers 16 _ (by decide +kernel) fun t hf y => ?_
  have e := (last_at (blocks_of A) t (flush16 t hf)).2.2.2.2.1
  blk_simp
  rw [after0_16]
  refine (congrFun e y).trans ?_
  show re (φ := .f32) (D.gcw (y 0).val (256 * (t.val / 8) + (y 1).val)) = re (D.gcw ((win0_16.blk t).view.emb y 0).val ((win0_16.blk t).view.emb y 1).val)
  blk_simp [ix16]
  rw [Nat.mul_comm 256]
omit A in
theorem flush17 : ∀ t : Fin cfg0.N, (cfg0.win 17).flush t = true → t.val % 8 = 7 :=
  (by decide +kernel : ∀ t : Fin grid0.N, win0_17.flush t = true → t.val % 8 = 7)
theorem arr17 : (dats mem 0 c).arrAt 17 cfg0.N = Ref.c2d D.gcb := by
  refine (dats mem 0 c).arrAt_eq_of_covers 17 _ (by decide +kernel) fun t hf y => ?_
  have e := (last_at (blocks_of A) t (flush17 t hf)).2.2.2.2.2
  blk_simp
  rw [after0_17]
  refine (congrFun e y).trans ?_
  show re (φ := .f32) (D.gcb (256 * (t.val / 8) + (y 1).val)) = re (D.gcb ((win0_17.blk t).view.emb y 1).val)
  blk_simp [ix17]
  rw [Nat.mul_comm 256]

/-- The gradients of the pre-activations, and the two arrays that are passed through. -/
theorem arr11 : (dats mem 0 c).arrAt 11 cfg0.N = Ref.dpOut D (mem ((c : Thread nD τ).loc main_arg5)) := by
  refine (dats mem 0 c).arrAt_eq_of_covers 11 _ (by decide +kernel) fun t hf y => ?_
  have e := tile_at (blocks_of A) t y
  blk_simp
  rw [after0_11]
  refine e.trans ?_
  have e0 : ((win0_11.blk t).view.emb y 0).val = (y 0).val := by blk_simp [ix11]
  have e1 : ((win0_11.blk t).view.emb y 1).val = 1024 * (7 - t.val % 8) + (y 1).val := by blk_simp [ix11]; rw [Nat.mul_comm 1024]
  have e2 : ((win0_11.blk t).view.emb y 2).val = 256 * (t.val / 8) + (y 2).val := by blk_simp [ix11]; rw [Nat.mul_comm 256]
  have h0 : (y 0).val < 9 := (y 0).isLt
  by_cases h : (y 0).val < 7
  · exact (tileVal_grad D _ _ _ y (y 0).val (y 1).val (y 2).val h rfl rfl rfl).trans
      (dpOut_grad _ _ (y 0).val _ _ h e0 e1 e2).symm
  · obtain ⟨z, z0, z1, z2⟩ : ∃ z : S2x1024x256.Idx, (z 0).val = (y 0).val - 7 ∧ (z 1).val = (y 1).val ∧ (z 2).val = (y 2).val :=
      ⟨fun a => match a with
        | ⟨0, _⟩ => ⟨(y 0).val - 7, by show _ < 2; omega⟩ | ⟨1, _⟩ => y 1 | ⟨2, _⟩ => y 2, rfl, rfl, rfl⟩
    refine (tileVal_through D _ _ (iblk mem c 5 t) y z (by omega) z1.symm z2.symm).trans ?_
    have f0 : ((win0_5.blk t).view.emb z 0).val = (z 0).val := by blk_simp [ix5]
    have f1 : ((win0_5.blk t).view.emb z 1).val = 1024 * (7 - t.val % 8) + (z 1).val := by blk_simp [ix5]; rw [Nat.mul_comm 1024]
    have f2 : ((win0_5.blk t).view.emb z 2).val = 256 * (t.val / 8) + (z 2).val := by blk_simp [ix5]; rw [Nat.mul_comm 256]
    show V mem c main_arg5 ((win0_5.blk t).view.emb z) = _
    rw [V_main_arg5]
    exact (dpOut_through _ _ _ (by omega) (by omega) (by omega)).symm

end Mixer

end
-- ==== Proof.Dots.lean ====
/- Arrays of extended reals as functions of an index's coordinates, and the products of two such arrays. Nothing here asks
   for finite entries: a product is a sum of products, and the sums are only split and reordered. -/
module

public import proofs.«01_k».proof.Proof.Lift

@[expose] public section

set_option maxRecDepth 16384

noncomputable section

namespace Mixer

open Idealize.ShloMosaic Idealize.SL.Sem

/-- The offsets of a load or store of a whole array. -/
theorem hz2 : (![0, 0] : Fin 2 → ℕ) = fun _ => 0 := funext fun a => match a with | ⟨0, _⟩ => rfl | ⟨1, _⟩ => rfl
theorem hz3 : (![0, 0, 0] : Fin 3 → ℕ) = fun _ => 0 :=
  funext fun a => match a with | ⟨0, _⟩ => rfl | ⟨1, _⟩ => rfl | ⟨2, _⟩ => rfl

/-- The coordinates tell the index. -/
theorem i2_inj {a b : ℕ} : Function.Injective (i2 (a := a) (b := b)) := fun x y h => funext fun k => match k with
  | ⟨0, _⟩ => Fin.ext (congrArg Prod.fst h)
  | ⟨1, _⟩ => Fin.ext (congrArg Prod.snd h)
theorem i3_inj {a b c : ℕ} : Function.Injective (i3 (a := a) (b := b) (c := c)) := fun x y h => funext fun k => match k with
  | ⟨0, _⟩ => Fin.ext (congrArg Prod.fst h)
  | ⟨1, _⟩ => Fin.ext (congrArg (fun k => k.2.1) h)
  | ⟨2, _⟩ => Fin.ext (congrArg (fun k => k.2.2) h)

/-- The array that holds `f` of the index's coordinates. -/
def ex {s : Shape} {φ : FTy} {κ : Type} (co : s.Idx → κ) (f : κ → EReal) : FVec Ideal s φ := fun y => f (co y)

/-- Every array is one. -/
theorem ex_of {s : Shape} {φ : FTy} {κ : Type} {co : s.Idx → κ} (hco : Function.Injective co) (x : FVec Ideal s φ) :
    ∃ f : κ → EReal, x = ex co f :=
  ⟨Function.extend co x 0, funext fun y => (hco.extend_apply x 0 y).symm⟩

section
variable {sl sr so : Shape} {κl κr κo : Type} {φ₁ φ₂ : FTy} (d : DotDims sl sr so)

/-- The host's product contracted over axes whose indices `e` lists. -/
theorem hostDot_ex {ι : Type} [Fintype ι] (e : ι ≃ d.contr.Idx) (cl : sl.Idx → κl) (cr : sr.Idx → κr) (co : so.Idx → κo)
    (L : κo → ι → κl) (R : κo → ι → κr)
    (hl : ∀ y q, cl (d.lhsIdx y (e q)) = L (co y) q) (hR : ∀ y q, cr (d.rhsIdx y (e q)) = R (co y) q)
    (prec : Option ContractPrecision) (f : κl → EReal) (g : κr → EReal) :
    Host.dotGeneral d prec (ex (φ := φ₁) cl f) (ex (φ := φ₂) cr g) = ex co fun k => ∑ q : ι, f (L k q) * g (R k q) := by
  funext y
  show FloatOps.dotGeneral d prec _ _ _ y = _
  rw [Ideal.dotGeneral_apply, ← Equiv.sum_comp e]
  refine Finset.sum_congr rfl fun q _ => ?_
  show f (cl _) * g (cr _) = _
  rw [hl, hR]

/-- The same over one axis of size `K`. -/
theorem hostDot1_ex (hr : d.contr.rank = 1) {K : ℕ} (hs : d.contr.size ⟨0, by rw [hr]; exact Nat.one_pos⟩ = K)
    (cl : sl.Idx → κl) (cr : sr.Idx → κr) (co : so.Idx → κo) (L : κo → ℕ → κl) (R : κo → ℕ → κr)
    (hl : ∀ y q, cl (d.lhsIdx y q) = L (co y) (q ⟨0, by rw [hr]; exact Nat.one_pos⟩).val)
    (hR : ∀ y q, cr (d.rhsIdx y q) = R (co y) (q ⟨0, by rw [hr]; exact Nat.one_pos⟩).val)
    (prec : Option ContractPrecision) (f : κl → EReal) (g : κr → EReal) :
    Host.dotGeneral d prec (ex (φ := φ₁) cl f) (ex (φ := φ₂) cr g) = ex co fun k => ∑ q : Fin K, f (L k q.val) * g (R k q.val) :=
  hostDot_ex d (ValueIdx.contrEquiv1 d K hr hs).symm cl cr co (fun k q => L k q.val) (fun k q => R k q.val)
    (fun y q => (hl y _).trans (congrArg (L (co y)) (ValueIdx.contrEquiv1_symm_val d K hr hs q)))
    (fun y q => (hR y _).trans (congrArg (R (co y)) (ValueIdx.contrEquiv1_symm_val d K hr hs q))) prec f g

/-- The kernel's product onto zeros, over one axis of size `K`. -/
theorem matmul_ex (hr : d.contr.rank = 1) {K : ℕ} (hs : d.contr.size ⟨0, by rw [hr]; exact Nat.one_pos⟩ = K)
    (cl : sl.Idx → κl) (cr : sr.Idx → κr) (co : so.Idx → κo) (L : κo → ℕ → κl) (R : κo → ℕ → κr)
    (hl : ∀ y q, cl (d.lhsIdx y q) = L (co y) (q ⟨0, by rw [hr]; exact Nat.one_pos⟩).val)
    (hR : ∀ y q, cr (d.rhsIdx y q) = R (co y) (q ⟨0, by rw [hr]; exact Nat.one_pos⟩).val)
    (prec : Option ContractPrecision) (f : κl → EReal) (g : κr → EReal) :
    matmul d prec (ex (φ := φ₁) cl f) (ex (φ := φ₂) cr g) (constant so .f32 0x00000000#32)
      = ex co fun k => ∑ q : Fin K, f (L k q.val) * g (R k q.val) :=
  (matmul_zero_eq_dotGeneral d prec _ _ ).trans (hostDot1_ex d hr hs cl cr co L R hl hR prec f g)
end

section pointwise
variable {s : Shape} {φ : FTy} {κ : Type} (co : s.Idx → κ) (f g : κ → EReal)
theorem addf_ex : addf (ex (φ := φ) co f) (ex co g) = ex co fun k => f k + g k := rfl
theorem mulf_ex : mulf (ex (φ := φ) co f) (ex co g) = ex co fun k => f k * g k := rfl
theorem truncf_ex (ψ : FTy) (h : ψ.bits < φ.bits) : truncf ψ (ex (φ := φ) co f) h = ex co f := rfl
end pointwise

/-- A sum over `a * b` terms, one stretch of `b` after the other. -/
theorem sum_two (f : ℕ → EReal) (b n : ℕ) (hn : b + b = n) :
    ∑ t : Fin n, f t.val = ∑ k : Fin b, f k.val + ∑ k : Fin b, f (b + k.val) := by
  subst hn
  exact Fin.sum_univ_add fun t => f t.val

end Mixer

end
-- ==== Proof.GradWIn.lean ====
/- The gradient of the input weights: what the kernel's two steps per block leave, and that this is the reference's sum over
   all tokens. -/
module

public import proofs.«01_k».proof.Proof.Dots
public import proofs.«01_k».proof.Proof.Gen.Kernel2Ideal.Value
public import Idealize.ShloMosaic.Lib.Pipeline.ValueKit.Point

@[expose] public section

set_option maxRecDepth 16384

noncomputable section

namespace GradWIn

open Idealize.ShloMosaic Idealize.ShloMosaic.TcCoe Idealize.SL.Sem Cert.Kernel2Ideal Cert.Kernel2Ideal.Gen Mixer

section
variable (c : Dev nD) (i : grid0.Coords)
  (a3 : Memref sig .tc .vmem S4096x1024 .bf16) (h3 : a3.IsWhole) (a4 : Memref sig .tc .vmem S1x4096x1024 .bf16) (h4 : a4.IsWhole)
  (a5 : Memref sig .tc .vmem S1024x1024 .bf16) (h5 : a5.IsWhole) (a6 : Memref sig .tc .vmem S1024x1024 .f32) (h6 : a6.IsWhole)
  (x : Vec Ideal S4096x1024 .bf16) (p : Vec Ideal S1x4096x1024 .bf16) (s : Vec Ideal S1024x1024 .f32)

/-- The first step of a block leaves its product in the carried array. -/
theorem first (hc0 : cond0_0 i) (hc1 : ¬cond0_1 i) :
    sout0_A_0 (F := Ideal) c i a3 h3 a4 h4 a5 h5 a6 h6 hc0 hc1 x p = k0_pay2 k0_pay1 x p := by
  unfold sout0_A_0
  rw [View.read_writes_eq_canon _ _ _ (scover0_A_0 c i a3 h3 a4 h4 a5 h5 a6 h6 hc0 hc1 x p)]
  unfold kernelRun0_A; dsimp only; sl_unfold_words
  rw [View.canon_cons_unit_zero (S := S1024x1024) hz2, View.readCov_unit_zero (S := S1024x1024) _ hz2]
  simp only [View.readAt_eq_ld, h3.read_unread, h4.read_unread, View.ld_unit_zero (S := S4096x1024) hz2,
    View.ld_unit_zero (S := S1x4096x1024) hz3]

/-- The last step of a block adds its product to the carried array and writes the sum out. -/
theorem last (hc0 : ¬cond0_0 i) (hc1 : cond0_1 i) :
    out0_B_2 (F := Ideal) c i a3 h3 a4 h4 a5 h5 a6 h6 hc0 hc1 x p s = k0_pay3 (k0_pay2 s x p) := by
  unfold out0_B_2
  rw [View.read_writes_eq_canon _ _ _ (cover0_B_2 c i a3 h3 a4 h4 a5 h5 a6 h6 hc0 hc1 x p s)]
  unfold kernelRun0_B; dsimp only; sl_unfold_words
  rw [View.canon_unit_zero (S := S1024x1024) hz2, View.readCov_unit_zero (S := S1024x1024) _ hz2]
  simp only [View.readAt_eq_ld, h3.read_unread, h4.read_unread, h6.read_unread, View.ld_unit_zero (S := S4096x1024) hz2,
    View.ld_unit_zero (S := S1x4096x1024) hz3, View.ld_unit_zero (S := S1024x1024) hz2]
end

/-- A block's product, added to `s`. -/
theorem pay2_ex (s : ℕ × ℕ → EReal) (x : ℕ × ℕ → EReal) (p : ℕ × ℕ × ℕ → EReal) :
    k0_pay2 (F := Ideal) (ex (φ := .f32) i2 s) (ex (φ := .bf16) i2 x) (ex (φ := .bf16) i3 p)
      = ex i2 fun y => s y + ∑ k : Fin 4096, x (k.val, y.1) * p (0, k.val, y.2) := by
  have hp : shapeCast S4096x1024 (ex (φ := .bf16) i3 p) shapeCasts_S1x4096x1024_S4096x1024
      = (ex i2 fun y => p (0, y.1, y.2) : FVec Ideal S4096x1024 .bf16) := funext fun y =>
    shapeCast_apply _ shapeCasts_S1x4096x1024_S4096x1024 y (fun a => match a with
      | ⟨0, _⟩ => ⟨0, Nat.one_pos⟩ | ⟨1, _⟩ => y 0 | ⟨2, _⟩ => y 1) (by
      rw [Shape.rowMajor_val_two, Shape.rowMajor_val_three]
      show (0 * 4096 + (y 0).val) * 1024 + (y 1).val = (y 0).val * 1024 + (y 1).val
      omega)
  unfold k0_pay2
  dsimp only
  rw [hp, shapeCast_self, matmul_ex _ rfl rfl i2 i2 i2 (fun y q => (q, y.1)) (fun y q => (q, y.2)) (fun _ _ => rfl)
    (fun _ _ => rfl)]
  rfl

theorem pay1_ex : k0_pay1 (F := Ideal) = ex i2 fun _ => 0 := by
  unfold k0_pay1
  dsimp only
  rw [shapeCast_self]
  funext y
  exact Ideal.ofBits_zero_f32

/-! The blocks a step reads. -/
theorem ix0 : ∀ t : Fin cfg0.N, win0_0.index t = ![t.val % 2, t.val / 36] := (by decide +kernel : ∀ t : Fin grid0.N, _)
theorem ix1 : ∀ t : Fin cfg0.N, win0_1.index t = ![t.val / 2 % 18 / 2, t.val % 2, t.val / 2 % 18 % 2] :=
  (by decide +kernel : ∀ t : Fin grid0.N, _)

variable {mem : (ℓ : Loc nD τ Cert.Kernel2Ideal.sig) → Buf (Elt Ideal) ℓ} {c : Dev nD}
variable {X : ℕ × ℕ → EReal} {P : ℕ × ℕ × ℕ → EReal}

set_option maxHeartbeats 2000000 in
/-- What an even step leaves in the carried array. -/
theorem step_first (t : Fin cfg0.N) (h : t.val % 2 = 0) :
    (outsAt0 mem c t.val t.isLt).2 = k0_pay2 k0_pay1 (iblk mem c 0 t) (iblk mem c 1 t) := by
  have h1 : ¬t.val % 2 = 1 := by omega
  rw [outsAt0_A mem c t h h1]
  exact (first c (grid0.coords t) (ms0_0 t) (hs0_0 t) (ms0_1 t) (hs0_1 t) (ms0_2 t) (hs0_2 t) scM0_0 (Memref.isWhole_whole _)
      (iblk mem c 0 t) (iblk mem c 1 t) ((hcond0_0 t).mpr h) (fun h => h1 ((hcond0_1 t).mp h)))
set_option maxHeartbeats 2000000 in
/-- What an odd step writes out. -/
theorem step_last (t : Fin cfg0.N) (h : t.val % 2 = 1) : (outsAt0 mem c t.val t.isLt).1
    = k0_pay3 (k0_pay2 (outsAt0 mem c (t.val - 1) (Nat.lt_of_le_of_lt (Nat.sub_le _ _) t.isLt)).2 (iblk mem c 0 t) (iblk mem c 1 t)) := by
  have h0 : ¬t.val % 2 = 0 := by omega
  rw [outsAt0_B mem c t h0 h]
  exact (last c (grid0.coords t) (ms0_0 t) (hs0_0 t) (ms0_1 t) (hs0_1 t) (ms0_2 t) (hs0_2 t) scM0_0 (Memref.isWhole_whole _)
      (iblk mem c 0 t) (iblk mem c 1 t) _ (fun h => h0 ((hcond0_0 t).mp h)) ((hcond0_1 t).mpr h))

section
variable (hX : mem ((c : Thread nD τ).loc main_arg0) = (ex i2 X : FVec Ideal S8192x2048 .bf16))
  (hP : mem ((c : Thread nD τ).loc main_arg1) = (ex i3 P : FVec Ideal S9x8192x2048 .bf16))
include hX in
theorem blk0 (t : Fin cfg0.N) :
    iblk mem c 0 t = (ex i2 fun y => X (4096 * (t.val % 2) + y.1, 1024 * (t.val / 36) + y.2) : FVec Ideal S4096x1024 .bf16) := by
  funext y
  show V mem c main_arg0 ((win0_0.blk t).view.emb y) = _
  rw [V_main_arg0, hX]
  show X (((win0_0.blk t).view.emb y 0).val, ((win0_0.blk t).view.emb y 1).val) = X (4096 * (t.val % 2) + (y 0).val, 1024 * (t.val / 36) + (y 1).val)
  blk_simp [ix0]
  rw [Nat.mul_comm 4096, Nat.mul_comm 1024]
include hP in
theorem blk1 (t : Fin cfg0.N) :
    iblk mem c 1 t = (ex i3 fun y => P (t.val / 2 % 18 / 2 + y.1, 4096 * (t.val % 2) + y.2.1, 1024 * (t.val / 2 % 18 % 2) + y.2.2) :
      FVec Ideal S1x4096x1024 .bf16) := by
  funext y
  show V mem c main_arg1 ((win0_1.blk t).view.emb y) = _
  rw [V_main_arg1, hP]
  show P (((win0_1.blk t).view.emb y 0).val, ((win0_1.blk t).view.emb y 1).val, ((win0_1.blk t).view.emb y 2).val)
    = P (t.val / 2 % 18 / 2 + (y 0).val, 4096 * (t.val % 2) + (y 1).val, 1024 * (t.val / 2 % 18 % 2) + (y 2).val)
  blk_simp [ix1]
  rw [Nat.mul_comm 4096, Nat.mul_comm 1024]

include hX hP
/-- What the two steps of block `q` leave. -/
theorem out_at (q : ℕ) (hn : 2 * q + 1 < cfg0.N) : (outsAt0 mem c (2 * q + 1) hn).1
    = (ex i2 fun y => ∑ k : Fin 8192, X (k.val, 1024 * (q / 18) + y.1) * P (q % 18 / 2, k.val, 1024 * (q % 18 % 2) + y.2) :
      FVec Ideal S1024x1024 .bf16) := by
  have hm : 2 * q < cfg0.N := by omega
  have a : (outsAt0 mem c (2 * q) hm).2 = _ := (step_first ⟨2 * q, hm⟩ (show 2 * q % 2 = 0 by omega)).trans
    (congrArg₂ (k0_pay2 k0_pay1) (blk0 hX _) (blk1 hP _))
  have b : (outsAt0 mem c (2 * q + 1) hn).1 = _ := (step_last ⟨2 * q + 1, hn⟩ (show (2 * q + 1) % 2 = 1 by omega)).trans
    (congrArg k0_pay3 ((congrArg₂ (k0_pay2 _) (blk0 hX _) (blk1 hP _)).trans (congrArg (fun s => k0_pay2 s _ _) a)))
  rw [b, pay1_ex, pay2_ex, pay2_ex]
  funext y
  have a0 : 2 * q % 2 = 0 := by omega
  have a1 : (2 * q + 1) % 2 = 1 := by omega
  have a2 : 2 * q / 36 = q / 18 := by omega
  have a3 : (2 * q + 1) / 36 = q / 18 := by omega
  have a4 : 2 * q / 2 = q := by omega
  have a5 : (2 * q + 1) / 2 = q := by omega
  show (0 + ∑ k : Fin 4096, X (4096 * (2 * q % 2) + k.val, 1024 * (2 * q / 36) + (y 0).val)
      * P (2 * q / 2 % 18 / 2 + 0, 4096 * (2 * q % 2) + k.val, 1024 * (2 * q / 2 % 18 % 2) + (y 1).val))
    + ∑ k : Fin 4096, X (4096 * ((2 * q + 1) % 2) + k.val, 1024 * ((2 * q + 1) / 36) + (y 0).val)
      * P ((2 * q + 1) / 2 % 18 / 2 + 0, 4096 * ((2 * q + 1) % 2) + k.val, 1024 * ((2 * q + 1) / 2 % 18 % 2) + (y 1).val)
    = ∑ k : Fin 8192, X (k.val, 1024 * (q / 18) + (y 0).val) * P (q % 18 / 2, k.val, 1024 * (q % 18 % 2) + (y 1).val)
  rw [sum_two (fun t => X (t, 1024 * (q / 18) + (y 0).val) * P (q % 18 / 2, t, 1024 * (q % 18 % 2) + (y 1).val)) 4096 8192 rfl]
  simp only [a0, a1, a2, a3, a4, a5, zero_add, add_zero, mul_zero, mul_one]

/-- What the kernel leaves: the sum over all tokens, the gradient's column counted through the nine planes. -/
theorem kernel_eq : Value.G2 mem c
    = (ex i2 fun y => ∑ k : Fin 8192, X (k.val, y.1) * P (y.2 / 2048, k.val, y.2 % 2048) : FVec Ideal S2048x18432 .bf16) := by
  funext i
  have h0 : (i 0).val < 2048 := (i 0).isLt
  have h1 : (i 1).val < 18432 := (i 1).isLt
  have hpt : Value.pt2Of i = 2 * (18 * ((i 0).val / 1024) + (i 1).val / 1024) + 1 := by
    show 2 * (18 * ((i 0).val / 1024 - 0) + 1 * ((i 1).val / 1024 - 0)) + 1 = _
    omega
  have hq : 2 * (18 * ((i 0).val / 1024) + (i 1).val / 1024) + 1 < cfg0.N := lt_of_lt_of_eq (by omega) N_0.symm
  unfold Value.G2
  have key : ∀ (n : ℕ) (hn : n < cfg0.N) (q : ℕ), n = 2 * q + 1 → (outsAt0 mem c n hn).1
      = (ex i2 fun y => ∑ k : Fin 8192, X (k.val, 1024 * (q / 18) + y.1) * P (q % 18 / 2, k.val, 1024 * (q % 18 % 2) + y.2) :
        FVec Ideal S1024x1024 .bf16) :=
    fun n hn q e => by subst e; exact out_at hX hP q hn
  rw [dif_pos (lt_of_eq_of_lt hpt hq), ← Value.outsAt0_sweep mem c _ (lt_of_eq_of_lt hpt hq), key _ _ _ hpt]
  have e0 : 1024 * ((18 * ((i 0).val / 1024) + (i 1).val / 1024) / 18) + (i 0).val % 1024 = (i 0).val := by omega
  have e1 : (18 * ((i 0).val / 1024) + (i 1).val / 1024) % 18 / 2 = (i 1).val / 2048 := by omega
  have e2 : 1024 * ((18 * ((i 0).val / 1024) + (i 1).val / 1024) % 18 % 2) + (i 1).val % 1024 = (i 1).val % 2048 := by omega
  show ∑ k : Fin 8192, X (k.val, 1024 * ((18 * ((i 0).val / 1024) + (i 1).val / 1024) / 18) + (i 0).val % 1024)
      * P ((18 * ((i 0).val / 1024) + (i 1).val / 1024) % 18 / 2, k.val,
        1024 * ((18 * ((i 0).val / 1024) + (i 1).val / 1024) % 18 % 2) + (i 1).val % 1024)
    = ∑ k : Fin 8192, X (k.val, (i 0).val) * P ((i 1).val / 2048, k.val, (i 1).val % 2048)
  rw [e0, e1, e2]
end

end GradWIn

end
-- ==== Proof.GradWInRef.lean ====
/- The gradient of the input weights in the reference: the product, over all tokens, of the input with the nine planes laid
   side by side. -/
module

public import proofs.«01_k».proof.Proof.Dots
public import proofs.«01_k».proof.Proof.Gen.Reference2Ideal.Read

@[expose] public section

set_option maxRecDepth 16384

noncomputable section

namespace GradWIn

open Idealize.ShloMosaic Idealize.SL.Sem Cert.Reference2Ideal Cert.Reference2Ideal.Gen Cert.Reference2Ideal.Read Mixer

/-- The tokens, as the indices of the axes that the product contracts. -/
def tok : Fin 8192 ≃ dot_S1x8192x18432_S1x8192x2048_S18432x2048_01_01_2_2_n_n.contr.Idx where
  toFun k := fun a : Fin 2 => match a with | ⟨0, _⟩ => (⟨0, Nat.one_pos⟩ : Fin 1) | ⟨1, _⟩ => (k : Fin 8192)
  invFun q := (q (1 : Fin 2) : Fin 8192)
  left_inv _ := rfl
  right_inv q := funext fun a : Fin 2 => match a with
    | ⟨0, _⟩ => Fin.ext (by have h : (q (0 : Fin 2)).val < 1 := (q (0 : Fin 2)).isLt; exact (Nat.lt_one_iff.mp h).symm)
    | ⟨1, _⟩ => rfl

variable (X : ℕ × ℕ → EReal) (P : ℕ × ℕ × ℕ → EReal)

/-- Plane `k` of the nine. -/
abbrev plane (k : ℕ) : FVec Ideal S1x8192x2048 .f32 := ex i3 fun y => P (k + y.1, 0 + y.2.1, 0 + y.2.2)

/-- The index, in its plane, of an index of the planes side by side. -/
def at2 (y : S1x8192x18432.Idx) : S1x8192x2048.Idx := fun a => match a with
  | ⟨0, _⟩ => ⟨0, Nat.one_pos⟩
  | ⟨1, _⟩ => y 1
  | ⟨2, _⟩ => ⟨(y 2).val % 2048, Nat.mod_lt _ (by decide)⟩

/-- The nine planes side by side. -/
theorem side : val_main_v31 (F := Ideal) (ex (φ := .bf16) i3 P)
    = (ex i3 fun y => P (y.2.2 / 2048, y.2.1, y.2.2 % 2048) : FVec Ideal S1x8192x18432 .f32) := by
  funext y
  have h2 : (y 2).val < 18432 := (y 2).isLt
  show concatenate (α := Ideal .f32) S1x8192x18432 2 [⟨S1x8192x2048, plane P 0⟩, ⟨S1x8192x2048, plane P 1⟩,
    ⟨S1x8192x2048, plane P 2⟩, ⟨S1x8192x2048, plane P 3⟩, ⟨S1x8192x2048, plane P 4⟩, ⟨S1x8192x2048, plane P 5⟩,
    ⟨S1x8192x2048, plane P 6⟩, ⟨S1x8192x2048, plane P 7⟩, ⟨S1x8192x2048, plane P 8⟩]
    concatenates_S1x8192x2048_S1x8192x2048_S1x8192x2048_S1x8192x2048_S1x8192x2048_S1x8192x2048_S1x8192x2048_S1x8192x2048_S1x8192x2048_S1x8192x18432_d2 y
    = P ((y 2).val / 2048, (y 1).val, (y 2).val % 2048)
  have go : ∀ (k : ℕ) (hk : k < 9) (hy : (y 2).val / 2048 = k), concatenate (α := Ideal .f32) S1x8192x18432 2
      [⟨S1x8192x2048, plane P 0⟩, ⟨S1x8192x2048, plane P 1⟩,
        ⟨S1x8192x2048, plane P 2⟩, ⟨S1x8192x2048, plane P 3⟩, ⟨S1x8192x2048, plane P 4⟩, ⟨S1x8192x2048, plane P 5⟩,
        ⟨S1x8192x2048, plane P 6⟩, ⟨S1x8192x2048, plane P 7⟩, ⟨S1x8192x2048, plane P 8⟩]
      concatenates_S1x8192x2048_S1x8192x2048_S1x8192x2048_S1x8192x2048_S1x8192x2048_S1x8192x2048_S1x8192x2048_S1x8192x2048_S1x8192x2048_S1x8192x18432_d2 y
      = plane P k (at2 y) := by
    intro k hk hy
    refine concatenate_apply_piece (t := S1x8192x18432) 2 _ _ y k (by show k < 9; omega) S1x8192x2048 (plane P k) ?_ rfl (2048 * k) ?_ (at2 y)
      (fun b hb => match b, hb with
        | ⟨0, _⟩, _ => (Nat.lt_one_iff.mp (y 0).isLt).symm | ⟨1, _⟩, _ => rfl | ⟨2, _⟩, hb => absurd rfl hb)
      (by show 2048 * k + (y 2).val % 2048 = (y 2).val; omega)
    · interval_cases k <;> rfl
    · interval_cases k <;> simp [S1x8192x18432, S1x8192x2048]
  rw [go ((y 2).val / 2048) (by omega) rfl]
  show P ((y 2).val / 2048 + 0, 0 + (y 1).val, 0 + (y 2).val % 2048) = _
  rw [add_zero, zero_add, zero_add]

/-- The reference's gradient: the sum over all tokens. -/
theorem reference_eq : val_main_v34 (F := Ideal) (ex (φ := .bf16) i2 X) (ex (φ := .bf16) i3 P)
    = (ex i2 fun y => ∑ k : Fin 8192, X (k.val, y.1) * P (y.2 / 2048, k.val, y.2 % 2048) : FVec Ideal S2048x18432 .bf16) := by
  have hx : val_main_v2 (F := Ideal) (ex (φ := .bf16) i2 X) = (ex i3 fun y => X (y.2.1, y.2.2) : FVec Ideal S1x8192x2048 .f32) :=
    funext fun y => val_main_v2_apply (F := Ideal) (ex (φ := .bf16) i2 X) y
  have h32 : val_main_v32 (F := Ideal) (ex (φ := .bf16) i2 X) (ex (φ := .bf16) i3 P)
      = (ex i2 fun y => ∑ k : Fin 8192, P (y.1 / 2048, k.val, y.1 % 2048) * X (k.val, y.2) : FVec Ideal S18432x2048 .f32) := by
    rw [val_main_v32, side, hx]
    exact hostDot_ex _ tok i3 i3 i2 (fun y k => (0, k.val, y.1)) (fun y k => (0, k.val, y.2)) (fun _ _ => rfl) (fun _ _ => rfl) none _ _
  funext y
  refine (val_main_v33_apply (F := Ideal) (ex (φ := .bf16) i2 X) (ex (φ := .bf16) i3 P) y).trans ?_
  rw [h32]
  exact Finset.sum_congr rfl fun k _ => mul_comm _ _

end GradWIn

end
-- ==== Proof.GradWOa.lean ====
/- The gradient of an output weight: what the kernel's two steps per block leave, and that this is the reference's sum over
   all tokens. -/
module

public import proofs.«01_k».proof.Proof.Dots
public import proofs.«01_k».proof.Proof.Gen.Kernel3Ideal.Value
public import Idealize.ShloMosaic.Lib.Pipeline.ValueKit.Point

@[expose] public section

set_option maxRecDepth 16384

noncomputable section

namespace GradWOa

open Idealize.ShloMosaic Idealize.ShloMosaic.TcCoe Idealize.SL.Sem Cert.Kernel3Ideal Cert.Kernel3Ideal.Gen Mixer

section
variable (c : Dev nD) (i : grid0.Coords)
  (a3 : Memref sig .tc .vmem S4096x1024 .bf16) (h3 : a3.IsWhole) (a4 : Memref sig .tc .vmem S4096x1024 .bf16) (h4 : a4.IsWhole)
  (a5 : Memref sig .tc .vmem S1024x1024 .bf16) (h5 : a5.IsWhole) (a6 : Memref sig .tc .vmem S1024x1024 .f32) (h6 : a6.IsWhole)
  (x : Vec Ideal S4096x1024 .bf16) (p : Vec Ideal S4096x1024 .bf16) (s : Vec Ideal S1024x1024 .f32)

/-- The first step of a block leaves its product in the carried array. -/
theorem first (hc0 : cond0_0 i) (hc1 : ¬cond0_1 i) :
    sout0_A_0 (F := Ideal) c i a3 h3 a4 h4 a5 h5 a6 h6 hc0 hc1 x p = k0_pay2 k0_pay1 x p := by
  unfold sout0_A_0
  rw [View.read_writes_eq_canon _ _ _ (scover0_A_0 c i a3 h3 a4 h4 a5 h5 a6 h6 hc0 hc1 x p)]
  unfold kernelRun0_A; dsimp only; sl_unfold_words
  rw [View.canon_cons_unit_zero (S := S1024x1024) hz2, View.readCov_unit_zero (S := S1024x1024) _ hz2]
  simp only [View.readAt_eq_ld, h3.read_unread, h4.read_unread, View.ld_unit_zero (S := S4096x1024) hz2]

/-- The last step of a block adds its product to the carried array and writes the sum out. -/
theorem last (hc0 : ¬cond0_0 i) (hc1 : cond0_1 i) :
    out0_B_2 (F := Ideal) c i a3 h3 a4 h4 a5 h5 a6 h6 hc0 hc1 x p s = k0_pay3 (k0_pay2 s x p) := by
  unfold out0_B_2
  rw [View.read_writes_eq_canon _ _ _ (cover0_B_2 c i a3 h3 a4 h4 a5 h5 a6 h6 hc0 hc1 x p s)]
  unfold kernelRun0_B; dsimp only; sl_unfold_words
  rw [View.canon_unit_zero (S := S1024x1024) hz2, View.readCov_unit_zero (S := S1024x1024) _ hz2]
  simp only [View.readAt_eq_ld, h3.read_unread, h4.read_unread, h6.read_unread, View.ld_unit_zero (S := S4096x1024) hz2,
    View.ld_unit_zero (S := S1024x1024) hz2]
end

/-- A block's product, added to `s`. -/
theorem pay2_ex (s x p : ℕ × ℕ → EReal) :
    k0_pay2 (F := Ideal) (ex (φ := .f32) i2 s) (ex (φ := .bf16) i2 x) (ex (φ := .bf16) i2 p)
      = ex i2 fun y => s y + ∑ k : Fin 4096, x (k.val, y.1) * p (k.val, y.2) := by
  unfold k0_pay2
  dsimp only
  rw [shapeCast_self, matmul_ex _ rfl rfl i2 i2 i2 (fun y q => (q, y.1)) (fun y q => (q, y.2)) (fun _ _ => rfl)
    (fun _ _ => rfl)]
  rfl

theorem pay1_ex : k0_pay1 (F := Ideal) = ex i2 fun _ => 0 := by
  unfold k0_pay1
  dsimp only
  rw [shapeCast_self]
  funext y
  exact Ideal.ofBits_zero_f32

/-! The blocks a step reads. -/
theorem ix0 : ∀ t : Fin cfg0.N, win0_0.index t = ![t.val % 2, t.val / 4] := (by decide +kernel : ∀ t : Fin grid0.N, _)
theorem ix1 : ∀ t : Fin cfg0.N, win0_1.index t = ![t.val % 2, t.val / 2 % 2] :=
  (by decide +kernel : ∀ t : Fin grid0.N, _)

variable {mem : (ℓ : Loc nD τ Cert.Kernel3Ideal.sig) → Buf (Elt Ideal) ℓ} {c : Dev nD}
variable {X : ℕ × ℕ → EReal} {P : ℕ × ℕ → EReal}

set_option maxHeartbeats 2000000 in
/-- What an even step leaves in the carried array. -/
theorem step_first (t : Fin cfg0.N) (h : t.val % 2 = 0) :
    (outsAt0 mem c t.val t.isLt).2 = k0_pay2 k0_pay1 (iblk mem c 0 t) (iblk mem c 1 t) := by
  have h1 : ¬t.val % 2 = 1 := by omega
  rw [outsAt0_A mem c t h h1]
  exact (first c (grid0.coords t) (ms0_0 t) (hs0_0 t) (ms0_1 t) (hs0_1 t) (ms0_2 t) (hs0_2 t) scM0_0 (Memref.isWhole_whole _)
      (iblk mem c 0 t) (iblk mem c 1 t) ((hcond0_0 t).mpr h) (fun h => h1 ((hcond0_1 t).mp h)))
set_option maxHeartbeats 2000000 in
/-- What an odd step writes out. -/
theorem step_last (t : Fin cfg0.N) (h : t.val % 2 = 1) : (outsAt0 mem c t.val t.isLt).1
    = k0_pay3 (k0_pay2 (outsAt0 mem c (t.val - 1) (Nat.lt_of_le_of_lt (Nat.sub_le _ _) t.isLt)).2 (iblk mem c 0 t) (iblk mem c 1 t)) := by
  have h0 : ¬t.val % 2 = 0 := by omega
  rw [outsAt0_B mem c t h0 h]
  exact (last c (grid0.coords t) (ms0_0 t) (hs0_0 t) (ms0_1 t) (hs0_1 t) (ms0_2 t) (hs0_2 t) scM0_0 (Memref.isWhole_whole _)
      (iblk mem c 0 t) (iblk mem c 1 t) _ (fun h => h0 ((hcond0_0 t).mp h)) ((hcond0_1 t).mpr h))

section
variable (hX : mem ((c : Thread nD τ).loc main_arg0) = (ex i2 X : FVec Ideal S8192x2048 .bf16))
  (hP : mem ((c : Thread nD τ).loc main_arg1) = (ex i2 P : FVec Ideal S8192x2048 .bf16))
include hX in
theorem blk0 (t : Fin cfg0.N) :
    iblk mem c 0 t = (ex i2 fun y => X (4096 * (t.val % 2) + y.1, 1024 * (t.val / 4) + y.2) : FVec Ideal S4096x1024 .bf16) := by
  funext y
  show V mem c main_arg0 ((win0_0.blk t).view.emb y) = _
  rw [V_main_arg0, hX]
  show X (((win0_0.blk t).view.emb y 0).val, ((win0_0.blk t).view.emb y 1).val) = X (4096 * (t.val % 2) + (y 0).val, 1024 * (t.val / 4) + (y 1).val)
  blk_simp [ix0]
  rw [Nat.mul_comm 4096, Nat.mul_comm 1024]
include hP in
theorem blk1 (t : Fin cfg0.N) :
    iblk mem c 1 t = (ex i2 fun y => P (4096 * (t.val % 2) + y.1, 1024 * (t.val / 2 % 2) + y.2) : FVec Ideal S4096x1024 .bf16) := by
  funext y
  show V mem c main_arg1 ((win0_1.blk t).view.emb y) = _
  rw [V_main_arg1, hP]
  show P (((win0_1.blk t).view.emb y 0).val, ((win0_1.blk t).view.emb y 1).val)
    = P (4096 * (t.val % 2) + (y 0).val, 1024 * (t.val / 2 % 2) + (y 1).val)
  blk_simp [ix1]
  rw [Nat.mul_comm 4096, Nat.mul_comm 1024]

include hX hP
/-- What the two steps of block `q` leave. -/
theorem out_at (q : ℕ) (hn : 2 * q + 1 < cfg0.N) : (outsAt0 mem c (2 * q + 1) hn).1
    = (ex i2 fun y => ∑ k : Fin 8192, X (k.val, 1024 * (q / 2) + y.1) * P (k.val, 1024 * (q % 2) + y.2) :
      FVec Ideal S1024x1024 .bf16) := by
  have hm : 2 * q < cfg0.N := by omega
  have a : (outsAt0 mem c (2 * q) hm).2 = _ := (step_first ⟨2 * q, hm⟩ (show 2 * q % 2 = 0 by omega)).trans
    (congrArg₂ (k0_pay2 k0_pay1) (blk0 hX _) (blk1 hP _))
  have b : (outsAt0 mem c (2 * q + 1) hn).1 = _ := (step_last ⟨2 * q + 1, hn⟩ (show (2 * q + 1) % 2 = 1 by omega)).trans
    (congrArg k0_pay3 ((congrArg₂ (k0_pay2 _) (blk0 hX _) (blk1 hP _)).trans (congrArg (fun s => k0_pay2 s _ _) a)))
  rw [b, pay1_ex, pay2_ex, pay2_ex]
  funext y
  have a0 : 2 * q % 2 = 0 := by omega
  have a1 : (2 * q + 1) % 2 = 1 := by omega
  have a2 : 2 * q / 4 = q / 2 := by omega
  have a3 : (2 * q + 1) / 4 = q / 2 := by omega
  have a4 : 2 * q / 2 = q := by omega
  have a5 : (2 * q + 1) / 2 = q := by omega
  show (0 + ∑ k : Fin 4096, X (4096 * (2 * q % 2) + k.val, 1024 * (2 * q / 4) + (y 0).val)
      * P (4096 * (2 * q % 2) + k.val, 1024 * (2 * q / 2 % 2) + (y 1).val))
    + ∑ k : Fin 4096, X (4096 * ((2 * q + 1) % 2) + k.val, 1024 * ((2 * q + 1) / 4) + (y 0).val)
      * P (4096 * ((2 * q + 1) % 2) + k.val, 1024 * ((2 * q + 1) / 2 % 2) + (y 1).val)
    = ∑ k : Fin 8192, X (k.val, 1024 * (q / 2) + (y 0).val) * P (k.val, 1024 * (q % 2) + (y 1).val)
  rw [sum_two (fun t => X (t, 1024 * (q / 2) + (y 0).val) * P (t, 1024 * (q % 2) + (y 1).val)) 4096 8192 rfl]
  simp only [a0, a1, a2, a3, a4, a5, zero_add, add_zero, mul_zero, mul_one]

/-- What the kernel leaves: the sum over all tokens. -/
theorem kernel_eq : Value.G2 mem c
    = (ex i2 fun y => ∑ k : Fin 8192, X (k.val, y.1) * P (k.val, y.2) : FVec Ideal S2048x2048 .bf16) := by
  funext i
  have h0 : (i 0).val < 2048 := (i 0).isLt
  have h1 : (i 1).val < 2048 := (i 1).isLt
  have hpt : Value.pt2Of i = 2 * (2 * ((i 0).val / 1024) + (i 1).val / 1024) + 1 := by
    show 2 * (2 * ((i 0).val / 1024 - 0) + 1 * ((i 1).val / 1024 - 0)) + 1 = _
    omega
  have hq : 2 * (2 * ((i 0).val / 1024) + (i 1).val / 1024) + 1 < cfg0.N := lt_of_lt_of_eq (by omega) N_0.symm
  unfold Value.G2
  have key : ∀ (n : ℕ) (hn : n < cfg0.N) (q : ℕ), n = 2 * q + 1 → (outsAt0 mem c n hn).1
      = (ex i2 fun y => ∑ k : Fin 8192, X (k.val, 1024 * (q / 2) + y.1) * P (k.val, 1024 * (q % 2) + y.2) :
        FVec Ideal S1024x1024 .bf16) :=
    fun n hn q e => by subst e; exact out_at hX hP q hn
  rw [dif_pos (lt_of_eq_of_lt hpt hq), ← Value.outsAt0_sweep mem c _ (lt_of_eq_of_lt hpt hq), key _ _ _ hpt]
  have e0 : 1024 * ((2 * ((i 0).val / 1024) + (i 1).val / 1024) / 2) + (i 0).val % 1024 = (i 0).val := by omega
  have e1 : 1024 * ((2 * ((i 0).val / 1024) + (i 1).val / 1024) % 2) + (i 1).val % 1024 = (i 1).val := by omega
  show ∑ k : Fin 8192, X (k.val, 1024 * ((2 * ((i 0).val / 1024) + (i 1).val / 1024) / 2) + (i 0).val % 1024)
      * P (k.val, 1024 * ((2 * ((i 0).val / 1024) + (i 1).val / 1024) % 2) + (i 1).val % 1024)
    = ∑ k : Fin 8192, X (k.val, (i 0).val) * P (k.val, (i 1).val)
  rw [e0, e1]
end

end GradWOa

end
-- ==== Proof.GradWOaRef.lean ====
/- The gradient of an output weight in the reference: the product of the two arrays over all tokens. -/
module

public import proofs.«01_k».proof.Proof.Dots
public import proofs.«01_k».proof.Proof.Gen.Reference3Ideal.Read

@[expose] public section

set_option maxRecDepth 16384

noncomputable section

namespace GradWOa

open Idealize.ShloMosaic Idealize.SL.Sem Cert.Reference3Ideal Cert.Reference3Ideal.Gen Cert.Reference3Ideal.Read Mixer

/-- The tokens, as the indices of the axes that the product contracts. -/
def tok : Fin 8192 ≃ dot_S1x8192x2048_S1x8192x2048_S2048x2048_01_01_2_2_n_n.contr.Idx where
  toFun k := fun a : Fin 2 => match a with | ⟨0, _⟩ => (⟨0, Nat.one_pos⟩ : Fin 1) | ⟨1, _⟩ => (k : Fin 8192)
  invFun q := (q (1 : Fin 2) : Fin 8192)
  left_inv _ := rfl
  right_inv q := funext fun a : Fin 2 => match a with
    | ⟨0, _⟩ => Fin.ext (by have h : (q (0 : Fin 2)).val < 1 := (q (0 : Fin 2)).isLt; exact (Nat.lt_one_iff.mp h).symm)
    | ⟨1, _⟩ => rfl

/-- The reference's gradient: the sum over all tokens. -/
theorem reference_eq (X P : ℕ × ℕ → EReal) : val_main_v8 (F := Ideal) (ex (φ := .bf16) i2 X) (ex (φ := .bf16) i2 P)
    = (ex i2 fun y => ∑ k : Fin 8192, X (k.val, y.1) * P (k.val, y.2) : FVec Ideal S2048x2048 .bf16) := by
  have hx : val_main_v2 (F := Ideal) (ex (φ := .bf16) i2 X) = (ex i3 fun y => X (y.2.1, y.2.2) : FVec Ideal S1x8192x2048 .f32) :=
    funext fun y => val_main_v2_apply (F := Ideal) (ex (φ := .bf16) i2 X) y
  have hp : val_main_v5 (F := Ideal) (ex (φ := .bf16) i2 P) = (ex i3 fun y => P (y.2.1, y.2.2) : FVec Ideal S1x8192x2048 .f32) :=
    funext fun y => val_main_v5_apply (F := Ideal) (ex (φ := .bf16) i2 P) y
  have h6 : val_main_v6 (F := Ideal) (ex (φ := .bf16) i2 X) (ex (φ := .bf16) i2 P)
      = (ex i2 fun y => ∑ k : Fin 8192, P (k.val, y.1) * X (k.val, y.2) : FVec Ideal S2048x2048 .f32) := by
    rw [val_main_v6, hp, hx]
    exact hostDot_ex _ tok i3 i3 i2 (fun y k => (0, k.val, y.1)) (fun y k => (0, k.val, y.2)) (fun _ _ => rfl) (fun _ _ => rfl) none _ _
  funext y
  refine (val_main_v7_apply (F := Ideal) (ex (φ := .bf16) i2 X) (ex (φ := .bf16) i2 P) y).trans ?_
  rw [h6]
  exact Finset.sum_congr rfl fun k _ => mul_comm _ _

end GradWOa

end
-- ==== Proof.GradXTail.lean ====
/- The remainder of the input's gradient: what a step of the kernel leaves, and that this is the last plane's gradient times
   its columns of the weights, added to what was there. -/
module

public import proofs.«01_k».proof.Proof.Dots
public import proofs.«01_k».proof.Proof.Gen.Kernel4Ideal.Value
public import Idealize.ShloMosaic.Lib.Pipeline.ValueKit.Point

@[expose] public section

set_option maxRecDepth 16384

noncomputable section

namespace GradXTail

open Idealize.ShloMosaic Idealize.ShloMosaic.TcCoe Idealize.SL.Sem Cert.Kernel4Ideal Cert.Kernel4Ideal.Gen Mixer

section
variable (c : Dev nD) (i : grid0.Coords)
  (a3 : Memref sig .tc .vmem S1x1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (p : Vec Ideal S1x1024x2048 .bf16) (w : Vec Ideal S2048x1024 .bf16) (s : Vec Ideal S1024x1024 .f32)

/-- A step writes the block that was there plus its product. -/
theorem step (hc0 : cond0_0 i) (hc1 : cond0_1 i) :
    out0_A_3 (F := Ideal) c i a3 h3 a4 h4 a5 h5 a6 h6 a7 h7 hc0 hc1 p w s = k0_pay2 (k0_pay1 s) p w := by
  unfold out0_A_3
  rw [View.read_writes_eq_canon _ _ _ (cover0_A_3 c i a3 h3 a4 h4 a5 h5 a6 h6 a7 h7 hc0 hc1 p w s)]
  unfold kernelRun0_A; dsimp only; sl_unfold_words
  rw [View.canon_unit_zero (S := S1024x1024) hz2, View.readCov_cons_toLoadRect,
    View.readCov_unit_zero (S := S1024x1024) _ hz2]
  simp only [View.readAt_eq_ld, h3.read_unread, h4.read_unread, h5.read_unread, View.ld_unit_zero (S := S1x1024x2048) hz3,
    View.ld_unit_zero (S := S2048x1024) hz2, View.ld_unit_zero (S := S1024x1024) hz2]
end

/-- A block's product, added to `s`. -/
theorem pay_ex (s w : ℕ × ℕ → EReal) (p : ℕ × ℕ × ℕ → EReal) :
    k0_pay2 (F := Ideal) (k0_pay1 (F := Ideal) (ex (φ := .f32) i2 s)) (ex (φ := .bf16) i3 p) (ex (φ := .bf16) i2 w)
      = ex i2 fun y => s y + ∑ k : Fin 2048, p (0, y.1, k.val) * w (k.val, y.2) := by
  have hs : shapeCast S1024x2048 (ex i3 p : FVec Ideal S1x1024x2048 .bf16) shapeCasts_S1x1024x2048_S1024x2048
      = (ex i2 fun y => p (0, y.1, y.2) : FVec Ideal S1024x2048 .bf16) := by
    funext y
    exact shapeCast_apply _ shapeCasts_S1x1024x2048_S1024x2048 y (fun a => match a with | ⟨0, _⟩ => ⟨0, Nat.one_pos⟩ | ⟨1, _⟩ => y 0 | ⟨2, _⟩ => y 1) (by
      rw [Shape.rowMajor_val_two, Shape.rowMajor_val_three]
      show (0 * 1024 + (y 0).val) * 2048 + (y 1).val = (y 0).val * 2048 + (y 1).val
      rw [zero_mul, zero_add])
  unfold k0_pay2 k0_pay1
  dsimp only
  simp only [shapeCast_self]
  rw [hs, matmul_ex _ rfl rfl i2 i2 i2 (fun y q => (y.1, q)) (fun y q => (q, y.2)) (fun _ _ => rfl) (fun _ _ => rfl)]
  rfl

/-! The blocks a step reads and writes. -/
theorem ix0 : ∀ t : Fin cfg0.N, win0_0.index t = ![8, t.val / 2, 0] := (by decide +kernel : ∀ t : Fin grid0.N, _)
theorem ix1 : ∀ t : Fin cfg0.N, win0_1.index t = ![8, t.val % 2] := (by decide +kernel : ∀ t : Fin grid0.N, _)
theorem ix2 : ∀ t : Fin cfg0.N, win0_2.index t = ![t.val / 2, t.val % 2] := (by decide +kernel : ∀ t : Fin grid0.N, _)
theorem ix3 : ∀ t : Fin cfg0.N, win0_3.index t = ![t.val / 2, t.val % 2] := (by decide +kernel : ∀ t : Fin grid0.N, _)

section
variable (mem : (ℓ : Loc nD τ Cert.Kernel4Ideal.sig) → Buf (Elt Ideal) ℓ) (c : Dev nD)
set_option maxHeartbeats 2000000 in
/-- The weights, as the kernel reads them. -/
theorem V_weights : V mem c main_v1 = transpose S18432x2048 [1, 0]
    (truncf (F := Ideal) .bf16 (mem ((c : Thread nD τ).loc main_arg1)) bitsLt_bf16_f32) transposes_S2048x18432_S18432x2048_1_0 := by
  unfold_abbrev_sides
  after_results
end

variable {mem : (ℓ : Loc nD τ Cert.Kernel4Ideal.sig) → Buf (Elt Ideal) ℓ} {c : Dev nD}
variable {P : ℕ × ℕ × ℕ → EReal} {W S : ℕ × ℕ → EReal}
  (hP : mem ((c : Thread nD τ).loc main_arg0) = (ex i3 P : FVec Ideal S9x8192x2048 .bf16))
  (hW : mem ((c : Thread nD τ).loc main_arg1) = (ex i2 W : FVec Ideal S2048x18432 .f32))
  (hS : mem ((c : Thread nD τ).loc main_arg2) = (ex i2 S : FVec Ideal S8192x2048 .f32))
include hP in
theorem blk0 (t : Fin cfg0.N) :
    iblk mem c 0 t = (ex i3 fun y => P (8 + y.1, 1024 * (t.val / 2) + y.2.1, y.2.2) : FVec Ideal S1x1024x2048 .bf16) := by
  funext y
  show V mem c main_arg0 ((win0_0.blk t).view.emb y) = _
  rw [V_main_arg0, hP]
  show P (((win0_0.blk t).view.emb y 0).val, ((win0_0.blk t).view.emb y 1).val, ((win0_0.blk t).view.emb y 2).val)
    = P (8 + (y 0).val, 1024 * (t.val / 2) + (y 1).val, (y 2).val)
  blk_simp [ix0]
  rw [Nat.mul_comm 1024]
include hW in
theorem blk1 (t : Fin cfg0.N) :
    iblk mem c 1 t = (ex i2 fun y => W (1024 * (t.val % 2) + y.2, 16384 + y.1) : FVec Ideal S2048x1024 .bf16) := by
  funext y
  show V mem c main_v1 ((win0_1.blk t).view.emb y) = _
  rw [V_weights, hW]
  show W (((win0_1.blk t).view.emb y 1).val, ((win0_1.blk t).view.emb y 0).val) = W (1024 * (t.val % 2) + (y 1).val, 16384 + (y 0).val)
  blk_simp [ix1]
  rw [Nat.mul_comm 1024]
include hS in
theorem blk2 (t : Fin cfg0.N) :
    iblk mem c 2 t = (ex i2 fun y => S (1024 * (t.val / 2) + y.1, 1024 * (t.val % 2) + y.2) : FVec Ideal S1024x1024 .f32) := by
  funext y
  show V mem c main_arg2 ((win0_2.blk t).view.emb y) = _
  rw [V_main_arg2, hS]
  show S (((win0_2.blk t).view.emb y 0).val, ((win0_2.blk t).view.emb y 1).val)
    = S (1024 * (t.val / 2) + (y 0).val, 1024 * (t.val % 2) + (y 1).val)
  blk_simp [ix2]
  rw [Nat.mul_comm 1024, Nat.mul_comm 1024]

include hP hW hS
theorem out_at (t : Fin cfg0.N) : outsAt0 mem c t
    = (ex i2 fun y => S (1024 * (t.val / 2) + y.1, 1024 * (t.val % 2) + y.2)
      + ∑ k : Fin 2048, P (8, 1024 * (t.val / 2) + y.1, k.val) * W (1024 * (t.val % 2) + y.2, 16384 + k.val) :
      FVec Ideal S1024x1024 .f32) := by
  have a : outsAt0 mem c t = _ := step c (grid0.coords t) (ms0_0 t) (hs0_0 t) (ms0_1 t) (hs0_1 t) (ms0_2 t) (hs0_2 t)
    (ms0_3 t) (hs0_3 t) scM0_0 (Memref.isWhole_whole _) (iblk mem c 0 t) (iblk mem c 1 t) (iblk mem c 2 t) (hcond0_0 t) (hcond0_1 t)
  rw [a, blk0 hP, blk1 hW, blk2 hS]
  exact pay_ex _ _ _

/-- What the kernel leaves. -/
theorem kernel_eq : (dats mem 0 c).arrAt 3 cfg0.N
    = (ex i2 fun y => S y + ∑ k : Fin 2048, P (8, y.1, k.val) * W (y.2, 16384 + k.val) : FVec Ideal S8192x2048 .f32) := by
  refine (dats mem 0 c).arrAt_eq_of_covers 3 _ (by decide +kernel) fun t hf y => ?_
  blk_simp
  rw [after0_3]
  refine (congrFun (out_at hP hW hS t) y).trans ?_
  show S (1024 * (t.val / 2) + (y 0).val, 1024 * (t.val % 2) + (y 1).val)
      + ∑ k : Fin 2048, P (8, 1024 * (t.val / 2) + (y 0).val, k.val) * W (1024 * (t.val % 2) + (y 1).val, 16384 + k.val)
    = S (((win0_3.blk t).view.emb y 0).val, ((win0_3.blk t).view.emb y 1).val)
      + ∑ k : Fin 2048, P (8, ((win0_3.blk t).view.emb y 0).val, k.val) * W (((win0_3.blk t).view.emb y 1).val, 16384 + k.val)
  blk_simp [ix3]
  rw [Nat.mul_comm 1024, Nat.mul_comm 1024]

end GradXTail

end
-- ==== Proof.GradXTailRef.lean ====
/- The remainder of the input's gradient in the reference: the last plane's gradient, laid among zeros, times the weights. -/
module

public import proofs.«01_k».proof.Proof.Dots
public import proofs.«01_k».proof.Proof.Gen.Reference4Ideal.Read

@[expose] public section

set_option maxRecDepth 16384

noncomputable section

namespace GradXTail

open Idealize.ShloMosaic Idealize.SL.Sem Cert.Reference4Ideal Cert.Reference4Ideal.Gen Cert.Reference4Ideal.Read Mixer

variable (P : ℕ × ℕ × ℕ → EReal) (W S : ℕ × ℕ → EReal)

/-- The planes laid side by side: zeros, and the last one's gradient at plane 8. -/
abbrev plane (k : ℕ) : FVec Ideal S1x8192x2048 .f32 :=
  if k < 8 then ex i3 fun _ => 0 else ex i3 fun y => P (8 + y.1, 0 + y.2.1, 0 + y.2.2)

/-- The index, in its plane, of an index of the planes side by side. -/
def at2 (y : S1x8192x18432.Idx) : S1x8192x2048.Idx := fun a => match a with
  | ⟨0, _⟩ => ⟨0, Nat.one_pos⟩
  | ⟨1, _⟩ => y 1
  | ⟨2, _⟩ => ⟨(y 2).val % 2048, Nat.mod_lt _ (by decide)⟩

/-- A plane of zeros. -/
theorem zeros (f : FVec Ideal S1x8192x2048 .f32) (h : ∀ y, f y = Ideal.ofBits .f32 0x00000000#32) : f = ex i3 fun _ => 0 :=
  funext fun y => (h y).trans Ideal.ofBits_zero_f32

/-- The planes side by side. -/
theorem side : val_main_v21 (F := Ideal) (ex (φ := .bf16) i3 P)
    = (ex i3 fun y => if y.2.2 < 16384 then 0 else P (8, y.2.1, y.2.2 - 16384) : FVec Ideal S1x8192x18432 .f32) := by
  funext y
  have h2 : (y 2).val < 18432 := (y 2).isLt
  show concatenate (α := Ideal .f32) S1x8192x18432 2 [⟨S1x8192x2048, val_main_v13 (F := Ideal)⟩, ⟨S1x8192x2048, val_main_v14 (F := Ideal)⟩,
    ⟨S1x8192x2048, val_main_v15 (F := Ideal)⟩, ⟨S1x8192x2048, val_main_v16 (F := Ideal)⟩, ⟨S1x8192x2048, val_main_v17 (F := Ideal)⟩, ⟨S1x8192x2048, val_main_v18 (F := Ideal)⟩,
    ⟨S1x8192x2048, val_main_v19 (F := Ideal)⟩, ⟨S1x8192x2048, val_main_v20 (F := Ideal)⟩, ⟨S1x8192x2048, plane P 8⟩]
    concatenates_S1x8192x2048_S1x8192x2048_S1x8192x2048_S1x8192x2048_S1x8192x2048_S1x8192x2048_S1x8192x2048_S1x8192x2048_S1x8192x2048_S1x8192x18432_d2 y
    = if (y 2).val < 16384 then 0 else P (8, (y 1).val, (y 2).val - 16384)
  rw [zeros (val_main_v13 (F := Ideal)) fun _ => rfl, zeros (val_main_v14 (F := Ideal)) fun _ => rfl,
    zeros (val_main_v15 (F := Ideal)) fun _ => rfl, zeros (val_main_v16 (F := Ideal)) fun _ => rfl,
    zeros (val_main_v17 (F := Ideal)) fun _ => rfl, zeros (val_main_v18 (F := Ideal)) fun _ => rfl,
    zeros (val_main_v19 (F := Ideal)) fun _ => rfl, zeros (val_main_v20 (F := Ideal)) fun _ => rfl]
  have go : ∀ (k : ℕ) (hk : k < 9) (hy : (y 2).val / 2048 = k), concatenate (α := Ideal .f32) S1x8192x18432 2
      [⟨S1x8192x2048, ex i3 fun _ => 0⟩, ⟨S1x8192x2048, ex i3 fun _ => 0⟩, ⟨S1x8192x2048, ex i3 fun _ => 0⟩,
        ⟨S1x8192x2048, ex i3 fun _ => 0⟩, ⟨S1x8192x2048, ex i3 fun _ => 0⟩, ⟨S1x8192x2048, ex i3 fun _ => 0⟩,
        ⟨S1x8192x2048, ex i3 fun _ => 0⟩, ⟨S1x8192x2048, ex i3 fun _ => 0⟩, ⟨S1x8192x2048, plane P 8⟩]
      concatenates_S1x8192x2048_S1x8192x2048_S1x8192x2048_S1x8192x2048_S1x8192x2048_S1x8192x2048_S1x8192x2048_S1x8192x2048_S1x8192x2048_S1x8192x18432_d2 y
      = plane P k (at2 y) := by
    intro k hk hy
    refine concatenate_apply_piece (t := S1x8192x18432) 2 _ _ y k (by show k < 9; omega) S1x8192x2048 (plane P k) ?_ rfl (2048 * k) ?_ (at2 y)
      (fun b hb => match b, hb with
        | ⟨0, _⟩, _ => (Nat.lt_one_iff.mp (y 0).isLt).symm | ⟨1, _⟩, _ => rfl | ⟨2, _⟩, hb => absurd rfl hb)
      (by show 2048 * k + (y 2).val % 2048 = (y 2).val; omega)
    · interval_cases k <;> rfl
    · interval_cases k <;> simp [S1x8192x18432, S1x8192x2048]
  rw [go ((y 2).val / 2048) (by omega) rfl]
  unfold plane
  by_cases hlt : (y 2).val < 16384
  · rw [if_pos hlt, if_pos (by omega)]
    rfl
  · rw [if_neg hlt, if_neg (by omega)]
    show P (8 + 0, 0 + (y 1).val, 0 + (y 2).val % 2048) = _
    rw [add_zero, zero_add, zero_add, show (y 2).val % 2048 = (y 2).val - 16384 by omega]

/-- A sum whose first terms are zero times something. -/
theorem sum_tail (f g : ℕ → EReal) (a b n : ℕ) (hn : a + b = n) :
    ∑ k : Fin n, (if k.val < a then 0 else f (k.val - a)) * g k.val = ∑ k : Fin b, f k.val * g (a + k.val) := by
  subst hn
  refine (Fin.sum_univ_add fun k : Fin (a + b) => (if k.val < a then 0 else f (k.val - a)) * g k.val).trans ?_
  rw [Finset.sum_eq_zero fun k _ => ?_, zero_add]
  · refine Finset.sum_congr rfl fun k _ => ?_
    show (if a + k.val < a then 0 else f (a + k.val - a)) * g (a + k.val) = _
    rw [if_neg (by omega), Nat.add_sub_cancel_left]
  · show (if k.val < a then 0 else f (k.val - a)) * g k.val = 0
    rw [if_pos k.isLt, zero_mul]

/-- The reference's value. -/
theorem reference_eq : val_main_v24 (F := Ideal) (ex (φ := .bf16) i3 P) (ex (φ := .f32) i2 W) (ex (φ := .f32) i2 S)
    = (ex i2 fun y => S y + ∑ k : Fin 2048, P (8, y.1, k.val) * W (y.2, 16384 + k.val) : FVec Ideal S8192x2048 .f32) := by
  funext y
  show ex (φ := .f32) i2 S y + val_main_v23 (F := Ideal) (ex (φ := .bf16) i3 P) (ex (φ := .f32) i2 W) y = _
  rw [val_main_v23_apply, val_main_v22_apply, side]
  have h0 : (y 0).val < 8192 := (y 0).isLt
  have h1 : (y 1).val < 2048 := (y 1).isLt
  show S (i2 y) + ∑ k : Fin 18432, (if k.val < 16384 then 0 else P (8, ((y 0).val * 2048 + (y 1).val) / 2048 % 8192, k.val - 16384))
      * W (((y 0).val * 2048 + (y 1).val) % 2048, k.val) = _
  rw [show ((y 0).val * 2048 + (y 1).val) / 2048 % 8192 = (y 0).val by omega,
    show ((y 0).val * 2048 + (y 1).val) % 2048 = (y 1).val by omega]
  exact congrArg (S (i2 y) + ·) (sum_tail (fun k => P (8, (y 0).val, k)) (fun k => W ((y 1).val, k)) 16384 2048 18432 rfl)

end GradXTail

end
-- ==== Proof.MergeSpec.lean ====
/- The merge of the two mixers by the sigmoid gates, in plain functions of the arrays' entries. -/
module

public import proofs.«01_k».proof.Proof.Dots

@[expose] public section

noncomputable section

namespace Merge

open Idealize.ShloMosaic

/-- A gate: the sigmoid of the input's projection onto the columns from `o` on, plus the biases from `b` on. -/
def gate (o b : ℕ) (X W B : ℕ × ℕ → EReal) (y : ℕ × ℕ) : EReal :=
  Ideal.logistic ((∑ k : Fin 2048, X (y.1, k.val) * W (k.val, o + y.2)) + B (0, b + y.2))
theorem gate_at (X W B : ℕ × ℕ → EReal) (o b r q n m : ℕ) (hn : n = o + q) (hm : m = b + q) :
    Ideal.logistic ((∑ k : Fin 2048, X (r, k.val) * W (k.val, n)) + B (0, m)) = gate o b X W B (r, q) := by
  subst hn hm
  rfl
/-- A mixer's output projection. -/
def proj (Y W : ℕ × ℕ → EReal) (y : ℕ × ℕ) : EReal := ∑ k : Fin 2048, Y (y.1, k.val) * W (k.val, y.2)

variable (X Ya Yb W Wa Wb B : ℕ × ℕ → EReal)
def gateA : ℕ × ℕ → EReal := gate 14336 0 X W B
def gateB : ℕ × ℕ → EReal := gate 16384 2048 X W B
def merged (y : ℕ × ℕ) : EReal := gateA X W B y * proj Ya Wa y + gateB X W B y * proj Yb Wb y

end Merge

end
-- ==== Proof.MergeFwd.lean ====
/- The merge of the two mixers: what a step of the kernel leaves in each of its five results, and the arrays it leaves. -/
module

public import proofs.«01_k».proof.Proof.MergeSpec
public import proofs.«01_k».proof.Proof.Gen.Kernel5Ideal.Value
public import Idealize.ShloMosaic.Lib.Pipeline.ValueKit.Point

@[expose] public section

set_option maxRecDepth 16384

noncomputable section

namespace Merge

open Idealize.ShloMosaic Idealize.ShloMosaic.TcCoe Idealize.SL.Sem Cert.Kernel5Ideal Cert.Kernel5Ideal.Gen Mixer

/-! The arithmetic of a step. -/
section
variable (x ya yb wa wb va vb ba bb : ℕ × ℕ → EReal)

/-- A gate's block. -/
theorem pay4_ex : k0_pay4 (F := Ideal) (ex (φ := .f32) i2 x) (ex (φ := .bf16) i2 wa) (ex (φ := .f32) i2 ba)
    = ex i2 fun y => Ideal.logistic ((∑ k : Fin 2048, x (y.1, k.val) * wa (y.2, k.val)) + ba (0, y.2)) := by
  have hb : broadcastTo S256x1024 (ex i2 ba : FVec Ideal S1x1024 .f32) broadcasts_S1x1024_S256x1024
      = (ex i2 fun y => ba (0, y.2) : FVec Ideal S256x1024 .f32) := by
    funext y
    exact broadcastTo_apply _ broadcasts_S1x1024_S256x1024 y (fun a => match a with | ⟨0, _⟩ => ⟨0, Nat.one_pos⟩ | ⟨1, _⟩ => y 1)
      (fun a => match a with | ⟨0, _⟩ => rfl | ⟨1, _⟩ => rfl)
  unfold k0_pay4 k0_pay3
  dsimp only
  rw [shapeCast_self, hb, truncf_ex, matmul_ex _ rfl rfl i2 i2 i2 (fun y q => (y.1, q)) (fun y q => (y.2, q)) (fun _ _ => rfl) (fun _ _ => rfl)]
  rfl
theorem pay5_ex : k0_pay5 (F := Ideal) (ex (φ := .f32) i2 x) (ex (φ := .bf16) i2 wa) (ex (φ := .f32) i2 ba)
    = ex i2 fun y => Ideal.logistic ((∑ k : Fin 2048, x (y.1, k.val) * wa (y.2, k.val)) + ba (0, y.2)) := pay4_ex x wa ba
/-- A mixer's block. -/
theorem pay6_ex : k0_pay6 (F := Ideal) (ex (φ := .bf16) i2 ya) (ex (φ := .bf16) i2 va)
    = ex i2 fun y => ∑ k : Fin 2048, ya (y.1, k.val) * va (k.val, y.2) := by
  unfold k0_pay6
  dsimp only
  rw [shapeCast_self, matmul_ex _ rfl rfl i2 i2 i2 (fun y q => (y.1, q)) (fun y q => (q, y.2)) (fun _ _ => rfl) (fun _ _ => rfl)]
  rfl
theorem pay7_ex : k0_pay7 (F := Ideal) (ex (φ := .bf16) i2 ya) (ex (φ := .bf16) i2 va)
    = ex i2 fun y => ∑ k : Fin 2048, ya (y.1, k.val) * va (k.val, y.2) := pay6_ex ya va
end

/-! The blocks a step reads and writes. -/
theorem ix0 : ∀ t : Fin cfg0.N, win0_0.index t = ![t.val % 32, 0] := (by decide +kernel : ∀ t : Fin grid0.N, _)
theorem ix1 : ∀ t : Fin cfg0.N, win0_1.index t = ![t.val % 32, 0] := (by decide +kernel : ∀ t : Fin grid0.N, _)
theorem ix2 : ∀ t : Fin cfg0.N, win0_2.index t = ![t.val % 32, 0] := (by decide +kernel : ∀ t : Fin grid0.N, _)
theorem ix3 : ∀ t : Fin cfg0.N, win0_3.index t = ![14 + t.val / 32, 0] := (by decide +kernel : ∀ t : Fin grid0.N, _)
theorem ix4 : ∀ t : Fin cfg0.N, win0_4.index t = ![16 + t.val / 32, 0] := (by decide +kernel : ∀ t : Fin grid0.N, _)
theorem ix5 : ∀ t : Fin cfg0.N, win0_5.index t = ![0, t.val / 32] := (by decide +kernel : ∀ t : Fin grid0.N, _)
theorem ix6 : ∀ t : Fin cfg0.N, win0_6.index t = ![0, t.val / 32] := (by decide +kernel : ∀ t : Fin grid0.N, _)
theorem ix7 : ∀ t : Fin cfg0.N, win0_7.index t = ![0, t.val / 32] := (by decide +kernel : ∀ t : Fin grid0.N, _)
theorem ix8 : ∀ t : Fin cfg0.N, win0_8.index t = ![0, 2 + t.val / 32] := (by decide +kernel : ∀ t : Fin grid0.N, _)
theorem ix9 : ∀ t : Fin cfg0.N, win0_9.index t = ![t.val % 32, t.val / 32] := (by decide +kernel : ∀ t : Fin grid0.N, _)
theorem ix10 : ∀ t : Fin cfg0.N, win0_10.index t = ![t.val % 32, t.val / 32] := (by decide +kernel : ∀ t : Fin grid0.N, _)
theorem ix11 : ∀ t : Fin cfg0.N, win0_11.index t = ![t.val % 32, t.val / 32] := (by decide +kernel : ∀ t : Fin grid0.N, _)
theorem ix12 : ∀ t : Fin cfg0.N, win0_12.index t = ![t.val % 32, t.val / 32] := (by decide +kernel : ∀ t : Fin grid0.N, _)
theorem ix13 : ∀ t : Fin cfg0.N, win0_13.index t = ![t.val % 32, t.val / 32] := (by decide +kernel : ∀ t : Fin grid0.N, _)

section
variable (mem : (ℓ : Loc nD τ Cert.Kernel5Ideal.sig) → Buf (Elt Ideal) ℓ) (c : Dev nD)
/-! The weights, as the kernel reads them. -/
set_option maxHeartbeats 2000000 in
theorem V_in : V mem c main_v1 = transpose S18432x2048 [1, 0]
    (truncf (F := Ideal) .bf16 (mem ((c : Thread nD τ).loc main_arg3)) bitsLt_bf16_f32) transposes_S2048x18432_S18432x2048_1_0 := by
  unfold_abbrev_sides
  after_results
set_option maxHeartbeats 2000000 in
theorem V_oa : V mem c main_v2 = truncf (F := Ideal) .bf16 (mem ((c : Thread nD τ).loc main_arg4)) bitsLt_bf16_f32 := by
  unfold_abbrev_sides
  after_results
set_option maxHeartbeats 2000000 in
theorem V_ob : V mem c main_v3 = truncf (F := Ideal) .bf16 (mem ((c : Thread nD τ).loc main_arg5)) bitsLt_bf16_f32 := by
  unfold_abbrev_sides
  after_results
end

variable {mem : (ℓ : Loc nD τ Cert.Kernel5Ideal.sig) → Buf (Elt Ideal) ℓ} {c : Dev nD}
variable {X Ya Yb W Wa Wb B : ℕ × ℕ → EReal}
  (hX : mem ((c : Thread nD τ).loc main_arg0) = (ex i2 X : FVec Ideal S8192x2048 .f32))
  (hYa : mem ((c : Thread nD τ).loc main_arg1) = (ex i2 Ya : FVec Ideal S8192x2048 .bf16))
  (hYb : mem ((c : Thread nD τ).loc main_arg2) = (ex i2 Yb : FVec Ideal S8192x2048 .bf16))
  (hW : mem ((c : Thread nD τ).loc main_arg3) = (ex i2 W : FVec Ideal S2048x18432 .f32))
  (hWa : mem ((c : Thread nD τ).loc main_arg4) = (ex i2 Wa : FVec Ideal S2048x2048 .f32))
  (hWb : mem ((c : Thread nD τ).loc main_arg5) = (ex i2 Wb : FVec Ideal S2048x2048 .f32))
  (hB : mem ((c : Thread nD τ).loc main_arg6) = (ex i2 B : FVec Ideal S1x4096 .f32))

include hX in
theorem blk0 (t : Fin cfg0.N) :
    iblk mem c 0 t = (ex i2 fun y => X (256 * (t.val % 32) + y.1, y.2) : FVec Ideal S256x2048 .f32) := by
  funext y
  show V mem c main_arg0 ((win0_0.blk t).view.emb y) = _
  rw [V_main_arg0, hX]
  show X (((win0_0.blk t).view.emb y 0).val, ((win0_0.blk t).view.emb y 1).val) = X (256 * (t.val % 32) + (y 0).val, (y 1).val)
  blk_simp [ix0]
  rw [Nat.mul_comm 256]
include hYa in
theorem blk1 (t : Fin cfg0.N) :
    iblk mem c 1 t = (ex i2 fun y => Ya (256 * (t.val % 32) + y.1, y.2) : FVec Ideal S256x2048 .bf16) := by
  funext y
  show V mem c main_arg1 ((win0_1.blk t).view.emb y) = _
  rw [V_main_arg1, hYa]
  show Ya (((win0_1.blk t).view.emb y 0).val, ((win0_1.blk t).view.emb y 1).val) = Ya (256 * (t.val % 32) + (y 0).val, (y 1).val)
  blk_simp [ix1]
  rw [Nat.mul_comm 256]
include hYb in
theorem blk2 (t : Fin cfg0.N) :
    iblk mem c 2 t = (ex i2 fun y => Yb (256 * (t.val % 32) + y.1, y.2) : FVec Ideal S256x2048 .bf16) := by
  funext y
  show V mem c main_arg2 ((win0_2.blk t).view.emb y) = _
  rw [V_main_arg2, hYb]
  show Yb (((win0_2.blk t).view.emb y 0).val, ((win0_2.blk t).view.emb y 1).val) = Yb (256 * (t.val % 32) + (y 0).val, (y 1).val)
  blk_simp [ix2]
  rw [Nat.mul_comm 256]
include hW in
theorem blk3 (t : Fin cfg0.N) :
    iblk mem c 3 t = (ex i2 fun y => W (y.2, 1024 * (14 + t.val / 32) + y.1) : FVec Ideal S1024x2048 .bf16) := by
  funext y
  show V mem c main_v1 ((win0_3.blk t).view.emb y) = _
  rw [V_in, hW]
  show W (((win0_3.blk t).view.emb y 1).val, ((win0_3.blk t).view.emb y 0).val) = W ((y 1).val, 1024 * (14 + t.val / 32) + (y 0).val)
  blk_simp [ix3]
  rw [Nat.mul_comm 1024]
include hW in
theorem blk4 (t : Fin cfg0.N) :
    iblk mem c 4 t = (ex i2 fun y => W (y.2, 1024 * (16 + t.val / 32) + y.1) : FVec Ideal S1024x2048 .bf16) := by
  funext y
  show V mem c main_v1 ((win0_4.blk t).view.emb y) = _
  rw [V_in, hW]
  show W (((win0_4.blk t).view.emb y 1).val, ((win0_4.blk t).view.emb y 0).val) = W ((y 1).val, 1024 * (16 + t.val / 32) + (y 0).val)
  blk_simp [ix4]
  rw [Nat.mul_comm 1024]
include hWa in
theorem blk5 (t : Fin cfg0.N) :
    iblk mem c 5 t = (ex i2 fun y => Wa (y.1, 1024 * (t.val / 32) + y.2) : FVec Ideal S2048x1024 .bf16) := by
  funext y
  show V mem c main_v2 ((win0_5.blk t).view.emb y) = _
  rw [V_oa, hWa]
  show Wa (((win0_5.blk t).view.emb y 0).val, ((win0_5.blk t).view.emb y 1).val) = Wa ((y 0).val, 1024 * (t.val / 32) + (y 1).val)
  blk_simp [ix5]
  rw [Nat.mul_comm 1024]
include hWb in
theorem blk6 (t : Fin cfg0.N) :
    iblk mem c 6 t = (ex i2 fun y => Wb (y.1, 1024 * (t.val / 32) + y.2) : FVec Ideal S2048x1024 .bf16) := by
  funext y
  show V mem c main_v3 ((win0_6.blk t).view.emb y) = _
  rw [V_ob, hWb]
  show Wb (((win0_6.blk t).view.emb y 0).val, ((win0_6.blk t).view.emb y 1).val) = Wb ((y 0).val, 1024 * (t.val / 32) + (y 1).val)
  blk_simp [ix6]
  rw [Nat.mul_comm 1024]
include hB in
theorem blk7 (t : Fin cfg0.N) :
    iblk mem c 7 t = (ex i2 fun y => B (y.1, 1024 * (t.val / 32) + y.2) : FVec Ideal S1x1024 .f32) := by
  funext y
  show V mem c main_arg6 ((win0_7.blk t).view.emb y) = _
  rw [V_main_arg6, hB]
  show B (((win0_7.blk t).view.emb y 0).val, ((win0_7.blk t).view.emb y 1).val) = B ((y 0).val, 1024 * (t.val / 32) + (y 1).val)
  blk_simp [ix7]
  rw [Nat.mul_comm 1024]
include hB in
theorem blk8 (t : Fin cfg0.N) :
    iblk mem c 8 t = (ex i2 fun y => B (y.1, 1024 * (2 + t.val / 32) + y.2) : FVec Ideal S1x1024 .f32) := by
  funext y
  show V mem c main_arg6 ((win0_8.blk t).view.emb y) = _
  rw [V_main_arg6, hB]
  show B (((win0_8.blk t).view.emb y 0).val, ((win0_8.blk t).view.emb y 1).val) = B ((y 0).val, 1024 * (2 + t.val / 32) + (y 1).val)
  blk_simp [ix8]
  rw [Nat.mul_comm 1024]

/-! What a step leaves in each result: its block of the merge. -/
include hX hW hB in
theorem out9 (t : Fin cfg0.N) : out0_9 (iblk mem c 0 t) (iblk mem c 1 t) (iblk mem c 2 t) (iblk mem c 3 t) (iblk mem c 4 t) (iblk mem c 5 t) (iblk mem c 6 t) (iblk mem c 7 t) (iblk mem c 8 t)
    = (ex i2 fun y => gateA X W B (256 * (t.val % 32) + y.1, 1024 * (t.val / 32) + y.2) : FVec Ideal S256x1024 .bf16) := by
  unfold out0_9
  rw [View.canon_unit_zero (S := S256x1024) hz2]
  simp only [View.ld_unit_zero (S := S256x2048) hz2, View.ld_unit_zero (S := S1024x2048) hz2, View.ld_unit_zero (S := S1x1024) hz2, View.ld_unit_zero (S := S2048x1024) hz2]
  rw [blk0 hX, blk3 hW, blk7 hB]
  unfold k0_pay8
  dsimp only
  rw [pay4_ex]
  funext y
  exact gate_at X W B 14336 0 (256 * (t.val % 32) + (y 0).val) (1024 * (t.val / 32) + (y 1).val) (1024 * (14 + t.val / 32) + (y 1).val)
    (1024 * (t.val / 32) + (y 1).val) (by omega) (by omega)
include hX hW hB in
theorem out10 (t : Fin cfg0.N) : out0_10 (iblk mem c 0 t) (iblk mem c 1 t) (iblk mem c 2 t) (iblk mem c 3 t) (iblk mem c 4 t) (iblk mem c 5 t) (iblk mem c 6 t) (iblk mem c 7 t) (iblk mem c 8 t)
    = (ex i2 fun y => gateB X W B (256 * (t.val % 32) + y.1, 1024 * (t.val / 32) + y.2) : FVec Ideal S256x1024 .bf16) := by
  unfold out0_10
  rw [View.canon_unit_zero (S := S256x1024) hz2]
  simp only [View.ld_unit_zero (S := S256x2048) hz2, View.ld_unit_zero (S := S1024x2048) hz2, View.ld_unit_zero (S := S1x1024) hz2, View.ld_unit_zero (S := S2048x1024) hz2]
  rw [blk0 hX, blk4 hW, blk8 hB]
  unfold k0_pay9
  dsimp only
  rw [pay5_ex]
  funext y
  exact gate_at X W B 16384 2048 (256 * (t.val % 32) + (y 0).val) (1024 * (t.val / 32) + (y 1).val) (1024 * (16 + t.val / 32) + (y 1).val)
    (1024 * (2 + t.val / 32) + (y 1).val) (by omega) (by omega)
include hYa hWa in
theorem out11 (t : Fin cfg0.N) : out0_11 (iblk mem c 0 t) (iblk mem c 1 t) (iblk mem c 2 t) (iblk mem c 3 t) (iblk mem c 4 t) (iblk mem c 5 t) (iblk mem c 6 t) (iblk mem c 7 t) (iblk mem c 8 t)
    = (ex i2 fun y => proj Ya Wa (256 * (t.val % 32) + y.1, 1024 * (t.val / 32) + y.2) : FVec Ideal S256x1024 .bf16) := by
  unfold out0_11
  rw [View.canon_unit_zero (S := S256x1024) hz2]
  simp only [View.ld_unit_zero (S := S256x2048) hz2, View.ld_unit_zero (S := S1024x2048) hz2, View.ld_unit_zero (S := S1x1024) hz2, View.ld_unit_zero (S := S2048x1024) hz2]
  rw [blk1 hYa, blk5 hWa]
  unfold k0_pay10
  dsimp only
  rw [pay6_ex]
  rfl
include hYb hWb in
theorem out12 (t : Fin cfg0.N) : out0_12 (iblk mem c 0 t) (iblk mem c 1 t) (iblk mem c 2 t) (iblk mem c 3 t) (iblk mem c 4 t) (iblk mem c 5 t) (iblk mem c 6 t) (iblk mem c 7 t) (iblk mem c 8 t)
    = (ex i2 fun y => proj Yb Wb (256 * (t.val % 32) + y.1, 1024 * (t.val / 32) + y.2) : FVec Ideal S256x1024 .bf16) := by
  unfold out0_12 k0_pay11
  rw [View.canon_unit_zero (S := S256x1024) hz2]
  simp only [View.ld_unit_zero (S := S256x2048) hz2, View.ld_unit_zero (S := S1024x2048) hz2, View.ld_unit_zero (S := S1x1024) hz2, View.ld_unit_zero (S := S2048x1024) hz2]
  rw [blk2 hYb, blk6 hWb]
  unfold k0_pay1
  dsimp only
  rw [pay7_ex]
  rfl
include hX hYa hYb hW hWa hWb hB in
theorem out13 (t : Fin cfg0.N) : out0_13 (iblk mem c 0 t) (iblk mem c 1 t) (iblk mem c 2 t) (iblk mem c 3 t) (iblk mem c 4 t) (iblk mem c 5 t) (iblk mem c 6 t) (iblk mem c 7 t) (iblk mem c 8 t)
    = (ex i2 fun y => merged X Ya Yb W Wa Wb B (256 * (t.val % 32) + y.1, 1024 * (t.val / 32) + y.2) : FVec Ideal S256x1024 .bf16) := by
  unfold out0_13 k0_pay11
  rw [View.canon_unit_zero (S := S256x1024) hz2]
  simp only [View.ld_unit_zero (S := S256x2048) hz2, View.ld_unit_zero (S := S1024x2048) hz2, View.ld_unit_zero (S := S1x1024) hz2, View.ld_unit_zero (S := S2048x1024) hz2]
  rw [blk0 hX, blk1 hYa, blk2 hYb, blk3 hW, blk4 hW, blk5 hWa, blk6 hWb, blk7 hB, blk8 hB]
  unfold k0_pay2
  dsimp only
  rw [pay4_ex, pay5_ex, pay6_ex, pay7_ex]
  funext y
  have hA := gate_at X W B 14336 0 (256 * (t.val % 32) + (y 0).val) (1024 * (t.val / 32) + (y 1).val) (1024 * (14 + t.val / 32) + (y 1).val)
    (1024 * (t.val / 32) + (y 1).val) (by omega) (by omega)
  have hB := gate_at X W B 16384 2048 (256 * (t.val % 32) + (y 0).val) (1024 * (t.val / 32) + (y 1).val) (1024 * (16 + t.val / 32) + (y 1).val)
    (1024 * (2 + t.val / 32) + (y 1).val) (by omega) (by omega)
  exact congrArg₂ (fun a b : EReal => a * proj Ya Wa (256 * (t.val % 32) + (y 0).val, 1024 * (t.val / 32) + (y 1).val)
    + b * proj Yb Wb (256 * (t.val % 32) + (y 0).val, 1024 * (t.val / 32) + (y 1).val)) hA hB

/-! The arrays the kernel leaves. -/
include hX hW hB in
theorem arr9 : (dats mem 0 c).arrAt 9 cfg0.N = (ex i2 (gateA X W B) : FVec Ideal S8192x2048 .bf16) := by
  refine (dats mem 0 c).arrAt_eq_of_covers 9 _ (by decide +kernel) fun t hf y => ?_
  blk_simp
  rw [after0_9]
  refine (congrFun (out9 hX hW hB t) y).trans ?_
  show gateA X W B (256 * (t.val % 32) + (y 0).val, 1024 * (t.val / 32) + (y 1).val)
    = gateA X W B (((win0_9.blk t).view.emb y 0).val, ((win0_9.blk t).view.emb y 1).val)
  blk_simp [ix9]
  rw [Nat.mul_comm 256, Nat.mul_comm 1024]
include hX hW hB in
theorem arr10 : (dats mem 0 c).arrAt 10 cfg0.N = (ex i2 (gateB X W B) : FVec Ideal S8192x2048 .bf16) := by
  refine (dats mem 0 c).arrAt_eq_of_covers 10 _ (by decide +kernel) fun t hf y => ?_
  blk_simp
  rw [after0_10]
  refine (congrFun (out10 hX hW hB t) y).trans ?_
  show gateB X W B (256 * (t.val % 32) + (y 0).val, 1024 * (t.val / 32) + (y 1).val)
    = gateB X W B (((win0_10.blk t).view.emb y 0).val, ((win0_10.blk t).view.emb y 1).val)
  blk_simp [ix10]
  rw [Nat.mul_comm 256, Nat.mul_comm 1024]
include hYa hWa in
theorem arr11 : (dats mem 0 c).arrAt 11 cfg0.N = (ex i2 (proj Ya Wa) : FVec Ideal S8192x2048 .bf16) := by
  refine (dats mem 0 c).arrAt_eq_of_covers 11 _ (by decide +kernel) fun t hf y => ?_
  blk_simp
  rw [after0_11]
  refine (congrFun (out11 hYa hWa t) y).trans ?_
  show proj Ya Wa (256 * (t.val % 32) + (y 0).val, 1024 * (t.val / 32) + (y 1).val)
    = proj Ya Wa (((win0_11.blk t).view.emb y 0).val, ((win0_11.blk t).view.emb y 1).val)
  blk_simp [ix11]
  rw [Nat.mul_comm 256, Nat.mul_comm 1024]
include hYb hWb in
theorem arr12 : (dats mem 0 c).arrAt 12 cfg0.N = (ex i2 (proj Yb Wb) : FVec Ideal S8192x2048 .bf16) := by
  refine (dats mem 0 c).arrAt_eq_of_covers 12 _ (by decide +kernel) fun t hf y => ?_
  blk_simp
  rw [after0_12]
  refine (congrFun (out12 hYb hWb t) y).trans ?_
  show proj Yb Wb (256 * (t.val % 32) + (y 0).val, 1024 * (t.val / 32) + (y 1).val)
    = proj Yb Wb (((win0_12.blk t).view.emb y 0).val, ((win0_12.blk t).view.emb y 1).val)
  blk_simp [ix12]
  rw [Nat.mul_comm 256, Nat.mul_comm 1024]
include hX hYa hYb hW hWa hWb hB in
theorem arr13 : (dats mem 0 c).arrAt 13 cfg0.N = (ex i2 (merged X Ya Yb W Wa Wb B) : FVec Ideal S8192x2048 .bf16) := by
  refine (dats mem 0 c).arrAt_eq_of_covers 13 _ (by decide +kernel) fun t hf y => ?_
  blk_simp
  rw [after0_13]
  refine (congrFun (out13 hX hYa hYb hW hWa hWb hB t) y).trans ?_
  show merged X Ya Yb W Wa Wb B (256 * (t.val % 32) + (y 0).val, 1024 * (t.val / 32) + (y 1).val)
    = merged X Ya Yb W Wa Wb B (((win0_13.blk t).view.emb y 0).val, ((win0_13.blk t).view.emb y 1).val)
  blk_simp [ix13]
  rw [Nat.mul_comm 256, Nat.mul_comm 1024]

end Merge

end
-- ==== Proof.MergeFwdRef.lean ====
/- The merge of the two mixers in the reference. -/
module

public import proofs.«01_k».proof.Proof.MergeSpec
public import proofs.«01_k».proof.Proof.Gen.Reference5Ideal.Read

@[expose] public section

set_option maxRecDepth 16384

noncomputable section

namespace Merge

open Idealize.ShloMosaic Idealize.SL.Sem Cert.Reference5Ideal Cert.Reference5Ideal.Gen Cert.Reference5Ideal.Read Mixer

variable (X Ya Yb W Wa Wb B : ℕ × ℕ → EReal)

/-- The input's projection. -/
theorem v1_ex : val_main_v1 (F := Ideal) (ex (φ := .f32) i2 X) (ex (φ := .f32) i2 W)
    = (ex i3 fun y => ∑ k : Fin 2048, X (y.2.1, k.val) * W (k.val, y.2.2) : FVec Ideal S1x8192x18432 .f32) := by
  funext y
  refine (val_main_v1_apply (ex (φ := .f32) i2 X) (ex (φ := .f32) i2 W) y).trans ?_
  refine Finset.sum_congr rfl fun k _ => ?_
  rw [val_main_v0_apply]
  rfl
theorem v35_ex : val_main_v35 (F := Ideal) (ex (φ := .bf16) i2 Ya) (ex (φ := .f32) i2 Wa)
    = (ex i3 fun y => proj Ya Wa y.2 : FVec Ideal S1x8192x2048 .f32) := by
  funext y
  refine (val_main_v35_apply (ex (φ := .bf16) i2 Ya) (ex (φ := .f32) i2 Wa) y).trans ?_
  show _ = ∑ k : Fin 2048, Ya ((y 1).val, k.val) * Wa (k.val, (y 2).val)
  refine Finset.sum_congr rfl fun k _ => ?_
  rw [val_main_v34_apply]
  rfl
theorem v38_ex : val_main_v38 (F := Ideal) (ex (φ := .bf16) i2 Yb) (ex (φ := .f32) i2 Wb)
    = (ex i3 fun y => proj Yb Wb y.2 : FVec Ideal S1x8192x2048 .f32) := v35_ex Yb Wb

/-- The biases of the gates, over all tokens. -/
theorem v14_ex : val_main_v14 (F := Ideal) (ex (φ := .f32) i2 B) = (ex i3 fun y => B (0, 0 + y.2.2) : FVec Ideal S1x8192x2048 .f32) := by
  funext y
  have h2 : (y 2).val < 2048 := (y 2).isLt
  rw [val_main_v14_apply, val_main_v13_apply, val_main_v12_apply, val_main_v11_apply]
  show B (0, (y 2).val % 2048) = B (0, 0 + (y 2).val)
  rw [Nat.mod_eq_of_lt h2, zero_add]
theorem v25_ex : val_main_v25 (F := Ideal) (ex (φ := .f32) i2 B) = (ex i3 fun y => B (0, 2048 + y.2.2) : FVec Ideal S1x8192x2048 .f32) := by
  funext y
  have h2 : (y 2).val < 2048 := (y 2).isLt
  rw [val_main_v25_apply, val_main_v24_apply, val_main_v23_apply, val_main_v22_apply]
  show B (0, 2048 + (y 2).val % 2048) = B (0, 2048 + (y 2).val)
  rw [Nat.mod_eq_of_lt h2]

/-- The sigmoid, spelt out. -/
theorem sigmoid (one z : EReal) (h : one = 1) : Ideal.div one (one + Ideal.exp (-z)) = Ideal.logistic z := by
  subst h
  rfl

theorem v21_ex : val_main_v21 (F := Ideal) (ex (φ := .f32) i2 X) (ex (φ := .f32) i2 W) (ex (φ := .f32) i2 B)
    = (ex i3 fun y => gateA X W B y.2 : FVec Ideal S1x8192x2048 .f32) := by
  funext y
  refine (sigmoid (Ideal.ofBits .f32 0x3F800000#32) (val_main_v15 (F := Ideal) (ex (φ := .f32) i2 X) (ex (φ := .f32) i2 W) (ex (φ := .f32) i2 B) y)
    Ideal.ofBits_one_f32).trans (congrArg Ideal.logistic ?_)
  show val_main_v9 (F := Ideal) (ex (φ := .f32) i2 X) (ex (φ := .f32) i2 W) y + val_main_v14 (F := Ideal) (ex (φ := .f32) i2 B) y = _
  rw [val_main_v9_apply, v1_ex, v14_ex]
  rfl
theorem v32_ex : val_main_v32 (F := Ideal) (ex (φ := .f32) i2 X) (ex (φ := .f32) i2 W) (ex (φ := .f32) i2 B)
    = (ex i3 fun y => gateB X W B y.2 : FVec Ideal S1x8192x2048 .f32) := by
  funext y
  refine (sigmoid (Ideal.ofBits .f32 0x3F800000#32) (val_main_v26 (F := Ideal) (ex (φ := .f32) i2 X) (ex (φ := .f32) i2 W) (ex (φ := .f32) i2 B) y)
    Ideal.ofBits_one_f32).trans (congrArg Ideal.logistic ?_)
  show val_main_v10 (F := Ideal) (ex (φ := .f32) i2 X) (ex (φ := .f32) i2 W) y + val_main_v25 (F := Ideal) (ex (φ := .f32) i2 B) y = _
  rw [val_main_v10_apply, v1_ex, v25_ex]
  rfl
theorem v41_ex : val_main_v41 (F := Ideal) (ex (φ := .f32) i2 X) (ex (φ := .bf16) i2 Ya) (ex (φ := .bf16) i2 Yb) (ex (φ := .f32) i2 W)
      (ex (φ := .f32) i2 Wa) (ex (φ := .f32) i2 Wb) (ex (φ := .f32) i2 B)
    = (ex i3 fun y => merged X Ya Yb W Wa Wb B y.2 : FVec Ideal S1x8192x2048 .f32) := by
  unfold val_main_v41 val_main_v39 val_main_v40
  rw [v21_ex, v32_ex, v35_ex, v38_ex]
  rfl

/-- An array over one sequence, as an array over its tokens. -/
theorem drop (f : ℕ × ℕ → EReal) (y : S8192x2048.Idx) (z : S1x8192x2048.Idx)
    (h1 : (z 1).val = ((y 0).val * 2048 + (y 1).val) / 2048 % 8192) (h2 : (z 2).val = ((y 0).val * 2048 + (y 1).val) % 2048) :
    (ex i3 fun y => f y.2 : FVec Ideal S1x8192x2048 .f32) z = f ((y 0).val, (y 1).val) := by
  have h0 : (y 0).val < 8192 := (y 0).isLt
  have h3 : (y 1).val < 2048 := (y 1).isLt
  show f ((z 1).val, (z 2).val) = _
  rw [h1, h2, show ((y 0).val * 2048 + (y 1).val) / 2048 % 8192 = (y 0).val by omega,
    show ((y 0).val * 2048 + (y 1).val) % 2048 = (y 1).val by omega]

/-! The five results. -/
theorem ref43 : val_main_v43 (F := Ideal) (ex (φ := .f32) i2 X) (ex (φ := .f32) i2 W) (ex (φ := .f32) i2 B)
    = (ex i2 (gateA X W B) : FVec Ideal S8192x2048 .bf16) := by
  funext y
  show val_main_v42 (F := Ideal) (ex (φ := .f32) i2 X) (ex (φ := .f32) i2 W) (ex (φ := .f32) i2 B) y = _
  rw [val_main_v42_apply, v21_ex]
  exact drop (gateA X W B) y _ rfl rfl
theorem ref45 : val_main_v45 (F := Ideal) (ex (φ := .f32) i2 X) (ex (φ := .f32) i2 W) (ex (φ := .f32) i2 B)
    = (ex i2 (gateB X W B) : FVec Ideal S8192x2048 .bf16) := by
  funext y
  show val_main_v44 (F := Ideal) (ex (φ := .f32) i2 X) (ex (φ := .f32) i2 W) (ex (φ := .f32) i2 B) y = _
  rw [val_main_v44_apply, v32_ex]
  exact drop (gateB X W B) y _ rfl rfl
theorem ref47 : val_main_v47 (F := Ideal) (ex (φ := .bf16) i2 Ya) (ex (φ := .f32) i2 Wa)
    = (ex i2 (proj Ya Wa) : FVec Ideal S8192x2048 .bf16) := by
  funext y
  show val_main_v46 (F := Ideal) (ex (φ := .bf16) i2 Ya) (ex (φ := .f32) i2 Wa) y = _
  rw [val_main_v46_apply, v35_ex]
  exact drop (proj Ya Wa) y _ rfl rfl
theorem ref49 : val_main_v49 (F := Ideal) (ex (φ := .bf16) i2 Yb) (ex (φ := .f32) i2 Wb)
    = (ex i2 (proj Yb Wb) : FVec Ideal S8192x2048 .bf16) := by
  funext y
  show val_main_v48 (F := Ideal) (ex (φ := .bf16) i2 Yb) (ex (φ := .f32) i2 Wb) y = _
  rw [val_main_v48_apply, v38_ex]
  exact drop (proj Yb Wb) y _ rfl rfl
theorem ref51 : val_main_v51 (F := Ideal) (ex (φ := .f32) i2 X) (ex (φ := .bf16) i2 Ya) (ex (φ := .bf16) i2 Yb) (ex (φ := .f32) i2 W) (ex (φ := .f32) i2 Wa) (ex (φ := .f32) i2 Wb) (ex (φ := .f32) i2 B)
    = (ex i2 (merged X Ya Yb W Wa Wb B) : FVec Ideal S8192x2048 .bf16) := by
  funext y
  show val_main_v50 (F := Ideal) (ex (φ := .f32) i2 X) (ex (φ := .bf16) i2 Ya) (ex (φ := .bf16) i2 Yb) (ex (φ := .f32) i2 W) (ex (φ := .f32) i2 Wa) (ex (φ := .f32) i2 Wb) (ex (φ := .f32) i2 B) y = _
  rw [val_main_v50_apply, v41_ex]
  exact drop (merged X Ya Yb W Wa Wb B) y _ rfl rfl

end Merge

end
-- ==== Proof.Calls.lean ====
/- The claims about the calls that give the weights' gradients, the input's gradient and the merge of the mixers:
   their frames, and the equality of each one's results with its reference's. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.GradWIn
public import proofs.«01_k».proof.Proof.GradWInRef
public import proofs.«01_k».proof.Proof.GradWOa
public import proofs.«01_k».proof.Proof.GradWOaRef
public import proofs.«01_k».proof.Proof.GradXTail
public import proofs.«01_k».proof.Proof.GradXTailRef
public import proofs.«01_k».proof.Proof.MergeFwd
public import proofs.«01_k».proof.Proof.MergeFwdRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Mixer

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts

/-! Each reference leaves its arguments as they were, and has no semaphore. -/

theorem frame2 : Cert.quiescent_Reference2Ideal := fun m g _ =>
  (θ_run _ _ _).mono (fun _ h => ⟨fun c => (h c).2, sem_eq_zero_of_no_sems rfl _⟩) (Cert.Reference2Ideal.Value.run m g)

theorem frame3 : Cert.quiescent_Reference3Ideal := fun m g _ =>
  (θ_run _ _ _).mono (fun _ h => ⟨fun c => (h c).2, sem_eq_zero_of_no_sems rfl _⟩) (Cert.Reference3Ideal.Value.run m g)

theorem frame4 : Cert.quiescent_Reference4Ideal := fun m g _ =>
  (θ_run _ _ _).mono (fun _ h => ⟨fun c => (h c).2, sem_eq_zero_of_no_sems rfl _⟩) (Cert.Reference4Ideal.Value.run m g)

theorem frame5 : Cert.quiescent_Reference5Ideal := fun m g _ =>
  (θ_run _ _ _).mono (fun _ h => ⟨fun c => (h c).2.2.2.2.2, sem_eq_zero_of_no_sems rfl _⟩) (Cert.Reference5Ideal.Value.run m g)

/-- From the same arguments the kernel and the reference leave the same array: the gradient of `w_in`. -/
theorem algebraic2 : Cert.algebraic_Kernel2Ideal_Reference2Ideal := fun m g m' g' _ hag => by
  refine ⟨_, Cert.Kernel2Ideal.Value.run m g, ?_⟩
  refine (θ_run _ _ _).mono (fun r h c => ?_) (Cert.Reference2Ideal.Value.run m' g')
  obtain ⟨r0, hargs⟩ := h c
  refine ⟨r0.trans ?_, hargs⟩
  have a := hag c
  obtain ⟨X, hX⟩ := ex_of i2_inj (m ((c.tc : Thread Cert.Kernel2Ideal.nD Cert.Kernel2Ideal.τ).loc Cert.Kernel2Ideal.main_arg0))
  obtain ⟨P, hP⟩ := ex_of i3_inj (m ((c.tc : Thread Cert.Kernel2Ideal.nD Cert.Kernel2Ideal.τ).loc Cert.Kernel2Ideal.main_arg1))
  refine (Cert.Reference2Ideal.Read.val_main_v34_eq _ _).trans ?_
  exact (congrArg₂ Cert.Reference2Ideal.Read.val_main_v34 (a.1.trans hX) (a.2.trans hP)).trans
    ((GradWIn.reference_eq X P).trans (GradWIn.kernel_eq hX hP).symm)

/-- From the same arguments the kernel and the reference leave the same array: the gradient of an output projection. -/
theorem algebraic3 : Cert.algebraic_Kernel3Ideal_Reference3Ideal := fun m g m' g' _ hag => by
  refine ⟨_, Cert.Kernel3Ideal.Value.run m g, ?_⟩
  refine (θ_run _ _ _).mono (fun r h c => ?_) (Cert.Reference3Ideal.Value.run m' g')
  obtain ⟨r0, hargs⟩ := h c
  refine ⟨r0.trans ?_, hargs⟩
  have a := hag c
  obtain ⟨X, hX⟩ := ex_of i2_inj (m ((c.tc : Thread Cert.Kernel3Ideal.nD Cert.Kernel3Ideal.τ).loc Cert.Kernel3Ideal.main_arg0))
  obtain ⟨P, hP⟩ := ex_of i2_inj (m ((c.tc : Thread Cert.Kernel3Ideal.nD Cert.Kernel3Ideal.τ).loc Cert.Kernel3Ideal.main_arg1))
  refine (Cert.Reference3Ideal.Read.val_main_v8_eq _ _).trans ?_
  exact (congrArg₂ Cert.Reference3Ideal.Read.val_main_v8 (a.1.trans hX) (a.2.trans hP)).trans
    ((GradWOa.reference_eq X P).trans (GradWOa.kernel_eq hX hP).symm)

/-- From the same arguments the kernel and the reference leave the same array: the input's gradient. -/
theorem algebraic4 : Cert.algebraic_Kernel4Ideal_Reference4Ideal := fun m g m' g' _ hag => by
  refine ⟨_, Cert.Kernel4Ideal.Value.run_blocks m g, ?_⟩
  refine (θ_run _ _ _).mono (fun r h c => ?_) (Cert.Reference4Ideal.Value.run m' g')
  obtain ⟨r0, hargs⟩ := h c
  refine ⟨r0.trans ?_, hargs⟩
  have a := hag c
  obtain ⟨P, hP⟩ := ex_of i3_inj (m ((c.tc : Thread Cert.Kernel4Ideal.nD Cert.Kernel4Ideal.τ).loc Cert.Kernel4Ideal.main_arg0))
  obtain ⟨W, hW⟩ := ex_of i2_inj (m ((c.tc : Thread Cert.Kernel4Ideal.nD Cert.Kernel4Ideal.τ).loc Cert.Kernel4Ideal.main_arg1))
  obtain ⟨S, hS⟩ := ex_of i2_inj (m ((c.tc : Thread Cert.Kernel4Ideal.nD Cert.Kernel4Ideal.τ).loc Cert.Kernel4Ideal.main_arg2))
  refine (Cert.Reference4Ideal.Read.val_main_v24_eq _ _ _).trans ?_
  exact (congr (congrArg₂ Cert.Reference4Ideal.Read.val_main_v24 (a.1.trans hP) (a.2.1.trans hW)) (a.2.2.trans hS)).trans
    ((GradXTail.reference_eq P W S).trans (GradXTail.kernel_eq hP hW hS).symm)

/-- From the same arguments the kernel and the reference leave the same five arrays: the two gates, the two mixers'
projections, and the gated sum. -/
theorem algebraic5 : Cert.algebraic_Kernel5Ideal_Reference5Ideal := fun m g m' g' _ hag => by
  refine ⟨_, _, _, _, _, Cert.Kernel5Ideal.Value.run_blocks m g, ?_⟩
  refine (θ_run _ _ _).mono (fun r h c => ?_) (Cert.Reference5Ideal.Value.run m' g')
  obtain ⟨r0, r1, r2, r3, r4, hargs⟩ := h c
  obtain ⟨a0, a1, a2, a3, a4, a5, a6⟩ := hag c
  obtain ⟨X, hX⟩ := ex_of i2_inj (m ((c.tc : Thread Cert.Kernel5Ideal.nD Cert.Kernel5Ideal.τ).loc Cert.Kernel5Ideal.main_arg0))
  obtain ⟨Ya, hYa⟩ := ex_of i2_inj (m ((c.tc : Thread Cert.Kernel5Ideal.nD Cert.Kernel5Ideal.τ).loc Cert.Kernel5Ideal.main_arg1))
  obtain ⟨Yb, hYb⟩ := ex_of i2_inj (m ((c.tc : Thread Cert.Kernel5Ideal.nD Cert.Kernel5Ideal.τ).loc Cert.Kernel5Ideal.main_arg2))
  obtain ⟨W, hW⟩ := ex_of i2_inj (m ((c.tc : Thread Cert.Kernel5Ideal.nD Cert.Kernel5Ideal.τ).loc Cert.Kernel5Ideal.main_arg3))
  obtain ⟨Wa, hWa⟩ := ex_of i2_inj (m ((c.tc : Thread Cert.Kernel5Ideal.nD Cert.Kernel5Ideal.τ).loc Cert.Kernel5Ideal.main_arg4))
  obtain ⟨Wb, hWb⟩ := ex_of i2_inj (m ((c.tc : Thread Cert.Kernel5Ideal.nD Cert.Kernel5Ideal.τ).loc Cert.Kernel5Ideal.main_arg5))
  obtain ⟨B, hB⟩ := ex_of i2_inj (m ((c.tc : Thread Cert.Kernel5Ideal.nD Cert.Kernel5Ideal.τ).loc Cert.Kernel5Ideal.main_arg6))
  refine ⟨r0.trans ?_, r1.trans ?_, r2.trans ?_, r3.trans ?_, r4.trans ?_, hargs⟩
  · refine (Cert.Reference5Ideal.Read.val_main_v43_eq _ _ _).trans ?_
    exact (congr (congrArg₂ Cert.Reference5Ideal.Read.val_main_v43 (a0.trans hX) (a3.trans hW)) (a6.trans hB)).trans
      ((Merge.ref43 X W B).trans (Merge.arr9 hX hW hB).symm)
  · refine (Cert.Reference5Ideal.Read.val_main_v45_eq _ _ _).trans ?_
    exact (congr (congrArg₂ Cert.Reference5Ideal.Read.val_main_v45 (a0.trans hX) (a3.trans hW)) (a6.trans hB)).trans
      ((Merge.ref45 X W B).trans (Merge.arr10 hX hW hB).symm)
  · refine (Cert.Reference5Ideal.Read.val_main_v47_eq _ _).trans ?_
    exact (congrArg₂ Cert.Reference5Ideal.Read.val_main_v47 (a1.trans hYa) (a4.trans hWa)).trans
      ((Merge.ref47 Ya Wa).trans (Merge.arr11 hYa hWa).symm)
  · refine (Cert.Reference5Ideal.Read.val_main_v49_eq _ _).trans ?_
    exact (congrArg₂ Cert.Reference5Ideal.Read.val_main_v49 (a2.trans hYb) (a5.trans hWb)).trans
      ((Merge.ref49 Yb Wb).trans (Merge.arr12 hYb hWb).symm)
  · refine (Cert.Reference5Ideal.Read.val_main_v51_eq _ _ _ _ _ _ _).trans ?_
    exact (congr (congr (congr (congr (congr (congrArg₂ Cert.Reference5Ideal.Read.val_main_v51 (a0.trans hX) (a1.trans hYa)) (a2.trans hYb)) (a3.trans hW)) (a4.trans hWa)) (a5.trans hWb)) (a6.trans hB)).trans
      ((Merge.ref51 X Ya Yb W Wa Wb B).trans (Merge.arr13 hX hYa hYb hW hWa hWb hB).symm)

end Cert.Proof

end
-- ==== Proof.OutLnSpec.lean ====
/- The end of the forward pass and the start of the backward one, as functions of real numbers: the gated merge, the output
   projection with the scaled residual, the layer norm, the error, and the gradients back to the two mixers and their gates. -/
module

public import proofs.«01_k».proof.Proof.Lift
public import Mathlib.Algebra.BigOperators.Fin

@[expose] public section

noncomputable section

namespace OutLn

open Mixer

/-- The factor of the residual, as the two programs hold it. -/
def alpha : ℝ := 9975792 / 8388608

/-- The arguments. -/
structure Inp where
  ga : ℕ × ℕ → ℝ
  gb : ℕ × ℕ → ℝ
  bg : ℕ × ℕ → ℝ
  pa : ℕ × ℕ → ℝ
  pb : ℕ × ℕ → ℝ
  w : ℕ × ℕ → ℝ
  x : ℕ × ℕ → ℝ
  t : ℕ × ℕ → ℝ
  lg : ℕ × ℕ → ℝ
  lb : ℕ × ℕ → ℝ

namespace Inp
variable (D : Inp) (k : ℕ × ℕ) (i : ℕ)

def sa : ℝ := sig (D.ga k + D.bg (0, k.2))
def sb : ℝ := sig (D.gb k + D.bg (0, 2048 + k.2))
def mg : ℝ := D.sa k * D.pa k + D.sb k * D.pb k
def z : ℝ := alpha * D.x k + ∑ d : Fin 2048, D.mg (k.1, d.val) * D.w (d.val, k.2)
def mu : ℝ := (∑ e : Fin 2048, D.z (i, e.val)) / 2048
def dc : ℝ := D.z k - D.mu k.1
def var : ℝ := (∑ e : Fin 2048, D.dc (i, e.val) * D.dc (i, e.val)) / 2048
def rs : ℝ := (Real.sqrt (D.var i + eps))⁻¹
def xh : ℝ := D.dc k * D.rs k.1
def er : ℝ := D.xh k * D.lg (0, k.2) + D.lb (0, k.2) - D.t k
def dy : ℝ := D.er k * (1 / 2048)
def dxh : ℝ := D.dy k * D.lg (0, k.2)
def m1 : ℝ := (∑ e : Fin 2048, D.dxh (i, e.val)) / 2048
def m2 : ℝ := (∑ e : Fin 2048, D.dxh (i, e.val) * D.xh (i, e.val)) / 2048
def dz : ℝ := D.rs k.1 * (D.dxh k - D.m1 k.1 - D.xh k * D.m2 k.1)
def dm : ℝ := ∑ d : Fin 2048, D.dz (k.1, d.val) * D.w (k.2, d.val)
def da : ℝ := D.dm k * D.sa k
def db : ℝ := D.dm k * D.sb k
def dga : ℝ := D.da k * D.pa k * (1 - D.sa k)
def dgb : ℝ := D.db k * D.pb k * (1 - D.sb k)
/-- A column's sum over all tokens. -/
def tok (f : ℕ × ℕ → ℝ) (e : ℕ) : ℝ := ∑ r : Fin 8192, f (r.val, e)

theorem var_pos : 0 < D.var i + eps := by
  have h : 0 ≤ D.var i := div_nonneg (Finset.sum_nonneg fun e _ => mul_self_nonneg _) (by norm_num)
  linarith [eps_pos]

/-- The centred rows sum to zero. -/
theorem sum_dc : ∑ e : Fin 2048, D.dc (i, e.val) = 0 := by
  simp only [dc, Finset.sum_sub_distrib, Finset.sum_const, Finset.card_univ, Fintype.card_fin, nsmul_eq_mul, mu]
  push_cast
  ring

theorem rs_cube : D.rs i / (D.var i + eps) = D.rs i * (D.rs i * D.rs i) := by
  have h : D.rs i * D.rs i = (D.var i + eps)⁻¹ := by
    rw [rs, ← mul_inv, Real.mul_self_sqrt (D.var_pos i).le]
  rw [h, div_eq_mul_inv]

/-- The gradient before the layer norm, as differentiating its lines one by one gives it. -/
def dzRef : ℝ :=
  let c : ℝ := (∑ e : Fin 2048, D.dc (k.1, e.val) * D.dxh (k.1, e.val)) * (-(1 / 2) * (D.rs k.1 / (D.var k.1 + eps))) / 2048
  D.dxh k * D.rs k.1 + c * (2 * D.dc k)
    + (∑ e : Fin 2048, -(D.dxh (k.1, e.val) * D.rs k.1) + ∑ e : Fin 2048, -(c * (2 * D.dc (k.1, e.val)))) / 2048

theorem dz_eq : D.dzRef k = D.dz k := by
  have h0 : ∀ c : ℝ, ∑ e : Fin 2048, -(c * (2 * D.dc (k.1, e.val))) = 0 := fun c => by
    rw [Finset.sum_neg_distrib, ← Finset.mul_sum, ← Finset.mul_sum, D.sum_dc, mul_zero, mul_zero, neg_zero]
  have h1 : ∑ e : Fin 2048, -(D.dxh (k.1, e.val) * D.rs k.1) = -((∑ e : Fin 2048, D.dxh (k.1, e.val)) * D.rs k.1) := by
    rw [Finset.sum_neg_distrib, Finset.sum_mul]
  have h2 : ∑ e : Fin 2048, D.dxh (k.1, e.val) * D.xh (k.1, e.val)
      = (∑ e : Fin 2048, D.dc (k.1, e.val) * D.dxh (k.1, e.val)) * D.rs k.1 := by
    rw [Finset.sum_mul]
    exact Finset.sum_congr rfl fun e _ => by rw [xh]; ring
  unfold dzRef dz m1 m2
  dsimp only
  rw [h0, h1, h2, rs_cube, xh]
  ring
end Inp

/-- The steps' sums of a column, folded eight rows apart and summed at the end, are its sum over all tokens. -/
theorem sum_steps (f : ℕ → ℝ) :
    ∑ s : Fin 8, ∑ n ∈ Finset.range 32, ∑ q : Fin 32, f (256 * n + (q.val * 8 + s.val)) = ∑ r : Fin 8192, f r.val := by
  have hF : ∀ (a b : ℕ) (g : ℕ → ℝ), ∑ r ∈ Finset.range (a * b), g r = ∑ n ∈ Finset.range a, ∑ s ∈ Finset.range b, g (b * n + s) := by
    intro a b g
    induction a with
    | zero => simp
    | succ a ih =>
      rw [Nat.succ_mul, Finset.sum_range_add g (a * b) b, ih, Finset.sum_range_succ]
      refine congrArg₂ (· + ·) rfl (Finset.sum_congr rfl fun s _ => ?_)
      rw [Nat.mul_comm]
  rw [Fin.sum_univ_eq_sum_range (fun r => f r) 8192, show (8192 : ℕ) = 32 * 256 from rfl, hF,
    Fin.sum_univ_eq_sum_range (fun s => ∑ n ∈ Finset.range 32, ∑ q : Fin 32, f (256 * n + (q.val * 8 + s))) 8, Finset.sum_comm]
  refine Finset.sum_congr rfl fun n _ => ?_
  rw [show (256 : ℕ) = 32 * 8 from rfl, hF]
  refine Finset.sum_comm.trans ?_
  rw [← Fin.sum_univ_eq_sum_range (fun q => ∑ s ∈ Finset.range 8, f (32 * 8 * n + (8 * q + s))) 32]
  exact Finset.sum_congr rfl fun q _ => Finset.sum_congr rfl fun s _ => by rw [Nat.mul_comm q.val 8]

end OutLn

end
-- ==== Proof.OutLnStep.lean ====
/- One step of the kernel that ends the forward pass and starts the backward one (`out_ln_loss`): what its body leaves in each
   result's block and in the five accumulators, at the first step, at the steps between and at the last one. -/
module

public import proofs.«01_k».proof.Proof.Gen.Kernel6Ideal.Frame.Runs
public import Idealize.ShloMosaic.Lib.WritesUnit
public import Idealize.ShloMosaic.Lib.Pipeline.Value
public import Idealize.ShloMosaic.Lib.Pipeline.ValueKit.Acc

@[expose] public section

set_option maxRecDepth 16384

noncomputable section

namespace OutLn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen

variable {F : FTy → Type} [FloatOps F]

local notation "𝕄" => MT nD τ sig Unit (Elt F) ℕ (UR sig nD τ) ℕ

/-- The blocks that a step reads: the merged mixers, the output projection, the layer's input, the target, the layer norm's
    gain and bias, the two gates and the two mixers' projections. -/
structure Ins (F : FTy → Type) where
  x0 : Vec F S256x2048 .bf16
  x1 : Vec F S2048x2048 .bf16
  x2 : Vec F S256x2048 .f32
  x3 : Vec F S256x2048 .f32
  x4 : Vec F S1x2048 .f32
  x5 : Vec F S1x2048 .f32
  x6 : Vec F S256x2048 .bf16
  x7 : Vec F S256x2048 .bf16
  x8 : Vec F S256x2048 .bf16
  x9 : Vec F S256x2048 .bf16

/-- The five accumulators: of the gradients of the layer norm's gain and bias, of the squared errors, and of the gradients of
    the two gates' biases. -/
structure Scr (F : FTy → Type) where
  s0 : Vec F S8x2048 .f32
  s1 : Vec F S8x2048 .f32
  s2 : Vec F S8x2048 .f32
  s3 : Vec F S8x2048 .f32
  s4 : Vec F S8x2048 .f32

section
variable (x : Ins F)
/-! The values that a step works out. -/
abbrev rsB : Vec F S256x1 .f32 := k0_pay13 x.x2 x.x0 x.x1
abbrev xhB : Vec F S256x2048 .f32 := k0_pay14 x.x2 x.x0 x.x1
abbrev xgB : Vec F S256x2048 .f32 := k0_pay15 x.x2 x.x0 x.x1 x.x4
abbrev dxhB : Vec F S256x2048 .f32 := k0_pay21 x.x4 (xgB x) x.x5 x.x3
abbrev m1B : Vec F S256x1 .f32 := k0_pay22 x.x4 (xgB x) x.x5 x.x3
abbrev dxB : Vec F S256x2048 .f32 := k0_pay23 (xhB x) x.x4 (xgB x) x.x5 x.x3
abbrev daB : Vec F S256x2048 .f32 := k0_pay34 (rsB x) (xhB x) (dxhB x) (m1B x) (dxB x) x.x1 x.x6 x.x8
abbrev dbB : Vec F S256x2048 .f32 := k0_pay31 (rsB x) (xhB x) (dxhB x) (m1B x) (dxB x) x.x1 x.x7

/-- A place of either half, within its half. -/
def inHalf (y : S2x256x2048.Idx) : S1x256x2048.Idx := fun a =>
  match a with | ⟨0, _⟩ => ⟨0, Nat.one_pos⟩ | ⟨1, _⟩ => y 1 | ⟨2, _⟩ => y 2

/-! What it stores in the blocks of the first six results. -/
def o10 : Vec F S256x2048 .bf16 := k0_pay25 (rsB x) (xhB x) (dxhB x) (m1B x) (dxB x)
def o11 : Vec F S256x2048 .f32 := k0_pay26 (rsB x) (xhB x) (dxhB x) (m1B x) (dxB x)
def o12 : Vec F S256x2048 .bf16 := k0_pay6 x.x2
def o13 : Vec F S256x2048 .bf16 := k0_pay32 (rsB x) (xhB x) (dxhB x) (m1B x) (dxB x) x.x1 x.x6
def o14 : Vec F S256x2048 .bf16 := k0_pay33 (rsB x) (xhB x) (dxhB x) (m1B x) (dxB x) x.x1 x.x7
def o15a : Vec F S1x256x2048 .bf16 := k0_pay38 (k0_pay28 x.x6) (daB x) k0_pay35
def o15b : Vec F S1x256x2048 .bf16 := k0_pay39 (k0_pay29 x.x7) (dbB x) x.x9
def o15 : Vec F S2x256x2048 .bf16 := fun y =>
  if (y 0).val = 0 then o15a x (inHalf y)
  else o15b x (inHalf y)

/-- What it leaves in the accumulators, from what they held. -/
def step (s : Scr F) : Scr F where
  s0 := k0_pay19 (xhB x) (xgB x) x.x5 x.x3 s.s0
  s1 := k0_pay20 (xgB x) x.x5 x.x3 s.s1
  s2 := k0_pay18 (xgB x) x.x5 x.x3 s.s2
  s3 := k0_pay40 (k0_pay28 x.x6) (daB x) k0_pay35 s.s3
  s4 := k0_pay41 (k0_pay29 x.x7) (dbB x) x.x9 s.s4
end

/-- The accumulators before the first step. -/
def zeros : Scr F := ⟨k0_pay7, k0_pay8, k0_pay9, k0_pay10, k0_pay11⟩

/-- A buffer whose last store covered it reads what was stored. -/
theorem read_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  funext y
  obtain ⟨z, rfl⟩ := (Rect.unit off S.size inb).exists_idx_of_mem (View.mem_set_unit_zero h inb y)
  subst h
  exact (View.read_writes_cons_emb ..).trans (congrArg w (Rect.emb_whole_apply ..).symm)

theorem hz2 : (![0, 0] : Fin 2 → ℕ) = fun _ => 0 := funext fun a => match a with | ⟨0, _⟩ => rfl | ⟨1, _⟩ => rfl

/-- A buffer of two halves, each stored once. -/
theorem read_halves {κ : Kind} {sp : Space} (v : View sig κ sp S2x256x2048 .bf16) (f : v.ty.Contents (Elt F))
    (inb0 : ∀ a, (![0, 0, 0] : Fin 3 → ℕ) a + S1x256x2048.size a ≤ S2x256x2048.size a)
    (inb1 : ∀ a, (![1, 0, 0] : Fin 3 → ℕ) a + S1x256x2048.size a ≤ S2x256x2048.size a) (w0 w1 : Vec F S1x256x2048 .bf16) :
    v.read (Elt F) (v.writes (Elt F) f [(⟨Rect.unit ![1, 0, 0] S1x256x2048.size inb1, w1⟩ : View.Piece (Elt F) S2x256x2048 .bf16),
        ⟨Rect.unit ![0, 0, 0] S1x256x2048.size inb0, w0⟩])
      = fun y => if (y 0).val = 0 then w0 (inHalf y)
          else w1 (inHalf y) := by
  funext y
  by_cases h : (y 0).val = 0
  · rw [if_pos h, View.read_writes_cons_unit_of_not_mem v f inb1 w1 _ y rfl 0 (Or.inl (by rw [h]; decide))]
    exact View.read_writes_cons_unit_of_mem v f inb0 w0 [] y
      (inHalf y) rfl fun a =>
        match a with
        | ⟨0, _⟩ => h
        | ⟨1, _⟩ => (Nat.zero_add _).symm
        | ⟨2, _⟩ => (Nat.zero_add _).symm
  · rw [if_neg h]
    exact View.read_writes_cons_unit_of_mem v f inb1 w1 _ y
      (inHalf y) rfl fun a =>
        match a with
        | ⟨0, _⟩ => by
          have h2 : (y 0).val < 2 := (y 0).isLt
          show (y 0).val = 1 + 0
          omega
        | ⟨1, _⟩ => (Nat.zero_add _).symm
        | ⟨2, _⟩ => (Nat.zero_add _).symm

end OutLn

end
-- ==== Proof.OutLnVal.lean ====
/- What a step of the kernel that ends the forward pass and starts the backward one works out, on blocks of real numbers. -/
module

public import proofs.«01_k».proof.Proof.OutLnSpec
public import proofs.«01_k».proof.Proof.OutLnStep
public import proofs.«01_k».proof.Proof.ChunkVal

@[expose] public section

set_option maxRecDepth 16384

noncomputable section

namespace OutLn

open Idealize.ShloMosaic Idealize.SL.Sem Cert.Kernel6Ideal Cert.Kernel6Ideal.Gen Mixer

theorem lit_alpha : (Scalar.ofBits .f32 0x3F9837F0#32 : Ideal .f32) = re alpha := by
  show Ideal.ofBits .f32 _ = ((alpha : ℝ) : EReal); simp [Ideal.ofBits, Ideal.ieee, -EReal.coe_mul, alpha]; norm_num
theorem lit_2048 : (Scalar.ofBits .f32 0x45000000#32 : Ideal .f32) = re 2048 := by
  show Ideal.ofBits .f32 _ = ((2048 : ℝ) : EReal); simp [Ideal.ofBits, Ideal.ieee, -EReal.coe_mul]; norm_num
theorem lit_inv2048 : (Scalar.ofBits .f32 0x3A000000#32 : Ideal .f32) = re (1 / 2048) := by
  show Ideal.ofBits .f32 _ = ((1 / 2048 : ℝ) : EReal); simp [Ideal.ofBits, Ideal.ieee, -EReal.coe_mul]; norm_num

/-- The rows from `o` on, and their values that are the same in every column. -/
abbrev bl (o : ℕ) (f : ℕ × ℕ → ℝ) : FVec Ideal S256x2048 .f32 := ar i2 fun k => f (o + k.1, k.2)
abbrev bh (o : ℕ) (f : ℕ × ℕ → ℝ) : FVec Ideal S256x2048 .bf16 := ar i2 fun k => f (o + k.1, k.2)
/-- The weights, and a row that is the same for every token. -/
abbrev wh (f : ℕ × ℕ → ℝ) : FVec Ideal S2048x2048 .bf16 := ar i2 f
abbrev ln (f : ℕ × ℕ → ℝ) : FVec Ideal S1x2048 .f32 := ar i2 f
abbrev bc (o : ℕ) (f : ℕ → ℝ) : FVec Ideal S256x1 .f32 := ar i2 fun k => f (o + k.1)

theorem matmul_w {φ₁ φ₂ : FTy} (f g : ℕ × ℕ → ℝ) :
    matmul dot_S256x2048_S2048x2048_S256x2048_1_0_0_1_n_n none (ar (φ := φ₁) i2 f) (ar (φ := φ₂) i2 g) (constant S256x2048 .f32 0x00000000#32)
      = ar i2 fun k => ∑ q : Fin 2048, f (k.1, q.val) * g (q.val, k.2) :=
  matmul_ar _ rfl rfl (fun k q => (k.1, q)) (fun k q => (q, k.2)) (fun _ _ => rfl) (fun _ _ => rfl) none f g
theorem matmul_wT {φ₁ φ₂ : FTy} (f g : ℕ × ℕ → ℝ) :
    matmul dot_S256x2048_S2048x2048_S256x2048_1_1_0_0_n_n none (ar (φ := φ₁) i2 f) (ar (φ := φ₂) i2 g) (constant S256x2048 .f32 0x00000000#32)
      = ar i2 fun k => ∑ q : Fin 2048, f (k.1, q.val) * g (k.2, q.val) :=
  matmul_ar _ rfl rfl (fun k q => (k.1, q)) (fun k q => (k.2, q)) (fun _ _ => rfl) (fun _ _ => rfl) none f g

theorem rowSum (f : ℕ × ℕ → ℝ) :
    multiReduction (F := Ideal) .add [1] S256 (ar (φ := .f32) i2 f) 0x00000000#32 reduces_S256x2048_S256 (.inl rfl) rfl
      = ar i1 fun r => ∑ d : Fin 2048, f (r, d.val) := multiReduction_last _ _ _ _ _
theorem colSum (f : ℕ × ℕ → ℝ) :
    multiReduction (F := Ideal) .add [0] S2048 (ar (φ := .f32) i2 f) 0x00000000#32 reduces_S8x2048_S2048 (.inl rfl) rfl
      = ar i1 fun d => ∑ r : Fin 8, f (r.val, d) := multiReduction_first _ _ _ _ _
theorem foldSum (f : ℕ × ℕ × ℕ → ℝ) :
    multiReduction (F := Ideal) .add [0] S8x2048 (ar (φ := .f32) i3 f) 0x00000000#32 reduces_S32x8x2048_S8x2048 (.inl rfl) rfl
      = ar i2 fun k => ∑ q : Fin 32, f (q.val, k.1, k.2) := multiReduction_fold _ _ _ _ _

variable (D : Inp) (o : ℕ)

/-- The blocks of a step whose rows start at `o`. -/
def insD : Ins Ideal where
  x0 := bh o D.mg
  x1 := wh D.w
  x2 := bl o D.x
  x3 := bl o D.t
  x4 := ln D.lg
  x5 := ln D.lb
  x6 := bh o D.sa
  x7 := bh o D.sb
  x8 := bh o D.pa
  x9 := bh o D.pb

theorem pay12_bl : k0_pay12 (F := Ideal) (bl o D.x) (bh o D.mg) (wh D.w) = bl o D.dc := by
  unfold k0_pay12
  dsimp only
  rw [lit_alpha, lit_2048, broadcast_re, broadcast_re, shapeCast_self, shapeCast_self, matmul_w, mulf_cst_ar, addf_ar, rowSum,
    shapeCast_col, divf_ar_cst _ _ _ (by norm_num), broadcastTo_col, subf_ar]
  rfl
theorem pay13_bl : k0_pay13 (F := Ideal) (bl o D.x) (bh o D.mg) (wh D.w) = bc o D.rs := by
  unfold k0_pay13
  dsimp only
  rw [pay12_bl, lit_eps, lit_2048, broadcast_re, broadcast_re, mulf_ar, rowSum,
    shapeCast_col, divf_ar_cst _ _ _ (by norm_num), addf_ar_cst]
  exact rsqrt_ar (co := i2) (f := fun k : ℕ × ℕ => D.var (o + k.1) + eps) fun k => D.var_pos (o + k.1)
theorem pay14_bl : k0_pay14 (F := Ideal) (bl o D.x) (bh o D.mg) (wh D.w) = bl o D.xh := by
  unfold k0_pay14
  dsimp only
  rw [pay12_bl, pay13_bl, broadcastTo_col, mulf_ar]
  rfl
theorem pay15_bl : k0_pay15 (F := Ideal) (bl o D.x) (bh o D.mg) (wh D.w) (ln D.lg) = bl o fun k => D.xh k * D.lg (0, k.2) := by
  unfold k0_pay15
  dsimp only
  rw [pay14_bl, broadcastTo_row, mulf_ar]

/-- The values that a step works out. -/
theorem rsB_bl : rsB (insD D o) = bc o D.rs := pay13_bl D o
theorem xhB_bl : xhB (insD D o) = bl o D.xh := pay14_bl D o
theorem xgB_bl : xgB (insD D o) = bl o fun k => D.xh k * D.lg (0, k.2) := pay15_bl D o
theorem pay16_bl : k0_pay16 (F := Ideal) (bl o fun k => D.xh k * D.lg (0, k.2)) (ln D.lb) (bl o D.t) = bl o D.er := by
  unfold k0_pay16
  dsimp only
  rw [broadcastTo_row, addf_ar, subf_ar]
  rfl
theorem pay17_bl : k0_pay17 (F := Ideal) (bl o fun k => D.xh k * D.lg (0, k.2)) (ln D.lb) (bl o D.t) = bl o D.dy := by
  unfold k0_pay17
  dsimp only
  rw [pay16_bl, lit_inv2048, broadcast_re, mulf_ar_cst]
  rfl
theorem dxhB_bl : dxhB (insD D o) = bl o D.dxh := by
  unfold dxhB
  rw [xgB_bl]
  show k0_pay21 (F := Ideal) (ln D.lg) (bl o fun k => D.xh k * D.lg (0, k.2)) (ln D.lb) (bl o D.t) = _
  unfold k0_pay21
  dsimp only
  rw [pay17_bl, broadcastTo_row, mulf_ar]
  rfl
theorem m1B_bl : m1B (insD D o) = bc o D.m1 := by
  unfold m1B k0_pay22
  dsimp only
  rw [show k0_pay21 (F := Ideal) (insD D o).x4 (xgB (insD D o)) (insD D o).x5 (insD D o).x3 = bl o D.dxh from dxhB_bl D o,
    lit_2048, broadcast_re, rowSum, shapeCast_col, divf_ar_cst _ _ _ (by norm_num)]
  rfl
theorem dxB_bl : dxB (insD D o) = bl o fun k => D.dxh k * D.xh k := by
  unfold dxB k0_pay23
  dsimp only
  rw [show k0_pay21 (F := Ideal) (insD D o).x4 (xgB (insD D o)) (insD D o).x5 (insD D o).x3 = bl o D.dxh from dxhB_bl D o,
    xhB_bl, mulf_ar]

theorem pay24_bl : k0_pay24 (F := Ideal) (bc o D.rs) (bl o D.xh) (bl o D.dxh) (bc o D.m1) (bl o fun k => D.dxh k * D.xh k) = bl o D.dz := by
  unfold k0_pay24
  dsimp only
  rw [lit_2048, broadcast_re, rowSum, shapeCast_col, divf_ar_cst _ _ _ (by norm_num), broadcastTo_col, broadcastTo_col,
    broadcastTo_col, subf_ar, mulf_ar, subf_ar, mulf_ar]
  rfl
theorem o10_bl : o10 (insD D o) = bh o D.dz := by
  unfold o10 k0_pay25
  rw [rsB_bl, xhB_bl, dxhB_bl, m1B_bl, dxB_bl, pay24_bl]
  rfl
theorem o11_bl : o11 (insD D o) = bl o fun k => alpha * D.dz k := by
  unfold o11 k0_pay26
  dsimp only
  rw [rsB_bl, xhB_bl, dxhB_bl, m1B_bl, dxB_bl, pay24_bl, lit_alpha, broadcast_re, mulf_cst_ar]
theorem o12_bl : o12 (insD D o) = bh o D.x := rfl

theorem pay27_bl : k0_pay27 (F := Ideal) (bc o D.rs) (bl o D.xh) (bl o D.dxh) (bc o D.m1) (bl o fun k => D.dxh k * D.xh k) (wh D.w)
    = bl o D.dm := by
  unfold k0_pay27 k0_pay25
  dsimp only
  rw [pay24_bl, shapeCast_self, truncf_ar, matmul_wT]
  rfl
theorem pay28_bl (f : ℕ × ℕ → ℝ) : k0_pay28 (F := Ideal) (bh o f) = bl o f := by
  unfold k0_pay28
  dsimp only
  rw [shapeCast_self]
  rfl
theorem pay29_bl (f : ℕ × ℕ → ℝ) : k0_pay29 (F := Ideal) (bh o f) = bl o f := pay28_bl o f
theorem pay30_bl : k0_pay30 (F := Ideal) (bc o D.rs) (bl o D.xh) (bl o D.dxh) (bc o D.m1) (bl o fun k => D.dxh k * D.xh k) (wh D.w)
    (bh o D.sa) = bl o D.da := by
  unfold k0_pay30
  dsimp only
  rw [pay27_bl, pay28_bl, mulf_ar]
  rfl
theorem pay31_bl : k0_pay31 (F := Ideal) (bc o D.rs) (bl o D.xh) (bl o D.dxh) (bc o D.m1) (bl o fun k => D.dxh k * D.xh k) (wh D.w)
    (bh o D.sb) = bl o D.db := by
  unfold k0_pay31
  dsimp only
  rw [pay27_bl, pay29_bl, mulf_ar]
  rfl
theorem o13_bl : o13 (insD D o) = bh o D.da := by
  unfold o13 k0_pay32
  rw [rsB_bl, xhB_bl, dxhB_bl, m1B_bl, dxB_bl]
  exact congrArg (fun v => truncf .bf16 v bitsLt_bf16_f32) (pay30_bl D o)
theorem o14_bl : o14 (insD D o) = bh o D.db := by
  unfold o14 k0_pay33
  rw [rsB_bl, xhB_bl, dxhB_bl, m1B_bl, dxB_bl]
  exact congrArg (fun v => truncf .bf16 v bitsLt_bf16_f32) (pay31_bl D o)
theorem daB_bl : daB (insD D o) = bl o fun k => D.da k * D.pa k := by
  unfold daB k0_pay34
  rw [rsB_bl, xhB_bl, dxhB_bl, m1B_bl, dxB_bl]
  rw [show k0_pay30 (F := Ideal) (bc o D.rs) (bl o D.xh) (bl o D.dxh) (bc o D.m1) (bl o fun k => D.dxh k * D.xh k) (insD D o).x1
    (insD D o).x6 = bl o D.da from pay30_bl D o, show (insD D o).x8 = bh o D.pa from rfl]
  dsimp only
  rw [extf_ar, mulf_ar]
theorem dbB_bl : dbB (insD D o) = bl o D.db := by
  unfold dbB
  rw [rsB_bl, xhB_bl, dxhB_bl, m1B_bl, dxB_bl]
  exact pay31_bl D o
theorem pay36_bl : k0_pay36 (F := Ideal) (k0_pay28 (insD D o).x6) (daB (insD D o)) k0_pay35 = bl o D.dga := by
  unfold k0_pay36 k0_pay35
  dsimp only
  rw [daB_bl, show (insD D o).x6 = bh o D.sa from rfl, pay28_bl, lit_one, broadcast_re, subf_cst_ar, mulf_ar]
  rfl
theorem pay37_bl : k0_pay37 (F := Ideal) (k0_pay29 (insD D o).x7) (dbB (insD D o)) (insD D o).x9 = bl o D.dgb := by
  unfold k0_pay37
  dsimp only
  rw [dbB_bl, show (insD D o).x7 = bh o D.sb from rfl, show (insD D o).x9 = bh o D.pb from rfl, pay29_bl, lit_one, broadcast_re,
    subf_cst_ar, extf_ar, mulf_ar, mulf_ar]
  rfl
theorem o15_bl : o15 (insD D o) = (ar (φ := .bf16) i3 fun k => if k.1 = 0 then D.dga (o + k.2.1, k.2.2) else D.dgb (o + k.2.1, k.2.2)) := by
  have ha : o15a (insD D o) = ar (φ := .bf16) i3 fun k => D.dga (o + k.2.1, k.2.2) := by
    unfold o15a k0_pay38
    dsimp only
    rw [pay36_bl, truncf_ar, shapeCast_lead]
  have hb : o15b (insD D o) = ar (φ := .bf16) i3 fun k => D.dgb (o + k.2.1, k.2.2) := by
    unfold o15b k0_pay39
    dsimp only
    rw [pay37_bl, truncf_ar, shapeCast_lead]
  unfold o15
  rw [ha, hb]
  funext y
  show (if (y 0).val = 0 then re (D.dga (o + (y 1).val, (y 2).val)) else re (D.dgb (o + (y 1).val, (y 2).val)))
    = re (if (y 0).val = 0 then D.dga (o + (y 1).val, (y 2).val) else D.dgb (o + (y 1).val, (y 2).val))
  split <;> rfl

/-! The accumulators. -/
/-- A column's sum over the rows of the first `n` steps, eight rows apart. -/
def part (f : ℕ × ℕ → ℝ) (n : ℕ) : FVec Ideal S8x2048 .f32 :=
  ar i2 fun k => ∑ j ∈ Finset.range n, ∑ q : Fin 32, f (256 * j + (q.val * 8 + k.1), k.2)

theorem part_zero (f : ℕ × ℕ → ℝ) : k0_pay7 (F := Ideal) = part f 0 := by
  unfold k0_pay7
  dsimp only
  rw [lit_zero, broadcast_re, shapeCast_self]
  funext y
  show re (0 : ℝ) = re (∑ j ∈ Finset.range 0, ∑ q : Fin 32, f (256 * j + (q.val * 8 + (y 0).val), (y 1).val))
  rw [Finset.sum_range_zero]
theorem part_succ (f : ℕ × ℕ → ℝ) (n : ℕ) (v : FVec Ideal S256x2048 .f32) (hv : v = bl (256 * n) f) :
    shapeCast S8x2048 (addf (part f n) (multiReduction .add [0] S8x2048 (shapeCast S32x8x2048 v shapeCasts_S256x2048_S32x8x2048)
      0x00000000#32 reduces_S32x8x2048_S8x2048 (.inl rfl) rfl)) shapeCasts_S8x2048_S8x2048 = part f (n + 1) := by
  subst hv
  rw [shapeCast_self, shapeCast_fold _ _ rfl, foldSum, part, addf_ar, part]
  simp only [Finset.sum_range_succ]

def parts (n : ℕ) : Scr Ideal where
  s0 := part (fun k => D.dy k * D.xh k) n
  s1 := part D.dy n
  s2 := part (fun k => D.er k * D.er k) n
  s3 := part D.dga n
  s4 := part D.dgb n

theorem zeros_parts : zeros = parts D 0 := by
  unfold zeros parts
  exact congr (congr (congr (congrArg₂ Scr.mk (part_zero _) (part_zero _)) (part_zero _)) (part_zero _)) (part_zero _)
theorem step_parts (n : ℕ) : step (insD D (256 * n)) (parts D n) = parts D (n + 1) := by
  have h16 : k0_pay16 (F := Ideal) (xgB (insD D (256 * n))) (insD D (256 * n)).x5 (insD D (256 * n)).x3 = bl (256 * n) D.er := by
    rw [xgB_bl]; exact pay16_bl D (256 * n)
  have h17 : k0_pay17 (F := Ideal) (xgB (insD D (256 * n))) (insD D (256 * n)).x5 (insD D (256 * n)).x3 = bl (256 * n) D.dy := by
    rw [xgB_bl]; exact pay17_bl D (256 * n)
  unfold step
  refine congr (congr (congr (congrArg₂ Scr.mk ?_ ?_) ?_) ?_) ?_
  · unfold k0_pay19
    exact part_succ (fun k => D.dy k * D.xh k) n _ (by rw [h17, xhB_bl, mulf_ar])
  · unfold k0_pay20
    exact part_succ D.dy n _ h17
  · unfold k0_pay18
    exact part_succ (fun k => D.er k * D.er k) n _ (by rw [h16, mulf_ar])
  · unfold k0_pay40
    exact part_succ D.dga n _ (pay36_bl D _)
  · unfold k0_pay41
    exact part_succ D.dgb n _ (pay37_bl D _)

/-- After the last step. -/
theorem part_all (f : ℕ × ℕ → ℝ) : k0_pay1 (F := Ideal) (part f 32) = ar i2 fun k => Inp.tok f k.2 := by
  unfold k0_pay1
  dsimp only
  rw [part, colSum, shapeCast_row]
  funext y
  exact congrArg re (sum_steps fun r => f (r, (y 1).val))

end OutLn

end
-- ==== Proof.OutLnFirst.lean ====
/- The body of `out_ln_loss` at the first step. -/
module

public import proofs.«01_k».proof.Proof.OutLnStep

@[expose] public section

set_option maxRecDepth 16384

noncomputable section

namespace OutLn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen

variable {F : FTy → Type} [FloatOps F]

local notation "𝕄" => MT nD τ sig Unit (Elt F) ℕ (UR sig nD τ) ℕ

set_option maxHeartbeats 2000000 in
/-- The first step: it zeroes the accumulators and adds to them. -/
theorem body_A (c : Dev nD) (i : grid0.Coords) (arg1 : Memref sig .tc .vmem S256x2048 .bf16) (harg1 : arg1.IsWhole) (arg2 : Memref sig .tc .vmem S2048x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .f32) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S2x256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S8x2048 .f32) (harg22 : arg22.IsWhole) (arg23 : Memref sig .tc .vmem S8x2048 .f32) (harg23 : arg23.IsWhole) (arg24 : Memref sig .tc .vmem S8x2048 .f32) (harg24 : arg24.IsWhole) (arg25 : Memref sig .tc .vmem S8x2048 .f32) (harg25 : arg25.IsWhole) (arg26 : Memref sig .tc .vmem S8x2048 .f32) (harg26 : arg26.IsWhole)
    (hc0 : cond0_0 i) (hc1 : ¬cond0_1 i) (x : Ins F)  (xi17 : Vec F S1x2048 .f32) (xi18 : Vec F S1x2048 .f32) (xi19 : Vec F S1x2048 .f32) (xi20 : Vec F S1x2048 .f32) (xi21 : Vec F S1x2048 .f32) (E : Set ℕ) (K : PUnit → sProp 𝕄) :
    iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi17 ∗ owns (c : Thread nD τ) arg18 fullShare xi18 ∗ owns (c : Thread nD τ) arg19 fullShare xi19 ∗ owns (c : Thread nD τ) arg20 fullShare xi20 ∗ owns (c : Thread nD τ) arg21 fullShare xi21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare (o10 x) ∗ owns (c : Thread nD τ) arg12 fullShare (o11 x) ∗ owns (c : Thread nD τ) arg13 fullShare (o12 x) ∗ owns (c : Thread nD τ) arg14 fullShare (o13 x) ∗ owns (c : Thread nD τ) arg15 fullShare (o14 x) ∗ owns (c : Thread nD τ) arg16 fullShare (o15 x) ∗ owns (c : Thread nD τ) arg17 fullShare xi17 ∗ owns (c : Thread nD τ) arg18 fullShare xi18 ∗ owns (c : Thread nD τ) arg19 fullShare xi19 ∗ owns (c : Thread nD τ) arg20 fullShare xi20 ∗ owns (c : Thread nD τ) arg21 fullShare xi21 ∗ owns (c : Thread nD τ) arg22 fullShare (step x zeros).s0 ∗ owns (c : Thread nD τ) arg23 fullShare (step x zeros).s1 ∗ owns (c : Thread nD τ) arg24 fullShare (step x zeros).s2 ∗ owns (c : Thread nD τ) arg25 fullShare (step x zeros).s3 ∗ owns (c : Thread nD τ) arg26 fullShare (step x zeros).s4) -∗ K ⟨⟩))
    ⊢ wp frame (wpE (defs₀ (F := F)) Variants.none c none) E (cc0_out_ln_loss i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x0, x1, x2, x3, x4, x5, x6, x7, x8, x9⟩ := x
  dsimp only
  simp only [cc0_out_ln_loss_eq_skeleton]; unfold cc0_out_ln_loss_skel
  simp only [k0_part4_eq_skeleton, k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg17.eq_unread hf17; obtain rfl := harg18.eq_unread hf18; obtain rfl := harg19.eq_unread hf19; obtain rfl := harg20.eq_unread hf20; obtain rfl := harg21.eq_unread hf21
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    refine (read_whole _ _ hz2 _ _ _).trans ?_; unfold o10; frame_out
  isplitl [H12]
  · iexists _; isplitr
    swap; · iexact H12
    ipureintro
    refine (read_whole _ _ hz2 _ _ _).trans ?_; unfold o11; frame_out
  isplitl [H13]
  · iexists _; isplitr
    swap; · iexact H13
    ipureintro
    refine (read_whole _ _ hz2 _ _ _).trans ?_; unfold o12; frame_out
  isplitl [H14]
  · iexists _; isplitr
    swap; · iexact H14
    ipureintro
    refine (read_whole _ _ hz2 _ _ _).trans ?_; unfold o13; frame_out
  isplitl [H15]
  · iexists _; isplitr
    swap; · iexact H15
    ipureintro
    refine (read_whole _ _ hz2 _ _ _).trans ?_; unfold o14; frame_out
  isplitl [H16]
  · iexists _; isplitr
    swap; · iexact H16
    ipureintro
    refine (read_halves _ _ _ _ _ _).trans ?_; unfold o15 o15a o15b; frame_out
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr
    swap; · iexact H22
    ipureintro
    refine (read_whole _ _ hz2 _ _ _).trans ?_; unfold step zeros; frame_out
  isplitl [H23]
  · iexists _; isplitr
    swap; · iexact H23
    ipureintro
    refine (read_whole _ _ hz2 _ _ _).trans ?_; unfold step zeros; frame_out
  isplitl [H24]
  · iexists _; isplitr
    swap; · iexact H24
    ipureintro
    refine (read_whole _ _ hz2 _ _ _).trans ?_; unfold step zeros; frame_out
  isplitl [H25]
  · iexists _; isplitr
    swap; · iexact H25
    ipureintro
    refine (read_whole _ _ hz2 _ _ _).trans ?_; unfold step zeros; frame_out
  iexists _; isplitr
  swap; · iexact H26
  ipureintro
  refine (read_whole _ _ hz2 _ _ _).trans ?_; unfold step zeros; frame_out

end OutLn

end
-- ==== Proof.OutLnMid.lean ====
/- The body of `out_ln_loss` at the steps between the first and the last. -/
module

public import proofs.«01_k».proof.Proof.OutLnStep

@[expose] public section

set_option maxRecDepth 16384

noncomputable section

namespace OutLn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen

variable {F : FTy → Type} [FloatOps F]

local notation "𝕄" => MT nD τ sig Unit (Elt F) ℕ (UR sig nD τ) ℕ

set_option maxHeartbeats 2000000 in
/-- A step between. -/
theorem body_B (c : Dev nD) (i : grid0.Coords) (arg1 : Memref sig .tc .vmem S256x2048 .bf16) (harg1 : arg1.IsWhole) (arg2 : Memref sig .tc .vmem S2048x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .f32) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S2x256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S8x2048 .f32) (harg22 : arg22.IsWhole) (arg23 : Memref sig .tc .vmem S8x2048 .f32) (harg23 : arg23.IsWhole) (arg24 : Memref sig .tc .vmem S8x2048 .f32) (harg24 : arg24.IsWhole) (arg25 : Memref sig .tc .vmem S8x2048 .f32) (harg25 : arg25.IsWhole) (arg26 : Memref sig .tc .vmem S8x2048 .f32) (harg26 : arg26.IsWhole)
    (hc0 : ¬cond0_0 i) (hc1 : ¬cond0_1 i) (x : Ins F) (s : Scr F) (xi17 : Vec F S1x2048 .f32) (xi18 : Vec F S1x2048 .f32) (xi19 : Vec F S1x2048 .f32) (xi20 : Vec F S1x2048 .f32) (xi21 : Vec F S1x2048 .f32) (E : Set ℕ) (K : PUnit → sProp 𝕄) :
    iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi17 ∗ owns (c : Thread nD τ) arg18 fullShare xi18 ∗ owns (c : Thread nD τ) arg19 fullShare xi19 ∗ owns (c : Thread nD τ) arg20 fullShare xi20 ∗ owns (c : Thread nD τ) arg21 fullShare xi21 ∗ owns (c : Thread nD τ) arg22 fullShare s.s0 ∗ owns (c : Thread nD τ) arg23 fullShare s.s1 ∗ owns (c : Thread nD τ) arg24 fullShare s.s2 ∗ owns (c : Thread nD τ) arg25 fullShare s.s3 ∗ owns (c : Thread nD τ) arg26 fullShare s.s4
      ∗ (iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare (o10 x) ∗ owns (c : Thread nD τ) arg12 fullShare (o11 x) ∗ owns (c : Thread nD τ) arg13 fullShare (o12 x) ∗ owns (c : Thread nD τ) arg14 fullShare (o13 x) ∗ owns (c : Thread nD τ) arg15 fullShare (o14 x) ∗ owns (c : Thread nD τ) arg16 fullShare (o15 x) ∗ owns (c : Thread nD τ) arg17 fullShare xi17 ∗ owns (c : Thread nD τ) arg18 fullShare xi18 ∗ owns (c : Thread nD τ) arg19 fullShare xi19 ∗ owns (c : Thread nD τ) arg20 fullShare xi20 ∗ owns (c : Thread nD τ) arg21 fullShare xi21 ∗ owns (c : Thread nD τ) arg22 fullShare (step x s).s0 ∗ owns (c : Thread nD τ) arg23 fullShare (step x s).s1 ∗ owns (c : Thread nD τ) arg24 fullShare (step x s).s2 ∗ owns (c : Thread nD τ) arg25 fullShare (step x s).s3 ∗ owns (c : Thread nD τ) arg26 fullShare (step x s).s4) -∗ K ⟨⟩))
    ⊢ wp frame (wpE (defs₀ (F := F)) Variants.none c none) E (cc0_out_ln_loss i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x0, x1, x2, x3, x4, x5, x6, x7, x8, x9⟩ := x
  obtain ⟨s0, s1, s2, s3, s4⟩ := s
  dsimp only
  simp only [cc0_out_ln_loss_eq_skeleton]; unfold cc0_out_ln_loss_skel
  simp only [k0_part4_eq_skeleton, k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    refine (read_whole _ _ hz2 _ _ _).trans ?_; unfold o10; frame_out
  isplitl [H12]
  · iexists _; isplitr
    swap; · iexact H12
    ipureintro
    refine (read_whole _ _ hz2 _ _ _).trans ?_; unfold o11; frame_out
  isplitl [H13]
  · iexists _; isplitr
    swap; · iexact H13
    ipureintro
    refine (read_whole _ _ hz2 _ _ _).trans ?_; unfold o12; frame_out
  isplitl [H14]
  · iexists _; isplitr
    swap; · iexact H14
    ipureintro
    refine (read_whole _ _ hz2 _ _ _).trans ?_; unfold o13; frame_out
  isplitl [H15]
  · iexists _; isplitr
    swap; · iexact H15
    ipureintro
    refine (read_whole _ _ hz2 _ _ _).trans ?_; unfold o14; frame_out
  isplitl [H16]
  · iexists _; isplitr
    swap; · iexact H16
    ipureintro
    refine (read_halves _ _ _ _ _ _).trans ?_; unfold o15 o15a o15b; frame_out
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr
    swap; · iexact H22
    ipureintro
    refine (read_whole _ _ hz2 _ _ _).trans ?_; unfold step; frame_out
  isplitl [H23]
  · iexists _; isplitr
    swap; · iexact H23
    ipureintro
    refine (read_whole _ _ hz2 _ _ _).trans ?_; unfold step; frame_out
  isplitl [H24]
  · iexists _; isplitr
    swap; · iexact H24
    ipureintro
    refine (read_whole _ _ hz2 _ _ _).trans ?_; unfold step; frame_out
  isplitl [H25]
  · iexists _; isplitr
    swap; · iexact H25
    ipureintro
    refine (read_whole _ _ hz2 _ _ _).trans ?_; unfold step; frame_out
  iexists _; isplitr
  swap; · iexact H26
  ipureintro
  refine (read_whole _ _ hz2 _ _ _).trans ?_; unfold step; frame_out

end OutLn

end
-- ==== Proof.OutLnLast.lean ====
/- The body of `out_ln_loss` at the last step. -/
module

public import proofs.«01_k».proof.Proof.OutLnStep

@[expose] public section

set_option maxRecDepth 16384

noncomputable section

namespace OutLn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen

variable {F : FTy → Type} [FloatOps F]

local notation "𝕄" => MT nD τ sig Unit (Elt F) ℕ (UR sig nD τ) ℕ

set_option maxHeartbeats 2000000 in
/-- The last step: it also sums the accumulators' rows into the last five results. -/
theorem body_C (c : Dev nD) (i : grid0.Coords) (arg1 : Memref sig .tc .vmem S256x2048 .bf16) (harg1 : arg1.IsWhole) (arg2 : Memref sig .tc .vmem S2048x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .f32) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S2x256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S8x2048 .f32) (harg22 : arg22.IsWhole) (arg23 : Memref sig .tc .vmem S8x2048 .f32) (harg23 : arg23.IsWhole) (arg24 : Memref sig .tc .vmem S8x2048 .f32) (harg24 : arg24.IsWhole) (arg25 : Memref sig .tc .vmem S8x2048 .f32) (harg25 : arg25.IsWhole) (arg26 : Memref sig .tc .vmem S8x2048 .f32) (harg26 : arg26.IsWhole)
    (hc0 : ¬cond0_0 i) (hc1 : cond0_1 i) (x : Ins F) (s : Scr F)  (E : Set ℕ) (K : PUnit → sProp 𝕄) :
    iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare s.s0 ∗ owns (c : Thread nD τ) arg23 fullShare s.s1 ∗ owns (c : Thread nD τ) arg24 fullShare s.s2 ∗ owns (c : Thread nD τ) arg25 fullShare s.s3 ∗ owns (c : Thread nD τ) arg26 fullShare s.s4
      ∗ (iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare (o10 x) ∗ owns (c : Thread nD τ) arg12 fullShare (o11 x) ∗ owns (c : Thread nD τ) arg13 fullShare (o12 x) ∗ owns (c : Thread nD τ) arg14 fullShare (o13 x) ∗ owns (c : Thread nD τ) arg15 fullShare (o14 x) ∗ owns (c : Thread nD τ) arg16 fullShare (o15 x) ∗ owns (c : Thread nD τ) arg17 fullShare (k0_pay1 (step x s).s0) ∗ owns (c : Thread nD τ) arg18 fullShare (k0_pay2 (step x s).s1) ∗ owns (c : Thread nD τ) arg19 fullShare (k0_pay3 (step x s).s2) ∗ owns (c : Thread nD τ) arg20 fullShare (k0_pay4 (step x s).s3) ∗ owns (c : Thread nD τ) arg21 fullShare (k0_pay5 (step x s).s4) ∗ owns (c : Thread nD τ) arg22 fullShare (step x s).s0 ∗ owns (c : Thread nD τ) arg23 fullShare (step x s).s1 ∗ owns (c : Thread nD τ) arg24 fullShare (step x s).s2 ∗ owns (c : Thread nD τ) arg25 fullShare (step x s).s3 ∗ owns (c : Thread nD τ) arg26 fullShare (step x s).s4) -∗ K ⟨⟩))
    ⊢ wp frame (wpE (defs₀ (F := F)) Variants.none c none) E (cc0_out_ln_loss i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x0, x1, x2, x3, x4, x5, x6, x7, x8, x9⟩ := x
  obtain ⟨s0, s1, s2, s3, s4⟩ := s
  dsimp only
  simp only [cc0_out_ln_loss_eq_skeleton]; unfold cc0_out_ln_loss_skel
  simp only [k0_part4_eq_skeleton, k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%f24, %hf24, H24⟩, ⟨%f25, %hf25, H25⟩, ⟨%f26, %hf26, H26⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg22.eq_unread hf22; obtain rfl := harg23.eq_unread hf23; obtain rfl := harg24.eq_unread hf24; obtain rfl := harg25.eq_unread hf25; obtain rfl := harg26.eq_unread hf26
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    refine (read_whole _ _ hz2 _ _ _).trans ?_; unfold o10; frame_out
  isplitl [H12]
  · iexists _; isplitr
    swap; · iexact H12
    ipureintro
    refine (read_whole _ _ hz2 _ _ _).trans ?_; unfold o11; frame_out
  isplitl [H13]
  · iexists _; isplitr
    swap; · iexact H13
    ipureintro
    refine (read_whole _ _ hz2 _ _ _).trans ?_; unfold o12; frame_out
  isplitl [H14]
  · iexists _; isplitr
    swap; · iexact H14
    ipureintro
    refine (read_whole _ _ hz2 _ _ _).trans ?_; unfold o13; frame_out
  isplitl [H15]
  · iexists _; isplitr
    swap; · iexact H15
    ipureintro
    refine (read_whole _ _ hz2 _ _ _).trans ?_; unfold o14; frame_out
  isplitl [H16]
  · iexists _; isplitr
    swap; · iexact H16
    ipureintro
    refine (read_halves _ _ _ _ _ _).trans ?_; unfold o15 o15a o15b; frame_out
  isplitl [H17]
  · iexists _; isplitr
    swap; · iexact H17
    ipureintro
    refine (read_whole _ _ hz2 _ _ _).trans ?_; unfold step; frame_out
  isplitl [H18]
  · iexists _; isplitr
    swap; · iexact H18
    ipureintro
    refine (read_whole _ _ hz2 _ _ _).trans ?_; unfold step; frame_out
  isplitl [H19]
  · iexists _; isplitr
    swap; · iexact H19
    ipureintro
    refine (read_whole _ _ hz2 _ _ _).trans ?_; unfold step; frame_out
  isplitl [H20]
  · iexists _; isplitr
    swap; · iexact H20
    ipureintro
    refine (read_whole _ _ hz2 _ _ _).trans ?_; unfold step; frame_out
  isplitl [H21]
  · iexists _; isplitr
    swap; · iexact H21
    ipureintro
    refine (read_whole _ _ hz2 _ _ _).trans ?_; unfold step; frame_out
  isplitl [H22]
  · iexists _; isplitr
    swap; · iexact H22
    ipureintro
    refine (read_whole _ _ hz2 _ _ _).trans ?_; unfold step; frame_out
  isplitl [H23]
  · iexists _; isplitr
    swap; · iexact H23
    ipureintro
    refine (read_whole _ _ hz2 _ _ _).trans ?_; unfold step; frame_out
  isplitl [H24]
  · iexists _; isplitr
    swap; · iexact H24
    ipureintro
    refine (read_whole _ _ hz2 _ _ _).trans ?_; unfold step; frame_out
  isplitl [H25]
  · iexists _; isplitr
    swap; · iexact H25
    ipureintro
    refine (read_whole _ _ hz2 _ _ _).trans ?_; unfold step; frame_out
  iexists _; isplitr
  swap; · iexact H26
  ipureintro
  refine (read_whole _ _ hz2 _ _ _).trans ?_; unfold step; frame_out

end OutLn

end
-- ==== Proof.OutLnFrame.lean ====
/- The run of `out_ln_loss`: after each step the accumulators hold the sums over the steps so far, and each result's block
   what the step stored. -/
module

public import proofs.«01_k».proof.Proof.OutLnFirst
public import proofs.«01_k».proof.Proof.OutLnMid
public import proofs.«01_k».proof.Proof.OutLnLast
public import Idealize.ShloMosaic.Lib.Claim

@[expose] public section

set_option maxRecDepth 16384

noncomputable section

namespace OutLn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks that step `t` reads. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- The accumulators after step `n`. -/
def acc (c : Dev nD) : (n : ℕ) → n < cfg0.N → Scr F
  | 0, h => step (ins m c ⟨0, h⟩) zeros
  | n + 1, h => step (ins m c ⟨n + 1, h⟩) (acc c n (Nat.lt_of_succ_lt h))

theorem acc_first (c : Dev nD) (t : Fin cfg0.N) (h : t.val = 0) : acc m c t.val t.isLt = step (ins m c t) zeros := by
  obtain ⟨n, hn⟩ := t
  change n = 0 at h
  subst h
  rfl

theorem acc_next (c : Dev nD) (t : Fin cfg0.N) (h : t.val ≠ 0) :
    acc m c t.val t.isLt = step (ins m c t) (acc m c (t.val - 1) (Nat.lt_of_le_of_lt (Nat.sub_le _ _) t.isLt)) := by
  obtain ⟨n, hn⟩ := t
  cases n with
  | zero => exact absurd rfl h
  | succ n => rfl

/-- The accumulators hold `s`, between two steps. -/
def held (c : Dev nD) (s : Scr F) : sProp 𝕄 :=
  iprop(iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ owns (c : Thread nD τ) scM0_4 fullShare s.s4) ∗ (∃ r, prngReg c r))

/-- What holds before step `n`. -/
def Phi (c : Dev nD) : (n : ℕ) → n ≤ cfg0.N → sProp 𝕄
  | 0, _ => Pipeline.ΦA spec0 c
  | n + 1, hn => held c (acc m c n hn)

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = held c (acc m c (n - 1) (by omega)) := by
  cases n with
  | zero => exact absurd rfl hz
  | succ n => rfl

/-- Before the run each window's array; after a step each window's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => o10 (ins m c t)
    | ⟨11, _⟩ => o11 (ins m c t)
    | ⟨12, _⟩ => o12 (ins m c t)
    | ⟨13, _⟩ => o13 (ins m c t)
    | ⟨14, _⟩ => o14 (ins m c t)
    | ⟨15, _⟩ => o15 (ins m c t)
    | ⟨16, _⟩ => k0_pay1 (acc m c t.val t.isLt).s0
    | ⟨17, _⟩ => k0_pay2 (acc m c t.val t.isLt).s1
    | ⟨18, _⟩ => k0_pay3 (acc m c t.val t.isLt).s2
    | ⟨19, _⟩ => k0_pay4 (acc m c t.val t.isLt).s3
    | ⟨20, _⟩ => k0_pay5 (acc m c t.val t.isLt).s4
    | ⟨_ + 21, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = o10 (ins m c t) := by dsimp only [dats]
theorem after_11 (c : Dev nD) (t : Fin cfg0.N) : (dats m 0 c).after 11 t = o11 (ins m c t) := by dsimp only [dats]
theorem after_12 (c : Dev nD) (t : Fin cfg0.N) : (dats m 0 c).after 12 t = o12 (ins m c t) := by dsimp only [dats]
theorem after_13 (c : Dev nD) (t : Fin cfg0.N) : (dats m 0 c).after 13 t = o13 (ins m c t) := by dsimp only [dats]
theorem after_14 (c : Dev nD) (t : Fin cfg0.N) : (dats m 0 c).after 14 t = o14 (ins m c t) := by dsimp only [dats]
theorem after_15 (c : Dev nD) (t : Fin cfg0.N) : (dats m 0 c).after 15 t = o15 (ins m c t) := by dsimp only [dats]
theorem after_16 (c : Dev nD) (t : Fin cfg0.N) : (dats m 0 c).after 16 t = k0_pay1 (acc m c t.val t.isLt).s0 := by dsimp only [dats]
theorem after_17 (c : Dev nD) (t : Fin cfg0.N) : (dats m 0 c).after 17 t = k0_pay2 (acc m c t.val t.isLt).s1 := by dsimp only [dats]
theorem after_18 (c : Dev nD) (t : Fin cfg0.N) : (dats m 0 c).after 18 t = k0_pay3 (acc m c t.val t.isLt).s2 := by dsimp only [dats]
theorem after_19 (c : Dev nD) (t : Fin cfg0.N) : (dats m 0 c).after 19 t = k0_pay4 (acc m c t.val t.isLt).s3 := by dsimp only [dats]
theorem after_20 (c : Dev nD) (t : Fin cfg0.N) : (dats m 0 c).after 20 t = k0_pay5 (acc m c t.val t.isLt).s4 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- Before a step: what the steps so far left, and every window's buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- After it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 2000000 in
/-- One step, the first: the body takes what holds before it to what holds after it. -/
theorem sound_A (c : Dev nD) (t : Fin cfg0.N) (h0 : t.val = 0) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have c0 := (hcond0_0 t).mpr (by omega)
  have c1 : ¬cond0_1 (grid0.coords t) := fun h => by have := (hcond0_1 t).mp h; omega
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = held c (acc m c t.val t.isLt) from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [liveAt0_8 t], after_8]
  rw [show (dats m 0 c).leavesExact 9 t = owns (c : Thread nD τ) (ms0_9 t) fullShare ((dats m 0 c).after 9 t) from by
    unfold Dat.leavesExact; rw [liveAt0_9 t], after_9]
  rw [show (dats m 0 c).leavesExact 10 t = owns (c : Thread nD τ) (ms0_10 t) fullShare ((dats m 0 c).after 10 t) from by
    unfold Dat.leavesExact; rw [liveAt0_10 t], after_10]
  rw [show (dats m 0 c).leavesExact 11 t = owns (c : Thread nD τ) (ms0_11 t) fullShare ((dats m 0 c).after 11 t) from by
    unfold Dat.leavesExact; rw [liveAt0_11 t], after_11]
  rw [show (dats m 0 c).leavesExact 12 t = owns (c : Thread nD τ) (ms0_12 t) fullShare ((dats m 0 c).after 12 t) from by
    unfold Dat.leavesExact; rw [liveAt0_12 t], after_12]
  rw [show (dats m 0 c).leavesExact 13 t = owns (c : Thread nD τ) (ms0_13 t) fullShare ((dats m 0 c).after 13 t) from by
    unfold Dat.leavesExact; rw [liveAt0_13 t], after_13]
  rw [show (dats m 0 c).leavesExact 14 t = owns (c : Thread nD τ) (ms0_14 t) fullShare ((dats m 0 c).after 14 t) from by
    unfold Dat.leavesExact; rw [liveAt0_14 t], after_14]
  rw [show (dats m 0 c).leavesExact 15 t = owns (c : Thread nD τ) (ms0_15 t) fullShare ((dats m 0 c).after 15 t) from by
    unfold Dat.leavesExact; rw [liveAt0_15 t], after_15]
  rw [Dat.leavesExact_idle (dats m 0 c) 16 t (idleAt0_16_A t c0 c1) (noFlush0_16_A t c0 c1)]
  rw [Dat.leavesExact_idle (dats m 0 c) 17 t (idleAt0_17_A t c0 c1) (noFlush0_17_A t c0 c1)]
  rw [Dat.leavesExact_idle (dats m 0 c) 18 t (idleAt0_18_A t c0 c1) (noFlush0_18_A t c0 c1)]
  rw [Dat.leavesExact_idle (dats m 0 c) 19 t (idleAt0_19_A t c0 c1) (noFlush0_19_A t c0 c1)]
  rw [Dat.leavesExact_idle (dats m 0 c) 20 t (idleAt0_20_A t c0 c1) (noFlush0_20_A t c0 c1)]
  rw [Phi_castSucc m c t, Phi_zero m c _ _ h0, PhiA0_eq, acc_first m c t h0]
  unfold held
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (body_A c (grid0.coords t) _ _ _ _ _ _ _ _ _ _ _ _ _ _ _ _ _ _ _ _ _ _ _ _ _ _ _ _ _ _ _ _ _ _ _ _ _ _ _ _ _ _ _ _ _ _ _ _ _ _ _ _ c0 c1 (ins m c t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iexists _; iexact H20

set_option maxHeartbeats 2000000 in
/-- One step, a step between: the body takes what holds before it to what holds after it. -/
theorem sound_B (c : Dev nD) (t : Fin cfg0.N) (h0 : t.val ≠ 0) (h1 : t.val ≠ 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have c0 : ¬cond0_0 (grid0.coords t) := fun h => by have := (hcond0_0 t).mp h; omega
  have c1 : ¬cond0_1 (grid0.coords t) := fun h => by have := (hcond0_1 t).mp h; omega
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = held c (acc m c t.val t.isLt) from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [liveAt0_8 t], after_8]
  rw [show (dats m 0 c).leavesExact 9 t = owns (c : Thread nD τ) (ms0_9 t) fullShare ((dats m 0 c).after 9 t) from by
    unfold Dat.leavesExact; rw [liveAt0_9 t], after_9]
  rw [show (dats m 0 c).leavesExact 10 t = owns (c : Thread nD τ) (ms0_10 t) fullShare ((dats m 0 c).after 10 t) from by
    unfold Dat.leavesExact; rw [liveAt0_10 t], after_10]
  rw [show (dats m 0 c).leavesExact 11 t = owns (c : Thread nD τ) (ms0_11 t) fullShare ((dats m 0 c).after 11 t) from by
    unfold Dat.leavesExact; rw [liveAt0_11 t], after_11]
  rw [show (dats m 0 c).leavesExact 12 t = owns (c : Thread nD τ) (ms0_12 t) fullShare ((dats m 0 c).after 12 t) from by
    unfold Dat.leavesExact; rw [liveAt0_12 t], after_12]
  rw [show (dats m 0 c).leavesExact 13 t = owns (c : Thread nD τ) (ms0_13 t) fullShare ((dats m 0 c).after 13 t) from by
    unfold Dat.leavesExact; rw [liveAt0_13 t], after_13]
  rw [show (dats m 0 c).leavesExact 14 t = owns (c : Thread nD τ) (ms0_14 t) fullShare ((dats m 0 c).after 14 t) from by
    unfold Dat.leavesExact; rw [liveAt0_14 t], after_14]
  rw [show (dats m 0 c).leavesExact 15 t = owns (c : Thread nD τ) (ms0_15 t) fullShare ((dats m 0 c).after 15 t) from by
    unfold Dat.leavesExact; rw [liveAt0_15 t], after_15]
  rw [Dat.leavesExact_idle (dats m 0 c) 16 t (idleAt0_16_B t c0 c1) (noFlush0_16_B t c0 c1)]
  rw [Dat.leavesExact_idle (dats m 0 c) 17 t (idleAt0_17_B t c0 c1) (noFlush0_17_B t c0 c1)]
  rw [Dat.leavesExact_idle (dats m 0 c) 18 t (idleAt0_18_B t c0 c1) (noFlush0_18_B t c0 c1)]
  rw [Dat.leavesExact_idle (dats m 0 c) 19 t (idleAt0_19_B t c0 c1) (noFlush0_19_B t c0 c1)]
  rw [Dat.leavesExact_idle (dats m 0 c) 20 t (idleAt0_20_B t c0 c1) (noFlush0_20_B t c0 c1)]
  rw [Phi_castSucc m c t, Phi_pos m c _ _ h0, acc_next m c t h0]
  unfold held
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (body_B c (grid0.coords t) _ _ _ _ _ _ _ _ _ _ _ _ _ _ _ _ _ _ _ _ _ _ _ _ _ _ _ _ _ _ _ _ _ _ _ _ _ _ _ _ _ _ _ _ _ _ _ _ _ _ _ _ c0 c1 (ins m c t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iexists _; iexact H20

set_option maxHeartbeats 2000000 in
/-- One step, the last: the body takes what holds before it to what holds after it. -/
theorem sound_C (c : Dev nD) (t : Fin cfg0.N) (h1 : t.val = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have h0 : t.val ≠ 0 := by omega
  have c0 : ¬cond0_0 (grid0.coords t) := fun h => by have := (hcond0_0 t).mp h; omega
  have c1 := (hcond0_1 t).mpr (by omega)
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = held c (acc m c t.val t.isLt) from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [liveAt0_8 t], after_8]
  rw [show (dats m 0 c).leavesExact 9 t = owns (c : Thread nD τ) (ms0_9 t) fullShare ((dats m 0 c).after 9 t) from by
    unfold Dat.leavesExact; rw [liveAt0_9 t], after_9]
  rw [show (dats m 0 c).leavesExact 10 t = owns (c : Thread nD τ) (ms0_10 t) fullShare ((dats m 0 c).after 10 t) from by
    unfold Dat.leavesExact; rw [liveAt0_10 t], after_10]
  rw [show (dats m 0 c).leavesExact 11 t = owns (c : Thread nD τ) (ms0_11 t) fullShare ((dats m 0 c).after 11 t) from by
    unfold Dat.leavesExact; rw [liveAt0_11 t], after_11]
  rw [show (dats m 0 c).leavesExact 12 t = owns (c : Thread nD τ) (ms0_12 t) fullShare ((dats m 0 c).after 12 t) from by
    unfold Dat.leavesExact; rw [liveAt0_12 t], after_12]
  rw [show (dats m 0 c).leavesExact 13 t = owns (c : Thread nD τ) (ms0_13 t) fullShare ((dats m 0 c).after 13 t) from by
    unfold Dat.leavesExact; rw [liveAt0_13 t], after_13]
  rw [show (dats m 0 c).leavesExact 14 t = owns (c : Thread nD τ) (ms0_14 t) fullShare ((dats m 0 c).after 14 t) from by
    unfold Dat.leavesExact; rw [liveAt0_14 t], after_14]
  rw [show (dats m 0 c).leavesExact 15 t = owns (c : Thread nD τ) (ms0_15 t) fullShare ((dats m 0 c).after 15 t) from by
    unfold Dat.leavesExact; rw [liveAt0_15 t], after_15]
  rw [show (dats m 0 c).leavesExact 16 t = owns (c : Thread nD τ) (ms0_16 t) fullShare ((dats m 0 c).after 16 t) from by
    unfold Dat.leavesExact; rw [liveAt0_16_C t c0 c1], after_16]
  rw [show (dats m 0 c).leavesExact 17 t = owns (c : Thread nD τ) (ms0_17 t) fullShare ((dats m 0 c).after 17 t) from by
    unfold Dat.leavesExact; rw [liveAt0_17_C t c0 c1], after_17]
  rw [show (dats m 0 c).leavesExact 18 t = owns (c : Thread nD τ) (ms0_18 t) fullShare ((dats m 0 c).after 18 t) from by
    unfold Dat.leavesExact; rw [liveAt0_18_C t c0 c1], after_18]
  rw [show (dats m 0 c).leavesExact 19 t = owns (c : Thread nD τ) (ms0_19 t) fullShare ((dats m 0 c).after 19 t) from by
    unfold Dat.leavesExact; rw [liveAt0_19_C t c0 c1], after_19]
  rw [show (dats m 0 c).leavesExact 20 t = owns (c : Thread nD τ) (ms0_20 t) fullShare ((dats m 0 c).after 20 t) from by
    unfold Dat.leavesExact; rw [liveAt0_20_C t c0 c1], after_20]
  rw [Phi_castSucc m c t, Phi_pos m c _ _ h0, acc_next m c t h0]
  unfold held
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (body_C c (grid0.coords t) _ _ _ _ _ _ _ _ _ _ _ _ _ _ _ _ _ _ _ _ _ _ _ _ _ _ _ _ _ _ _ _ _ _ _ _ _ _ _ _ _ _ _ _ _ _ _ _ _ _ _ _ c0 c1 (ins m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases h1 : t.val = 31
    · exact sound_C m c t h1
    · exact sound_B m c t h0 h1

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  have hN : (Fin.last cfg0.N).val ≠ 0 := by rw [Fin.val_last]; have : cfg0.N = 32 := N_0; omega
  rw [show (dats m 0 c).Φ (Fin.last cfg0.N) = Phi m c (Fin.last cfg0.N).val (Nat.le_of_lt_succ (Fin.last cfg0.N).isLt) from rfl,
    Phi_pos m c _ _ hN, PhiA0_eq]
  unfold held
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The call leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end OutLn

end
-- ==== Proof.OutLnArr.lean ====
/- The end of the forward pass and the start of the backward one: the blocks that each step reads, the accumulators after each
   step, and the arrays that the kernel leaves. -/
module

public import proofs.«01_k».proof.Proof.OutLnVal
public import proofs.«01_k».proof.Proof.OutLnFrame
public import Idealize.ShloMosaic.Lib.Pipeline.ValueKit.Point

@[expose] public section

set_option maxRecDepth 16384

noncomputable section

namespace OutLn

open Idealize.ShloMosaic Idealize.ShloMosaic.TcCoe Idealize.SL.Sem Cert.Kernel6Ideal Cert.Kernel6Ideal.Gen Mixer

/-! What the host works out before the launch. -/
/-- A gate, from its product and its bias. -/
def gate (g : FVec Ideal S8192x2048 .f32) (b : FVec Ideal S1x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf (addf g
      (broadcastInDim S8192x2048 ![0, 1] bcast_S1x2048_S8192x2048_0_1 (broadcastInDim S1x2048 ![1] bcast_S2048_S1x2048_1
        (shapeCast S2048 b shapeCasts_S1x2048_S2048)))))))
def gateA (g : FVec Ideal S8192x2048 .f32) (b : FVec Ideal S1x4096 .f32) : FVec Ideal S8192x2048 .f32 :=
  gate g (extractStridedSlice S1x2048 ![0, 0] b slices_S1x4096_S1x2048_0_0)
def gateB (g : FVec Ideal S8192x2048 .f32) (b : FVec Ideal S1x4096 .f32) : FVec Ideal S8192x2048 .f32 :=
  gate g (extractStridedSlice S1x2048 ![0, 2048] b slices_S1x4096_S1x2048_0_2048)

theorem bias_row (b : ℕ × ℕ → ℝ) :
    broadcastInDim S8192x2048 ![0, 1] bcast_S1x2048_S8192x2048_0_1 (broadcastInDim S1x2048 ![1] bcast_S2048_S1x2048_1
      (shapeCast S2048 (ln b) shapeCasts_S1x2048_S2048)) = (ar i2 fun k => b (0, k.2) : FVec Ideal S8192x2048 .f32) := by
  funext y
  refine (broadcastInDim_apply _ bcast_S1x2048_S8192x2048_0_1 _ y (fun a => match a with
    | ⟨0, _⟩ => ⟨0, Nat.one_pos⟩ | ⟨1, _⟩ => y 1) (fun a => match a with | ⟨0, _⟩ => rfl | ⟨1, _⟩ => rfl)).trans ?_
  refine (broadcastInDim_apply _ bcast_S2048_S1x2048_1 _ _ (fun a => match a with | ⟨0, _⟩ => y 1) (fun a => match a with
    | ⟨0, _⟩ => rfl)).trans ?_
  exact shapeCast_apply _ shapeCasts_S1x2048_S2048 _ (fun a => match a with
    | ⟨0, _⟩ => ⟨0, Nat.one_pos⟩ | ⟨1, _⟩ => y 1) (by
      rw [Shape.rowMajor_val_one, Shape.rowMajor_val_two]
      show 0 * 2048 + (y 1).val = (y 1).val
      omega)
theorem ones : broadcastInDim S8192x2048 ![] bcast_S_S8192x2048 (constant S_ .f32 0x3F800000#32)
    = (cst 1 : FVec Ideal S8192x2048 .f32) := by
  funext y
  exact lit_one
theorem gate_ar (g b : ℕ × ℕ → ℝ) : gate (ar i2 g) (ln b) = ar i2 fun k => sig (g k + b (0, k.2)) := by
  unfold gate
  rw [bias_row, ones, addf_ar, hostNegf_ar, hostExp_ar, addf_cst_ar, hostDivf_cst_ar]
  · rfl
  · exact fun k => ne_of_gt (add_pos one_pos (Real.exp_pos _))
theorem gateA_ar (g b : ℕ × ℕ → ℝ) : gateA (ar i2 g) (ar i2 b) = ar i2 fun k => sig (g k + b (0, k.2)) := by
  unfold gateA
  rw [extractStridedSlice_ar 0 0]
  refine (gate_ar g _).trans ?_
  funext y
  show re (sig (g ((y 0).val, (y 1).val) + b (0 + 0, 0 + (y 1).val))) = re (sig (g ((y 0).val, (y 1).val) + b (0, (y 1).val)))
  rw [Nat.zero_add, Nat.zero_add]
theorem gateB_ar (g b : ℕ × ℕ → ℝ) : gateB (ar i2 g) (ar i2 b) = ar i2 fun k => sig (g k + b (0, 2048 + k.2)) := by
  unfold gateB
  rw [extractStridedSlice_ar 0 2048]
  exact gate_ar g _

section
variable (mem : (ℓ : Loc nD τ sig) → Buf (Elt Ideal) ℓ) (c : Dev nD)
set_option maxHeartbeats 2000000 in
theorem V_v29 : V mem c main_v29 = truncf .bf16 (gateA (mem ((c : Thread nD τ).loc main_arg0)) (mem ((c : Thread nD τ).loc main_arg2)))
    bitsLt_bf16_f32 := by
  unfold gateA gate
  unfold_abbrev_sides
  after_results
  rfl
set_option maxHeartbeats 2000000 in
theorem V_v30 : V mem c main_v30 = truncf .bf16 (gateB (mem ((c : Thread nD τ).loc main_arg1)) (mem ((c : Thread nD τ).loc main_arg2)))
    bitsLt_bf16_f32 := by
  unfold gateB gate
  unfold_abbrev_sides
  after_results
  rfl
set_option maxHeartbeats 2000000 in
theorem V_v28 : V mem c main_v28 = truncf (F := Ideal) .bf16 (mem ((c : Thread nD τ).loc main_arg5)) bitsLt_bf16_f32 := by
  unfold_abbrev_sides
  after_results
set_option maxHeartbeats 2000000 in
theorem V_v27 : V mem c main_v27 = truncf .bf16 (addf
    (mulf (gateA (mem ((c : Thread nD τ).loc main_arg0)) (mem ((c : Thread nD τ).loc main_arg2)))
      (extf (F := Ideal) .f32 (mem ((c : Thread nD τ).loc main_arg3)) bitsLt_bf16_f32))
    (mulf (gateB (mem ((c : Thread nD τ).loc main_arg1)) (mem ((c : Thread nD τ).loc main_arg2)))
      (extf (F := Ideal) .f32 (mem ((c : Thread nD τ).loc main_arg4)) bitsLt_bf16_f32))) bitsLt_bf16_f32 := by
  unfold gateA gateB gate
  unfold_abbrev_sides
  after_results
  rfl
end

/-! The blocks a step reads and writes. -/
theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)
theorem ix3 : ∀ t : Fin cfg0.N, win0_3.index t = ![t.val, 0] := (by decide +kernel : ∀ t : Fin grid0.N, _)
theorem ix4 : ∀ t : Fin cfg0.N, win0_4.index t = ![0, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![t.val, 0] := (by decide +kernel : ∀ t : Fin grid0.N, _)
theorem ix7 : ∀ t : Fin cfg0.N, win0_7.index t = ![t.val, 0] := (by decide +kernel : ∀ t : Fin grid0.N, _)
theorem ix8 : ∀ t : Fin cfg0.N, win0_8.index t = ![t.val, 0] := (by decide +kernel : ∀ t : Fin grid0.N, _)
theorem ix9 : ∀ t : Fin cfg0.N, win0_9.index t = ![t.val, 0] := (by decide +kernel : ∀ t : Fin grid0.N, _)
theorem ix10 : ∀ t : Fin cfg0.N, win0_10.index t = ![t.val, 0] := (by decide +kernel : ∀ t : Fin grid0.N, _)
theorem ix11 : ∀ t : Fin cfg0.N, win0_11.index t = ![t.val, 0] := (by decide +kernel : ∀ t : Fin grid0.N, _)
theorem ix12 : ∀ t : Fin cfg0.N, win0_12.index t = ![t.val, 0] := (by decide +kernel : ∀ t : Fin grid0.N, _)
theorem ix13 : ∀ t : Fin cfg0.N, win0_13.index t = ![t.val, 0] := (by decide +kernel : ∀ t : Fin grid0.N, _)
theorem ix14 : ∀ t : Fin cfg0.N, win0_14.index t = ![t.val, 0] := (by decide +kernel : ∀ t : Fin grid0.N, _)
theorem ix15 : ∀ t : Fin cfg0.N, win0_15.index t = ![0, t.val, 0] := (by decide +kernel : ∀ t : Fin grid0.N, _)
theorem ix16 : ∀ t : Fin cfg0.N, win0_16.index t = ![0, 0] := (by decide +kernel : ∀ t : Fin grid0.N, _)
theorem ix17 : ∀ t : Fin cfg0.N, win0_17.index t = ![0, 0] := (by decide +kernel : ∀ t : Fin grid0.N, _)
theorem ix18 : ∀ t : Fin cfg0.N, win0_18.index t = ![0, 0] := (by decide +kernel : ∀ t : Fin grid0.N, _)
theorem ix19 : ∀ t : Fin cfg0.N, win0_19.index t = ![0, 0] := (by decide +kernel : ∀ t : Fin grid0.N, _)
theorem ix20 : ∀ t : Fin cfg0.N, win0_20.index t = ![0, 0] := (by decide +kernel : ∀ t : Fin grid0.N, _)
theorem flush16 : ∀ t : Fin cfg0.N, (cfg0.win 16).flush t = true → t.val = 31 :=
  (by decide +kernel : ∀ t : Fin grid0.N, win0_16.flush t = true → t.val = 31)
theorem flush17 : ∀ t : Fin cfg0.N, (cfg0.win 17).flush t = true → t.val = 31 :=
  (by decide +kernel : ∀ t : Fin grid0.N, win0_17.flush t = true → t.val = 31)
theorem flush18 : ∀ t : Fin cfg0.N, (cfg0.win 18).flush t = true → t.val = 31 :=
  (by decide +kernel : ∀ t : Fin grid0.N, win0_18.flush t = true → t.val = 31)
theorem flush19 : ∀ t : Fin cfg0.N, (cfg0.win 19).flush t = true → t.val = 31 :=
  (by decide +kernel : ∀ t : Fin grid0.N, win0_19.flush t = true → t.val = 31)
theorem flush20 : ∀ t : Fin cfg0.N, (cfg0.win 20).flush t = true → t.val = 31 :=
  (by decide +kernel : ∀ t : Fin grid0.N, win0_20.flush t = true → t.val = 31)

/-- The arguments hold the arrays of reals `D`. -/
structure Args (mem : (ℓ : Loc nD τ sig) → Buf (Elt Ideal) ℓ) (c : Dev nD) (D : Inp) : Prop where
  h0 : mem ((c : Thread nD τ).loc main_arg0) = (ar i2 D.ga : FVec Ideal S8192x2048 .f32)
  h1 : mem ((c : Thread nD τ).loc main_arg1) = (ar i2 D.gb : FVec Ideal S8192x2048 .f32)
  h2 : mem ((c : Thread nD τ).loc main_arg2) = (ar i2 D.bg : FVec Ideal S1x4096 .f32)
  h3 : mem ((c : Thread nD τ).loc main_arg3) = (ar i2 D.pa : FVec Ideal S8192x2048 .bf16)
  h4 : mem ((c : Thread nD τ).loc main_arg4) = (ar i2 D.pb : FVec Ideal S8192x2048 .bf16)
  h5 : mem ((c : Thread nD τ).loc main_arg5) = (ar i2 D.w : FVec Ideal S2048x2048 .f32)
  h6 : mem ((c : Thread nD τ).loc main_arg6) = (ar i2 D.x : FVec Ideal S8192x2048 .f32)
  h7 : mem ((c : Thread nD τ).loc main_arg7) = (ar i2 D.t : FVec Ideal S8192x2048 .f32)
  h8 : mem ((c : Thread nD τ).loc main_arg8) = (ar i2 D.lg : FVec Ideal S1x2048 .f32)
  h9 : mem ((c : Thread nD τ).loc main_arg9) = (ar i2 D.lb : FVec Ideal S1x2048 .f32)

section
variable {mem : (ℓ : Loc nD τ sig) → Buf (Elt Ideal) ℓ} {c : Dev nD} {D : Inp} (A : Args mem c D)
include A

theorem sa_of : V mem c main_v29 = (ar i2 D.sa : FVec Ideal S8192x2048 .bf16) := by
  rw [V_v29, A.h0, A.h2, gateA_ar, truncf_ar]
  rfl
theorem sb_of : V mem c main_v30 = (ar i2 D.sb : FVec Ideal S8192x2048 .bf16) := by
  rw [V_v30, A.h1, A.h2, gateB_ar, truncf_ar]
  rfl
theorem w_of : V mem c main_v28 = (ar i2 D.w : FVec Ideal S2048x2048 .bf16) := by
  rw [V_v28, A.h5, truncf_ar]
theorem mg_of : V mem c main_v27 = (ar i2 D.mg : FVec Ideal S8192x2048 .bf16) := by
  rw [V_v27, A.h0, A.h1, A.h2, A.h3, A.h4, gateA_ar, gateB_ar, extf_ar, extf_ar, mulf_ar, mulf_ar, addf_ar, truncf_ar]
  rfl

theorem blk0 (t : Fin cfg0.N) : iblk mem c 0 t = bh (256 * t.val) D.mg := by
  funext y
  show V mem c main_v27 ((win0_0.blk t).view.emb y) = _
  rw [mg_of A]
  show re (φ := .bf16) (D.mg (((win0_0.blk t).view.emb y 0).val, ((win0_0.blk t).view.emb y 1).val)) = re (D.mg (256 * t.val + (y 0).val, (y 1).val))
  blk_simp [ix0]
  rw [Nat.mul_comm 256]
theorem blk1 (t : Fin cfg0.N) : iblk mem c 1 t = wh D.w := by
  funext y
  show V mem c main_v28 ((win0_1.blk t).view.emb y) = _
  rw [w_of A]
  show re (φ := .bf16) (D.w (((win0_1.blk t).view.emb y 0).val, ((win0_1.blk t).view.emb y 1).val)) = re (D.w ((y 0).val, (y 1).val))
  blk_simp [ix1]
theorem blk2 (t : Fin cfg0.N) : iblk mem c 2 t = bl (256 * t.val) D.x := by
  funext y
  show V mem c main_arg6 ((win0_2.blk t).view.emb y) = _
  rw [V_main_arg6, A.h6]
  show re (φ := .f32) (D.x (((win0_2.blk t).view.emb y 0).val, ((win0_2.blk t).view.emb y 1).val)) = re (D.x (256 * t.val + (y 0).val, (y 1).val))
  blk_simp [ix2]
  rw [Nat.mul_comm 256]
theorem blk3 (t : Fin cfg0.N) : iblk mem c 3 t = bl (256 * t.val) D.t := by
  funext y
  show V mem c main_arg7 ((win0_3.blk t).view.emb y) = _
  rw [V_main_arg7, A.h7]
  show re (φ := .f32) (D.t (((win0_3.blk t).view.emb y 0).val, ((win0_3.blk t).view.emb y 1).val)) = re (D.t (256 * t.val + (y 0).val, (y 1).val))
  blk_simp [ix3]
  rw [Nat.mul_comm 256]
theorem blk4 (t : Fin cfg0.N) : iblk mem c 4 t = ln D.lg := by
  funext y
  show V mem c main_arg8 ((win0_4.blk t).view.emb y) = _
  rw [V_main_arg8, A.h8]
  show re (φ := .f32) (D.lg (((win0_4.blk t).view.emb y 0).val, ((win0_4.blk t).view.emb y 1).val)) = re (D.lg ((y 0).val, (y 1).val))
  blk_simp [ix4]
theorem blk5 (t : Fin cfg0.N) : iblk mem c 5 t = ln D.lb := by
  funext y
  show V mem c main_arg9 ((win0_5.blk t).view.emb y) = _
  rw [V_main_arg9, A.h9]
  show re (φ := .f32) (D.lb (((win0_5.blk t).view.emb y 0).val, ((win0_5.blk t).view.emb y 1).val)) = re (D.lb ((y 0).val, (y 1).val))
  blk_simp [ix5]
theorem blk6 (t : Fin cfg0.N) : iblk mem c 6 t = bh (256 * t.val) D.sa := by
  funext y
  show V mem c main_v29 ((win0_6.blk t).view.emb y) = _
  rw [sa_of A]
  show re (φ := .bf16) (D.sa (((win0_6.blk t).view.emb y 0).val, ((win0_6.blk t).view.emb y 1).val)) = re (D.sa (256 * t.val + (y 0).val, (y 1).val))
  blk_simp [ix6]
  rw [Nat.mul_comm 256]
theorem blk7 (t : Fin cfg0.N) : iblk mem c 7 t = bh (256 * t.val) D.sb := by
  funext y
  show V mem c main_v30 ((win0_7.blk t).view.emb y) = _
  rw [sb_of A]
  show re (φ := .bf16) (D.sb (((win0_7.blk t).view.emb y 0).val, ((win0_7.blk t).view.emb y 1).val)) = re (D.sb (256 * t.val + (y 0).val, (y 1).val))
  blk_simp [ix7]
  rw [Nat.mul_comm 256]
theorem blk8 (t : Fin cfg0.N) : iblk mem c 8 t = bh (256 * t.val) D.pa := by
  funext y
  show V mem c main_arg3 ((win0_8.blk t).view.emb y) = _
  rw [V_main_arg3, A.h3]
  show re (φ := .bf16) (D.pa (((win0_8.blk t).view.emb y 0).val, ((win0_8.blk t).view.emb y 1).val)) = re (D.pa (256 * t.val + (y 0).val, (y 1).val))
  blk_simp [ix8]
  rw [Nat.mul_comm 256]
theorem blk9 (t : Fin cfg0.N) : iblk mem c 9 t = bh (256 * t.val) D.pb := by
  funext y
  show V mem c main_arg4 ((win0_9.blk t).view.emb y) = _
  rw [V_main_arg4, A.h4]
  show re (φ := .bf16) (D.pb (((win0_9.blk t).view.emb y 0).val, ((win0_9.blk t).view.emb y 1).val)) = re (D.pb (256 * t.val + (y 0).val, (y 1).val))
  blk_simp [ix9]
  rw [Nat.mul_comm 256]
theorem ins_of (t : Fin cfg0.N) : ins mem c t = insD D (256 * t.val) := by
  unfold ins
  rw [blk0 A, blk1 A, blk2 A, blk3 A, blk4 A, blk5 A, blk6 A, blk7 A, blk8 A, blk9 A]
  rfl
/-- The accumulators after step `n`. -/
theorem acc_of (n : ℕ) (h : n < cfg0.N) : acc mem c n h = parts D (n + 1) := by
  induction n with
  | zero =>
    rw [acc, ins_of A, zeros_parts D]
    exact step_parts D 0
  | succ n ih =>
    rw [acc, ins_of A, ih]
    exact step_parts D (n + 1)

/-! The arrays the kernel leaves. -/
theorem arr10 : (dats mem 0 c).arrAt 10 cfg0.N = (ar i2 D.dz : FVec Ideal S8192x2048 .bf16) := by
  refine (dats mem 0 c).arrAt_eq_of_covers 10 _ (by decide +kernel) fun t hf y => ?_
  blk_simp
  rw [after_10, ins_of A, o10_bl D]
  show re (φ := .bf16) (D.dz (256 * t.val + (y 0).val, (y 1).val)) = re (D.dz (((win0_10.blk t).view.emb y 0).val, ((win0_10.blk t).view.emb y 1).val))
  blk_simp [ix10]
  rw [Nat.mul_comm 256]
theorem arr11 : (dats mem 0 c).arrAt 11 cfg0.N = (ar i2 (fun k => alpha * D.dz k) : FVec Ideal S8192x2048 .f32) := by
  refine (dats mem 0 c).arrAt_eq_of_covers 11 _ (by decide +kernel) fun t hf y => ?_
  blk_simp
  rw [after_11, ins_of A, o11_bl D]
  show re (φ := .f32) (alpha * D.dz (256 * t.val + (y 0).val, (y 1).val)) = re (alpha * D.dz (((win0_11.blk t).view.emb y 0).val, ((win0_11.blk t).view.emb y 1).val))
  blk_simp [ix11]
  rw [Nat.mul_comm 256]
theorem arr12 : (dats mem 0 c).arrAt 12 cfg0.N = (ar i2 D.x : FVec Ideal S8192x2048 .bf16) := by
  refine (dats mem 0 c).arrAt_eq_of_covers 12 _ (by decide +kernel) fun t hf y => ?_
  blk_simp
  rw [after_12, ins_of A, o12_bl D]
  show re (φ := .bf16) (D.x (256 * t.val + (y 0).val, (y 1).val)) = re (D.x (((win0_12.blk t).view.emb y 0).val, ((win0_12.blk t).view.emb y 1).val))
  blk_simp [ix12]
  rw [Nat.mul_comm 256]
theorem arr13 : (dats mem 0 c).arrAt 13 cfg0.N = (ar i2 D.da : FVec Ideal S8192x2048 .bf16) := by
  refine (dats mem 0 c).arrAt_eq_of_covers 13 _ (by decide +kernel) fun t hf y => ?_
  blk_simp
  rw [after_13, ins_of A, o13_bl D]
  show re (φ := .bf16) (D.da (256 * t.val + (y 0).val, (y 1).val)) = re (D.da (((win0_13.blk t).view.emb y 0).val, ((win0_13.blk t).view.emb y 1).val))
  blk_simp [ix13]
  rw [Nat.mul_comm 256]
theorem arr14 : (dats mem 0 c).arrAt 14 cfg0.N = (ar i2 D.db : FVec Ideal S8192x2048 .bf16) := by
  refine (dats mem 0 c).arrAt_eq_of_covers 14 _ (by decide +kernel) fun t hf y => ?_
  blk_simp
  rw [after_14, ins_of A, o14_bl D]
  show re (φ := .bf16) (D.db (256 * t.val + (y 0).val, (y 1).val)) = re (D.db (((win0_14.blk t).view.emb y 0).val, ((win0_14.blk t).view.emb y 1).val))
  blk_simp [ix14]
  rw [Nat.mul_comm 256]
theorem arr15 : (dats mem 0 c).arrAt 15 cfg0.N
    = (ar i3 fun k => if k.1 = 0 then D.dga (k.2.1, k.2.2) else D.dgb (k.2.1, k.2.2) : FVec Ideal S2x8192x2048 .bf16) := by
  refine (dats mem 0 c).arrAt_eq_of_covers 15 _ (by decide +kernel) fun t hf y => ?_
  blk_simp
  rw [after_15, ins_of A, o15_bl D]
  show re (φ := .bf16) (if (y 0).val = 0 then D.dga (256 * t.val + (y 1).val, (y 2).val) else D.dgb (256 * t.val + (y 1).val, (y 2).val))
    = re (if ((win0_15.blk t).view.emb y 0).val = 0
        then D.dga (((win0_15.blk t).view.emb y 1).val, ((win0_15.blk t).view.emb y 2).val)
        else D.dgb (((win0_15.blk t).view.emb y 1).val, ((win0_15.blk t).view.emb y 2).val))
  blk_simp [ix15]
  rw [Nat.mul_comm 256]
theorem arr16 : (dats mem 0 c).arrAt 16 cfg0.N = (ar i2 fun k => Inp.tok (fun k => D.dy k * D.xh k) k.2 : FVec Ideal S1x2048 .f32) := by
  refine (dats mem 0 c).arrAt_eq_of_covers 16 _ (by decide +kernel) fun t hf y => ?_
  have ht := flush16 t hf
  blk_simp
  rw [after_16, acc_of A, ht]
  refine (congrFun (part_all (fun k => D.dy k * D.xh k)) y).trans ?_
  show re (φ := .f32) (Inp.tok (fun k => D.dy k * D.xh k) (y 1).val) = re (Inp.tok (fun k => D.dy k * D.xh k) ((win0_16.blk t).view.emb y 1).val)
  blk_simp [ix16]
theorem arr17 : (dats mem 0 c).arrAt 17 cfg0.N = (ar i2 fun k => Inp.tok (D.dy) k.2 : FVec Ideal S1x2048 .f32) := by
  refine (dats mem 0 c).arrAt_eq_of_covers 17 _ (by decide +kernel) fun t hf y => ?_
  have ht := flush17 t hf
  blk_simp
  rw [after_17, acc_of A, ht]
  refine (congrFun (part_all (D.dy)) y).trans ?_
  show re (φ := .f32) (Inp.tok (D.dy) (y 1).val) = re (Inp.tok (D.dy) ((win0_17.blk t).view.emb y 1).val)
  blk_simp [ix17]
theorem arr18 : (dats mem 0 c).arrAt 18 cfg0.N = (ar i2 fun k => Inp.tok (fun k => D.er k * D.er k) k.2 : FVec Ideal S1x2048 .f32) := by
  refine (dats mem 0 c).arrAt_eq_of_covers 18 _ (by decide +kernel) fun t hf y => ?_
  have ht := flush18 t hf
  blk_simp
  rw [after_18, acc_of A, ht]
  refine (congrFun (part_all (fun k => D.er k * D.er k)) y).trans ?_
  show re (φ := .f32) (Inp.tok (fun k => D.er k * D.er k) (y 1).val) = re (Inp.tok (fun k => D.er k * D.er k) ((win0_18.blk t).view.emb y 1).val)
  blk_simp [ix18]
theorem arr19 : (dats mem 0 c).arrAt 19 cfg0.N = (ar i2 fun k => Inp.tok (D.dga) k.2 : FVec Ideal S1x2048 .f32) := by
  refine (dats mem 0 c).arrAt_eq_of_covers 19 _ (by decide +kernel) fun t hf y => ?_
  have ht := flush19 t hf
  blk_simp
  rw [after_19, acc_of A, ht]
  refine (congrFun (part_all (D.dga)) y).trans ?_
  show re (φ := .f32) (Inp.tok (D.dga) (y 1).val) = re (Inp.tok (D.dga) ((win0_19.blk t).view.emb y 1).val)
  blk_simp [ix19]
theorem arr20 : (dats mem 0 c).arrAt 20 cfg0.N = (ar i2 fun k => Inp.tok (D.dgb) k.2 : FVec Ideal S1x2048 .f32) := by
  refine (dats mem 0 c).arrAt_eq_of_covers 20 _ (by decide +kernel) fun t hf y => ?_
  have ht := flush20 t hf
  blk_simp
  rw [after_20, acc_of A, ht]
  refine (congrFun (part_all (D.dgb)) y).trans ?_
  show re (φ := .f32) (Inp.tok (D.dgb) (y 1).val) = re (Inp.tok (D.dgb) ((win0_20.blk t).view.emb y 1).val)
  blk_simp [ix20]

end

end OutLn

end
-- ==== Proof.OutLnRef.lean ====
/- The end of the forward pass and the start of the backward one: what the reference's lines compute, on arrays of real numbers. -/
module

public import proofs.«01_k».proof.Proof.OutLnSpec
public import proofs.«01_k».proof.Proof.RefLift
public import proofs.«01_k».proof.Proof.Gen.Reference6Ideal.Read

@[expose] public section

set_option maxRecDepth 16384

noncomputable section

namespace OutLn.Ref

open Idealize.ShloMosaic Idealize.SL.Sem Cert.Reference6Ideal Cert.Reference6Ideal.Gen Cert.Reference6Ideal.Read Mixer

/-! The kinds of arrays: `f` takes a token and a column, `g` a token, `h` a column. -/
abbrev T3 (f : ℕ × ℕ → ℝ) : FVec Ideal S1x8192x2048 .f32 := ar i3 fun k => f k.2
abbrev T1 (g : ℕ → ℝ) : FVec Ideal S1x8192x1 .f32 := ar i3 fun k => g k.2.1
abbrev T2 (g : ℕ → ℝ) : FVec Ideal S1x8192 .f32 := ar i2 fun k => g k.2
abbrev O1 (g : ℕ → ℝ) : FVec Ideal S8192 .f32 := ar i1 g
abbrev C1 (h : ℕ → ℝ) : FVec Ideal S2048 .f32 := ar i1 h
abbrev C2 (h : ℕ → ℝ) : FVec Ideal S1x2048 .f32 := ar i2 fun k => h k.2
abbrev C3 (h : ℕ → ℝ) : FVec Ideal S1x1x2048 .f32 := ar i3 fun k => h k.2.2
abbrev B1 (h : ℕ → ℝ) : FVec Ideal S4096 .f32 := ar i1 h
abbrev F2 (f : ℕ × ℕ → ℝ) : FVec Ideal S8192x2048 .f32 := ar i2 f

/-! Layout. -/
section layout
variable (f : ℕ × ℕ → ℝ) (g h : ℕ → ℝ)

theorem bc_tok : broadcastInDim S1x8192x2048 ![1, 2] bcast_S8192x2048_S1x8192x2048_1_2 (F2 f) = T3 f := by
  funext y
  exact broadcastInDim_apply _ bcast_S8192x2048_S1x8192x2048_1_2 _ y (fun a => match a with
    | ⟨0, _⟩ => y 1 | ⟨1, _⟩ => y 2) (fun a => match a with | ⟨0, _⟩ => rfl | ⟨1, _⟩ => rfl)
theorem bc_col3 : broadcastInDim S1x1x2048 ![2] bcast_S2048_S1x1x2048_2 (C1 h) = C3 h := by
  funext y
  exact broadcastInDim_apply _ bcast_S2048_S1x1x2048_2 _ y (fun a => match a with | ⟨0, _⟩ => y 2) (fun a => match a with | ⟨0, _⟩ => rfl)
theorem bc_col : broadcastInDim S1x8192x2048 ![0, 1, 2] bcast_S1x1x2048_S1x8192x2048_0_1_2 (C3 h) = T3 fun k => h k.2 := by
  funext y
  exact broadcastInDim_apply _ bcast_S1x1x2048_S1x8192x2048_0_1_2 _ y (fun a => match a with
    | ⟨0, _⟩ => ⟨0, Nat.one_pos⟩ | ⟨1, _⟩ => ⟨0, Nat.one_pos⟩ | ⟨2, _⟩ => y 2) (fun a => match a with
    | ⟨0, _⟩ => rfl | ⟨1, _⟩ => rfl | ⟨2, _⟩ => rfl)
theorem bc_col2 : broadcastInDim S1x2048 ![1] bcast_S2048_S1x2048_1 (C1 h) = C2 h := by
  funext y
  exact broadcastInDim_apply _ bcast_S2048_S1x2048_1 _ y (fun a => match a with | ⟨0, _⟩ => y 1) (fun a => match a with | ⟨0, _⟩ => rfl)
theorem bc_row1 : broadcastInDim S1x8192x1 ![0, 1] bcast_S1x8192_S1x8192x1_0_1 (T2 g) = T1 g := by
  funext y
  have h0 : (y 0).val < 1 := (y 0).isLt
  exact broadcastInDim_apply _ bcast_S1x8192_S1x8192x1_0_1 _ y (fun a => match a with
    | ⟨0, _⟩ => y 0 | ⟨1, _⟩ => y 1) (fun a => match a with
    | ⟨0, _⟩ => by show (y 0).val = 0; omega
    | ⟨1, _⟩ => rfl)
theorem bc_row : broadcastInDim S1x8192x2048 ![0, 1, 2] bcast_S1x8192x1_S1x8192x2048_0_1_2 (T1 g) = T3 fun k => g k.1 := by
  funext y
  exact broadcastInDim_apply _ bcast_S1x8192x1_S1x8192x2048_0_1_2 _ y (fun a => match a with
    | ⟨0, _⟩ => ⟨0, Nat.one_pos⟩ | ⟨1, _⟩ => y 1 | ⟨2, _⟩ => ⟨0, Nat.one_pos⟩) (fun a => match a with
    | ⟨0, _⟩ => rfl | ⟨1, _⟩ => rfl | ⟨2, _⟩ => rfl)
theorem bc_row2 : broadcastInDim S1x8192x2048 ![0, 1] bcast_S1x8192_S1x8192x2048_0_1 (T2 g) = T3 fun k => g k.1 := by
  funext y
  have h0 : (y 0).val < 1 := (y 0).isLt
  exact broadcastInDim_apply _ bcast_S1x8192_S1x8192x2048_0_1 _ y (fun a => match a with
    | ⟨0, _⟩ => y 0 | ⟨1, _⟩ => y 1) (fun a => match a with
    | ⟨0, _⟩ => by show (y 0).val = 0; omega
    | ⟨1, _⟩ => rfl)
theorem bc_flat : broadcastInDim S1x8192 ![1] bcast_S8192_S1x8192_1 (O1 g) = T2 g := by
  funext y
  exact broadcastInDim_apply _ bcast_S8192_S1x8192_1 _ y (fun a => match a with | ⟨0, _⟩ => y 1) (fun a => match a with | ⟨0, _⟩ => rfl)
theorem bc_cst {t : Shape} (r : ℝ) (dims : Fin S_.rank → Fin t.rank) (hd : S_.BroadcastsInDim t dims) :
    broadcastInDim t dims hd (cst r : FVec Ideal S_ .f32) = cst r := rfl
theorem bc_rowc (r : ℝ) : broadcastInDim S1x8192x2048 ![0, 1] bcast_S1x8192_S1x8192x2048_0_1 (cst r : FVec Ideal S1x8192 .f32) = cst r := rfl

theorem cast_bias : shapeCast S4096 (ar i2 f : FVec Ideal S1x4096 .f32) shapeCasts_S1x4096_S4096 = B1 fun i => f (0, i) := by
  funext y
  exact shapeCast_apply _ shapeCasts_S1x4096_S4096 y (fun a => match a with | ⟨0, _⟩ => ⟨0, Nat.one_pos⟩ | ⟨1, _⟩ => y 0) (by
    rw [Shape.rowMajor_val_one, Shape.rowMajor_val_two]
    show 0 * 4096 + (y 0).val = (y 0).val
    omega)
theorem cast_ln : shapeCast S2048 (ar i2 f : FVec Ideal S1x2048 .f32) shapeCasts_S1x2048_S2048 = C1 fun i => f (0, i) := by
  funext y
  exact shapeCast_apply _ shapeCasts_S1x2048_S2048 y (fun a => match a with | ⟨0, _⟩ => ⟨0, Nat.one_pos⟩ | ⟨1, _⟩ => y 0) (by
    rw [Shape.rowMajor_val_one, Shape.rowMajor_val_two]
    show 0 * 2048 + (y 0).val = (y 0).val
    omega)
theorem cast_col : shapeCast S1x1x2048 (C2 h) shapeCasts_S1x2048_S1x1x2048 = C3 h := by
  funext y
  have h0 : (y 0).val < 1 := (y 0).isLt
  have h1 : (y 1).val < 1 := (y 1).isLt
  exact shapeCast_apply _ shapeCasts_S1x2048_S1x1x2048 y (fun a => match a with | ⟨0, _⟩ => y 0 | ⟨1, _⟩ => y 2) (by
    rw [Shape.rowMajor_val_two, Shape.rowMajor_val_three]
    show (y 0).val * 2048 + (y 2).val = ((y 0).val * 1 + (y 1).val) * 2048 + (y 2).val
    omega)
theorem cast_row : shapeCast S1x8192x1 (T2 g) shapeCasts_S1x8192_S1x8192x1 = T1 g := by
  funext y
  have h0 : (y 0).val < 1 := (y 0).isLt
  have h1 : (y 2).val < 1 := (y 2).isLt
  exact shapeCast_apply _ shapeCasts_S1x8192_S1x8192x1 y (fun a => match a with | ⟨0, _⟩ => y 0 | ⟨1, _⟩ => y 1) (by
    rw [Shape.rowMajor_val_two, Shape.rowMajor_val_three]
    show (y 0).val * 8192 + (y 1).val = ((y 0).val * 8192 + (y 1).val) * 1 + (y 2).val
    omega)
theorem cast_tok : shapeCast S8192x2048 (T3 f) shapeCasts_S1x8192x2048_S8192x2048 = F2 f := shapeCast_drop _ _
theorem slice_lo : extractStridedSlice S2048 ![0] (B1 h) slices_S4096_S2048_0 = C1 h := by
  funext y
  show re (h (0 + (y 0).val)) = re (h (y 0).val)
  rw [Nat.zero_add]
theorem slice_hi : extractStridedSlice S2048 ![2048] (B1 h) slices_S4096_S2048_2048 = C1 fun e => h (2048 + e) := rfl

/-! Sums. -/
theorem sum_row : Host.reduceAdd (T3 f) (cst 0 : FVec Ideal S_ .f32) reducesTo_S1x8192x2048_S1x8192_d2 h_S_
    = T2 fun i => ∑ e : Fin 2048, f (i, e.val) :=
  Mixer.Ref.hostReduce_bij (ι := Fin 2048) _ h_S_ i3 i2 _ (fun k q => (k.1, k.2, q.val))
    (fun j q => fun a => match a with | ⟨0, _⟩ => j 0 | ⟨1, _⟩ => j 1 | ⟨2, _⟩ => q)
    (fun j q => funext fun b => match b with | ⟨0, _⟩ => rfl | ⟨1, _⟩ => rfl)
    (fun j a b hab => (congrFun hab (2 : Fin 3) : a = b))
    (fun i => ⟨i 2, funext fun a => match a with | ⟨0, _⟩ => rfl | ⟨1, _⟩ => rfl | ⟨2, _⟩ => rfl⟩)
    (fun _ _ => rfl)
theorem sum_tok : Host.reduceAdd (T3 f) (cst 0 : FVec Ideal S_ .f32) reducesTo_S1x8192x2048_S1x2048_d1 h_S_
    = C2 fun e => Inp.tok f e :=
  Mixer.Ref.hostReduce_bij (ι := Fin 8192) _ h_S_ i3 i2 _ (fun k q => (k.1, q.val, k.2))
    (fun j q => fun a => match a with | ⟨0, _⟩ => j 0 | ⟨1, _⟩ => q | ⟨2, _⟩ => j 1)
    (fun j q => funext fun b => match b with | ⟨0, _⟩ => rfl | ⟨1, _⟩ => rfl)
    (fun j a b hab => (congrFun hab (1 : Fin 3) : a = b))
    (fun i => ⟨i 1, funext fun a => match a with | ⟨0, _⟩ => rfl | ⟨1, _⟩ => rfl | ⟨2, _⟩ => rfl⟩)
    (fun _ _ => rfl)
theorem sum_all : Host.reduceAdd (T3 f) (cst 0 : FVec Ideal S_ .f32) reducesTo_S1x8192x2048_S2048_d0_1 h_S_
    = C1 fun e => Inp.tok f e :=
  Mixer.Ref.hostReduce_bij (ι := Fin 8192) _ h_S_ i3 i1 _ (fun k q => (0, q.val, k))
    (fun j q => fun a => match a with | ⟨0, _⟩ => ⟨0, Nat.one_pos⟩ | ⟨1, _⟩ => q | ⟨2, _⟩ => j 0)
    (fun j q => funext fun b => match b with | ⟨0, _⟩ => rfl)
    (fun j a b hab => (congrFun hab (1 : Fin 3) : a = b))
    (fun i => ⟨i 1, funext fun a => match a with | ⟨0, _⟩ => Mixer.Ref.one_eq rfl _ _ | ⟨1, _⟩ => rfl | ⟨2, _⟩ => rfl⟩)
    (fun _ _ => rfl)
theorem sum_col : Host.reduceAdd (C3 h) (cst 0 : FVec Ideal S_ .f32) reducesTo_S1x1x2048_S2048_d0_1 h_S_ = C1 h := by
  refine (Mixer.Ref.hostReduce_bij (ι := Unit) _ h_S_ i3 i1 _ (fun k _ => (0, 0, k))
    (fun j _ => fun a => match a with | ⟨0, _⟩ => ⟨0, Nat.one_pos⟩ | ⟨1, _⟩ => ⟨0, Nat.one_pos⟩ | ⟨2, _⟩ => j 0)
    (fun j q => funext fun b => match b with | ⟨0, _⟩ => rfl) (fun j a b _ => rfl)
    (fun i => ⟨(), funext fun a => match a with
      | ⟨0, _⟩ => Mixer.Ref.one_eq rfl _ _ | ⟨1, _⟩ => Mixer.Ref.one_eq rfl _ _ | ⟨2, _⟩ => rfl⟩) (fun _ _ => rfl)).trans ?_
  simp only [Finset.univ_unique, Finset.sum_singleton]
theorem sum_one : Host.reduceAdd (T1 g) (cst 0 : FVec Ideal S_ .f32) reducesTo_S1x8192x1_S8192_d0_2 h_S_ = O1 g := by
  refine (Mixer.Ref.hostReduce_bij (ι := Unit) _ h_S_ i3 i1 _ (fun k _ => (0, k, 0))
    (fun j _ => fun a => match a with | ⟨0, _⟩ => ⟨0, Nat.one_pos⟩ | ⟨1, _⟩ => j 0 | ⟨2, _⟩ => ⟨0, Nat.one_pos⟩)
    (fun j q => funext fun b => match b with | ⟨0, _⟩ => rfl) (fun j a b _ => rfl)
    (fun i => ⟨(), funext fun a => match a with
      | ⟨0, _⟩ => Mixer.Ref.one_eq rfl _ _ | ⟨1, _⟩ => rfl | ⟨2, _⟩ => Mixer.Ref.one_eq rfl _ _⟩) (fun _ _ => rfl)).trans ?_
  simp only [Finset.univ_unique, Finset.sum_singleton]

theorem dot_w (w : ℕ × ℕ → ℝ) : Host.dotGeneral dot_S1x8192x2048_S2048x2048_S1x8192x2048_2_0_01_1_n_n none (T3 f)
    (ar i2 w : FVec Ideal S2048x2048 .f32) = T3 fun k => ∑ d : Fin 2048, f (k.1, d.val) * w (d.val, k.2) :=
  Mixer.Ref.hostDot_ar _ rfl rfl i3 i2 i3 (fun k q => (k.1, k.2.1, q)) (fun k q => (q, k.2.2)) (fun _ _ => rfl) (fun _ _ => rfl) none _ _
theorem dot_wT (w : ℕ × ℕ → ℝ) : Host.dotGeneral dot_S1x8192x2048_S2048x2048_S1x8192x2048_2_1_01_0_n_n none (T3 f)
    (ar i2 w : FVec Ideal S2048x2048 .f32) = T3 fun k => ∑ d : Fin 2048, f (k.1, d.val) * w (k.2, d.val) :=
  Mixer.Ref.hostDot_ar _ rfl rfl i3 i2 i3 (fun k q => (k.1, k.2.1, q)) (fun k q => (k.2.2, q)) (fun _ _ => rfl) (fun _ _ => rfl) none _ _

/-- One gate's biases beside zeros. -/
theorem pad_hi : pad S4096 ![2048] ![0] ![0] (C1 h) (cst 0 : FVec Ideal S_ .f32) pads_S2048_S4096_204800 h_S_
    = B1 fun i => if i < 2048 then 0 else h (i - 2048) := by
  funext y
  have hy : (y 0).val < 4096 := (y 0).isLt
  by_cases hl : (y 0).val < 2048
  · rw [pad_apply_of_not_inside _ _ _ _ _ pads_S2048_S4096_204800 h_S_ y (0 : Fin 1) (fun hh => by
      have h2 : 2048 ≤ (y 0).val := hh.1
      omega)]
    show re 0 = re (if (y 0).val < 2048 then 0 else h ((y 0).val - 2048))
    rw [if_pos hl]
  · rw [pad_apply_of_inside _ _ _ _ _ pads_S2048_S4096_204800 h_S_ y
      (fun a => match a with | ⟨0, _⟩ => ⟨(y 0).val - 2048, by show _ < 2048; omega⟩)
      (fun a => match a with | ⟨0, _⟩ => by show (y 0).val = 2048 + ((y 0).val - 2048) * (0 + 1); omega)]
    show re (h ((y 0).val - 2048)) = re (if (y 0).val < 2048 then 0 else h ((y 0).val - 2048))
    rw [if_neg hl]
theorem pad_lo : pad S4096 ![0] ![2048] ![0] (C1 h) (cst 0 : FVec Ideal S_ .f32) pads_S2048_S4096_020480 h_S_
    = B1 fun i => if i < 2048 then h i else 0 := by
  funext y
  have hy : (y 0).val < 4096 := (y 0).isLt
  by_cases hl : (y 0).val < 2048
  · rw [pad_apply_of_inside _ _ _ _ _ pads_S2048_S4096_020480 h_S_ y
      (fun a => match a with | ⟨0, _⟩ => ⟨(y 0).val, hl⟩)
      (fun a => match a with | ⟨0, _⟩ => by show (y 0).val = 0 + (y 0).val * (0 + 1); omega)]
    show re (h (y 0).val) = re (if (y 0).val < 2048 then h (y 0).val else 0)
    rw [if_pos hl]
  · rw [pad_apply_of_not_inside _ _ _ _ _ pads_S2048_S4096_020480 h_S_ y (0 : Fin 1) (fun hh => by
      have h3 : ((y 0).val - 0) / (0 + 1) < 2048 := hh.2.2
      omega)]
    show re 0 = re (if (y 0).val < 2048 then h (y 0).val else 0)
    rw [if_neg hl]
theorem concat_two (f₁ f₂ : ℕ × ℕ → ℝ) :
    concatenate S2x8192x2048 0 [⟨S1x8192x2048, T3 f₁⟩, ⟨S1x8192x2048, T3 f₂⟩] concatenates_S1x8192x2048_S1x8192x2048_S2x8192x2048_d0
      = (ar i3 fun k => if k.1 = 0 then f₁ k.2 else f₂ k.2 : FVec Ideal S2x8192x2048 .f32) := by
  funext y
  have h0 : (y 0).val < 2 := (y 0).isLt
  by_cases hy : (y 0).val = 0
  · rw [concatenate_apply_piece (t := S2x8192x2048) 0 [⟨S1x8192x2048, T3 f₁⟩, ⟨S1x8192x2048, T3 f₂⟩]
      concatenates_S1x8192x2048_S1x8192x2048_S2x8192x2048_d0 y 0 (by decide : 0 < 2) S1x8192x2048 (T3 f₁) rfl
      rfl 0 rfl (fun a => match a with | ⟨0, _⟩ => ⟨0, Nat.one_pos⟩ | ⟨1, _⟩ => y 1 | ⟨2, _⟩ => y 2)
      (fun b hb => match b, hb with | ⟨0, _⟩, hb => absurd rfl hb | ⟨1, _⟩, _ => rfl | ⟨2, _⟩, _ => rfl)
      (by show 0 + 0 = (y 0).val; omega)]
    show re (f₁ ((y 1).val, (y 2).val)) = re (if (y 0).val = 0 then f₁ ((y 1).val, (y 2).val) else f₂ ((y 1).val, (y 2).val))
    rw [if_pos hy]
  · rw [concatenate_apply_piece (t := S2x8192x2048) 0 [⟨S1x8192x2048, T3 f₁⟩, ⟨S1x8192x2048, T3 f₂⟩]
      concatenates_S1x8192x2048_S1x8192x2048_S2x8192x2048_d0 y 1 (by decide : 1 < 2) S1x8192x2048 (T3 f₂) rfl
      rfl 1 rfl (fun a => match a with | ⟨0, _⟩ => ⟨0, Nat.one_pos⟩ | ⟨1, _⟩ => y 1 | ⟨2, _⟩ => y 2)
      (fun b hb => match b, hb with | ⟨0, _⟩, hb => absurd rfl hb | ⟨1, _⟩, _ => rfl | ⟨2, _⟩, _ => rfl)
      (by show 1 + 0 = (y 0).val; omega)]
    show re (f₂ ((y 1).val, (y 2).val)) = re (if (y 0).val = 0 then f₁ ((y 1).val, (y 2).val) else f₂ ((y 1).val, (y 2).val))
    rw [if_neg hy]
end layout

/-! The literals. -/
theorem lit_alpha' : (Scalar.ofBits .f32 0x3F9837F0#32 : Ideal .f32) = re alpha := by
  show Ideal.ofBits .f32 _ = ((alpha : ℝ) : EReal); simp [Ideal.ofBits, Ideal.ieee, -EReal.coe_mul, alpha]; norm_num
theorem lit_rows : (Scalar.ofBits .f32 0x45000000#32 : Ideal .f32) = re 2048 := by
  show Ideal.ofBits .f32 _ = ((2048 : ℝ) : EReal); simp [Ideal.ofBits, Ideal.ieee, -EReal.coe_mul]; norm_num
theorem lit_two : (Scalar.ofBits .f32 0x40000000#32 : Ideal .f32) = re 2 := by
  show Ideal.ofBits .f32 _ = ((2 : ℝ) : EReal); simp [Ideal.ofBits, Ideal.ieee, -EReal.coe_mul]; norm_num
theorem lit_neg : (Scalar.ofBits .f32 0xBF000000#32 : Ideal .f32) = re (-(1 / 2)) := by
  show Ideal.ofBits .f32 _ = ((-(1 / 2) : ℝ) : EReal); simp [Ideal.ofBits, Ideal.ieee, -EReal.coe_mul]; norm_num

theorem e_cst : val_main_cst (F := Ideal) = (cst 1 : FVec Ideal S_ .f32) := funext fun _ => lit_one
theorem e_cst_0 : val_main_cst_0 (F := Ideal) = (cst 1 : FVec Ideal S_ .f32) := funext fun _ => lit_one
theorem e_cst_1 : val_main_cst_1 (F := Ideal) = (cst 1 : FVec Ideal S_ .f32) := funext fun _ => lit_one
theorem e_cst_2 : val_main_cst_2 (F := Ideal) = (cst 1 : FVec Ideal S_ .f32) := funext fun _ => lit_one
theorem e_cst_3 : val_main_cst_3 (F := Ideal) = (cst 1 : FVec Ideal S_ .f32) := funext fun _ => lit_one
theorem e_cst_4 : val_main_cst_4 (F := Ideal) = (cst 1 : FVec Ideal S_ .f32) := funext fun _ => lit_one
theorem e_cst_5 : val_main_cst_5 (F := Ideal) = (cst alpha : FVec Ideal S_ .f32) := funext fun _ => lit_alpha'
theorem e_cst_6 : val_main_cst_6 (F := Ideal) = (cst 0 : FVec Ideal S_ .f32) := funext fun _ => lit_zero
theorem e_cst_7 : val_main_cst_7 (F := Ideal) = (cst 2048 : FVec Ideal S_ .f32) := funext fun _ => lit_rows
theorem e_cst_8 : val_main_cst_8 (F := Ideal) = (cst 2 : FVec Ideal S_ .f32) := funext fun _ => lit_two
theorem e_cst_9 : val_main_cst_9 (F := Ideal) = (cst 0 : FVec Ideal S_ .f32) := funext fun _ => lit_zero
theorem e_cst_10 : val_main_cst_10 (F := Ideal) = (cst 2048 : FVec Ideal S_ .f32) := funext fun _ => lit_rows
theorem e_cst_11 : val_main_cst_11 (F := Ideal) = (cst eps : FVec Ideal S_ .f32) := funext fun _ => lit_eps
theorem e_cst_12 : val_main_cst_12 (F := Ideal) = (cst (-(1 / 2)) : FVec Ideal S_ .f32) := funext fun _ => lit_neg
theorem e_cst_13 : val_main_cst_13 (F := Ideal) = (cst 2 : FVec Ideal S_ .f32) := funext fun _ => lit_two
theorem e_cst_14 : val_main_cst_14 (F := Ideal) = (cst 0 : FVec Ideal S_ .f32) := funext fun _ => lit_zero
theorem e_cst_18 : val_main_cst_18 (F := Ideal) = (cst 0 : FVec Ideal S_ .f32) := funext fun _ => lit_zero
theorem e_cst_19 : val_main_cst_19 (F := Ideal) = (cst (1 / 2) : FVec Ideal S_ .f32) := funext fun _ => lit_half
theorem e_cst_20 : val_main_cst_20 (F := Ideal) = (cst 1 : FVec Ideal S_ .f32) := funext fun _ => lit_one
theorem e_cst_21 : val_main_cst_21 (F := Ideal) = (cst 2048 : FVec Ideal S_ .f32) := funext fun _ => lit_rows
theorem e_cst_22 : val_main_cst_22 (F := Ideal) = (cst 0 : FVec Ideal S_ .f32) := funext fun _ => lit_zero
theorem e_cst_23 : val_main_cst_23 (F := Ideal) = (cst 0 : FVec Ideal S_ .f32) := funext fun _ => lit_zero
theorem e_cst_24 : val_main_cst_24 (F := Ideal) = (cst 0 : FVec Ideal S_ .f32) := funext fun _ => lit_zero
theorem e_cst_25 : val_main_cst_25 (F := Ideal) = (cst 0 : FVec Ideal S_ .f32) := funext fun _ => lit_zero
theorem e_cst_26 : val_main_cst_26 (F := Ideal) = (cst 0 : FVec Ideal S_ .f32) := funext fun _ => lit_zero
theorem e_cst_27 : val_main_cst_27 (F := Ideal) = (cst 0 : FVec Ideal S_ .f32) := funext fun _ => lit_zero
theorem e_cst_28 : val_main_cst_28 (F := Ideal) = (cst 2048 : FVec Ideal S_ .f32) := funext fun _ => lit_rows
theorem e_cst_29 : val_main_cst_29 (F := Ideal) = (cst 0 : FVec Ideal S_ .f32) := funext fun _ => lit_zero
theorem e_cst_30 : val_main_cst_30 (F := Ideal) = (cst 0 : FVec Ideal S_ .f32) := funext fun _ => lit_zero
theorem e_cst_31 : val_main_cst_31 (F := Ideal) = (cst 2048 : FVec Ideal S_ .f32) := funext fun _ => lit_rows
theorem e_cst_32 : val_main_cst_32 (F := Ideal) = (cst 0 : FVec Ideal S_ .f32) := funext fun _ => lit_zero
theorem e_cst_33 : val_main_cst_33 (F := Ideal) = (cst alpha : FVec Ideal S_ .f32) := funext fun _ => lit_alpha'
theorem e_cst_34 : val_main_cst_34 (F := Ideal) = (cst 0 : FVec Ideal S_ .f32) := funext fun _ => lit_zero
theorem e_cst_35 : val_main_cst_35 (F := Ideal) = (cst 0 : FVec Ideal S_ .f32) := funext fun _ => lit_zero
theorem e_cst_36 : val_main_cst_36 (F := Ideal) = (cst 0 : FVec Ideal S_ .f32) := funext fun _ => lit_zero
theorem e_cst_37 : val_main_cst_37 (F := Ideal) = (cst 0 : FVec Ideal S_ .f32) := funext fun _ => lit_zero
theorem e_cst_38 : val_main_cst_38 (F := Ideal) = (cst 0 : FVec Ideal S_ .f32) := funext fun _ => lit_zero
theorem e_cst_39 : val_main_cst_39 (F := Ideal) = (cst 0 : FVec Ideal S_ .f32) := funext fun _ => lit_zero

section
variable (D : Inp)

/-! The arguments. -/
abbrev X0 : FVec Ideal S8192x2048 .f32 := ar i2 D.ga
abbrev X1 : FVec Ideal S8192x2048 .f32 := ar i2 D.gb
abbrev X2 : FVec Ideal S1x4096 .f32 := ar i2 D.bg
abbrev X3 : FVec Ideal S8192x2048 .bf16 := ar i2 D.pa
abbrev X4 : FVec Ideal S8192x2048 .bf16 := ar i2 D.pb
abbrev X5 : FVec Ideal S2048x2048 .f32 := ar i2 D.w
abbrev X6 : FVec Ideal S8192x2048 .f32 := ar i2 D.x
abbrev X7 : FVec Ideal S8192x2048 .f32 := ar i2 D.t
abbrev X8 : FVec Ideal S1x2048 .f32 := ar i2 D.lg
abbrev X9 : FVec Ideal S1x2048 .f32 := ar i2 D.lb
theorem e_v0 : val_main_v0 (F := Ideal) (X0 D) = T3 D.ga := by
  unfold val_main_v0
  rw [bc_tok] <;> rfl
theorem e_v1 : val_main_v1 (F := Ideal) (X1 D) = T3 D.gb := by
  unfold val_main_v1
  rw [bc_tok] <;> rfl
theorem e_v2 : val_main_v2 (F := Ideal) (X2 D) = B1 fun i => D.bg (0, i) := by
  unfold val_main_v2
  rw [cast_bias] <;> rfl
theorem e_v3 : val_main_v3 (F := Ideal) (X3 D) = F2 D.pa := by
  unfold val_main_v3
  rw [extf_ar] <;> rfl
theorem e_v4 : val_main_v4 (F := Ideal) (X3 D) = T3 D.pa := by
  unfold val_main_v4
  rw [e_v3 D, bc_tok] <;> rfl
theorem e_v5 : val_main_v5 (F := Ideal) (X4 D) = F2 D.pb := by
  unfold val_main_v5
  rw [extf_ar] <;> rfl
theorem e_v6 : val_main_v6 (F := Ideal) (X4 D) = T3 D.pb := by
  unfold val_main_v6
  rw [e_v5 D, bc_tok] <;> rfl
theorem e_v7 : val_main_v7 (F := Ideal) (X2 D) = C1 fun e => D.bg (0, e) := by
  unfold val_main_v7
  rw [e_v2 D, slice_lo] <;> rfl
theorem e_v8 : val_main_v8 (F := Ideal) (X2 D) = C3 fun e => D.bg (0, e) := by
  unfold val_main_v8
  rw [e_v7 D, bc_col3] <;> rfl
theorem e_v9 : val_main_v9 (F := Ideal) (X2 D) = T3 fun k => D.bg (0, k.2) := by
  unfold val_main_v9
  rw [e_v8 D, bc_col] <;> rfl
theorem e_v10 : val_main_v10 (F := Ideal) (X0 D) (X2 D) = T3 fun k => D.ga k + D.bg (0, k.2) := by
  unfold val_main_v10
  rw [e_v0 D, e_v9 D, addf_ar] <;> rfl
theorem e_v11 : val_main_v11 (F := Ideal) (X0 D) (X2 D) = T3 fun k => -(D.ga k + D.bg (0, k.2)) := by
  unfold val_main_v11
  rw [e_v10 D, hostNegf_ar] <;> rfl
theorem e_v12 : val_main_v12 (F := Ideal) (X0 D) (X2 D) = T3 fun k => Real.exp (-(D.ga k + D.bg (0, k.2))) := by
  unfold val_main_v12
  rw [e_v11 D, hostExp_ar] <;> rfl
theorem e_v13 : val_main_v13 (F := Ideal) = (cst 1 : FVec Ideal S1x8192x2048 .f32) := by
  unfold val_main_v13
  rw [e_cst, bc_cst] <;> rfl
theorem e_v14 : val_main_v14 (F := Ideal) (X0 D) (X2 D) = T3 fun k => 1 + Real.exp (-(D.ga k + D.bg (0, k.2))) := by
  unfold val_main_v14
  rw [e_v13, e_v12 D, addf_cst_ar] <;> rfl
theorem e_v15 : val_main_v15 (F := Ideal) = (cst 1 : FVec Ideal S1x8192x2048 .f32) := by
  unfold val_main_v15
  rw [e_cst_0, bc_cst] <;> rfl
theorem e_v16 : val_main_v16 (F := Ideal) (X0 D) (X2 D) = T3 D.sa := by
  unfold val_main_v16
  rw [e_v15, e_v14 D, hostDivf_cst_ar]
  · rfl
  · exact fun k => ne_of_gt (add_pos one_pos (Real.exp_pos _))
theorem e_v17 : val_main_v17 (F := Ideal) = (cst 1 : FVec Ideal S1x8192x2048 .f32) := by
  unfold val_main_v17
  rw [e_cst_1, bc_cst] <;> rfl
theorem e_v18 : val_main_v18 (F := Ideal) (X0 D) (X2 D) = T3 fun k => 1 - D.sa k := by
  unfold val_main_v18
  rw [e_v17, e_v16 D, subf_cst_ar] <;> rfl
theorem e_v19 : val_main_v19 (F := Ideal) (X0 D) (X2 D) = T3 fun k => D.sa k * (1 - D.sa k) := by
  unfold val_main_v19
  rw [e_v16 D, e_v18 D, mulf_ar] <;> rfl
theorem e_v20 : val_main_v20 (F := Ideal) (X2 D) = C1 fun e => D.bg (0, 2048 + e) := by
  unfold val_main_v20
  rw [e_v2 D, slice_hi] <;> rfl
theorem e_v21 : val_main_v21 (F := Ideal) (X2 D) = C3 fun e => D.bg (0, 2048 + e) := by
  unfold val_main_v21
  rw [e_v20 D, bc_col3] <;> rfl
theorem e_v22 : val_main_v22 (F := Ideal) (X2 D) = T3 fun k => D.bg (0, 2048 + k.2) := by
  unfold val_main_v22
  rw [e_v21 D, bc_col] <;> rfl
theorem e_v23 : val_main_v23 (F := Ideal) (X1 D) (X2 D) = T3 fun k => D.gb k + D.bg (0, 2048 + k.2) := by
  unfold val_main_v23
  rw [e_v1 D, e_v22 D, addf_ar] <;> rfl
theorem e_v24 : val_main_v24 (F := Ideal) (X1 D) (X2 D) = T3 fun k => -(D.gb k + D.bg (0, 2048 + k.2)) := by
  unfold val_main_v24
  rw [e_v23 D, hostNegf_ar] <;> rfl
theorem e_v25 : val_main_v25 (F := Ideal) (X1 D) (X2 D) = T3 fun k => Real.exp (-(D.gb k + D.bg (0, 2048 + k.2))) := by
  unfold val_main_v25
  rw [e_v24 D, hostExp_ar] <;> rfl
theorem e_v26 : val_main_v26 (F := Ideal) = (cst 1 : FVec Ideal S1x8192x2048 .f32) := by
  unfold val_main_v26
  rw [e_cst_2, bc_cst] <;> rfl
theorem e_v27 : val_main_v27 (F := Ideal) (X1 D) (X2 D) = T3 fun k => 1 + Real.exp (-(D.gb k + D.bg (0, 2048 + k.2))) := by
  unfold val_main_v27
  rw [e_v26, e_v25 D, addf_cst_ar] <;> rfl
theorem e_v28 : val_main_v28 (F := Ideal) = (cst 1 : FVec Ideal S1x8192x2048 .f32) := by
  unfold val_main_v28
  rw [e_cst_3, bc_cst] <;> rfl
theorem e_v29 : val_main_v29 (F := Ideal) (X1 D) (X2 D) = T3 D.sb := by
  unfold val_main_v29
  rw [e_v28, e_v27 D, hostDivf_cst_ar]
  · rfl
  · exact fun k => ne_of_gt (add_pos one_pos (Real.exp_pos _))
theorem e_v30 : val_main_v30 (F := Ideal) = (cst 1 : FVec Ideal S1x8192x2048 .f32) := by
  unfold val_main_v30
  rw [e_cst_4, bc_cst] <;> rfl
theorem e_v31 : val_main_v31 (F := Ideal) (X1 D) (X2 D) = T3 fun k => 1 - D.sb k := by
  unfold val_main_v31
  rw [e_v30, e_v29 D, subf_cst_ar] <;> rfl
theorem e_v32 : val_main_v32 (F := Ideal) (X1 D) (X2 D) = T3 fun k => D.sb k * (1 - D.sb k) := by
  unfold val_main_v32
  rw [e_v29 D, e_v31 D, mulf_ar] <;> rfl
theorem e_v33 : val_main_v33 (F := Ideal) (X0 D) (X2 D) (X3 D) = T3 fun k => D.sa k * D.pa k := by
  unfold val_main_v33
  rw [e_v16 D, e_v4 D, mulf_ar] <;> rfl
theorem e_v34 : val_main_v34 (F := Ideal) (X1 D) (X2 D) (X4 D) = T3 fun k => D.sb k * D.pb k := by
  unfold val_main_v34
  rw [e_v29 D, e_v6 D, mulf_ar] <;> rfl
theorem e_v35 : val_main_v35 (F := Ideal) (X0 D) (X1 D) (X2 D) (X3 D) (X4 D) = T3 D.mg := by
  unfold val_main_v35
  rw [e_v33 D, e_v34 D, addf_ar] <;> rfl
theorem e_v36 : val_main_v36 (F := Ideal) (X0 D) (X1 D) (X2 D) (X3 D) (X4 D) (X5 D) = T3 fun k => ∑ d : Fin 2048, D.mg (k.1, d.val) * D.w (d.val, k.2) := by
  unfold val_main_v36
  rw [e_v35 D, dot_w] <;> rfl
theorem e_v37 : val_main_v37 (F := Ideal) (X6 D) = T3 D.x := by
  unfold val_main_v37
  rw [bc_tok] <;> rfl
theorem e_v38 : val_main_v38 (F := Ideal) (X8 D) = C1 fun e => D.lg (0, e) := by
  unfold val_main_v38
  rw [cast_ln] <;> rfl
theorem e_v39 : val_main_v39 (F := Ideal) (X9 D) = C1 fun e => D.lb (0, e) := by
  unfold val_main_v39
  rw [cast_ln] <;> rfl
theorem e_v40 : val_main_v40 (F := Ideal) = (cst alpha : FVec Ideal S1x8192x2048 .f32) := by
  unfold val_main_v40
  rw [e_cst_5, bc_cst] <;> rfl
theorem e_v41 : val_main_v41 (F := Ideal) (X6 D) = T3 fun k => alpha * D.x k := by
  unfold val_main_v41
  rw [e_v40, e_v37 D, mulf_cst_ar] <;> rfl
theorem e_v42 : val_main_v42 (F := Ideal) (X0 D) (X1 D) (X2 D) (X3 D) (X4 D) (X5 D) (X6 D) = T3 D.z := by
  unfold val_main_v42
  rw [e_v41 D, e_v36 D, addf_ar] <;> rfl
theorem e_v43 : val_main_v43 (F := Ideal) (X0 D) (X1 D) (X2 D) (X3 D) (X4 D) (X5 D) (X6 D) = T2 fun i => ∑ e : Fin 2048, D.z (i, e.val) := by
  unfold val_main_v43
  rw [e_v42 D, e_cst_6, sum_row] <;> rfl
theorem e_v44 : val_main_v44 (F := Ideal) (X0 D) (X1 D) (X2 D) (X3 D) (X4 D) (X5 D) (X6 D) = T1 fun i => ∑ e : Fin 2048, D.z (i, e.val) := by
  unfold val_main_v44
  rw [e_v43 D, bc_row1] <;> rfl
theorem e_v45 : val_main_v45 (F := Ideal) = (cst 2048 : FVec Ideal S1x8192x1 .f32) := by
  unfold val_main_v45
  rw [e_cst_7, bc_cst] <;> rfl
theorem e_v46 : val_main_v46 (F := Ideal) (X0 D) (X1 D) (X2 D) (X3 D) (X4 D) (X5 D) (X6 D) = T1 D.mu := by
  unfold val_main_v46
  rw [e_v44 D, e_v45, hostDivf_ar_cst _ _ _ (by norm_num)] <;> rfl
theorem e_v47 : val_main_v47 (F := Ideal) (X0 D) (X1 D) (X2 D) (X3 D) (X4 D) (X5 D) (X6 D) = T3 fun k => D.mu k.1 := by
  unfold val_main_v47
  rw [e_v46 D, bc_row] <;> rfl
theorem e_v48 : val_main_v48 (F := Ideal) (X0 D) (X1 D) (X2 D) (X3 D) (X4 D) (X5 D) (X6 D) = T3 D.dc := by
  unfold val_main_v48
  rw [e_v42 D, e_v47 D, subf_ar] <;> rfl
theorem e_v49 : val_main_v49 (F := Ideal) (X0 D) (X1 D) (X2 D) (X3 D) (X4 D) (X5 D) (X6 D) = T3 fun k => D.dc k * D.dc k := by
  unfold val_main_v49
  rw [e_v48 D, mulf_ar] <;> rfl
theorem e_v50 : val_main_v50 (F := Ideal) = (cst 2 : FVec Ideal S1x8192x2048 .f32) := by
  unfold val_main_v50
  rw [e_cst_8, bc_cst] <;> rfl
theorem e_v51 : val_main_v51 (F := Ideal) (X0 D) (X1 D) (X2 D) (X3 D) (X4 D) (X5 D) (X6 D) = T3 fun k => 2 * D.dc k := by
  unfold val_main_v51
  rw [e_v50, e_v48 D, mulf_cst_ar] <;> rfl
theorem e_v52 : val_main_v52 (F := Ideal) (X0 D) (X1 D) (X2 D) (X3 D) (X4 D) (X5 D) (X6 D) = T2 fun i => ∑ e : Fin 2048, D.dc (i, e.val) * D.dc (i, e.val) := by
  unfold val_main_v52
  rw [e_v49 D, e_cst_9, sum_row] <;> rfl
theorem e_v53 : val_main_v53 (F := Ideal) (X0 D) (X1 D) (X2 D) (X3 D) (X4 D) (X5 D) (X6 D) = T1 fun i => ∑ e : Fin 2048, D.dc (i, e.val) * D.dc (i, e.val) := by
  unfold val_main_v53
  rw [e_v52 D, bc_row1] <;> rfl
theorem e_v54 : val_main_v54 (F := Ideal) = (cst 2048 : FVec Ideal S1x8192x1 .f32) := by
  unfold val_main_v54
  rw [e_cst_10, bc_cst] <;> rfl
theorem e_v55 : val_main_v55 (F := Ideal) (X0 D) (X1 D) (X2 D) (X3 D) (X4 D) (X5 D) (X6 D) = T1 D.var := by
  unfold val_main_v55
  rw [e_v53 D, e_v54, hostDivf_ar_cst _ _ _ (by norm_num)] <;> rfl
theorem e_v56 : val_main_v56 (F := Ideal) (X0 D) (X1 D) (X2 D) (X3 D) (X4 D) (X5 D) (X6 D) = T3 fun k => D.mu k.1 := by
  unfold val_main_v56
  rw [e_v46 D, bc_row] <;> rfl
theorem e_v57 : val_main_v57 (F := Ideal) (X0 D) (X1 D) (X2 D) (X3 D) (X4 D) (X5 D) (X6 D) = T3 D.dc := by
  unfold val_main_v57
  rw [e_v42 D, e_v56 D, subf_ar] <;> rfl
theorem e_v58 : val_main_v58 (F := Ideal) = (cst eps : FVec Ideal S1x8192x1 .f32) := by
  unfold val_main_v58
  rw [e_cst_11, bc_cst] <;> rfl
theorem e_v59 : val_main_v59 (F := Ideal) (X0 D) (X1 D) (X2 D) (X3 D) (X4 D) (X5 D) (X6 D) = T1 fun i => D.var i + eps := by
  unfold val_main_v59
  rw [e_v55 D, e_v58, addf_ar_cst] <;> rfl
theorem e_v60 : val_main_v60 (F := Ideal) (X0 D) (X1 D) (X2 D) (X3 D) (X4 D) (X5 D) (X6 D) = T1 D.rs := by
  unfold val_main_v60
  rw [e_v59 D]
  exact hostRsqrt_ar (co := i3) (f := fun k : ℕ × ℕ × ℕ => D.var k.2.1 + eps) fun k => D.var_pos k.2.1
theorem e_v61 : val_main_v61 (F := Ideal) (X0 D) (X1 D) (X2 D) (X3 D) (X4 D) (X5 D) (X6 D) = T1 fun i => D.rs i / (D.var i + eps) := by
  unfold val_main_v61
  rw [e_v60 D, e_v59 D]
  exact hostDivf_ar (co := i3) (f := fun k : ℕ × ℕ × ℕ => D.rs k.2.1) (g := fun k : ℕ × ℕ × ℕ => D.var k.2.1 + eps) fun k => (D.var_pos k.2.1).ne'
theorem e_v62 : val_main_v62 (F := Ideal) = (cst (-(1 / 2)) : FVec Ideal S1x8192x1 .f32) := by
  unfold val_main_v62
  rw [e_cst_12, bc_cst] <;> rfl
theorem e_v63 : val_main_v63 (F := Ideal) (X0 D) (X1 D) (X2 D) (X3 D) (X4 D) (X5 D) (X6 D) = T1 fun i => -(1 / 2) * (D.rs i / (D.var i + eps)) := by
  unfold val_main_v63
  rw [e_v62, e_v61 D, mulf_cst_ar] <;> rfl
theorem e_v64 : val_main_v64 (F := Ideal) (X0 D) (X1 D) (X2 D) (X3 D) (X4 D) (X5 D) (X6 D) = T3 fun k => D.rs k.1 := by
  unfold val_main_v64
  rw [e_v60 D, bc_row] <;> rfl
theorem e_v65 : val_main_v65 (F := Ideal) (X0 D) (X1 D) (X2 D) (X3 D) (X4 D) (X5 D) (X6 D) = T3 D.xh := by
  unfold val_main_v65
  rw [e_v57 D, e_v64 D, mulf_ar] <;> rfl
theorem e_v66 : val_main_v66 (F := Ideal) (X8 D) = C3 fun e => D.lg (0, e) := by
  unfold val_main_v66
  rw [e_v38 D, bc_col3] <;> rfl
theorem e_v67 : val_main_v67 (F := Ideal) (X8 D) = T3 fun k => D.lg (0, k.2) := by
  unfold val_main_v67
  rw [e_v66 D, bc_col] <;> rfl
theorem e_v68 : val_main_v68 (F := Ideal) (X0 D) (X1 D) (X2 D) (X3 D) (X4 D) (X5 D) (X6 D) (X8 D) = T3 fun k => D.xh k * D.lg (0, k.2) := by
  unfold val_main_v68
  rw [e_v65 D, e_v67 D, mulf_ar] <;> rfl
theorem e_v69 : val_main_v69 (F := Ideal) (X9 D) = C3 fun e => D.lb (0, e) := by
  unfold val_main_v69
  rw [e_v39 D, bc_col3] <;> rfl
theorem e_v70 : val_main_v70 (F := Ideal) (X9 D) = T3 fun k => D.lb (0, k.2) := by
  unfold val_main_v70
  rw [e_v69 D, bc_col] <;> rfl
theorem e_v71 : val_main_v71 (F := Ideal) (X0 D) (X1 D) (X2 D) (X3 D) (X4 D) (X5 D) (X6 D) (X8 D) (X9 D) = T3 fun k => D.xh k * D.lg (0, k.2) + D.lb (0, k.2) := by
  unfold val_main_v71
  rw [e_v68 D, e_v70 D, addf_ar] <;> rfl
theorem e_v72 : val_main_v72 (F := Ideal) (X7 D) = T3 D.t := by
  unfold val_main_v72
  rw [bc_tok] <;> rfl
theorem e_v73 : val_main_v73 (F := Ideal) (X0 D) (X1 D) (X2 D) (X3 D) (X4 D) (X5 D) (X6 D) (X7 D) (X8 D) (X9 D) = T3 D.er := by
  unfold val_main_v73
  rw [e_v71 D, e_v72 D, subf_ar] <;> rfl
theorem e_v74 : val_main_v74 (F := Ideal) (X0 D) (X1 D) (X2 D) (X3 D) (X4 D) (X5 D) (X6 D) (X7 D) (X8 D) (X9 D) = T3 fun k => D.er k * D.er k := by
  unfold val_main_v74
  rw [e_v73 D, mulf_ar] <;> rfl
theorem e_v75 : val_main_v75 (F := Ideal) = (cst 2 : FVec Ideal S1x8192x2048 .f32) := by
  unfold val_main_v75
  rw [e_cst_13, bc_cst] <;> rfl
theorem e_v76 : val_main_v76 (F := Ideal) (X0 D) (X1 D) (X2 D) (X3 D) (X4 D) (X5 D) (X6 D) (X7 D) (X8 D) (X9 D) = T3 fun k => 2 * D.er k := by
  unfold val_main_v76
  rw [e_v75, e_v73 D, mulf_cst_ar] <;> rfl
theorem e_v82 : val_main_v82 (F := Ideal) (X0 D) (X1 D) (X2 D) (X3 D) (X4 D) (X5 D) (X6 D) (X7 D) (X8 D) (X9 D) = C1 fun e => Inp.tok (fun k => D.er k * D.er k) e := by
  unfold val_main_v82
  rw [e_v74 D, e_cst_18, sum_all] <;> rfl
theorem e_v83 : val_main_v83 (F := Ideal) = (cst (1 / 2 * 1) : FVec Ideal S_ .f32) := by
  unfold val_main_v83
  rw [e_cst_19, e_cst_20]
  exact funext fun _ => (EReal.coe_mul _ _).symm
theorem e_v84 : val_main_v84 (F := Ideal) = (cst (1 / 2 * 1) : FVec Ideal S1x8192 .f32) := by
  unfold val_main_v84
  rw [e_v83, bc_cst] <;> rfl
theorem e_v85 : val_main_v85 (F := Ideal) = (cst 2048 : FVec Ideal S1x8192 .f32) := by
  unfold val_main_v85
  rw [e_cst_21, bc_cst] <;> rfl
theorem e_v86 : val_main_v86 (F := Ideal) = (cst (1 / 2 * 1 / 2048) : FVec Ideal S1x8192 .f32) := by
  unfold val_main_v86
  rw [e_v84, e_v85]
  exact hostDivf_ar_cst (r := 2048) i2 (fun _ : ℕ × ℕ => (1 / 2 * 1 : ℝ)) (by norm_num)
theorem e_v87 : val_main_v87 (F := Ideal) = (cst (1 / 2 * 1 / 2048) : FVec Ideal S1x8192x2048 .f32) := by
  unfold val_main_v87
  rw [e_v86, bc_rowc] <;> rfl
theorem e_v88 : val_main_v88 (F := Ideal) (X0 D) (X1 D) (X2 D) (X3 D) (X4 D) (X5 D) (X6 D) (X7 D) (X8 D) (X9 D) = T3 D.dy := by
  unfold val_main_v88
  rw [e_v87, e_v76 D, mulf_cst_ar]
  funext y
  exact congrArg re (show 1 / 2 * 1 / 2048 * (2 * D.er ((y 1).val, (y 2).val)) = D.er ((y 1).val, (y 2).val) * (1 / 2048) by ring)
theorem e_v89 : val_main_v89 (F := Ideal) (X0 D) (X1 D) (X2 D) (X3 D) (X4 D) (X5 D) (X6 D) (X7 D) (X8 D) (X9 D) = C2 fun e => Inp.tok (D.dy) e := by
  unfold val_main_v89
  rw [e_v88 D, e_cst_22, sum_tok] <;> rfl
theorem e_v90 : val_main_v90 (F := Ideal) (X0 D) (X1 D) (X2 D) (X3 D) (X4 D) (X5 D) (X6 D) (X7 D) (X8 D) (X9 D) = C3 fun e => Inp.tok (D.dy) e := by
  unfold val_main_v90
  rw [e_v89 D, cast_col] <;> rfl
theorem e_v91 : val_main_v91 (F := Ideal) (X0 D) (X1 D) (X2 D) (X3 D) (X4 D) (X5 D) (X6 D) (X7 D) (X8 D) (X9 D) = C1 fun e => Inp.tok (D.dy) e := by
  unfold val_main_v91
  rw [e_v90 D, e_cst_23, sum_col] <;> rfl
theorem e_v92 : val_main_v92 (F := Ideal) (X0 D) (X1 D) (X2 D) (X3 D) (X4 D) (X5 D) (X6 D) (X7 D) (X8 D) (X9 D) = T3 fun k => D.xh k * D.dy k := by
  unfold val_main_v92
  rw [e_v65 D, e_v88 D, mulf_ar] <;> rfl
theorem e_v93 : val_main_v93 (F := Ideal) (X0 D) (X1 D) (X2 D) (X3 D) (X4 D) (X5 D) (X6 D) (X7 D) (X8 D) (X9 D) = C2 fun e => Inp.tok (fun k => D.xh k * D.dy k) e := by
  unfold val_main_v93
  rw [e_v92 D, e_cst_24, sum_tok] <;> rfl
theorem e_v94 : val_main_v94 (F := Ideal) (X0 D) (X1 D) (X2 D) (X3 D) (X4 D) (X5 D) (X6 D) (X7 D) (X8 D) (X9 D) = C3 fun e => Inp.tok (fun k => D.xh k * D.dy k) e := by
  unfold val_main_v94
  rw [e_v93 D, cast_col] <;> rfl
theorem e_v97 : val_main_v97 (F := Ideal) (X0 D) (X1 D) (X2 D) (X3 D) (X4 D) (X5 D) (X6 D) (X7 D) (X8 D) (X9 D) = C1 fun e => Inp.tok (fun k => D.xh k * D.dy k) e := by
  unfold val_main_v97
  rw [e_v94 D, e_cst_25, sum_col] <;> rfl
theorem e_v95 : val_main_v95 (F := Ideal) (X8 D) = T3 fun k => D.lg (0, k.2) := by
  unfold val_main_v95
  rw [e_v66 D, bc_col] <;> rfl
theorem e_v96 : val_main_v96 (F := Ideal) (X0 D) (X1 D) (X2 D) (X3 D) (X4 D) (X5 D) (X6 D) (X7 D) (X8 D) (X9 D) = T3 D.dxh := by
  unfold val_main_v96
  rw [e_v88 D, e_v95 D, mulf_ar] <;> rfl
theorem e_v98 : val_main_v98 (F := Ideal) (X0 D) (X1 D) (X2 D) (X3 D) (X4 D) (X5 D) (X6 D) (X7 D) (X8 D) (X9 D) = T3 fun k => D.dc k * D.dxh k := by
  unfold val_main_v98
  rw [e_v57 D, e_v96 D, mulf_ar] <;> rfl
theorem e_v99 : val_main_v99 (F := Ideal) (X0 D) (X1 D) (X2 D) (X3 D) (X4 D) (X5 D) (X6 D) (X7 D) (X8 D) (X9 D) = T2 fun i => ∑ e : Fin 2048, D.dc (i, e.val) * D.dxh (i, e.val) := by
  unfold val_main_v99
  rw [e_v98 D, e_cst_26, sum_row] <;> rfl
theorem e_v100 : val_main_v100 (F := Ideal) (X0 D) (X1 D) (X2 D) (X3 D) (X4 D) (X5 D) (X6 D) (X7 D) (X8 D) (X9 D) = T1 fun i => ∑ e : Fin 2048, D.dc (i, e.val) * D.dxh (i, e.val) := by
  unfold val_main_v100
  rw [e_v99 D, cast_row] <;> rfl
theorem e_v101 : val_main_v101 (F := Ideal) (X0 D) (X1 D) (X2 D) (X3 D) (X4 D) (X5 D) (X6 D) = T3 fun k => D.rs k.1 := by
  unfold val_main_v101
  rw [e_v60 D, bc_row] <;> rfl
theorem e_v102 : val_main_v102 (F := Ideal) (X0 D) (X1 D) (X2 D) (X3 D) (X4 D) (X5 D) (X6 D) (X7 D) (X8 D) (X9 D) = T3 fun k => D.dxh k * D.rs k.1 := by
  unfold val_main_v102
  rw [e_v96 D, e_v101 D, mulf_ar] <;> rfl
theorem e_v103 : val_main_v103 (F := Ideal) (X0 D) (X1 D) (X2 D) (X3 D) (X4 D) (X5 D) (X6 D) (X7 D) (X8 D) (X9 D) = T1 fun i => (∑ e : Fin 2048, D.dc (i, e.val) * D.dxh (i, e.val)) * (-(1 / 2) * (D.rs i / (D.var i + eps))) := by
  unfold val_main_v103
  rw [e_v100 D, e_v63 D, mulf_ar] <;> rfl
theorem e_v104 : val_main_v104 (F := Ideal) (X0 D) (X1 D) (X2 D) (X3 D) (X4 D) (X5 D) (X6 D) (X7 D) (X8 D) (X9 D) = T3 fun k => -(D.dxh k * D.rs k.1) := by
  unfold val_main_v104
  rw [e_v102 D, hostNegf_ar] <;> rfl
theorem e_v105 : val_main_v105 (F := Ideal) (X0 D) (X1 D) (X2 D) (X3 D) (X4 D) (X5 D) (X6 D) (X7 D) (X8 D) (X9 D) = T2 fun i => ∑ e : Fin 2048, -(D.dxh (i, e.val) * D.rs i) := by
  unfold val_main_v105
  rw [e_v104 D, e_cst_27, sum_row] <;> rfl
theorem e_v106 : val_main_v106 (F := Ideal) (X0 D) (X1 D) (X2 D) (X3 D) (X4 D) (X5 D) (X6 D) (X7 D) (X8 D) (X9 D) = T1 fun i => ∑ e : Fin 2048, -(D.dxh (i, e.val) * D.rs i) := by
  unfold val_main_v106
  rw [e_v105 D, cast_row] <;> rfl
theorem e_v107 : val_main_v107 (F := Ideal) = (cst 2048 : FVec Ideal S1x8192x1 .f32) := by
  unfold val_main_v107
  rw [e_cst_28, bc_cst] <;> rfl
/-- A token's share of the gradient that reaches it through its variance. -/
def vg (i : ℕ) : ℝ := (∑ e : Fin 2048, D.dc (i, e.val) * D.dxh (i, e.val)) * (-(1 / 2) * (D.rs i / (D.var i + eps))) / 2048
theorem e_v108 : val_main_v108 (F := Ideal) (X0 D) (X1 D) (X2 D) (X3 D) (X4 D) (X5 D) (X6 D) (X7 D) (X8 D) (X9 D) = T1 (vg D) := by
  unfold val_main_v108
  rw [e_v103 D, e_v107, hostDivf_ar_cst _ _ _ (by norm_num)] <;> rfl
theorem e_v109 : val_main_v109 (F := Ideal) (X0 D) (X1 D) (X2 D) (X3 D) (X4 D) (X5 D) (X6 D) (X7 D) (X8 D) (X9 D) = O1 (vg D) := by
  unfold val_main_v109
  rw [e_v108 D, e_cst_29, sum_one] <;> rfl
theorem e_v110 : val_main_v110 (F := Ideal) (X0 D) (X1 D) (X2 D) (X3 D) (X4 D) (X5 D) (X6 D) (X7 D) (X8 D) (X9 D) = T2 (vg D) := by
  unfold val_main_v110
  rw [e_v109 D, bc_flat] <;> rfl
theorem e_v111 : val_main_v111 (F := Ideal) (X0 D) (X1 D) (X2 D) (X3 D) (X4 D) (X5 D) (X6 D) (X7 D) (X8 D) (X9 D) = T3 fun k => vg D k.1 := by
  unfold val_main_v111
  rw [e_v110 D, bc_row2] <;> rfl
theorem e_v112 : val_main_v112 (F := Ideal) (X0 D) (X1 D) (X2 D) (X3 D) (X4 D) (X5 D) (X6 D) (X7 D) (X8 D) (X9 D) = T3 fun k => vg D k.1 * (2 * D.dc k) := by
  unfold val_main_v112
  rw [e_v111 D, e_v51 D, mulf_ar] <;> rfl
theorem e_v113 : val_main_v113 (F := Ideal) (X0 D) (X1 D) (X2 D) (X3 D) (X4 D) (X5 D) (X6 D) (X7 D) (X8 D) (X9 D) = T3 fun k => -(vg D k.1 * (2 * D.dc k)) := by
  unfold val_main_v113
  rw [e_v112 D, hostNegf_ar] <;> rfl
theorem e_v114 : val_main_v114 (F := Ideal) (X0 D) (X1 D) (X2 D) (X3 D) (X4 D) (X5 D) (X6 D) (X7 D) (X8 D) (X9 D) = T2 fun i => ∑ e : Fin 2048, -(vg D i * (2 * D.dc (i, e.val))) := by
  unfold val_main_v114
  rw [e_v113 D, e_cst_30, sum_row] <;> rfl
theorem e_v115 : val_main_v115 (F := Ideal) (X0 D) (X1 D) (X2 D) (X3 D) (X4 D) (X5 D) (X6 D) (X7 D) (X8 D) (X9 D) = T1 fun i => ∑ e : Fin 2048, -(vg D i * (2 * D.dc (i, e.val))) := by
  unfold val_main_v115
  rw [e_v114 D, cast_row] <;> rfl
theorem e_v116 : val_main_v116 (F := Ideal) (X0 D) (X1 D) (X2 D) (X3 D) (X4 D) (X5 D) (X6 D) (X7 D) (X8 D) (X9 D) = T3 fun k => D.dxh k * D.rs k.1 + vg D k.1 * (2 * D.dc k) := by
  unfold val_main_v116
  rw [e_v102 D, e_v112 D, addf_ar] <;> rfl
theorem e_v117 : val_main_v117 (F := Ideal) (X0 D) (X1 D) (X2 D) (X3 D) (X4 D) (X5 D) (X6 D) (X7 D) (X8 D) (X9 D) = T1 fun i => (∑ e : Fin 2048, -(D.dxh (i, e.val) * D.rs i)) + ∑ e : Fin 2048, -(vg D i * (2 * D.dc (i, e.val))) := by
  unfold val_main_v117
  rw [e_v106 D, e_v115 D, addf_ar] <;> rfl
theorem e_v118 : val_main_v118 (F := Ideal) = (cst 2048 : FVec Ideal S1x8192x1 .f32) := by
  unfold val_main_v118
  rw [e_cst_31, bc_cst] <;> rfl
theorem e_v119 : val_main_v119 (F := Ideal) (X0 D) (X1 D) (X2 D) (X3 D) (X4 D) (X5 D) (X6 D) (X7 D) (X8 D) (X9 D) = T1 fun i => ((∑ e : Fin 2048, -(D.dxh (i, e.val) * D.rs i)) + ∑ e : Fin 2048, -(vg D i * (2 * D.dc (i, e.val)))) / 2048 := by
  unfold val_main_v119
  rw [e_v117 D, e_v118, hostDivf_ar_cst _ _ _ (by norm_num)] <;> rfl
theorem e_v120 : val_main_v120 (F := Ideal) (X0 D) (X1 D) (X2 D) (X3 D) (X4 D) (X5 D) (X6 D) (X7 D) (X8 D) (X9 D) = O1 fun i => ((∑ e : Fin 2048, -(D.dxh (i, e.val) * D.rs i)) + ∑ e : Fin 2048, -(vg D i * (2 * D.dc (i, e.val)))) / 2048 := by
  unfold val_main_v120
  rw [e_v119 D, e_cst_32, sum_one] <;> rfl
theorem e_v121 : val_main_v121 (F := Ideal) (X0 D) (X1 D) (X2 D) (X3 D) (X4 D) (X5 D) (X6 D) (X7 D) (X8 D) (X9 D) = T2 fun i => ((∑ e : Fin 2048, -(D.dxh (i, e.val) * D.rs i)) + ∑ e : Fin 2048, -(vg D i * (2 * D.dc (i, e.val)))) / 2048 := by
  unfold val_main_v121
  rw [e_v120 D, bc_flat] <;> rfl
theorem e_v122 : val_main_v122 (F := Ideal) (X0 D) (X1 D) (X2 D) (X3 D) (X4 D) (X5 D) (X6 D) (X7 D) (X8 D) (X9 D) = T3 fun k => ((∑ e : Fin 2048, -(D.dxh (k.1, e.val) * D.rs k.1)) + ∑ e : Fin 2048, -(vg D k.1 * (2 * D.dc (k.1, e.val)))) / 2048 := by
  unfold val_main_v122
  rw [e_v121 D, bc_row2] <;> rfl
theorem e_v123 : val_main_v123 (F := Ideal) (X0 D) (X1 D) (X2 D) (X3 D) (X4 D) (X5 D) (X6 D) (X7 D) (X8 D) (X9 D) = T3 D.dz := by
  unfold val_main_v123
  rw [e_v116 D, e_v122 D, addf_ar]
  funext y
  exact congrArg re (D.dz_eq ((y 1).val, (y 2).val))
theorem e_v124 : val_main_v124 (F := Ideal) = (cst alpha : FVec Ideal S1x8192x2048 .f32) := by
  unfold val_main_v124
  rw [e_cst_33, bc_cst] <;> rfl
theorem e_v125 : val_main_v125 (F := Ideal) (X0 D) (X1 D) (X2 D) (X3 D) (X4 D) (X5 D) (X6 D) (X7 D) (X8 D) (X9 D) = T3 fun k => alpha * D.dz k := by
  unfold val_main_v125
  rw [e_v124, e_v123 D, mulf_cst_ar] <;> rfl
theorem e_v126 : val_main_v126 (F := Ideal) (X0 D) (X1 D) (X2 D) (X3 D) (X4 D) (X5 D) (X6 D) (X7 D) (X8 D) (X9 D) = T3 D.dm := by
  unfold val_main_v126
  rw [e_v123 D, dot_wT] <;> rfl
theorem e_v127 : val_main_v127 (F := Ideal) (X0 D) (X1 D) (X2 D) (X3 D) (X4 D) (X5 D) (X6 D) (X7 D) (X8 D) (X9 D) = T3 fun k => D.sb k * D.dm k := by
  unfold val_main_v127
  rw [e_v29 D, e_v126 D, mulf_ar] <;> rfl
theorem e_v128 : val_main_v128 (F := Ideal) (X0 D) (X1 D) (X2 D) (X3 D) (X4 D) (X5 D) (X6 D) (X7 D) (X8 D) (X9 D) = T3 fun k => D.dm k * D.pb k := by
  unfold val_main_v128
  rw [e_v126 D, e_v6 D, mulf_ar] <;> rfl
theorem e_v129 : val_main_v129 (F := Ideal) (X0 D) (X1 D) (X2 D) (X3 D) (X4 D) (X5 D) (X6 D) (X7 D) (X8 D) (X9 D) = T3 fun k => D.sa k * D.dm k := by
  unfold val_main_v129
  rw [e_v16 D, e_v126 D, mulf_ar] <;> rfl
theorem e_v130 : val_main_v130 (F := Ideal) (X0 D) (X1 D) (X2 D) (X3 D) (X4 D) (X5 D) (X6 D) (X7 D) (X8 D) (X9 D) = T3 fun k => D.dm k * D.pa k := by
  unfold val_main_v130
  rw [e_v126 D, e_v4 D, mulf_ar] <;> rfl
theorem e_v131 : val_main_v131 (F := Ideal) (X0 D) (X1 D) (X2 D) (X3 D) (X4 D) (X5 D) (X6 D) (X7 D) (X8 D) (X9 D) = T3 D.dgb := by
  unfold val_main_v131
  rw [e_v128 D, e_v32 D, mulf_ar]
  funext y
  generalize hk : ((y 1).val, (y 2).val) = k
  show re (D.dm ((y 1).val, (y 2).val) * D.pb ((y 1).val, (y 2).val) * (D.sb ((y 1).val, (y 2).val) * (1 - D.sb ((y 1).val, (y 2).val))))
    = re (D.dgb ((y 1).val, (y 2).val))
  rw [hk, Inp.dgb, Inp.db]
  exact congrArg re (by ring)
theorem e_v132 : val_main_v132 (F := Ideal) (X0 D) (X1 D) (X2 D) (X3 D) (X4 D) (X5 D) (X6 D) (X7 D) (X8 D) (X9 D) = C2 fun e => Inp.tok (D.dgb) e := by
  unfold val_main_v132
  rw [e_v131 D, e_cst_34, sum_tok] <;> rfl
theorem e_v133 : val_main_v133 (F := Ideal) (X0 D) (X1 D) (X2 D) (X3 D) (X4 D) (X5 D) (X6 D) (X7 D) (X8 D) (X9 D) = C3 fun e => Inp.tok (D.dgb) e := by
  unfold val_main_v133
  rw [e_v132 D, cast_col] <;> rfl
theorem e_v134 : val_main_v134 (F := Ideal) (X0 D) (X1 D) (X2 D) (X3 D) (X4 D) (X5 D) (X6 D) (X7 D) (X8 D) (X9 D) = C1 fun e => Inp.tok (D.dgb) e := by
  unfold val_main_v134
  rw [e_v133 D, e_cst_35, sum_col] <;> rfl
theorem e_v135 : val_main_v135 (F := Ideal) (X0 D) (X1 D) (X2 D) (X3 D) (X4 D) (X5 D) (X6 D) (X7 D) (X8 D) (X9 D) = B1 fun i => if i < 2048 then 0 else Inp.tok D.dgb (i - 2048) := by
  unfold val_main_v135
  rw [e_v134 D, e_cst_36, pad_hi] <;> rfl
theorem e_v136 : val_main_v136 (F := Ideal) (X0 D) (X1 D) (X2 D) (X3 D) (X4 D) (X5 D) (X6 D) (X7 D) (X8 D) (X9 D) = T3 D.dga := by
  unfold val_main_v136
  rw [e_v130 D, e_v19 D, mulf_ar]
  funext y
  generalize hk : ((y 1).val, (y 2).val) = k
  show re (D.dm ((y 1).val, (y 2).val) * D.pa ((y 1).val, (y 2).val) * (D.sa ((y 1).val, (y 2).val) * (1 - D.sa ((y 1).val, (y 2).val))))
    = re (D.dga ((y 1).val, (y 2).val))
  rw [hk, Inp.dga, Inp.da]
  exact congrArg re (by ring)
theorem e_v137 : val_main_v137 (F := Ideal) (X0 D) (X1 D) (X2 D) (X3 D) (X4 D) (X5 D) (X6 D) (X7 D) (X8 D) (X9 D) = C2 fun e => Inp.tok (D.dga) e := by
  unfold val_main_v137
  rw [e_v136 D, e_cst_37, sum_tok] <;> rfl
theorem e_v138 : val_main_v138 (F := Ideal) (X0 D) (X1 D) (X2 D) (X3 D) (X4 D) (X5 D) (X6 D) (X7 D) (X8 D) (X9 D) = C3 fun e => Inp.tok (D.dga) e := by
  unfold val_main_v138
  rw [e_v137 D, cast_col] <;> rfl
theorem e_v139 : val_main_v139 (F := Ideal) (X0 D) (X1 D) (X2 D) (X3 D) (X4 D) (X5 D) (X6 D) (X7 D) (X8 D) (X9 D) = C1 fun e => Inp.tok (D.dga) e := by
  unfold val_main_v139
  rw [e_v138 D, e_cst_38, sum_col] <;> rfl
theorem e_v140 : val_main_v140 (F := Ideal) (X0 D) (X1 D) (X2 D) (X3 D) (X4 D) (X5 D) (X6 D) (X7 D) (X8 D) (X9 D) = B1 fun i => if i < 2048 then Inp.tok D.dga i else 0 := by
  unfold val_main_v140
  rw [e_v139 D, e_cst_39, pad_lo] <;> rfl
theorem e_v141 : val_main_v141 (F := Ideal) (X0 D) (X1 D) (X2 D) (X3 D) (X4 D) (X5 D) (X6 D) (X7 D) (X8 D) (X9 D) = B1 fun i => if i < 2048 then Inp.tok D.dga i else Inp.tok D.dgb (i - 2048) := by
  unfold val_main_v141
  rw [e_v135 D, e_v140 D, addf_ar]
  funext y
  show re ((if (y 0).val < 2048 then 0 else Inp.tok D.dgb ((y 0).val - 2048)) + if (y 0).val < 2048 then Inp.tok D.dga (y 0).val else 0)
    = re (if (y 0).val < 2048 then Inp.tok D.dga (y 0).val else Inp.tok D.dgb ((y 0).val - 2048))
  split
  · rw [zero_add]
  · rw [add_zero]
theorem e_v142 : val_main_v142 (F := Ideal) (X0 D) (X1 D) (X2 D) (X3 D) (X4 D) (X5 D) (X6 D) (X7 D) (X8 D) (X9 D) = (ar i3 fun k => if k.1 = 0 then D.dga k.2 else D.dgb k.2 : FVec Ideal S2x8192x2048 .f32) := by
  unfold val_main_v142
  rw [e_v136 D, e_v131 D, concat_two] <;> rfl

/-! The results. -/
theorem e_v143 : val_main_v143 (F := Ideal) (X0 D) (X1 D) (X2 D) (X3 D) (X4 D) (X5 D) (X6 D) (X7 D) (X8 D) (X9 D) = (ar i3 fun k => if k.1 = 0 then D.dga (k.2.1, k.2.2) else D.dgb (k.2.1, k.2.2) : FVec Ideal S2x8192x2048 .bf16) := by
  unfold val_main_v143
  rw [e_v142 D, truncf_ar] <;> rfl
theorem e_v144 : val_main_v144 (F := Ideal) (X0 D) (X1 D) (X2 D) (X3 D) (X4 D) (X5 D) (X6 D) (X7 D) (X8 D) (X9 D) = F2 D.dz := by
  unfold val_main_v144
  rw [e_v123 D, cast_tok] <;> rfl
theorem e_v145 : val_main_v145 (F := Ideal) (X0 D) (X1 D) (X2 D) (X3 D) (X4 D) (X5 D) (X6 D) (X7 D) (X8 D) (X9 D) = (ar i2 D.dz : FVec Ideal S8192x2048 .bf16) := by
  unfold val_main_v145
  rw [e_v144 D, truncf_ar] <;> rfl
theorem e_v146 : val_main_v146 (F := Ideal) (X0 D) (X1 D) (X2 D) (X3 D) (X4 D) (X5 D) (X6 D) (X7 D) (X8 D) (X9 D) = F2 fun k => alpha * D.dz k := by
  unfold val_main_v146
  rw [e_v125 D, cast_tok] <;> rfl
theorem e_v147 : val_main_v147 (F := Ideal) (X6 D) = (ar i2 D.x : FVec Ideal S8192x2048 .bf16) := by
  unfold val_main_v147
  rw [truncf_ar] <;> rfl
theorem e_v148 : val_main_v148 (F := Ideal) (X0 D) (X1 D) (X2 D) (X3 D) (X4 D) (X5 D) (X6 D) (X7 D) (X8 D) (X9 D) = F2 D.da := by
  unfold val_main_v148
  rw [e_v129 D, cast_tok]
  funext y
  exact congrArg re (mul_comm _ _)
theorem e_v149 : val_main_v149 (F := Ideal) (X0 D) (X1 D) (X2 D) (X3 D) (X4 D) (X5 D) (X6 D) (X7 D) (X8 D) (X9 D) = (ar i2 D.da : FVec Ideal S8192x2048 .bf16) := by
  unfold val_main_v149
  rw [e_v148 D, truncf_ar] <;> rfl
theorem e_v150 : val_main_v150 (F := Ideal) (X0 D) (X1 D) (X2 D) (X3 D) (X4 D) (X5 D) (X6 D) (X7 D) (X8 D) (X9 D) = F2 D.db := by
  unfold val_main_v150
  rw [e_v127 D, cast_tok]
  funext y
  exact congrArg re (mul_comm _ _)
theorem e_v151 : val_main_v151 (F := Ideal) (X0 D) (X1 D) (X2 D) (X3 D) (X4 D) (X5 D) (X6 D) (X7 D) (X8 D) (X9 D) = (ar i2 D.db : FVec Ideal S8192x2048 .bf16) := by
  unfold val_main_v151
  rw [e_v150 D, truncf_ar] <;> rfl
theorem e_v152 : val_main_v152 (F := Ideal) (X0 D) (X1 D) (X2 D) (X3 D) (X4 D) (X5 D) (X6 D) (X7 D) (X8 D) (X9 D) = C2 fun e => Inp.tok (fun k => D.dy k * D.xh k) e := by
  unfold val_main_v152
  rw [e_v97 D, bc_col2]
  funext y
  exact congrArg re (Finset.sum_congr rfl fun r _ => mul_comm _ _)
theorem e_v153 : val_main_v153 (F := Ideal) (X0 D) (X1 D) (X2 D) (X3 D) (X4 D) (X5 D) (X6 D) (X7 D) (X8 D) (X9 D) = C2 fun e => Inp.tok D.dy e := by
  unfold val_main_v153
  rw [e_v91 D, bc_col2] <;> rfl
theorem e_v154 : val_main_v154 (F := Ideal) (X0 D) (X1 D) (X2 D) (X3 D) (X4 D) (X5 D) (X6 D) (X7 D) (X8 D) (X9 D) = C2 fun e => Inp.tok (fun k => D.er k * D.er k) e := by
  unfold val_main_v154
  rw [e_v82 D, bc_col2] <;> rfl
theorem e_v155 : val_main_v155 (F := Ideal) (X0 D) (X1 D) (X2 D) (X3 D) (X4 D) (X5 D) (X6 D) (X7 D) (X8 D) (X9 D) = C1 fun e => if e < 2048 then Inp.tok D.dga e else Inp.tok D.dgb (e - 2048) := by
  unfold val_main_v155
  rw [e_v141 D, slice_lo] <;> rfl
theorem e_v156 : val_main_v156 (F := Ideal) (X0 D) (X1 D) (X2 D) (X3 D) (X4 D) (X5 D) (X6 D) (X7 D) (X8 D) (X9 D) = C2 fun e => Inp.tok D.dga e := by
  unfold val_main_v156
  rw [e_v155 D, bc_col2]
  funext y
  have hy : (y 1).val < 2048 := (y 1).isLt
  show re (if (y 1).val < 2048 then Inp.tok D.dga (y 1).val else Inp.tok D.dgb ((y 1).val - 2048)) = re (Inp.tok D.dga (y 1).val)
  rw [if_pos hy]
theorem e_v157 : val_main_v157 (F := Ideal) (X0 D) (X1 D) (X2 D) (X3 D) (X4 D) (X5 D) (X6 D) (X7 D) (X8 D) (X9 D) = C1 fun e => Inp.tok D.dgb e := by
  unfold val_main_v157
  rw [e_v141 D, slice_hi]
  funext y
  show re (if 2048 + (y 0).val < 2048 then Inp.tok D.dga (2048 + (y 0).val) else Inp.tok D.dgb (2048 + (y 0).val - 2048))
    = re (Inp.tok D.dgb (y 0).val)
  rw [if_neg (by omega), Nat.add_sub_cancel_left]
theorem e_v158 : val_main_v158 (F := Ideal) (X0 D) (X1 D) (X2 D) (X3 D) (X4 D) (X5 D) (X6 D) (X7 D) (X8 D) (X9 D) = C2 fun e => Inp.tok D.dgb e := by
  unfold val_main_v158
  rw [e_v157 D, bc_col2] <;> rfl
end

end OutLn.Ref

end
-- ==== Proof.OutLnText.lean ====
/- The call's program and its idealization have the same text, so they are the same program. -/
module

public import proofs.«01_k».proof.Kernel6
public import proofs.«01_k».proof.Kernel6Ideal

@[expose] public section

set_option maxRecDepth 16384

noncomputable section

namespace OutLn.Text

open Idealize.ShloMosaic Idealize.ShloMosaic.TcCoe Idealize.SL.Sem

variable {F : FTy → Type} [FloatOps F] [Cert.Kernel6.Facts] [Cert.Kernel6Ideal.Facts]

set_option maxHeartbeats 2000000 in
/-- The same kernel function. -/
theorem defs₀_eq : Cert.Kernel6.defs₀ (F := F) = Cert.Kernel6Ideal.defs₀ := by
  unfold Cert.Kernel6.defs₀ Cert.Kernel6Ideal.defs₀
  refine congrArg Defs.onTc (funext fun l => funext fun x => ?_)
  match l, x with
  | 0, (t, s) => rfl
  | ⟨_ + 1, h⟩, _ => exact absurd h (Nat.not_lt.2 (Nat.le_add_left _ _))

set_option maxHeartbeats 2000000 in
/-- The same body table. -/
theorem defs_eq : Cert.Kernel6.defs (F := F) = Cert.Kernel6Ideal.defs := by
  unfold Cert.Kernel6.defs Cert.Kernel6Ideal.defs
  exact congrArg (Pipeline.defs (Cert.Kernel6Ideal.pcfgs (F := F))) defs₀_eq

set_option maxHeartbeats 2000000 in
/-- The same host program. -/
theorem main_eq : Cert.Kernel6.main (F := F) = Cert.Kernel6Ideal.main := rfl

end OutLn.Text

end
-- ==== Proof.Reals.lean ====
/- Finite arguments are arrays of real numbers. -/
module

public import proofs.«01_k».proof.Defs
public import proofs.«01_k».proof.Proof.Blocks
public import proofs.«01_k».proof.Proof.Dots

@[expose] public section

set_option maxRecDepth 16384

noncomputable section

namespace Mixer

open Idealize.ShloMosaic Idealize.ShloMosaic.TcCoe Idealize.SL.Sem Cert.KernelIdeal

/-- The shape facts that the precondition states. -/
theorem preFacts : Cert.Pre_finite.Facts where
  bitsLt_bf16_f32 := by decide
  bcast_S_S8192x2048 := by decide
  bcast_S_S2048x2048 := by decide
  bcast_S_S7x8192x2048 := by decide
  bcast_S_S1x2048 := by decide
  bcast_S_S8x128x128 := by decide
  bcast_S_S8x128 := by decide
  bcast_S_S3x2048 := by decide

/-- The literal that the precondition compares with is infinity. -/
theorem lit_top : Ideal.ofBits .f32 0x7F800000#32 = ⊤ := by simp [Ideal.ofBits, Ideal.ieee]

/-- An array whose absolute values all lie below infinity holds real numbers. -/
theorem real_of_finite {s : Shape} (hb : (⟨0, ![]⟩ : Shape).BroadcastsInDim s ![]) (x : FVec Ideal s .f32)
    (h : cmpf .olt (Host.absf x) (broadcastInDim s ![] hb (constant ⟨0, ![]⟩ .f32 0x7F800000#32)) = fun _ => 1#1) (y : s.Idx) :
    ∃ r : ℝ, x y = re r := by
  have h1 : BitVec.ofBool (decide (max (x y : EReal) (-(x y : EReal)) < Ideal.ofBits .f32 0x7F800000#32)) = 1#1 := congrFun h y
  rw [lit_top] at h1
  have h2 : max (x y : EReal) (-(x y : EReal)) < ⊤ := by
    by_contra hn
    rw [decide_eq_false hn] at h1
    exact absurd h1 (by decide)
  obtain ⟨ha, hb⟩ := max_lt_iff.1 h2
  have ht : (x y : EReal) ≠ ⊤ := ha.ne
  have hB : (x y : EReal) ≠ ⊥ := fun e => by rw [e] at hb; exact absurd hb (by simp)
  exact ⟨(x y : EReal).toReal, (EReal.coe_toReal ht hB).symm⟩

/-- An array of real numbers holds a function of the index's coordinates. -/
theorem ar_of_real {s : Shape} {φ : FTy} {κ : Type} {co : s.Idx → κ} (hco : Function.Injective co) (x : FVec Ideal s φ)
    (h : ∀ y, ∃ r : ℝ, x y = re r) : ∃ f : κ → ℝ, x = ar co f := by
  choose g hg using h
  exact ⟨Function.extend co g 0, funext fun y => (hg y).trans (congrArg re (hco.extend_apply g 0 y).symm)⟩

/-- A row of real numbers holds a function of the column. -/
theorem row_of_real (x : FVec Ideal S1x2048 .f32) (h : ∀ y, ∃ r : ℝ, x y = re r) : ∃ f : ℕ → ℝ, x = Ref.c2d f := by
  obtain ⟨f, rfl⟩ := ar_of_real i2_inj x h
  refine ⟨fun k => f (0, k), funext fun y => congrArg (fun k => re (f k)) (Prod.ext ?_ rfl)⟩
  exact Nat.lt_one_iff.1 (y 0).isLt

/-- On finite arguments a device's memory holds the arrays of some real data. -/
theorem args_of_finite [Cert.Pre_finite.Facts] (mem : (ℓ : Loc nD τ Cert.KernelIdeal.sig) → Buf (Elt Ideal) ℓ)
    (h : Cert.Pre_KernelIdeal_finite mem) (c : Dev nD) : ∃ D, Args mem c D := by
  obtain ⟨h0, h1, h2, h3, h4, h6, h7, h8, h9, h10, h11⟩ := h c
  obtain ⟨da, e0⟩ := ar_of_real i2_inj (mem ((c : Thread nD τ).loc main_arg0)) (real_of_finite _ _ h0)
  obtain ⟨db, e1⟩ := ar_of_real i2_inj (mem ((c : Thread nD τ).loc main_arg1)) (real_of_finite _ _ h1)
  obtain ⟨wa, e2⟩ := ar_of_real i2_inj (mem ((c : Thread nD τ).loc main_arg2)) (real_of_finite _ _ h2)
  obtain ⟨wb, e3⟩ := ar_of_real i2_inj (mem ((c : Thread nD τ).loc main_arg3)) (real_of_finite _ _ h3)
  obtain ⟨p, e4⟩ := ar_of_real i3_inj (mem ((c : Thread nD τ).loc main_arg4)) (real_of_finite _ _ h4)
  obtain ⟨lg, e6⟩ := row_of_real (mem ((c : Thread nD τ).loc main_arg6)) (real_of_finite _ _ h6)
  obtain ⟨lb, e7⟩ := row_of_real (mem ((c : Thread nD τ).loc main_arg7)) (real_of_finite _ _ h7)
  obtain ⟨ws, e8⟩ := ar_of_real i3_inj (mem ((c : Thread nD τ).loc main_arg8)) (real_of_finite _ _ h8)
  obtain ⟨bs, e9⟩ := ar_of_real i2_inj (mem ((c : Thread nD τ).loc main_arg9)) (real_of_finite _ _ h9)
  obtain ⟨cw, e10⟩ := ar_of_real i2_inj (mem ((c : Thread nD τ).loc main_arg10)) (real_of_finite _ _ h10)
  obtain ⟨cb, e11⟩ := row_of_real (mem ((c : Thread nD τ).loc main_arg11)) (real_of_finite _ _ h11)
  exact ⟨⟨fun r k => da (r, k), fun r k => db (r, k), fun r k => wa (r, k), fun r k => wb (r, k), fun j r k => p (j, r, k), lg, lb,
    fun j r k => ws (j, r, k), fun j r => bs (j, r), fun j k => cw (j, k), cb⟩, ⟨e0, e1, e2, e3, e4, e6, e7, e8, e9, e10, e11⟩⟩

end Mixer

end
-- ==== Proof.OutLnClaim.lean ====
/- The claims about the call that ends the forward pass and starts the backward one: its frames, and the equality of its
   eleven results with the reference's on finite arguments. -/
module

public import proofs.«01_k».proof.Defs
public import proofs.«01_k».proof.Proof.OutLnArr
public import proofs.«01_k».proof.Proof.OutLnRef
public import proofs.«01_k».proof.Proof.OutLnText
public import proofs.«01_k».proof.Proof.Reals
public import proofs.«01_k».proof.Proof.Gen.Kernel6.Skeleton
public import proofs.«01_k».proof.Proof.Gen.Reference6Ideal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Mixer

instance kernel6Facts : Cert.Kernel6.Facts := Cert.Kernel6.Gen.facts
instance kernel6IdealFacts : Cert.Kernel6Ideal.Facts := Cert.Kernel6Ideal.Gen.facts
instance reference6IdealFacts : Cert.Reference6Ideal.Facts := Cert.Reference6Ideal.Gen.facts

/-- The shape facts that the precondition states. -/
theorem preFacts6 : Cert.Pre_finite6.Facts where
  bitsLt_bf16_f32 := by decide
  bcast_S_S8192x2048 := by decide
  bcast_S_S1x4096 := by decide
  bcast_S_S2048x2048 := by decide
  bcast_S_S1x2048 := by decide

instance finite6Facts : Cert.Pre_finite6.Facts := preFacts6

set_option maxHeartbeats 2000000 in
/-- The kernel leaves its arguments as they were and its semaphores at zero, in the machine's own number formats: the two
programs have the same text, and the run is over any float values. -/
theorem frame6 : Cert.quiescent_Kernel6 := fun m g _ => by
  have h := OutLn.frame (F := Bits) m g
  rw [← OutLn.Text.defs_eq, ← OutLn.Text.main_eq] at h
  exact h

/-- The reference leaves its arguments as they were, and has no semaphore. -/
theorem frame6_reference : Cert.quiescent_Reference6Ideal := fun m g _ =>
  (θ_run _ _ _).mono (fun _ h => ⟨fun c => (h c).2.2.2.2.2.2.2.2.2.2.2, sem_eq_zero_of_no_sems rfl _⟩)
    (Cert.Reference6Ideal.Value.run m g)

/-- The same from finite arguments. -/
theorem frame6_reference_finite : Cert.quiescent_Reference6Ideal_pre_finite6 := fun m g _ =>
  (θ_run _ _ _).mono (fun _ h => ⟨fun c => (h c).2.2.2.2.2.2.2.2.2.2.2, sem_eq_zero_of_no_sems rfl _⟩)
    (Cert.Reference6Ideal.Value.run m g)

section
open Cert.Kernel6Ideal

/-- On finite arguments a device's memory holds the arrays of some real data. -/
theorem args6 (mem : (ℓ : Loc nD τ sig) → Buf (Elt Ideal) ℓ) (h : Cert.Pre_Kernel6Ideal_finite6 mem) (c : Dev nD) :
    ∃ D, OutLn.Args mem c D := by
  obtain ⟨h0, h1, h2, h3, h4, h5, h6, h7, h8, h9⟩ := h c
  obtain ⟨ga, e0⟩ := ar_of_real i2_inj (mem ((c : Thread nD τ).loc main_arg0)) (real_of_finite _ _ h0)
  obtain ⟨gb, e1⟩ := ar_of_real i2_inj (mem ((c : Thread nD τ).loc main_arg1)) (real_of_finite _ _ h1)
  obtain ⟨bg, e2⟩ := ar_of_real i2_inj (mem ((c : Thread nD τ).loc main_arg2)) (real_of_finite _ _ h2)
  obtain ⟨pa, e3⟩ := ar_of_real i2_inj (mem ((c : Thread nD τ).loc main_arg3)) (real_of_finite _ ((extf .f32 · Cert.Pre_finite6.Facts.bitsLt_bf16_f32) (mem ((c : Thread nD τ).loc main_arg3))) h3)
  obtain ⟨pb, e4⟩ := ar_of_real i2_inj (mem ((c : Thread nD τ).loc main_arg4)) (real_of_finite _ ((extf .f32 · Cert.Pre_finite6.Facts.bitsLt_bf16_f32) (mem ((c : Thread nD τ).loc main_arg4))) h4)
  obtain ⟨w, e5⟩ := ar_of_real i2_inj (mem ((c : Thread nD τ).loc main_arg5)) (real_of_finite _ _ h5)
  obtain ⟨x, e6⟩ := ar_of_real i2_inj (mem ((c : Thread nD τ).loc main_arg6)) (real_of_finite _ _ h6)
  obtain ⟨t, e7⟩ := ar_of_real i2_inj (mem ((c : Thread nD τ).loc main_arg7)) (real_of_finite _ _ h7)
  obtain ⟨lg, e8⟩ := ar_of_real i2_inj (mem ((c : Thread nD τ).loc main_arg8)) (real_of_finite _ _ h8)
  obtain ⟨lb, e9⟩ := ar_of_real i2_inj (mem ((c : Thread nD τ).loc main_arg9)) (real_of_finite _ _ h9)
  exact ⟨⟨ga, gb, bg, pa, pb, w, x, t, lg, lb⟩, ⟨e0, e1, e2, e3, e4, e5, e6, e7, e8, e9⟩⟩

open OutLn Cert.Kernel6Ideal.Gen in
set_option maxHeartbeats 2000000 in
/-- The call's run, each result named. -/
theorem run6 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v31_0) = (dats m 0 c).arrAt 10 cfg0.N
      ∧ r.2.mem ((c : Thread nD τ).loc main_v31_1) = (dats m 0 c).arrAt 11 cfg0.N
      ∧ r.2.mem ((c : Thread nD τ).loc main_v31_2) = (dats m 0 c).arrAt 12 cfg0.N
      ∧ r.2.mem ((c : Thread nD τ).loc main_v31_3) = (dats m 0 c).arrAt 13 cfg0.N
      ∧ r.2.mem ((c : Thread nD τ).loc main_v31_4) = (dats m 0 c).arrAt 14 cfg0.N
      ∧ r.2.mem ((c : Thread nD τ).loc main_v31_5) = (dats m 0 c).arrAt 15 cfg0.N
      ∧ r.2.mem ((c : Thread nD τ).loc main_v31_6) = (dats m 0 c).arrAt 16 cfg0.N
      ∧ r.2.mem ((c : Thread nD τ).loc main_v31_7) = (dats m 0 c).arrAt 17 cfg0.N
      ∧ r.2.mem ((c : Thread nD τ).loc main_v31_8) = (dats m 0 c).arrAt 18 cfg0.N
      ∧ r.2.mem ((c : Thread nD τ).loc main_v31_9) = (dats m 0 c).arrAt 19 cfg0.N
      ∧ r.2.mem ((c : Thread nD τ).loc main_v31_10) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 10, (h c).1 11, (h c).1 12, (h c).1 13, (h c).1 14, (h c).1 15, (h c).1 16, (h c).1 17, (h c).1 18, (h c).1 19, (h c).1 20,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 8).trans (((dats m 0 c).arrAt_in 8 rfl _).trans ((A_eq m c 8).trans (V_main_arg3 m c))),
      ((h c).1 9).trans (((dats m 0 c).arrAt_in 9 rfl _).trans ((A_eq m c 9).trans (V_main_arg4 m c))),
      ((h c).2 main_arg5 (Pipeline.mem_restRefs_of main_arg5 (by decide) (by decide))).trans (V_main_arg5 m c),
      ((h c).1 2).trans (((dats m 0 c).arrAt_in 2 rfl _).trans ((A_eq m c 2).trans (V_main_arg6 m c))),
      ((h c).1 3).trans (((dats m 0 c).arrAt_in 3 rfl _).trans ((A_eq m c 3).trans (V_main_arg7 m c))),
      ((h c).1 4).trans (((dats m 0 c).arrAt_in 4 rfl _).trans ((A_eq m c 4).trans (V_main_arg8 m c))),
      ((h c).1 5).trans (((dats m 0 c).arrAt_in 5 rfl _).trans ((A_eq m c 5).trans (V_main_arg9 m c)))⟩)
    (run_main m ρ)
end

set_option maxHeartbeats 2000000 in
/-- From the same finite arguments the kernel and the reference leave the same eleven results. -/
theorem algebraic6 : Cert.algebraic_Kernel6Ideal_Reference6Ideal_pre_finite6 := fun m g m' g' hpre hag => by
  choose D A using args6 m hpre
  refine ⟨_, _, _, _, _, _, _, _, _, _, _, run6 m g, ?_⟩
  refine (θ_run _ _ _).mono (fun r h c => ?_) (Cert.Reference6Ideal.Value.run m' g')
  obtain ⟨r0, r1, r2, r3, r4, r5, r6, r7, r8, r9, r10, hargs⟩ := h c
  obtain ⟨a0, a1, a2, a3, a4, a5, a6, a7, a8, a9⟩ := hag c
  replace a0 := a0.trans (A c).h0
  replace a1 := a1.trans (A c).h1
  replace a2 := a2.trans (A c).h2
  replace a3 := a3.trans (A c).h3
  replace a4 := a4.trans (A c).h4
  replace a5 := a5.trans (A c).h5
  replace a6 := a6.trans (A c).h6
  replace a7 := a7.trans (A c).h7
  replace a8 := a8.trans (A c).h8
  replace a9 := a9.trans (A c).h9
  refine ⟨r0.trans ?_, r1.trans ?_, r2.trans ?_, r3.trans ?_, r4.trans ?_, r5.trans ?_, r6.trans ?_, r7.trans ?_, r8.trans ?_, r9.trans ?_, r10.trans ?_, hargs⟩
  · refine (Cert.Reference6Ideal.Read.val_main_v145_eq _).trans ?_
    exact (congr (congr (congr (congr (congr (congr (congr (congr (congrArg₂ (Cert.Reference6Ideal.Read.val_main_v145 (F := Ideal)) a0 a1) a2) a3) a4) a5) a6) a7) a8) a9).trans ((OutLn.Ref.e_v145 (D c)).trans (OutLn.arr10 (A c)).symm)
  · refine (Cert.Reference6Ideal.Read.val_main_v146_eq _).trans ?_
    exact (congr (congr (congr (congr (congr (congr (congr (congr (congrArg₂ (Cert.Reference6Ideal.Read.val_main_v146 (F := Ideal)) a0 a1) a2) a3) a4) a5) a6) a7) a8) a9).trans ((OutLn.Ref.e_v146 (D c)).trans (OutLn.arr11 (A c)).symm)
  · refine (Cert.Reference6Ideal.Read.val_main_v147_eq _).trans ?_
    exact (congrArg (Cert.Reference6Ideal.Read.val_main_v147 (F := Ideal)) a6).trans ((OutLn.Ref.e_v147 (D c)).trans (OutLn.arr12 (A c)).symm)
  · refine (Cert.Reference6Ideal.Read.val_main_v149_eq _).trans ?_
    exact (congr (congr (congr (congr (congr (congr (congr (congr (congrArg₂ (Cert.Reference6Ideal.Read.val_main_v149 (F := Ideal)) a0 a1) a2) a3) a4) a5) a6) a7) a8) a9).trans ((OutLn.Ref.e_v149 (D c)).trans (OutLn.arr13 (A c)).symm)
  · refine (Cert.Reference6Ideal.Read.val_main_v151_eq _).trans ?_
    exact (congr (congr (congr (congr (congr (congr (congr (congr (congrArg₂ (Cert.Reference6Ideal.Read.val_main_v151 (F := Ideal)) a0 a1) a2) a3) a4) a5) a6) a7) a8) a9).trans ((OutLn.Ref.e_v151 (D c)).trans (OutLn.arr14 (A c)).symm)
  · refine (Cert.Reference6Ideal.Read.val_main_v143_eq _).trans ?_
    exact (congr (congr (congr (congr (congr (congr (congr (congr (congrArg₂ (Cert.Reference6Ideal.Read.val_main_v143 (F := Ideal)) a0 a1) a2) a3) a4) a5) a6) a7) a8) a9).trans ((OutLn.Ref.e_v143 (D c)).trans (OutLn.arr15 (A c)).symm)
  · refine (Cert.Reference6Ideal.Read.val_main_v152_eq _).trans ?_
    exact (congr (congr (congr (congr (congr (congr (congr (congr (congrArg₂ (Cert.Reference6Ideal.Read.val_main_v152 (F := Ideal)) a0 a1) a2) a3) a4) a5) a6) a7) a8) a9).trans ((OutLn.Ref.e_v152 (D c)).trans (OutLn.arr16 (A c)).symm)
  · refine (Cert.Reference6Ideal.Read.val_main_v153_eq _).trans ?_
    exact (congr (congr (congr (congr (congr (congr (congr (congr (congrArg₂ (Cert.Reference6Ideal.Read.val_main_v153 (F := Ideal)) a0 a1) a2) a3) a4) a5) a6) a7) a8) a9).trans ((OutLn.Ref.e_v153 (D c)).trans (OutLn.arr17 (A c)).symm)
  · refine (Cert.Reference6Ideal.Read.val_main_v154_eq _).trans ?_
    exact (congr (congr (congr (congr (congr (congr (congr (congr (congrArg₂ (Cert.Reference6Ideal.Read.val_main_v154 (F := Ideal)) a0 a1) a2) a3) a4) a5) a6) a7) a8) a9).trans ((OutLn.Ref.e_v154 (D c)).trans (OutLn.arr18 (A c)).symm)
  · refine (Cert.Reference6Ideal.Read.val_main_v156_eq _).trans ?_
    exact (congr (congr (congr (congr (congr (congr (congr (congr (congrArg₂ (Cert.Reference6Ideal.Read.val_main_v156 (F := Ideal)) a0 a1) a2) a3) a4) a5) a6) a7) a8) a9).trans ((OutLn.Ref.e_v156 (D c)).trans (OutLn.arr19 (A c)).symm)
  · refine (Cert.Reference6Ideal.Read.val_main_v158_eq _).trans ?_
    exact (congr (congr (congr (congr (congr (congr (congr (congr (congrArg₂ (Cert.Reference6Ideal.Read.val_main_v158 (F := Ideal)) a0 a1) a2) a3) a4) a5) a6) a7) a8) a9).trans ((OutLn.Ref.e_v158 (D c)).trans (OutLn.arr20 (A c)).symm)

end Cert.Proof

end
-- ==== Proof.Results.lean ====
/- The reference's results on real arguments. -/
module

public import proofs.«01_k».proof.Proof.Ref

@[expose] public section

noncomputable section

namespace Mixer.Ref

open Idealize.ShloMosaic Idealize.SL.Sem Cert.ReferenceIdeal Cert.ReferenceIdeal.Gen Cert.ReferenceIdeal.Read

variable (V : Valuation τ Cert.ReferenceIdeal.sig (Elt Ideal)) (D : Data)

/-- The reference's arguments hold the arrays of the real data `D`. -/
structure Args : Prop where
  a0 : V (Proc.devRef .tc main_arg0) = X0 D
  a1 : V (Proc.devRef .tc main_arg1) = X1 D
  a2 : V (Proc.devRef .tc main_arg2) = X2 D
  a3 : V (Proc.devRef .tc main_arg3) = X3 D
  a4 : V (Proc.devRef .tc main_arg4) = X4 D
  a6 : V (Proc.devRef .tc main_arg6) = X6 D
  a7 : V (Proc.devRef .tc main_arg7) = X7 D
  a8 : V (Proc.devRef .tc main_arg8) = X8 D
  a9 : V (Proc.devRef .tc main_arg9) = X9 D
  a10 : V (Proc.devRef .tc main_arg10) = X10 D
  a11 : V (Proc.devRef .tc main_arg11) = X11 D

variable {V D} (A : Args V D)
include A

/-! Each result of the reference is the array of `Spec`'s mathematics. -/
theorem Args.r0 : val_main_v265 (F := Ideal) (V (Proc.devRef .tc main_arg0)) (V (Proc.devRef .tc main_arg1))
    (V (Proc.devRef .tc main_arg2)) (V (Proc.devRef .tc main_arg3)) (V (Proc.devRef .tc main_arg4))
    (V (Proc.devRef .tc main_arg5)) (V (Proc.devRef .tc main_arg6)) (V (Proc.devRef .tc main_arg7))
    (V (Proc.devRef .tc main_arg8)) (V (Proc.devRef .tc main_arg9)) (V (Proc.devRef .tc main_arg10))
    (V (Proc.devRef .tc main_arg11))
    = dpOut D (V (Proc.devRef .tc main_arg5)) := by
  rw [A.a0, A.a1, A.a2, A.a3, A.a4, A.a6, A.a7, A.a8, A.a9, A.a10, A.a11]; exact e265 D _
theorem Args.r1 : val_main_v199 (F := Ideal) (V (Proc.devRef .tc main_arg0)) (V (Proc.devRef .tc main_arg2))
    (V (Proc.devRef .tc main_arg4)) (V (Proc.devRef .tc main_arg6)) (V (Proc.devRef .tc main_arg7))
    = w3 D.gws := by
  rw [A.a0, A.a2, A.a4, A.a6, A.a7]; exact e199 D
theorem Args.r2 : val_main_v266 (F := Ideal) (V (Proc.devRef .tc main_arg0)) (V (Proc.devRef .tc main_arg2))
    (V (Proc.devRef .tc main_arg4))
    = ar (φ := .f32) i3 fun k => D.gbs k.1 k.2.1 := by
  rw [A.a0, A.a2, A.a4]; exact e266 D
theorem Args.r3 : val_main_v267 (F := Ideal) (V (Proc.devRef .tc main_arg0)) (V (Proc.devRef .tc main_arg2))
    (V (Proc.devRef .tc main_arg4)) (V (Proc.devRef .tc main_arg8))
    = c2d D.glg := by
  rw [A.a0, A.a2, A.a4, A.a8]; exact e267 D
theorem Args.r4 : val_main_v268 (F := Ideal) (V (Proc.devRef .tc main_arg0)) (V (Proc.devRef .tc main_arg2))
    (V (Proc.devRef .tc main_arg4)) (V (Proc.devRef .tc main_arg8))
    = c2d D.glb := by
  rw [A.a0, A.a2, A.a4, A.a8]; exact e268 D
theorem Args.r5 : val_main_v180 (F := Ideal) (V (Proc.devRef .tc main_arg1)) (V (Proc.devRef .tc main_arg3))
    (V (Proc.devRef .tc main_arg4))
    = t2 D.gcw := by
  rw [A.a1, A.a3, A.a4]; exact e180 D
theorem Args.r6 : val_main_v269 (F := Ideal) (V (Proc.devRef .tc main_arg1)) (V (Proc.devRef .tc main_arg3))
    (V (Proc.devRef .tc main_arg4))
    = c2d D.gcb := by
  rw [A.a1, A.a3, A.a4]; exact e269 D

end Mixer.Ref

end
-- ==== Proof.AdamBody.lean ====
/- The body of the small weights' AdamW: it reads the nine weights, their gradients and their moments whole, and stores
   each change and new moment whole. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace AdamSmall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-! The five shapes, each loaded and stored whole. -/
abbrev r0 : Rect S1x4096 := Rect.unit (s := S1x4096) ![0, 0] S1x4096.size inb_S1x4096_S1x4096_0_0
theorem cover0 (p : Vec F S1x4096 .f32) (y : S1x4096.Idx) : ∃ pc ∈ ([⟨r0, p⟩] : List (View.Piece (Elt F) S1x4096 .f32)), y ∈ pc.1.set :=
  View.cover_of_tiled [⟨r0, p⟩] S1x4096.size (by rfl) y

abbrev r1 : Rect S1x2048 := Rect.unit (s := S1x2048) ![0, 0] S1x2048.size inb_S1x2048_S1x2048_0_0
theorem cover1 (p : Vec F S1x2048 .f32) (y : S1x2048.Idx) : ∃ pc ∈ ([⟨r1, p⟩] : List (View.Piece (Elt F) S1x2048 .f32)), y ∈ pc.1.set :=
  View.cover_of_tiled [⟨r1, p⟩] S1x2048.size (by rfl) y

abbrev r2 : Rect S1024x128 := Rect.unit (s := S1024x128) ![0, 0] S1024x128.size inb_S1024x128_S1024x128_0_0
theorem cover2 (p : Vec F S1024x128 .f32) (y : S1024x128.Idx) : ∃ pc ∈ ([⟨r2, p⟩] : List (View.Piece (Elt F) S1024x128 .f32)), y ∈ pc.1.set :=
  View.cover_of_tiled [⟨r2, p⟩] S1024x128.size (by rfl) y

abbrev r3 : Rect S8x128 := Rect.unit (s := S8x128) ![0, 0] S8x128.size inb_S8x128_S8x128_0_0
theorem cover3 (p : Vec F S8x128 .f32) (y : S8x128.Idx) : ∃ pc ∈ ([⟨r3, p⟩] : List (View.Piece (Elt F) S8x128 .f32)), y ∈ pc.1.set :=
  View.cover_of_tiled [⟨r3, p⟩] S8x128.size (by rfl) y

abbrev r4 : Rect S3x256 := Rect.unit (s := S3x256) ![0, 0] S3x256.size inb_S3x256_S3x256_0_0
theorem cover4 (p : Vec F S3x256 .f32) (y : S3x256.Idx) : ∃ pc ∈ ([⟨r4, p⟩] : List (View.Piece (Elt F) S3x256 .f32)), y ∈ pc.1.set :=
  View.cover_of_tiled [⟨r4, p⟩] S3x256.size (by rfl) y

/-! What the body leaves in each output window: 36 to 44 the changes, 45 to 53 the first moments, 54 to 62 the second ones. -/
section
variable (x0 : Vec F S1x4096 .f32) (x1 : Vec F S1x2048 .f32) (x2 : Vec F S1x2048 .f32) (x3 : Vec F S1024x128 .f32) (x4 : Vec F S8x128 .f32) (x5 : Vec F S3x256 .f32) (x6 : Vec F S1x2048 .f32) (x7 : Vec F S1x2048 .f32) (x8 : Vec F S1x2048 .f32)
  (x9 : Vec F S1x4096 .f32) (x10 : Vec F S1x2048 .f32) (x11 : Vec F S1x2048 .f32) (x12 : Vec F S1024x128 .f32) (x13 : Vec F S8x128 .f32) (x14 : Vec F S3x256 .f32) (x15 : Vec F S1x2048 .f32) (x16 : Vec F S1x2048 .f32) (x17 : Vec F S1x2048 .f32)
  (x18 : Vec F S1x4096 .f32) (x19 : Vec F S1x2048 .f32) (x20 : Vec F S1x2048 .f32) (x21 : Vec F S1024x128 .f32) (x22 : Vec F S8x128 .f32) (x23 : Vec F S3x256 .f32) (x24 : Vec F S1x2048 .f32) (x25 : Vec F S1x2048 .f32) (x26 : Vec F S1x2048 .f32)
  (x27 : Vec F S1x4096 .f32) (x28 : Vec F S1x2048 .f32) (x29 : Vec F S1x2048 .f32) (x30 : Vec F S1024x128 .f32) (x31 : Vec F S8x128 .f32) (x32 : Vec F S3x256 .f32) (x33 : Vec F S1x2048 .f32) (x34 : Vec F S1x2048 .f32) (x35 : Vec F S1x2048 .f32)

def out36 : Vec F S1x4096 .f32 := View.canon [⟨r0, k0_pay6 (View.ld x0 r0) (View.ld x9 r0) (View.ld x18 r0) (View.ld x27 r0)⟩]
def out37 : Vec F S1x2048 .f32 := View.canon [⟨r1, k0_pay9 (View.ld x1 r1) (View.ld x10 r1) (View.ld x19 r1) (View.ld x28 r1)⟩]
def out38 : Vec F S1x2048 .f32 := View.canon [⟨r1, k0_pay12 (View.ld x2 r1) (View.ld x11 r1) (View.ld x20 r1) (View.ld x29 r1)⟩]
def out39 : Vec F S1024x128 .f32 := View.canon [⟨r2, k0_pay17 (k0_pay13 (View.ld x3 r2)) (k0_pay14 (View.ld x12 r2)) (View.ld x21 r2) (View.ld x30 r2)⟩]
def out40 : Vec F S8x128 .f32 := View.canon [⟨r3, k0_pay22 (k0_pay18 (View.ld x4 r3)) (k0_pay19 (View.ld x13 r3)) (View.ld x22 r3) (View.ld x31 r3)⟩]
def out41 : Vec F S3x256 .f32 := View.canon [⟨r4, k0_pay27 (k0_pay23 (View.ld x5 r4)) (View.ld x14 r4) (View.ld x23 r4) (View.ld x32 r4)⟩]
def out42 : Vec F S1x2048 .f32 := View.canon [⟨r1, k0_pay30 (View.ld x6 r1) (View.ld x15 r1) (View.ld x24 r1) (View.ld x33 r1)⟩]
def out43 : Vec F S1x2048 .f32 := View.canon [⟨r1, k0_pay33 (View.ld x7 r1) (View.ld x16 r1) (View.ld x25 r1) (View.ld x34 r1)⟩]
def out44 : Vec F S1x2048 .f32 := View.canon [⟨r1, k0_pay3 (View.ld x8 r1) (View.ld x17 r1) (View.ld x26 r1) (View.ld x35 r1)⟩]
def out45 : Vec F S1x4096 .f32 := View.canon [⟨r0, k0_pay4 (View.ld x9 r0) (View.ld x18 r0)⟩]
def out46 : Vec F S1x2048 .f32 := View.canon [⟨r1, k0_pay7 (View.ld x10 r1) (View.ld x19 r1)⟩]
def out47 : Vec F S1x2048 .f32 := View.canon [⟨r1, k0_pay10 (View.ld x11 r1) (View.ld x20 r1)⟩]
def out48 : Vec F S1024x128 .f32 := View.canon [⟨r2, k0_pay15 (k0_pay14 (View.ld x12 r2)) (View.ld x21 r2)⟩]
def out49 : Vec F S8x128 .f32 := View.canon [⟨r3, k0_pay20 (k0_pay19 (View.ld x13 r3)) (View.ld x22 r3)⟩]
def out50 : Vec F S3x256 .f32 := View.canon [⟨r4, k0_pay25 (View.ld x14 r4) (View.ld x23 r4)⟩]
def out51 : Vec F S1x2048 .f32 := View.canon [⟨r1, k0_pay28 (View.ld x15 r1) (View.ld x24 r1)⟩]
def out52 : Vec F S1x2048 .f32 := View.canon [⟨r1, k0_pay31 (View.ld x16 r1) (View.ld x25 r1)⟩]
def out53 : Vec F S1x2048 .f32 := View.canon [⟨r1, k0_pay1 (View.ld x17 r1) (View.ld x26 r1)⟩]
def out54 : Vec F S1x4096 .f32 := View.canon [⟨r0, k0_pay5 (View.ld x9 r0) (View.ld x27 r0)⟩]
def out55 : Vec F S1x2048 .f32 := View.canon [⟨r1, k0_pay8 (View.ld x10 r1) (View.ld x28 r1)⟩]
def out56 : Vec F S1x2048 .f32 := View.canon [⟨r1, k0_pay11 (View.ld x11 r1) (View.ld x29 r1)⟩]
def out57 : Vec F S1024x128 .f32 := View.canon [⟨r2, k0_pay16 (k0_pay14 (View.ld x12 r2)) (View.ld x30 r2)⟩]
def out58 : Vec F S8x128 .f32 := View.canon [⟨r3, k0_pay21 (k0_pay19 (View.ld x13 r3)) (View.ld x31 r3)⟩]
def out59 : Vec F S3x256 .f32 := View.canon [⟨r4, k0_pay26 (View.ld x14 r4) (View.ld x32 r4)⟩]
def out60 : Vec F S1x2048 .f32 := View.canon [⟨r1, k0_pay29 (View.ld x15 r1) (View.ld x33 r1)⟩]
def out61 : Vec F S1x2048 .f32 := View.canon [⟨r1, k0_pay32 (View.ld x16 r1) (View.ld x34 r1)⟩]
def out62 : Vec F S1x2048 .f32 := View.canon [⟨r1, k0_pay2 (View.ld x17 r1) (View.ld x35 r1)⟩]
end

set_option maxHeartbeats 2000000 in
/-- The body, from the windows' buffers: the inputs' are kept, and each output's ends as stated above. -/
theorem sound_kernel (c : Dev nD) (E : Set ℕ) (arg0 : Memref sig .tc .vmem S1x4096 .f32) (harg0 : arg0.IsWhole) (arg1 : Memref sig .tc .vmem S1x2048 .f32) (harg1 : arg1.IsWhole) (arg2 : Memref sig .tc .vmem S1x2048 .f32) (harg2 : arg2.IsWhole) (arg3 : Memref sig .tc .vmem S1024x128 .f32) (harg3 : arg3.IsWhole) (arg4 : Memref sig .tc .vmem S8x128 .f32) (harg4 : arg4.IsWhole) (arg5 : Memref sig .tc .vmem S3x256 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x4096 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1024x128 .f32) (harg12 : arg12.IsWhole) (arg13 : Memref sig .tc .vmem S8x128 .f32) (harg13 : arg13.IsWhole) (arg14 : Memref sig .tc .vmem S3x256 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x4096 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1024x128 .f32) (harg21 : arg21.IsWhole) (arg22 : Memref sig .tc .vmem S8x128 .f32) (harg22 : arg22.IsWhole) (arg23 : Memref sig .tc .vmem S3x256 .f32) (harg23 : arg23.IsWhole) (arg24 : Memref sig .tc .vmem S1x2048 .f32) (harg24 : arg24.IsWhole) (arg25 : Memref sig .tc .vmem S1x2048 .f32) (harg25 : arg25.IsWhole) (arg26 : Memref sig .tc .vmem S1x2048 .f32) (harg26 : arg26.IsWhole) (arg27 : Memref sig .tc .vmem S1x4096 .f32) (harg27 : arg27.IsWhole) (arg28 : Memref sig .tc .vmem S1x2048 .f32) (harg28 : arg28.IsWhole) (arg29 : Memref sig .tc .vmem S1x2048 .f32) (harg29 : arg29.IsWhole) (arg30 : Memref sig .tc .vmem S1024x128 .f32) (harg30 : arg30.IsWhole) (arg31 : Memref sig .tc .vmem S8x128 .f32) (harg31 : arg31.IsWhole) (arg32 : Memref sig .tc .vmem S3x256 .f32) (harg32 : arg32.IsWhole) (arg33 : Memref sig .tc .vmem S1x2048 .f32) (harg33 : arg33.IsWhole) (arg34 : Memref sig .tc .vmem S1x2048 .f32) (harg34 : arg34.IsWhole) (arg35 : Memref sig .tc .vmem S1x2048 .f32) (harg35 : arg35.IsWhole) (arg36 : Memref sig .tc .vmem S1x4096 .f32) (harg36 : arg36.IsWhole) (arg37 : Memref sig .tc .vmem S1x2048 .f32) (harg37 : arg37.IsWhole) (arg38 : Memref sig .tc .vmem S1x2048 .f32) (harg38 : arg38.IsWhole) (arg39 : Memref sig .tc .vmem S1024x128 .f32) (harg39 : arg39.IsWhole) (arg40 : Memref sig .tc .vmem S8x128 .f32) (harg40 : arg40.IsWhole) (arg41 : Memref sig .tc .vmem S3x256 .f32) (harg41 : arg41.IsWhole) (arg42 : Memref sig .tc .vmem S1x2048 .f32) (harg42 : arg42.IsWhole) (arg43 : Memref sig .tc .vmem S1x2048 .f32) (harg43 : arg43.IsWhole) (arg44 : Memref sig .tc .vmem S1x2048 .f32) (harg44 : arg44.IsWhole) (arg45 : Memref sig .tc .vmem S1x4096 .f32) (harg45 : arg45.IsWhole) (arg46 : Memref sig .tc .vmem S1x2048 .f32) (harg46 : arg46.IsWhole) (arg47 : Memref sig .tc .vmem S1x2048 .f32) (harg47 : arg47.IsWhole) (arg48 : Memref sig .tc .vmem S1024x128 .f32) (harg48 : arg48.IsWhole) (arg49 : Memref sig .tc .vmem S8x128 .f32) (harg49 : arg49.IsWhole) (arg50 : Memref sig .tc .vmem S3x256 .f32) (harg50 : arg50.IsWhole) (arg51 : Memref sig .tc .vmem S1x2048 .f32) (harg51 : arg51.IsWhole) (arg52 : Memref sig .tc .vmem S1x2048 .f32) (harg52 : arg52.IsWhole) (arg53 : Memref sig .tc .vmem S1x2048 .f32) (harg53 : arg53.IsWhole) (arg54 : Memref sig .tc .vmem S1x4096 .f32) (harg54 : arg54.IsWhole) (arg55 : Memref sig .tc .vmem S1x2048 .f32) (harg55 : arg55.IsWhole) (arg56 : Memref sig .tc .vmem S1x2048 .f32) (harg56 : arg56.IsWhole) (arg57 : Memref sig .tc .vmem S1024x128 .f32) (harg57 : arg57.IsWhole) (arg58 : Memref sig .tc .vmem S8x128 .f32) (harg58 : arg58.IsWhole) (arg59 : Memref sig .tc .vmem S3x256 .f32) (harg59 : arg59.IsWhole) (arg60 : Memref sig .tc .vmem S1x2048 .f32) (harg60 : arg60.IsWhole) (arg61 : Memref sig .tc .vmem S1x2048 .f32) (harg61 : arg61.IsWhole) (arg62 : Memref sig .tc .vmem S1x2048 .f32) (harg62 : arg62.IsWhole)
    (x0 : Vec F S1x4096 .f32) (x1 : Vec F S1x2048 .f32) (x2 : Vec F S1x2048 .f32) (x3 : Vec F S1024x128 .f32) (x4 : Vec F S8x128 .f32) (x5 : Vec F S3x256 .f32) (x6 : Vec F S1x2048 .f32) (x7 : Vec F S1x2048 .f32) (x8 : Vec F S1x2048 .f32) (x9 : Vec F S1x4096 .f32) (x10 : Vec F S1x2048 .f32) (x11 : Vec F S1x2048 .f32) (x12 : Vec F S1024x128 .f32) (x13 : Vec F S8x128 .f32) (x14 : Vec F S3x256 .f32) (x15 : Vec F S1x2048 .f32) (x16 : Vec F S1x2048 .f32) (x17 : Vec F S1x2048 .f32) (x18 : Vec F S1x4096 .f32) (x19 : Vec F S1x2048 .f32) (x20 : Vec F S1x2048 .f32) (x21 : Vec F S1024x128 .f32) (x22 : Vec F S8x128 .f32) (x23 : Vec F S3x256 .f32) (x24 : Vec F S1x2048 .f32) (x25 : Vec F S1x2048 .f32) (x26 : Vec F S1x2048 .f32) (x27 : Vec F S1x4096 .f32) (x28 : Vec F S1x2048 .f32) (x29 : Vec F S1x2048 .f32) (x30 : Vec F S1024x128 .f32) (x31 : Vec F S8x128 .f32) (x32 : Vec F S3x256 .f32) (x33 : Vec F S1x2048 .f32) (x34 : Vec F S1x2048 .f32) (x35 : Vec F S1x2048 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare (out36 x0 x9 x18 x27) ∗ owns (c : Thread nD τ) arg37 fullShare (out37 x1 x10 x19 x28) ∗ owns (c : Thread nD τ) arg38 fullShare (out38 x2 x11 x20 x29) ∗ owns (c : Thread nD τ) arg39 fullShare (out39 x3 x12 x21 x30) ∗ owns (c : Thread nD τ) arg40 fullShare (out40 x4 x13 x22 x31) ∗ owns (c : Thread nD τ) arg41 fullShare (out41 x5 x14 x23 x32) ∗ owns (c : Thread nD τ) arg42 fullShare (out42 x6 x15 x24 x33) ∗ owns (c : Thread nD τ) arg43 fullShare (out43 x7 x16 x25 x34) ∗ owns (c : Thread nD τ) arg44 fullShare (out44 x8 x17 x26 x35) ∗ owns (c : Thread nD τ) arg45 fullShare (out45 x9 x18) ∗ owns (c : Thread nD τ) arg46 fullShare (out46 x10 x19) ∗ owns (c : Thread nD τ) arg47 fullShare (out47 x11 x20) ∗ owns (c : Thread nD τ) arg48 fullShare (out48 x12 x21) ∗ owns (c : Thread nD τ) arg49 fullShare (out49 x13 x22) ∗ owns (c : Thread nD τ) arg50 fullShare (out50 x14 x23) ∗ owns (c : Thread nD τ) arg51 fullShare (out51 x15 x24) ∗ owns (c : Thread nD τ) arg52 fullShare (out52 x16 x25) ∗ owns (c : Thread nD τ) arg53 fullShare (out53 x17 x26) ∗ owns (c : Thread nD τ) arg54 fullShare (out54 x9 x27) ∗ owns (c : Thread nD τ) arg55 fullShare (out55 x10 x28) ∗ owns (c : Thread nD τ) arg56 fullShare (out56 x11 x29) ∗ owns (c : Thread nD τ) arg57 fullShare (out57 x12 x30) ∗ owns (c : Thread nD τ) arg58 fullShare (out58 x13 x31) ∗ owns (c : Thread nD τ) arg59 fullShare (out59 x14 x32) ∗ owns (c : Thread nD τ) arg60 fullShare (out60 x15 x33) ∗ owns (c : Thread nD τ) arg61 fullShare (out61 x16 x34) ∗ owns (c : Thread nD τ) arg62 fullShare (out62 x17 x35)) -∗ K ⟨⟩))
      ⊢ wp frame (wpE (defs₀ (F := F)) Variants.none c none) E (cc0_adam_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62) K := by
  simp only [cc0_adam_small_eq_skeleton]; unfold cc0_adam_small_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists _; isplitr
    swap; · iexact H36
    ipureintro
    refine (View.read_writes_eq_canon _ _ _ (cover0 _)).trans ?_
    rfl
  isplitl [H37]
  · iexists _; isplitr
    swap; · iexact H37
    ipureintro
    refine (View.read_writes_eq_canon _ _ _ (cover1 _)).trans ?_
    rfl
  isplitl [H38]
  · iexists _; isplitr
    swap; · iexact H38
    ipureintro
    refine (View.read_writes_eq_canon _ _ _ (cover1 _)).trans ?_
    rfl
  isplitl [H39]
  · iexists _; isplitr
    swap; · iexact H39
    ipureintro
    refine (View.read_writes_eq_canon _ _ _ (cover2 _)).trans ?_
    rfl
  isplitl [H40]
  · iexists _; isplitr
    swap; · iexact H40
    ipureintro
    refine (View.read_writes_eq_canon _ _ _ (cover3 _)).trans ?_
    rfl
  isplitl [H41]
  · iexists _; isplitr
    swap; · iexact H41
    ipureintro
    refine (View.read_writes_eq_canon _ _ _ (cover4 _)).trans ?_
    rfl
  isplitl [H42]
  · iexists _; isplitr
    swap; · iexact H42
    ipureintro
    refine (View.read_writes_eq_canon _ _ _ (cover1 _)).trans ?_
    rfl
  isplitl [H43]
  · iexists _; isplitr
    swap; · iexact H43
    ipureintro
    refine (View.read_writes_eq_canon _ _ _ (cover1 _)).trans ?_
    rfl
  isplitl [H44]
  · iexists _; isplitr
    swap; · iexact H44
    ipureintro
    refine (View.read_writes_eq_canon _ _ _ (cover1 _)).trans ?_
    rfl
  isplitl [H45]
  · iexists _; isplitr
    swap; · iexact H45
    ipureintro
    refine (View.read_writes_eq_canon _ _ _ (cover0 _)).trans ?_
    rfl
  isplitl [H46]
  · iexists _; isplitr
    swap; · iexact H46
    ipureintro
    refine (View.read_writes_eq_canon _ _ _ (cover1 _)).trans ?_
    rfl
  isplitl [H47]
  · iexists _; isplitr
    swap; · iexact H47
    ipureintro
    refine (View.read_writes_eq_canon _ _ _ (cover1 _)).trans ?_
    rfl
  isplitl [H48]
  · iexists _; isplitr
    swap; · iexact H48
    ipureintro
    refine (View.read_writes_eq_canon _ _ _ (cover2 _)).trans ?_
    rfl
  isplitl [H49]
  · iexists _; isplitr
    swap; · iexact H49
    ipureintro
    refine (View.read_writes_eq_canon _ _ _ (cover3 _)).trans ?_
    rfl
  isplitl [H50]
  · iexists _; isplitr
    swap; · iexact H50
    ipureintro
    refine (View.read_writes_eq_canon _ _ _ (cover4 _)).trans ?_
    rfl
  isplitl [H51]
  · iexists _; isplitr
    swap; · iexact H51
    ipureintro
    refine (View.read_writes_eq_canon _ _ _ (cover1 _)).trans ?_
    rfl
  isplitl [H52]
  · iexists _; isplitr
    swap; · iexact H52
    ipureintro
    refine (View.read_writes_eq_canon _ _ _ (cover1 _)).trans ?_
    rfl
  isplitl [H53]
  · iexists _; isplitr
    swap; · iexact H53
    ipureintro
    refine (View.read_writes_eq_canon _ _ _ (cover1 _)).trans ?_
    rfl
  isplitl [H54]
  · iexists _; isplitr
    swap; · iexact H54
    ipureintro
    refine (View.read_writes_eq_canon _ _ _ (cover0 _)).trans ?_
    rfl
  isplitl [H55]
  · iexists _; isplitr
    swap; · iexact H55
    ipureintro
    refine (View.read_writes_eq_canon _ _ _ (cover1 _)).trans ?_
    rfl
  isplitl [H56]
  · iexists _; isplitr
    swap; · iexact H56
    ipureintro
    refine (View.read_writes_eq_canon _ _ _ (cover1 _)).trans ?_
    rfl
  isplitl [H57]
  · iexists _; isplitr
    swap; · iexact H57
    ipureintro
    refine (View.read_writes_eq_canon _ _ _ (cover2 _)).trans ?_
    rfl
  isplitl [H58]
  · iexists _; isplitr
    swap; · iexact H58
    ipureintro
    refine (View.read_writes_eq_canon _ _ _ (cover3 _)).trans ?_
    rfl
  isplitl [H59]
  · iexists _; isplitr
    swap; · iexact H59
    ipureintro
    refine (View.read_writes_eq_canon _ _ _ (cover4 _)).trans ?_
    rfl
  isplitl [H60]
  · iexists _; isplitr
    swap; · iexact H60
    ipureintro
    refine (View.read_writes_eq_canon _ _ _ (cover1 _)).trans ?_
    rfl
  isplitl [H61]
  · iexists _; isplitr
    swap; · iexact H61
    ipureintro
    refine (View.read_writes_eq_canon _ _ _ (cover1 _)).trans ?_
    rfl
  iexists _; isplitr
  swap; · iexact H62
  ipureintro
  refine (View.read_writes_eq_canon _ _ _ (cover1 _)).trans ?_
  rfl

end AdamSmall

end
-- ==== Proof.AdamFrame.lean ====
/- The run of the small weights' AdamW: its one step, and what it leaves in every array. -/
module

public import proofs.«01_k».proof.Proof.AdamBody

@[expose] public section

set_option maxRecDepth 16384

noncomputable section

namespace AdamSmall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the step begins: after the reshapes of the weights of three and four axes. -/
abbrev V (c : Dev nD) (b : Ref sig .tc) : Buf (Elt F) ((c : Thread nD τ).loc b) := StableHlo.after hostOps0 (fun b => m (c, b)) b
theorem hostOps0_fresh : (hostOps0 : List (HloOp τ sig (Elt F))).Forall fun op => op.fresh = ∅ := by
  simp only [List.Forall]; repeat' constructor

set_option maxHeartbeats 2000000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An array that no reshape writes is as it was. -/
theorem V_of (c : Dev nD) (b : Ref sig .tc) (h : ∀ w ∈ ([main_v0, main_v1, main_v2, main_v3, main_v4, main_v5, main_v6, main_v7, main_v8, main_v9, main_v10,
    main_v11] : List (Ref sig .tc)), b ≠ w) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (h _ (by simp))))

/-- The block of window `w`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Array `b` is as it was. -/
abbrev Same (r : PUnit × MemSt nD τ sig (Elt F)) (c : Dev nD) (b : Ref sig .tc) : Prop :=
  r.2.mem ((c.tc : Thread nD τ).loc b) = m ((c.tc : Thread nD τ).loc b)

/-- The arguments are as they were. -/
abbrev Kept (r : PUnit × MemSt nD τ sig (Elt F)) (c : Dev nD) : Prop :=
  Same m r c main_arg0 ∧ Same m r c main_arg1 ∧ Same m r c main_arg2 ∧ Same m r c main_arg3
    ∧ Same m r c main_arg4 ∧ Same m r c main_arg5 ∧ Same m r c main_arg6 ∧ Same m r c main_arg7
    ∧ Same m r c main_arg8 ∧ Same m r c main_arg9 ∧ Same m r c main_arg10 ∧ Same m r c main_arg11
    ∧ Same m r c main_arg12 ∧ Same m r c main_arg13 ∧ Same m r c main_arg14 ∧ Same m r c main_arg15
    ∧ Same m r c main_arg16 ∧ Same m r c main_arg17 ∧ Same m r c main_arg18 ∧ Same m r c main_arg19
    ∧ Same m r c main_arg20 ∧ Same m r c main_arg21 ∧ Same m r c main_arg22 ∧ Same m r c main_arg23
    ∧ Same m r c main_arg24 ∧ Same m r c main_arg25 ∧ Same m r c main_arg26 ∧ Same m r c main_arg27
    ∧ Same m r c main_arg28 ∧ Same m r c main_arg29 ∧ Same m r c main_arg30 ∧ Same m r c main_arg31
    ∧ Same m r c main_arg32 ∧ Same m r c main_arg33 ∧ Same m r c main_arg34 ∧ Same m r c main_arg35

set_option maxHeartbeats 2000000 in
theorem kept_of (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (hr : Pipeline.FramePost cfgs dats 0 (V m) r) (c : Dev nD) : Kept m r c :=
  have h := hr c
  ⟨(h.1 0).trans (((dats 0 c).arrAt_in 0 rfl _).trans ((hA c 0).trans (V_of m c main_arg0 (by decide)))),
      (h.1 1).trans (((dats 0 c).arrAt_in 1 rfl _).trans ((hA c 1).trans (V_of m c main_arg1 (by decide)))),
      (h.1 2).trans (((dats 0 c).arrAt_in 2 rfl _).trans ((hA c 2).trans (V_of m c main_arg2 (by decide)))),
      (h.2 main_arg3 (Pipeline.mem_restRefs_of main_arg3 (by decide) (by decide))).trans (V_of m c main_arg3 (by decide)),
      (h.2 main_arg4 (Pipeline.mem_restRefs_of main_arg4 (by decide) (by decide))).trans (V_of m c main_arg4 (by decide)),
      (h.2 main_arg5 (Pipeline.mem_restRefs_of main_arg5 (by decide) (by decide))).trans (V_of m c main_arg5 (by decide)),
      (h.1 6).trans (((dats 0 c).arrAt_in 6 rfl _).trans ((hA c 6).trans (V_of m c main_arg6 (by decide)))),
      (h.1 7).trans (((dats 0 c).arrAt_in 7 rfl _).trans ((hA c 7).trans (V_of m c main_arg7 (by decide)))),
      (h.1 8).trans (((dats 0 c).arrAt_in 8 rfl _).trans ((hA c 8).trans (V_of m c main_arg8 (by decide)))),
      (h.1 9).trans (((dats 0 c).arrAt_in 9 rfl _).trans ((hA c 9).trans (V_of m c main_arg9 (by decide)))),
      (h.1 10).trans (((dats 0 c).arrAt_in 10 rfl _).trans ((hA c 10).trans (V_of m c main_arg10 (by decide)))),
      (h.1 11).trans (((dats 0 c).arrAt_in 11 rfl _).trans ((hA c 11).trans (V_of m c main_arg11 (by decide)))),
      (h.2 main_arg12 (Pipeline.mem_restRefs_of main_arg12 (by decide) (by decide))).trans (V_of m c main_arg12 (by decide)),
      (h.2 main_arg13 (Pipeline.mem_restRefs_of main_arg13 (by decide) (by decide))).trans (V_of m c main_arg13 (by decide)),
      (h.2 main_arg14 (Pipeline.mem_restRefs_of main_arg14 (by decide) (by decide))).trans (V_of m c main_arg14 (by decide)),
      (h.1 15).trans (((dats 0 c).arrAt_in 15 rfl _).trans ((hA c 15).trans (V_of m c main_arg15 (by decide)))),
      (h.1 16).trans (((dats 0 c).arrAt_in 16 rfl _).trans ((hA c 16).trans (V_of m c main_arg16 (by decide)))),
      (h.1 17).trans (((dats 0 c).arrAt_in 17 rfl _).trans ((hA c 17).trans (V_of m c main_arg17 (by decide)))),
      (h.1 18).trans (((dats 0 c).arrAt_in 18 rfl _).trans ((hA c 18).trans (V_of m c main_arg18 (by decide)))),
      (h.1 19).trans (((dats 0 c).arrAt_in 19 rfl _).trans ((hA c 19).trans (V_of m c main_arg19 (by decide)))),
      (h.1 20).trans (((dats 0 c).arrAt_in 20 rfl _).trans ((hA c 20).trans (V_of m c main_arg20 (by decide)))),
      (h.2 main_arg21 (Pipeline.mem_restRefs_of main_arg21 (by decide) (by decide))).trans (V_of m c main_arg21 (by decide)),
      (h.2 main_arg22 (Pipeline.mem_restRefs_of main_arg22 (by decide) (by decide))).trans (V_of m c main_arg22 (by decide)),
      (h.2 main_arg23 (Pipeline.mem_restRefs_of main_arg23 (by decide) (by decide))).trans (V_of m c main_arg23 (by decide)),
      (h.1 24).trans (((dats 0 c).arrAt_in 24 rfl _).trans ((hA c 24).trans (V_of m c main_arg24 (by decide)))),
      (h.1 25).trans (((dats 0 c).arrAt_in 25 rfl _).trans ((hA c 25).trans (V_of m c main_arg25 (by decide)))),
      (h.1 26).trans (((dats 0 c).arrAt_in 26 rfl _).trans ((hA c 26).trans (V_of m c main_arg26 (by decide)))),
      (h.1 27).trans (((dats 0 c).arrAt_in 27 rfl _).trans ((hA c 27).trans (V_of m c main_arg27 (by decide)))),
      (h.1 28).trans (((dats 0 c).arrAt_in 28 rfl _).trans ((hA c 28).trans (V_of m c main_arg28 (by decide)))),
      (h.1 29).trans (((dats 0 c).arrAt_in 29 rfl _).trans ((hA c 29).trans (V_of m c main_arg29 (by decide)))),
      (h.2 main_arg30 (Pipeline.mem_restRefs_of main_arg30 (by decide) (by decide))).trans (V_of m c main_arg30 (by decide)),
      (h.2 main_arg31 (Pipeline.mem_restRefs_of main_arg31 (by decide) (by decide))).trans (V_of m c main_arg31 (by decide)),
      (h.2 main_arg32 (Pipeline.mem_restRefs_of main_arg32 (by decide) (by decide))).trans (V_of m c main_arg32 (by decide)),
      (h.1 33).trans (((dats 0 c).arrAt_in 33 rfl _).trans ((hA c 33).trans (V_of m c main_arg33 (by decide)))),
      (h.1 34).trans (((dats 0 c).arrAt_in 34 rfl _).trans ((hA c 34).trans (V_of m c main_arg34 (by decide)))),
      (h.1 35).trans (((dats 0 c).arrAt_in 35 rfl _).trans ((hA c 35).trans (V_of m c main_arg35 (by decide))))⟩

/-- Before the step each window's array; after it each window's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => out36 (iblk m c 0 t) (iblk m c 9 t) (iblk m c 18 t) (iblk m c 27 t)
    | ⟨37, _⟩ => out37 (iblk m c 1 t) (iblk m c 10 t) (iblk m c 19 t) (iblk m c 28 t)
    | ⟨38, _⟩ => out38 (iblk m c 2 t) (iblk m c 11 t) (iblk m c 20 t) (iblk m c 29 t)
    | ⟨39, _⟩ => out39 (iblk m c 3 t) (iblk m c 12 t) (iblk m c 21 t) (iblk m c 30 t)
    | ⟨40, _⟩ => out40 (iblk m c 4 t) (iblk m c 13 t) (iblk m c 22 t) (iblk m c 31 t)
    | ⟨41, _⟩ => out41 (iblk m c 5 t) (iblk m c 14 t) (iblk m c 23 t) (iblk m c 32 t)
    | ⟨42, _⟩ => out42 (iblk m c 6 t) (iblk m c 15 t) (iblk m c 24 t) (iblk m c 33 t)
    | ⟨43, _⟩ => out43 (iblk m c 7 t) (iblk m c 16 t) (iblk m c 25 t) (iblk m c 34 t)
    | ⟨44, _⟩ => out44 (iblk m c 8 t) (iblk m c 17 t) (iblk m c 26 t) (iblk m c 35 t)
    | ⟨45, _⟩ => out45 (iblk m c 9 t) (iblk m c 18 t)
    | ⟨46, _⟩ => out46 (iblk m c 10 t) (iblk m c 19 t)
    | ⟨47, _⟩ => out47 (iblk m c 11 t) (iblk m c 20 t)
    | ⟨48, _⟩ => out48 (iblk m c 12 t) (iblk m c 21 t)
    | ⟨49, _⟩ => out49 (iblk m c 13 t) (iblk m c 22 t)
    | ⟨50, _⟩ => out50 (iblk m c 14 t) (iblk m c 23 t)
    | ⟨51, _⟩ => out51 (iblk m c 15 t) (iblk m c 24 t)
    | ⟨52, _⟩ => out52 (iblk m c 16 t) (iblk m c 25 t)
    | ⟨53, _⟩ => out53 (iblk m c 17 t) (iblk m c 26 t)
    | ⟨54, _⟩ => out54 (iblk m c 9 t) (iblk m c 27 t)
    | ⟨55, _⟩ => out55 (iblk m c 10 t) (iblk m c 28 t)
    | ⟨56, _⟩ => out56 (iblk m c 11 t) (iblk m c 29 t)
    | ⟨57, _⟩ => out57 (iblk m c 12 t) (iblk m c 30 t)
    | ⟨58, _⟩ => out58 (iblk m c 13 t) (iblk m c 31 t)
    | ⟨59, _⟩ => out59 (iblk m c 14 t) (iblk m c 32 t)
    | ⟨60, _⟩ => out60 (iblk m c 15 t) (iblk m c 33 t)
    | ⟨61, _⟩ => out61 (iblk m c 16 t) (iblk m c 34 t)
    | ⟨62, _⟩ => out62 (iblk m c 17 t) (iblk m c 35 t)
    | ⟨_ + 63, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = iblk m c 15 t := by dsimp only [dats]
theorem after16 : (dats m 0 c).after 16 t = iblk m c 16 t := by dsimp only [dats]
theorem after17 : (dats m 0 c).after 17 t = iblk m c 17 t := by dsimp only [dats]
theorem after18 : (dats m 0 c).after 18 t = iblk m c 18 t := by dsimp only [dats]
theorem after19 : (dats m 0 c).after 19 t = iblk m c 19 t := by dsimp only [dats]
theorem after20 : (dats m 0 c).after 20 t = iblk m c 20 t := by dsimp only [dats]
theorem after21 : (dats m 0 c).after 21 t = iblk m c 21 t := by dsimp only [dats]
theorem after22 : (dats m 0 c).after 22 t = iblk m c 22 t := by dsimp only [dats]
theorem after23 : (dats m 0 c).after 23 t = iblk m c 23 t := by dsimp only [dats]
theorem after24 : (dats m 0 c).after 24 t = iblk m c 24 t := by dsimp only [dats]
theorem after25 : (dats m 0 c).after 25 t = iblk m c 25 t := by dsimp only [dats]
theorem after26 : (dats m 0 c).after 26 t = iblk m c 26 t := by dsimp only [dats]
theorem after27 : (dats m 0 c).after 27 t = iblk m c 27 t := by dsimp only [dats]
theorem after28 : (dats m 0 c).after 28 t = iblk m c 28 t := by dsimp only [dats]
theorem after29 : (dats m 0 c).after 29 t = iblk m c 29 t := by dsimp only [dats]
theorem after30 : (dats m 0 c).after 30 t = iblk m c 30 t := by dsimp only [dats]
theorem after31 : (dats m 0 c).after 31 t = iblk m c 31 t := by dsimp only [dats]
theorem after32 : (dats m 0 c).after 32 t = iblk m c 32 t := by dsimp only [dats]
theorem after33 : (dats m 0 c).after 33 t = iblk m c 33 t := by dsimp only [dats]
theorem after34 : (dats m 0 c).after 34 t = iblk m c 34 t := by dsimp only [dats]
theorem after35 : (dats m 0 c).after 35 t = iblk m c 35 t := by dsimp only [dats]
theorem after36 : (dats m 0 c).after 36 t = out36 (iblk m c 0 t) (iblk m c 9 t) (iblk m c 18 t) (iblk m c 27 t) := by dsimp only [dats]
theorem after37 : (dats m 0 c).after 37 t = out37 (iblk m c 1 t) (iblk m c 10 t) (iblk m c 19 t) (iblk m c 28 t) := by dsimp only [dats]
theorem after38 : (dats m 0 c).after 38 t = out38 (iblk m c 2 t) (iblk m c 11 t) (iblk m c 20 t) (iblk m c 29 t) := by dsimp only [dats]
theorem after39 : (dats m 0 c).after 39 t = out39 (iblk m c 3 t) (iblk m c 12 t) (iblk m c 21 t) (iblk m c 30 t) := by dsimp only [dats]
theorem after40 : (dats m 0 c).after 40 t = out40 (iblk m c 4 t) (iblk m c 13 t) (iblk m c 22 t) (iblk m c 31 t) := by dsimp only [dats]
theorem after41 : (dats m 0 c).after 41 t = out41 (iblk m c 5 t) (iblk m c 14 t) (iblk m c 23 t) (iblk m c 32 t) := by dsimp only [dats]
theorem after42 : (dats m 0 c).after 42 t = out42 (iblk m c 6 t) (iblk m c 15 t) (iblk m c 24 t) (iblk m c 33 t) := by dsimp only [dats]
theorem after43 : (dats m 0 c).after 43 t = out43 (iblk m c 7 t) (iblk m c 16 t) (iblk m c 25 t) (iblk m c 34 t) := by dsimp only [dats]
theorem after44 : (dats m 0 c).after 44 t = out44 (iblk m c 8 t) (iblk m c 17 t) (iblk m c 26 t) (iblk m c 35 t) := by dsimp only [dats]
theorem after45 : (dats m 0 c).after 45 t = out45 (iblk m c 9 t) (iblk m c 18 t) := by dsimp only [dats]
theorem after46 : (dats m 0 c).after 46 t = out46 (iblk m c 10 t) (iblk m c 19 t) := by dsimp only [dats]
theorem after47 : (dats m 0 c).after 47 t = out47 (iblk m c 11 t) (iblk m c 20 t) := by dsimp only [dats]
theorem after48 : (dats m 0 c).after 48 t = out48 (iblk m c 12 t) (iblk m c 21 t) := by dsimp only [dats]
theorem after49 : (dats m 0 c).after 49 t = out49 (iblk m c 13 t) (iblk m c 22 t) := by dsimp only [dats]
theorem after50 : (dats m 0 c).after 50 t = out50 (iblk m c 14 t) (iblk m c 23 t) := by dsimp only [dats]
theorem after51 : (dats m 0 c).after 51 t = out51 (iblk m c 15 t) (iblk m c 24 t) := by dsimp only [dats]
theorem after52 : (dats m 0 c).after 52 t = out52 (iblk m c 16 t) (iblk m c 25 t) := by dsimp only [dats]
theorem after53 : (dats m 0 c).after 53 t = out53 (iblk m c 17 t) (iblk m c 26 t) := by dsimp only [dats]
theorem after54 : (dats m 0 c).after 54 t = out54 (iblk m c 9 t) (iblk m c 27 t) := by dsimp only [dats]
theorem after55 : (dats m 0 c).after 55 t = out55 (iblk m c 10 t) (iblk m c 28 t) := by dsimp only [dats]
theorem after56 : (dats m 0 c).after 56 t = out56 (iblk m c 11 t) (iblk m c 29 t) := by dsimp only [dats]
theorem after57 : (dats m 0 c).after 57 t = out57 (iblk m c 12 t) (iblk m c 30 t) := by dsimp only [dats]
theorem after58 : (dats m 0 c).after 58 t = out58 (iblk m c 13 t) (iblk m c 31 t) := by dsimp only [dats]
theorem after59 : (dats m 0 c).after 59 t = out59 (iblk m c 14 t) (iblk m c 32 t) := by dsimp only [dats]
theorem after60 : (dats m 0 c).after 60 t = out60 (iblk m c 15 t) (iblk m c 33 t) := by dsimp only [dats]
theorem after61 : (dats m 0 c).after 61 t = out61 (iblk m c 16 t) (iblk m c 34 t) := by dsimp only [dats]
theorem after62 : (dats m 0 c).after 62 t = out62 (iblk m c 17 t) (iblk m c 35 t) := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d
theorem before4 (d) : (dats m 0 c).before 4 t d = iblk m c 4 t :=
  (dats m 0 c).before_in_eq_fetched 4 rfl (fun _ => rfl) (fun _ _ _ => rfl) (fun _ => rfl) t d
theorem before5 (d) : (dats m 0 c).before 5 t d = iblk m c 5 t :=
  (dats m 0 c).before_in_eq_fetched 5 rfl (fun _ => rfl) (fun _ _ _ => rfl) (fun _ => rfl) t d
theorem before6 (d) : (dats m 0 c).before 6 t d = iblk m c 6 t :=
  (dats m 0 c).before_in_eq_fetched 6 rfl (fun _ => rfl) (fun _ _ _ => rfl) (fun _ => rfl) t d
theorem before7 (d) : (dats m 0 c).before 7 t d = iblk m c 7 t :=
  (dats m 0 c).before_in_eq_fetched 7 rfl (fun _ => rfl) (fun _ _ _ => rfl) (fun _ => rfl) t d
theorem before8 (d) : (dats m 0 c).before 8 t d = iblk m c 8 t :=
  (dats m 0 c).before_in_eq_fetched 8 rfl (fun _ => rfl) (fun _ _ _ => rfl) (fun _ => rfl) t d
theorem before9 (d) : (dats m 0 c).before 9 t d = iblk m c 9 t :=
  (dats m 0 c).before_in_eq_fetched 9 rfl (fun _ => rfl) (fun _ _ _ => rfl) (fun _ => rfl) t d
theorem before10 (d) : (dats m 0 c).before 10 t d = iblk m c 10 t :=
  (dats m 0 c).before_in_eq_fetched 10 rfl (fun _ => rfl) (fun _ _ _ => rfl) (fun _ => rfl) t d
theorem before11 (d) : (dats m 0 c).before 11 t d = iblk m c 11 t :=
  (dats m 0 c).before_in_eq_fetched 11 rfl (fun _ => rfl) (fun _ _ _ => rfl) (fun _ => rfl) t d
theorem before12 (d) : (dats m 0 c).before 12 t d = iblk m c 12 t :=
  (dats m 0 c).before_in_eq_fetched 12 rfl (fun _ => rfl) (fun _ _ _ => rfl) (fun _ => rfl) t d
theorem before13 (d) : (dats m 0 c).before 13 t d = iblk m c 13 t :=
  (dats m 0 c).before_in_eq_fetched 13 rfl (fun _ => rfl) (fun _ _ _ => rfl) (fun _ => rfl) t d
theorem before14 (d) : (dats m 0 c).before 14 t d = iblk m c 14 t :=
  (dats m 0 c).before_in_eq_fetched 14 rfl (fun _ => rfl) (fun _ _ _ => rfl) (fun _ => rfl) t d
theorem before15 (d) : (dats m 0 c).before 15 t d = iblk m c 15 t :=
  (dats m 0 c).before_in_eq_fetched 15 rfl (fun _ => rfl) (fun _ _ _ => rfl) (fun _ => rfl) t d
theorem before16 (d) : (dats m 0 c).before 16 t d = iblk m c 16 t :=
  (dats m 0 c).before_in_eq_fetched 16 rfl (fun _ => rfl) (fun _ _ _ => rfl) (fun _ => rfl) t d
theorem before17 (d) : (dats m 0 c).before 17 t d = iblk m c 17 t :=
  (dats m 0 c).before_in_eq_fetched 17 rfl (fun _ => rfl) (fun _ _ _ => rfl) (fun _ => rfl) t d
theorem before18 (d) : (dats m 0 c).before 18 t d = iblk m c 18 t :=
  (dats m 0 c).before_in_eq_fetched 18 rfl (fun _ => rfl) (fun _ _ _ => rfl) (fun _ => rfl) t d
theorem before19 (d) : (dats m 0 c).before 19 t d = iblk m c 19 t :=
  (dats m 0 c).before_in_eq_fetched 19 rfl (fun _ => rfl) (fun _ _ _ => rfl) (fun _ => rfl) t d
theorem before20 (d) : (dats m 0 c).before 20 t d = iblk m c 20 t :=
  (dats m 0 c).before_in_eq_fetched 20 rfl (fun _ => rfl) (fun _ _ _ => rfl) (fun _ => rfl) t d
theorem before21 (d) : (dats m 0 c).before 21 t d = iblk m c 21 t :=
  (dats m 0 c).before_in_eq_fetched 21 rfl (fun _ => rfl) (fun _ _ _ => rfl) (fun _ => rfl) t d
theorem before22 (d) : (dats m 0 c).before 22 t d = iblk m c 22 t :=
  (dats m 0 c).before_in_eq_fetched 22 rfl (fun _ => rfl) (fun _ _ _ => rfl) (fun _ => rfl) t d
theorem before23 (d) : (dats m 0 c).before 23 t d = iblk m c 23 t :=
  (dats m 0 c).before_in_eq_fetched 23 rfl (fun _ => rfl) (fun _ _ _ => rfl) (fun _ => rfl) t d
theorem before24 (d) : (dats m 0 c).before 24 t d = iblk m c 24 t :=
  (dats m 0 c).before_in_eq_fetched 24 rfl (fun _ => rfl) (fun _ _ _ => rfl) (fun _ => rfl) t d
theorem before25 (d) : (dats m 0 c).before 25 t d = iblk m c 25 t :=
  (dats m 0 c).before_in_eq_fetched 25 rfl (fun _ => rfl) (fun _ _ _ => rfl) (fun _ => rfl) t d
theorem before26 (d) : (dats m 0 c).before 26 t d = iblk m c 26 t :=
  (dats m 0 c).before_in_eq_fetched 26 rfl (fun _ => rfl) (fun _ _ _ => rfl) (fun _ => rfl) t d
theorem before27 (d) : (dats m 0 c).before 27 t d = iblk m c 27 t :=
  (dats m 0 c).before_in_eq_fetched 27 rfl (fun _ => rfl) (fun _ _ _ => rfl) (fun _ => rfl) t d
theorem before28 (d) : (dats m 0 c).before 28 t d = iblk m c 28 t :=
  (dats m 0 c).before_in_eq_fetched 28 rfl (fun _ => rfl) (fun _ _ _ => rfl) (fun _ => rfl) t d
theorem before29 (d) : (dats m 0 c).before 29 t d = iblk m c 29 t :=
  (dats m 0 c).before_in_eq_fetched 29 rfl (fun _ => rfl) (fun _ _ _ => rfl) (fun _ => rfl) t d
theorem before30 (d) : (dats m 0 c).before 30 t d = iblk m c 30 t :=
  (dats m 0 c).before_in_eq_fetched 30 rfl (fun _ => rfl) (fun _ _ _ => rfl) (fun _ => rfl) t d
theorem before31 (d) : (dats m 0 c).before 31 t d = iblk m c 31 t :=
  (dats m 0 c).before_in_eq_fetched 31 rfl (fun _ => rfl) (fun _ _ _ => rfl) (fun _ => rfl) t d
theorem before32 (d) : (dats m 0 c).before 32 t d = iblk m c 32 t :=
  (dats m 0 c).before_in_eq_fetched 32 rfl (fun _ => rfl) (fun _ _ _ => rfl) (fun _ => rfl) t d
theorem before33 (d) : (dats m 0 c).before 33 t d = iblk m c 33 t :=
  (dats m 0 c).before_in_eq_fetched 33 rfl (fun _ => rfl) (fun _ _ _ => rfl) (fun _ => rfl) t d
theorem before34 (d) : (dats m 0 c).before 34 t d = iblk m c 34 t :=
  (dats m 0 c).before_in_eq_fetched 34 rfl (fun _ => rfl) (fun _ _ _ => rfl) (fun _ => rfl) t d
theorem before35 (d) : (dats m 0 c).before 35 t d = iblk m c 35 t :=
  (dats m 0 c).before_in_eq_fetched 35 rfl (fun _ => rfl) (fun _ _ _ => rfl) (fun _ => rfl) t d
end

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The step: the body, at its windows' buffers. -/
theorem body_obligation (c : Dev nD) : BodyObligation (dats (F := F) m 0 c) (defs₀ (F := F)) Variants.none () Set.univ := fun t => by
  rw [bigSep_W0, bigSep_W0, defs₀_row]
  refine triple_restated (P := _) (Q := _) (W' := _) ?_ rfl .rfl fun _ => .rfl
  unfold bodyAt0
  simp only [before0, before1, before2, before3, before4, before5, before6, before7, before8, before9, before10, before11, before12, before13, before14,
      before15, before16, before17, before18, before19, before20, before21, before22, before23, before24, before25, before26, before27, before28, before29,
      before30, before31, before32, before33, before34, before35]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17,
        after18, after19, after20, after21, after22, after23, after24, after25, after26, after27, after28, after29, after30, after31, after32, after33, after34,
        after35, after36, after37, after38, after39, after40, after41, after42, after43, after44, after45, after46, after47, after48, after49, after50, after51,
        after52, after53, after54, after55, after56, after57, after58, after59, after60, after61, after62]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12,
      H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩,
      ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35,
      H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩,
      ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58,
      H58⟩, ⟨%d59, H59⟩, ⟨%d60, H60⟩, ⟨%d61, H61⟩, ⟨%d62, H62⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1
      t) (iblk m c 2 t) (iblk m c 3 t) (iblk m c 4 t) (iblk m c 5 t) (iblk m c 6 t) (iblk m c 7 t) (iblk m c 8 t) (iblk m c 9 t) (iblk m c 10 t) (iblk m c 11 t)
      (iblk m c 12 t) (iblk m c 13 t) (iblk m c 14 t) (iblk m c 15 t) (iblk m c 16 t) (iblk m c 17 t) (iblk m c 18 t) (iblk m c 19 t) (iblk m c 20 t) (iblk m c
      21 t) (iblk m c 22 t) (iblk m c 23 t) (iblk m c 24 t) (iblk m c 25 t) (iblk m c 26 t) (iblk m c 27 t) (iblk m c 28 t) (iblk m c 29 t) (iblk m c 30 t)
      (iblk m c 31 t) (iblk m c 32 t) (iblk m c 33 t) (iblk m c 34 t) (iblk m c 35 t) _)
  iframe H0 H1 H2 H3 H4 H5 H6 H7 H8 H9 H10 H11 H12 H13 H14 H15 H16 H17 H18 H19 H20 H21 H22 H23 H24 H25 H26 H27 H28 H29 H30 H31 H32 H33 H34 H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  iintro ⟨H0, H1, H2, H3, H4, H5, H6, H7, H8, H9, H10, H11, H12, H13, H14, H15, H16, H17, H18, H19, H20, H21, H22, H23, H24, H25, H26, H27, H28, H29, H30, H31,
      H32, H33, H34, H35, H36, H37, H38, H39, H40, H41, H42, H43, H44, H45, H46, H47, H48, H49, H50, H51, H52, H53, H54, H55, H56, H57, H58, H59, H60, H61, H62⟩
  iframe HΦ Ho H0 H1 H2 H3 H4 H5 H6 H7 H8 H9 H10 H11 H12 H13 H14 H15 H16 H17 H18 H19 H20 H21 H22 H23 H24 H25 H26 H27 H28 H29 H30 H31 H32 H33 H34 H35 H36 H37 H38
      H39 H40 H41 H42 H43 H44 H45 H46 H47 H48 H49 H50 H51 H52 H53 H54 H55 H56 H57 H58 H59 H60 H61 H62

set_option backward.isDefEq.respectTransparency.types false in
set_option maxHeartbeats 2000000 in
theorem run_main_quiescent : θ_run defs (onTc (τ := τ) (main (F := F))) (s₀ m ρ) (fun r => (Pipeline.FramePost cfgs (dats m) 0 (V m)) r ∧ r.2.sem = fun _ => 0)
    :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call leaves its arguments unchanged and every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun r h => ⟨fun c => kept_of m (dats m) (A_eq m) r h.1 c, h.2⟩) (run_main_quiescent m ρ)

end AdamSmall

end
-- ==== Proof.AdamSpec.lean ====
/- AdamW of one number: the new moments and the weight's change, of the weight, its gradient and its moments. -/
module

public import Idealize.ShloMosaic.PureOps.Ideal

@[expose] public section

noncomputable section

namespace AdamSmall

open Idealize.ShloMosaic

/-- The number whose 32 bits are `b`. -/
def num (b : BitVec 32) : Ideal .f32 := FloatOps.ofBits .f32 b

/-- The new first moment: 0.9 of the old one and 0.1 of the gradient. -/
def newM (g m : Ideal .f32) : Ideal .f32 := FloatOps.addf (FloatOps.mulf (num 0x3F666666#32) m) (FloatOps.mulf (num 0x3DCCCCCD#32) g)

/-- The new second moment: 0.999 of the old one and 0.001 of the gradient's square. -/
def newV (g v : Ideal .f32) : Ideal .f32 :=
  FloatOps.addf (FloatOps.mulf (num 0x3F7FBE77#32) v) (FloatOps.mulf (num 0x3A83126F#32) (FloatOps.mulf g g))

/-- The weight's change: the corrected first moment over the root of the corrected second one plus 1e-8, with 0.01 of the
weight added, times minus the rate. -/
def delta (w g m v : Ideal .f32) : Ideal .f32 :=
  FloatOps.mulf (num 0xBA83126F#32)
    (FloatOps.addf (FloatOps.divf (FloatOps.divf (newM g m) (num 0x3F26BD02#32))
      (FloatOps.addf (FloatOps.sqrt (FloatOps.divf (newV g v) (num 0x3C231ACC#32))) (num 0x322BCC77#32)))
      (FloatOps.mulf (num 0x3C23D70A#32) w))

end AdamSmall

end
-- ==== Proof.AdamValue.lean ====
/- What the body of the small weights' AdamW stores: element by element, the changes and the new moments. -/
module

public import proofs.«01_k».proof.Proof.Dots
public import proofs.«01_k».proof.Proof.AdamSpec
public import proofs.«01_k».proof.Proof.AdamBody

@[expose] public section

set_option maxRecDepth 16384

noncomputable section

namespace AdamSmall

open Idealize.ShloMosaic Idealize.ShloMosaic.TcCoe Idealize.SL.Sem Cert.Kernel7Ideal Cert.Kernel7Ideal.Gen Mixer

/-! What the body stores, of the blocks it loads. -/
theorem out36_eq (x0 x9 x18 x27 : Vec Ideal S1x4096 .f32) : out36 x0 x9 x18 x27 = fun i => delta (x0 i) (x9 i) (x18 i) (x27 i) := by
  unfold out36
  rw [View.canon_unit_zero (S := S1x4096) hz2]
  simp only [View.ld_unit_zero (S := S1x4096) hz2]
  rfl

theorem out37_eq (x1 x10 x19 x28 : Vec Ideal S1x2048 .f32) : out37 x1 x10 x19 x28 = fun i => delta (x1 i) (x10 i) (x19 i) (x28 i) := by
  unfold out37
  rw [View.canon_unit_zero (S := S1x2048) hz2]
  simp only [View.ld_unit_zero (S := S1x2048) hz2]
  rfl

theorem out38_eq (x2 x11 x20 x29 : Vec Ideal S1x2048 .f32) : out38 x2 x11 x20 x29 = fun i => delta (x2 i) (x11 i) (x20 i) (x29 i) := by
  unfold out38
  rw [View.canon_unit_zero (S := S1x2048) hz2]
  simp only [View.ld_unit_zero (S := S1x2048) hz2]
  rfl

theorem out39_eq (x3 x12 x21 x30 : Vec Ideal S1024x128 .f32) : out39 x3 x12 x21 x30 = fun i => delta (x3 i) (x12 i) (x21 i) (x30 i) := by
  unfold out39
  rw [View.canon_unit_zero (S := S1024x128) hz2]
  simp only [View.ld_unit_zero (S := S1024x128) hz2]
  simp only [k0_pay13, k0_pay14, k0_pay15, k0_pay16, k0_pay17, shapeCast_self]
  rfl

theorem out40_eq (x4 x13 x22 x31 : Vec Ideal S8x128 .f32) : out40 x4 x13 x22 x31 = fun i => delta (x4 i) (x13 i) (x22 i) (x31 i) := by
  unfold out40
  rw [View.canon_unit_zero (S := S8x128) hz2]
  simp only [View.ld_unit_zero (S := S8x128) hz2]
  simp only [k0_pay18, k0_pay19, k0_pay20, k0_pay21, k0_pay22, shapeCast_self]
  rfl

theorem out41_eq (x5 x14 x23 x32 : Vec Ideal S3x256 .f32) : out41 x5 x14 x23 x32 = fun i => delta (x5 i) (x14 i) (x23 i) (x32 i) := by
  unfold out41
  rw [View.canon_unit_zero (S := S3x256) hz2]
  simp only [View.ld_unit_zero (S := S3x256) hz2]
  simp only [k0_pay23, k0_pay24, k0_pay25, k0_pay26, k0_pay27, shapeCast_self]
  rfl

theorem out42_eq (x6 x15 x24 x33 : Vec Ideal S1x2048 .f32) : out42 x6 x15 x24 x33 = fun i => delta (x6 i) (x15 i) (x24 i) (x33 i) := by
  unfold out42
  rw [View.canon_unit_zero (S := S1x2048) hz2]
  simp only [View.ld_unit_zero (S := S1x2048) hz2]
  rfl

theorem out43_eq (x7 x16 x25 x34 : Vec Ideal S1x2048 .f32) : out43 x7 x16 x25 x34 = fun i => delta (x7 i) (x16 i) (x25 i) (x34 i) := by
  unfold out43
  rw [View.canon_unit_zero (S := S1x2048) hz2]
  simp only [View.ld_unit_zero (S := S1x2048) hz2]
  rfl

theorem out44_eq (x8 x17 x26 x35 : Vec Ideal S1x2048 .f32) : out44 x8 x17 x26 x35 = fun i => delta (x8 i) (x17 i) (x26 i) (x35 i) := by
  unfold out44
  rw [View.canon_unit_zero (S := S1x2048) hz2]
  simp only [View.ld_unit_zero (S := S1x2048) hz2]
  rfl

theorem out45_eq (x9 x18 : Vec Ideal S1x4096 .f32) : out45 x9 x18 = fun i => newM (x9 i) (x18 i) := by
  unfold out45
  rw [View.canon_unit_zero (S := S1x4096) hz2]
  simp only [View.ld_unit_zero (S := S1x4096) hz2]
  rfl

theorem out46_eq (x10 x19 : Vec Ideal S1x2048 .f32) : out46 x10 x19 = fun i => newM (x10 i) (x19 i) := by
  unfold out46
  rw [View.canon_unit_zero (S := S1x2048) hz2]
  simp only [View.ld_unit_zero (S := S1x2048) hz2]
  rfl

theorem out47_eq (x11 x20 : Vec Ideal S1x2048 .f32) : out47 x11 x20 = fun i => newM (x11 i) (x20 i) := by
  unfold out47
  rw [View.canon_unit_zero (S := S1x2048) hz2]
  simp only [View.ld_unit_zero (S := S1x2048) hz2]
  rfl

theorem out48_eq (x12 x21 : Vec Ideal S1024x128 .f32) : out48 x12 x21 = fun i => newM (x12 i) (x21 i) := by
  unfold out48
  rw [View.canon_unit_zero (S := S1024x128) hz2]
  simp only [View.ld_unit_zero (S := S1024x128) hz2]
  simp only [k0_pay13, k0_pay14, k0_pay15, k0_pay16, k0_pay17, shapeCast_self]
  rfl

theorem out49_eq (x13 x22 : Vec Ideal S8x128 .f32) : out49 x13 x22 = fun i => newM (x13 i) (x22 i) := by
  unfold out49
  rw [View.canon_unit_zero (S := S8x128) hz2]
  simp only [View.ld_unit_zero (S := S8x128) hz2]
  simp only [k0_pay18, k0_pay19, k0_pay20, k0_pay21, k0_pay22, shapeCast_self]
  rfl

theorem out50_eq (x14 x23 : Vec Ideal S3x256 .f32) : out50 x14 x23 = fun i => newM (x14 i) (x23 i) := by
  unfold out50
  rw [View.canon_unit_zero (S := S3x256) hz2]
  simp only [View.ld_unit_zero (S := S3x256) hz2]
  simp only [k0_pay23, k0_pay24, k0_pay25, k0_pay26, k0_pay27, shapeCast_self]
  rfl

theorem out51_eq (x15 x24 : Vec Ideal S1x2048 .f32) : out51 x15 x24 = fun i => newM (x15 i) (x24 i) := by
  unfold out51
  rw [View.canon_unit_zero (S := S1x2048) hz2]
  simp only [View.ld_unit_zero (S := S1x2048) hz2]
  rfl

theorem out52_eq (x16 x25 : Vec Ideal S1x2048 .f32) : out52 x16 x25 = fun i => newM (x16 i) (x25 i) := by
  unfold out52
  rw [View.canon_unit_zero (S := S1x2048) hz2]
  simp only [View.ld_unit_zero (S := S1x2048) hz2]
  rfl

theorem out53_eq (x17 x26 : Vec Ideal S1x2048 .f32) : out53 x17 x26 = fun i => newM (x17 i) (x26 i) := by
  unfold out53
  rw [View.canon_unit_zero (S := S1x2048) hz2]
  simp only [View.ld_unit_zero (S := S1x2048) hz2]
  rfl

theorem out54_eq (x9 x27 : Vec Ideal S1x4096 .f32) : out54 x9 x27 = fun i => newV (x9 i) (x27 i) := by
  unfold out54
  rw [View.canon_unit_zero (S := S1x4096) hz2]
  simp only [View.ld_unit_zero (S := S1x4096) hz2]
  rfl

theorem out55_eq (x10 x28 : Vec Ideal S1x2048 .f32) : out55 x10 x28 = fun i => newV (x10 i) (x28 i) := by
  unfold out55
  rw [View.canon_unit_zero (S := S1x2048) hz2]
  simp only [View.ld_unit_zero (S := S1x2048) hz2]
  rfl

theorem out56_eq (x11 x29 : Vec Ideal S1x2048 .f32) : out56 x11 x29 = fun i => newV (x11 i) (x29 i) := by
  unfold out56
  rw [View.canon_unit_zero (S := S1x2048) hz2]
  simp only [View.ld_unit_zero (S := S1x2048) hz2]
  rfl

theorem out57_eq (x12 x30 : Vec Ideal S1024x128 .f32) : out57 x12 x30 = fun i => newV (x12 i) (x30 i) := by
  unfold out57
  rw [View.canon_unit_zero (S := S1024x128) hz2]
  simp only [View.ld_unit_zero (S := S1024x128) hz2]
  simp only [k0_pay13, k0_pay14, k0_pay15, k0_pay16, k0_pay17, shapeCast_self]
  rfl

theorem out58_eq (x13 x31 : Vec Ideal S8x128 .f32) : out58 x13 x31 = fun i => newV (x13 i) (x31 i) := by
  unfold out58
  rw [View.canon_unit_zero (S := S8x128) hz2]
  simp only [View.ld_unit_zero (S := S8x128) hz2]
  simp only [k0_pay18, k0_pay19, k0_pay20, k0_pay21, k0_pay22, shapeCast_self]
  rfl

theorem out59_eq (x14 x32 : Vec Ideal S3x256 .f32) : out59 x14 x32 = fun i => newV (x14 i) (x32 i) := by
  unfold out59
  rw [View.canon_unit_zero (S := S3x256) hz2]
  simp only [View.ld_unit_zero (S := S3x256) hz2]
  simp only [k0_pay23, k0_pay24, k0_pay25, k0_pay26, k0_pay27, shapeCast_self]
  rfl

theorem out60_eq (x15 x33 : Vec Ideal S1x2048 .f32) : out60 x15 x33 = fun i => newV (x15 i) (x33 i) := by
  unfold out60
  rw [View.canon_unit_zero (S := S1x2048) hz2]
  simp only [View.ld_unit_zero (S := S1x2048) hz2]
  rfl

theorem out61_eq (x16 x34 : Vec Ideal S1x2048 .f32) : out61 x16 x34 = fun i => newV (x16 i) (x34 i) := by
  unfold out61
  rw [View.canon_unit_zero (S := S1x2048) hz2]
  simp only [View.ld_unit_zero (S := S1x2048) hz2]
  rfl

theorem out62_eq (x17 x35 : Vec Ideal S1x2048 .f32) : out62 x17 x35 = fun i => newV (x17 i) (x35 i) := by
  unfold out62
  rw [View.canon_unit_zero (S := S1x2048) hz2]
  simp only [View.ld_unit_zero (S := S1x2048) hz2]
  rfl

end AdamSmall

end
-- ==== Proof.AdamArrays.lean ====
/- What the small weights' AdamW leaves in its result arrays, of the weights, gradients and moments it is given. -/
module

public import proofs.«01_k».proof.Proof.AdamFrame
public import proofs.«01_k».proof.Proof.AdamValue
public import Idealize.ShloMosaic.Lib.Pipeline.ValueKit.Geometry

@[expose] public section

set_option maxRecDepth 16384

noncomputable section

namespace AdamSmall

open Idealize.ShloMosaic Idealize.ShloMosaic.TcCoe Idealize.SL.Sem Cert.Kernel7Ideal Cert.Kernel7Ideal.Gen Mixer

/-- An index of the array whose coordinates are those of the block's, the block's number being zero. -/
theorem emb_of {S : Shape} (e : S.Idx → S.Idx) (k s : Fin S.rank → ℕ) (h : ∀ j a, (e j a).val = k a * s a + 1 * (j a).val)
    (h0 : ∀ a, k a = 0) : e = id :=
  funext fun j => funext fun a => Fin.ext ((h j a).trans (by rw [h0, Nat.zero_mul, Nat.zero_add, Nat.one_mul]; rfl))

section
variable (m : (ℓ : Loc nD τ Cert.Kernel7Ideal.sig) → Buf (Elt Ideal) ℓ) (c : Dev nD)

/-! The arrays the kernel finds: nine weights, then their gradients, their first and their second moments. -/
abbrev a0 : Vec Ideal S1x4096 .f32 := m ((c : Thread nD τ).loc main_arg0)
abbrev a1 : Vec Ideal S1x2048 .f32 := m ((c : Thread nD τ).loc main_arg1)
abbrev a2 : Vec Ideal S1x2048 .f32 := m ((c : Thread nD τ).loc main_arg2)
abbrev a3 : Vec Ideal S1024x128 .f32 := shapeCast S1024x128 (m ((c : Thread nD τ).loc main_arg3)) shapeCasts_S1x8x128x128_S1024x128
abbrev a4 : Vec Ideal S8x128 .f32 := shapeCast S8x128 (m ((c : Thread nD τ).loc main_arg4)) shapeCasts_S1x8x128_S8x128
abbrev a5 : Vec Ideal S3x256 .f32 := shapeCast S3x256 (m ((c : Thread nD τ).loc main_arg5)) shapeCasts_S1x3x256_S3x256
abbrev a6 : Vec Ideal S1x2048 .f32 := m ((c : Thread nD τ).loc main_arg6)
abbrev a7 : Vec Ideal S1x2048 .f32 := m ((c : Thread nD τ).loc main_arg7)
abbrev a8 : Vec Ideal S1x2048 .f32 := m ((c : Thread nD τ).loc main_arg8)
abbrev a9 : Vec Ideal S1x4096 .f32 := m ((c : Thread nD τ).loc main_arg9)
abbrev a10 : Vec Ideal S1x2048 .f32 := m ((c : Thread nD τ).loc main_arg10)
abbrev a11 : Vec Ideal S1x2048 .f32 := m ((c : Thread nD τ).loc main_arg11)
abbrev a12 : Vec Ideal S1024x128 .f32 := shapeCast S1024x128 (m ((c : Thread nD τ).loc main_arg12)) shapeCasts_S1x8x128x128_S1024x128
abbrev a13 : Vec Ideal S8x128 .f32 := shapeCast S8x128 (m ((c : Thread nD τ).loc main_arg13)) shapeCasts_S1x8x128_S8x128
abbrev a14 : Vec Ideal S3x256 .f32 := shapeCast S3x256 (m ((c : Thread nD τ).loc main_arg14)) shapeCasts_S1x3x256_S3x256
abbrev a15 : Vec Ideal S1x2048 .f32 := m ((c : Thread nD τ).loc main_arg15)
abbrev a16 : Vec Ideal S1x2048 .f32 := m ((c : Thread nD τ).loc main_arg16)
abbrev a17 : Vec Ideal S1x2048 .f32 := m ((c : Thread nD τ).loc main_arg17)
abbrev a18 : Vec Ideal S1x4096 .f32 := m ((c : Thread nD τ).loc main_arg18)
abbrev a19 : Vec Ideal S1x2048 .f32 := m ((c : Thread nD τ).loc main_arg19)
abbrev a20 : Vec Ideal S1x2048 .f32 := m ((c : Thread nD τ).loc main_arg20)
abbrev a21 : Vec Ideal S1024x128 .f32 := shapeCast S1024x128 (m ((c : Thread nD τ).loc main_arg21)) shapeCasts_S1x8x128x128_S1024x128
abbrev a22 : Vec Ideal S8x128 .f32 := shapeCast S8x128 (m ((c : Thread nD τ).loc main_arg22)) shapeCasts_S1x8x128_S8x128
abbrev a23 : Vec Ideal S3x256 .f32 := shapeCast S3x256 (m ((c : Thread nD τ).loc main_arg23)) shapeCasts_S1x3x256_S3x256
abbrev a24 : Vec Ideal S1x2048 .f32 := m ((c : Thread nD τ).loc main_arg24)
abbrev a25 : Vec Ideal S1x2048 .f32 := m ((c : Thread nD τ).loc main_arg25)
abbrev a26 : Vec Ideal S1x2048 .f32 := m ((c : Thread nD τ).loc main_arg26)
abbrev a27 : Vec Ideal S1x4096 .f32 := m ((c : Thread nD τ).loc main_arg27)
abbrev a28 : Vec Ideal S1x2048 .f32 := m ((c : Thread nD τ).loc main_arg28)
abbrev a29 : Vec Ideal S1x2048 .f32 := m ((c : Thread nD τ).loc main_arg29)
abbrev a30 : Vec Ideal S1024x128 .f32 := shapeCast S1024x128 (m ((c : Thread nD τ).loc main_arg30)) shapeCasts_S1x8x128x128_S1024x128
abbrev a31 : Vec Ideal S8x128 .f32 := shapeCast S8x128 (m ((c : Thread nD τ).loc main_arg31)) shapeCasts_S1x8x128_S8x128
abbrev a32 : Vec Ideal S3x256 .f32 := shapeCast S3x256 (m ((c : Thread nD τ).loc main_arg32)) shapeCasts_S1x3x256_S3x256
abbrev a33 : Vec Ideal S1x2048 .f32 := m ((c : Thread nD τ).loc main_arg33)
abbrev a34 : Vec Ideal S1x2048 .f32 := m ((c : Thread nD τ).loc main_arg34)
abbrev a35 : Vec Ideal S1x2048 .f32 := m ((c : Thread nD τ).loc main_arg35)

set_option maxHeartbeats 2000000 in
theorem V3 : V m c main_v0 = a3 m c := by unfold_abbrev_sides; after_results; rfl
set_option maxHeartbeats 2000000 in
theorem V4 : V m c main_v1 = a4 m c := by unfold_abbrev_sides; after_results; rfl
set_option maxHeartbeats 2000000 in
theorem V5 : V m c main_v2 = a5 m c := by unfold_abbrev_sides; after_results; rfl
set_option maxHeartbeats 2000000 in
theorem V12 : V m c main_v3 = a12 m c := by unfold_abbrev_sides; after_results; rfl
set_option maxHeartbeats 2000000 in
theorem V13 : V m c main_v4 = a13 m c := by unfold_abbrev_sides; after_results; rfl
set_option maxHeartbeats 2000000 in
theorem V14 : V m c main_v5 = a14 m c := by unfold_abbrev_sides; after_results; rfl
set_option maxHeartbeats 2000000 in
theorem V21 : V m c main_v6 = a21 m c := by unfold_abbrev_sides; after_results; rfl
set_option maxHeartbeats 2000000 in
theorem V22 : V m c main_v7 = a22 m c := by unfold_abbrev_sides; after_results; rfl
set_option maxHeartbeats 2000000 in
theorem V23 : V m c main_v8 = a23 m c := by unfold_abbrev_sides; after_results; rfl
set_option maxHeartbeats 2000000 in
theorem V30 : V m c main_v9 = a30 m c := by unfold_abbrev_sides; after_results; rfl
set_option maxHeartbeats 2000000 in
theorem V31 : V m c main_v10 = a31 m c := by unfold_abbrev_sides; after_results; rfl
set_option maxHeartbeats 2000000 in
theorem V32 : V m c main_v11 = a32 m c := by unfold_abbrev_sides; after_results; rfl

/-! Its blocks are these arrays. -/
theorem blk0 (t : Fin cfg0.N) : iblk m c 0 t = a0 m c :=
  (congrArg (V m c main_arg0 ∘ ·) (emb_of ((cfg0.win 0).blk t).view.emb (win0_0.index t) _ (fun _ _ => rfl) (by decide +kernel +revert))).trans (V_of m c main_arg0 (by decide))
theorem blk1 (t : Fin cfg0.N) : iblk m c 1 t = a1 m c :=
  (congrArg (V m c main_arg1 ∘ ·) (emb_of ((cfg0.win 1).blk t).view.emb (win0_1.index t) _ (fun _ _ => rfl) (by decide +kernel +revert))).trans (V_of m c main_arg1 (by decide))
theorem blk2 (t : Fin cfg0.N) : iblk m c 2 t = a2 m c :=
  (congrArg (V m c main_arg2 ∘ ·) (emb_of ((cfg0.win 2).blk t).view.emb (win0_2.index t) _ (fun _ _ => rfl) (by decide +kernel +revert))).trans (V_of m c main_arg2 (by decide))
theorem blk3 (t : Fin cfg0.N) : iblk m c 3 t = a3 m c :=
  (congrArg (V m c main_v0 ∘ ·) (emb_of ((cfg0.win 3).blk t).view.emb (win0_3.index t) _ (fun _ _ => rfl) (by decide +kernel +revert))).trans (V3 m c)
theorem blk4 (t : Fin cfg0.N) : iblk m c 4 t = a4 m c :=
  (congrArg (V m c main_v1 ∘ ·) (emb_of ((cfg0.win 4).blk t).view.emb (win0_4.index t) _ (fun _ _ => rfl) (by decide +kernel +revert))).trans (V4 m c)
theorem blk5 (t : Fin cfg0.N) : iblk m c 5 t = a5 m c :=
  (congrArg (V m c main_v2 ∘ ·) (emb_of ((cfg0.win 5).blk t).view.emb (win0_5.index t) _ (fun _ _ => rfl) (by decide +kernel +revert))).trans (V5 m c)
theorem blk6 (t : Fin cfg0.N) : iblk m c 6 t = a6 m c :=
  (congrArg (V m c main_arg6 ∘ ·) (emb_of ((cfg0.win 6).blk t).view.emb (win0_6.index t) _ (fun _ _ => rfl) (by decide +kernel +revert))).trans (V_of m c main_arg6 (by decide))
theorem blk7 (t : Fin cfg0.N) : iblk m c 7 t = a7 m c :=
  (congrArg (V m c main_arg7 ∘ ·) (emb_of ((cfg0.win 7).blk t).view.emb (win0_7.index t) _ (fun _ _ => rfl) (by decide +kernel +revert))).trans (V_of m c main_arg7 (by decide))
theorem blk8 (t : Fin cfg0.N) : iblk m c 8 t = a8 m c :=
  (congrArg (V m c main_arg8 ∘ ·) (emb_of ((cfg0.win 8).blk t).view.emb (win0_8.index t) _ (fun _ _ => rfl) (by decide +kernel +revert))).trans (V_of m c main_arg8 (by decide))
theorem blk9 (t : Fin cfg0.N) : iblk m c 9 t = a9 m c :=
  (congrArg (V m c main_arg9 ∘ ·) (emb_of ((cfg0.win 9).blk t).view.emb (win0_9.index t) _ (fun _ _ => rfl) (by decide +kernel +revert))).trans (V_of m c main_arg9 (by decide))
theorem blk10 (t : Fin cfg0.N) : iblk m c 10 t = a10 m c :=
  (congrArg (V m c main_arg10 ∘ ·) (emb_of ((cfg0.win 10).blk t).view.emb (win0_10.index t) _ (fun _ _ => rfl) (by decide +kernel +revert))).trans (V_of m c main_arg10 (by decide))
theorem blk11 (t : Fin cfg0.N) : iblk m c 11 t = a11 m c :=
  (congrArg (V m c main_arg11 ∘ ·) (emb_of ((cfg0.win 11).blk t).view.emb (win0_11.index t) _ (fun _ _ => rfl) (by decide +kernel +revert))).trans (V_of m c main_arg11 (by decide))
theorem blk12 (t : Fin cfg0.N) : iblk m c 12 t = a12 m c :=
  (congrArg (V m c main_v3 ∘ ·) (emb_of ((cfg0.win 12).blk t).view.emb (win0_12.index t) _ (fun _ _ => rfl) (by decide +kernel +revert))).trans (V12 m c)
theorem blk13 (t : Fin cfg0.N) : iblk m c 13 t = a13 m c :=
  (congrArg (V m c main_v4 ∘ ·) (emb_of ((cfg0.win 13).blk t).view.emb (win0_13.index t) _ (fun _ _ => rfl) (by decide +kernel +revert))).trans (V13 m c)
theorem blk14 (t : Fin cfg0.N) : iblk m c 14 t = a14 m c :=
  (congrArg (V m c main_v5 ∘ ·) (emb_of ((cfg0.win 14).blk t).view.emb (win0_14.index t) _ (fun _ _ => rfl) (by decide +kernel +revert))).trans (V14 m c)
theorem blk15 (t : Fin cfg0.N) : iblk m c 15 t = a15 m c :=
  (congrArg (V m c main_arg15 ∘ ·) (emb_of ((cfg0.win 15).blk t).view.emb (win0_15.index t) _ (fun _ _ => rfl) (by decide +kernel +revert))).trans (V_of m c main_arg15 (by decide))
theorem blk16 (t : Fin cfg0.N) : iblk m c 16 t = a16 m c :=
  (congrArg (V m c main_arg16 ∘ ·) (emb_of ((cfg0.win 16).blk t).view.emb (win0_16.index t) _ (fun _ _ => rfl) (by decide +kernel +revert))).trans (V_of m c main_arg16 (by decide))
theorem blk17 (t : Fin cfg0.N) : iblk m c 17 t = a17 m c :=
  (congrArg (V m c main_arg17 ∘ ·) (emb_of ((cfg0.win 17).blk t).view.emb (win0_17.index t) _ (fun _ _ => rfl) (by decide +kernel +revert))).trans (V_of m c main_arg17 (by decide))
theorem blk18 (t : Fin cfg0.N) : iblk m c 18 t = a18 m c :=
  (congrArg (V m c main_arg18 ∘ ·) (emb_of ((cfg0.win 18).blk t).view.emb (win0_18.index t) _ (fun _ _ => rfl) (by decide +kernel +revert))).trans (V_of m c main_arg18 (by decide))
theorem blk19 (t : Fin cfg0.N) : iblk m c 19 t = a19 m c :=
  (congrArg (V m c main_arg19 ∘ ·) (emb_of ((cfg0.win 19).blk t).view.emb (win0_19.index t) _ (fun _ _ => rfl) (by decide +kernel +revert))).trans (V_of m c main_arg19 (by decide))
theorem blk20 (t : Fin cfg0.N) : iblk m c 20 t = a20 m c :=
  (congrArg (V m c main_arg20 ∘ ·) (emb_of ((cfg0.win 20).blk t).view.emb (win0_20.index t) _ (fun _ _ => rfl) (by decide +kernel +revert))).trans (V_of m c main_arg20 (by decide))
theorem blk21 (t : Fin cfg0.N) : iblk m c 21 t = a21 m c :=
  (congrArg (V m c main_v6 ∘ ·) (emb_of ((cfg0.win 21).blk t).view.emb (win0_21.index t) _ (fun _ _ => rfl) (by decide +kernel +revert))).trans (V21 m c)
theorem blk22 (t : Fin cfg0.N) : iblk m c 22 t = a22 m c :=
  (congrArg (V m c main_v7 ∘ ·) (emb_of ((cfg0.win 22).blk t).view.emb (win0_22.index t) _ (fun _ _ => rfl) (by decide +kernel +revert))).trans (V22 m c)
theorem blk23 (t : Fin cfg0.N) : iblk m c 23 t = a23 m c :=
  (congrArg (V m c main_v8 ∘ ·) (emb_of ((cfg0.win 23).blk t).view.emb (win0_23.index t) _ (fun _ _ => rfl) (by decide +kernel +revert))).trans (V23 m c)
theorem blk24 (t : Fin cfg0.N) : iblk m c 24 t = a24 m c :=
  (congrArg (V m c main_arg24 ∘ ·) (emb_of ((cfg0.win 24).blk t).view.emb (win0_24.index t) _ (fun _ _ => rfl) (by decide +kernel +revert))).trans (V_of m c main_arg24 (by decide))
theorem blk25 (t : Fin cfg0.N) : iblk m c 25 t = a25 m c :=
  (congrArg (V m c main_arg25 ∘ ·) (emb_of ((cfg0.win 25).blk t).view.emb (win0_25.index t) _ (fun _ _ => rfl) (by decide +kernel +revert))).trans (V_of m c main_arg25 (by decide))
theorem blk26 (t : Fin cfg0.N) : iblk m c 26 t = a26 m c :=
  (congrArg (V m c main_arg26 ∘ ·) (emb_of ((cfg0.win 26).blk t).view.emb (win0_26.index t) _ (fun _ _ => rfl) (by decide +kernel +revert))).trans (V_of m c main_arg26 (by decide))
theorem blk27 (t : Fin cfg0.N) : iblk m c 27 t = a27 m c :=
  (congrArg (V m c main_arg27 ∘ ·) (emb_of ((cfg0.win 27).blk t).view.emb (win0_27.index t) _ (fun _ _ => rfl) (by decide +kernel +revert))).trans (V_of m c main_arg27 (by decide))
theorem blk28 (t : Fin cfg0.N) : iblk m c 28 t = a28 m c :=
  (congrArg (V m c main_arg28 ∘ ·) (emb_of ((cfg0.win 28).blk t).view.emb (win0_28.index t) _ (fun _ _ => rfl) (by decide +kernel +revert))).trans (V_of m c main_arg28 (by decide))
theorem blk29 (t : Fin cfg0.N) : iblk m c 29 t = a29 m c :=
  (congrArg (V m c main_arg29 ∘ ·) (emb_of ((cfg0.win 29).blk t).view.emb (win0_29.index t) _ (fun _ _ => rfl) (by decide +kernel +revert))).trans (V_of m c main_arg29 (by decide))
theorem blk30 (t : Fin cfg0.N) : iblk m c 30 t = a30 m c :=
  (congrArg (V m c main_v9 ∘ ·) (emb_of ((cfg0.win 30).blk t).view.emb (win0_30.index t) _ (fun _ _ => rfl) (by decide +kernel +revert))).trans (V30 m c)
theorem blk31 (t : Fin cfg0.N) : iblk m c 31 t = a31 m c :=
  (congrArg (V m c main_v10 ∘ ·) (emb_of ((cfg0.win 31).blk t).view.emb (win0_31.index t) _ (fun _ _ => rfl) (by decide +kernel +revert))).trans (V31 m c)
theorem blk32 (t : Fin cfg0.N) : iblk m c 32 t = a32 m c :=
  (congrArg (V m c main_v11 ∘ ·) (emb_of ((cfg0.win 32).blk t).view.emb (win0_32.index t) _ (fun _ _ => rfl) (by decide +kernel +revert))).trans (V32 m c)
theorem blk33 (t : Fin cfg0.N) : iblk m c 33 t = a33 m c :=
  (congrArg (V m c main_arg33 ∘ ·) (emb_of ((cfg0.win 33).blk t).view.emb (win0_33.index t) _ (fun _ _ => rfl) (by decide +kernel +revert))).trans (V_of m c main_arg33 (by decide))
theorem blk34 (t : Fin cfg0.N) : iblk m c 34 t = a34 m c :=
  (congrArg (V m c main_arg34 ∘ ·) (emb_of ((cfg0.win 34).blk t).view.emb (win0_34.index t) _ (fun _ _ => rfl) (by decide +kernel +revert))).trans (V_of m c main_arg34 (by decide))
theorem blk35 (t : Fin cfg0.N) : iblk m c 35 t = a35 m c :=
  (congrArg (V m c main_arg35 ∘ ·) (emb_of ((cfg0.win 35).blk t).view.emb (win0_35.index t) _ (fun _ _ => rfl) (by decide +kernel +revert))).trans (V_of m c main_arg35 (by decide))

/-- The one step. -/
abbrev t0 : Fin cfg0.N := ⟨0, by decide⟩

/-! The results: the changes, the first moments, the second moments. -/
theorem arr36 : (dats m 0 c).arrAt 36 cfg0.N = fun i => delta (a0 m c i) (a9 m c i) (a18 m c i) (a27 m c i) :=
  ((dats m 0 c).arrAt_eq_of_after_last 36 t0 (by decide +kernel) ((dats m 0 c).after 36 t0) fun _ => rfl).trans
    (by rw [after36, out36_eq, blk0, blk9, blk18, blk27])
theorem arr37 : (dats m 0 c).arrAt 37 cfg0.N = fun i => delta (a1 m c i) (a10 m c i) (a19 m c i) (a28 m c i) :=
  ((dats m 0 c).arrAt_eq_of_after_last 37 t0 (by decide +kernel) ((dats m 0 c).after 37 t0) fun _ => rfl).trans
    (by rw [after37, out37_eq, blk1, blk10, blk19, blk28])
theorem arr38 : (dats m 0 c).arrAt 38 cfg0.N = fun i => delta (a2 m c i) (a11 m c i) (a20 m c i) (a29 m c i) :=
  ((dats m 0 c).arrAt_eq_of_after_last 38 t0 (by decide +kernel) ((dats m 0 c).after 38 t0) fun _ => rfl).trans
    (by rw [after38, out38_eq, blk2, blk11, blk20, blk29])
theorem arr39 : (dats m 0 c).arrAt 39 cfg0.N = fun i => delta (a3 m c i) (a12 m c i) (a21 m c i) (a30 m c i) :=
  ((dats m 0 c).arrAt_eq_of_after_last 39 t0 (by decide +kernel) ((dats m 0 c).after 39 t0) fun _ => rfl).trans
    (by rw [after39, out39_eq, blk3, blk12, blk21, blk30])
theorem arr40 : (dats m 0 c).arrAt 40 cfg0.N = fun i => delta (a4 m c i) (a13 m c i) (a22 m c i) (a31 m c i) :=
  ((dats m 0 c).arrAt_eq_of_after_last 40 t0 (by decide +kernel) ((dats m 0 c).after 40 t0) fun _ => rfl).trans
    (by rw [after40, out40_eq, blk4, blk13, blk22, blk31])
theorem arr41 : (dats m 0 c).arrAt 41 cfg0.N = fun i => delta (a5 m c i) (a14 m c i) (a23 m c i) (a32 m c i) :=
  ((dats m 0 c).arrAt_eq_of_after_last 41 t0 (by decide +kernel) ((dats m 0 c).after 41 t0) fun _ => rfl).trans
    (by rw [after41, out41_eq, blk5, blk14, blk23, blk32])
theorem arr42 : (dats m 0 c).arrAt 42 cfg0.N = fun i => delta (a6 m c i) (a15 m c i) (a24 m c i) (a33 m c i) :=
  ((dats m 0 c).arrAt_eq_of_after_last 42 t0 (by decide +kernel) ((dats m 0 c).after 42 t0) fun _ => rfl).trans
    (by rw [after42, out42_eq, blk6, blk15, blk24, blk33])
theorem arr43 : (dats m 0 c).arrAt 43 cfg0.N = fun i => delta (a7 m c i) (a16 m c i) (a25 m c i) (a34 m c i) :=
  ((dats m 0 c).arrAt_eq_of_after_last 43 t0 (by decide +kernel) ((dats m 0 c).after 43 t0) fun _ => rfl).trans
    (by rw [after43, out43_eq, blk7, blk16, blk25, blk34])
theorem arr44 : (dats m 0 c).arrAt 44 cfg0.N = fun i => delta (a8 m c i) (a17 m c i) (a26 m c i) (a35 m c i) :=
  ((dats m 0 c).arrAt_eq_of_after_last 44 t0 (by decide +kernel) ((dats m 0 c).after 44 t0) fun _ => rfl).trans
    (by rw [after44, out44_eq, blk8, blk17, blk26, blk35])
theorem arr45 : (dats m 0 c).arrAt 45 cfg0.N = fun i => newM (a9 m c i) (a18 m c i) :=
  ((dats m 0 c).arrAt_eq_of_after_last 45 t0 (by decide +kernel) ((dats m 0 c).after 45 t0) fun _ => rfl).trans
    (by rw [after45, out45_eq, blk9, blk18])
theorem arr46 : (dats m 0 c).arrAt 46 cfg0.N = fun i => newM (a10 m c i) (a19 m c i) :=
  ((dats m 0 c).arrAt_eq_of_after_last 46 t0 (by decide +kernel) ((dats m 0 c).after 46 t0) fun _ => rfl).trans
    (by rw [after46, out46_eq, blk10, blk19])
theorem arr47 : (dats m 0 c).arrAt 47 cfg0.N = fun i => newM (a11 m c i) (a20 m c i) :=
  ((dats m 0 c).arrAt_eq_of_after_last 47 t0 (by decide +kernel) ((dats m 0 c).after 47 t0) fun _ => rfl).trans
    (by rw [after47, out47_eq, blk11, blk20])
theorem arr48 : (dats m 0 c).arrAt 48 cfg0.N = fun i => newM (a12 m c i) (a21 m c i) :=
  ((dats m 0 c).arrAt_eq_of_after_last 48 t0 (by decide +kernel) ((dats m 0 c).after 48 t0) fun _ => rfl).trans
    (by rw [after48, out48_eq, blk12, blk21])
theorem arr49 : (dats m 0 c).arrAt 49 cfg0.N = fun i => newM (a13 m c i) (a22 m c i) :=
  ((dats m 0 c).arrAt_eq_of_after_last 49 t0 (by decide +kernel) ((dats m 0 c).after 49 t0) fun _ => rfl).trans
    (by rw [after49, out49_eq, blk13, blk22])
theorem arr50 : (dats m 0 c).arrAt 50 cfg0.N = fun i => newM (a14 m c i) (a23 m c i) :=
  ((dats m 0 c).arrAt_eq_of_after_last 50 t0 (by decide +kernel) ((dats m 0 c).after 50 t0) fun _ => rfl).trans
    (by rw [after50, out50_eq, blk14, blk23])
theorem arr51 : (dats m 0 c).arrAt 51 cfg0.N = fun i => newM (a15 m c i) (a24 m c i) :=
  ((dats m 0 c).arrAt_eq_of_after_last 51 t0 (by decide +kernel) ((dats m 0 c).after 51 t0) fun _ => rfl).trans
    (by rw [after51, out51_eq, blk15, blk24])
theorem arr52 : (dats m 0 c).arrAt 52 cfg0.N = fun i => newM (a16 m c i) (a25 m c i) :=
  ((dats m 0 c).arrAt_eq_of_after_last 52 t0 (by decide +kernel) ((dats m 0 c).after 52 t0) fun _ => rfl).trans
    (by rw [after52, out52_eq, blk16, blk25])
theorem arr53 : (dats m 0 c).arrAt 53 cfg0.N = fun i => newM (a17 m c i) (a26 m c i) :=
  ((dats m 0 c).arrAt_eq_of_after_last 53 t0 (by decide +kernel) ((dats m 0 c).after 53 t0) fun _ => rfl).trans
    (by rw [after53, out53_eq, blk17, blk26])
theorem arr54 : (dats m 0 c).arrAt 54 cfg0.N = fun i => newV (a9 m c i) (a27 m c i) :=
  ((dats m 0 c).arrAt_eq_of_after_last 54 t0 (by decide +kernel) ((dats m 0 c).after 54 t0) fun _ => rfl).trans
    (by rw [after54, out54_eq, blk9, blk27])
theorem arr55 : (dats m 0 c).arrAt 55 cfg0.N = fun i => newV (a10 m c i) (a28 m c i) :=
  ((dats m 0 c).arrAt_eq_of_after_last 55 t0 (by decide +kernel) ((dats m 0 c).after 55 t0) fun _ => rfl).trans
    (by rw [after55, out55_eq, blk10, blk28])
theorem arr56 : (dats m 0 c).arrAt 56 cfg0.N = fun i => newV (a11 m c i) (a29 m c i) :=
  ((dats m 0 c).arrAt_eq_of_after_last 56 t0 (by decide +kernel) ((dats m 0 c).after 56 t0) fun _ => rfl).trans
    (by rw [after56, out56_eq, blk11, blk29])
theorem arr57 : (dats m 0 c).arrAt 57 cfg0.N = fun i => newV (a12 m c i) (a30 m c i) :=
  ((dats m 0 c).arrAt_eq_of_after_last 57 t0 (by decide +kernel) ((dats m 0 c).after 57 t0) fun _ => rfl).trans
    (by rw [after57, out57_eq, blk12, blk30])
theorem arr58 : (dats m 0 c).arrAt 58 cfg0.N = fun i => newV (a13 m c i) (a31 m c i) :=
  ((dats m 0 c).arrAt_eq_of_after_last 58 t0 (by decide +kernel) ((dats m 0 c).after 58 t0) fun _ => rfl).trans
    (by rw [after58, out58_eq, blk13, blk31])
theorem arr59 : (dats m 0 c).arrAt 59 cfg0.N = fun i => newV (a14 m c i) (a32 m c i) :=
  ((dats m 0 c).arrAt_eq_of_after_last 59 t0 (by decide +kernel) ((dats m 0 c).after 59 t0) fun _ => rfl).trans
    (by rw [after59, out59_eq, blk14, blk32])
theorem arr60 : (dats m 0 c).arrAt 60 cfg0.N = fun i => newV (a15 m c i) (a33 m c i) :=
  ((dats m 0 c).arrAt_eq_of_after_last 60 t0 (by decide +kernel) ((dats m 0 c).after 60 t0) fun _ => rfl).trans
    (by rw [after60, out60_eq, blk15, blk33])
theorem arr61 : (dats m 0 c).arrAt 61 cfg0.N = fun i => newV (a16 m c i) (a34 m c i) :=
  ((dats m 0 c).arrAt_eq_of_after_last 61 t0 (by decide +kernel) ((dats m 0 c).after 61 t0) fun _ => rfl).trans
    (by rw [after61, out61_eq, blk16, blk34])
theorem arr62 : (dats m 0 c).arrAt 62 cfg0.N = fun i => newV (a17 m c i) (a35 m c i) :=
  ((dats m 0 c).arrAt_eq_of_after_last 62 t0 (by decide +kernel) ((dats m 0 c).after 62 t0) fun _ => rfl).trans
    (by rw [after62, out62_eq, blk17, blk35])
end

end AdamSmall

end
-- ==== Proof.AdamRef.lean ====
/- The reference's AdamW of the nine small weights: each of its 27 results, index by index. -/
module

public import proofs.«01_k».proof.Proof.AdamSpec
public import proofs.«01_k».proof.Proof.Gen.Reference7Ideal.Read

@[expose] public section

set_option maxRecDepth 16384

noncomputable section

namespace AdamSmall

open Idealize.ShloMosaic Idealize.ShloMosaic.TcCoe Idealize.SL.Sem Cert.Reference7Ideal Cert.Reference7Ideal.Gen Cert.Reference7Ideal.Read

/-! The weights' changes. -/
theorem ref0 (w g m v : Vec Ideal S1x4096 .f32) :
    val_main_v23 (F := Ideal) w g m v = fun i => delta (w i) (g i) (m i) (v i) := rfl

theorem ref1 (w g m v : Vec Ideal S1x2048 .f32) :
    val_main_v47 (F := Ideal) w g m v = fun i => delta (w i) (g i) (m i) (v i) := rfl

theorem ref2 (w g m v : Vec Ideal S1x2048 .f32) :
    val_main_v71 (F := Ideal) w g m v = fun i => delta (w i) (g i) (m i) (v i) := rfl

theorem ref3 (w g m v : Vec Ideal S1x8x128x128 .f32) :
    val_main_v216 (F := Ideal) w g m v = fun i => delta (shapeCast S1024x128 w shapeCasts_S1x8x128x128_S1024x128 i) (shapeCast S1024x128 g shapeCasts_S1x8x128x128_S1024x128 i) (shapeCast S1024x128 m shapeCasts_S1x8x128x128_S1024x128 i) (shapeCast S1024x128 v shapeCasts_S1x8x128x128_S1024x128 i) := rfl

theorem ref4 (w g m v : Vec Ideal S1x8x128 .f32) :
    val_main_v217 (F := Ideal) w g m v = fun i => delta (shapeCast S8x128 w shapeCasts_S1x8x128_S8x128 i) (shapeCast S8x128 g shapeCasts_S1x8x128_S8x128 i) (shapeCast S8x128 m shapeCasts_S1x8x128_S8x128 i) (shapeCast S8x128 v shapeCasts_S1x8x128_S8x128 i) := rfl

theorem ref5 (w g m v : Vec Ideal S1x3x256 .f32) :
    val_main_v218 (F := Ideal) w g m v = fun i => delta (shapeCast S3x256 w shapeCasts_S1x3x256_S3x256 i) (shapeCast S3x256 g shapeCasts_S1x3x256_S3x256 i) (shapeCast S3x256 m shapeCasts_S1x3x256_S3x256 i) (shapeCast S3x256 v shapeCasts_S1x3x256_S3x256 i) := rfl

theorem ref6 (w g m v : Vec Ideal S1x2048 .f32) :
    val_main_v167 (F := Ideal) w g m v = fun i => delta (w i) (g i) (m i) (v i) := rfl

theorem ref7 (w g m v : Vec Ideal S1x2048 .f32) :
    val_main_v191 (F := Ideal) w g m v = fun i => delta (w i) (g i) (m i) (v i) := rfl

theorem ref8 (w g m v : Vec Ideal S1x2048 .f32) :
    val_main_v215 (F := Ideal) w g m v = fun i => delta (w i) (g i) (m i) (v i) := rfl

/-! The new first moments. -/
theorem ref9 (g m : Vec Ideal S1x4096 .f32) :
    val_main_v4 (F := Ideal) g m = fun i => newM (g i) (m i) := rfl

theorem ref10 (g m : Vec Ideal S1x2048 .f32) :
    val_main_v28 (F := Ideal) g m = fun i => newM (g i) (m i) := rfl

theorem ref11 (g m : Vec Ideal S1x2048 .f32) :
    val_main_v52 (F := Ideal) g m = fun i => newM (g i) (m i) := rfl

theorem ref12 (g m : Vec Ideal S1x8x128x128 .f32) :
    val_main_v219 (F := Ideal) g m = fun i => newM (shapeCast S1024x128 g shapeCasts_S1x8x128x128_S1024x128 i) (shapeCast S1024x128 m shapeCasts_S1x8x128x128_S1024x128 i) := rfl

theorem ref13 (g m : Vec Ideal S1x8x128 .f32) :
    val_main_v220 (F := Ideal) g m = fun i => newM (shapeCast S8x128 g shapeCasts_S1x8x128_S8x128 i) (shapeCast S8x128 m shapeCasts_S1x8x128_S8x128 i) := rfl

theorem ref14 (g m : Vec Ideal S1x3x256 .f32) :
    val_main_v221 (F := Ideal) g m = fun i => newM (shapeCast S3x256 g shapeCasts_S1x3x256_S3x256 i) (shapeCast S3x256 m shapeCasts_S1x3x256_S3x256 i) := rfl

theorem ref15 (g m : Vec Ideal S1x2048 .f32) :
    val_main_v148 (F := Ideal) g m = fun i => newM (g i) (m i) := rfl

theorem ref16 (g m : Vec Ideal S1x2048 .f32) :
    val_main_v172 (F := Ideal) g m = fun i => newM (g i) (m i) := rfl

theorem ref17 (g m : Vec Ideal S1x2048 .f32) :
    val_main_v196 (F := Ideal) g m = fun i => newM (g i) (m i) := rfl

/-! The new second moments. -/
theorem ref18 (g v : Vec Ideal S1x4096 .f32) :
    val_main_v10 (F := Ideal) g v = fun i => newV (g i) (v i) := rfl

theorem ref19 (g v : Vec Ideal S1x2048 .f32) :
    val_main_v34 (F := Ideal) g v = fun i => newV (g i) (v i) := rfl

theorem ref20 (g v : Vec Ideal S1x2048 .f32) :
    val_main_v58 (F := Ideal) g v = fun i => newV (g i) (v i) := rfl

theorem ref21 (g v : Vec Ideal S1x8x128x128 .f32) :
    val_main_v222 (F := Ideal) g v = fun i => newV (shapeCast S1024x128 g shapeCasts_S1x8x128x128_S1024x128 i) (shapeCast S1024x128 v shapeCasts_S1x8x128x128_S1024x128 i) := rfl

theorem ref22 (g v : Vec Ideal S1x8x128 .f32) :
    val_main_v223 (F := Ideal) g v = fun i => newV (shapeCast S8x128 g shapeCasts_S1x8x128_S8x128 i) (shapeCast S8x128 v shapeCasts_S1x8x128_S8x128 i) := rfl

theorem ref23 (g v : Vec Ideal S1x3x256 .f32) :
    val_main_v224 (F := Ideal) g v = fun i => newV (shapeCast S3x256 g shapeCasts_S1x3x256_S3x256 i) (shapeCast S3x256 v shapeCasts_S1x3x256_S3x256 i) := rfl

theorem ref24 (g v : Vec Ideal S1x2048 .f32) :
    val_main_v154 (F := Ideal) g v = fun i => newV (g i) (v i) := rfl

theorem ref25 (g v : Vec Ideal S1x2048 .f32) :
    val_main_v178 (F := Ideal) g v = fun i => newV (g i) (v i) := rfl

theorem ref26 (g v : Vec Ideal S1x2048 .f32) :
    val_main_v202 (F := Ideal) g v = fun i => newV (g i) (v i) := rfl

end AdamSmall

end
-- ==== Proof.AdamText.lean ====
/- The program of the small weights' AdamW and its idealization have the same text, so they are the same program. -/
module

public import proofs.«01_k».proof.Kernel7
public import proofs.«01_k».proof.Kernel7Ideal

@[expose] public section

set_option maxRecDepth 16384

noncomputable section

namespace AdamSmall.Text

open Idealize.ShloMosaic Idealize.ShloMosaic.TcCoe Idealize.SL.Sem

variable {F : FTy → Type} [FloatOps F] [Cert.Kernel7.Facts] [Cert.Kernel7Ideal.Facts]

set_option maxHeartbeats 2000000 in
/-- The same kernel function. -/
theorem defs₀_eq : Cert.Kernel7.defs₀ (F := F) = Cert.Kernel7Ideal.defs₀ := by
  unfold Cert.Kernel7.defs₀ Cert.Kernel7Ideal.defs₀
  refine congrArg Defs.onTc (funext fun l => funext fun x => ?_)
  match l, x with
  | 0, (t, s) => rfl
  | ⟨_ + 1, h⟩, _ => exact absurd h (Nat.not_lt.2 (Nat.le_add_left _ _))

set_option maxHeartbeats 2000000 in
/-- The same body table. -/
theorem defs_eq : Cert.Kernel7.defs (F := F) = Cert.Kernel7Ideal.defs := by
  unfold Cert.Kernel7.defs Cert.Kernel7Ideal.defs
  exact congrArg (Pipeline.defs (Cert.Kernel7Ideal.pcfgs (F := F))) defs₀_eq

set_option maxHeartbeats 2000000 in
/-- The same host program. -/
theorem main_eq : Cert.Kernel7.main (F := F) = Cert.Kernel7Ideal.main := rfl

end AdamSmall.Text

end
-- ==== Proof.SumSmall.lean ====
/- The sum of the gathered small gradients over the devices: the kernel adds the eight planes in turn, the reference sums them. -/
module

public import proofs.«01_k».proof.Proof.Gen.Kernel8Ideal.Value
public import proofs.«01_k».proof.Proof.Gen.Reference8Ideal.Read

@[expose] public section

set_option maxRecDepth 16384

noncomputable section

namespace SumSmall

open Idealize.ShloMosaic Idealize.ShloMosaic.TcCoe Idealize.SL.Sem

variable (X : Vec Ideal Cert.Kernel8Ideal.S8x1192x128 .f32)

/-- Where the number of row `i 0` and column `i 1` of plane `k` is. -/
abbrev at3 (k : Fin 8) (i : Cert.Kernel8Ideal.S1192x128.Idx) : Cert.Kernel8Ideal.S8x1192x128.Idx :=
  fun a => match a with | ⟨0, _⟩ => k | ⟨1, _⟩ => i 0 | ⟨2, _⟩ => i 1

/-- What the kernel leaves. -/
theorem kernel_eq : Cert.Kernel8Ideal.Value.G1 (F := Ideal) X
    = fun i => (X (at3 0 i) + X (at3 1 i) + X (at3 2 i) + X (at3 3 i) + X (at3 4 i) + X (at3 5 i) + X (at3 6 i) + X (at3 7 i) : EReal) := by
  funext i
  refine (Cert.Kernel8Ideal.Value.piece1_0 _ _ _ _ _ _ _ _ i).trans ?_
  have h0 : View.ld X Cert.Kernel8Ideal.Gen.r0_0 (Cert.Kernel8Ideal.Value.ix1_0 (Cert.Kernel8Ideal.Gen.r0_8.idx i)) = X (at3 0 i) := congrArg X (funext fun a => Fin.ext (by
    match a with
    | ⟨0, _⟩ => rfl
    | ⟨1, _⟩ => show 0 + 1 * (0 + 1 * (i 0).val) = (i 0).val; omega
    | ⟨2, _⟩ => show 0 + 1 * (0 + 1 * (i 1).val) = (i 1).val; omega))
  have h1 : View.ld X Cert.Kernel8Ideal.Gen.r0_1 (Cert.Kernel8Ideal.Value.ix1_1 (Cert.Kernel8Ideal.Gen.r0_8.idx i)) = X (at3 1 i) := congrArg X (funext fun a => Fin.ext (by
    match a with
    | ⟨0, _⟩ => rfl
    | ⟨1, _⟩ => show 0 + 1 * (0 + 1 * (i 0).val) = (i 0).val; omega
    | ⟨2, _⟩ => show 0 + 1 * (0 + 1 * (i 1).val) = (i 1).val; omega))
  have h2 : View.ld X Cert.Kernel8Ideal.Gen.r0_2 (Cert.Kernel8Ideal.Value.ix1_2 (Cert.Kernel8Ideal.Gen.r0_8.idx i)) = X (at3 2 i) := congrArg X (funext fun a => Fin.ext (by
    match a with
    | ⟨0, _⟩ => rfl
    | ⟨1, _⟩ => show 0 + 1 * (0 + 1 * (i 0).val) = (i 0).val; omega
    | ⟨2, _⟩ => show 0 + 1 * (0 + 1 * (i 1).val) = (i 1).val; omega))
  have h3 : View.ld X Cert.Kernel8Ideal.Gen.r0_3 (Cert.Kernel8Ideal.Value.ix1_3 (Cert.Kernel8Ideal.Gen.r0_8.idx i)) = X (at3 3 i) := congrArg X (funext fun a => Fin.ext (by
    match a with
    | ⟨0, _⟩ => rfl
    | ⟨1, _⟩ => show 0 + 1 * (0 + 1 * (i 0).val) = (i 0).val; omega
    | ⟨2, _⟩ => show 0 + 1 * (0 + 1 * (i 1).val) = (i 1).val; omega))
  have h4 : View.ld X Cert.Kernel8Ideal.Gen.r0_4 (Cert.Kernel8Ideal.Value.ix1_4 (Cert.Kernel8Ideal.Gen.r0_8.idx i)) = X (at3 4 i) := congrArg X (funext fun a => Fin.ext (by
    match a with
    | ⟨0, _⟩ => rfl
    | ⟨1, _⟩ => show 0 + 1 * (0 + 1 * (i 0).val) = (i 0).val; omega
    | ⟨2, _⟩ => show 0 + 1 * (0 + 1 * (i 1).val) = (i 1).val; omega))
  have h5 : View.ld X Cert.Kernel8Ideal.Gen.r0_5 (Cert.Kernel8Ideal.Value.ix1_5 (Cert.Kernel8Ideal.Gen.r0_8.idx i)) = X (at3 5 i) := congrArg X (funext fun a => Fin.ext (by
    match a with
    | ⟨0, _⟩ => rfl
    | ⟨1, _⟩ => show 0 + 1 * (0 + 1 * (i 0).val) = (i 0).val; omega
    | ⟨2, _⟩ => show 0 + 1 * (0 + 1 * (i 1).val) = (i 1).val; omega))
  have h6 : View.ld X Cert.Kernel8Ideal.Gen.r0_6 (Cert.Kernel8Ideal.Value.ix1_6 (Cert.Kernel8Ideal.Gen.r0_8.idx i)) = X (at3 6 i) := congrArg X (funext fun a => Fin.ext (by
    match a with
    | ⟨0, _⟩ => rfl
    | ⟨1, _⟩ => show 0 + 1 * (0 + 1 * (i 0).val) = (i 0).val; omega
    | ⟨2, _⟩ => show 0 + 1 * (0 + 1 * (i 1).val) = (i 1).val; omega))
  have h7 : View.ld X Cert.Kernel8Ideal.Gen.r0_7 (Cert.Kernel8Ideal.Value.ix1_7 (Cert.Kernel8Ideal.Gen.r0_8.idx i)) = X (at3 7 i) := congrArg X (funext fun a => Fin.ext (by
    match a with
    | ⟨0, _⟩ => rfl
    | ⟨1, _⟩ => show 0 + 1 * (0 + 1 * (i 0).val) = (i 0).val; omega
    | ⟨2, _⟩ => show 0 + 1 * (0 + 1 * (i 1).val) = (i 1).val; omega))
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) h0 h1) h2) h3) h4) h5) h6) h7

/-- What the reference leaves. -/
theorem reference_eq : Cert.Reference8Ideal.Read.val_main_v0 (F := Ideal) X
    = fun i => (X (at3 0 i) + X (at3 1 i) + X (at3 2 i) + X (at3 3 i) + X (at3 4 i) + X (at3 5 i) + X (at3 6 i) + X (at3 7 i) : EReal) := by
  funext i
  have hz : (Cert.Reference8Ideal.Read.val_main_cst (F := Ideal)) (Shape.Idx.first Cert.Reference8Ideal.Gen.facts.h_S_) = (0 : EReal) := by
    show Ideal.ofBits .f32 0x00000000#32 = (0 : EReal)
    simp [Ideal.ofBits, Ideal.ieee]
  refine (Cert.Reference8Ideal.Read.val_main_v0_apply X i).trans ?_
  rw [Fin.sum_univ_eight]
  refine (congrArg₂ (fun a b : EReal => a + b) hz rfl).trans ((zero_add (_ : EReal)).trans ?_)
  have e : ∀ k, Cert.Reference8Ideal.Read.idx_main_v0 i k = at3 k i := fun k => funext fun a => by
    match a with
    | ⟨0, _⟩ => rfl
    | ⟨1, _⟩ => rfl
    | ⟨2, _⟩ => rfl
  simp only [e]

end SumSmall

end
-- ==== Proof.Small.lean ====
/- The claims about the small weights' AdamW and about the sum of their gradients over the devices: their frames, and the
   equality of their results with the references'. -/
module

public import proofs.«01_k».proof.Defs
public import proofs.«01_k».proof.Proof.AdamArrays
public import proofs.«01_k».proof.Proof.AdamRef
public import proofs.«01_k».proof.Proof.AdamText
public import proofs.«01_k».proof.Proof.SumSmall
public import proofs.«01_k».proof.Proof.Gen.Kernel7.Skeleton
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Mixer

instance kernel7Facts : Cert.Kernel7.Facts := Cert.Kernel7.Gen.facts
instance kernel7IdealFacts : Cert.Kernel7Ideal.Facts := Cert.Kernel7Ideal.Gen.facts
instance reference7IdealFacts : Cert.Reference7Ideal.Facts := Cert.Reference7Ideal.Gen.facts
instance kernel8Facts : Cert.Kernel8.Facts := Cert.Kernel8.Gen.facts
instance kernel8IdealFacts : Cert.Kernel8Ideal.Facts := Cert.Kernel8Ideal.Gen.facts
instance reference8IdealFacts : Cert.Reference8Ideal.Facts := Cert.Reference8Ideal.Gen.facts

set_option maxHeartbeats 2000000 in
/-- The AdamW leaves its arguments as they were and its semaphores at zero, in the machine's own number formats: the two
programs have the same text, and the run is over any float values. -/
theorem frame7 : Cert.quiescent_Kernel7 := fun m g _ => by
  have h := AdamSmall.frame (F := Bits) m g
  rw [← AdamSmall.Text.defs_eq, ← AdamSmall.Text.main_eq] at h
  exact h

set_option maxHeartbeats 2000000 in
/-- Its reference leaves its arguments as they were, and has no semaphore. -/
theorem frame7_reference : Cert.quiescent_Reference7Ideal := fun m g _ =>
  (θ_run _ _ _).mono (fun _ h => ⟨fun c => (h c).2.2.2.2.2.2.2.2.2.2.2.2.2.2.2.2.2.2.2.2.2.2.2.2.2.2.2, sem_eq_zero_of_no_sems rfl _⟩)
    (Cert.Reference7Ideal.Value.run m g)

section
open AdamSmall Cert.Kernel7Ideal Cert.Kernel7Ideal.Gen Cert.Reference7Ideal.Read

set_option maxHeartbeats 2000000 in
/-- From the same weights, gradients and moments the AdamW and its reference leave the same changes and new moments. -/
theorem algebraic7 : Cert.algebraic_Kernel7Ideal_Reference7Ideal := fun m g m' g' _ hag => by
  refine ⟨fun c => (dats m 0 c).arrAt 36 cfg0.N, fun c => (dats m 0 c).arrAt 37 cfg0.N, fun c => (dats m 0 c).arrAt 38 cfg0.N,
    fun c => (dats m 0 c).arrAt 39 cfg0.N, fun c => (dats m 0 c).arrAt 40 cfg0.N, fun c => (dats m 0 c).arrAt 41 cfg0.N,
    fun c => (dats m 0 c).arrAt 42 cfg0.N, fun c => (dats m 0 c).arrAt 43 cfg0.N, fun c => (dats m 0 c).arrAt 44 cfg0.N,
    fun c => (dats m 0 c).arrAt 45 cfg0.N, fun c => (dats m 0 c).arrAt 46 cfg0.N, fun c => (dats m 0 c).arrAt 47 cfg0.N,
    fun c => (dats m 0 c).arrAt 48 cfg0.N, fun c => (dats m 0 c).arrAt 49 cfg0.N, fun c => (dats m 0 c).arrAt 50 cfg0.N,
    fun c => (dats m 0 c).arrAt 51 cfg0.N, fun c => (dats m 0 c).arrAt 52 cfg0.N, fun c => (dats m 0 c).arrAt 53 cfg0.N,
    fun c => (dats m 0 c).arrAt 54 cfg0.N, fun c => (dats m 0 c).arrAt 55 cfg0.N, fun c => (dats m 0 c).arrAt 56 cfg0.N,
    fun c => (dats m 0 c).arrAt 57 cfg0.N, fun c => (dats m 0 c).arrAt 58 cfg0.N, fun c => (dats m 0 c).arrAt 59 cfg0.N,
    fun c => (dats m 0 c).arrAt 60 cfg0.N, fun c => (dats m 0 c).arrAt 61 cfg0.N, fun c => (dats m 0 c).arrAt 62 cfg0.N,
    (θ_run _ _ _).mono (fun r h c => ⟨(h.1 c).1 36, (h.1 c).1 37, (h.1 c).1 38, (h.1 c).1 39, (h.1 c).1 40, (h.1 c).1 41, (h.1 c).1 42, (h.1 c).1 43, (h.1 c).1 44, (h.1 c).1 45, (h.1 c).1 46, (h.1 c).1 47, (h.1 c).1 48, (h.1 c).1 49, (h.1 c).1 50, (h.1 c).1 51, (h.1 c).1 52, (h.1 c).1 53, (h.1 c).1 54, (h.1 c).1 55, (h.1 c).1 56, (h.1 c).1 57, (h.1 c).1 58, (h.1 c).1 59, (h.1 c).1 60, (h.1 c).1 61, (h.1 c).1 62,
      kept_of m (dats m) (A_eq m) r h.1 c⟩) (run_main_quiescent m g), ?_⟩
  have R := Cert.Reference7Ideal.Value.run m' g'
  refine (θ_run _ _ _).mono ?_ R
  intro r h c
  obtain ⟨r0, r1, r2, r3, r4, r5, r6, r7, r8, r9, r10, r11, r12, r13, r14, r15, r16, r17, r18, r19, r20, r21, r22, r23, r24, r25, r26, hargs⟩ := h c
  obtain ⟨h0, h1, h2, h3, h4, h5, h6, h7, h8, h9, h10, h11, h12, h13, h14, h15, h16, h17, h18, h19, h20, h21, h22, h23, h24, h25, h26, h27, h28, h29, h30, h31, h32, h33, h34, h35⟩ := hag c
  refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, r14.trans ?_, r15.trans ?_, r16.trans ?_, r17.trans ?_, r18.trans ?_, r19.trans ?_, r20.trans ?_, r21.trans ?_, r22.trans ?_, r23.trans ?_, r24.trans ?_, r25.trans ?_, r26.trans ?_, hargs⟩
  · exact (val_main_v23_eq _).trans ((congr (congr (congrArg₂ (val_main_v23 (F := Ideal)) h0 h9) h18) h27).trans
      ((ref0 _ _ _ _).trans (arr36 m c).symm))
  · exact (val_main_v47_eq _).trans ((congr (congr (congrArg₂ (val_main_v47 (F := Ideal)) h1 h10) h19) h28).trans
      ((ref1 _ _ _ _).trans (arr37 m c).symm))
  · exact (val_main_v71_eq _).trans ((congr (congr (congrArg₂ (val_main_v71 (F := Ideal)) h2 h11) h20) h29).trans
      ((ref2 _ _ _ _).trans (arr38 m c).symm))
  · exact (val_main_v216_eq _).trans ((congr (congr (congrArg₂ (val_main_v216 (F := Ideal)) h3 h12) h21) h30).trans
      ((ref3 _ _ _ _).trans (arr39 m c).symm))
  · exact (val_main_v217_eq _).trans ((congr (congr (congrArg₂ (val_main_v217 (F := Ideal)) h4 h13) h22) h31).trans
      ((ref4 _ _ _ _).trans (arr40 m c).symm))
  · exact (val_main_v218_eq _).trans ((congr (congr (congrArg₂ (val_main_v218 (F := Ideal)) h5 h14) h23) h32).trans
      ((ref5 _ _ _ _).trans (arr41 m c).symm))
  · exact (val_main_v167_eq _).trans ((congr (congr (congrArg₂ (val_main_v167 (F := Ideal)) h6 h15) h24) h33).trans
      ((ref6 _ _ _ _).trans (arr42 m c).symm))
  · exact (val_main_v191_eq _).trans ((congr (congr (congrArg₂ (val_main_v191 (F := Ideal)) h7 h16) h25) h34).trans
      ((ref7 _ _ _ _).trans (arr43 m c).symm))
  · exact (val_main_v215_eq _).trans ((congr (congr (congrArg₂ (val_main_v215 (F := Ideal)) h8 h17) h26) h35).trans
      ((ref8 _ _ _ _).trans (arr44 m c).symm))
  · exact (val_main_v4_eq _).trans ((congrArg₂ (val_main_v4 (F := Ideal)) h9 h18).trans
      ((ref9 _ _).trans (arr45 m c).symm))
  · exact (val_main_v28_eq _).trans ((congrArg₂ (val_main_v28 (F := Ideal)) h10 h19).trans
      ((ref10 _ _).trans (arr46 m c).symm))
  · exact (val_main_v52_eq _).trans ((congrArg₂ (val_main_v52 (F := Ideal)) h11 h20).trans
      ((ref11 _ _).trans (arr47 m c).symm))
  · exact (val_main_v219_eq _).trans ((congrArg₂ (val_main_v219 (F := Ideal)) h12 h21).trans
      ((ref12 _ _).trans (arr48 m c).symm))
  · exact (val_main_v220_eq _).trans ((congrArg₂ (val_main_v220 (F := Ideal)) h13 h22).trans
      ((ref13 _ _).trans (arr49 m c).symm))
  · exact (val_main_v221_eq _).trans ((congrArg₂ (val_main_v221 (F := Ideal)) h14 h23).trans
      ((ref14 _ _).trans (arr50 m c).symm))
  · exact (val_main_v148_eq _).trans ((congrArg₂ (val_main_v148 (F := Ideal)) h15 h24).trans
      ((ref15 _ _).trans (arr51 m c).symm))
  · exact (val_main_v172_eq _).trans ((congrArg₂ (val_main_v172 (F := Ideal)) h16 h25).trans
      ((ref16 _ _).trans (arr52 m c).symm))
  · exact (val_main_v196_eq _).trans ((congrArg₂ (val_main_v196 (F := Ideal)) h17 h26).trans
      ((ref17 _ _).trans (arr53 m c).symm))
  · exact (val_main_v10_eq _).trans ((congrArg₂ (val_main_v10 (F := Ideal)) h9 h27).trans
      ((ref18 _ _).trans (arr54 m c).symm))
  · exact (val_main_v34_eq _).trans ((congrArg₂ (val_main_v34 (F := Ideal)) h10 h28).trans
      ((ref19 _ _).trans (arr55 m c).symm))
  · exact (val_main_v58_eq _).trans ((congrArg₂ (val_main_v58 (F := Ideal)) h11 h29).trans
      ((ref20 _ _).trans (arr56 m c).symm))
  · exact (val_main_v222_eq _).trans ((congrArg₂ (val_main_v222 (F := Ideal)) h12 h30).trans
      ((ref21 _ _).trans (arr57 m c).symm))
  · exact (val_main_v223_eq _).trans ((congrArg₂ (val_main_v223 (F := Ideal)) h13 h31).trans
      ((ref22 _ _).trans (arr58 m c).symm))
  · exact (val_main_v224_eq _).trans ((congrArg₂ (val_main_v224 (F := Ideal)) h14 h32).trans
      ((ref23 _ _).trans (arr59 m c).symm))
  · exact (val_main_v154_eq _).trans ((congrArg₂ (val_main_v154 (F := Ideal)) h15 h33).trans
      ((ref24 _ _).trans (arr60 m c).symm))
  · exact (val_main_v178_eq _).trans ((congrArg₂ (val_main_v178 (F := Ideal)) h16 h34).trans
      ((ref25 _ _).trans (arr61 m c).symm))
  · exact (val_main_v202_eq _).trans ((congrArg₂ (val_main_v202 (F := Ideal)) h17 h35).trans
      ((ref26 _ _).trans (arr62 m c).symm))
end

/-- The reference of the sum leaves its argument as it was, and has no semaphore. -/
theorem frame8_reference : Cert.quiescent_Reference8Ideal := fun m g _ =>
  (θ_run _ _ _).mono (fun _ h => ⟨fun c => (h c).2, sem_eq_zero_of_no_sems rfl _⟩) (Cert.Reference8Ideal.Value.run m g)

/-- From the same gradients of the eight devices the kernel and the reference leave the same sum. -/
theorem algebraic8 : Cert.algebraic_Kernel8Ideal_Reference8Ideal := fun m g m' g' _ hag => by
  refine ⟨_, Cert.Kernel8Ideal.Value.run m g, ?_⟩
  refine (θ_run _ _ _).mono (fun r h c => ?_) (Cert.Reference8Ideal.Value.run m' g')
  obtain ⟨r0, hargs⟩ := h c
  refine ⟨r0.trans ?_, hargs⟩
  refine (Cert.Reference8Ideal.Read.val_main_v0_eq _).trans ?_
  exact (congrArg Cert.Reference8Ideal.Read.val_main_v0 (hag c)).trans
    ((SumSmall.reference_eq _).trans (SumSmall.kernel_eq _).symm)

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Calls
public import proofs.«01_k».proof.Proof.OutLnClaim
public import proofs.«01_k».proof.Proof.Reals
public import proofs.«01_k».proof.Proof.Results
public import proofs.«01_k».proof.Proof.Small
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Mixer.preFacts

/-- The reference leaves its arguments as they were, and has no semaphore. -/
theorem reference_frame : Cert.quiescent_ReferenceIdeal := fun m g _ =>
  (θ_run _ _ _).mono (fun r h => ⟨fun c => (h c).2.2.2.2.2.2.2, sem_eq_zero_of_no_sems rfl _⟩)
    (Cert.ReferenceIdeal.Value.run m g)

/-- The same from finite arguments. -/
theorem reference_frame_finite : Cert.quiescent_ReferenceIdeal_pre_finite := fun m g _ =>
  (θ_run _ _ _).mono (fun r h => ⟨fun c => (h c).2.2.2.2.2.2.2, sem_eq_zero_of_no_sems rfl _⟩)
    (Cert.ReferenceIdeal.Value.run m g)

/-- Each constant's name stands for its value, which rounds to the constant in the kernel. -/
theorem preserves : Cert.preserves_Kernel_KernelIdeal :=
  ⟨IdealRules.named_const.statement Cert.KernelIdeal.κ "c01" .f32 0x3D122279#32 (80338380498831 / 2251799813685248 : ℝ) rfl,
    IdealRules.named_const.statement Cert.KernelIdeal.κ "c013" .f32 0x3DDB33B6#32 (241015141496493 / 2251799813685248 : ℝ) rfl⟩

/-- From the same finite arguments the kernel and the reference leave the same seven results. -/
theorem algebraic : Cert.algebraic_KernelIdeal_ReferenceIdeal_pre_finite := fun m g m' g' hpre hag => by
  choose D A using Mixer.args_of_finite m hpre
  have B : ∀ c, Mixer.Ref.Args (StableHlo.launchContents m' c) (D c) := fun c =>
    have h := hag c
    ⟨h.1.trans (A c).a0, h.2.1.trans (A c).a1, h.2.2.1.trans (A c).a2, h.2.2.2.1.trans (A c).a3, h.2.2.2.2.1.trans (A c).a4,
      h.2.2.2.2.2.2.1.trans (A c).a6, h.2.2.2.2.2.2.2.1.trans (A c).a7, h.2.2.2.2.2.2.2.2.1.trans (A c).a8,
      h.2.2.2.2.2.2.2.2.2.1.trans (A c).a9, h.2.2.2.2.2.2.2.2.2.2.1.trans (A c).a10,
      h.2.2.2.2.2.2.2.2.2.2.2.trans (A c).a11⟩
  have h5 := fun c => (hag c).2.2.2.2.2.1
  refine ⟨_, _, _, _, _, _, _, Cert.KernelIdeal.Value.run_blocks m g, ?_⟩
  refine (θ_run _ _ _).mono (fun r h c => ?_) (Cert.ReferenceIdeal.Value.run m' g')
  obtain ⟨r0, r1, r2, r3, r4, r5, r6, hargs⟩ := h c
  refine ⟨r0.trans ?_, r1.trans ?_, r2.trans ?_, r3.trans ?_, r4.trans ?_, r5.trans ?_, r6.trans ?_, hargs⟩
  · exact (Cert.ReferenceIdeal.Read.val_main_v265_eq _).trans ((B c).r0.trans
      ((congrArg (Mixer.Ref.dpOut (D c)) (h5 c)).trans (Mixer.arr11 (A c)).symm))
  · exact (Cert.ReferenceIdeal.Read.val_main_v199_eq _).trans ((B c).r1.trans (Mixer.arr12 (A c)).symm)
  · exact (Cert.ReferenceIdeal.Read.val_main_v266_eq _).trans ((B c).r2.trans (Mixer.arr13 (A c)).symm)
  · exact (Cert.ReferenceIdeal.Read.val_main_v267_eq _).trans ((B c).r3.trans (Mixer.arr14 (A c)).symm)
  · exact (Cert.ReferenceIdeal.Read.val_main_v268_eq _).trans ((B c).r4.trans (Mixer.arr15 (A c)).symm)
  · exact (Cert.ReferenceIdeal.Read.val_main_v180_eq _).trans ((B c).r5.trans (Mixer.arr16 (A c)).symm)
  · exact (Cert.ReferenceIdeal.Read.val_main_v269_eq _).trans ((B c).r6.trans (Mixer.arr17 (A c)).symm)

/-- The whole claim: every frame, the named constants, and the equality of the results of each call. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Mixer.preFacts, preFacts6,
    fun m g _ => Cert.Kernel.Gen.frame m g, fun m g _ => Cert.KernelIdeal.Gen.frame m g,
    fun m g _ => Cert.KernelIdeal.Gen.frame m g, reference_frame,
    reference_frame_finite, fun m g _ => Cert.Kernel2.Gen.frame m g,
    fun m g _ => Cert.Kernel2Ideal.Gen.frame m g, frame2,
    fun m g _ => Cert.Kernel3.Gen.frame m g, fun m g _ => Cert.Kernel3Ideal.Gen.frame m g,
    frame3, fun m g _ => Cert.Kernel4.Gen.frame m g,
    fun m g _ => Cert.Kernel4Ideal.Gen.frame m g, frame4,
    fun m g _ => Cert.Kernel5.Gen.frame m g, fun m g _ => Cert.Kernel5Ideal.Gen.frame m g,
    frame5, frame6, fun m g _ => OutLn.frame m g,
    fun m g _ => OutLn.frame m g, frame6_reference,
    frame6_reference_finite, frame7, fun m g _ => AdamSmall.frame m g, frame7_reference,
    fun m g _ => Cert.Kernel8.Gen.frame m g, fun m g _ => Cert.Kernel8Ideal.Gen.frame m g, frame8_reference,
    preserves, algebraic, trivial, algebraic2,
    trivial, algebraic3, trivial, algebraic4,
    trivial, algebraic5, trivial, algebraic6,
    trivial, algebraic7, trivial, algebraic8⟩

end Cert.Proof

end
